-- ==== Defs.lean ====
def Pre_Kernel [hPre_in_range_Kernel : Cert.Pre_in_range_Kernel.Facts] (m : (ℓ : Loc Cert.Kernel.nD Cert.Kernel.τ Cert.Kernel.sig) → Buf (Elt Bits) ℓ) : Prop :=
  ∀ c : Dev Cert.Kernel.nD,
    (Cert.Pre_in_range_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range_Kernel : Cert.Pre_in_range_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range_Kernel : Cert.Pre_in_range_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range_Kernel : Cert.Pre_in_range_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range_Kernel : Cert.Pre_in_range_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 1]⟩ ⟨2, ![8192, 1]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![64, 128, 256]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = Layout.block ⟨2, ![256, 256]⟩ ⟨2, ![8192, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range_Kernel : Cert.Pre_in_range_Kernel.Facts) (hPre_in_range_ReferenceIdeal : Cert.Pre_in_range_ReferenceIdeal.Facts),
    quiescent_Kernel (hKernel := hKernel) (hPre_in_range_Kernel := hPre_in_range_Kernel)
    ∧ quiescent_KernelIdeal (hKernelIdeal := hKernelIdeal) (hPre_in_range_Kernel := hPre_in_range_Kernel)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal (hKernelIdeal := hKernelIdeal) (hReferenceIdeal := hReferenceIdeal) (hPre_in_range_Kernel := hPre_in_range_Kernel)
-- ==== Pre_in_range_Kernel.lean ====
abbrev S256x128 : Shape := ⟨2, ![256, 128]⟩
abbrev S128x64 : Shape := ⟨2, ![128, 64]⟩
abbrev S256x1 : Shape := ⟨2, ![256, 1]⟩
abbrev S2x128x256 : Shape := ⟨3, ![2, 128, 256]⟩
abbrev S_ : Shape := ⟨0, ![]⟩

class Facts : Prop where
  bcast_S_S256x1 : S_.BroadcastsInDim S256x1 (![] : Fin 0 → Fin S256x1.rank)

variable [Facts]

def fn {F : FTy → Type} [FloatOps F] (main_arg0 : FVec F S256x128 .bf16) (main_arg1 : FVec F S128x64 .bf16) (main_arg2 : IVec S256x1 32) (main_arg3 : FVec F S2x128x256 .bf16) : IVec S256x1 1 :=
  let main_c : IVec S_ 32 := constantI S_ 32 0#32
  let main_v0 : IVec S256x1 32 := broadcastInDim S256x1 ![] bcast_S_S256x1 main_c
  let main_v1 : IVec S256x1 1 := cmpi .sge main_arg2 main_v0
  let main_c_0 : IVec S_ 32 := constantI S_ 32 64#32
  let main_v2 : IVec S256x1 32 := broadcastInDim S256x1 ![] bcast_S_S256x1 main_c_0
  let main_v3 : IVec S256x1 1 := cmpi .slt main_arg2 main_v2
  let main_v4 : IVec S256x1 1 := andi main_v1 main_v3
  main_v4
-- ==== Pre_in_range_ReferenceIdeal.lean ====
abbrev S8192x128 : Shape := ⟨2, ![8192, 128]⟩
abbrev S128x64 : Shape := ⟨2, ![128, 64]⟩
abbrev S8192x1 : Shape := ⟨2, ![8192, 1]⟩
abbrev S64x128x256 : Shape := ⟨3, ![64, 128, 256]⟩
abbrev S_ : Shape := ⟨0, ![]⟩

class Facts : Prop where
  bcast_S_S8192x1 : S_.BroadcastsInDim S8192x1 (![] : Fin 0 → Fin S8192x1.rank)

variable [Facts]

def fn {F : FTy → Type} [FloatOps F] (main_arg0 : FVec F S8192x128 .bf16) (main_arg1 : FVec F S128x64 .bf16) (main_arg2 : IVec S8192x1 32) (main_arg3 : FVec F S64x128x256 .bf16) : IVec S8192x1 1 :=
  let main_c : IVec S_ 32 := constantI S_ 32 0#32
  let main_v0 : IVec S8192x1 32 := broadcastInDim S8192x1 ![] bcast_S_S8192x1 main_c
  let main_v1 : IVec S8192x1 1 := cmpi .sge main_arg2 main_v0
  let main_c_0 : IVec S_ 32 := constantI S_ 32 64#32
  let main_v2 : IVec S8192x1 32 := broadcastInDim S8192x1 ![] bcast_S_S8192x1 main_c_0
  let main_v3 : IVec S8192x1 1 := cmpi .slt main_arg2 main_v2
  let main_v4 : IVec S8192x1 1 := andi main_v1 main_v3
  main_v4
-- ==== Kernel.lean ====
abbrev S256x128 : Shape := ⟨2, ![256, 128]⟩
abbrev S128x64 : Shape := ⟨2, ![128, 64]⟩
abbrev S256x1 : Shape := ⟨2, ![256, 1]⟩
abbrev S2x128x256 : Shape := ⟨3, ![2, 128, 256]⟩
abbrev S256x1x128 : Shape := ⟨3, ![256, 1, 128]⟩
abbrev S1x256 : Shape := ⟨2, ![1, 256]⟩
abbrev S_ : Shape := ⟨0, ![]⟩
abbrev S32x256 : Shape := ⟨2, ![32, 256]⟩
abbrev S31 : Shape := ⟨1, ![31]⟩
abbrev S32 : Shape := ⟨1, ![32]⟩
abbrev S1 : Shape := ⟨1, ![1]⟩
abbrev S8192 : Shape := ⟨1, ![8192]⟩
abbrev S8192x1 : Shape := ⟨2, ![8192, 1]⟩
abbrev S64 : Shape := ⟨1, ![64]⟩
abbrev S1x64 : Shape := ⟨2, ![1, 64]⟩
abbrev S8192x64 : Shape := ⟨2, ![8192, 64]⟩
abbrev S256 : Shape := ⟨1, ![256]⟩
abbrev S2 : Shape := ⟨1, ![2]⟩
abbrev S102 : Shape := ⟨1, ![102]⟩
abbrev S1x102 : Shape := ⟨2, ![1, 102]⟩
abbrev S2x102 : Shape := ⟨2, ![2, 102]⟩
abbrev S256x1x256 : Shape := ⟨3, ![256, 1, 256]⟩
abbrev S204x1x128 : Shape := ⟨3, ![204, 1, 128]⟩
abbrev S204x1x256 : Shape := ⟨3, ![204, 1, 256]⟩
abbrev S204 : Shape := ⟨1, ![204]⟩
abbrev S1x1x128 : Shape := ⟨3, ![1, 1, 128]⟩
abbrev S1x128 : Shape := ⟨2, ![1, 128]⟩
abbrev S1x1 : Shape := ⟨2, ![1, 1]⟩
abbrev S102x1 : Shape := ⟨2, ![102, 1]⟩
abbrev S102x1x128 : Shape := ⟨3, ![102, 1, 128]⟩
abbrev S102x128 : Shape := ⟨2, ![102, 128]⟩
abbrev S1x128x256 : Shape := ⟨3, ![1, 128, 256]⟩
abbrev S128x256 : Shape := ⟨2, ![128, 256]⟩
abbrev S102x256 : Shape := ⟨2, ![102, 256]⟩
abbrev S102x1x256 : Shape := ⟨3, ![102, 1, 256]⟩
abbrev S1x1x256 : Shape := ⟨3, ![1, 1, 256]⟩
abbrev S256x256 : Shape := ⟨2, ![256, 256]⟩

abbrev nBuf : Space → Nat
  | .hbm => 315
  | .vmem => 7
  | .smem => 6
  | _ => 0

abbrev hbmTy0_0 (i : Nat) : BufTy := match i % 128 with
  | 0 => ⟨S256x128, .bf16⟩
  | 1 => ⟨S128x64, .bf16⟩
  | 2 => ⟨S256x1, .i32⟩
  | 3 => ⟨S2x128x256, .bf16⟩
  | 4 => ⟨S256x1x128, .bf16⟩
  | 5 => ⟨S1x256, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S32x256, .i32⟩
  | 13 => ⟨S8192, .i32⟩
  | 14 => ⟨S8192x1, .i32⟩
  | 15 => ⟨S64, .i32⟩
  | 16 => ⟨S1x64, .i32⟩
  | 17 => ⟨S8192x64, .i32⟩
  | 18 => ⟨S8192x64, .i32⟩
  | 19 => ⟨S8192x64, .i1⟩
  | 20 => ⟨S8192x64, .i32⟩
  | 21 => ⟨S_, .i32⟩
  | 22 => ⟨S_, .i32⟩
  | 23 => ⟨S8192x64, .i32⟩
  | 24 => ⟨S8192x64, .i32⟩
  | 25 => ⟨S8192x64, .i32⟩
  | 26 => ⟨S_, .i32⟩
  | 27 => ⟨S8192, .i32⟩
  | 28 => ⟨S_, .i32⟩
  | 29 => ⟨S8192, .i32⟩
  | 30 => ⟨S8192, .i1⟩
  | 31 => ⟨S8192, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S256, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S256, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S256, .i32⟩
  | 56 => ⟨S_, .i32⟩
  | 57 => ⟨S_, .i32⟩
  | 58 => ⟨S256, .i32⟩
  | 59 => ⟨S256, .i32⟩
  | 60 => ⟨S256, .i32⟩
  | 61 => ⟨S_, .i32⟩
  | 62 => ⟨S256, .i32⟩
  | 63 => ⟨S256, .i1⟩
  | 64 => ⟨S256, .i32⟩
  | 65 => ⟨S256, .i32⟩
  | 66 => ⟨S_, .i32⟩
  | 67 => ⟨S256, .i32⟩
  | 68 => ⟨S256, .i1⟩
  | 69 => ⟨S256, .i1⟩
  | 70 => ⟨S_, .i32⟩
  | 71 => ⟨S256, .i32⟩
  | 72 => ⟨S256, .i32⟩
  | 73 => ⟨S256, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S256, .i32⟩
  | 81 => ⟨S256, .i32⟩
  | 82 => ⟨S_, .i32⟩
  | 83 => ⟨S256, .i32⟩
  | 84 => ⟨S256, .i1⟩
  | 85 => ⟨S_, .i32⟩
  | 86 => ⟨S256, .i32⟩
  | 87 => ⟨S256, .i1⟩
  | 88 => ⟨S_, .i32⟩
  | 89 => ⟨S_, .i1⟩
  | 90 => ⟨S256, .i1⟩
  | 91 => ⟨S256, .i1⟩
  | 92 => ⟨S256, .i1⟩
  | 93 => ⟨S256, .i32⟩
  | 94 => ⟨S256, .i32⟩
  | 95 => ⟨S256, .i32⟩
  | 96 => ⟨S_, .i32⟩
  | 97 => ⟨S256, .i32⟩
  | 98 => ⟨S256, .i32⟩
  | 99 => ⟨S_, .i32⟩
  | 100 => ⟨S256, .i32⟩
  | 101 => ⟨S256, .i32⟩
  | 102 => ⟨S256, .i32⟩
  | 103 => ⟨S_, .i32⟩
  | 104 => ⟨S64, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S2, .i32⟩
  | 113 => ⟨S_, .i32⟩
  | 114 => ⟨S2, .i32⟩
  | 115 => ⟨S2, .i32⟩
  | 116 => ⟨S_, .i32⟩
  | 117 => ⟨S_, .i32⟩
  | 118 => ⟨S_, .i32⟩
  | 119 => ⟨S_, .i32⟩
  | 120 => ⟨S8192, .i32⟩
  | 121 => ⟨S8192, .i1⟩
  | 122 => ⟨S8192, .i32⟩
  | 123 => ⟨S_, .i32⟩
  | 124 => ⟨S_, .i32⟩
  | 125 => ⟨S8192, .i32⟩
  | 126 => ⟨S_, .i32⟩
  | 127 => ⟨S102, .i32⟩
  | _ => ⟨S256x128, .bf16⟩

abbrev hbmTy0_1 (i : Nat) : BufTy := match i % 128 with
  | 0 => ⟨S_, .i32⟩
  | 1 => ⟨S8192, .i32⟩
  | 2 => ⟨S8192, .i1⟩
  | 3 => ⟨S_, .i32⟩
  | 4 => ⟨S8192, .i32⟩
  | 5 => ⟨S8192, .i32⟩
  | 6 => ⟨S8192, .i32⟩
  | 7 => ⟨S8192x1, .i32⟩
  | 8 => ⟨S_, .i32⟩
  | 9 => ⟨S8192, .i32⟩
  | 10 => ⟨S102, .i32⟩
  | 11 => ⟨S_, .i32⟩
  | 12 => ⟨S_, .i32⟩
  | 13 => ⟨S102, .i32⟩
  | 14 => ⟨S_, .i32⟩
  | 15 => ⟨S_, .i32⟩
  | 16 => ⟨S102, .i32⟩
  | 17 => ⟨S102, .i32⟩
  | 18 => ⟨S102, .i32⟩
  | 19 => ⟨S_, .i32⟩
  | 20 => ⟨S102, .i32⟩
  | 21 => ⟨S102, .i1⟩
  | 22 => ⟨S102, .i32⟩
  | 23 => ⟨S102, .i32⟩
  | 24 => ⟨S_, .i32⟩
  | 25 => ⟨S102, .i32⟩
  | 26 => ⟨S102, .i1⟩
  | 27 => ⟨S102, .i1⟩
  | 28 => ⟨S_, .i32⟩
  | 29 => ⟨S102, .i32⟩
  | 30 => ⟨S102, .i32⟩
  | 31 => ⟨S102, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S102, .i32⟩
  | 39 => ⟨S102, .i32⟩
  | 40 => ⟨S_, .i32⟩
  | 41 => ⟨S102, .i32⟩
  | 42 => ⟨S102, .i1⟩
  | 43 => ⟨S_, .i32⟩
  | 44 => ⟨S102, .i32⟩
  | 45 => ⟨S102, .i1⟩
  | 46 => ⟨S_, .i32⟩
  | 47 => ⟨S_, .i1⟩
  | 48 => ⟨S102, .i1⟩
  | 49 => ⟨S102, .i1⟩
  | 50 => ⟨S102, .i1⟩
  | 51 => ⟨S102, .i32⟩
  | 52 => ⟨S102, .i32⟩
  | 53 => ⟨S102, .i32⟩
  | 54 => ⟨S8192, .i32⟩
  | 55 => ⟨S_, .i32⟩
  | 56 => ⟨S_, .i32⟩
  | 57 => ⟨S1, .i32⟩
  | 58 => ⟨S102, .i32⟩
  | 59 => ⟨S102, .i32⟩
  | 60 => ⟨S102, .i1⟩
  | 61 => ⟨S_, .i32⟩
  | 62 => ⟨S1, .i32⟩
  | 63 => ⟨S102, .i32⟩
  | 64 => ⟨S102, .i32⟩
  | 65 => ⟨S_, .i32⟩
  | 66 => ⟨S_, .i32⟩
  | 67 => ⟨S_, .i32⟩
  | 68 => ⟨S_, .i32⟩
  | 69 => ⟨S8192, .i32⟩
  | 70 => ⟨S8192, .i1⟩
  | 71 => ⟨S8192, .i32⟩
  | 72 => ⟨S_, .i32⟩
  | 73 => ⟨S_, .i32⟩
  | 74 => ⟨S8192, .i32⟩
  | 75 => ⟨S_, .i32⟩
  | 76 => ⟨S102, .i32⟩
  | 77 => ⟨S_, .i32⟩
  | 78 => ⟨S8192, .i32⟩
  | 79 => ⟨S8192, .i1⟩
  | 80 => ⟨S_, .i32⟩
  | 81 => ⟨S8192, .i32⟩
  | 82 => ⟨S8192, .i32⟩
  | 83 => ⟨S8192, .i32⟩
  | 84 => ⟨S8192x1, .i32⟩
  | 85 => ⟨S_, .i32⟩
  | 86 => ⟨S8192, .i32⟩
  | 87 => ⟨S102, .i32⟩
  | 88 => ⟨S_, .i32⟩
  | 89 => ⟨S_, .i32⟩
  | 90 => ⟨S102, .i32⟩
  | 91 => ⟨S_, .i32⟩
  | 92 => ⟨S_, .i32⟩
  | 93 => ⟨S102, .i32⟩
  | 94 => ⟨S102, .i32⟩
  | 95 => ⟨S102, .i32⟩
  | 96 => ⟨S_, .i32⟩
  | 97 => ⟨S102, .i32⟩
  | 98 => ⟨S102, .i1⟩
  | 99 => ⟨S102, .i32⟩
  | 100 => ⟨S102, .i32⟩
  | 101 => ⟨S_, .i32⟩
  | 102 => ⟨S102, .i32⟩
  | 103 => ⟨S102, .i1⟩
  | 104 => ⟨S102, .i1⟩
  | 105 => ⟨S_, .i32⟩
  | 106 => ⟨S102, .i32⟩
  | 107 => ⟨S102, .i32⟩
  | 108 => ⟨S102, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S102, .i32⟩
  | 116 => ⟨S102, .i32⟩
  | 117 => ⟨S_, .i32⟩
  | 118 => ⟨S102, .i32⟩
  | 119 => ⟨S102, .i1⟩
  | 120 => ⟨S_, .i32⟩
  | 121 => ⟨S102, .i32⟩
  | 122 => ⟨S102, .i1⟩
  | 123 => ⟨S_, .i32⟩
  | 124 => ⟨S_, .i1⟩
  | 125 => ⟨S102, .i1⟩
  | 126 => ⟨S102, .i1⟩
  | 127 => ⟨S102, .i1⟩
  | _ => ⟨S256x128, .bf16⟩

abbrev hbmTy0_2 (i : Nat) : BufTy := match i % 128 with
  | 0 => ⟨S102, .i32⟩
  | 1 => ⟨S102, .i32⟩
  | 2 => ⟨S102, .i32⟩
  | 3 => ⟨S8192, .i32⟩
  | 4 => ⟨S_, .i32⟩
  | 5 => ⟨S_, .i32⟩
  | 6 => ⟨S1, .i32⟩
  | 7 => ⟨S102, .i32⟩
  | 8 => ⟨S102, .i32⟩
  | 9 => ⟨S102, .i1⟩
  | 10 => ⟨S_, .i32⟩
  | 11 => ⟨S1, .i32⟩
  | 12 => ⟨S102, .i32⟩
  | 13 => ⟨S102, .i32⟩
  | 14 => ⟨S1x102, .i32⟩
  | 15 => ⟨S1x102, .i32⟩
  | 16 => ⟨S2x102, .i32⟩
  | 17 => ⟨S_, .i32⟩
  | 18 => ⟨S_, .i32⟩
  | 19 => ⟨S2x102, .i32⟩
  | 20 => ⟨S2x102, .i32⟩
  | 21 => ⟨S2x102, .i32⟩
  | 22 => ⟨S_, .i32⟩
  | 23 => ⟨S2x102, .i32⟩
  | 24 => ⟨S2x102, .i1⟩
  | 25 => ⟨S2x102, .i32⟩
  | 26 => ⟨S2x102, .i32⟩
  | 27 => ⟨S_, .i32⟩
  | 28 => ⟨S2x102, .i32⟩
  | 29 => ⟨S2x102, .i1⟩
  | 30 => ⟨S2x102, .i1⟩
  | 31 => ⟨S_, .i32⟩
  | 32 => ⟨S2x102, .i32⟩
  | 33 => ⟨S2x102, .i32⟩
  | 34 => ⟨S2x102, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S2x102, .i32⟩
  | 42 => ⟨S2x102, .i32⟩
  | 43 => ⟨S_, .i32⟩
  | 44 => ⟨S2x102, .i32⟩
  | 45 => ⟨S2x102, .i1⟩
  | 46 => ⟨S_, .i32⟩
  | 47 => ⟨S2x102, .i32⟩
  | 48 => ⟨S2x102, .i1⟩
  | 49 => ⟨S_, .i32⟩
  | 50 => ⟨S_, .i1⟩
  | 51 => ⟨S2x102, .i1⟩
  | 52 => ⟨S2x102, .i1⟩
  | 53 => ⟨S2x102, .i1⟩
  | 54 => ⟨S2x102, .i32⟩
  | 55 => ⟨S2x102, .i32⟩
  | 56 => ⟨S2x102, .i32⟩
  | 57 => ⟨S256x1x256, .f32⟩
  | 58 => ⟨S256x256, .f32⟩
  | _ => ⟨S256x128, .bf16⟩

abbrev hbmTy (i : Nat) : BufTy := match i / 128 with
  | 0 => hbmTy0_0 i
  | 1 => hbmTy0_1 i
  | 2 => hbmTy0_2 i
  | _ => ⟨S256x128, .bf16⟩

abbrev bufTy : (tb : Table) → Fin (tcTables nBuf tb) → BufTy
  | .hbm, ⟨i, _⟩ => hbmTy i
  | .local _ .vmem, ⟨0, _⟩ => ⟨S1x256, .i32⟩
  | .local _ .vmem, ⟨1, _⟩ => ⟨S32x256, .i32⟩
  | .local _ .vmem, ⟨2, _⟩ => ⟨S256x1x128, .bf16⟩
  | .local _ .vmem, ⟨3, _⟩ => ⟨S2x128x256, .bf16⟩
  | .local _ .vmem, ⟨4, _⟩ => ⟨S256x1x256, .f32⟩
  | .local _ .vmem, ⟨5, _⟩ => ⟨S204x1x128, .bf16⟩
  | .local _ .vmem, ⟨6, _⟩ => ⟨S204x1x256, .f32⟩
  | .local _ .smem, ⟨0, _⟩ => ⟨S256, .i32⟩
  | .local _ .smem, ⟨1, _⟩ => ⟨S256, .i32⟩
  | .local _ .smem, ⟨2, _⟩ => ⟨S256, .i32⟩
  | .local _ .smem, ⟨3, _⟩ => ⟨S2, .i32⟩
  | .local _ .smem, ⟨4, _⟩ => ⟨S2x102, .i32⟩
  | .local _ .smem, ⟨5, _⟩ => ⟨S2x102, .i32⟩
  | _, _ => ⟨S256x128, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_4 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_5 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_6 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_7 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | 4 => dmaSemScopedAt0_4 i
  | 5 => dmaSemScopedAt0_5 i
  | 6 => dmaSemScopedAt0_6 i
  | 7 => dmaSemScopedAt0_7 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 2 → Bool
  | ⟨0, _⟩ => false
  | ⟨1, _⟩ => false
  | _ => false

abbrev dmaSemScoped : Fin 994 → Bool
  | ⟨i, _⟩ => dmaSemScopedAt i

abbrev sig : RefSig :=
  (ofTc nBuf bufTy 2 994 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_call0_c : Ref sig .tc := ⟨.hbm, 21, rfl⟩
abbrev main_call0_call0_v0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_c_10 : Ref sig .tc := ⟨.hbm, 50, rfl⟩
abbrev main_v34 : Ref sig .tc := ⟨.hbm, 51, rfl⟩
abbrev main_c_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_12 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_c : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_0 : Ref sig .tc := ⟨.hbm, 70, rfl⟩
abbrev main_call1_v12 : Ref sig .tc := ⟨.hbm, 71, rfl⟩
abbrev main_call1_v13 : Ref sig .tc := ⟨.hbm, 72, rfl⟩
abbrev main_v38 : Ref sig .tc := ⟨.hbm, 73, rfl⟩
abbrev main_c_13 : Ref sig .tc := ⟨.hbm, 74, rfl⟩
abbrev main_call2_v0 : Ref sig .tc := ⟨.hbm, 75, rfl⟩
abbrev main_call2_c : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_c_1 : Ref sig .tc := ⟨.hbm, 82, rfl⟩
abbrev main_call2_v5 : Ref sig .tc := ⟨.hbm, 83, rfl⟩
abbrev main_call2_v6 : Ref sig .tc := ⟨.hbm, 84, rfl⟩
abbrev main_call2_c_2 : Ref sig .tc := ⟨.hbm, 85, rfl⟩
abbrev main_call2_v7 : Ref sig .tc := ⟨.hbm, 86, rfl⟩
abbrev main_call2_v8 : Ref sig .tc := ⟨.hbm, 87, rfl⟩
abbrev main_call2_c_3 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_v39 : Ref sig .tc := ⟨.hbm, 95, rfl⟩
abbrev main_c_14 : Ref sig .tc := ⟨.hbm, 96, rfl⟩
abbrev main_v40 : Ref sig .tc := ⟨.hbm, 97, rfl⟩
abbrev main_v41 : Ref sig .tc := ⟨.hbm, 98, rfl⟩
abbrev main_c_15 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_c_16 : Ref sig .tc := ⟨.hbm, 103, rfl⟩
abbrev main_v45 : Ref sig .tc := ⟨.hbm, 104, rfl⟩
abbrev main_c_17 : Ref sig .tc := ⟨.hbm, 105, rfl⟩
abbrev main_v46 : Ref sig .tc := ⟨.hbm, 106, rfl⟩
abbrev main_c_18 : Ref sig .tc := ⟨.hbm, 107, rfl⟩
abbrev main_v47 : Ref sig .tc := ⟨.hbm, 108, rfl⟩
abbrev main_c_19 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_c_20 : Ref sig .tc := ⟨.hbm, 113, rfl⟩
abbrev main_v51 : Ref sig .tc := ⟨.hbm, 114, rfl⟩
abbrev main_v52 : Ref sig .tc := ⟨.hbm, 115, rfl⟩
abbrev main_c_21 : Ref sig .tc := ⟨.hbm, 116, rfl⟩
abbrev main_v53 : Ref sig .tc := ⟨.hbm, 117, rfl⟩
abbrev main_c_22 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_call3_v0 : Ref sig .tc := ⟨.hbm, 122, rfl⟩
abbrev main_call3_call0_c : Ref sig .tc := ⟨.hbm, 123, rfl⟩
abbrev main_call3_call0_v0 : Ref sig .tc := ⟨.hbm, 124, rfl⟩
abbrev main_v57 : Ref sig .tc := ⟨.hbm, 125, rfl⟩
abbrev main_c_23 : Ref sig .tc := ⟨.hbm, 126, rfl⟩
abbrev main_v58 : Ref sig .tc := ⟨.hbm, 127, rfl⟩
abbrev main_c_24 : Ref sig .tc := ⟨.hbm, 128, rfl⟩
abbrev main_v59 : Ref sig .tc := ⟨.hbm, 129, rfl⟩
abbrev main_v60 : Ref sig .tc := ⟨.hbm, 130, rfl⟩
abbrev main_c_25 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_c_26 : Ref sig .tc := ⟨.hbm, 136, rfl⟩
abbrev main_v65 : Ref sig .tc := ⟨.hbm, 137, rfl⟩
abbrev main_v66 : Ref sig .tc := ⟨.hbm, 138, rfl⟩
abbrev main_call4_call0_c : Ref sig .tc := ⟨.hbm, 139, rfl⟩
abbrev main_call4_call0_v0 : Ref sig .tc := ⟨.hbm, 140, rfl⟩
abbrev main_v67 : Ref sig .tc := ⟨.hbm, 141, rfl⟩
abbrev main_c_27 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_v6 : Ref sig .tc := ⟨.hbm, 149, rfl⟩
abbrev main_call5_v7 : Ref sig .tc := ⟨.hbm, 150, rfl⟩
abbrev main_call5_v8 : Ref sig .tc := ⟨.hbm, 151, rfl⟩
abbrev main_call5_c : Ref sig .tc := ⟨.hbm, 152, rfl⟩
abbrev main_call5_v9 : Ref sig .tc := ⟨.hbm, 153, rfl⟩
abbrev main_call5_v10 : Ref sig .tc := ⟨.hbm, 154, rfl⟩
abbrev main_call5_v11 : Ref sig .tc := ⟨.hbm, 155, rfl⟩
abbrev main_call5_c_0 : Ref sig .tc := ⟨.hbm, 156, rfl⟩
abbrev main_call5_v12 : Ref sig .tc := ⟨.hbm, 157, rfl⟩
abbrev main_call5_v13 : Ref sig .tc := ⟨.hbm, 158, rfl⟩
abbrev main_v68 : Ref sig .tc := ⟨.hbm, 159, rfl⟩
abbrev main_c_28 : Ref sig .tc := ⟨.hbm, 160, rfl⟩
abbrev main_call6_v0 : Ref sig .tc := ⟨.hbm, 161, rfl⟩
abbrev main_call6_c : Ref sig .tc := ⟨.hbm, 162, rfl⟩
abbrev main_call6_v1 : Ref sig .tc := ⟨.hbm, 163, rfl⟩
abbrev main_call6_c_0 : Ref sig .tc := ⟨.hbm, 164, rfl⟩
abbrev main_call6_v2 : Ref sig .tc := ⟨.hbm, 165, rfl⟩
abbrev main_call6_v3 : Ref sig .tc := ⟨.hbm, 166, rfl⟩
abbrev main_call6_v4 : Ref sig .tc := ⟨.hbm, 167, rfl⟩
abbrev main_call6_c_1 : Ref sig .tc := ⟨.hbm, 168, rfl⟩
abbrev main_call6_v5 : Ref sig .tc := ⟨.hbm, 169, rfl⟩
abbrev main_call6_v6 : Ref sig .tc := ⟨.hbm, 170, rfl⟩
abbrev main_call6_c_2 : Ref sig .tc := ⟨.hbm, 171, rfl⟩
abbrev main_call6_v7 : Ref sig .tc := ⟨.hbm, 172, rfl⟩
abbrev main_call6_v8 : Ref sig .tc := ⟨.hbm, 173, rfl⟩
abbrev main_call6_c_3 : Ref sig .tc := ⟨.hbm, 174, rfl⟩
abbrev main_call6_v9 : Ref sig .tc := ⟨.hbm, 175, rfl⟩
abbrev main_call6_v10 : Ref sig .tc := ⟨.hbm, 176, rfl⟩
abbrev main_call6_v11 : Ref sig .tc := ⟨.hbm, 177, rfl⟩
abbrev main_call6_v12 : Ref sig .tc := ⟨.hbm, 178, rfl⟩
abbrev main_call6_v13 : Ref sig .tc := ⟨.hbm, 179, rfl⟩
abbrev main_call6_v14 : Ref sig .tc := ⟨.hbm, 180, rfl⟩
abbrev main_v69 : Ref sig .tc := ⟨.hbm, 181, rfl⟩
abbrev main_v70 : Ref sig .tc := ⟨.hbm, 182, rfl⟩
abbrev main_c_29 : Ref sig .tc := ⟨.hbm, 183, rfl⟩
abbrev main_v71 : Ref sig .tc := ⟨.hbm, 184, rfl⟩
abbrev main_v72 : Ref sig .tc := ⟨.hbm, 185, rfl⟩
abbrev main_v73 : Ref sig .tc := ⟨.hbm, 186, rfl⟩
abbrev main_v74 : Ref sig .tc := ⟨.hbm, 187, rfl⟩
abbrev main_v75 : Ref sig .tc := ⟨.hbm, 188, rfl⟩
abbrev main_c_30 : Ref sig .tc := ⟨.hbm, 189, rfl⟩
abbrev main_v76 : Ref sig .tc := ⟨.hbm, 190, rfl⟩
abbrev main_call7_v0 : Ref sig .tc := ⟨.hbm, 191, rfl⟩
abbrev main_v77 : Ref sig .tc := ⟨.hbm, 192, rfl⟩
abbrev main_c_31 : Ref sig .tc := ⟨.hbm, 193, rfl⟩
abbrev main_v78 : Ref sig .tc := ⟨.hbm, 194, rfl⟩
abbrev main_c_32 : Ref sig .tc := ⟨.hbm, 195, rfl⟩
abbrev main_v79 : Ref sig .tc := ⟨.hbm, 196, rfl⟩
abbrev main_v80 : Ref sig .tc := ⟨.hbm, 197, rfl⟩
abbrev main_v81 : Ref sig .tc := ⟨.hbm, 198, rfl⟩
abbrev main_call8_v0 : Ref sig .tc := ⟨.hbm, 199, rfl⟩
abbrev main_call8_call0_c : Ref sig .tc := ⟨.hbm, 200, rfl⟩
abbrev main_call8_call0_v0 : Ref sig .tc := ⟨.hbm, 201, rfl⟩
abbrev main_v82 : Ref sig .tc := ⟨.hbm, 202, rfl⟩
abbrev main_c_33 : Ref sig .tc := ⟨.hbm, 203, rfl⟩
abbrev main_v83 : Ref sig .tc := ⟨.hbm, 204, rfl⟩
abbrev main_c_34 : Ref sig .tc := ⟨.hbm, 205, rfl⟩
abbrev main_v84 : Ref sig .tc := ⟨.hbm, 206, rfl⟩
abbrev main_v85 : Ref sig .tc := ⟨.hbm, 207, rfl⟩
abbrev main_c_35 : Ref sig .tc := ⟨.hbm, 208, rfl⟩
abbrev main_v86 : Ref sig .tc := ⟨.hbm, 209, rfl⟩
abbrev main_v87 : Ref sig .tc := ⟨.hbm, 210, rfl⟩
abbrev main_v88 : Ref sig .tc := ⟨.hbm, 211, rfl⟩
abbrev main_v89 : Ref sig .tc := ⟨.hbm, 212, rfl⟩
abbrev main_c_36 : Ref sig .tc := ⟨.hbm, 213, rfl⟩
abbrev main_v90 : Ref sig .tc := ⟨.hbm, 214, rfl⟩
abbrev main_v91 : Ref sig .tc := ⟨.hbm, 215, rfl⟩
abbrev main_call9_call0_c : Ref sig .tc := ⟨.hbm, 216, rfl⟩
abbrev main_call9_call0_v0 : Ref sig .tc := ⟨.hbm, 217, rfl⟩
abbrev main_v92 : Ref sig .tc := ⟨.hbm, 218, rfl⟩
abbrev main_c_37 : Ref sig .tc := ⟨.hbm, 219, rfl⟩
abbrev main_call10_v0 : Ref sig .tc := ⟨.hbm, 220, rfl⟩
abbrev main_call10_v1 : Ref sig .tc := ⟨.hbm, 221, rfl⟩
abbrev main_call10_v2 : Ref sig .tc := ⟨.hbm, 222, rfl⟩
abbrev main_call10_v3 : Ref sig .tc := ⟨.hbm, 223, rfl⟩
abbrev main_call10_v4 : Ref sig .tc := ⟨.hbm, 224, rfl⟩
abbrev main_call10_v5 : Ref sig .tc := ⟨.hbm, 225, rfl⟩
abbrev main_call10_v6 : Ref sig .tc := ⟨.hbm, 226, rfl⟩
abbrev main_call10_v7 : Ref sig .tc := ⟨.hbm, 227, rfl⟩
abbrev main_call10_v8 : Ref sig .tc := ⟨.hbm, 228, rfl⟩
abbrev main_call10_c : Ref sig .tc := ⟨.hbm, 229, rfl⟩
abbrev main_call10_v9 : Ref sig .tc := ⟨.hbm, 230, rfl⟩
abbrev main_call10_v10 : Ref sig .tc := ⟨.hbm, 231, rfl⟩
abbrev main_call10_v11 : Ref sig .tc := ⟨.hbm, 232, rfl⟩
abbrev main_call10_c_0 : Ref sig .tc := ⟨.hbm, 233, rfl⟩
abbrev main_call10_v12 : Ref sig .tc := ⟨.hbm, 234, rfl⟩
abbrev main_call10_v13 : Ref sig .tc := ⟨.hbm, 235, rfl⟩
abbrev main_v93 : Ref sig .tc := ⟨.hbm, 236, rfl⟩
abbrev main_c_38 : Ref sig .tc := ⟨.hbm, 237, rfl⟩
abbrev main_call11_v0 : Ref sig .tc := ⟨.hbm, 238, rfl⟩
abbrev main_call11_c : Ref sig .tc := ⟨.hbm, 239, rfl⟩
abbrev main_call11_v1 : Ref sig .tc := ⟨.hbm, 240, rfl⟩
abbrev main_call11_c_0 : Ref sig .tc := ⟨.hbm, 241, rfl⟩
abbrev main_call11_v2 : Ref sig .tc := ⟨.hbm, 242, rfl⟩
abbrev main_call11_v3 : Ref sig .tc := ⟨.hbm, 243, rfl⟩
abbrev main_call11_v4 : Ref sig .tc := ⟨.hbm, 244, rfl⟩
abbrev main_call11_c_1 : Ref sig .tc := ⟨.hbm, 245, rfl⟩
abbrev main_call11_v5 : Ref sig .tc := ⟨.hbm, 246, rfl⟩
abbrev main_call11_v6 : Ref sig .tc := ⟨.hbm, 247, rfl⟩
abbrev main_call11_c_2 : Ref sig .tc := ⟨.hbm, 248, rfl⟩
abbrev main_call11_v7 : Ref sig .tc := ⟨.hbm, 249, rfl⟩
abbrev main_call11_v8 : Ref sig .tc := ⟨.hbm, 250, rfl⟩
abbrev main_call11_c_3 : Ref sig .tc := ⟨.hbm, 251, rfl⟩
abbrev main_call11_v9 : Ref sig .tc := ⟨.hbm, 252, rfl⟩
abbrev main_call11_v10 : Ref sig .tc := ⟨.hbm, 253, rfl⟩
abbrev main_call11_v11 : Ref sig .tc := ⟨.hbm, 254, rfl⟩
abbrev main_call11_v12 : Ref sig .tc := ⟨.hbm, 255, rfl⟩
abbrev main_call11_v13 : Ref sig .tc := ⟨.hbm, 256, rfl⟩
abbrev main_call11_v14 : Ref sig .tc := ⟨.hbm, 257, rfl⟩
abbrev main_v94 : Ref sig .tc := ⟨.hbm, 258, rfl⟩
abbrev main_v95 : Ref sig .tc := ⟨.hbm, 259, rfl⟩
abbrev main_c_39 : Ref sig .tc := ⟨.hbm, 260, rfl⟩
abbrev main_v96 : Ref sig .tc := ⟨.hbm, 261, rfl⟩
abbrev main_v97 : Ref sig .tc := ⟨.hbm, 262, rfl⟩
abbrev main_v98 : Ref sig .tc := ⟨.hbm, 263, rfl⟩
abbrev main_v99 : Ref sig .tc := ⟨.hbm, 264, rfl⟩
abbrev main_v100 : Ref sig .tc := ⟨.hbm, 265, rfl⟩
abbrev main_c_40 : Ref sig .tc := ⟨.hbm, 266, rfl⟩
abbrev main_v101 : Ref sig .tc := ⟨.hbm, 267, rfl⟩
abbrev main_call12_v0 : Ref sig .tc := ⟨.hbm, 268, rfl⟩
abbrev main_v102 : Ref sig .tc := ⟨.hbm, 269, rfl⟩
abbrev main_v103 : Ref sig .tc := ⟨.hbm, 270, rfl⟩
abbrev main_v104 : Ref sig .tc := ⟨.hbm, 271, rfl⟩
abbrev main_v105 : Ref sig .tc := ⟨.hbm, 272, rfl⟩
abbrev main_c_41 : Ref sig .tc := ⟨.hbm, 273, rfl⟩
abbrev main_call13_v0 : Ref sig .tc := ⟨.hbm, 274, rfl⟩
abbrev main_call13_v1 : Ref sig .tc := ⟨.hbm, 275, rfl⟩
abbrev main_call13_v2 : Ref sig .tc := ⟨.hbm, 276, rfl⟩
abbrev main_call13_v3 : Ref sig .tc := ⟨.hbm, 277, rfl⟩
abbrev main_call13_v4 : Ref sig .tc := ⟨.hbm, 278, rfl⟩
abbrev main_call13_v5 : Ref sig .tc := ⟨.hbm, 279, rfl⟩
abbrev main_call13_v6 : Ref sig .tc := ⟨.hbm, 280, rfl⟩
abbrev main_call13_v7 : Ref sig .tc := ⟨.hbm, 281, rfl⟩
abbrev main_call13_v8 : Ref sig .tc := ⟨.hbm, 282, rfl⟩
abbrev main_call13_c : Ref sig .tc := ⟨.hbm, 283, rfl⟩
abbrev main_call13_v9 : Ref sig .tc := ⟨.hbm, 284, rfl⟩
abbrev main_call13_v10 : Ref sig .tc := ⟨.hbm, 285, rfl⟩
abbrev main_call13_v11 : Ref sig .tc := ⟨.hbm, 286, rfl⟩
abbrev main_call13_c_0 : Ref sig .tc := ⟨.hbm, 287, rfl⟩
abbrev main_call13_v12 : Ref sig .tc := ⟨.hbm, 288, rfl⟩
abbrev main_call13_v13 : Ref sig .tc := ⟨.hbm, 289, rfl⟩
abbrev main_v106 : Ref sig .tc := ⟨.hbm, 290, rfl⟩
abbrev main_c_42 : Ref sig .tc := ⟨.hbm, 291, rfl⟩
abbrev main_call14_v0 : Ref sig .tc := ⟨.hbm, 292, rfl⟩
abbrev main_call14_c : Ref sig .tc := ⟨.hbm, 293, rfl⟩
abbrev main_call14_v1 : Ref sig .tc := ⟨.hbm, 294, rfl⟩
abbrev main_call14_c_0 : Ref sig .tc := ⟨.hbm, 295, rfl⟩
abbrev main_call14_v2 : Ref sig .tc := ⟨.hbm, 296, rfl⟩
abbrev main_call14_v3 : Ref sig .tc := ⟨.hbm, 297, rfl⟩
abbrev main_call14_v4 : Ref sig .tc := ⟨.hbm, 298, rfl⟩
abbrev main_call14_c_1 : Ref sig .tc := ⟨.hbm, 299, rfl⟩
abbrev main_call14_v5 : Ref sig .tc := ⟨.hbm, 300, rfl⟩
abbrev main_call14_v6 : Ref sig .tc := ⟨.hbm, 301, rfl⟩
abbrev main_call14_c_2 : Ref sig .tc := ⟨.hbm, 302, rfl⟩
abbrev main_call14_v7 : Ref sig .tc := ⟨.hbm, 303, rfl⟩
abbrev main_call14_v8 : Ref sig .tc := ⟨.hbm, 304, rfl⟩
abbrev main_call14_c_3 : Ref sig .tc := ⟨.hbm, 305, rfl⟩
abbrev main_call14_v9 : Ref sig .tc := ⟨.hbm, 306, rfl⟩
abbrev main_call14_v10 : Ref sig .tc := ⟨.hbm, 307, rfl⟩
abbrev main_call14_v11 : Ref sig .tc := ⟨.hbm, 308, rfl⟩
abbrev main_call14_v12 : Ref sig .tc := ⟨.hbm, 309, rfl⟩
abbrev main_call14_v13 : Ref sig .tc := ⟨.hbm, 310, rfl⟩
abbrev main_call14_v14 : Ref sig .tc := ⟨.hbm, 311, rfl⟩
abbrev main_v107 : Ref sig .tc := ⟨.hbm, 312, rfl⟩
abbrev main_v108 : Ref sig .tc := ⟨.hbm, 313, rfl⟩
abbrev main_v109 : Ref sig .tc := ⟨.hbm, 314, rfl⟩
abbrev cc0_stg0_0 : Ref sig .tc := ⟨.vmem, 0, rfl⟩
abbrev cc0_stg1_0 : Ref sig .tc := ⟨.vmem, 1, rfl⟩
abbrev cc1_stg6_0 : Ref sig .tc := ⟨.vmem, 2, rfl⟩
abbrev cc1_stg7_0 : Ref sig .tc := ⟨.vmem, 3, rfl⟩
abbrev cc1_stg8_0 : Ref sig .tc := ⟨.vmem, 4, rfl⟩
abbrev cc1_scratch0 : Ref sig .tc := ⟨.vmem, 5, rfl⟩
abbrev cc1_scratch1 : Ref sig .tc := ⟨.vmem, 6, rfl⟩
abbrev cc1_stg0_0 : Ref sig .tc := ⟨.smem, 0, rfl⟩
abbrev cc1_stg1_0 : Ref sig .tc := ⟨.smem, 1, rfl⟩
abbrev cc1_stg2_0 : Ref sig .tc := ⟨.smem, 2, rfl⟩
abbrev cc1_stg3_0 : Ref sig .tc := ⟨.smem, 3, rfl⟩
abbrev cc1_stg4_0 : Ref sig .tc := ⟨.smem, 4, rfl⟩
abbrev cc1_stg5_0 : Ref sig .tc := ⟨.smem, 5, rfl⟩
abbrev cc0_sem0_0 : DmaSem sig := 0
abbrev cc0_sem1_0 : DmaSem sig := 1
abbrev cc1_sem0_0 : DmaSem sig := 65
abbrev cc1_sem1_0 : DmaSem sig := 66
abbrev cc1_sem2_0 : DmaSem sig := 67
abbrev cc1_sem3_0 : DmaSem sig := 68
abbrev cc1_sem4_0 : DmaSem sig := 69
abbrev cc1_sem5_0 : DmaSem sig := 70
abbrev cc1_sem6_0 : DmaSem sig := 71
abbrev cc1_sem7_0 : DmaSem sig := 72
abbrev cc1_sem8_0 : DmaSem sig := 73
abbrev barrier0 : Sem sig := 0
abbrev barrier1 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v130 : Index := Scalar.indexCast v2
  let c0_126 : Index := 0#32
  ![v130.toNat, 0]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_132 : BitVec 32 := 0#32
  ![v2.toNat, 0]
def k0_dev32 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_127 : BitVec 32 := 1#32
  let v132 : BitVec 32 := Scalar.addi v2 c1_i32_127
  let c32_i32_128 : BitVec 32 := 32#32
  let v133 : BitVec 32 := Scalar.remsi v132 c32_i32_128
  let c1_i32_130 : BitVec 32 := 1#32
  let v134 : BitVec 32 := Scalar.muli v133 c1_i32_130
  let v135 : BitVec 32 := Scalar.addi c0_i32_131 v134
  v135.toNat
def k0_dev33 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_133 : BitVec 32 := 2#32
  let v141 : BitVec 32 := Scalar.addi v2 c2_i32_133
  let c32_i32_134 : BitVec 32 := 32#32
  let v142 : BitVec 32 := Scalar.remsi v141 c32_i32_134
  let c1_i32_136 : BitVec 32 := 1#32
  let v143 : BitVec 32 := Scalar.muli v142 c1_i32_136
  let v144 : BitVec 32 := Scalar.addi c0_i32_137 v143
  v144.toNat
def k0_dev34 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_139 : BitVec 32 := 3#32
  let v150 : BitVec 32 := Scalar.addi v2 c3_i32_139
  let c32_i32_140 : BitVec 32 := 32#32
  let v151 : BitVec 32 := Scalar.remsi v150 c32_i32_140
  let c1_i32_142 : BitVec 32 := 1#32
  let v152 : BitVec 32 := Scalar.muli v151 c1_i32_142
  let v153 : BitVec 32 := Scalar.addi c0_i32_143 v152
  v153.toNat
def k0_dev35 (d0 : Dev nD) : Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_145 : BitVec 32 := 4#32
  let v159 : BitVec 32 := Scalar.addi v2 c4_i32_145
  let c32_i32_146 : BitVec 32 := 32#32
  let v160 : BitVec 32 := Scalar.remsi v159 c32_i32_146
  let c1_i32_148 : BitVec 32 := 1#32
  let v161 : BitVec 32 := Scalar.muli v160 c1_i32_148
  let v162 : BitVec 32 := Scalar.addi c0_i32_149 v161
  v162.toNat
def k0_dev36 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_151 : BitVec 32 := 5#32
  let v168 : BitVec 32 := Scalar.addi v2 c5_i32_151
  let c32_i32_152 : BitVec 32 := 32#32
  let v169 : BitVec 32 := Scalar.remsi v168 c32_i32_152
  let c1_i32_154 : BitVec 32 := 1#32
  let v170 : BitVec 32 := Scalar.muli v169 c1_i32_154
  let v171 : BitVec 32 := Scalar.addi c0_i32_155 v170
  v171.toNat
def k0_dev37 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_157 : BitVec 32 := 6#32
  let v177 : BitVec 32 := Scalar.addi v2 c6_i32_157
  let c32_i32_158 : BitVec 32 := 32#32
  let v178 : BitVec 32 := Scalar.remsi v177 c32_i32_158
  let c1_i32_160 : BitVec 32 := 1#32
  let v179 : BitVec 32 := Scalar.muli v178 c1_i32_160
  let v180 : BitVec 32 := Scalar.addi c0_i32_161 v179
  v180.toNat
def k0_dev38 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_163 : BitVec 32 := 7#32
  let v186 : BitVec 32 := Scalar.addi v2 c7_i32_163
  let c32_i32_164 : BitVec 32 := 32#32
  let v187 : BitVec 32 := Scalar.remsi v186 c32_i32_164
  let c1_i32_166 : BitVec 32 := 1#32
  let v188 : BitVec 32 := Scalar.muli v187 c1_i32_166
  let v189 : BitVec 32 := Scalar.addi c0_i32_167 v188
  v189.toNat
def k0_dev39 (d0 : Dev nD) : Nat :=
  let c0_i32_173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_169 : BitVec 32 := 8#32
  let v195 : BitVec 32 := Scalar.addi v2 c8_i32_169
  let c32_i32_170 : BitVec 32 := 32#32
  let v196 : BitVec 32 := Scalar.remsi v195 c32_i32_170
  let c1_i32_172 : BitVec 32 := 1#32
  let v197 : BitVec 32 := Scalar.muli v196 c1_i32_172
  let v198 : BitVec 32 := Scalar.addi c0_i32_173 v197
  v198.toNat
def k0_dev40 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_175 : BitVec 32 := 9#32
  let v204 : BitVec 32 := Scalar.addi v2 c9_i32_175
  let c32_i32_176 : BitVec 32 := 32#32
  let v205 : BitVec 32 := Scalar.remsi v204 c32_i32_176
  let c1_i32_178 : BitVec 32 := 1#32
  let v206 : BitVec 32 := Scalar.muli v205 c1_i32_178
  let v207 : BitVec 32 := Scalar.addi c0_i32_179 v206
  v207.toNat
def k0_dev41 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_181 : BitVec 32 := 10#32
  let v213 : BitVec 32 := Scalar.addi v2 c10_i32_181
  let c32_i32_182 : BitVec 32 := 32#32
  let v214 : BitVec 32 := Scalar.remsi v213 c32_i32_182
  let c1_i32_184 : BitVec 32 := 1#32
  let v215 : BitVec 32 := Scalar.muli v214 c1_i32_184
  let v216 : BitVec 32 := Scalar.addi c0_i32_185 v215
  v216.toNat
def k0_dev42 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_187 : BitVec 32 := 11#32
  let v222 : BitVec 32 := Scalar.addi v2 c11_i32_187
  let c32_i32_188 : BitVec 32 := 32#32
  let v223 : BitVec 32 := Scalar.remsi v222 c32_i32_188
  let c1_i32_190 : BitVec 32 := 1#32
  let v224 : BitVec 32 := Scalar.muli v223 c1_i32_190
  let v225 : BitVec 32 := Scalar.addi c0_i32_191 v224
  v225.toNat
def k0_dev43 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_193 : BitVec 32 := 12#32
  let v231 : BitVec 32 := Scalar.addi v2 c12_i32_193
  let c32_i32_194 : BitVec 32 := 32#32
  let v232 : BitVec 32 := Scalar.remsi v231 c32_i32_194
  let c1_i32_196 : BitVec 32 := 1#32
  let v233 : BitVec 32 := Scalar.muli v232 c1_i32_196
  let v234 : BitVec 32 := Scalar.addi c0_i32_197 v233
  v234.toNat
def k0_dev44 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_199 : BitVec 32 := 13#32
  let v240 : BitVec 32 := Scalar.addi v2 c13_i32_199
  let c32_i32_200 : BitVec 32 := 32#32
  let v241 : BitVec 32 := Scalar.remsi v240 c32_i32_200
  let c1_i32_202 : BitVec 32 := 1#32
  let v242 : BitVec 32 := Scalar.muli v241 c1_i32_202
  let v243 : BitVec 32 := Scalar.addi c0_i32_203 v242
  v243.toNat
def k0_dev45 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_205 : BitVec 32 := 14#32
  let v249 : BitVec 32 := Scalar.addi v2 c14_i32_205
  let c32_i32_206 : BitVec 32 := 32#32
  let v250 : BitVec 32 := Scalar.remsi v249 c32_i32_206
  let c1_i32_208 : BitVec 32 := 1#32
  let v251 : BitVec 32 := Scalar.muli v250 c1_i32_208
  let v252 : BitVec 32 := Scalar.addi c0_i32_209 v251
  v252.toNat
def k0_dev46 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_211 : BitVec 32 := 15#32
  let v258 : BitVec 32 := Scalar.addi v2 c15_i32_211
  let c32_i32_212 : BitVec 32 := 32#32
  let v259 : BitVec 32 := Scalar.remsi v258 c32_i32_212
  let c1_i32_214 : BitVec 32 := 1#32
  let v260 : BitVec 32 := Scalar.muli v259 c1_i32_214
  let v261 : BitVec 32 := Scalar.addi c0_i32_215 v260
  v261.toNat
def k0_dev47 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_217 : BitVec 32 := 16#32
  let v267 : BitVec 32 := Scalar.addi v2 c16_i32_217
  let c32_i32_218 : BitVec 32 := 32#32
  let v268 : BitVec 32 := Scalar.remsi v267 c32_i32_218
  let c1_i32_220 : BitVec 32 := 1#32
  let v269 : BitVec 32 := Scalar.muli v268 c1_i32_220
  let v270 : BitVec 32 := Scalar.addi c0_i32_221 v269
  v270.toNat
def k0_dev48 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_223 : BitVec 32 := 17#32
  let v276 : BitVec 32 := Scalar.addi v2 c17_i32_223
  let c32_i32_224 : BitVec 32 := 32#32
  let v277 : BitVec 32 := Scalar.remsi v276 c32_i32_224
  let c1_i32_226 : BitVec 32 := 1#32
  let v278 : BitVec 32 := Scalar.muli v277 c1_i32_226
  let v279 : BitVec 32 := Scalar.addi c0_i32_227 v278
  v279.toNat
def k0_dev49 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_229 : BitVec 32 := 18#32
  let v285 : BitVec 32 := Scalar.addi v2 c18_i32_229
  let c32_i32_230 : BitVec 32 := 32#32
  let v286 : BitVec 32 := Scalar.remsi v285 c32_i32_230
  let c1_i32_232 : BitVec 32 := 1#32
  let v287 : BitVec 32 := Scalar.muli v286 c1_i32_232
  let v288 : BitVec 32 := Scalar.addi c0_i32_233 v287
  v288.toNat
def k0_dev50 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_235 : BitVec 32 := 19#32
  let v294 : BitVec 32 := Scalar.addi v2 c19_i32_235
  let c32_i32_236 : BitVec 32 := 32#32
  let v295 : BitVec 32 := Scalar.remsi v294 c32_i32_236
  let c1_i32_238 : BitVec 32 := 1#32
  let v296 : BitVec 32 := Scalar.muli v295 c1_i32_238
  let v297 : BitVec 32 := Scalar.addi c0_i32_239 v296
  v297.toNat
def k0_dev51 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_241 : BitVec 32 := 20#32
  let v303 : BitVec 32 := Scalar.addi v2 c20_i32_241
  let c32_i32_242 : BitVec 32 := 32#32
  let v304 : BitVec 32 := Scalar.remsi v303 c32_i32_242
  let c1_i32_244 : BitVec 32 := 1#32
  let v305 : BitVec 32 := Scalar.muli v304 c1_i32_244
  let v306 : BitVec 32 := Scalar.addi c0_i32_245 v305
  v306.toNat
def k0_dev52 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_247 : BitVec 32 := 21#32
  let v312 : BitVec 32 := Scalar.addi v2 c21_i32_247
  let c32_i32_248 : BitVec 32 := 32#32
  let v313 : BitVec 32 := Scalar.remsi v312 c32_i32_248
  let c1_i32_250 : BitVec 32 := 1#32
  let v314 : BitVec 32 := Scalar.muli v313 c1_i32_250
  let v315 : BitVec 32 := Scalar.addi c0_i32_251 v314
  v315.toNat
def k0_dev53 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_253 : BitVec 32 := 22#32
  let v321 : BitVec 32 := Scalar.addi v2 c22_i32_253
  let c32_i32_254 : BitVec 32 := 32#32
  let v322 : BitVec 32 := Scalar.remsi v321 c32_i32_254
  let c1_i32_256 : BitVec 32 := 1#32
  let v323 : BitVec 32 := Scalar.muli v322 c1_i32_256
  let v324 : BitVec 32 := Scalar.addi c0_i32_257 v323
  v324.toNat
def k0_dev54 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_259 : BitVec 32 := 23#32
  let v330 : BitVec 32 := Scalar.addi v2 c23_i32_259
  let c32_i32_260 : BitVec 32 := 32#32
  let v331 : BitVec 32 := Scalar.remsi v330 c32_i32_260
  let c1_i32_262 : BitVec 32 := 1#32
  let v332 : BitVec 32 := Scalar.muli v331 c1_i32_262
  let v333 : BitVec 32 := Scalar.addi c0_i32_263 v332
  v333.toNat
def k0_dev55 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_265 : BitVec 32 := 24#32
  let v339 : BitVec 32 := Scalar.addi v2 c24_i32_265
  let c32_i32_266 : BitVec 32 := 32#32
  let v340 : BitVec 32 := Scalar.remsi v339 c32_i32_266
  let c1_i32_268 : BitVec 32 := 1#32
  let v341 : BitVec 32 := Scalar.muli v340 c1_i32_268
  let v342 : BitVec 32 := Scalar.addi c0_i32_269 v341
  v342.toNat
def k0_dev56 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_271 : BitVec 32 := 25#32
  let v348 : BitVec 32 := Scalar.addi v2 c25_i32_271
  let c32_i32_272 : BitVec 32 := 32#32
  let v349 : BitVec 32 := Scalar.remsi v348 c32_i32_272
  let c1_i32_274 : BitVec 32 := 1#32
  let v350 : BitVec 32 := Scalar.muli v349 c1_i32_274
  let v351 : BitVec 32 := Scalar.addi c0_i32_275 v350
  v351.toNat
def k0_dev57 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_277 : BitVec 32 := 26#32
  let v357 : BitVec 32 := Scalar.addi v2 c26_i32_277
  let c32_i32_278 : BitVec 32 := 32#32
  let v358 : BitVec 32 := Scalar.remsi v357 c32_i32_278
  let c1_i32_280 : BitVec 32 := 1#32
  let v359 : BitVec 32 := Scalar.muli v358 c1_i32_280
  let v360 : BitVec 32 := Scalar.addi c0_i32_281 v359
  v360.toNat
def k0_dev58 (d0 : Dev nD) : Nat :=
  let c0_i32_287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_283 : BitVec 32 := 27#32
  let v366 : BitVec 32 := Scalar.addi v2 c27_i32_283
  let c32_i32_284 : BitVec 32 := 32#32
  let v367 : BitVec 32 := Scalar.remsi v366 c32_i32_284
  let c1_i32_286 : BitVec 32 := 1#32
  let v368 : BitVec 32 := Scalar.muli v367 c1_i32_286
  let v369 : BitVec 32 := Scalar.addi c0_i32_287 v368
  v369.toNat
def k0_dev59 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_289 : BitVec 32 := 28#32
  let v375 : BitVec 32 := Scalar.addi v2 c28_i32_289
  let c32_i32_290 : BitVec 32 := 32#32
  let v376 : BitVec 32 := Scalar.remsi v375 c32_i32_290
  let c1_i32_292 : BitVec 32 := 1#32
  let v377 : BitVec 32 := Scalar.muli v376 c1_i32_292
  let v378 : BitVec 32 := Scalar.addi c0_i32_293 v377
  v378.toNat
def k0_dev60 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_295 : BitVec 32 := 29#32
  let v384 : BitVec 32 := Scalar.addi v2 c29_i32_295
  let c32_i32_296 : BitVec 32 := 32#32
  let v385 : BitVec 32 := Scalar.remsi v384 c32_i32_296
  let c1_i32_298 : BitVec 32 := 1#32
  let v386 : BitVec 32 := Scalar.muli v385 c1_i32_298
  let v387 : BitVec 32 := Scalar.addi c0_i32_299 v386
  v387.toNat
def k0_dev61 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_301 : BitVec 32 := 30#32
  let v393 : BitVec 32 := Scalar.addi v2 c30_i32_301
  let c32_i32_302 : BitVec 32 := 32#32
  let v394 : BitVec 32 := Scalar.remsi v393 c32_i32_302
  let c1_i32_304 : BitVec 32 := 1#32
  let v395 : BitVec 32 := Scalar.muli v394 c1_i32_304
  let v396 : BitVec 32 := Scalar.addi c0_i32_305 v395
  v396.toNat
def k0_dev62 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_307 : BitVec 32 := 31#32
  let v402 : BitVec 32 := Scalar.addi v2 c31_i32_307
  let c32_i32_308 : BitVec 32 := 32#32
  let v403 : BitVec 32 := Scalar.remsi v402 c32_i32_308
  let c1_i32_310 : BitVec 32 := 1#32
  let v404 : BitVec 32 := Scalar.muli v403 c1_i32_310
  let v405 : BitVec 32 := Scalar.addi c0_i32_311 v404
  v405.toNat
def k0_off4 (d0 : Dev nD) (c1_i32_313 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v411 : BitVec 32 := Scalar.subi v2 c1_i32_313
  let c32_i32_314 : BitVec 32 := 32#32
  let v412 : BitVec 32 := Scalar.addi v411 c32_i32_314
  let c32_i32_315 : BitVec 32 := 32#32
  let v413 : BitVec 32 := Scalar.remsi v412 c32_i32_315
  ![v413.toNat]
def k0_off5 (d0 : Dev nD) (c1_i32_313 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v411 : BitVec 32 := Scalar.subi v2 c1_i32_313
  let c32_i32_314 : BitVec 32 := 32#32
  let v412 : BitVec 32 := Scalar.addi v411 c32_i32_314
  let c32_i32_315 : BitVec 32 := 32#32
  let v413 : BitVec 32 := Scalar.remsi v412 c32_i32_315
  let c0_i32_319 : BitVec 32 := 0#32
  ![v413.toNat, 0]
abbrev stage0_0 : Fin 1 → Memref sig .tc .vmem S1x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k1_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k1_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k1_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k1_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k1_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k1_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k1_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k1_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k1_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k1_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k1_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k1_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k1_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k1_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k1_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k1_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k1_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k1_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k1_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k1_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k1_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k1_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k1_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k1_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k1_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k1_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k1_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k1_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k1_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k1_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
@[reducible] def k1_t1_loop : Scf.Loop 32 :=
  let c0_i32_127 : BitVec 32 := 0#32
  let c256_i32 : BitVec 32 := 256#32
  let v130 : BitVec 32 := Scalar.addi c0_i32_127 c256_i32
  let c1_i32_128 : BitVec 32 := 1#32
  ⟨c0_i32_127, v130, c1_i32_128⟩
def k1_off1 (k1_t1 : Fin k1_t1_loop.trips) : Fin 1 → Nat :=
  let c0_i32_127 : BitVec 32 := 0#32
  let c1_i32_128 : BitVec 32 := 1#32
  let arg16 : BitVec 32 := Scf.iv c0_i32_127 c1_i32_128 k1_t1
  let v204 : Index := Scalar.indexCast arg16
  ![v204.toNat]
def k1_off2 (k1_t1 : Fin k1_t1_loop.trips) : Fin 1 → Nat :=
  let c0_i32_127 : BitVec 32 := 0#32
  let c1_i32_128 : BitVec 32 := 1#32
  let arg16 : BitVec 32 := Scf.iv c0_i32_127 c1_i32_128 k1_t1
  let v222 : Index := Scalar.indexCast arg16
  ![v222.toNat]
def k1_off3 (k1_t1 : Fin k1_t1_loop.trips) : Fin 1 → Nat :=
  let c0_i32_127 : BitVec 32 := 0#32
  let c1_i32_128 : BitVec 32 := 1#32
  let arg16 : BitVec 32 := Scf.iv c0_i32_127 c1_i32_128 k1_t1
  ![arg16.toNat]
def k1_off4 (v225 : BitVec 32) : Fin 1 → Nat :=
  ![v225.toNat]
def k1_cond1 (d0 : Dev nD) (v205 : BitVec 32) (v208 : BitVec 32) : BitVec 1 :=
  let c0_i32_194 : BitVec 32 := 0#32
  let v206 : BitVec 1 := Scalar.cmpi .ne v205 c0_i32_194
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v209 : BitVec 1 := Scalar.cmpi .ne v208 v2
  let v210 : BitVec 1 := Scalar.andi v206 v209
  let v211 : BitVec 32 := Scalar.extui v210
  let c0_i32_195 : BitVec 32 := 0#32
  let v212 : BitVec 1 := Scalar.cmpi .ne v211 c0_i32_195
  v212

def k1_chk1 (d0 : Dev nD) (v205 : BitVec 32) (v208 : BitVec 32) (v225 : BitVec 32) : Prop :=
  (∀ (k1_h1 : k1_cond1 d0 v205 v208 = 1#1), ∀ a, (k1_off4 v225) a + S1.size a ≤ S204.size a)
theorem k1_off4_inb : ∀ (d0 : Dev nD) (v205 : BitVec 32) (v208 : BitVec 32) (v225 : BitVec 32) (k1_hw1 : k1_chk1 d0 v205 v208 v225), ∀ (k1_h1 : k1_cond1 d0 v205 v208 = 1#1), ∀ a, (k1_off4 v225) a + S1.size a ≤ S204.size a := fun d0 v205 v208 v225 k1_hw1 k1_h1 => k1_hw1 k1_h1

def k1_off5 (v223 : BitVec 32) : Fin 3 → Nat :=
  let c0_i32_200 : BitVec 32 := 0#32
  let c0_i32_201 : BitVec 32 := 0#32
  ![v223.toNat, 0, 0]

def k1_off6 (k1_t1 : Fin k1_t1_loop.trips) : Fin 3 → Nat :=
  let c0_i32_127 : BitVec 32 := 0#32
  let c1_i32_128 : BitVec 32 := 1#32
  let arg16 : BitVec 32 := Scf.iv c0_i32_127 c1_i32_128 k1_t1
  let c0_i32_202 : BitVec 32 := 0#32
  let c0_i32_203 : BitVec 32 := 0#32
  ![arg16.toNat, 0, 0]

def k1_chk2 (d0 : Dev nD) (v205 : BitVec 32) (v208 : BitVec 32) (v223 : BitVec 32) : Prop :=
  (∀ (k1_h1 : k1_cond1 d0 v205 v208 = 1#1), ∀ a, (k1_off5 v223) a + S1x1x128.size a ≤ S204x1x128.size a) ∧
  (∀ (k1_h1 : k1_cond1 d0 v205 v208 = 1#1), ∀ (hinb : ∀ a, (k1_off5 v223) a + S1x1x128.size a ≤ S204x1x128.size a), (Rect.unit (s := S204x1x128) (k1_off5 v223) S1x1x128.size hinb).WholeWords (EltTy.packing .bf16))
theorem k1_off5_inb : ∀ (d0 : Dev nD) (v205 : BitVec 32) (v208 : BitVec 32) (v223 : BitVec 32) (k1_hw2 : k1_chk2 d0 v205 v208 v223), ∀ (k1_h1 : k1_cond1 d0 v205 v208 = 1#1), ∀ a, (k1_off5 v223) a + S1x1x128.size a ≤ S204x1x128.size a := fun d0 v205 v208 v223 k1_hw2 k1_h1 => k1_hw2.1 k1_h1
theorem k1_off5_wordsbf16 : ∀ (d0 : Dev nD) (v205 : BitVec 32) (v208 : BitVec 32) (v223 : BitVec 32) (k1_hw2 : k1_chk2 d0 v205 v208 v223), ∀ (k1_h1 : k1_cond1 d0 v205 v208 = 1#1), (Rect.unit (s := S204x1x128) (k1_off5 v223) S1x1x128.size (k1_off5_inb d0 v205 v208 v223 k1_hw2 k1_h1)).WholeWords (EltTy.packing .bf16) := fun d0 v205 v208 v223 k1_hw2 k1_h1 => k1_hw2.2 k1_h1 (k1_off5_inb d0 v205 v208 v223 k1_hw2 k1_h1)

def k1_dev32 (v227 : BitVec 32) : Nat :=
  let c0_i32_199 : BitVec 32 := 0#32
  let c1_i32_198 : BitVec 32 := 1#32
  let v228 : BitVec 32 := Scalar.muli v227 c1_i32_198
  let v229 : BitVec 32 := Scalar.addi c0_i32_199 v228
  v229.toNat

def k1_chk3 (d0 : Dev nD) (v205 : BitVec 32) (v208 : BitVec 32) (v227 : BitVec 32) : Prop :=
  (∀ (k1_h1 : k1_cond1 d0 v205 v208 = 1#1), (k1_dev32 v227) < nD)
theorem k1_dev32_lt : ∀ (d0 : Dev nD) (v205 : BitVec 32) (v208 : BitVec 32) (v227 : BitVec 32) (k1_hw3 : k1_chk3 d0 v205 v208 v227), ∀ (k1_h1 : k1_cond1 d0 v205 v208 = 1#1), (k1_dev32 v227) < nD := fun d0 v205 v208 v227 k1_hw3 k1_h1 => k1_hw3 k1_h1

def k1_off7 (k1_t1 : Fin k1_t1_loop.trips) : Fin 1 → Nat :=
  let c0_i32_127 : BitVec 32 := 0#32
  let c1_i32_128 : BitVec 32 := 1#32
  let arg16 : BitVec 32 := Scf.iv c0_i32_127 c1_i32_128 k1_t1
  let v213 : Index := Scalar.indexCast arg16
  ![v213.toNat]
def k1_off8 (k1_t1 : Fin k1_t1_loop.trips) : Fin 3 → Nat :=
  let c0_i32_127 : BitVec 32 := 0#32
  let c1_i32_128 : BitVec 32 := 1#32
  let arg16 : BitVec 32 := Scf.iv c0_i32_127 c1_i32_128 k1_t1
  let v222 : Index := Scalar.indexCast arg16
  let c0_198 : Index := 0#32
  let c0_199 : Index := 0#32
  ![v222.toNat, 0, 0]
def k1_off9 (k1_t1 : Fin k1_t1_loop.trips) : Fin 1 → Nat :=
  let c0_i32_127 : BitVec 32 := 0#32
  let c1_i32_128 : BitVec 32 := 1#32
  let arg16 : BitVec 32 := Scf.iv c0_i32_127 c1_i32_128 k1_t1
  let v225 : Index := Scalar.indexCast arg16
  ![v225.toNat]
def k1_off10 (v226 : BitVec 32) : Fin 3 → Nat :=
  let v227 : Index := Scalar.indexCast v226
  let c0_200 : Index := 0#32
  let c0_201 : Index := 0#32
  ![v227.toNat, 0, 0]
def k1_cond2 (d0 : Dev nD) (v214 : BitVec 32) (v217 : BitVec 32) : BitVec 1 :=
  let c0_i32_196 : BitVec 32 := 0#32
  let v215 : BitVec 1 := Scalar.cmpi .ne v214 c0_i32_196
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v218 : BitVec 1 := Scalar.cmpi .eq v217 v2
  let v219 : BitVec 1 := Scalar.andi v215 v218
  let v220 : BitVec 32 := Scalar.extui v219
  let c0_i32_197 : BitVec 32 := 0#32
  let v221 : BitVec 1 := Scalar.cmpi .ne v220 c0_i32_197
  v221

def k1_chk4 (d0 : Dev nD) (v214 : BitVec 32) (v217 : BitVec 32) (v226 : BitVec 32) : Prop :=
  (∀ (k1_h2 : k1_cond2 d0 v214 v217 = 1#1), ∀ a, (k1_off10 v226) a + S1x1x128.size a ≤ S204x1x128.size a) ∧
  (∀ (k1_h2 : k1_cond2 d0 v214 v217 = 1#1), ∀ (hinb : ∀ a, (k1_off10 v226) a + S1x1x128.size a ≤ S204x1x128.size a), (Rect.unit (s := S204x1x128) (k1_off10 v226) S1x1x128.size hinb).PackedRows (EltTy.packing .bf16))
theorem k1_off10_inb : ∀ (d0 : Dev nD) (v214 : BitVec 32) (v217 : BitVec 32) (v226 : BitVec 32) (k1_hw4 : k1_chk4 d0 v214 v217 v226), ∀ (k1_h2 : k1_cond2 d0 v214 v217 = 1#1), ∀ a, (k1_off10 v226) a + S1x1x128.size a ≤ S204x1x128.size a := fun d0 v214 v217 v226 k1_hw4 k1_h2 => k1_hw4.1 k1_h2
theorem k1_off10_packedbf16 : ∀ (d0 : Dev nD) (v214 : BitVec 32) (v217 : BitVec 32) (v226 : BitVec 32) (k1_hw4 : k1_chk4 d0 v214 v217 v226), ∀ (k1_h2 : k1_cond2 d0 v214 v217 = 1#1), (Rect.unit (s := S204x1x128) (k1_off10 v226) S1x1x128.size (k1_off10_inb d0 v214 v217 v226 k1_hw4 k1_h2)).PackedRows (EltTy.packing .bf16) := fun d0 v214 v217 v226 k1_hw4 k1_h2 => k1_hw4.2 k1_h2 (k1_off10_inb d0 v214 v217 v226 k1_hw4 k1_h2)

@[reducible] def k1_t2_loop (v131 : BitVec 32) : Scf.Loop 32 :=
  let c0_i32_132 : BitVec 32 := 0#32
  let v132 : BitVec 32 := Scalar.subi v131 c0_i32_132
  let c1_i32_133 : BitVec 32 := 1#32
  let v134 : BitVec 32 := Scalar.divsi v132 c1_i32_133
  let v135 : BitVec 32 := Scalar.muli v134 c1_i32_133
  let v136 : BitVec 32 := Scalar.addi c0_i32_132 v135
  let c1_i32_134 : BitVec 32 := 1#32
  ⟨c0_i32_132, v136, c1_i32_134⟩

def k1_off11 (v131 : BitVec 32) (k1_t2 : Fin (k1_t2_loop v131).trips) : Fin 2 → Nat :=
  let c0_195 : Index := 0#32
  let c0_i32_132 : BitVec 32 := 0#32
  let c1_i32_134 : BitVec 32 := 1#32
  let arg16 : BitVec 32 := Scf.iv c0_i32_132 c1_i32_134 k1_t2
  let v205 : Index := Scalar.indexCast arg16
  ![0, v205.toNat]
def k1_off12 (v131 : BitVec 32) (k1_t2 : Fin (k1_t2_loop v131).trips) : Fin 1 → Nat :=
  let c0_i32_194 : BitVec 32 := 0#32
  let c0_i32_132 : BitVec 32 := 0#32
  let c1_i32_134 : BitVec 32 := 1#32
  let arg16 : BitVec 32 := Scf.iv c0_i32_132 c1_i32_134 k1_t2
  let v204 : BitVec 32 := Scalar.addi c0_i32_194 arg16
  ![v204.toNat]
def k1_cond3 (d0 : Dev nD) (v206 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v207 : BitVec 1 := Scalar.cmpi .ne v206 v2
  let v208 : BitVec 32 := Scalar.extui v207
  let c0_i32_196 : BitVec 32 := 0#32
  let v209 : BitVec 1 := Scalar.cmpi .ne v208 c0_i32_196
  v209

def k1_off13 (v131 : BitVec 32) (k1_t2 : Fin (k1_t2_loop v131).trips) : Fin 3 → Nat :=
  let c0_i32_194 : BitVec 32 := 0#32
  let c0_i32_132 : BitVec 32 := 0#32
  let c1_i32_134 : BitVec 32 := 1#32
  let arg16 : BitVec 32 := Scf.iv c0_i32_132 c1_i32_134 k1_t2
  let v204 : BitVec 32 := Scalar.addi c0_i32_194 arg16
  let c0_i32_201 : BitVec 32 := 0#32
  let c0_i32_202 : BitVec 32 := 0#32
  ![v204.toNat, 0, 0]

def k1_chk6 (d0 : Dev nD) (v131 : BitVec 32) (k1_t2 : Fin (k1_t2_loop v131).trips) (v206 : BitVec 32) : Prop :=
  (∀ (k1_h3 : k1_cond3 d0 v206 = 1#1), ∀ a, (k1_off12 v131 k1_t2) a + S1.size a ≤ S204.size a) ∧
  (∀ (k1_h3 : k1_cond3 d0 v206 = 1#1), ∀ a, (k1_off13 v131 k1_t2) a + S1x1x128.size a ≤ S204x1x128.size a) ∧
  (∀ (k1_h3 : k1_cond3 d0 v206 = 1#1), ∀ (hinb : ∀ a, (k1_off13 v131 k1_t2) a + S1x1x128.size a ≤ S204x1x128.size a), (Rect.unit (s := S204x1x128) (k1_off13 v131 k1_t2) S1x1x128.size hinb).WholeWords (EltTy.packing .bf16))
theorem k1_off12_inb : ∀ (d0 : Dev nD) (v131 : BitVec 32) (k1_t2 : Fin (k1_t2_loop v131).trips) (v206 : BitVec 32) (k1_hw6 : k1_chk6 d0 v131 k1_t2 v206), ∀ (k1_h3 : k1_cond3 d0 v206 = 1#1), ∀ a, (k1_off12 v131 k1_t2) a + S1.size a ≤ S204.size a := fun d0 v131 k1_t2 v206 k1_hw6 k1_h3 => k1_hw6.1 k1_h3
theorem k1_off13_inb : ∀ (d0 : Dev nD) (v131 : BitVec 32) (k1_t2 : Fin (k1_t2_loop v131).trips) (v206 : BitVec 32) (k1_hw6 : k1_chk6 d0 v131 k1_t2 v206), ∀ (k1_h3 : k1_cond3 d0 v206 = 1#1), ∀ a, (k1_off13 v131 k1_t2) a + S1x1x128.size a ≤ S204x1x128.size a := fun d0 v131 k1_t2 v206 k1_hw6 k1_h3 => k1_hw6.2.1 k1_h3
theorem k1_off13_wordsbf16 : ∀ (d0 : Dev nD) (v131 : BitVec 32) (k1_t2 : Fin (k1_t2_loop v131).trips) (v206 : BitVec 32) (k1_hw6 : k1_chk6 d0 v131 k1_t2 v206), ∀ (k1_h3 : k1_cond3 d0 v206 = 1#1), (Rect.unit (s := S204x1x128) (k1_off13 v131 k1_t2) S1x1x128.size (k1_off13_inb d0 v131 k1_t2 v206 k1_hw6 k1_h3)).WholeWords (EltTy.packing .bf16) := fun d0 v131 k1_t2 v206 k1_hw6 k1_h3 => k1_hw6.2.2 k1_h3 (k1_off13_inb d0 v131 k1_t2 v206 k1_hw6 k1_h3)

@[reducible] def k1_t3_loop (v131 : BitVec 32) : Scf.Loop 32 :=
  let c0_i32_132 : BitVec 32 := 0#32
  let v132 : BitVec 32 := Scalar.subi v131 c0_i32_132
  let c1_i32_133 : BitVec 32 := 1#32
  let v134 : BitVec 32 := Scalar.divsi v132 c1_i32_133
  let v135 : BitVec 32 := Scalar.muli v134 c1_i32_133
  let v136 : BitVec 32 := Scalar.addi c0_i32_132 v135
  let v133 : BitVec 32 := Scalar.addi c0_i32_132 v132
  let c1_i32_135 : BitVec 32 := 1#32
  ⟨v136, v133, c1_i32_135⟩
def k1_off14 (v131 : BitVec 32) (k1_t3 : Fin (k1_t3_loop v131).trips) : Fin 2 → Nat :=
  let c0_195 : Index := 0#32
  let c0_i32_132 : BitVec 32 := 0#32
  let v132 : BitVec 32 := Scalar.subi v131 c0_i32_132
  let c1_i32_133 : BitVec 32 := 1#32
  let v134 : BitVec 32 := Scalar.divsi v132 c1_i32_133
  let v135 : BitVec 32 := Scalar.muli v134 c1_i32_133
  let v136 : BitVec 32 := Scalar.addi c0_i32_132 v135
  let c1_i32_135 : BitVec 32 := 1#32
  let arg16 : BitVec 32 := Scf.iv v136 c1_i32_135 k1_t3
  let v205 : Index := Scalar.indexCast arg16
  ![0, v205.toNat]

def k1_chk5 (v131 : BitVec 32) : Prop :=
  ((k1_t2_loop v131).OK) ∧
  (∀ k1_t2 : Fin (k1_t2_loop v131).trips, ∀ a, (k1_off11 v131 k1_t2) a + S1x1.size a ≤ S2x102.size a) ∧
  ((k1_t3_loop v131).OK) ∧
  (∀ k1_t3 : Fin (k1_t3_loop v131).trips, ∀ a, (k1_off14 v131 k1_t3) a + S1x1.size a ≤ S2x102.size a)
theorem k1_t2_ok : ∀ (v131 : BitVec 32) (k1_hw5 : k1_chk5 v131), (k1_t2_loop v131).OK := fun v131 k1_hw5 => k1_hw5.1
theorem k1_off11_inb : ∀ (v131 : BitVec 32) (k1_hw5 : k1_chk5 v131) (k1_t2 : Fin (k1_t2_loop v131).trips), ∀ a, (k1_off11 v131 k1_t2) a + S1x1.size a ≤ S2x102.size a := fun v131 k1_hw5 k1_t2 => k1_hw5.2.1 k1_t2
theorem k1_t3_ok : ∀ (v131 : BitVec 32) (k1_hw5 : k1_chk5 v131), (k1_t3_loop v131).OK := fun v131 k1_hw5 => k1_hw5.2.2.1
theorem k1_off14_inb : ∀ (v131 : BitVec 32) (k1_hw5 : k1_chk5 v131) (k1_t3 : Fin (k1_t3_loop v131).trips), ∀ a, (k1_off14 v131 k1_t3) a + S1x1.size a ≤ S2x102.size a := fun v131 k1_hw5 k1_t3 => k1_hw5.2.2.2 k1_t3

def k1_off15 (v131 : BitVec 32) (k1_t3 : Fin (k1_t3_loop v131).trips) : Fin 1 → Nat :=
  let c0_i32_194 : BitVec 32 := 0#32
  let c0_i32_132 : BitVec 32 := 0#32
  let v132 : BitVec 32 := Scalar.subi v131 c0_i32_132
  let c1_i32_133 : BitVec 32 := 1#32
  let v134 : BitVec 32 := Scalar.divsi v132 c1_i32_133
  let v135 : BitVec 32 := Scalar.muli v134 c1_i32_133
  let v136 : BitVec 32 := Scalar.addi c0_i32_132 v135
  let c1_i32_135 : BitVec 32 := 1#32
  let arg16 : BitVec 32 := Scf.iv v136 c1_i32_135 k1_t3
  let v204 : BitVec 32 := Scalar.addi c0_i32_194 arg16
  ![v204.toNat]
def k1_cond4 (d0 : Dev nD) (v206 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v207 : BitVec 1 := Scalar.cmpi .ne v206 v2
  let v208 : BitVec 32 := Scalar.extui v207
  let c0_i32_196 : BitVec 32 := 0#32
  let v209 : BitVec 1 := Scalar.cmpi .ne v208 c0_i32_196
  v209

def k1_off16 (v131 : BitVec 32) (k1_t3 : Fin (k1_t3_loop v131).trips) : Fin 3 → Nat :=
  let c0_i32_194 : BitVec 32 := 0#32
  let c0_i32_132 : BitVec 32 := 0#32
  let v132 : BitVec 32 := Scalar.subi v131 c0_i32_132
  let c1_i32_133 : BitVec 32 := 1#32
  let v134 : BitVec 32 := Scalar.divsi v132 c1_i32_133
  let v135 : BitVec 32 := Scalar.muli v134 c1_i32_133
  let v136 : BitVec 32 := Scalar.addi c0_i32_132 v135
  let c1_i32_135 : BitVec 32 := 1#32
  let arg16 : BitVec 32 := Scf.iv v136 c1_i32_135 k1_t3
  let v204 : BitVec 32 := Scalar.addi c0_i32_194 arg16
  let c0_i32_201 : BitVec 32 := 0#32
  let c0_i32_202 : BitVec 32 := 0#32
  ![v204.toNat, 0, 0]

def k1_chk7 (d0 : Dev nD) (v131 : BitVec 32) (k1_t3 : Fin (k1_t3_loop v131).trips) (v206 : BitVec 32) : Prop :=
  (∀ (k1_h4 : k1_cond4 d0 v206 = 1#1), ∀ a, (k1_off15 v131 k1_t3) a + S1.size a ≤ S204.size a) ∧
  (∀ (k1_h4 : k1_cond4 d0 v206 = 1#1), ∀ a, (k1_off16 v131 k1_t3) a + S1x1x128.size a ≤ S204x1x128.size a) ∧
  (∀ (k1_h4 : k1_cond4 d0 v206 = 1#1), ∀ (hinb : ∀ a, (k1_off16 v131 k1_t3) a + S1x1x128.size a ≤ S204x1x128.size a), (Rect.unit (s := S204x1x128) (k1_off16 v131 k1_t3) S1x1x128.size hinb).WholeWords (EltTy.packing .bf16))
theorem k1_off15_inb : ∀ (d0 : Dev nD) (v131 : BitVec 32) (k1_t3 : Fin (k1_t3_loop v131).trips) (v206 : BitVec 32) (k1_hw7 : k1_chk7 d0 v131 k1_t3 v206), ∀ (k1_h4 : k1_cond4 d0 v206 = 1#1), ∀ a, (k1_off15 v131 k1_t3) a + S1.size a ≤ S204.size a := fun d0 v131 k1_t3 v206 k1_hw7 k1_h4 => k1_hw7.1 k1_h4
theorem k1_off16_inb : ∀ (d0 : Dev nD) (v131 : BitVec 32) (k1_t3 : Fin (k1_t3_loop v131).trips) (v206 : BitVec 32) (k1_hw7 : k1_chk7 d0 v131 k1_t3 v206), ∀ (k1_h4 : k1_cond4 d0 v206 = 1#1), ∀ a, (k1_off16 v131 k1_t3) a + S1x1x128.size a ≤ S204x1x128.size a := fun d0 v131 k1_t3 v206 k1_hw7 k1_h4 => k1_hw7.2.1 k1_h4
theorem k1_off16_wordsbf16 : ∀ (d0 : Dev nD) (v131 : BitVec 32) (k1_t3 : Fin (k1_t3_loop v131).trips) (v206 : BitVec 32) (k1_hw7 : k1_chk7 d0 v131 k1_t3 v206), ∀ (k1_h4 : k1_cond4 d0 v206 = 1#1), (Rect.unit (s := S204x1x128) (k1_off16 v131 k1_t3) S1x1x128.size (k1_off16_inb d0 v131 k1_t3 v206 k1_hw7 k1_h4)).WholeWords (EltTy.packing .bf16) := fun d0 v131 k1_t3 v206 k1_hw7 k1_h4 => k1_hw7.2.2 k1_h4 (k1_off16_inb d0 v131 k1_t3 v206 k1_hw7 k1_h4)

@[reducible] def k1_t4_loop (v137 : BitVec 32) : Scf.Loop 32 :=
  let c0_i32_137 : BitVec 32 := 0#32
  let v138 : BitVec 32 := Scalar.subi v137 c0_i32_137
  let c1_i32_138 : BitVec 32 := 1#32
  let v140 : BitVec 32 := Scalar.divsi v138 c1_i32_138
  let v141 : BitVec 32 := Scalar.muli v140 c1_i32_138
  let v142 : BitVec 32 := Scalar.addi c0_i32_137 v141
  let c1_i32_139 : BitVec 32 := 1#32
  ⟨c0_i32_137, v142, c1_i32_139⟩

def k1_off17 (v137 : BitVec 32) (k1_t4 : Fin (k1_t4_loop v137).trips) : Fin 2 → Nat :=
  let c1_194 : Index := 1#32
  let c0_i32_137 : BitVec 32 := 0#32
  let c1_i32_139 : BitVec 32 := 1#32
  let arg16 : BitVec 32 := Scf.iv c0_i32_137 c1_i32_139 k1_t4
  let v205 : Index := Scalar.indexCast arg16
  ![1, v205.toNat]
def k1_off18 (v137 : BitVec 32) (k1_t4 : Fin (k1_t4_loop v137).trips) : Fin 1 → Nat :=
  let c102_i32 : BitVec 32 := 102#32
  let c0_i32_137 : BitVec 32 := 0#32
  let c1_i32_139 : BitVec 32 := 1#32
  let arg16 : BitVec 32 := Scf.iv c0_i32_137 c1_i32_139 k1_t4
  let v204 : BitVec 32 := Scalar.addi c102_i32 arg16
  ![v204.toNat]
def k1_cond5 (d0 : Dev nD) (v206 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v207 : BitVec 1 := Scalar.cmpi .ne v206 v2
  let v208 : BitVec 32 := Scalar.extui v207
  let c0_i32_195 : BitVec 32 := 0#32
  let v209 : BitVec 1 := Scalar.cmpi .ne v208 c0_i32_195
  v209

def k1_off19 (v137 : BitVec 32) (k1_t4 : Fin (k1_t4_loop v137).trips) : Fin 3 → Nat :=
  let c102_i32 : BitVec 32 := 102#32
  let c0_i32_137 : BitVec 32 := 0#32
  let c1_i32_139 : BitVec 32 := 1#32
  let arg16 : BitVec 32 := Scf.iv c0_i32_137 c1_i32_139 k1_t4
  let v204 : BitVec 32 := Scalar.addi c102_i32 arg16
  let c0_i32_200 : BitVec 32 := 0#32
  let c0_i32_201 : BitVec 32 := 0#32
  ![v204.toNat, 0, 0]

def k1_chk9 (d0 : Dev nD) (v137 : BitVec 32) (k1_t4 : Fin (k1_t4_loop v137).trips) (v206 : BitVec 32) : Prop :=
  (∀ (k1_h5 : k1_cond5 d0 v206 = 1#1), ∀ a, (k1_off18 v137 k1_t4) a + S1.size a ≤ S204.size a) ∧
  (∀ (k1_h5 : k1_cond5 d0 v206 = 1#1), ∀ a, (k1_off19 v137 k1_t4) a + S1x1x128.size a ≤ S204x1x128.size a) ∧
  (∀ (k1_h5 : k1_cond5 d0 v206 = 1#1), ∀ (hinb : ∀ a, (k1_off19 v137 k1_t4) a + S1x1x128.size a ≤ S204x1x128.size a), (Rect.unit (s := S204x1x128) (k1_off19 v137 k1_t4) S1x1x128.size hinb).WholeWords (EltTy.packing .bf16))
theorem k1_off18_inb : ∀ (d0 : Dev nD) (v137 : BitVec 32) (k1_t4 : Fin (k1_t4_loop v137).trips) (v206 : BitVec 32) (k1_hw9 : k1_chk9 d0 v137 k1_t4 v206), ∀ (k1_h5 : k1_cond5 d0 v206 = 1#1), ∀ a, (k1_off18 v137 k1_t4) a + S1.size a ≤ S204.size a := fun d0 v137 k1_t4 v206 k1_hw9 k1_h5 => k1_hw9.1 k1_h5
theorem k1_off19_inb : ∀ (d0 : Dev nD) (v137 : BitVec 32) (k1_t4 : Fin (k1_t4_loop v137).trips) (v206 : BitVec 32) (k1_hw9 : k1_chk9 d0 v137 k1_t4 v206), ∀ (k1_h5 : k1_cond5 d0 v206 = 1#1), ∀ a, (k1_off19 v137 k1_t4) a + S1x1x128.size a ≤ S204x1x128.size a := fun d0 v137 k1_t4 v206 k1_hw9 k1_h5 => k1_hw9.2.1 k1_h5
theorem k1_off19_wordsbf16 : ∀ (d0 : Dev nD) (v137 : BitVec 32) (k1_t4 : Fin (k1_t4_loop v137).trips) (v206 : BitVec 32) (k1_hw9 : k1_chk9 d0 v137 k1_t4 v206), ∀ (k1_h5 : k1_cond5 d0 v206 = 1#1), (Rect.unit (s := S204x1x128) (k1_off19 v137 k1_t4) S1x1x128.size (k1_off19_inb d0 v137 k1_t4 v206 k1_hw9 k1_h5)).WholeWords (EltTy.packing .bf16) := fun d0 v137 k1_t4 v206 k1_hw9 k1_h5 => k1_hw9.2.2 k1_h5 (k1_off19_inb d0 v137 k1_t4 v206 k1_hw9 k1_h5)

@[reducible] def k1_t5_loop (v137 : BitVec 32) : Scf.Loop 32 :=
  let c0_i32_137 : BitVec 32 := 0#32
  let v138 : BitVec 32 := Scalar.subi v137 c0_i32_137
  let c1_i32_138 : BitVec 32 := 1#32
  let v140 : BitVec 32 := Scalar.divsi v138 c1_i32_138
  let v141 : BitVec 32 := Scalar.muli v140 c1_i32_138
  let v142 : BitVec 32 := Scalar.addi c0_i32_137 v141
  let v139 : BitVec 32 := Scalar.addi c0_i32_137 v138
  let c1_i32_140 : BitVec 32 := 1#32
  ⟨v142, v139, c1_i32_140⟩
def k1_off20 (v137 : BitVec 32) (k1_t5 : Fin (k1_t5_loop v137).trips) : Fin 2 → Nat :=
  let c1_194 : Index := 1#32
  let c0_i32_137 : BitVec 32 := 0#32
  let v138 : BitVec 32 := Scalar.subi v137 c0_i32_137
  let c1_i32_138 : BitVec 32 := 1#32
  let v140 : BitVec 32 := Scalar.divsi v138 c1_i32_138
  let v141 : BitVec 32 := Scalar.muli v140 c1_i32_138
  let v142 : BitVec 32 := Scalar.addi c0_i32_137 v141
  let c1_i32_140 : BitVec 32 := 1#32
  let arg16 : BitVec 32 := Scf.iv v142 c1_i32_140 k1_t5
  let v205 : Index := Scalar.indexCast arg16
  ![1, v205.toNat]

def k1_chk8 (v137 : BitVec 32) : Prop :=
  ((k1_t4_loop v137).OK) ∧
  (∀ k1_t4 : Fin (k1_t4_loop v137).trips, ∀ a, (k1_off17 v137 k1_t4) a + S1x1.size a ≤ S2x102.size a) ∧
  ((k1_t5_loop v137).OK) ∧
  (∀ k1_t5 : Fin (k1_t5_loop v137).trips, ∀ a, (k1_off20 v137 k1_t5) a + S1x1.size a ≤ S2x102.size a)
theorem k1_t4_ok : ∀ (v137 : BitVec 32) (k1_hw8 : k1_chk8 v137), (k1_t4_loop v137).OK := fun v137 k1_hw8 => k1_hw8.1
theorem k1_off17_inb : ∀ (v137 : BitVec 32) (k1_hw8 : k1_chk8 v137) (k1_t4 : Fin (k1_t4_loop v137).trips), ∀ a, (k1_off17 v137 k1_t4) a + S1x1.size a ≤ S2x102.size a := fun v137 k1_hw8 k1_t4 => k1_hw8.2.1 k1_t4
theorem k1_t5_ok : ∀ (v137 : BitVec 32) (k1_hw8 : k1_chk8 v137), (k1_t5_loop v137).OK := fun v137 k1_hw8 => k1_hw8.2.2.1
theorem k1_off20_inb : ∀ (v137 : BitVec 32) (k1_hw8 : k1_chk8 v137) (k1_t5 : Fin (k1_t5_loop v137).trips), ∀ a, (k1_off20 v137 k1_t5) a + S1x1.size a ≤ S2x102.size a := fun v137 k1_hw8 k1_t5 => k1_hw8.2.2.2 k1_t5

def k1_off21 (v137 : BitVec 32) (k1_t5 : Fin (k1_t5_loop v137).trips) : Fin 1 → Nat :=
  let c102_i32 : BitVec 32 := 102#32
  let c0_i32_137 : BitVec 32 := 0#32
  let v138 : BitVec 32 := Scalar.subi v137 c0_i32_137
  let c1_i32_138 : BitVec 32 := 1#32
  let v140 : BitVec 32 := Scalar.divsi v138 c1_i32_138
  let v141 : BitVec 32 := Scalar.muli v140 c1_i32_138
  let v142 : BitVec 32 := Scalar.addi c0_i32_137 v141
  let c1_i32_140 : BitVec 32 := 1#32
  let arg16 : BitVec 32 := Scf.iv v142 c1_i32_140 k1_t5
  let v204 : BitVec 32 := Scalar.addi c102_i32 arg16
  ![v204.toNat]
def k1_cond6 (d0 : Dev nD) (v206 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v207 : BitVec 1 := Scalar.cmpi .ne v206 v2
  let v208 : BitVec 32 := Scalar.extui v207
  let c0_i32_195 : BitVec 32 := 0#32
  let v209 : BitVec 1 := Scalar.cmpi .ne v208 c0_i32_195
  v209

def k1_off22 (v137 : BitVec 32) (k1_t5 : Fin (k1_t5_loop v137).trips) : Fin 3 → Nat :=
  let c102_i32 : BitVec 32 := 102#32
  let c0_i32_137 : BitVec 32 := 0#32
  let v138 : BitVec 32 := Scalar.subi v137 c0_i32_137
  let c1_i32_138 : BitVec 32 := 1#32
  let v140 : BitVec 32 := Scalar.divsi v138 c1_i32_138
  let v141 : BitVec 32 := Scalar.muli v140 c1_i32_138
  let v142 : BitVec 32 := Scalar.addi c0_i32_137 v141
  let c1_i32_140 : BitVec 32 := 1#32
  let arg16 : BitVec 32 := Scf.iv v142 c1_i32_140 k1_t5
  let v204 : BitVec 32 := Scalar.addi c102_i32 arg16
  let c0_i32_200 : BitVec 32 := 0#32
  let c0_i32_201 : BitVec 32 := 0#32
  ![v204.toNat, 0, 0]

def k1_chk10 (d0 : Dev nD) (v137 : BitVec 32) (k1_t5 : Fin (k1_t5_loop v137).trips) (v206 : BitVec 32) : Prop :=
  (∀ (k1_h6 : k1_cond6 d0 v206 = 1#1), ∀ a, (k1_off21 v137 k1_t5) a + S1.size a ≤ S204.size a) ∧
  (∀ (k1_h6 : k1_cond6 d0 v206 = 1#1), ∀ a, (k1_off22 v137 k1_t5) a + S1x1x128.size a ≤ S204x1x128.size a) ∧
  (∀ (k1_h6 : k1_cond6 d0 v206 = 1#1), ∀ (hinb : ∀ a, (k1_off22 v137 k1_t5) a + S1x1x128.size a ≤ S204x1x128.size a), (Rect.unit (s := S204x1x128) (k1_off22 v137 k1_t5) S1x1x128.size hinb).WholeWords (EltTy.packing .bf16))
theorem k1_off21_inb : ∀ (d0 : Dev nD) (v137 : BitVec 32) (k1_t5 : Fin (k1_t5_loop v137).trips) (v206 : BitVec 32) (k1_hw10 : k1_chk10 d0 v137 k1_t5 v206), ∀ (k1_h6 : k1_cond6 d0 v206 = 1#1), ∀ a, (k1_off21 v137 k1_t5) a + S1.size a ≤ S204.size a := fun d0 v137 k1_t5 v206 k1_hw10 k1_h6 => k1_hw10.1 k1_h6
theorem k1_off22_inb : ∀ (d0 : Dev nD) (v137 : BitVec 32) (k1_t5 : Fin (k1_t5_loop v137).trips) (v206 : BitVec 32) (k1_hw10 : k1_chk10 d0 v137 k1_t5 v206), ∀ (k1_h6 : k1_cond6 d0 v206 = 1#1), ∀ a, (k1_off22 v137 k1_t5) a + S1x1x128.size a ≤ S204x1x128.size a := fun d0 v137 k1_t5 v206 k1_hw10 k1_h6 => k1_hw10.2.1 k1_h6
theorem k1_off22_wordsbf16 : ∀ (d0 : Dev nD) (v137 : BitVec 32) (k1_t5 : Fin (k1_t5_loop v137).trips) (v206 : BitVec 32) (k1_hw10 : k1_chk10 d0 v137 k1_t5 v206), ∀ (k1_h6 : k1_cond6 d0 v206 = 1#1), (Rect.unit (s := S204x1x128) (k1_off22 v137 k1_t5) S1x1x128.size (k1_off22_inb d0 v137 k1_t5 v206 k1_hw10 k1_h6)).WholeWords (EltTy.packing .bf16) := fun d0 v137 k1_t5 v206 k1_hw10 k1_h6 => k1_hw10.2.2 k1_h6 (k1_off22_inb d0 v137 k1_t5 v206 k1_hw10 k1_h6)

@[reducible] def k1_t6_loop (v178 : BitVec 32) : Scf.Loop 32 :=
  let c0_i32_164 : BitVec 32 := 0#32
  let v179 : BitVec 32 := Scalar.subi v178 c0_i32_164
  let c1_i32_165 : BitVec 32 := 1#32
  let v181 : BitVec 32 := Scalar.divsi v179 c1_i32_165
  let v182 : BitVec 32 := Scalar.muli v181 c1_i32_165
  let v183 : BitVec 32 := Scalar.addi c0_i32_164 v182
  let c1_i32_166 : BitVec 32 := 1#32
  ⟨c0_i32_164, v183, c1_i32_166⟩

def k1_off23 (v178 : BitVec 32) (k1_t6 : Fin (k1_t6_loop v178).trips) : Fin 2 → Nat :=
  let c0_195 : Index := 0#32
  let c0_i32_164 : BitVec 32 := 0#32
  let c1_i32_166 : BitVec 32 := 1#32
  let arg16 : BitVec 32 := Scf.iv c0_i32_164 c1_i32_166 k1_t6
  let v205 : Index := Scalar.indexCast arg16
  ![0, v205.toNat]
def k1_off24 (v178 : BitVec 32) (k1_t6 : Fin (k1_t6_loop v178).trips) : Fin 2 → Nat :=
  let c0_199 : Index := 0#32
  let c0_i32_164 : BitVec 32 := 0#32
  let c1_i32_166 : BitVec 32 := 1#32
  let arg16 : BitVec 32 := Scf.iv c0_i32_164 c1_i32_166 k1_t6
  let v215 : Index := Scalar.indexCast arg16
  ![0, v215.toNat]
def k1_cond7 (d0 : Dev nD) (v206 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v207 : BitVec 1 := Scalar.cmpi .ne v206 v2
  let v208 : BitVec 32 := Scalar.extui v207
  let c0_i32_196 : BitVec 32 := 0#32
  let v209 : BitVec 1 := Scalar.cmpi .ne v208 c0_i32_196
  v209

def k1_off25 (v178 : BitVec 32) (k1_t6 : Fin (k1_t6_loop v178).trips) : Fin 1 → Nat :=
  let c0_i32_194 : BitVec 32 := 0#32
  let c0_i32_164 : BitVec 32 := 0#32
  let c1_i32_166 : BitVec 32 := 1#32
  let arg16 : BitVec 32 := Scf.iv c0_i32_164 c1_i32_166 k1_t6
  let v204 : BitVec 32 := Scalar.addi c0_i32_194 arg16
  ![v204.toNat]
def k1_off26 (v218 : BitVec 32) : Fin 1 → Nat :=
  ![v218.toNat]

def k1_chk13 (d0 : Dev nD) (v206 : BitVec 32) (v218 : BitVec 32) : Prop :=
  (∀ (k1_h7 : k1_cond7 d0 v206 = 1#1), ∀ a, (k1_off26 v218) a + S1.size a ≤ S256.size a)
theorem k1_off26_inb : ∀ (d0 : Dev nD) (v206 : BitVec 32) (v218 : BitVec 32) (k1_hw13 : k1_chk13 d0 v206 v218), ∀ (k1_h7 : k1_cond7 d0 v206 = 1#1), ∀ a, (k1_off26 v218) a + S1.size a ≤ S256.size a := fun d0 v206 v218 k1_hw13 k1_h7 => k1_hw13 k1_h7

def k1_off27 (v216 : BitVec 32) : Fin 3 → Nat :=
  let c0_i32_204 : BitVec 32 := 0#32
  let c0_i32_205 : BitVec 32 := 0#32
  ![v216.toNat, 0, 0]

def k1_chk14 (d0 : Dev nD) (v206 : BitVec 32) (v216 : BitVec 32) : Prop :=
  (∀ (k1_h7 : k1_cond7 d0 v206 = 1#1), ∀ a, (k1_off27 v216) a + S1x1x256.size a ≤ S256x1x256.size a)
theorem k1_off27_inb : ∀ (d0 : Dev nD) (v206 : BitVec 32) (v216 : BitVec 32) (k1_hw14 : k1_chk14 d0 v206 v216), ∀ (k1_h7 : k1_cond7 d0 v206 = 1#1), ∀ a, (k1_off27 v216) a + S1x1x256.size a ≤ S256x1x256.size a := fun d0 v206 v216 k1_hw14 k1_h7 => k1_hw14 k1_h7

def k1_off28 (v178 : BitVec 32) (k1_t6 : Fin (k1_t6_loop v178).trips) : Fin 3 → Nat :=
  let c0_i32_194 : BitVec 32 := 0#32
  let c0_i32_164 : BitVec 32 := 0#32
  let c1_i32_166 : BitVec 32 := 1#32
  let arg16 : BitVec 32 := Scf.iv c0_i32_164 c1_i32_166 k1_t6
  let v204 : BitVec 32 := Scalar.addi c0_i32_194 arg16
  let c0_i32_206 : BitVec 32 := 0#32
  let c0_i32_207 : BitVec 32 := 0#32
  ![v204.toNat, 0, 0]

def k1_chk12 (d0 : Dev nD) (v178 : BitVec 32) (k1_t6 : Fin (k1_t6_loop v178).trips) (v206 : BitVec 32) : Prop :=
  (∀ (k1_h7 : k1_cond7 d0 v206 = 1#1), ∀ a, (k1_off24 v178 k1_t6) a + S1x1.size a ≤ S2x102.size a) ∧
  (∀ (k1_h7 : k1_cond7 d0 v206 = 1#1), ∀ a, (k1_off25 v178 k1_t6) a + S1.size a ≤ S204.size a) ∧
  (∀ (k1_h7 : k1_cond7 d0 v206 = 1#1), ∀ a, (k1_off28 v178 k1_t6) a + S1x1x256.size a ≤ S204x1x256.size a)
theorem k1_off24_inb : ∀ (d0 : Dev nD) (v178 : BitVec 32) (k1_t6 : Fin (k1_t6_loop v178).trips) (v206 : BitVec 32) (k1_hw12 : k1_chk12 d0 v178 k1_t6 v206), ∀ (k1_h7 : k1_cond7 d0 v206 = 1#1), ∀ a, (k1_off24 v178 k1_t6) a + S1x1.size a ≤ S2x102.size a := fun d0 v178 k1_t6 v206 k1_hw12 k1_h7 => k1_hw12.1 k1_h7
theorem k1_off25_inb : ∀ (d0 : Dev nD) (v178 : BitVec 32) (k1_t6 : Fin (k1_t6_loop v178).trips) (v206 : BitVec 32) (k1_hw12 : k1_chk12 d0 v178 k1_t6 v206), ∀ (k1_h7 : k1_cond7 d0 v206 = 1#1), ∀ a, (k1_off25 v178 k1_t6) a + S1.size a ≤ S204.size a := fun d0 v178 k1_t6 v206 k1_hw12 k1_h7 => k1_hw12.2.1 k1_h7
theorem k1_off28_inb : ∀ (d0 : Dev nD) (v178 : BitVec 32) (k1_t6 : Fin (k1_t6_loop v178).trips) (v206 : BitVec 32) (k1_hw12 : k1_chk12 d0 v178 k1_t6 v206), ∀ (k1_h7 : k1_cond7 d0 v206 = 1#1), ∀ a, (k1_off28 v178 k1_t6) a + S1x1x256.size a ≤ S204x1x256.size a := fun d0 v178 k1_t6 v206 k1_hw12 k1_h7 => k1_hw12.2.2 k1_h7

def k1_dev33 (v220 : BitVec 32) : Nat :=
  let c0_i32_203 : BitVec 32 := 0#32
  let c1_i32_202 : BitVec 32 := 1#32
  let v221 : BitVec 32 := Scalar.muli v220 c1_i32_202
  let v222 : BitVec 32 := Scalar.addi c0_i32_203 v221
  v222.toNat

def k1_chk15 (d0 : Dev nD) (v206 : BitVec 32) (v220 : BitVec 32) : Prop :=
  (∀ (k1_h7 : k1_cond7 d0 v206 = 1#1), (k1_dev33 v220) < nD)
theorem k1_dev33_lt : ∀ (d0 : Dev nD) (v206 : BitVec 32) (v220 : BitVec 32) (k1_hw15 : k1_chk15 d0 v206 v220), ∀ (k1_h7 : k1_cond7 d0 v206 = 1#1), (k1_dev33 v220) < nD := fun d0 v206 v220 k1_hw15 k1_h7 => k1_hw15 k1_h7

def k1_off29 (v178 : BitVec 32) (k1_t6 : Fin (k1_t6_loop v178).trips) : Fin 2 → Nat :=
  let c0_197 : Index := 0#32
  let c0_i32_164 : BitVec 32 := 0#32
  let c1_i32_166 : BitVec 32 := 1#32
  let arg16 : BitVec 32 := Scf.iv c0_i32_164 c1_i32_166 k1_t6
  let v210 : Index := Scalar.indexCast arg16
  ![0, v210.toNat]
def k1_off30 (v178 : BitVec 32) (k1_t6 : Fin (k1_t6_loop v178).trips) : Fin 3 → Nat :=
  let c0_i32_194 : BitVec 32 := 0#32
  let c0_i32_164 : BitVec 32 := 0#32
  let c1_i32_166 : BitVec 32 := 1#32
  let arg16 : BitVec 32 := Scf.iv c0_i32_164 c1_i32_166 k1_t6
  let v204 : BitVec 32 := Scalar.addi c0_i32_194 arg16
  let v215 : Index := Scalar.indexCast v204
  let c0_199 : Index := 0#32
  let c0_200 : Index := 0#32
  ![v215.toNat, 0, 0]
def k1_cond8 (d0 : Dev nD) (v211 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v212 : BitVec 1 := Scalar.cmpi .eq v211 v2
  let v213 : BitVec 32 := Scalar.extui v212
  let c0_i32_198 : BitVec 32 := 0#32
  let v214 : BitVec 1 := Scalar.cmpi .ne v213 c0_i32_198
  v214

def k1_off31 (v178 : BitVec 32) (k1_t6 : Fin (k1_t6_loop v178).trips) : Fin 2 → Nat :=
  let c0_201 : Index := 0#32
  let c0_i32_164 : BitVec 32 := 0#32
  let c1_i32_166 : BitVec 32 := 1#32
  let arg16 : BitVec 32 := Scf.iv c0_i32_164 c1_i32_166 k1_t6
  let v218 : Index := Scalar.indexCast arg16
  ![0, v218.toNat]

def k1_chk16 (d0 : Dev nD) (v178 : BitVec 32) (k1_t6 : Fin (k1_t6_loop v178).trips) (v211 : BitVec 32) : Prop :=
  (∀ (k1_h8 : k1_cond8 d0 v211 = 1#1), ∀ a, (k1_off30 v178 k1_t6) a + S1x1x256.size a ≤ S204x1x256.size a) ∧
  (∀ (k1_h8 : k1_cond8 d0 v211 = 1#1), ∀ a, (k1_off31 v178 k1_t6) a + S1x1.size a ≤ S2x102.size a)
theorem k1_off30_inb : ∀ (d0 : Dev nD) (v178 : BitVec 32) (k1_t6 : Fin (k1_t6_loop v178).trips) (v211 : BitVec 32) (k1_hw16 : k1_chk16 d0 v178 k1_t6 v211), ∀ (k1_h8 : k1_cond8 d0 v211 = 1#1), ∀ a, (k1_off30 v178 k1_t6) a + S1x1x256.size a ≤ S204x1x256.size a := fun d0 v178 k1_t6 v211 k1_hw16 k1_h8 => k1_hw16.1 k1_h8
theorem k1_off31_inb : ∀ (d0 : Dev nD) (v178 : BitVec 32) (k1_t6 : Fin (k1_t6_loop v178).trips) (v211 : BitVec 32) (k1_hw16 : k1_chk16 d0 v178 k1_t6 v211), ∀ (k1_h8 : k1_cond8 d0 v211 = 1#1), ∀ a, (k1_off31 v178 k1_t6) a + S1x1.size a ≤ S2x102.size a := fun d0 v178 k1_t6 v211 k1_hw16 k1_h8 => k1_hw16.2 k1_h8

def k1_off32 (v219 : BitVec 32) : Fin 3 → Nat :=
  let v220 : Index := Scalar.indexCast v219
  let c0_202 : Index := 0#32
  let c0_203 : Index := 0#32
  ![v220.toNat, 0, 0]

def k1_chk17 (d0 : Dev nD) (v211 : BitVec 32) (v219 : BitVec 32) : Prop :=
  (∀ (k1_h8 : k1_cond8 d0 v211 = 1#1), ∀ a, (k1_off32 v219) a + S1x1x256.size a ≤ S256x1x256.size a)
theorem k1_off32_inb : ∀ (d0 : Dev nD) (v211 : BitVec 32) (v219 : BitVec 32) (k1_hw17 : k1_chk17 d0 v211 v219), ∀ (k1_h8 : k1_cond8 d0 v211 = 1#1), ∀ a, (k1_off32 v219) a + S1x1x256.size a ≤ S256x1x256.size a := fun d0 v211 v219 k1_hw17 k1_h8 => k1_hw17 k1_h8

@[reducible] def k1_t7_loop (v178 : BitVec 32) : Scf.Loop 32 :=
  let c0_i32_164 : BitVec 32 := 0#32
  let v179 : BitVec 32 := Scalar.subi v178 c0_i32_164
  let c1_i32_165 : BitVec 32 := 1#32
  let v181 : BitVec 32 := Scalar.divsi v179 c1_i32_165
  let v182 : BitVec 32 := Scalar.muli v181 c1_i32_165
  let v183 : BitVec 32 := Scalar.addi c0_i32_164 v182
  let v180 : BitVec 32 := Scalar.addi c0_i32_164 v179
  let c1_i32_167 : BitVec 32 := 1#32
  ⟨v183, v180, c1_i32_167⟩
def k1_off33 (v178 : BitVec 32) (k1_t7 : Fin (k1_t7_loop v178).trips) : Fin 2 → Nat :=
  let c0_195 : Index := 0#32
  let c0_i32_164 : BitVec 32 := 0#32
  let v179 : BitVec 32 := Scalar.subi v178 c0_i32_164
  let c1_i32_165 : BitVec 32 := 1#32
  let v181 : BitVec 32 := Scalar.divsi v179 c1_i32_165
  let v182 : BitVec 32 := Scalar.muli v181 c1_i32_165
  let v183 : BitVec 32 := Scalar.addi c0_i32_164 v182
  let c1_i32_167 : BitVec 32 := 1#32
  let arg16 : BitVec 32 := Scf.iv v183 c1_i32_167 k1_t7
  let v205 : Index := Scalar.indexCast arg16
  ![0, v205.toNat]
def k1_off34 (v178 : BitVec 32) (k1_t7 : Fin (k1_t7_loop v178).trips) : Fin 2 → Nat :=
  let c0_199 : Index := 0#32
  let c0_i32_164 : BitVec 32 := 0#32
  let v179 : BitVec 32 := Scalar.subi v178 c0_i32_164
  let c1_i32_165 : BitVec 32 := 1#32
  let v181 : BitVec 32 := Scalar.divsi v179 c1_i32_165
  let v182 : BitVec 32 := Scalar.muli v181 c1_i32_165
  let v183 : BitVec 32 := Scalar.addi c0_i32_164 v182
  let c1_i32_167 : BitVec 32 := 1#32
  let arg16 : BitVec 32 := Scf.iv v183 c1_i32_167 k1_t7
  let v215 : Index := Scalar.indexCast arg16
  ![0, v215.toNat]
def k1_cond9 (d0 : Dev nD) (v206 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v207 : BitVec 1 := Scalar.cmpi .ne v206 v2
  let v208 : BitVec 32 := Scalar.extui v207
  let c0_i32_196 : BitVec 32 := 0#32
  let v209 : BitVec 1 := Scalar.cmpi .ne v208 c0_i32_196
  v209

def k1_off35 (v178 : BitVec 32) (k1_t7 : Fin (k1_t7_loop v178).trips) : Fin 1 → Nat :=
  let c0_i32_194 : BitVec 32 := 0#32
  let c0_i32_164 : BitVec 32 := 0#32
  let v179 : BitVec 32 := Scalar.subi v178 c0_i32_164
  let c1_i32_165 : BitVec 32 := 1#32
  let v181 : BitVec 32 := Scalar.divsi v179 c1_i32_165
  let v182 : BitVec 32 := Scalar.muli v181 c1_i32_165
  let v183 : BitVec 32 := Scalar.addi c0_i32_164 v182
  let c1_i32_167 : BitVec 32 := 1#32
  let arg16 : BitVec 32 := Scf.iv v183 c1_i32_167 k1_t7
  let v204 : BitVec 32 := Scalar.addi c0_i32_194 arg16
  ![v204.toNat]
def k1_off36 (v218 : BitVec 32) : Fin 1 → Nat :=
  ![v218.toNat]

def k1_chk19 (d0 : Dev nD) (v206 : BitVec 32) (v218 : BitVec 32) : Prop :=
  (∀ (k1_h9 : k1_cond9 d0 v206 = 1#1), ∀ a, (k1_off36 v218) a + S1.size a ≤ S256.size a)
theorem k1_off36_inb : ∀ (d0 : Dev nD) (v206 : BitVec 32) (v218 : BitVec 32) (k1_hw19 : k1_chk19 d0 v206 v218), ∀ (k1_h9 : k1_cond9 d0 v206 = 1#1), ∀ a, (k1_off36 v218) a + S1.size a ≤ S256.size a := fun d0 v206 v218 k1_hw19 k1_h9 => k1_hw19 k1_h9

def k1_off37 (v216 : BitVec 32) : Fin 3 → Nat :=
  let c0_i32_204 : BitVec 32 := 0#32
  let c0_i32_205 : BitVec 32 := 0#32
  ![v216.toNat, 0, 0]

def k1_chk20 (d0 : Dev nD) (v206 : BitVec 32) (v216 : BitVec 32) : Prop :=
  (∀ (k1_h9 : k1_cond9 d0 v206 = 1#1), ∀ a, (k1_off37 v216) a + S1x1x256.size a ≤ S256x1x256.size a)
theorem k1_off37_inb : ∀ (d0 : Dev nD) (v206 : BitVec 32) (v216 : BitVec 32) (k1_hw20 : k1_chk20 d0 v206 v216), ∀ (k1_h9 : k1_cond9 d0 v206 = 1#1), ∀ a, (k1_off37 v216) a + S1x1x256.size a ≤ S256x1x256.size a := fun d0 v206 v216 k1_hw20 k1_h9 => k1_hw20 k1_h9

def k1_off38 (v178 : BitVec 32) (k1_t7 : Fin (k1_t7_loop v178).trips) : Fin 3 → Nat :=
  let c0_i32_194 : BitVec 32 := 0#32
  let c0_i32_164 : BitVec 32 := 0#32
  let v179 : BitVec 32 := Scalar.subi v178 c0_i32_164
  let c1_i32_165 : BitVec 32 := 1#32
  let v181 : BitVec 32 := Scalar.divsi v179 c1_i32_165
  let v182 : BitVec 32 := Scalar.muli v181 c1_i32_165
  let v183 : BitVec 32 := Scalar.addi c0_i32_164 v182
  let c1_i32_167 : BitVec 32 := 1#32
  let arg16 : BitVec 32 := Scf.iv v183 c1_i32_167 k1_t7
  let v204 : BitVec 32 := Scalar.addi c0_i32_194 arg16
  let c0_i32_206 : BitVec 32 := 0#32
  let c0_i32_207 : BitVec 32 := 0#32
  ![v204.toNat, 0, 0]

def k1_chk18 (d0 : Dev nD) (v178 : BitVec 32) (k1_t7 : Fin (k1_t7_loop v178).trips) (v206 : BitVec 32) : Prop :=
  (∀ (k1_h9 : k1_cond9 d0 v206 = 1#1), ∀ a, (k1_off34 v178 k1_t7) a + S1x1.size a ≤ S2x102.size a) ∧
  (∀ (k1_h9 : k1_cond9 d0 v206 = 1#1), ∀ a, (k1_off35 v178 k1_t7) a + S1.size a ≤ S204.size a) ∧
  (∀ (k1_h9 : k1_cond9 d0 v206 = 1#1), ∀ a, (k1_off38 v178 k1_t7) a + S1x1x256.size a ≤ S204x1x256.size a)
theorem k1_off34_inb : ∀ (d0 : Dev nD) (v178 : BitVec 32) (k1_t7 : Fin (k1_t7_loop v178).trips) (v206 : BitVec 32) (k1_hw18 : k1_chk18 d0 v178 k1_t7 v206), ∀ (k1_h9 : k1_cond9 d0 v206 = 1#1), ∀ a, (k1_off34 v178 k1_t7) a + S1x1.size a ≤ S2x102.size a := fun d0 v178 k1_t7 v206 k1_hw18 k1_h9 => k1_hw18.1 k1_h9
theorem k1_off35_inb : ∀ (d0 : Dev nD) (v178 : BitVec 32) (k1_t7 : Fin (k1_t7_loop v178).trips) (v206 : BitVec 32) (k1_hw18 : k1_chk18 d0 v178 k1_t7 v206), ∀ (k1_h9 : k1_cond9 d0 v206 = 1#1), ∀ a, (k1_off35 v178 k1_t7) a + S1.size a ≤ S204.size a := fun d0 v178 k1_t7 v206 k1_hw18 k1_h9 => k1_hw18.2.1 k1_h9
theorem k1_off38_inb : ∀ (d0 : Dev nD) (v178 : BitVec 32) (k1_t7 : Fin (k1_t7_loop v178).trips) (v206 : BitVec 32) (k1_hw18 : k1_chk18 d0 v178 k1_t7 v206), ∀ (k1_h9 : k1_cond9 d0 v206 = 1#1), ∀ a, (k1_off38 v178 k1_t7) a + S1x1x256.size a ≤ S204x1x256.size a := fun d0 v178 k1_t7 v206 k1_hw18 k1_h9 => k1_hw18.2.2 k1_h9

def k1_dev34 (v220 : BitVec 32) : Nat :=
  let c0_i32_203 : BitVec 32 := 0#32
  let c1_i32_202 : BitVec 32 := 1#32
  let v221 : BitVec 32 := Scalar.muli v220 c1_i32_202
  let v222 : BitVec 32 := Scalar.addi c0_i32_203 v221
  v222.toNat

def k1_chk21 (d0 : Dev nD) (v206 : BitVec 32) (v220 : BitVec 32) : Prop :=
  (∀ (k1_h9 : k1_cond9 d0 v206 = 1#1), (k1_dev34 v220) < nD)
theorem k1_dev34_lt : ∀ (d0 : Dev nD) (v206 : BitVec 32) (v220 : BitVec 32) (k1_hw21 : k1_chk21 d0 v206 v220), ∀ (k1_h9 : k1_cond9 d0 v206 = 1#1), (k1_dev34 v220) < nD := fun d0 v206 v220 k1_hw21 k1_h9 => k1_hw21 k1_h9

def k1_off39 (v178 : BitVec 32) (k1_t7 : Fin (k1_t7_loop v178).trips) : Fin 2 → Nat :=
  let c0_197 : Index := 0#32
  let c0_i32_164 : BitVec 32 := 0#32
  let v179 : BitVec 32 := Scalar.subi v178 c0_i32_164
  let c1_i32_165 : BitVec 32 := 1#32
  let v181 : BitVec 32 := Scalar.divsi v179 c1_i32_165
  let v182 : BitVec 32 := Scalar.muli v181 c1_i32_165
  let v183 : BitVec 32 := Scalar.addi c0_i32_164 v182
  let c1_i32_167 : BitVec 32 := 1#32
  let arg16 : BitVec 32 := Scf.iv v183 c1_i32_167 k1_t7
  let v210 : Index := Scalar.indexCast arg16
  ![0, v210.toNat]

def k1_chk11 (v178 : BitVec 32) : Prop :=
  ((k1_t6_loop v178).OK) ∧
  (∀ k1_t6 : Fin (k1_t6_loop v178).trips, ∀ a, (k1_off23 v178 k1_t6) a + S1x1.size a ≤ S2x102.size a) ∧
  (∀ k1_t6 : Fin (k1_t6_loop v178).trips, ∀ a, (k1_off29 v178 k1_t6) a + S1x1.size a ≤ S2x102.size a) ∧
  ((k1_t7_loop v178).OK) ∧
  (∀ k1_t7 : Fin (k1_t7_loop v178).trips, ∀ a, (k1_off33 v178 k1_t7) a + S1x1.size a ≤ S2x102.size a) ∧
  (∀ k1_t7 : Fin (k1_t7_loop v178).trips, ∀ a, (k1_off39 v178 k1_t7) a + S1x1.size a ≤ S2x102.size a)
theorem k1_t6_ok : ∀ (v178 : BitVec 32) (k1_hw11 : k1_chk11 v178), (k1_t6_loop v178).OK := fun v178 k1_hw11 => k1_hw11.1
theorem k1_off23_inb : ∀ (v178 : BitVec 32) (k1_hw11 : k1_chk11 v178) (k1_t6 : Fin (k1_t6_loop v178).trips), ∀ a, (k1_off23 v178 k1_t6) a + S1x1.size a ≤ S2x102.size a := fun v178 k1_hw11 k1_t6 => k1_hw11.2.1 k1_t6
theorem k1_off29_inb : ∀ (v178 : BitVec 32) (k1_hw11 : k1_chk11 v178) (k1_t6 : Fin (k1_t6_loop v178).trips), ∀ a, (k1_off29 v178 k1_t6) a + S1x1.size a ≤ S2x102.size a := fun v178 k1_hw11 k1_t6 => k1_hw11.2.2.1 k1_t6
theorem k1_t7_ok : ∀ (v178 : BitVec 32) (k1_hw11 : k1_chk11 v178), (k1_t7_loop v178).OK := fun v178 k1_hw11 => k1_hw11.2.2.2.1
theorem k1_off33_inb : ∀ (v178 : BitVec 32) (k1_hw11 : k1_chk11 v178) (k1_t7 : Fin (k1_t7_loop v178).trips), ∀ a, (k1_off33 v178 k1_t7) a + S1x1.size a ≤ S2x102.size a := fun v178 k1_hw11 k1_t7 => k1_hw11.2.2.2.2.1 k1_t7
theorem k1_off39_inb : ∀ (v178 : BitVec 32) (k1_hw11 : k1_chk11 v178) (k1_t7 : Fin (k1_t7_loop v178).trips), ∀ a, (k1_off39 v178 k1_t7) a + S1x1.size a ≤ S2x102.size a := fun v178 k1_hw11 k1_t7 => k1_hw11.2.2.2.2.2 k1_t7

def k1_off40 (v178 : BitVec 32) (k1_t7 : Fin (k1_t7_loop v178).trips) : Fin 3 → Nat :=
  let c0_i32_194 : BitVec 32 := 0#32
  let c0_i32_164 : BitVec 32 := 0#32
  let v179 : BitVec 32 := Scalar.subi v178 c0_i32_164
  let c1_i32_165 : BitVec 32 := 1#32
  let v181 : BitVec 32 := Scalar.divsi v179 c1_i32_165
  let v182 : BitVec 32 := Scalar.muli v181 c1_i32_165
  let v183 : BitVec 32 := Scalar.addi c0_i32_164 v182
  let c1_i32_167 : BitVec 32 := 1#32
  let arg16 : BitVec 32 := Scf.iv v183 c1_i32_167 k1_t7
  let v204 : BitVec 32 := Scalar.addi c0_i32_194 arg16
  let v215 : Index := Scalar.indexCast v204
  let c0_199 : Index := 0#32
  let c0_200 : Index := 0#32
  ![v215.toNat, 0, 0]
def k1_cond10 (d0 : Dev nD) (v211 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v212 : BitVec 1 := Scalar.cmpi .eq v211 v2
  let v213 : BitVec 32 := Scalar.extui v212
  let c0_i32_198 : BitVec 32 := 0#32
  let v214 : BitVec 1 := Scalar.cmpi .ne v213 c0_i32_198
  v214

def k1_off41 (v178 : BitVec 32) (k1_t7 : Fin (k1_t7_loop v178).trips) : Fin 2 → Nat :=
  let c0_201 : Index := 0#32
  let c0_i32_164 : BitVec 32 := 0#32
  let v179 : BitVec 32 := Scalar.subi v178 c0_i32_164
  let c1_i32_165 : BitVec 32 := 1#32
  let v181 : BitVec 32 := Scalar.divsi v179 c1_i32_165
  let v182 : BitVec 32 := Scalar.muli v181 c1_i32_165
  let v183 : BitVec 32 := Scalar.addi c0_i32_164 v182
  let c1_i32_167 : BitVec 32 := 1#32
  let arg16 : BitVec 32 := Scf.iv v183 c1_i32_167 k1_t7
  let v218 : Index := Scalar.indexCast arg16
  ![0, v218.toNat]

def k1_chk22 (d0 : Dev nD) (v178 : BitVec 32) (k1_t7 : Fin (k1_t7_loop v178).trips) (v211 : BitVec 32) : Prop :=
  (∀ (k1_h10 : k1_cond10 d0 v211 = 1#1), ∀ a, (k1_off40 v178 k1_t7) a + S1x1x256.size a ≤ S204x1x256.size a) ∧
  (∀ (k1_h10 : k1_cond10 d0 v211 = 1#1), ∀ a, (k1_off41 v178 k1_t7) a + S1x1.size a ≤ S2x102.size a)
theorem k1_off40_inb : ∀ (d0 : Dev nD) (v178 : BitVec 32) (k1_t7 : Fin (k1_t7_loop v178).trips) (v211 : BitVec 32) (k1_hw22 : k1_chk22 d0 v178 k1_t7 v211), ∀ (k1_h10 : k1_cond10 d0 v211 = 1#1), ∀ a, (k1_off40 v178 k1_t7) a + S1x1x256.size a ≤ S204x1x256.size a := fun d0 v178 k1_t7 v211 k1_hw22 k1_h10 => k1_hw22.1 k1_h10
theorem k1_off41_inb : ∀ (d0 : Dev nD) (v178 : BitVec 32) (k1_t7 : Fin (k1_t7_loop v178).trips) (v211 : BitVec 32) (k1_hw22 : k1_chk22 d0 v178 k1_t7 v211), ∀ (k1_h10 : k1_cond10 d0 v211 = 1#1), ∀ a, (k1_off41 v178 k1_t7) a + S1x1.size a ≤ S2x102.size a := fun d0 v178 k1_t7 v211 k1_hw22 k1_h10 => k1_hw22.2 k1_h10

def k1_off42 (v219 : BitVec 32) : Fin 3 → Nat :=
  let v220 : Index := Scalar.indexCast v219
  let c0_202 : Index := 0#32
  let c0_203 : Index := 0#32
  ![v220.toNat, 0, 0]

def k1_chk23 (d0 : Dev nD) (v211 : BitVec 32) (v219 : BitVec 32) : Prop :=
  (∀ (k1_h10 : k1_cond10 d0 v211 = 1#1), ∀ a, (k1_off42 v219) a + S1x1x256.size a ≤ S256x1x256.size a)
theorem k1_off42_inb : ∀ (d0 : Dev nD) (v211 : BitVec 32) (v219 : BitVec 32) (k1_hw23 : k1_chk23 d0 v211 v219), ∀ (k1_h10 : k1_cond10 d0 v211 = 1#1), ∀ a, (k1_off42 v219) a + S1x1x256.size a ≤ S256x1x256.size a := fun d0 v211 v219 k1_hw23 k1_h10 => k1_hw23 k1_h10

@[reducible] def k1_t8_loop (v184 : BitVec 32) : Scf.Loop 32 :=
  let c0_i32_170 : BitVec 32 := 0#32
  let v185 : BitVec 32 := Scalar.subi v184 c0_i32_170
  let c1_i32_171 : BitVec 32 := 1#32
  let v187 : BitVec 32 := Scalar.divsi v185 c1_i32_171
  let v188 : BitVec 32 := Scalar.muli v187 c1_i32_171
  let v189 : BitVec 32 := Scalar.addi c0_i32_170 v188
  let c1_i32_172 : BitVec 32 := 1#32
  ⟨c0_i32_170, v189, c1_i32_172⟩

def k1_off43 (v184 : BitVec 32) (k1_t8 : Fin (k1_t8_loop v184).trips) : Fin 2 → Nat :=
  let c1_194 : Index := 1#32
  let c0_i32_170 : BitVec 32 := 0#32
  let c1_i32_172 : BitVec 32 := 1#32
  let arg16 : BitVec 32 := Scf.iv c0_i32_170 c1_i32_172 k1_t8
  let v205 : Index := Scalar.indexCast arg16
  ![1, v205.toNat]
def k1_off44 (v184 : BitVec 32) (k1_t8 : Fin (k1_t8_loop v184).trips) : Fin 2 → Nat :=
  let c1_198 : Index := 1#32
  let c0_i32_170 : BitVec 32 := 0#32
  let c1_i32_172 : BitVec 32 := 1#32
  let arg16 : BitVec 32 := Scf.iv c0_i32_170 c1_i32_172 k1_t8
  let v215 : Index := Scalar.indexCast arg16
  ![1, v215.toNat]
def k1_cond11 (d0 : Dev nD) (v206 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v207 : BitVec 1 := Scalar.cmpi .ne v206 v2
  let v208 : BitVec 32 := Scalar.extui v207
  let c0_i32_195 : BitVec 32 := 0#32
  let v209 : BitVec 1 := Scalar.cmpi .ne v208 c0_i32_195
  v209

def k1_off45 (v184 : BitVec 32) (k1_t8 : Fin (k1_t8_loop v184).trips) : Fin 1 → Nat :=
  let c102_i32 : BitVec 32 := 102#32
  let c0_i32_170 : BitVec 32 := 0#32
  let c1_i32_172 : BitVec 32 := 1#32
  let arg16 : BitVec 32 := Scf.iv c0_i32_170 c1_i32_172 k1_t8
  let v204 : BitVec 32 := Scalar.addi c102_i32 arg16
  ![v204.toNat]
def k1_off46 (v218 : BitVec 32) : Fin 1 → Nat :=
  ![v218.toNat]

def k1_chk26 (d0 : Dev nD) (v206 : BitVec 32) (v218 : BitVec 32) : Prop :=
  (∀ (k1_h11 : k1_cond11 d0 v206 = 1#1), ∀ a, (k1_off46 v218) a + S1.size a ≤ S256.size a)
theorem k1_off46_inb : ∀ (d0 : Dev nD) (v206 : BitVec 32) (v218 : BitVec 32) (k1_hw26 : k1_chk26 d0 v206 v218), ∀ (k1_h11 : k1_cond11 d0 v206 = 1#1), ∀ a, (k1_off46 v218) a + S1.size a ≤ S256.size a := fun d0 v206 v218 k1_hw26 k1_h11 => k1_hw26 k1_h11

def k1_off47 (v216 : BitVec 32) : Fin 3 → Nat :=
  let c0_i32_203 : BitVec 32 := 0#32
  let c0_i32_204 : BitVec 32 := 0#32
  ![v216.toNat, 0, 0]

def k1_chk27 (d0 : Dev nD) (v206 : BitVec 32) (v216 : BitVec 32) : Prop :=
  (∀ (k1_h11 : k1_cond11 d0 v206 = 1#1), ∀ a, (k1_off47 v216) a + S1x1x256.size a ≤ S256x1x256.size a)
theorem k1_off47_inb : ∀ (d0 : Dev nD) (v206 : BitVec 32) (v216 : BitVec 32) (k1_hw27 : k1_chk27 d0 v206 v216), ∀ (k1_h11 : k1_cond11 d0 v206 = 1#1), ∀ a, (k1_off47 v216) a + S1x1x256.size a ≤ S256x1x256.size a := fun d0 v206 v216 k1_hw27 k1_h11 => k1_hw27 k1_h11

def k1_off48 (v184 : BitVec 32) (k1_t8 : Fin (k1_t8_loop v184).trips) : Fin 3 → Nat :=
  let c102_i32 : BitVec 32 := 102#32
  let c0_i32_170 : BitVec 32 := 0#32
  let c1_i32_172 : BitVec 32 := 1#32
  let arg16 : BitVec 32 := Scf.iv c0_i32_170 c1_i32_172 k1_t8
  let v204 : BitVec 32 := Scalar.addi c102_i32 arg16
  let c0_i32_205 : BitVec 32 := 0#32
  let c0_i32_206 : BitVec 32 := 0#32
  ![v204.toNat, 0, 0]

def k1_chk25 (d0 : Dev nD) (v184 : BitVec 32) (k1_t8 : Fin (k1_t8_loop v184).trips) (v206 : BitVec 32) : Prop :=
  (∀ (k1_h11 : k1_cond11 d0 v206 = 1#1), ∀ a, (k1_off44 v184 k1_t8) a + S1x1.size a ≤ S2x102.size a) ∧
  (∀ (k1_h11 : k1_cond11 d0 v206 = 1#1), ∀ a, (k1_off45 v184 k1_t8) a + S1.size a ≤ S204.size a) ∧
  (∀ (k1_h11 : k1_cond11 d0 v206 = 1#1), ∀ a, (k1_off48 v184 k1_t8) a + S1x1x256.size a ≤ S204x1x256.size a)
theorem k1_off44_inb : ∀ (d0 : Dev nD) (v184 : BitVec 32) (k1_t8 : Fin (k1_t8_loop v184).trips) (v206 : BitVec 32) (k1_hw25 : k1_chk25 d0 v184 k1_t8 v206), ∀ (k1_h11 : k1_cond11 d0 v206 = 1#1), ∀ a, (k1_off44 v184 k1_t8) a + S1x1.size a ≤ S2x102.size a := fun d0 v184 k1_t8 v206 k1_hw25 k1_h11 => k1_hw25.1 k1_h11
theorem k1_off45_inb : ∀ (d0 : Dev nD) (v184 : BitVec 32) (k1_t8 : Fin (k1_t8_loop v184).trips) (v206 : BitVec 32) (k1_hw25 : k1_chk25 d0 v184 k1_t8 v206), ∀ (k1_h11 : k1_cond11 d0 v206 = 1#1), ∀ a, (k1_off45 v184 k1_t8) a + S1.size a ≤ S204.size a := fun d0 v184 k1_t8 v206 k1_hw25 k1_h11 => k1_hw25.2.1 k1_h11
theorem k1_off48_inb : ∀ (d0 : Dev nD) (v184 : BitVec 32) (k1_t8 : Fin (k1_t8_loop v184).trips) (v206 : BitVec 32) (k1_hw25 : k1_chk25 d0 v184 k1_t8 v206), ∀ (k1_h11 : k1_cond11 d0 v206 = 1#1), ∀ a, (k1_off48 v184 k1_t8) a + S1x1x256.size a ≤ S204x1x256.size a := fun d0 v184 k1_t8 v206 k1_hw25 k1_h11 => k1_hw25.2.2 k1_h11

def k1_dev35 (v220 : BitVec 32) : Nat :=
  let c0_i32_202 : BitVec 32 := 0#32
  let c1_i32_201 : BitVec 32 := 1#32
  let v221 : BitVec 32 := Scalar.muli v220 c1_i32_201
  let v222 : BitVec 32 := Scalar.addi c0_i32_202 v221
  v222.toNat

def k1_chk28 (d0 : Dev nD) (v206 : BitVec 32) (v220 : BitVec 32) : Prop :=
  (∀ (k1_h11 : k1_cond11 d0 v206 = 1#1), (k1_dev35 v220) < nD)
theorem k1_dev35_lt : ∀ (d0 : Dev nD) (v206 : BitVec 32) (v220 : BitVec 32) (k1_hw28 : k1_chk28 d0 v206 v220), ∀ (k1_h11 : k1_cond11 d0 v206 = 1#1), (k1_dev35 v220) < nD := fun d0 v206 v220 k1_hw28 k1_h11 => k1_hw28 k1_h11

def k1_off49 (v184 : BitVec 32) (k1_t8 : Fin (k1_t8_loop v184).trips) : Fin 2 → Nat :=
  let c1_196 : Index := 1#32
  let c0_i32_170 : BitVec 32 := 0#32
  let c1_i32_172 : BitVec 32 := 1#32
  let arg16 : BitVec 32 := Scf.iv c0_i32_170 c1_i32_172 k1_t8
  let v210 : Index := Scalar.indexCast arg16
  ![1, v210.toNat]
def k1_off50 (v184 : BitVec 32) (k1_t8 : Fin (k1_t8_loop v184).trips) : Fin 3 → Nat :=
  let c102_i32 : BitVec 32 := 102#32
  let c0_i32_170 : BitVec 32 := 0#32
  let c1_i32_172 : BitVec 32 := 1#32
  let arg16 : BitVec 32 := Scf.iv c0_i32_170 c1_i32_172 k1_t8
  let v204 : BitVec 32 := Scalar.addi c102_i32 arg16
  let v215 : Index := Scalar.indexCast v204
  let c0_198 : Index := 0#32
  let c0_199 : Index := 0#32
  ![v215.toNat, 0, 0]
def k1_cond12 (d0 : Dev nD) (v211 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v212 : BitVec 1 := Scalar.cmpi .eq v211 v2
  let v213 : BitVec 32 := Scalar.extui v212
  let c0_i32_197 : BitVec 32 := 0#32
  let v214 : BitVec 1 := Scalar.cmpi .ne v213 c0_i32_197
  v214

def k1_off51 (v184 : BitVec 32) (k1_t8 : Fin (k1_t8_loop v184).trips) : Fin 2 → Nat :=
  let c1_200 : Index := 1#32
  let c0_i32_170 : BitVec 32 := 0#32
  let c1_i32_172 : BitVec 32 := 1#32
  let arg16 : BitVec 32 := Scf.iv c0_i32_170 c1_i32_172 k1_t8
  let v218 : Index := Scalar.indexCast arg16
  ![1, v218.toNat]

def k1_chk29 (d0 : Dev nD) (v184 : BitVec 32) (k1_t8 : Fin (k1_t8_loop v184).trips) (v211 : BitVec 32) : Prop :=
  (∀ (k1_h12 : k1_cond12 d0 v211 = 1#1), ∀ a, (k1_off50 v184 k1_t8) a + S1x1x256.size a ≤ S204x1x256.size a) ∧
  (∀ (k1_h12 : k1_cond12 d0 v211 = 1#1), ∀ a, (k1_off51 v184 k1_t8) a + S1x1.size a ≤ S2x102.size a)
theorem k1_off50_inb : ∀ (d0 : Dev nD) (v184 : BitVec 32) (k1_t8 : Fin (k1_t8_loop v184).trips) (v211 : BitVec 32) (k1_hw29 : k1_chk29 d0 v184 k1_t8 v211), ∀ (k1_h12 : k1_cond12 d0 v211 = 1#1), ∀ a, (k1_off50 v184 k1_t8) a + S1x1x256.size a ≤ S204x1x256.size a := fun d0 v184 k1_t8 v211 k1_hw29 k1_h12 => k1_hw29.1 k1_h12
theorem k1_off51_inb : ∀ (d0 : Dev nD) (v184 : BitVec 32) (k1_t8 : Fin (k1_t8_loop v184).trips) (v211 : BitVec 32) (k1_hw29 : k1_chk29 d0 v184 k1_t8 v211), ∀ (k1_h12 : k1_cond12 d0 v211 = 1#1), ∀ a, (k1_off51 v184 k1_t8) a + S1x1.size a ≤ S2x102.size a := fun d0 v184 k1_t8 v211 k1_hw29 k1_h12 => k1_hw29.2 k1_h12

def k1_off52 (v219 : BitVec 32) : Fin 3 → Nat :=
  let v220 : Index := Scalar.indexCast v219
  let c0_201 : Index := 0#32
  let c0_202 : Index := 0#32
  ![v220.toNat, 0, 0]

def k1_chk30 (d0 : Dev nD) (v211 : BitVec 32) (v219 : BitVec 32) : Prop :=
  (∀ (k1_h12 : k1_cond12 d0 v211 = 1#1), ∀ a, (k1_off52 v219) a + S1x1x256.size a ≤ S256x1x256.size a)
theorem k1_off52_inb : ∀ (d0 : Dev nD) (v211 : BitVec 32) (v219 : BitVec 32) (k1_hw30 : k1_chk30 d0 v211 v219), ∀ (k1_h12 : k1_cond12 d0 v211 = 1#1), ∀ a, (k1_off52 v219) a + S1x1x256.size a ≤ S256x1x256.size a := fun d0 v211 v219 k1_hw30 k1_h12 => k1_hw30 k1_h12

@[reducible] def k1_t9_loop (v184 : BitVec 32) : Scf.Loop 32 :=
  let c0_i32_170 : BitVec 32 := 0#32
  let v185 : BitVec 32 := Scalar.subi v184 c0_i32_170
  let c1_i32_171 : BitVec 32 := 1#32
  let v187 : BitVec 32 := Scalar.divsi v185 c1_i32_171
  let v188 : BitVec 32 := Scalar.muli v187 c1_i32_171
  let v189 : BitVec 32 := Scalar.addi c0_i32_170 v188
  let v186 : BitVec 32 := Scalar.addi c0_i32_170 v185
  let c1_i32_173 : BitVec 32 := 1#32
  ⟨v189, v186, c1_i32_173⟩
def k1_off53 (v184 : BitVec 32) (k1_t9 : Fin (k1_t9_loop v184).trips) : Fin 2 → Nat :=
  let c1_194 : Index := 1#32
  let c0_i32_170 : BitVec 32 := 0#32
  let v185 : BitVec 32 := Scalar.subi v184 c0_i32_170
  let c1_i32_171 : BitVec 32 := 1#32
  let v187 : BitVec 32 := Scalar.divsi v185 c1_i32_171
  let v188 : BitVec 32 := Scalar.muli v187 c1_i32_171
  let v189 : BitVec 32 := Scalar.addi c0_i32_170 v188
  let c1_i32_173 : BitVec 32 := 1#32
  let arg16 : BitVec 32 := Scf.iv v189 c1_i32_173 k1_t9
  let v205 : Index := Scalar.indexCast arg16
  ![1, v205.toNat]
def k1_off54 (v184 : BitVec 32) (k1_t9 : Fin (k1_t9_loop v184).trips) : Fin 2 → Nat :=
  let c1_198 : Index := 1#32
  let c0_i32_170 : BitVec 32 := 0#32
  let v185 : BitVec 32 := Scalar.subi v184 c0_i32_170
  let c1_i32_171 : BitVec 32 := 1#32
  let v187 : BitVec 32 := Scalar.divsi v185 c1_i32_171
  let v188 : BitVec 32 := Scalar.muli v187 c1_i32_171
  let v189 : BitVec 32 := Scalar.addi c0_i32_170 v188
  let c1_i32_173 : BitVec 32 := 1#32
  let arg16 : BitVec 32 := Scf.iv v189 c1_i32_173 k1_t9
  let v215 : Index := Scalar.indexCast arg16
  ![1, v215.toNat]
def k1_cond13 (d0 : Dev nD) (v206 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v207 : BitVec 1 := Scalar.cmpi .ne v206 v2
  let v208 : BitVec 32 := Scalar.extui v207
  let c0_i32_195 : BitVec 32 := 0#32
  let v209 : BitVec 1 := Scalar.cmpi .ne v208 c0_i32_195
  v209

def k1_off55 (v184 : BitVec 32) (k1_t9 : Fin (k1_t9_loop v184).trips) : Fin 1 → Nat :=
  let c102_i32 : BitVec 32 := 102#32
  let c0_i32_170 : BitVec 32 := 0#32
  let v185 : BitVec 32 := Scalar.subi v184 c0_i32_170
  let c1_i32_171 : BitVec 32 := 1#32
  let v187 : BitVec 32 := Scalar.divsi v185 c1_i32_171
  let v188 : BitVec 32 := Scalar.muli v187 c1_i32_171
  let v189 : BitVec 32 := Scalar.addi c0_i32_170 v188
  let c1_i32_173 : BitVec 32 := 1#32
  let arg16 : BitVec 32 := Scf.iv v189 c1_i32_173 k1_t9
  let v204 : BitVec 32 := Scalar.addi c102_i32 arg16
  ![v204.toNat]
def k1_off56 (v218 : BitVec 32) : Fin 1 → Nat :=
  ![v218.toNat]

def k1_chk32 (d0 : Dev nD) (v206 : BitVec 32) (v218 : BitVec 32) : Prop :=
  (∀ (k1_h13 : k1_cond13 d0 v206 = 1#1), ∀ a, (k1_off56 v218) a + S1.size a ≤ S256.size a)
theorem k1_off56_inb : ∀ (d0 : Dev nD) (v206 : BitVec 32) (v218 : BitVec 32) (k1_hw32 : k1_chk32 d0 v206 v218), ∀ (k1_h13 : k1_cond13 d0 v206 = 1#1), ∀ a, (k1_off56 v218) a + S1.size a ≤ S256.size a := fun d0 v206 v218 k1_hw32 k1_h13 => k1_hw32 k1_h13

def k1_off57 (v216 : BitVec 32) : Fin 3 → Nat :=
  let c0_i32_203 : BitVec 32 := 0#32
  let c0_i32_204 : BitVec 32 := 0#32
  ![v216.toNat, 0, 0]

def k1_chk33 (d0 : Dev nD) (v206 : BitVec 32) (v216 : BitVec 32) : Prop :=
  (∀ (k1_h13 : k1_cond13 d0 v206 = 1#1), ∀ a, (k1_off57 v216) a + S1x1x256.size a ≤ S256x1x256.size a)
theorem k1_off57_inb : ∀ (d0 : Dev nD) (v206 : BitVec 32) (v216 : BitVec 32) (k1_hw33 : k1_chk33 d0 v206 v216), ∀ (k1_h13 : k1_cond13 d0 v206 = 1#1), ∀ a, (k1_off57 v216) a + S1x1x256.size a ≤ S256x1x256.size a := fun d0 v206 v216 k1_hw33 k1_h13 => k1_hw33 k1_h13

def k1_off58 (v184 : BitVec 32) (k1_t9 : Fin (k1_t9_loop v184).trips) : Fin 3 → Nat :=
  let c102_i32 : BitVec 32 := 102#32
  let c0_i32_170 : BitVec 32 := 0#32
  let v185 : BitVec 32 := Scalar.subi v184 c0_i32_170
  let c1_i32_171 : BitVec 32 := 1#32
  let v187 : BitVec 32 := Scalar.divsi v185 c1_i32_171
  let v188 : BitVec 32 := Scalar.muli v187 c1_i32_171
  let v189 : BitVec 32 := Scalar.addi c0_i32_170 v188
  let c1_i32_173 : BitVec 32 := 1#32
  let arg16 : BitVec 32 := Scf.iv v189 c1_i32_173 k1_t9
  let v204 : BitVec 32 := Scalar.addi c102_i32 arg16
  let c0_i32_205 : BitVec 32 := 0#32
  let c0_i32_206 : BitVec 32 := 0#32
  ![v204.toNat, 0, 0]

def k1_chk31 (d0 : Dev nD) (v184 : BitVec 32) (k1_t9 : Fin (k1_t9_loop v184).trips) (v206 : BitVec 32) : Prop :=
  (∀ (k1_h13 : k1_cond13 d0 v206 = 1#1), ∀ a, (k1_off54 v184 k1_t9) a + S1x1.size a ≤ S2x102.size a) ∧
  (∀ (k1_h13 : k1_cond13 d0 v206 = 1#1), ∀ a, (k1_off55 v184 k1_t9) a + S1.size a ≤ S204.size a) ∧
  (∀ (k1_h13 : k1_cond13 d0 v206 = 1#1), ∀ a, (k1_off58 v184 k1_t9) a + S1x1x256.size a ≤ S204x1x256.size a)
theorem k1_off54_inb : ∀ (d0 : Dev nD) (v184 : BitVec 32) (k1_t9 : Fin (k1_t9_loop v184).trips) (v206 : BitVec 32) (k1_hw31 : k1_chk31 d0 v184 k1_t9 v206), ∀ (k1_h13 : k1_cond13 d0 v206 = 1#1), ∀ a, (k1_off54 v184 k1_t9) a + S1x1.size a ≤ S2x102.size a := fun d0 v184 k1_t9 v206 k1_hw31 k1_h13 => k1_hw31.1 k1_h13
theorem k1_off55_inb : ∀ (d0 : Dev nD) (v184 : BitVec 32) (k1_t9 : Fin (k1_t9_loop v184).trips) (v206 : BitVec 32) (k1_hw31 : k1_chk31 d0 v184 k1_t9 v206), ∀ (k1_h13 : k1_cond13 d0 v206 = 1#1), ∀ a, (k1_off55 v184 k1_t9) a + S1.size a ≤ S204.size a := fun d0 v184 k1_t9 v206 k1_hw31 k1_h13 => k1_hw31.2.1 k1_h13
theorem k1_off58_inb : ∀ (d0 : Dev nD) (v184 : BitVec 32) (k1_t9 : Fin (k1_t9_loop v184).trips) (v206 : BitVec 32) (k1_hw31 : k1_chk31 d0 v184 k1_t9 v206), ∀ (k1_h13 : k1_cond13 d0 v206 = 1#1), ∀ a, (k1_off58 v184 k1_t9) a + S1x1x256.size a ≤ S204x1x256.size a := fun d0 v184 k1_t9 v206 k1_hw31 k1_h13 => k1_hw31.2.2 k1_h13

def k1_dev36 (v220 : BitVec 32) : Nat :=
  let c0_i32_202 : BitVec 32 := 0#32
  let c1_i32_201 : BitVec 32 := 1#32
  let v221 : BitVec 32 := Scalar.muli v220 c1_i32_201
  let v222 : BitVec 32 := Scalar.addi c0_i32_202 v221
  v222.toNat

def k1_chk34 (d0 : Dev nD) (v206 : BitVec 32) (v220 : BitVec 32) : Prop :=
  (∀ (k1_h13 : k1_cond13 d0 v206 = 1#1), (k1_dev36 v220) < nD)
theorem k1_dev36_lt : ∀ (d0 : Dev nD) (v206 : BitVec 32) (v220 : BitVec 32) (k1_hw34 : k1_chk34 d0 v206 v220), ∀ (k1_h13 : k1_cond13 d0 v206 = 1#1), (k1_dev36 v220) < nD := fun d0 v206 v220 k1_hw34 k1_h13 => k1_hw34 k1_h13

def k1_off59 (v184 : BitVec 32) (k1_t9 : Fin (k1_t9_loop v184).trips) : Fin 2 → Nat :=
  let c1_196 : Index := 1#32
  let c0_i32_170 : BitVec 32 := 0#32
  let v185 : BitVec 32 := Scalar.subi v184 c0_i32_170
  let c1_i32_171 : BitVec 32 := 1#32
  let v187 : BitVec 32 := Scalar.divsi v185 c1_i32_171
  let v188 : BitVec 32 := Scalar.muli v187 c1_i32_171
  let v189 : BitVec 32 := Scalar.addi c0_i32_170 v188
  let c1_i32_173 : BitVec 32 := 1#32
  let arg16 : BitVec 32 := Scf.iv v189 c1_i32_173 k1_t9
  let v210 : Index := Scalar.indexCast arg16
  ![1, v210.toNat]

def k1_chk24 (v184 : BitVec 32) : Prop :=
  ((k1_t8_loop v184).OK) ∧
  (∀ k1_t8 : Fin (k1_t8_loop v184).trips, ∀ a, (k1_off43 v184 k1_t8) a + S1x1.size a ≤ S2x102.size a) ∧
  (∀ k1_t8 : Fin (k1_t8_loop v184).trips, ∀ a, (k1_off49 v184 k1_t8) a + S1x1.size a ≤ S2x102.size a) ∧
  ((k1_t9_loop v184).OK) ∧
  (∀ k1_t9 : Fin (k1_t9_loop v184).trips, ∀ a, (k1_off53 v184 k1_t9) a + S1x1.size a ≤ S2x102.size a) ∧
  (∀ k1_t9 : Fin (k1_t9_loop v184).trips, ∀ a, (k1_off59 v184 k1_t9) a + S1x1.size a ≤ S2x102.size a)
theorem k1_t8_ok : ∀ (v184 : BitVec 32) (k1_hw24 : k1_chk24 v184), (k1_t8_loop v184).OK := fun v184 k1_hw24 => k1_hw24.1
theorem k1_off43_inb : ∀ (v184 : BitVec 32) (k1_hw24 : k1_chk24 v184) (k1_t8 : Fin (k1_t8_loop v184).trips), ∀ a, (k1_off43 v184 k1_t8) a + S1x1.size a ≤ S2x102.size a := fun v184 k1_hw24 k1_t8 => k1_hw24.2.1 k1_t8
theorem k1_off49_inb : ∀ (v184 : BitVec 32) (k1_hw24 : k1_chk24 v184) (k1_t8 : Fin (k1_t8_loop v184).trips), ∀ a, (k1_off49 v184 k1_t8) a + S1x1.size a ≤ S2x102.size a := fun v184 k1_hw24 k1_t8 => k1_hw24.2.2.1 k1_t8
theorem k1_t9_ok : ∀ (v184 : BitVec 32) (k1_hw24 : k1_chk24 v184), (k1_t9_loop v184).OK := fun v184 k1_hw24 => k1_hw24.2.2.2.1
theorem k1_off53_inb : ∀ (v184 : BitVec 32) (k1_hw24 : k1_chk24 v184) (k1_t9 : Fin (k1_t9_loop v184).trips), ∀ a, (k1_off53 v184 k1_t9) a + S1x1.size a ≤ S2x102.size a := fun v184 k1_hw24 k1_t9 => k1_hw24.2.2.2.2.1 k1_t9
theorem k1_off59_inb : ∀ (v184 : BitVec 32) (k1_hw24 : k1_chk24 v184) (k1_t9 : Fin (k1_t9_loop v184).trips), ∀ a, (k1_off59 v184 k1_t9) a + S1x1.size a ≤ S2x102.size a := fun v184 k1_hw24 k1_t9 => k1_hw24.2.2.2.2.2 k1_t9

def k1_off60 (v184 : BitVec 32) (k1_t9 : Fin (k1_t9_loop v184).trips) : Fin 3 → Nat :=
  let c102_i32 : BitVec 32 := 102#32
  let c0_i32_170 : BitVec 32 := 0#32
  let v185 : BitVec 32 := Scalar.subi v184 c0_i32_170
  let c1_i32_171 : BitVec 32 := 1#32
  let v187 : BitVec 32 := Scalar.divsi v185 c1_i32_171
  let v188 : BitVec 32 := Scalar.muli v187 c1_i32_171
  let v189 : BitVec 32 := Scalar.addi c0_i32_170 v188
  let c1_i32_173 : BitVec 32 := 1#32
  let arg16 : BitVec 32 := Scf.iv v189 c1_i32_173 k1_t9
  let v204 : BitVec 32 := Scalar.addi c102_i32 arg16
  let v215 : Index := Scalar.indexCast v204
  let c0_198 : Index := 0#32
  let c0_199 : Index := 0#32
  ![v215.toNat, 0, 0]
def k1_cond14 (d0 : Dev nD) (v211 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v212 : BitVec 1 := Scalar.cmpi .eq v211 v2
  let v213 : BitVec 32 := Scalar.extui v212
  let c0_i32_197 : BitVec 32 := 0#32
  let v214 : BitVec 1 := Scalar.cmpi .ne v213 c0_i32_197
  v214

def k1_off61 (v184 : BitVec 32) (k1_t9 : Fin (k1_t9_loop v184).trips) : Fin 2 → Nat :=
  let c1_200 : Index := 1#32
  let c0_i32_170 : BitVec 32 := 0#32
  let v185 : BitVec 32 := Scalar.subi v184 c0_i32_170
  let c1_i32_171 : BitVec 32 := 1#32
  let v187 : BitVec 32 := Scalar.divsi v185 c1_i32_171
  let v188 : BitVec 32 := Scalar.muli v187 c1_i32_171
  let v189 : BitVec 32 := Scalar.addi c0_i32_170 v188
  let c1_i32_173 : BitVec 32 := 1#32
  let arg16 : BitVec 32 := Scf.iv v189 c1_i32_173 k1_t9
  let v218 : Index := Scalar.indexCast arg16
  ![1, v218.toNat]

def k1_chk35 (d0 : Dev nD) (v184 : BitVec 32) (k1_t9 : Fin (k1_t9_loop v184).trips) (v211 : BitVec 32) : Prop :=
  (∀ (k1_h14 : k1_cond14 d0 v211 = 1#1), ∀ a, (k1_off60 v184 k1_t9) a + S1x1x256.size a ≤ S204x1x256.size a) ∧
  (∀ (k1_h14 : k1_cond14 d0 v211 = 1#1), ∀ a, (k1_off61 v184 k1_t9) a + S1x1.size a ≤ S2x102.size a)
theorem k1_off60_inb : ∀ (d0 : Dev nD) (v184 : BitVec 32) (k1_t9 : Fin (k1_t9_loop v184).trips) (v211 : BitVec 32) (k1_hw35 : k1_chk35 d0 v184 k1_t9 v211), ∀ (k1_h14 : k1_cond14 d0 v211 = 1#1), ∀ a, (k1_off60 v184 k1_t9) a + S1x1x256.size a ≤ S204x1x256.size a := fun d0 v184 k1_t9 v211 k1_hw35 k1_h14 => k1_hw35.1 k1_h14
theorem k1_off61_inb : ∀ (d0 : Dev nD) (v184 : BitVec 32) (k1_t9 : Fin (k1_t9_loop v184).trips) (v211 : BitVec 32) (k1_hw35 : k1_chk35 d0 v184 k1_t9 v211), ∀ (k1_h14 : k1_cond14 d0 v211 = 1#1), ∀ a, (k1_off61 v184 k1_t9) a + S1x1.size a ≤ S2x102.size a := fun d0 v184 k1_t9 v211 k1_hw35 k1_h14 => k1_hw35.2 k1_h14

def k1_off62 (v219 : BitVec 32) : Fin 3 → Nat :=
  let v220 : Index := Scalar.indexCast v219
  let c0_201 : Index := 0#32
  let c0_202 : Index := 0#32
  ![v220.toNat, 0, 0]

def k1_chk36 (d0 : Dev nD) (v211 : BitVec 32) (v219 : BitVec 32) : Prop :=
  (∀ (k1_h14 : k1_cond14 d0 v211 = 1#1), ∀ a, (k1_off62 v219) a + S1x1x256.size a ≤ S256x1x256.size a)
theorem k1_off62_inb : ∀ (d0 : Dev nD) (v211 : BitVec 32) (v219 : BitVec 32) (k1_hw36 : k1_chk36 d0 v211 v219), ∀ (k1_h14 : k1_cond14 d0 v211 = 1#1), ∀ a, (k1_off62 v219) a + S1x1x256.size a ≤ S256x1x256.size a := fun d0 v211 v219 k1_hw36 k1_h14 => k1_hw36 k1_h14

@[reducible] def k1_t10_loop : Scf.Loop 32 :=
  let c0_i32_174 : BitVec 32 := 0#32
  let c256_i32_175 : BitVec 32 := 256#32
  let v190 : BitVec 32 := Scalar.addi c0_i32_174 c256_i32_175
  let c1_i32_176 : BitVec 32 := 1#32
  ⟨c0_i32_174, v190, c1_i32_176⟩
def k1_off63 (k1_t10 : Fin k1_t10_loop.trips) : Fin 1 → Nat :=
  let c0_i32_174 : BitVec 32 := 0#32
  let c1_i32_176 : BitVec 32 := 1#32
  let arg16 : BitVec 32 := Scf.iv c0_i32_174 c1_i32_176 k1_t10
  let v204 : Index := Scalar.indexCast arg16
  ![v204.toNat]
def k1_off64 (k1_t10 : Fin k1_t10_loop.trips) : Fin 1 → Nat :=
  let c0_i32_174 : BitVec 32 := 0#32
  let c1_i32_176 : BitVec 32 := 1#32
  let arg16 : BitVec 32 := Scf.iv c0_i32_174 c1_i32_176 k1_t10
  ![arg16.toNat]
def k1_off65 (k1_t10 : Fin k1_t10_loop.trips) : Fin 3 → Nat :=
  let c0_i32_174 : BitVec 32 := 0#32
  let c1_i32_176 : BitVec 32 := 1#32
  let arg16 : BitVec 32 := Scf.iv c0_i32_174 c1_i32_176 k1_t10
  let c0_i32_200 : BitVec 32 := 0#32
  let c0_i32_201 : BitVec 32 := 0#32
  ![arg16.toNat, 0, 0]
@[reducible] def k1_t11_loop : Scf.Loop 32 :=
  let c0_i32_178 : BitVec 32 := 0#32
  let c256_i32_179 : BitVec 32 := 256#32
  let v191 : BitVec 32 := Scalar.addi c0_i32_178 c256_i32_179
  let c1_i32_180 : BitVec 32 := 1#32
  ⟨c0_i32_178, v191, c1_i32_180⟩
def k1_off66 (k1_t11 : Fin k1_t11_loop.trips) : Fin 1 → Nat :=
  let c0_i32_178 : BitVec 32 := 0#32
  let c1_i32_180 : BitVec 32 := 1#32
  let arg16 : BitVec 32 := Scf.iv c0_i32_178 c1_i32_180 k1_t11
  let v204 : Index := Scalar.indexCast arg16
  ![v204.toNat]
def k1_off67 (k1_t11 : Fin k1_t11_loop.trips) : Fin 1 → Nat :=
  let c0_i32_178 : BitVec 32 := 0#32
  let c1_i32_180 : BitVec 32 := 1#32
  let arg16 : BitVec 32 := Scf.iv c0_i32_178 c1_i32_180 k1_t11
  ![arg16.toNat]
def k1_off68 (k1_t11 : Fin k1_t11_loop.trips) : Fin 3 → Nat :=
  let c0_i32_178 : BitVec 32 := 0#32
  let c1_i32_180 : BitVec 32 := 1#32
  let arg16 : BitVec 32 := Scf.iv c0_i32_178 c1_i32_180 k1_t11
  let c0_i32_199 : BitVec 32 := 0#32
  let c0_i32_200 : BitVec 32 := 0#32
  ![arg16.toNat, 0, 0]
@[reducible] def k1_t12_loop (v192 : BitVec 32) : Scf.Loop 32 :=
  let c0_i32_184 : BitVec 32 := 0#32
  let v193 : BitVec 32 := Scalar.subi v192 c0_i32_184
  let c1_i32_185 : BitVec 32 := 1#32
  let v195 : BitVec 32 := Scalar.divsi v193 c1_i32_185
  let v196 : BitVec 32 := Scalar.muli v195 c1_i32_185
  let v197 : BitVec 32 := Scalar.addi c0_i32_184 v196
  let c1_i32_186 : BitVec 32 := 1#32
  ⟨c0_i32_184, v197, c1_i32_186⟩

def k1_off69 (v192 : BitVec 32) (k1_t12 : Fin (k1_t12_loop v192).trips) : Fin 2 → Nat :=
  let c0_195 : Index := 0#32
  let c0_i32_184 : BitVec 32 := 0#32
  let c1_i32_186 : BitVec 32 := 1#32
  let arg16 : BitVec 32 := Scf.iv c0_i32_184 c1_i32_186 k1_t12
  let v205 : Index := Scalar.indexCast arg16
  ![0, v205.toNat]
def k1_off70 (v192 : BitVec 32) (k1_t12 : Fin (k1_t12_loop v192).trips) : Fin 1 → Nat :=
  let c0_i32_194 : BitVec 32 := 0#32
  let c0_i32_184 : BitVec 32 := 0#32
  let c1_i32_186 : BitVec 32 := 1#32
  let arg16 : BitVec 32 := Scf.iv c0_i32_184 c1_i32_186 k1_t12
  let v204 : BitVec 32 := Scalar.addi c0_i32_194 arg16
  ![v204.toNat]
def k1_cond17 (d0 : Dev nD) (v206 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v207 : BitVec 1 := Scalar.cmpi .ne v206 v2
  let v208 : BitVec 32 := Scalar.extui v207
  let c0_i32_196 : BitVec 32 := 0#32
  let v209 : BitVec 1 := Scalar.cmpi .ne v208 c0_i32_196
  v209

def k1_off71 (v192 : BitVec 32) (k1_t12 : Fin (k1_t12_loop v192).trips) : Fin 3 → Nat :=
  let c0_i32_194 : BitVec 32 := 0#32
  let c0_i32_184 : BitVec 32 := 0#32
  let c1_i32_186 : BitVec 32 := 1#32
  let arg16 : BitVec 32 := Scf.iv c0_i32_184 c1_i32_186 k1_t12
  let v204 : BitVec 32 := Scalar.addi c0_i32_194 arg16
  let c0_i32_200 : BitVec 32 := 0#32
  let c0_i32_201 : BitVec 32 := 0#32
  ![v204.toNat, 0, 0]

def k1_chk38 (d0 : Dev nD) (v192 : BitVec 32) (k1_t12 : Fin (k1_t12_loop v192).trips) (v206 : BitVec 32) : Prop :=
  (∀ (k1_h17 : k1_cond17 d0 v206 = 1#1), ∀ a, (k1_off70 v192 k1_t12) a + S1.size a ≤ S204.size a) ∧
  (∀ (k1_h17 : k1_cond17 d0 v206 = 1#1), ∀ a, (k1_off71 v192 k1_t12) a + S1x1x256.size a ≤ S204x1x256.size a)
theorem k1_off70_inb : ∀ (d0 : Dev nD) (v192 : BitVec 32) (k1_t12 : Fin (k1_t12_loop v192).trips) (v206 : BitVec 32) (k1_hw38 : k1_chk38 d0 v192 k1_t12 v206), ∀ (k1_h17 : k1_cond17 d0 v206 = 1#1), ∀ a, (k1_off70 v192 k1_t12) a + S1.size a ≤ S204.size a := fun d0 v192 k1_t12 v206 k1_hw38 k1_h17 => k1_hw38.1 k1_h17
theorem k1_off71_inb : ∀ (d0 : Dev nD) (v192 : BitVec 32) (k1_t12 : Fin (k1_t12_loop v192).trips) (v206 : BitVec 32) (k1_hw38 : k1_chk38 d0 v192 k1_t12 v206), ∀ (k1_h17 : k1_cond17 d0 v206 = 1#1), ∀ a, (k1_off71 v192 k1_t12) a + S1x1x256.size a ≤ S204x1x256.size a := fun d0 v192 k1_t12 v206 k1_hw38 k1_h17 => k1_hw38.2 k1_h17

@[reducible] def k1_t13_loop (v192 : BitVec 32) : Scf.Loop 32 :=
  let c0_i32_184 : BitVec 32 := 0#32
  let v193 : BitVec 32 := Scalar.subi v192 c0_i32_184
  let c1_i32_185 : BitVec 32 := 1#32
  let v195 : BitVec 32 := Scalar.divsi v193 c1_i32_185
  let v196 : BitVec 32 := Scalar.muli v195 c1_i32_185
  let v197 : BitVec 32 := Scalar.addi c0_i32_184 v196
  let v194 : BitVec 32 := Scalar.addi c0_i32_184 v193
  let c1_i32_187 : BitVec 32 := 1#32
  ⟨v197, v194, c1_i32_187⟩
def k1_off72 (v192 : BitVec 32) (k1_t13 : Fin (k1_t13_loop v192).trips) : Fin 2 → Nat :=
  let c0_195 : Index := 0#32
  let c0_i32_184 : BitVec 32 := 0#32
  let v193 : BitVec 32 := Scalar.subi v192 c0_i32_184
  let c1_i32_185 : BitVec 32 := 1#32
  let v195 : BitVec 32 := Scalar.divsi v193 c1_i32_185
  let v196 : BitVec 32 := Scalar.muli v195 c1_i32_185
  let v197 : BitVec 32 := Scalar.addi c0_i32_184 v196
  let c1_i32_187 : BitVec 32 := 1#32
  let arg16 : BitVec 32 := Scf.iv v197 c1_i32_187 k1_t13
  let v205 : Index := Scalar.indexCast arg16
  ![0, v205.toNat]

def k1_chk37 (v192 : BitVec 32) : Prop :=
  ((k1_t12_loop v192).OK) ∧
  (∀ k1_t12 : Fin (k1_t12_loop v192).trips, ∀ a, (k1_off69 v192 k1_t12) a + S1x1.size a ≤ S2x102.size a) ∧
  ((k1_t13_loop v192).OK) ∧
  (∀ k1_t13 : Fin (k1_t13_loop v192).trips, ∀ a, (k1_off72 v192 k1_t13) a + S1x1.size a ≤ S2x102.size a)
theorem k1_t12_ok : ∀ (v192 : BitVec 32) (k1_hw37 : k1_chk37 v192), (k1_t12_loop v192).OK := fun v192 k1_hw37 => k1_hw37.1
theorem k1_off69_inb : ∀ (v192 : BitVec 32) (k1_hw37 : k1_chk37 v192) (k1_t12 : Fin (k1_t12_loop v192).trips), ∀ a, (k1_off69 v192 k1_t12) a + S1x1.size a ≤ S2x102.size a := fun v192 k1_hw37 k1_t12 => k1_hw37.2.1 k1_t12
theorem k1_t13_ok : ∀ (v192 : BitVec 32) (k1_hw37 : k1_chk37 v192), (k1_t13_loop v192).OK := fun v192 k1_hw37 => k1_hw37.2.2.1
theorem k1_off72_inb : ∀ (v192 : BitVec 32) (k1_hw37 : k1_chk37 v192) (k1_t13 : Fin (k1_t13_loop v192).trips), ∀ a, (k1_off72 v192 k1_t13) a + S1x1.size a ≤ S2x102.size a := fun v192 k1_hw37 k1_t13 => k1_hw37.2.2.2 k1_t13

def k1_off73 (v192 : BitVec 32) (k1_t13 : Fin (k1_t13_loop v192).trips) : Fin 1 → Nat :=
  let c0_i32_194 : BitVec 32 := 0#32
  let c0_i32_184 : BitVec 32 := 0#32
  let v193 : BitVec 32 := Scalar.subi v192 c0_i32_184
  let c1_i32_185 : BitVec 32 := 1#32
  let v195 : BitVec 32 := Scalar.divsi v193 c1_i32_185
  let v196 : BitVec 32 := Scalar.muli v195 c1_i32_185
  let v197 : BitVec 32 := Scalar.addi c0_i32_184 v196
  let c1_i32_187 : BitVec 32 := 1#32
  let arg16 : BitVec 32 := Scf.iv v197 c1_i32_187 k1_t13
  let v204 : BitVec 32 := Scalar.addi c0_i32_194 arg16
  ![v204.toNat]
def k1_cond18 (d0 : Dev nD) (v206 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v207 : BitVec 1 := Scalar.cmpi .ne v206 v2
  let v208 : BitVec 32 := Scalar.extui v207
  let c0_i32_196 : BitVec 32 := 0#32
  let v209 : BitVec 1 := Scalar.cmpi .ne v208 c0_i32_196
  v209

def k1_off74 (v192 : BitVec 32) (k1_t13 : Fin (k1_t13_loop v192).trips) : Fin 3 → Nat :=
  let c0_i32_194 : BitVec 32 := 0#32
  let c0_i32_184 : BitVec 32 := 0#32
  let v193 : BitVec 32 := Scalar.subi v192 c0_i32_184
  let c1_i32_185 : BitVec 32 := 1#32
  let v195 : BitVec 32 := Scalar.divsi v193 c1_i32_185
  let v196 : BitVec 32 := Scalar.muli v195 c1_i32_185
  let v197 : BitVec 32 := Scalar.addi c0_i32_184 v196
  let c1_i32_187 : BitVec 32 := 1#32
  let arg16 : BitVec 32 := Scf.iv v197 c1_i32_187 k1_t13
  let v204 : BitVec 32 := Scalar.addi c0_i32_194 arg16
  let c0_i32_200 : BitVec 32 := 0#32
  let c0_i32_201 : BitVec 32 := 0#32
  ![v204.toNat, 0, 0]

def k1_chk39 (d0 : Dev nD) (v192 : BitVec 32) (k1_t13 : Fin (k1_t13_loop v192).trips) (v206 : BitVec 32) : Prop :=
  (∀ (k1_h18 : k1_cond18 d0 v206 = 1#1), ∀ a, (k1_off73 v192 k1_t13) a + S1.size a ≤ S204.size a) ∧
  (∀ (k1_h18 : k1_cond18 d0 v206 = 1#1), ∀ a, (k1_off74 v192 k1_t13) a + S1x1x256.size a ≤ S204x1x256.size a)
theorem k1_off73_inb : ∀ (d0 : Dev nD) (v192 : BitVec 32) (k1_t13 : Fin (k1_t13_loop v192).trips) (v206 : BitVec 32) (k1_hw39 : k1_chk39 d0 v192 k1_t13 v206), ∀ (k1_h18 : k1_cond18 d0 v206 = 1#1), ∀ a, (k1_off73 v192 k1_t13) a + S1.size a ≤ S204.size a := fun d0 v192 k1_t13 v206 k1_hw39 k1_h18 => k1_hw39.1 k1_h18
theorem k1_off74_inb : ∀ (d0 : Dev nD) (v192 : BitVec 32) (k1_t13 : Fin (k1_t13_loop v192).trips) (v206 : BitVec 32) (k1_hw39 : k1_chk39 d0 v192 k1_t13 v206), ∀ (k1_h18 : k1_cond18 d0 v206 = 1#1), ∀ a, (k1_off74 v192 k1_t13) a + S1x1x256.size a ≤ S204x1x256.size a := fun d0 v192 k1_t13 v206 k1_hw39 k1_h18 => k1_hw39.2 k1_h18

@[reducible] def k1_t14_loop (v198 : BitVec 32) : Scf.Loop 32 :=
  let c0_i32_190 : BitVec 32 := 0#32
  let v199 : BitVec 32 := Scalar.subi v198 c0_i32_190
  let c1_i32_191 : BitVec 32 := 1#32
  let v201 : BitVec 32 := Scalar.divsi v199 c1_i32_191
  let v202 : BitVec 32 := Scalar.muli v201 c1_i32_191
  let v203 : BitVec 32 := Scalar.addi c0_i32_190 v202
  let c1_i32_192 : BitVec 32 := 1#32
  ⟨c0_i32_190, v203, c1_i32_192⟩

def k1_off75 (v198 : BitVec 32) (k1_t14 : Fin (k1_t14_loop v198).trips) : Fin 2 → Nat :=
  let c1_194 : Index := 1#32
  let c0_i32_190 : BitVec 32 := 0#32
  let c1_i32_192 : BitVec 32 := 1#32
  let arg16 : BitVec 32 := Scf.iv c0_i32_190 c1_i32_192 k1_t14
  let v205 : Index := Scalar.indexCast arg16
  ![1, v205.toNat]
def k1_off76 (v198 : BitVec 32) (k1_t14 : Fin (k1_t14_loop v198).trips) : Fin 1 → Nat :=
  let c102_i32 : BitVec 32 := 102#32
  let c0_i32_190 : BitVec 32 := 0#32
  let c1_i32_192 : BitVec 32 := 1#32
  let arg16 : BitVec 32 := Scf.iv c0_i32_190 c1_i32_192 k1_t14
  let v204 : BitVec 32 := Scalar.addi c102_i32 arg16
  ![v204.toNat]
def k1_cond19 (d0 : Dev nD) (v206 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v207 : BitVec 1 := Scalar.cmpi .ne v206 v2
  let v208 : BitVec 32 := Scalar.extui v207
  let c0_i32_195 : BitVec 32 := 0#32
  let v209 : BitVec 1 := Scalar.cmpi .ne v208 c0_i32_195
  v209

def k1_off77 (v198 : BitVec 32) (k1_t14 : Fin (k1_t14_loop v198).trips) : Fin 3 → Nat :=
  let c102_i32 : BitVec 32 := 102#32
  let c0_i32_190 : BitVec 32 := 0#32
  let c1_i32_192 : BitVec 32 := 1#32
  let arg16 : BitVec 32 := Scf.iv c0_i32_190 c1_i32_192 k1_t14
  let v204 : BitVec 32 := Scalar.addi c102_i32 arg16
  let c0_i32_199 : BitVec 32 := 0#32
  let c0_i32_200 : BitVec 32 := 0#32
  ![v204.toNat, 0, 0]

def k1_chk41 (d0 : Dev nD) (v198 : BitVec 32) (k1_t14 : Fin (k1_t14_loop v198).trips) (v206 : BitVec 32) : Prop :=
  (∀ (k1_h19 : k1_cond19 d0 v206 = 1#1), ∀ a, (k1_off76 v198 k1_t14) a + S1.size a ≤ S204.size a) ∧
  (∀ (k1_h19 : k1_cond19 d0 v206 = 1#1), ∀ a, (k1_off77 v198 k1_t14) a + S1x1x256.size a ≤ S204x1x256.size a)
theorem k1_off76_inb : ∀ (d0 : Dev nD) (v198 : BitVec 32) (k1_t14 : Fin (k1_t14_loop v198).trips) (v206 : BitVec 32) (k1_hw41 : k1_chk41 d0 v198 k1_t14 v206), ∀ (k1_h19 : k1_cond19 d0 v206 = 1#1), ∀ a, (k1_off76 v198 k1_t14) a + S1.size a ≤ S204.size a := fun d0 v198 k1_t14 v206 k1_hw41 k1_h19 => k1_hw41.1 k1_h19
theorem k1_off77_inb : ∀ (d0 : Dev nD) (v198 : BitVec 32) (k1_t14 : Fin (k1_t14_loop v198).trips) (v206 : BitVec 32) (k1_hw41 : k1_chk41 d0 v198 k1_t14 v206), ∀ (k1_h19 : k1_cond19 d0 v206 = 1#1), ∀ a, (k1_off77 v198 k1_t14) a + S1x1x256.size a ≤ S204x1x256.size a := fun d0 v198 k1_t14 v206 k1_hw41 k1_h19 => k1_hw41.2 k1_h19

@[reducible] def k1_t15_loop (v198 : BitVec 32) : Scf.Loop 32 :=
  let c0_i32_190 : BitVec 32 := 0#32
  let v199 : BitVec 32 := Scalar.subi v198 c0_i32_190
  let c1_i32_191 : BitVec 32 := 1#32
  let v201 : BitVec 32 := Scalar.divsi v199 c1_i32_191
  let v202 : BitVec 32 := Scalar.muli v201 c1_i32_191
  let v203 : BitVec 32 := Scalar.addi c0_i32_190 v202
  let v200 : BitVec 32 := Scalar.addi c0_i32_190 v199
  let c1_i32_193 : BitVec 32 := 1#32
  ⟨v203, v200, c1_i32_193⟩
def k1_off78 (v198 : BitVec 32) (k1_t15 : Fin (k1_t15_loop v198).trips) : Fin 2 → Nat :=
  let c1_194 : Index := 1#32
  let c0_i32_190 : BitVec 32 := 0#32
  let v199 : BitVec 32 := Scalar.subi v198 c0_i32_190
  let c1_i32_191 : BitVec 32 := 1#32
  let v201 : BitVec 32 := Scalar.divsi v199 c1_i32_191
  let v202 : BitVec 32 := Scalar.muli v201 c1_i32_191
  let v203 : BitVec 32 := Scalar.addi c0_i32_190 v202
  let c1_i32_193 : BitVec 32 := 1#32
  let arg16 : BitVec 32 := Scf.iv v203 c1_i32_193 k1_t15
  let v205 : Index := Scalar.indexCast arg16
  ![1, v205.toNat]

def k1_chk40 (v198 : BitVec 32) : Prop :=
  ((k1_t14_loop v198).OK) ∧
  (∀ k1_t14 : Fin (k1_t14_loop v198).trips, ∀ a, (k1_off75 v198 k1_t14) a + S1x1.size a ≤ S2x102.size a) ∧
  ((k1_t15_loop v198).OK) ∧
  (∀ k1_t15 : Fin (k1_t15_loop v198).trips, ∀ a, (k1_off78 v198 k1_t15) a + S1x1.size a ≤ S2x102.size a)
theorem k1_t14_ok : ∀ (v198 : BitVec 32) (k1_hw40 : k1_chk40 v198), (k1_t14_loop v198).OK := fun v198 k1_hw40 => k1_hw40.1
theorem k1_off75_inb : ∀ (v198 : BitVec 32) (k1_hw40 : k1_chk40 v198) (k1_t14 : Fin (k1_t14_loop v198).trips), ∀ a, (k1_off75 v198 k1_t14) a + S1x1.size a ≤ S2x102.size a := fun v198 k1_hw40 k1_t14 => k1_hw40.2.1 k1_t14
theorem k1_t15_ok : ∀ (v198 : BitVec 32) (k1_hw40 : k1_chk40 v198), (k1_t15_loop v198).OK := fun v198 k1_hw40 => k1_hw40.2.2.1
theorem k1_off78_inb : ∀ (v198 : BitVec 32) (k1_hw40 : k1_chk40 v198) (k1_t15 : Fin (k1_t15_loop v198).trips), ∀ a, (k1_off78 v198 k1_t15) a + S1x1.size a ≤ S2x102.size a := fun v198 k1_hw40 k1_t15 => k1_hw40.2.2.2 k1_t15

def k1_off79 (v198 : BitVec 32) (k1_t15 : Fin (k1_t15_loop v198).trips) : Fin 1 → Nat :=
  let c102_i32 : BitVec 32 := 102#32
  let c0_i32_190 : BitVec 32 := 0#32
  let v199 : BitVec 32 := Scalar.subi v198 c0_i32_190
  let c1_i32_191 : BitVec 32 := 1#32
  let v201 : BitVec 32 := Scalar.divsi v199 c1_i32_191
  let v202 : BitVec 32 := Scalar.muli v201 c1_i32_191
  let v203 : BitVec 32 := Scalar.addi c0_i32_190 v202
  let c1_i32_193 : BitVec 32 := 1#32
  let arg16 : BitVec 32 := Scf.iv v203 c1_i32_193 k1_t15
  let v204 : BitVec 32 := Scalar.addi c102_i32 arg16
  ![v204.toNat]
def k1_cond20 (d0 : Dev nD) (v206 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v207 : BitVec 1 := Scalar.cmpi .ne v206 v2
  let v208 : BitVec 32 := Scalar.extui v207
  let c0_i32_195 : BitVec 32 := 0#32
  let v209 : BitVec 1 := Scalar.cmpi .ne v208 c0_i32_195
  v209

def k1_off80 (v198 : BitVec 32) (k1_t15 : Fin (k1_t15_loop v198).trips) : Fin 3 → Nat :=
  let c102_i32 : BitVec 32 := 102#32
  let c0_i32_190 : BitVec 32 := 0#32
  let v199 : BitVec 32 := Scalar.subi v198 c0_i32_190
  let c1_i32_191 : BitVec 32 := 1#32
  let v201 : BitVec 32 := Scalar.divsi v199 c1_i32_191
  let v202 : BitVec 32 := Scalar.muli v201 c1_i32_191
  let v203 : BitVec 32 := Scalar.addi c0_i32_190 v202
  let c1_i32_193 : BitVec 32 := 1#32
  let arg16 : BitVec 32 := Scf.iv v203 c1_i32_193 k1_t15
  let v204 : BitVec 32 := Scalar.addi c102_i32 arg16
  let c0_i32_199 : BitVec 32 := 0#32
  let c0_i32_200 : BitVec 32 := 0#32
  ![v204.toNat, 0, 0]

def k1_chk42 (d0 : Dev nD) (v198 : BitVec 32) (k1_t15 : Fin (k1_t15_loop v198).trips) (v206 : BitVec 32) : Prop :=
  (∀ (k1_h20 : k1_cond20 d0 v206 = 1#1), ∀ a, (k1_off79 v198 k1_t15) a + S1.size a ≤ S204.size a) ∧
  (∀ (k1_h20 : k1_cond20 d0 v206 = 1#1), ∀ a, (k1_off80 v198 k1_t15) a + S1x1x256.size a ≤ S204x1x256.size a)
theorem k1_off79_inb : ∀ (d0 : Dev nD) (v198 : BitVec 32) (k1_t15 : Fin (k1_t15_loop v198).trips) (v206 : BitVec 32) (k1_hw42 : k1_chk42 d0 v198 k1_t15 v206), ∀ (k1_h20 : k1_cond20 d0 v206 = 1#1), ∀ a, (k1_off79 v198 k1_t15) a + S1.size a ≤ S204.size a := fun d0 v198 k1_t15 v206 k1_hw42 k1_h20 => k1_hw42.1 k1_h20
theorem k1_off80_inb : ∀ (d0 : Dev nD) (v198 : BitVec 32) (k1_t15 : Fin (k1_t15_loop v198).trips) (v206 : BitVec 32) (k1_hw42 : k1_chk42 d0 v198 k1_t15 v206), ∀ (k1_h20 : k1_cond20 d0 v206 = 1#1), ∀ a, (k1_off80 v198 k1_t15) a + S1x1x256.size a ≤ S204x1x256.size a := fun d0 v198 k1_t15 v206 k1_hw42 k1_h20 => k1_hw42.2 k1_h20

abbrev stage1_0 : Fin 1 → Memref sig .tc .smem S256 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S256 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S256 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .smem S2 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .smem S2x102 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .smem S2x102 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S256x1x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S2x128x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S256x1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
-- ==== ReferenceIdeal.lean ====
abbrev S8192x128 : Shape := ⟨2, ![8192, 128]⟩
abbrev S128x64 : Shape := ⟨2, ![128, 64]⟩
abbrev S8192x1 : Shape := ⟨2, ![8192, 1]⟩
abbrev S64x128x256 : Shape := ⟨3, ![64, 128, 256]⟩
abbrev S8192 : Shape := ⟨1, ![8192]⟩
abbrev S1x8192 : Shape := ⟨2, ![1, 8192]⟩
abbrev S8192x8192 : Shape := ⟨2, ![8192, 8192]⟩
abbrev S_ : Shape := ⟨0, ![]⟩
abbrev S8192x128x256 : Shape := ⟨3, ![8192, 128, 256]⟩
abbrev S8192x256 : Shape := ⟨2, ![8192, 256]⟩

abbrev nBuf : Space → Nat
  | .hbm => 41
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S128x64, .bf16⟩
  | .hbm, ⟨2, _⟩ => ⟨S8192x1, .i32⟩
  | .hbm, ⟨3, _⟩ => ⟨S64x128x256, .bf16⟩
  | .hbm, ⟨4, _⟩ => ⟨S8192, .i32⟩
  | .hbm, ⟨5, _⟩ => ⟨S8192, .i32⟩
  | .hbm, ⟨6, _⟩ => ⟨S8192x1, .i32⟩
  | .hbm, ⟨7, _⟩ => ⟨S1x8192, .i32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S8192x8192, .i1⟩
  | .hbm, ⟨17, _⟩ => ⟨S8192x8192, .i32⟩
  | .hbm, ⟨18, _⟩ => ⟨S_, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S64x128x256, .f32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .i32⟩
  | .hbm, ⟨31, _⟩ => ⟨S8192x1, .i32⟩
  | .hbm, ⟨32, _⟩ => ⟨S8192x128x256, .f32⟩
  | .hbm, ⟨33, _⟩ => ⟨S8192x128, .f32⟩
  | .hbm, ⟨34, _⟩ => ⟨S8192x256, .f32⟩
  | .hbm, ⟨35, _⟩ => ⟨S8192x1, .i1⟩
  | .hbm, ⟨36, _⟩ => ⟨S_, .f32⟩
  | .hbm, ⟨37, _⟩ => ⟨S_, .f32⟩
  | .hbm, ⟨38, _⟩ => ⟨S8192x256, .i1⟩
  | .hbm, ⟨39, _⟩ => ⟨S8192x256, .f32⟩
  | .hbm, ⟨40, _⟩ => ⟨S8192x256, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Proof.Common.lean ====
/-
  What the two pallas calls' protocols share: the resource algebra, the semaphore cells, the routing a token takes, the
  rows of the buffers that travel, and the schedule of duties on every cell.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import Idealize.ShloMosaic.Lib.Pipeline.Regions
public import Idealize.ShloMosaic.Lib.Pipeline.Kit
public import Idealize.ShloMosaic.Lib.Pipeline.RegionTalk
public import Idealize.ShloMosaic.Lib.SparseCore.ProtocolKit
public import Idealize.ShloMosaic.Lib.ValueIdxCoords
public import Idealize.ShloMosaic.Lib.Transfers
public import Idealize.ShloMosaic.Lib.Tactic

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

/-! ## The resource algebra: the pipelines' copy and the protocols' -/

/-- A barrier cell has one duty per peer, every other cell one: duty 0. -/
abbrev Duty : Type := Fin 31
abbrev PUR : Type := UR sig nD τ
abbrev TUR : Type := URounds (GSem nD τ sig) Duty
abbrev UU : Type := PUR × TUR

local notation "𝕄" => MT nD τ sig Unit (Elt F) ℕ UU ℕ

abbrev EP : Emb PUR (MT nD τ sig Unit (Elt F) ℕ UU ℕ) := embL
abbrev ER : Emb TUR (MT nD τ sig Unit (Elt F) ℕ UU ℕ) := embR

/-- The kernels' variants: none. -/
abbrev 𝒱₀ : Variants := Variants.none

/-! ## Peers -/

/-- The `k`-th device after `c` around the ring: every device but `c`, once each. -/
def fwd (c : Dev nD) (k : Fin 31) : Dev nD := ⟨(c.val + 1 + k.val) % 32, Nat.mod_lt _ (by decide)⟩

theorem fwd_rev (c : Dev nD) (k : Fin 31) : fwd (fwd c k) k.rev = c := by revert c k; decide
theorem fwd_ne (c : Dev nD) (k : Fin 31) : fwd c k ≠ c := by revert c k; decide
theorem fwd_inj (c : Dev nD) : Function.Injective (fwd c) := fun a b h => by
  have h1 : (c.val + 1 + a.val) % 32 = (c.val + 1 + b.val) % 32 := congrArg Fin.val h
  have := a.isLt; have := b.isLt; apply Fin.ext; omega
theorem fwd_surj (c d : Dev nD) (h : d ≠ c) : ∃ k, fwd c k = d := by
  have hc : c.val < 32 := c.isLt
  have hd : d.val < 32 := d.isLt
  have hn : d.val ≠ c.val := fun e => h (Fin.ext e)
  refine ⟨⟨(d.val + 31 - c.val) % 32, by omega⟩, Fin.ext ?_⟩
  show (c.val + 1 + (d.val + 31 - c.val) % 32) % 32 = d.val
  omega

/-! ## The cells -/

/-- A cell's kind: what it is for, and its number among those. -/
inductive CK : Type
  | b0 | b1
  | s0 (k : Fin 31) | r0 (k : Fin 32)
  | sx (i : Fin 256) | rx (s : Fin 204) | sr (s : Fin 204) | rr (i : Fin 256)
  deriving DecidableEq

/-- The semaphore of a kind: the two calls' barriers, then the scratch arrays, which lie one after another. -/
def ssem : CK → SemLoc sig
  | .b0 => .reg (SemArray.scalar (sig.barrier 0 rfl) : Sems sig S_).sem
  | .b1 => .reg (SemArray.scalar (sig.barrier 1 rfl) : Sems sig S_).sem
  | .s0 k => .dma (⟨2 + k.val, by have := k.isLt; show _ < 994; omega⟩ : Fin 994)
  | .r0 k => .dma (⟨33 + k.val, by have := k.isLt; show _ < 994; omega⟩ : Fin 994)
  | .sx k => .dma (⟨74 + k.val, by have := k.isLt; show _ < 994; omega⟩ : Fin 994)
  | .rx k => .dma (⟨330 + k.val, by have := k.isLt; show _ < 994; omega⟩ : Fin 994)
  | .sr k => .dma (⟨534 + k.val, by have := k.isLt; show _ < 994; omega⟩ : Fin 994)
  | .rr k => .dma (⟨738 + k.val, by have := k.isLt; show _ < 994; omega⟩ : Fin 994)

/-- Which kind a semaphore is, if any. -/
def kind : SemLoc sig → Option CK
  | .reg n => if n.val = 0 then some .b0 else some .b1
  | .dma n =>
    if n.val < 2 then none
    else if h : n.val < 33 then some (.s0 ⟨n.val - 2, by omega⟩)
    else if h : n.val < 65 then some (.r0 ⟨n.val - 33, by omega⟩)
    else if n.val < 74 then none
    else if h : n.val < 330 then some (.sx ⟨n.val - 74, by omega⟩)
    else if h : n.val < 534 then some (.rx ⟨n.val - 330, by omega⟩)
    else if h : n.val < 738 then some (.sr ⟨n.val - 534, by omega⟩)
    else some (.rr ⟨n.val - 738, by have : n.val < 994 := n.isLt; omega⟩)

theorem kind_ssem (k : CK) : kind (ssem k) = some k := by
  cases k with
  | b0 => rfl
  | b1 => rfl
  | s0 k =>
    have := k.isLt
    show (if 2 + k.val < 2 then none else if h : 2 + k.val < 33 then some (CK.s0 ⟨2 + k.val - 2, _⟩) else _) = _
    rw [if_neg (by omega), dif_pos (by omega)]; congr 2; apply Fin.ext; show 2 + k.val - 2 = _; omega
  | r0 k =>
    have := k.isLt
    simp only [ssem, kind]
    rw [if_neg (by omega), dif_neg (by omega), dif_pos (by omega)]; congr 2; apply Fin.ext; show 33 + k.val - 33 = _; omega
  | sx k =>
    have := k.isLt
    simp only [ssem, kind]
    rw [if_neg (by omega), dif_neg (by omega), dif_neg (by omega), if_neg (by omega), dif_pos (by omega)]
    congr 2; apply Fin.ext; show 74 + k.val - 74 = _; omega
  | rx k =>
    have := k.isLt
    simp only [ssem, kind]
    rw [if_neg (by omega), dif_neg (by omega), dif_neg (by omega), if_neg (by omega), dif_neg (by omega), dif_pos (by omega)]
    congr 2; apply Fin.ext; show 330 + k.val - 330 = _; omega
  | sr k =>
    have := k.isLt
    simp only [ssem, kind]
    rw [if_neg (by omega), dif_neg (by omega), dif_neg (by omega), if_neg (by omega), dif_neg (by omega), dif_neg (by omega),
      dif_pos (by omega)]
    congr 2; apply Fin.ext; show 534 + k.val - 534 = _; omega
  | rr k =>
    have := k.isLt
    simp only [ssem, kind]
    rw [if_neg (by omega), dif_neg (by omega), dif_neg (by omega), if_neg (by omega), dif_neg (by omega), dif_neg (by omega),
      dif_neg (by omega)]
    congr 2; apply Fin.ext; show 738 + k.val - 738 = _; omega

theorem ssem_inj : Function.Injective ssem := fun a b h => by
  have := congrArg kind h; rw [kind_ssem, kind_ssem] at this; exact Option.some.inj this

/-- Device `c`'s cell of kind `k`. -/
abbrev cell (c : Dev nD) (k : CK) : GSem nD τ sig := ((c : Thread nD τ), ssem k)

theorem cell_inj {c d : Dev nD} {k l : CK} (h : cell c k = cell d l) : c = d ∧ k = l := by
  have h1 := congrArg (fun g : GSem nD τ sig => g.1.1) h
  have h2 := congrArg (fun g : GSem nD τ sig => g.2) h
  exact ⟨h1, ssem_inj h2⟩

/-! ## The routing -/

/-- Where the tokens go: which tokens of each device are kept, the device and the slot each goes to, and which slots of
    each device are filled, by which token of which device — each the inverse of the other. -/
structure Routing where
  kept : Dev nD → Fin 256 → Bool
  fill : Dev nD → Fin 204 → Bool
  dst : Dev nD → Fin 256 → Dev nD
  slot : Dev nD → Fin 256 → Fin 204
  sd : Dev nD → Fin 204 → Dev nD
  sr : Dev nD → Fin 204 → Fin 256
  there : ∀ c i, kept c i = true → fill (dst c i) (slot c i) = true ∧ sd (dst c i) (slot c i) = c ∧ sr (dst c i) (slot c i) = i
  back : ∀ d s, fill d s = true → kept (sd d s) (sr d s) = true ∧ dst (sd d s) (sr d s) = d ∧ slot (sd d s) (sr d s) = s

namespace Routing

variable (R : Routing)

/-- Token `i` of device `c` is kept and goes to another device; -/
abbrev away (c : Dev nD) (i : Fin 256) : Prop := R.kept c i = true ∧ R.dst c i ≠ c
/-- slot `s` of device `d` is filled from another device. -/
abbrev came (d : Dev nD) (s : Fin 204) : Prop := R.fill d s = true ∧ R.sd d s ≠ d

theorem away_came {c : Dev nD} {i : Fin 256} (h : R.away c i) : R.came (R.dst c i) (R.slot c i) := by
  obtain ⟨h1, h2, h3⟩ := R.there c i h.1
  exact ⟨h1, by rw [h2]; exact fun e => h.2 e.symm⟩
theorem came_away {d : Dev nD} {s : Fin 204} (h : R.came d s) : R.away (R.sd d s) (R.sr d s) := by
  obtain ⟨h1, h2, h3⟩ := R.back d s h.1
  exact ⟨h1, by rw [h2]; exact fun e => h.2 e.symm⟩

end Routing

/-! ## The rows that travel -/

/-- The elements of an array whose first coordinate is `k`. -/
def rowOf {n : ℕ} {sh : Fin (n + 1) → ℕ} (k : ℕ) : Finset (⟨n + 1, sh⟩ : Shape).Idx :=
  Finset.univ.filter fun j => (j 0).val = k

theorem mem_rowOf {n : ℕ} {sh : Fin (n + 1) → ℕ} {k : ℕ} {j : (⟨n + 1, sh⟩ : Shape).Idx} : j ∈ rowOf (sh := sh) k ↔ (j 0).val = k := by
  unfold rowOf; simp

theorem rowOf_disjoint {n : ℕ} {sh : Fin (n + 1) → ℕ} {k l : ℕ} (h : k ≠ l) :
    Disjoint (rowOf (sh := sh) k) (rowOf l) :=
  Finset.disjoint_left.mpr fun j h1 h2 => h ((mem_rowOf.mp h1).symm.trans (mem_rowOf.mp h2))

theorem rowOf_biUnion {n : ℕ} {sh : Fin (n + 1) → ℕ} {N : ℕ} (h : sh 0 = N) :
    (Finset.univ : Finset (⟨n + 1, sh⟩ : Shape).Idx) = (Finset.univ : Finset (Fin N)).biUnion fun k => rowOf k.val := by
  subst h
  ext j; simp only [Finset.mem_univ, Finset.mem_biUnion, true_and, true_iff]
  exact ⟨j 0, mem_rowOf.mpr rfl⟩

/-- Contents of the buffers. -/
abbrev Row0 := (cc0_stg0_0 : Ref sig .tc).ty.Contents (Elt F)
abbrev Gat := (cc0_stg1_0 : Ref sig .tc).ty.Contents (Elt F)
abbrev Xin := (cc1_stg6_0 : Ref sig .tc).ty.Contents (Elt F)
abbrev Stg := (cc1_scratch0 : Ref sig .tc).ty.Contents (Elt F)
abbrev Res := (cc1_scratch1 : Ref sig .tc).ty.Contents (Elt F)
abbrev Out := (cc1_stg8_0 : Ref sig .tc).ty.Contents (Elt F)

/-- Row `k` of device `c`'s buffer. -/
abbrev gRow (c : Dev nD) (k : Fin 32) (f : Gat (F := F)) : sProp 𝕄 := ((c : Thread nD τ).loc cc0_stg1_0) ↦[rowOf k.val]{fullShare} f
abbrev xRow (c : Dev nD) (i : Fin 256) (f : Xin (F := F)) : sProp 𝕄 := ((c : Thread nD τ).loc cc1_stg6_0) ↦[rowOf i.val]{fullShare} f
abbrev sRow (c : Dev nD) (s : Fin 204) (f : Stg (F := F)) : sProp 𝕄 := ((c : Thread nD τ).loc cc1_scratch0) ↦[rowOf s.val]{fullShare} f
abbrev rRow (c : Dev nD) (s : Fin 204) (f : Res (F := F)) : sProp 𝕄 := ((c : Thread nD τ).loc cc1_scratch1) ↦[rowOf s.val]{fullShare} f
abbrev oRow (c : Dev nD) (i : Fin 256) (f : Out (F := F)) : sProp 𝕄 := ((c : Thread nD τ).loc cc1_stg8_0) ↦[rowOf i.val]{fullShare} f

/-! ## What the protocols are about -/

/-- The data: each device's row of indices (call 0's operand), its tokens (call 1's), where they go, and what a result row
    of a token has to be. -/
structure Plan (F : FTy → Type) [FloatOps F] where
  E : Dev nD → (cc0_stg0_0 : Ref sig .tc).ty.Contents (Elt F)
  X : Dev nD → (cc1_stg6_0 : Ref sig .tc).ty.Contents (Elt F)
  R : Routing
  ok : Dev nD → Fin 256 → (Fin 256 → Elt F .f32) → Prop

namespace Plan

variable (P : Plan F)

/-- The gathered array: row `k` is device `k`'s. The same on every device. -/
def gat : Gat (F := F) := fun j => P.E (j 0) (ix2 0 (j 1))

/-- What a device's slots hold once its tokens have come: at a filled slot, the row of the token that fills it. -/
def stg (d : Dev nD) : Stg (F := F) := fun j => P.X (P.R.sd d (j 0)) (ix3 (P.R.sr d (j 0)) 0 (j 2))

end Plan

/-- Row `i` of an output array. -/
abbrev orow (f : Out (F := F)) (i : Fin 256) : Fin 256 → Elt F .f32 := fun j => f (ix3 i 0 j)
abbrev rrow (f : Res (F := F)) (s : Fin 204) : Fin 256 → Elt F .f32 := fun j => f (ix3 s 0 j)

/-- What a transfer of a row credits: indices, tokens, results. -/
abbrev N0 : ℕ := (cc0_stg1_0 : Ref sig .tc).dmaCredit S1x256 .i32
abbrev N1 : ℕ := (cc1_scratch0 : Ref sig .tc).dmaCredit S1x128 .bf16
abbrev N2 : ℕ := (cc1_stg8_0 : Ref sig .tc).dmaCredit S1x256 .f32
theorem N0_pos : 0 < N0 := sig.dmaCredit_pos _ _ _ _ _ (by decide)
theorem N1_pos : 0 < N1 := sig.dmaCredit_pos _ _ _ _ _ (by decide)
theorem N2_pos : 0 < N2 := sig.dmaCredit_pos _ _ _ _ _ (by decide)

/-! ## The schedule -/

section Sched

variable (P : Plan F)

/-- The duties of device `c`'s cell of kind `k`: a barrier has one per peer, a transfer's cell one where the transfer is
    made. -/
def duts (R : Routing) (c : Dev nD) : CK → Finset Duty
  | .b0 => Finset.univ
  | .b1 => Finset.univ
  | .s0 _ => {0}
  | .r0 k => if k = c then ∅ else {0}
  | .sx i => if R.away c i then {0} else ∅
  | .rx s => if R.came c s then {0} else ∅
  | .sr s => if R.came c s then {0} else ∅
  | .rr i => if R.away c i then {0} else ∅

def amt : CK → ℕ
  | .b0 => 1
  | .b1 => 1
  | .s0 _ => N0
  | .r0 _ => N0
  | .sx _ => N1
  | .rx _ => N1
  | .sr _ => N2
  | .rr _ => N2

theorem amt_pos (k : CK) : 0 < amt k := by
  cases k <;> first | exact Nat.one_pos | exact N0_pos | exact N1_pos | exact N2_pos

/-- What peer `p` hands device `c` with its signal of call 0: the row of its gathered array that `c` writes, and that the
    cell `c` completes there is open. -/
def pay0 (p c : Dev nD) : sProp 𝕄 := iprop((∃ f, gRow p c f) ∗ reached ER (cell p (.r0 c)) 0)

/-- What peer `p` hands device `c` with its signal of call 1: the slots `c`'s tokens fill there, and that all of `p`'s
    receive cells are open. -/
def pay1 (p c : Dev nD) : sProp 𝕄 :=
  iprop(bigSep (Finset.univ.filter fun i : Fin 256 => P.R.away c i ∧ P.R.dst c i = p) (fun i => iprop(∃ f, sRow p (P.R.slot c i) f))
    ∗ bigSep Finset.univ (fun s : Fin 204 => reached ER (cell p (.rx s)) 0)
    ∗ bigSep Finset.univ (fun i : Fin 256 => reached ER (cell p (.rr i)) 0))

/-- A duty's payload. -/
def pay (c : Dev nD) : CK → Duty → sProp 𝕄
  | .b0, d => pay0 (fwd c d) c
  | .b1, d => pay1 P (fwd c d) c
  | .s0 k, _ => ((c : Thread nD τ).loc cc0_stg0_0) ↦[Finset.univ]{shareTok fullShare 31 k} P.E c
  | .r0 k, _ => gRow c k P.gat
  | .sx i, _ => xRow c i (P.X c)
  | .rx s, _ => iprop(sRow c s (P.stg c) ∗ ∃ f, oRow (P.R.sd c s) (P.R.sr c s) f)
  | .sr s, _ => iprop(∃ f, rRow c s f)
  | .rr i, _ => iprop(∃ f, ⌜P.ok c i (orow f i)⌝ ∗ oRow c i f)

def Rd : Rounds.Schedule (GSem nD τ sig) Duty 𝕄 where
  duties g r := if r = 0 ∧ g.1.2 = .tc then (match kind g.2 with | some k => duts P.R g.1.1 k | none => ∅) else ∅
  unitless _ := False
  amount g _ _ := match kind g.2 with | some k => amt k | none => 1
  payload g _ d := match kind g.2 with | some k => pay P g.1.1 k d | none => iprop(emp)
  amount_pos g _ _ _ := by
    cases kind g.2 with
    | none => exact Nat.one_pos
    | some k => exact amt_pos k

instance pay_storable (c : Dev nD) (k : CK) (d : Duty) : BI.Storable (upEmb : UEmb _ 𝕄) (pay P c k d) := by
  cases k <;> (unfold pay; try unfold pay0; try unfold pay1) <;> infer_instance

instance Rd_storable (g : GSem nD τ sig) (r : ℕ) (d : Duty) :
    BI.Storable (upEmb : UEmb _ 𝕄) ((Rd P).payload g r d) := by
  show BI.Storable upEmb (match kind g.2 with | some k => pay P g.1.1 k d | none => iprop(emp))
  cases kind g.2 <;> infer_instance

variable {P} (c : Dev nD) (k : CK)

theorem duties_cell : (Rd P).duties (cell c k) 0 = duts P.R c k := by
  dsimp only [Rd]; rw [if_pos ⟨rfl, rfl⟩, kind_ssem]
theorem duties_later (g : GSem nD τ sig) : ∀ r, 1 ≤ r → (Rd P).duties g r = ∅ :=
  fun r hr => by dsimp only [Rd]; exact if_neg fun h => by omega
theorem amount_cell (r : ℕ) (d : Duty) : (Rd P).amount (cell c k) r d = amt k := by
  dsimp only [Rd]; rw [kind_ssem]
theorem payload_cell (r : ℕ) (d : Duty) : (Rd P).payload (cell c k) r d = pay P c k d := by
  dsimp only [Rd]; rw [kind_ssem]
theorem expect_cell : (Rd P).expect (cell c k) 0 = (duts P.R c k).card * amt k := by
  unfold Schedule.expect Schedule.amountOf
  rw [duties_cell, Finset.sum_congr rfl (fun d _ => amount_cell (P := P) c k 0 d), Finset.sum_const, smul_eq_mul]
theorem rest_cell : bigSep ((Rd P).duties (cell c k) 0 \ ∅) (fun d => (Rd P).payload (cell c k) 0 d) = bigSep (duts P.R c k) (fun d => pay P c k d) := by
  rw [Finset.sdiff_empty, duties_cell]; exact bigSep_congr fun d _ => payload_cell c k 0 d

/-- The owner of a cell past its one round closes it and keeps its counter, at zero. -/
theorem close_past (κ : ℕ) (g : GSem nD τ sig) :
    iprop(cellInv ER (Rd P) κ g ∗ atPos ER g (0 + 1) ∅ 0) ⊢ (|={Set.univ}=> semVal g 0 : sProp 𝕄) :=
  Rounds.cell_close ER (Rd P) (Set.mem_univ κ) id (duties_later g)

/-- The owner of a cell without duties closes it unspent. -/
theorem close_idle (κ : ℕ) (h : duts P.R c k = ∅) :
    iprop(cellInv ER (Rd P) κ (cell c k) ∗ atPos ER (cell c k) 0 ∅ 0) ⊢ (|={Set.univ}=> semVal (cell c k) 0 : sProp 𝕄) :=
  Rounds.cell_close ER (Rd P) (Set.mem_univ κ) id fun r _ => by
    by_cases hr : r = 0
    · subst hr; rw [duties_cell]; exact h
    · exact duties_later _ r (by omega)

end Sched

/-! ## Levels -/

def L (g : GSem nD τ sig) : Finset Unit := if g.1.2 = .tc then {()} else ∅
/-- A call's barrier below its receives, call 1's tokens below its results; sends and staging at 0. -/
def lvK : CK → ℕ
  | .b0 => 1
  | .r0 _ => 2
  | .b1 => 3
  | .rx _ => 4
  | .rr _ => 5
  | _ => 0
def lv (g : GSem nD τ sig) (_ : Unit) : ℕ := match kind g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (cell c k) u = lvK k := by unfold lv; rw [kind_ssem]

end Cert.MoE

end
-- ==== Proof.GatherA.lean ====
/-
  Call 0, the exchange of the devices' rows of indices: its steps, each at a symbolic device.
-/
module

public import proofs.«01_k».proof.Proof.Common

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

/-- Running a piece of a device's program. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- One piece after another. -/
theorem run_seq {α β : Type} {c : Dev nD} {p : Prog (TpuEff nD τ sig (Elt F) Λ₀ .tc) α}
    {k : α → Prog (TpuEff nD τ sig (Elt F) Λ₀ .tc) β} {A B : sProp 𝕄} {Q : β → sProp 𝕄}
    (h : A ⊢ run c p (fun _ => B)) (hk : ∀ x, B ⊢ run c (k x) Q) : A ⊢ run c (p >>= k) Q := by
  unfold run; rw [wp_bind]
  exact h.trans (wp_mono _ _ _ fun x => hk x)

theorem run_seqE {α β : Type} {c : Dev nD} {p : Prog (TpuEff nD τ sig (Elt F) Λ₀ .tc) α}
    {k : α → Prog (TpuEff nD τ sig (Elt F) Λ₀ .tc) β} {A : sProp 𝕄} {B : α → sProp 𝕄} {Q : β → sProp 𝕄}
    (h : A ⊢ run c p B) (hk : ∀ x, B x ⊢ run c (k x) Q) : A ⊢ run c (p >>= k) Q := by
  unfold run; rw [wp_bind]
  exact h.trans (wp_mono _ _ _ fun x => hk x)

theorem run_pure {α : Type} {c : Dev nD} {a : α} {A : sProp 𝕄} {Q : α → sProp 𝕄} (h : A ⊢ Q a) :
    A ⊢ run c (pure a : Prog (TpuEff nD τ sig (Elt F) Λ₀ .tc) α) Q := by
  unfold run; rw [Prog.pure_eq_ret, wp_ret]; exact h.trans (by iintro H; imodintro; iexact H)

/-! ## The semaphores a program names -/

theorem sem_slice {n base : ℕ} (h : base + (⟨1, ![n]⟩ : Shape).numel ≤ 994) (off : Fin 1 → ℕ) (j : ℕ) (hj : off = ![j])
    (inb : ∀ a, off a + S1.size a ≤ (⟨1, ![n]⟩ : Shape).size a) (hb : base + j < 994) :
    ((((SemArray.consecutive base ⟨1, ![n]⟩ h : SemArray (Fin 994) ⟨1, ![n]⟩).slice
      (Rect.unit (s := ⟨1, ![n]⟩) off S1.size inb)).squeeze S_ squeezes_S1_S_).sem) = (⟨base + j, hb⟩ : Fin 994) := by
  subst hj
  apply Fin.ext
  show base + ((⟨1, ![n]⟩ : Shape).rowMajor _).val = base + j
  rw [Shape.rowMajor_val_one]
  show base + (j + 1 * _) = base + j
  have : ∀ i : Fin 1, j + 1 * i.val = j := fun i => by have := i.isLt; omega
  exact congrArg (base + ·) (this _)

/-! ## What all devices know -/

theorem sep_pick {I : Type} [DecidableEq I] {s : Finset I} {i : I} (h : i ∈ s) {Φ : I → sProp 𝕄} : (bigSep s Φ : sProp 𝕄) ⊢ Φ i :=
  BI.bigSep_elim h

/-- The cells of both protocols. -/
def isCell (g : GSem nD τ sig) : Bool := decide (g.1.2 = .tc) && (kind g.2).isSome
theorem isCell_cell (c : Dev nD) (k : CK) : isCell (cell c k) = true := by
  show (true && (kind (ssem k)).isSome) = true
  rw [kind_ssem, Option.isSome_some, Bool.and_self]
def allCells : Finset (GSem nD τ sig) := Finset.univ.filter fun g => isCell g = true
theorem mem_allCells {g : GSem nD τ sig} : g ∈ allCells ↔ isCell g = true := by
  unfold allCells; exact Finset.mem_filter_univ g
set_option maxRecDepth 20000 in
theorem cell_mem (c : Dev nD) (k : CK) : cell c k ∈ allCells := mem_allCells.mpr (isCell_cell c k)

variable (P : Plan F) (κ : GSem nD τ sig → ℕ)

/-- Every cell's invariant, that both barriers of every device are open, and the levels. -/
def ctx : sProp 𝕄 :=
  iprop(bigSep allCells (fun g => cellInv ER (Rd P) (κ g) g)
    ∗ bigSep Finset.univ (fun d : Dev nD => reached ER (cell d .b0) 0)
    ∗ bigSep Finset.univ (fun d : Dev nD => reached ER (cell d .b1) 0)
    ∗ levAts L lv)

instance ctx_persistent : BI.Persistent (ctx P κ) := by unfold ctx; infer_instance

variable {P κ}

set_option maxRecDepth 20000 in
theorem ctx_inv (c : Dev nD) (k : CK) : ctx P κ ⊢ cellInv ER (Rd P) (κ (cell c k)) (cell c k) := by
  unfold ctx; iintro ⟨H, -, -, -⟩
  iapply (sep_pick (cell_mem c k)) $$ H
theorem ctx_b0 (c : Dev nD) : ctx P κ ⊢ reached ER (cell c .b0) 0 := by
  unfold ctx; iintro ⟨-, H, -, -⟩
  iapply (sep_pick (Finset.mem_univ c)) $$ H
theorem ctx_b1 (c : Dev nD) : ctx P κ ⊢ reached ER (cell c .b1) 0 := by
  unfold ctx; iintro ⟨-, -, H, -⟩
  iapply (sep_pick (Finset.mem_univ c)) $$ H
theorem ctx_lev : ctx P κ ⊢ levAts L lv := by
  unfold ctx; iintro ⟨-, -, -, H⟩; iexact H

/-- Everything owed lies above `n`. -/
def Above (n : ℕ) (D : CellTallies nD τ sig Unit) : Prop := ∀ g u, 0 < D g u → g.1.2 = .tc ∧ n < lv g u

theorem Above.add {n : ℕ} {D D' : CellTallies nD τ sig Unit} (h : Above n D) (h' : Above n D') : Above n (D + D') := fun g u hg => by
  by_cases h0 : 0 < D g u
  · exact h g u h0
  · refine h' g u ?_
    have : (D + D') g u = D g u + D' g u := rfl
    omega
theorem Above.zero {n : ℕ} : Above n 0 := fun g u hg => absurd hg (Nat.lt_irrefl 0)
theorem Above.tally {n m : ℕ} {c : Dev nD} {k : CK} (h : n < lvK k) : Above n (tallyAt (cell c k) () m) := fun g u hg => by
  rw [tallyAt_apply] at hg
  by_cases hc : g = cell c k ∧ u = ()
  · rw [hc.1]; exact ⟨rfl, by rw [lv_cell]; exact h⟩
  · rw [if_neg hc] at hg; exact absurd hg (Nat.lt_irrefl 0)
theorem Above.sum {n : ℕ} {ι : Type} {s : Finset ι} {f : ι → CellTallies nD τ sig Unit} (h : ∀ i ∈ s, Above n (f i)) :
    Above n (∑ i ∈ s, f i) := by
  classical
  induction s using Finset.induction_on with
  | empty => rw [Finset.sum_empty]; exact Above.zero
  | insert a s ha ih =>
    rw [Finset.sum_insert ha]
    exact (h a (Finset.mem_insert_self a s)).add (ih fun i hi => h i (Finset.mem_insert_of_mem hi))
theorem Above.mono {n m : ℕ} {D : CellTallies nD τ sig Unit} (h : Above n D) (hm : m ≤ n) : Above m D :=
  fun g u hg => ⟨(h g u hg).1, lt_of_le_of_lt hm (h g u hg).2⟩

theorem mayWait (c : Dev nD) (k : CK) {D : CellTallies nD τ sig Unit} (h : Above (lvK k) D) :
    ctx P κ ⊢ MayWait (c : Thread nD τ) (ssem k) () D :=
  ctx_lev.trans (MayOwe.of_cut (L := L) (lev := lv) (lvK k)
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact (lv_cell c k ()).le)
    (fun g u hg => (h g u hg).2))

/-! ## A barrier's signals -/

/-- What a device hands its `k`-th peer with its signal on barrier `b`. -/
abbrev bpay (P : Plan F) (b : CK) (c : Dev nD) (k : Fin 31) : sProp 𝕄 := pay P (fwd c k) b k.rev

/-- Before the `j`-th signal. -/
def sigs (P : Plan F) (b : CK) (c : Dev nD) (D : CellTallies nD τ sig Unit) (j : ℕ) : sProp 𝕄 :=
  iprop(bigSep (finFrom 31 j) (fun k => iprop(dutyTok ER (cell (fwd c k) b) 0 k.rev ∗ bpay P b c k))
    ∗ ∃ W, owes (c : Thread nD τ) (D + ∑ k ∈ finFrom 31 j, tallyAt (cell (fwd c k) b) () 1) W)

theorem sig_step (b : CK) (hb : b = .b0 ∨ b = .b1) {c : Dev nD} {D : CellTallies nD τ sig Unit} (k : Fin 31)
    {n : Dev nD} (hn : n = fwd c k) {sem : Sem sig} (hs : SemLoc.reg sem = ssem b) :
    iprop(ctx P κ ∗ sigs P b c D k.val)
      ⊢ run c (semSignalWord n sem 1#32) (fun _ => iprop(ctx P κ ∗ sigs P b c D (k.val + 1))) := by
  subst hn
  have hr : ctx P κ ⊢ reached ER (cell (fwd c k) b) 0 := by
    rcases hb with rfl | rfl
    · exact ctx_b0 _
    · exact ctx_b1 _
  have hd : k.rev ∈ (Rd P).duties ((fwd c k : Thread nD τ), SemLoc.reg sem) 0 := by
    rw [hs, duties_cell]; rcases hb with rfl | rfl <;> exact Finset.mem_univ _
  have ha : (Rd P).amount ((fwd c k : Thread nD τ), SemLoc.reg sem) 0 k.rev = 1 := by
    rw [hs, amount_cell]; rcases hb with rfl | rfl <;> rfl
  have hp : (Rd P).payload ((fwd c k : Thread nD τ), SemLoc.reg sem) 0 k.rev = bpay P b c k := by rw [hs, payload_cell]
  have hO : D + ∑ k ∈ finFrom 31 k.val, tallyAt (cell (fwd c k) b) () 1
      = (D + ∑ k ∈ finFrom 31 (k.val + 1), tallyAt (cell (fwd c k) b) () 1) + tallyAt ((fwd c k : Thread nD τ), SemLoc.reg sem) () 1 := by
    rw [add_sum_finFrom_succ D k.isLt, hs]
  unfold sigs run semSignalWord
  rw [show (1#32 : BitVec 32).toInt = ((1 : ℕ) : ℤ) from rfl]
  rw [bigSep_finFrom_succ k.isLt]
  iintro ⟨#Hc, ⟨⟨Ht, Hp⟩, Hrest⟩, ⟨%W, HO⟩⟩
  iapply (Rounds.wp_signal 𝒱₀ ER (Rd P) (c : Thread nD τ) none (dst := (fwd c k : Thread nD τ)) (κ := κ (cell (fwd c k) b))
      hd ha () (D + ∑ k ∈ finFrom 31 (k.val + 1), tallyAt (cell (fwd c k) b) () 1) hO) $$ [HO Ht Hp]
  · rw [hs]
    isplitr; · iapply (ctx_inv (fwd c k) b); iexact Hc
    isplitl [HO]; · iexact HO
    isplitl [Ht]; · iexact Ht
    isplitl [Hp]; · rw [payload_cell]; iexact Hp
    iapply hr; iexact Hc
  iintro HO
  rw [wp_ret]; imodintro
  isplitr; · iexact Hc
  isplitl [Hrest]; · iexact Hrest
  iexists W; iexact HO

end Cert.MoE

end
-- ==== Proof.GatherB.lean ====
/-
  Call 0: its barrier wait, transfers and waits, each at a symbolic device.
-/
module

public import proofs.«01_k».proof.Proof.GatherA

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable {P : Plan F} {κ : GSem nD τ sig → ℕ}

theorem duts_r0 (R : Routing) (c : Dev nD) (k : Fin 32) (h : k ≠ c) : duts R c (.r0 k) = {0} := if_neg h
theorem duts_r0_self (R : Routing) (c : Dev nD) : duts R c (.r0 c) = ∅ := if_pos rfl

/-- A step beside what it does not touch. -/
theorem run_frame {α : Type} {c : Dev nD} {p : Prog (TpuEff nD τ sig (Elt F) Λ₀ .tc) α} {C A B R : sProp 𝕄}
    (h : iprop(C ∗ A) ⊢ run c p (fun _ => iprop(C ∗ B))) : iprop(C ∗ A ∗ R) ⊢ run c p (fun _ => iprop(C ∗ B ∗ R)) := by
  unfold run at h ⊢
  iintro ⟨HC, HA, HR⟩
  ihave Hw := h $$ [HC HA]
  · isplitl [HC]; · iexact HC
    iexact HA
  iapply (wp_wand _ _ _) $$ Hw
  iintro %_ ⟨HC, HB⟩
  isplitl [HC]; · iexact HC
  isplitl [HB]; · iexact HB
  iexact HR

theorem dev_eq {c : Dev nD} {x : ℕ} {hx : x < nD} (k : Fin 31) (h : x = (c.val + (k.val + 1)) % 32) : (⟨x, hx⟩ : Dev nD) = fwd c k := by
  apply Fin.ext; show x = (c.val + 1 + k.val) % 32; omega

/-! ## The barrier of call 0 -/

theorem bwait_step (b : CK) (hb : b = .b0 ∨ b = .b1) {c : Dev nD} {D : CellTallies nD τ sig Unit} (hD : Above (lvK b) D)
    {sem : Sem sig} (hs : SemLoc.reg sem = ssem b) :
    iprop(ctx P κ ∗ atPos ER (cell c b) 0 ∅ 0 ∗ cred (tallyAt (cell c b) () 31) ∗ ∃ W, owes (c : Thread nD τ) D W)
      ⊢ run c (semWaitWord sem 31#32) (fun _ => iprop(ctx P κ ∗ atPos ER (cell c b) (0 + 1) ∅ 0
          ∗ bigSep Finset.univ (fun k : Fin 31 => pay P c b k) ∗ ∃ W, owes (c : Thread nD τ) D W)) := by
  have he : 0 + 31 = (Rd P).expect ((c : Thread nD τ), SemLoc.reg sem) 0 := by
    rw [hs, expect_cell]; rcases hb with rfl | rfl <;> rfl
  have hpay := rest_cell (P := P) c b
  have hdu : duts P.R c b = Finset.univ := by rcases hb with rfl | rfl <;> rfl
  rw [hdu] at hpay
  unfold run semWaitWord
  rw [show (31#32 : BitVec 32).toInt = ((31 : ℕ) : ℤ) from rfl]
  iintro ⟨#Hc, Hat, Hcr, ⟨%W, HO⟩⟩
  iapply (Rounds.wp_wait_rest_token 𝒱₀ ER (Rd P) (c : Thread nD τ) none (κ := κ (cell c b))
      (wpE_semWait_eq 𝒱₀ (c : Thread nD τ) none Set.univ) (Set.mem_univ _) () (O := D) (W := W) (R := 0) (m := 0) (T := ∅) he) $$ [Hcr HO Hat]
  · rw [hs]
    isplitr; · iapply (ctx_inv c b); iexact Hc
    isplitl [Hcr]; · iexact Hcr
    isplitl [HO]; · iexact HO
    isplitr; · iapply (mayWait c b hD); iexact Hc
    iexact Hat
  rw [hs]
  iintro ⟨HO, Hat, -, Hpay⟩
  rw [wp_ret]; imodintro
  isplitr; · iexact Hc
  isplitl [Hat]; · iexact Hat
  isplitl [Hpay]; · iapply (Entails.of_eq hpay); iexact Hpay
  iexists _; iexact HO

/-! ## The transfers of call 0 -/

/-- The destination of a device's transfers: its own row, on every peer. -/
abbrev gDst (c : Dev nD) : Memref sig .tc .vmem S1x256 .i32 :=
  (Memref.whole cc0_stg1_0).slice (Rect.unit (s := S32x256) (k0_off3 c) S1x256.size (k0_off3_inb c)) (fun _ => rfl)

theorem gDst_set (c : Dev nD) : (gDst c).view.set = rowOf c.val := by
  show ((View.whole cc0_stg1_0).slice (Rect.unit (s := S32x256) (k0_off3 c) S1x256.size (k0_off3_inb c))).set = _
  rw [View.set_slice_whole]
  ext j
  rw [Rect.mem_set_unit, mem_rowOf, k0_off3_eq]
  constructor
  · intro h; have h0 := h 0
    have h1 : c.val ≤ (j 0).val := h0.1
    have h2 : (j 0).val < c.val + 1 := h0.2
    omega
  · intro h a
    match a with
    | ⟨0, _⟩ => exact ⟨h.ge, by show (j 0).val < c.val + 1; omega⟩
    | ⟨1, _⟩ => exact ⟨Nat.zero_le _, by have h2 : (j 1).val < 256 := (j 1).isLt; show (j 1).val < 0 + 256; omega⟩

theorem gDst_emb (c : Dev nD) (j : (cc0_stg1_0 : Ref sig .tc).ty.Idx) (h : j ∈ rowOf (sh := ![32, 256]) c.val) :
    (gDst c).view.emb (ix2 0 (j 1)) = j := by
  have h0 : (j 0).val = c.val := mem_rowOf.mp h
  funext a; apply Fin.ext
  match a with
  | ⟨0, _⟩ =>
    show k0_off3 c 0 + 1 * 0 = (j 0).val
    rw [k0_off3_eq]; show c.val + 1 * 0 = _; omega
  | ⟨1, _⟩ =>
    show k0_off3 c 1 + 1 * (j 1).val = (j 1).val
    rw [k0_off3_eq]; show 0 + 1 * (j 1).val = _; omega

theorem gat_row (c : Dev nD) (j : (cc0_stg1_0 : Ref sig .tc).ty.Idx) (h : j ∈ rowOf (sh := ![32, 256]) c.val) :
    P.gat j = P.E c (ix2 0 (j 1)) := by
  have h0 : j 0 = c := Fin.ext (mem_rowOf.mp h)
  unfold Plan.gat; rw [h0]

theorem gDst_landed (c d : Dev nD) (f : Gat (F := F)) :
    (((gDst c).view.loc (d : Thread nD τ)) ↦[(gDst c).view.set]{fullShare}
      ((gDst c).view.write (Elt F) f ((Memref.whole cc0_stg0_0).view.read (Elt F) (P.E c)) Finset.univ)) ⊢ gRow d c P.gat := by
  rw [gDst_set]
  refine Entails.of_eq (pointsTo_congr fun j hj => ?_)
  rw [gat_row c j hj]
  conv_lhs => rw [← gDst_emb c j hj]
  rw [View.write_emb_of_mem _ _ (Finset.mem_univ _)]
  rfl

theorem whole_pts (c : Dev nD) (r : Ref sig .tc) (q : PosShare TreeShare) (f : r.ty.Contents (Elt F)) :
    (((Memref.whole r).view.loc (c : Thread nD τ)) ↦[(Memref.whole r).view.set]{q} f : sProp 𝕄)
      = (((c : Thread nD τ).loc r) ↦[Finset.univ]{q} f) := by
  show (((c : Thread nD τ).loc r) ↦[(View.whole r).set]{q} f) = _
  rw [View.set_whole]

/-- Before the `j`-th transfer. -/
def sends (P : Plan F) (c : Dev nD) (D : CellTallies nD τ sig Unit) (j : ℕ) : sProp 𝕄 :=
  iprop(bigSep (finFrom 31 j) (fun k => iprop((∃ f, gRow (fwd c k) c f) ∗ reached ER (cell (fwd c k) (.r0 c)) 0
      ∗ dutyTok ER (cell c (.s0 k)) 0 0 ∗ reached ER (cell c (.s0 k)) 0 ∗ dutyTok ER (cell (fwd c k) (.r0 c)) 0 0
      ∗ (((c : Thread nD τ).loc cc0_stg0_0) ↦[Finset.univ]{shareTok fullShare 31 k} P.E c)))
    ∗ bigSep (finUpTo 31 j) (fun k => cred (tallyAt (cell c (.s0 k)) () N0))
    ∗ ∃ W, owes (c : Thread nD τ) (D + ∑ k ∈ finFrom 31 j, tallyAt (cell (fwd c k) (.r0 c)) () N0) W)

theorem send_step {c : Dev nD} {D : CellTallies nD τ sig Unit} (k : Fin 31) {n : Dev nD} (hn : n = fwd c k)
    {sS sR : SemLoc sig} (hS : sS = ssem (.s0 k)) (hR : sR = ssem (.r0 c))
    {hsc : (gDst c).view.ref.isScScratch = false} {hsrc : (Memref.whole cc0_stg0_0 : Memref sig .tc _ _ _).view.WordExact} {hdst : (gDst c).view.WordExact}
    {hsem : DmaTarget.Typed .vmem sR (.remote (Dev.tc n : Thread nD τ) (gDst c) sS hsc)} :
    iprop(ctx P κ ∗ sends P c D k.val)
      ⊢ run c (Prog.lift (.enqueueDma (Memref.whole cc0_stg0_0) (.remote (Dev.tc n : Thread nD τ) (gDst c) sS hsc) sR hsrc hdst hsem))
          (fun _ => iprop(ctx P κ ∗ sends P c D (k.val + 1))) := by
  subst hn hS hR
  have hO : D + ∑ k ∈ finFrom 31 k.val, tallyAt (cell (fwd c k) (.r0 c)) () N0
      = (D + ∑ k ∈ finFrom 31 (k.val + 1), tallyAt (cell (fwd c k) (.r0 c)) () N0) + tallyAt (cell (fwd c k) (.r0 c)) () N0 := by
    rw [add_sum_finFrom_succ D k.isLt]
  have hd₁ : (0 : Duty) ∈ (Rd P).duties (cell c (.s0 k)) 0 := by rw [duties_cell]; exact Finset.mem_singleton_self _
  have hd₂ : (0 : Duty) ∈ (Rd P).duties (cell (fwd c k) (.r0 c)) 0 := by
    rw [duties_cell, duts_r0 _ _ _ fun e => fwd_ne c k e.symm]; exact Finset.mem_singleton_self _
  unfold sends run Prog.lift
  rw [bigSep_finFrom_succ k.isLt, bigSep_finUpTo_succ k.isLt]
  iintro ⟨#Hc, ⟨⟨⟨%f, Hr⟩, Hrch, Ht1, Hr1, Ht2, Hs⟩, Hrest⟩, Hcr, ⟨%W, HO⟩⟩
  iapply (Rounds.wp_send_pointsTo 𝒱₀ ER (Rd P) (c : Thread nD τ) none (c' := (fwd c k : Thread nD τ))
      (src := Memref.whole cc0_stg0_0) (dst := gDst c) (sS := ssem (.s0 k)) (sem := ssem (.r0 c)) (q := shareTok fullShare 31 k)
      (fs := P.E c) (fd := f) (κ₁ := κ (cell c (.s0 k))) (κ₂ := κ (cell (fwd c k) (.r0 c))) (r₁ := 0) (r₂ := 0) (d₁ := 0) (d₂ := 0)
      hd₁ hd₂ () () N0 rfl (amount_cell c (.s0 k) 0 0) (amount_cell (fwd c k) (.r0 c) 0 0)
      (D + ∑ k ∈ finFrom 31 (k.val + 1), tallyAt (cell (fwd c k) (.r0 c)) () N0) hO (W := W)
      (by rw [payload_cell]; exact Entails.of_eq (whole_pts c cc0_stg0_0 _ _))
      (by rw [payload_cell]; exact gDst_landed c (fwd c k) f)) $$ [Hr Hrch Ht1 Hr1 Ht2 Hs HO]
  · isplitr; · iapply (ctx_inv c (.s0 k)); iexact Hc
    isplitr; · iapply (ctx_inv (fwd c k) (.r0 c)); iexact Hc
    isplitl [Hs]; · iapply (Entails.of_eq (whole_pts c cc0_stg0_0 _ _).symm); iexact Hs
    isplitl [Hr]; · rw [gDst_set]; iexact Hr
    isplitl [HO]; · iexact HO
    isplitl [Ht1]; · iexact Ht1
    isplitl [Hr1]; · iexact Hr1
    isplitl [Ht2]; · iexact Ht2
    iexact Hrch
  iintro ⟨Hc1, HO⟩
  rw [wp_ret]; imodintro
  isplitr; · iexact Hc
  isplitl [Hrest]; · iexact Hrest
  isplitl [Hcr Hc1]
  · isplitl [Hc1]; · iexact Hc1
    iexact Hcr
  iexists W; iexact HO

/-! ## The waits of call 0 -/

/-- One wait of a transfer's cell that has one duty. -/
theorem dwait {c : Dev nD} {D : CellTallies nD τ sig Unit} (k : CK) (hk : duts P.R c k = {0}) (hD : Above (lvK k) D)
    {sem : DmaSem sig} (hs : SemLoc.dma sem = ssem k) {sp sp' : Space} {s s' : Shape} {e e' : EltTy}
    {src : Memref sig .tc sp' s' e'} {dst : Memref sig .tc sp s e} {hsrc : src.view.WordExact} {hdst : dst.view.WordExact}
    (ha : dst.view.dmaCredit = amt k) :
    iprop(ctx P κ ∗ atPos ER (cell c k) 0 ∅ 0 ∗ cred (tallyAt (cell c k) () (amt k)) ∗ ∃ W, owes (c : Thread nD τ) D W)
      ⊢ run c (Prog.lift (.waitDma2 sem src dst hsrc hdst)) (fun _ => iprop(ctx P κ ∗ atPos ER (cell c k) (0 + 1) ∅ 0 ∗ pay P c k 0
          ∗ ∃ W, owes (c : Thread nD τ) D W)) := by
  have he : 0 + dst.view.dmaCredit = (Rd P).expect ((c : Thread nD τ), SemLoc.dma sem) 0 := by
    rw [hs, expect_cell, hk, Finset.card_singleton, ha]; omega
  have hpay := rest_cell (P := P) c k
  rw [hk, bigSep_singleton] at hpay
  unfold run Prog.lift
  iintro ⟨#Hc, Hat, Hcr, ⟨%W, HO⟩⟩
  iapply (Rounds.wp_wait_rest_token 𝒱₀ ER (Rd P) (c : Thread nD τ) none (κ := κ (cell c k))
      (wpE_waitDma2_eq 𝒱₀ (c : Thread nD τ) none Set.univ) (Set.mem_univ _) () (O := D) (W := W) (R := 0) (m := 0) (T := ∅) he) $$ [Hcr HO Hat]
  · rw [hs, ha]
    isplitr; · iapply (ctx_inv c k); iexact Hc
    isplitl [Hcr]; · iexact Hcr
    isplitl [HO]; · iexact HO
    isplitr; · iapply (mayWait c k hD); iexact Hc
    iexact Hat
  rw [hs]
  iintro ⟨HO, Hat, -, Hpay⟩
  rw [wp_ret]; imodintro
  isplitr; · iexact Hc
  isplitl [Hat]; · iexact Hat
  isplitl [Hpay]; · iapply (Entails.of_eq hpay); iexact Hpay
  iexists _; iexact HO

/-- Waits along a list of cells: before the `j`-th. -/
def waits (P : Plan F) {n : ℕ} (c : Dev nD) (ck : Fin n → CK) (D : CellTallies nD τ sig Unit) (j : ℕ) : sProp 𝕄 :=
  iprop(bigSep (finFrom n j) (fun k => iprop(atPos ER (cell c (ck k)) 0 ∅ 0 ∗ cred (tallyAt (cell c (ck k)) () (amt (ck k)))))
    ∗ bigSep (finUpTo n j) (fun k => iprop(atPos ER (cell c (ck k)) (0 + 1) ∅ 0 ∗ pay P c (ck k) 0))
    ∗ ∃ W, owes (c : Thread nD τ) D W)

theorem waits_step {n : ℕ} {c : Dev nD} {ck : Fin n → CK} {D : CellTallies nD τ sig Unit} (k : Fin n) (hk : duts P.R c (ck k) = {0})
    (hD : Above (lvK (ck k)) D)
    {sem : DmaSem sig} (hs : SemLoc.dma sem = ssem (ck k)) {sp sp' : Space} {s s' : Shape} {e e' : EltTy}
    {src : Memref sig .tc sp' s' e'} {dst : Memref sig .tc sp s e} {hsrc : src.view.WordExact} {hdst : dst.view.WordExact}
    (ha : dst.view.dmaCredit = amt (ck k)) :
    iprop(ctx P κ ∗ waits P c ck D k.val)
      ⊢ run c (Prog.lift (.waitDma2 sem src dst hsrc hdst)) (fun _ => iprop(ctx P κ ∗ waits P c ck D (k.val + 1))) := by
  unfold waits
  rw [bigSep_finFrom_succ k.isLt, bigSep_finUpTo_succ k.isLt]
  have h := dwait (P := P) (κ := κ) (c := c) (ck k) hk hD hs (src := src) (dst := dst) (hsrc := hsrc) (hdst := hdst) ha
  iintro ⟨#Hc, ⟨⟨Hat, Hcr⟩, Hrest⟩, Hdone, HO⟩
  ihave Hw := h $$ [Hat Hcr HO]
  · isplitr; · iexact Hc
    isplitl [Hat]; · iexact Hat
    isplitl [Hcr]; · iexact Hcr
    iexact HO
  unfold run
  iapply (wp_wand _ _ _) $$ Hw
  iintro %_ ⟨-, Hat, Hp, HO⟩
  isplitr; · iexact Hc
  isplitl [Hrest]; · iexact Hrest
  isplitl [Hat Hp Hdone]
  · isplitl [Hat Hp]
    · isplitl [Hat]; · iexact Hat
      iexact Hp
    iexact Hdone
  iexact HO

end Cert.MoE

end
-- ==== Proof.GatherC.lean ====
/-
  Call 0: the windows of its body, one after another.
-/
module

public import proofs.«01_k».proof.Proof.GatherB

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable {P : Plan F} {κ : GSem nD τ sig → ℕ}

/-- The cell of the `r`-th receive wait: of the `r + 1`-th device before. -/
abbrev rcv (c : Dev nD) (r : Fin 31) : CK := .r0 (fwd c r.rev)

theorem s0_sem (k : Fin 31) (off : Fin 1 → ℕ) (h : off = ![k.val]) (inb) :
    SemLoc.dma ((cc0_scratch0.slice (Rect.unit (s := S31) off S1.size inb)).squeeze S_ squeezes_S1_S_).sem = ssem (.s0 k) := by
  have hb : 2 + k.val < 994 := by have := k.isLt; omega
  exact congrArg SemLoc.dma (sem_slice (n := 31) (base := 2) hcc0_scratch0 off k.val h inb hb)
theorem r0_sem (k : Fin 32) (off : Fin 1 → ℕ) (h : off = ![k.val]) (inb) :
    SemLoc.dma ((cc0_scratch1.slice (Rect.unit (s := S32) off S1.size inb)).squeeze S_ squeezes_S1_S_).sem = ssem (.r0 k) := by
  have hb : 33 + k.val < 994 := by have := k.isLt; omega
  exact congrArg SemLoc.dma (sem_slice (n := 32) (base := 33) hcc0_scratch1 off k.val h inb hb)
theorem rcv_sem (c : Dev nD) (r : Fin 31) (w : BitVec 32) (hw : w = BitVec.ofNat 32 (1 + r.val)) (inb) :
    SemLoc.dma ((cc0_scratch1.slice (Rect.unit (s := S32) (k0_off4 c w) S1.size inb)).squeeze S_ squeezes_S1_S_).sem = ssem (rcv c r) := by
  subst hw
  refine r0_sem (fwd c r.rev) _ ?_ inb
  rw [k0_off4_eq]
  have := r.isLt
  have h2 : ((c.val + 31) - r.val) % 32 = (fwd c r.rev).val := by
    show _ = (c.val + 1 + (31 - (r.val + 1))) % 32; omega
  rw [h2]

theorem rcv_duts (R : Routing) (c : Dev nD) (r : Fin 31) : duts R c (rcv c r) = {0} := duts_r0 R c _ (fwd_ne c r.rev)

theorem sig0_step {c : Dev nD} {D : CellTallies nD τ sig Unit} {R : sProp 𝕄} (k : Fin 31)
    {n : ℕ} {hn' : n < nD} (hn : n = (c.val + (k.val + 1)) % 32) {sem : Sem sig} (hs : SemLoc.reg sem = ssem .b0) :
    iprop(ctx P κ ∗ sigs P .b0 c D k.val ∗ R)
      ⊢ run c (semSignalWord (⟨n, hn'⟩ : Dev nD) sem 1#32) (fun _ => iprop(ctx P κ ∗ sigs P .b0 c D (k.val + 1) ∗ R)) :=
  run_frame (sig_step .b0 (.inl rfl) k (dev_eq k hn) hs)

theorem send0_step {c : Dev nD} {D : CellTallies nD τ sig Unit} {R : sProp 𝕄} (k : Fin 31) {n : ℕ} {hn' : n < nD}
    (hn : n = (c.val + (k.val + 1)) % 32) {off : Fin 1 → ℕ} (ho : off = ![k.val]) {inb} {inb'}
    {hsc : (gDst c).view.ref.isScScratch = false} {hsrc : (Memref.whole cc0_stg0_0 : Memref sig .tc _ _ _).view.WordExact} {hdst : (gDst c).view.WordExact}
    {hsem} :
    iprop(ctx P κ ∗ sends P c D k.val ∗ R)
      ⊢ run c (Prog.lift (.enqueueDma (Memref.whole cc0_stg0_0) (.remote (Dev.tc (⟨n, hn'⟩ : Dev nD) : Thread nD τ) (gDst c)
            (.dma ((cc0_scratch0.slice (Rect.unit (s := S31) off S1.size inb)).squeeze S_ squeezes_S1_S_).sem) hsc)
            (.dma ((cc0_scratch1.slice (Rect.unit (s := S32) (k0_off2 c) S1.size inb')).squeeze S_ squeezes_S1_S_).sem) hsrc hdst hsem))
          (fun _ => iprop(ctx P κ ∗ sends P c D (k.val + 1) ∗ R)) :=
  run_frame (send_step k (dev_eq k hn) (s0_sem k off ho inb) (r0_sem c _ (k0_off2_eq c) inb'))

theorem recv0_step {c : Dev nD} {D : CellTallies nD τ sig Unit} {R : sProp 𝕄} (hD : Above 2 D) (r : Fin 31) {w : BitVec 32}
    (hw : w = BitVec.ofNat 32 (1 + r.val)) {inb} {inb'} {hst}
    {hsrc : (Memref.whole cc0_stg0_0 : Memref sig .tc _ _ _).view.WordExact} {hdst} :
    iprop(ctx P κ ∗ waits P c (rcv c) D r.val ∗ R)
      ⊢ run c (Prog.lift (.waitDma2 ((cc0_scratch1.slice (Rect.unit (s := S32) (k0_off4 c w) S1.size inb)).squeeze S_ squeezes_S1_S_).sem
            (Memref.whole cc0_stg0_0) ((Memref.whole cc0_stg1_0).slice (Rect.unit (s := S32x256) (k0_off5 c w) S1x256.size inb') hst) hsrc hdst))
          (fun _ => iprop(ctx P κ ∗ waits P c (rcv c) D (r.val + 1) ∗ R)) :=
  run_frame (waits_step r (rcv_duts _ c r) hD (rcv_sem c r w hw inb) rfl)

theorem swait0_step {c : Dev nD} {D : CellTallies nD τ sig Unit} {R : sProp 𝕄} (hD : Above 0 D) (k : Fin 31)
    {off : Fin 1 → ℕ} (ho : off = ![k.val]) {inb} {src : Memref sig .tc .vmem S1x256 .i32} {hsrc} {hdst} :
    iprop(ctx P κ ∗ waits P c CK.s0 D k.val ∗ R)
      ⊢ run c (Prog.lift (.waitDma2 ((cc0_scratch0.slice (Rect.unit (s := S31) off S1.size inb)).squeeze S_ squeezes_S1_S_).sem
            src (Memref.whole cc0_stg0_0) hsrc hdst))
          (fun _ => iprop(ctx P κ ∗ waits P c CK.s0 D (k.val + 1) ∗ R)) :=
  run_frame (waits_step (ck := CK.s0) k rfl hD (s0_sem k off ho inb) rfl)

theorem part2_run {c : Dev nD} {D : CellTallies nD τ sig Unit} {R : sProp 𝕄} (v2 : BitVec 32) (v3 : Sems sig S_) (v24 : BitVec 32) (c32_i32_20 : BitVec 32) (h3 : SemLoc.reg v3.sem = ssem .b0) :
    iprop(ctx P κ ∗ sigs P .b0 c D 5 ∗ R) ⊢ run c (k0_part2 (Memref.whole cc0_stg0_0) (Memref.isWhole_whole _) (Memref.whole cc0_stg1_0) (Memref.isWhole_whole _) cc0_scratch0 cc0_scratch1 c v2 v3 v24 c32_i32_20) (fun _ => iprop(ctx P κ ∗ sigs P .b0 c D 11 ∗ R)) := by
  rw [k0_part2_eq_skeleton]; unfold k0_part2_skel
  refine run_seq (sig0_step (P := P) (κ := κ) 5 (k0_dev6_eq c) h3) fun _ => ?_
  refine run_seq (sig0_step (P := P) (κ := κ) 6 (k0_dev7_eq c) h3) fun _ => ?_
  refine run_seq (sig0_step (P := P) (κ := κ) 7 (k0_dev8_eq c) h3) fun _ => ?_
  refine run_seq (sig0_step (P := P) (κ := κ) 8 (k0_dev9_eq c) h3) fun _ => ?_
  refine run_seq (sig0_step (P := P) (κ := κ) 9 (k0_dev10_eq c) h3) fun _ => ?_
  refine run_seq (sig0_step (P := P) (κ := κ) 10 (k0_dev11_eq c) h3) fun _ => ?_
  exact run_pure .rfl

theorem part3_run {c : Dev nD} {D : CellTallies nD τ sig Unit} {R : sProp 𝕄} (v2 : BitVec 32) (v3 : Sems sig S_) (v48 : BitVec 32) (c32_i32_44 : BitVec 32) (h3 : SemLoc.reg v3.sem = ssem .b0) :
    iprop(ctx P κ ∗ sigs P .b0 c D 11 ∗ R) ⊢ run c (k0_part3 (Memref.whole cc0_stg0_0) (Memref.isWhole_whole _) (Memref.whole cc0_stg1_0) (Memref.isWhole_whole _) cc0_scratch0 cc0_scratch1 c v2 v3 v48 c32_i32_44) (fun _ => iprop(ctx P κ ∗ sigs P .b0 c D 17 ∗ R)) := by
  rw [k0_part3_eq_skeleton]; unfold k0_part3_skel
  refine run_seq (sig0_step (P := P) (κ := κ) 11 (k0_dev12_eq c) h3) fun _ => ?_
  refine run_seq (sig0_step (P := P) (κ := κ) 12 (k0_dev13_eq c) h3) fun _ => ?_
  refine run_seq (sig0_step (P := P) (κ := κ) 13 (k0_dev14_eq c) h3) fun _ => ?_
  refine run_seq (sig0_step (P := P) (κ := κ) 14 (k0_dev15_eq c) h3) fun _ => ?_
  refine run_seq (sig0_step (P := P) (κ := κ) 15 (k0_dev16_eq c) h3) fun _ => ?_
  refine run_seq (sig0_step (P := P) (κ := κ) 16 (k0_dev17_eq c) h3) fun _ => ?_
  exact run_pure .rfl

theorem part4_run {c : Dev nD} {D : CellTallies nD τ sig Unit} {R : sProp 𝕄} (v2 : BitVec 32) (v3 : Sems sig S_) (v72 : BitVec 32) (c32_i32_68 : BitVec 32) (h3 : SemLoc.reg v3.sem = ssem .b0) :
    iprop(ctx P κ ∗ sigs P .b0 c D 17 ∗ R) ⊢ run c (k0_part4 (Memref.whole cc0_stg0_0) (Memref.isWhole_whole _) (Memref.whole cc0_stg1_0) (Memref.isWhole_whole _) cc0_scratch0 cc0_scratch1 c v2 v3 v72 c32_i32_68) (fun _ => iprop(ctx P κ ∗ sigs P .b0 c D 23 ∗ R)) := by
  rw [k0_part4_eq_skeleton]; unfold k0_part4_skel
  refine run_seq (sig0_step (P := P) (κ := κ) 17 (k0_dev18_eq c) h3) fun _ => ?_
  refine run_seq (sig0_step (P := P) (κ := κ) 18 (k0_dev19_eq c) h3) fun _ => ?_
  refine run_seq (sig0_step (P := P) (κ := κ) 19 (k0_dev20_eq c) h3) fun _ => ?_
  refine run_seq (sig0_step (P := P) (κ := κ) 20 (k0_dev21_eq c) h3) fun _ => ?_
  refine run_seq (sig0_step (P := P) (κ := κ) 21 (k0_dev22_eq c) h3) fun _ => ?_
  refine run_seq (sig0_step (P := P) (κ := κ) 22 (k0_dev23_eq c) h3) fun _ => ?_
  exact run_pure .rfl

theorem part5_run {c : Dev nD} {D : CellTallies nD τ sig Unit} {R : sProp 𝕄} (v2 : BitVec 32) (v3 : Sems sig S_) (v96 : BitVec 32) (c32_i32_92 : BitVec 32) (h3 : SemLoc.reg v3.sem = ssem .b0) :
    iprop(ctx P κ ∗ sigs P .b0 c D 23 ∗ R) ⊢ run c (k0_part5 (Memref.whole cc0_stg0_0) (Memref.isWhole_whole _) (Memref.whole cc0_stg1_0) (Memref.isWhole_whole _) cc0_scratch0 cc0_scratch1 c v2 v3 v96 c32_i32_92) (fun _ => iprop(ctx P κ ∗ sigs P .b0 c D 29 ∗ R)) := by
  rw [k0_part5_eq_skeleton]; unfold k0_part5_skel
  refine run_seq (sig0_step (P := P) (κ := κ) 23 (k0_dev24_eq c) h3) fun _ => ?_
  refine run_seq (sig0_step (P := P) (κ := κ) 24 (k0_dev25_eq c) h3) fun _ => ?_
  refine run_seq (sig0_step (P := P) (κ := κ) 25 (k0_dev26_eq c) h3) fun _ => ?_
  refine run_seq (sig0_step (P := P) (κ := κ) 26 (k0_dev27_eq c) h3) fun _ => ?_
  refine run_seq (sig0_step (P := P) (κ := κ) 27 (k0_dev28_eq c) h3) fun _ => ?_
  refine run_seq (sig0_step (P := P) (κ := κ) 28 (k0_dev29_eq c) h3) fun _ => ?_
  exact run_pure .rfl

theorem part7_run {c : Dev nD} {D : CellTallies nD τ sig Unit} {R : sProp 𝕄} (v2 : BitVec 32) :
    iprop(ctx P κ ∗ sends P c D 2 ∗ R) ⊢ run c (k0_part7 (Memref.whole cc0_stg0_0) (Memref.isWhole_whole _) (Memref.whole cc0_stg1_0) (Memref.isWhole_whole _) cc0_scratch0 cc0_scratch1 c v2) (fun _ => iprop(ctx P κ ∗ sends P c D 5 ∗ R)) := by
  rw [k0_part7_eq_skeleton]; unfold k0_part7_skel
  refine run_seq (send0_step (P := P) (κ := κ) 2 (k0_dev34_eq c) rfl) fun _ => ?_
  refine run_seq (send0_step (P := P) (κ := κ) 3 (k0_dev35_eq c) rfl) fun _ => ?_
  refine run_seq (send0_step (P := P) (κ := κ) 4 (k0_dev36_eq c) rfl) fun _ => ?_
  exact run_pure .rfl

theorem part8_run {c : Dev nD} {D : CellTallies nD τ sig Unit} {R : sProp 𝕄} (v2 : BitVec 32) :
    iprop(ctx P κ ∗ sends P c D 5 ∗ R) ⊢ run c (k0_part8 (Memref.whole cc0_stg0_0) (Memref.isWhole_whole _) (Memref.whole cc0_stg1_0) (Memref.isWhole_whole _) cc0_scratch0 cc0_scratch1 c v2) (fun _ => iprop(ctx P κ ∗ sends P c D 9 ∗ R)) := by
  rw [k0_part8_eq_skeleton]; unfold k0_part8_skel
  refine run_seq (send0_step (P := P) (κ := κ) 5 (k0_dev37_eq c) rfl) fun _ => ?_
  refine run_seq (send0_step (P := P) (κ := κ) 6 (k0_dev38_eq c) rfl) fun _ => ?_
  refine run_seq (send0_step (P := P) (κ := κ) 7 (k0_dev39_eq c) rfl) fun _ => ?_
  refine run_seq (send0_step (P := P) (κ := κ) 8 (k0_dev40_eq c) rfl) fun _ => ?_
  exact run_pure .rfl

theorem part9_run {c : Dev nD} {D : CellTallies nD τ sig Unit} {R : sProp 𝕄} (v2 : BitVec 32) (v215 : BitVec 32) (c0_i32_185 : BitVec 32) :
    iprop(ctx P κ ∗ sends P c D 9 ∗ R) ⊢ run c (k0_part9 (Memref.whole cc0_stg0_0) (Memref.isWhole_whole _) (Memref.whole cc0_stg1_0) (Memref.isWhole_whole _) cc0_scratch0 cc0_scratch1 c v2 v215 c0_i32_185) (fun _ => iprop(ctx P κ ∗ sends P c D 13 ∗ R)) := by
  rw [k0_part9_eq_skeleton]; unfold k0_part9_skel
  refine run_seq (send0_step (P := P) (κ := κ) 9 (k0_dev41_eq c) rfl) fun _ => ?_
  refine run_seq (send0_step (P := P) (κ := κ) 10 (k0_dev42_eq c) rfl) fun _ => ?_
  refine run_seq (send0_step (P := P) (κ := κ) 11 (k0_dev43_eq c) rfl) fun _ => ?_
  refine run_seq (send0_step (P := P) (κ := κ) 12 (k0_dev44_eq c) rfl) fun _ => ?_
  exact run_pure .rfl

theorem part10_run {c : Dev nD} {D : CellTallies nD τ sig Unit} {R : sProp 𝕄} (v2 : BitVec 32) (v250 : BitVec 32) :
    iprop(ctx P κ ∗ sends P c D 13 ∗ R) ⊢ run c (k0_part10 (Memref.whole cc0_stg0_0) (Memref.isWhole_whole _) (Memref.whole cc0_stg1_0) (Memref.isWhole_whole _) cc0_scratch0 cc0_scratch1 c v2 v250) (fun _ => iprop(ctx P κ ∗ sends P c D 17 ∗ R)) := by
  rw [k0_part10_eq_skeleton]; unfold k0_part10_skel
  refine run_seq (send0_step (P := P) (κ := κ) 13 (k0_dev45_eq c) rfl) fun _ => ?_
  refine run_seq (send0_step (P := P) (κ := κ) 14 (k0_dev46_eq c) rfl) fun _ => ?_
  refine run_seq (send0_step (P := P) (κ := κ) 15 (k0_dev47_eq c) rfl) fun _ => ?_
  refine run_seq (send0_step (P := P) (κ := κ) 16 (k0_dev48_eq c) rfl) fun _ => ?_
  exact run_pure .rfl

theorem part11_run {c : Dev nD} {D : CellTallies nD τ sig Unit} {R : sProp 𝕄} (v2 : BitVec 32) :
    iprop(ctx P κ ∗ sends P c D 17 ∗ R) ⊢ run c (k0_part11 (Memref.whole cc0_stg0_0) (Memref.isWhole_whole _) (Memref.whole cc0_stg1_0) (Memref.isWhole_whole _) cc0_scratch0 cc0_scratch1 c v2) (fun _ => iprop(ctx P κ ∗ sends P c D 20 ∗ R)) := by
  rw [k0_part11_eq_skeleton]; unfold k0_part11_skel
  refine run_seq (send0_step (P := P) (κ := κ) 17 (k0_dev49_eq c) rfl) fun _ => ?_
  refine run_seq (send0_step (P := P) (κ := κ) 18 (k0_dev50_eq c) rfl) fun _ => ?_
  refine run_seq (send0_step (P := P) (κ := κ) 19 (k0_dev51_eq c) rfl) fun _ => ?_
  exact run_pure .rfl

theorem part12_run {c : Dev nD} {D : CellTallies nD τ sig Unit} {R : sProp 𝕄} (v2 : BitVec 32) :
    iprop(ctx P κ ∗ sends P c D 20 ∗ R) ⊢ run c (k0_part12 (Memref.whole cc0_stg0_0) (Memref.isWhole_whole _) (Memref.whole cc0_stg1_0) (Memref.isWhole_whole _) cc0_scratch0 cc0_scratch1 c v2) (fun _ => iprop(ctx P κ ∗ sends P c D 24 ∗ R)) := by
  rw [k0_part12_eq_skeleton]; unfold k0_part12_skel
  refine run_seq (send0_step (P := P) (κ := κ) 20 (k0_dev52_eq c) rfl) fun _ => ?_
  refine run_seq (send0_step (P := P) (κ := κ) 21 (k0_dev53_eq c) rfl) fun _ => ?_
  refine run_seq (send0_step (P := P) (κ := κ) 22 (k0_dev54_eq c) rfl) fun _ => ?_
  refine run_seq (send0_step (P := P) (κ := κ) 23 (k0_dev55_eq c) rfl) fun _ => ?_
  exact run_pure .rfl

theorem part13_run {c : Dev nD} {D : CellTallies nD τ sig Unit} {R : sProp 𝕄} (v2 : BitVec 32) (v350 : BitVec 32) (c0_i32_275 : BitVec 32) :
    iprop(ctx P κ ∗ sends P c D 24 ∗ R) ⊢ run c (k0_part13 (Memref.whole cc0_stg0_0) (Memref.isWhole_whole _) (Memref.whole cc0_stg1_0) (Memref.isWhole_whole _) cc0_scratch0 cc0_scratch1 c v2 v350 c0_i32_275) (fun _ => iprop(ctx P κ ∗ sends P c D 28 ∗ R)) := by
  rw [k0_part13_eq_skeleton]; unfold k0_part13_skel
  refine run_seq (send0_step (P := P) (κ := κ) 24 (k0_dev56_eq c) rfl) fun _ => ?_
  refine run_seq (send0_step (P := P) (κ := κ) 25 (k0_dev57_eq c) rfl) fun _ => ?_
  refine run_seq (send0_step (P := P) (κ := κ) 26 (k0_dev58_eq c) rfl) fun _ => ?_
  refine run_seq (send0_step (P := P) (κ := κ) 27 (k0_dev59_eq c) rfl) fun _ => ?_
  exact run_pure .rfl

theorem part15_run {c : Dev nD} {D : CellTallies nD τ sig Unit} {R : sProp 𝕄} (hD : Above 2 D) (v2 : BitVec 32) :
    iprop(ctx P κ ∗ waits P c (rcv c) D 1 ∗ R) ⊢ run c (k0_part15 (Memref.whole cc0_stg0_0) (Memref.isWhole_whole _) (Memref.whole cc0_stg1_0) (Memref.isWhole_whole _) cc0_scratch0 cc0_scratch1 c v2) (fun _ => iprop(ctx P κ ∗ waits P c (rcv c) D 4 ∗ R)) := by
  rw [k0_part15_eq_skeleton]; unfold k0_part15_skel
  refine run_seq (recv0_step (P := P) (κ := κ) hD 1 rfl) fun _ => ?_
  refine run_seq (recv0_step (P := P) (κ := κ) hD 2 rfl) fun _ => ?_
  refine run_seq (recv0_step (P := P) (κ := κ) hD 3 rfl) fun _ => ?_
  exact run_pure .rfl

theorem part16_run {c : Dev nD} {D : CellTallies nD τ sig Unit} {R : sProp 𝕄} (hD : Above 2 D) (v2 : BitVec 32) :
    iprop(ctx P κ ∗ waits P c (rcv c) D 4 ∗ R) ⊢ run c (k0_part16 (Memref.whole cc0_stg0_0) (Memref.isWhole_whole _) (Memref.whole cc0_stg1_0) (Memref.isWhole_whole _) cc0_scratch0 cc0_scratch1 c v2) (fun _ => iprop(ctx P κ ∗ waits P c (rcv c) D 8 ∗ R)) := by
  rw [k0_part16_eq_skeleton]; unfold k0_part16_skel
  refine run_seq (recv0_step (P := P) (κ := κ) hD 4 rfl) fun _ => ?_
  refine run_seq (recv0_step (P := P) (κ := κ) hD 5 rfl) fun _ => ?_
  refine run_seq (recv0_step (P := P) (κ := κ) hD 6 rfl) fun _ => ?_
  refine run_seq (recv0_step (P := P) (κ := κ) hD 7 rfl) fun _ => ?_
  exact run_pure .rfl

theorem part17_run {c : Dev nD} {D : CellTallies nD τ sig Unit} {R : sProp 𝕄} (hD : Above 2 D) (v2 : BitVec 32) (v477 : BitVec 32) (c1_i32_373 : BitVec 32) :
    iprop(ctx P κ ∗ waits P c (rcv c) D 8 ∗ R) ⊢ run c (k0_part17 (Memref.whole cc0_stg0_0) (Memref.isWhole_whole _) (Memref.whole cc0_stg1_0) (Memref.isWhole_whole _) cc0_scratch0 cc0_scratch1 c v2 v477 c1_i32_373) (fun _ => iprop(ctx P κ ∗ waits P c (rcv c) D 12 ∗ R)) := by
  rw [k0_part17_eq_skeleton]; unfold k0_part17_skel
  refine run_seq (recv0_step (P := P) (κ := κ) hD 8 rfl) fun _ => ?_
  refine run_seq (recv0_step (P := P) (κ := κ) hD 9 rfl) fun _ => ?_
  refine run_seq (recv0_step (P := P) (κ := κ) hD 10 rfl) fun _ => ?_
  refine run_seq (recv0_step (P := P) (κ := κ) hD 11 rfl) fun _ => ?_
  exact run_pure .rfl

theorem part18_run {c : Dev nD} {D : CellTallies nD τ sig Unit} {R : sProp 𝕄} (hD : Above 2 D) (v2 : BitVec 32) (v508 : BitVec 32) :
    iprop(ctx P κ ∗ waits P c (rcv c) D 12 ∗ R) ⊢ run c (k0_part18 (Memref.whole cc0_stg0_0) (Memref.isWhole_whole _) (Memref.whole cc0_stg1_0) (Memref.isWhole_whole _) cc0_scratch0 cc0_scratch1 c v2 v508) (fun _ => iprop(ctx P κ ∗ waits P c (rcv c) D 16 ∗ R)) := by
  rw [k0_part18_eq_skeleton]; unfold k0_part18_skel
  refine run_seq (recv0_step (P := P) (κ := κ) hD 12 rfl) fun _ => ?_
  refine run_seq (recv0_step (P := P) (κ := κ) hD 13 rfl) fun _ => ?_
  refine run_seq (recv0_step (P := P) (κ := κ) hD 14 rfl) fun _ => ?_
  refine run_seq (recv0_step (P := P) (κ := κ) hD 15 rfl) fun _ => ?_
  exact run_pure .rfl

theorem part19_run {c : Dev nD} {D : CellTallies nD τ sig Unit} {R : sProp 𝕄} (hD : Above 2 D) (v2 : BitVec 32) :
    iprop(ctx P κ ∗ waits P c (rcv c) D 16 ∗ R) ⊢ run c (k0_part19 (Memref.whole cc0_stg0_0) (Memref.isWhole_whole _) (Memref.whole cc0_stg1_0) (Memref.isWhole_whole _) cc0_scratch0 cc0_scratch1 c v2) (fun _ => iprop(ctx P κ ∗ waits P c (rcv c) D 19 ∗ R)) := by
  rw [k0_part19_eq_skeleton]; unfold k0_part19_skel
  refine run_seq (recv0_step (P := P) (κ := κ) hD 16 rfl) fun _ => ?_
  refine run_seq (recv0_step (P := P) (κ := κ) hD 17 rfl) fun _ => ?_
  refine run_seq (recv0_step (P := P) (κ := κ) hD 18 rfl) fun _ => ?_
  exact run_pure .rfl

theorem part20_run {c : Dev nD} {D : CellTallies nD τ sig Unit} {R : sProp 𝕄} (hD : Above 2 D) (v2 : BitVec 32) :
    iprop(ctx P κ ∗ waits P c (rcv c) D 19 ∗ R) ⊢ run c (k0_part20 (Memref.whole cc0_stg0_0) (Memref.isWhole_whole _) (Memref.whole cc0_stg1_0) (Memref.isWhole_whole _) cc0_scratch0 cc0_scratch1 c v2) (fun _ => iprop(ctx P κ ∗ waits P c (rcv c) D 23 ∗ R)) := by
  rw [k0_part20_eq_skeleton]; unfold k0_part20_skel
  refine run_seq (recv0_step (P := P) (κ := κ) hD 19 rfl) fun _ => ?_
  refine run_seq (recv0_step (P := P) (κ := κ) hD 20 rfl) fun _ => ?_
  refine run_seq (recv0_step (P := P) (κ := κ) hD 21 rfl) fun _ => ?_
  refine run_seq (recv0_step (P := P) (κ := κ) hD 22 rfl) fun _ => ?_
  exact run_pure .rfl

theorem part21_run {c : Dev nD} {D : CellTallies nD τ sig Unit} {R : sProp 𝕄} (hD : Above 2 D) (v2 : BitVec 32) (v597 : BitVec 32) (c1_i32_478 : BitVec 32) :
    iprop(ctx P κ ∗ waits P c (rcv c) D 23 ∗ R) ⊢ run c (k0_part21 (Memref.whole cc0_stg0_0) (Memref.isWhole_whole _) (Memref.whole cc0_stg1_0) (Memref.isWhole_whole _) cc0_scratch0 cc0_scratch1 c v2 v597 c1_i32_478) (fun _ => iprop(ctx P κ ∗ waits P c (rcv c) D 27 ∗ R)) := by
  rw [k0_part21_eq_skeleton]; unfold k0_part21_skel
  refine run_seq (recv0_step (P := P) (κ := κ) hD 23 rfl) fun _ => ?_
  refine run_seq (recv0_step (P := P) (κ := κ) hD 24 rfl) fun _ => ?_
  refine run_seq (recv0_step (P := P) (κ := κ) hD 25 rfl) fun _ => ?_
  refine run_seq (recv0_step (P := P) (κ := κ) hD 26 rfl) fun _ => ?_
  exact run_pure .rfl

theorem part22_run {c : Dev nD} {D : CellTallies nD τ sig Unit} {R : sProp 𝕄} (hD : Above 2 D) (v2 : BitVec 32) (v628 : BitVec 32) :
    iprop(ctx P κ ∗ waits P c (rcv c) D 27 ∗ R) ⊢ run c (k0_part22 (Memref.whole cc0_stg0_0) (Memref.isWhole_whole _) (Memref.whole cc0_stg1_0) (Memref.isWhole_whole _) cc0_scratch0 cc0_scratch1 c v2 v628) (fun _ => iprop(ctx P κ ∗ waits P c (rcv c) D 31 ∗ R)) := by
  rw [k0_part22_eq_skeleton]; unfold k0_part22_skel
  refine run_seq (recv0_step (P := P) (κ := κ) hD 27 rfl) fun _ => ?_
  refine run_seq (recv0_step (P := P) (κ := κ) hD 28 rfl) fun _ => ?_
  refine run_seq (recv0_step (P := P) (κ := κ) hD 29 rfl) fun _ => ?_
  refine run_seq (recv0_step (P := P) (κ := κ) hD 30 rfl) fun _ => ?_
  exact run_pure .rfl

theorem part23_run {c : Dev nD} {D : CellTallies nD τ sig Unit} {R : sProp 𝕄} (hD : Above 2 D) :
    iprop(ctx P κ ∗ waits P c CK.s0 D 0 ∗ R) ⊢ run c (k0_part23 (Memref.whole cc0_stg0_0) (Memref.isWhole_whole _) (Memref.whole cc0_stg1_0) (Memref.isWhole_whole _) cc0_scratch0 cc0_scratch1 c) (fun _ => iprop(ctx P κ ∗ waits P c CK.s0 D 8 ∗ R)) := by
  rw [k0_part23_eq_skeleton]; unfold k0_part23_skel
  refine run_seq (swait0_step (P := P) (κ := κ) (hD.mono (Nat.zero_le 2)) 0 rfl) fun _ => ?_
  refine run_seq (swait0_step (P := P) (κ := κ) (hD.mono (Nat.zero_le 2)) 1 rfl) fun _ => ?_
  refine run_seq (swait0_step (P := P) (κ := κ) (hD.mono (Nat.zero_le 2)) 2 rfl) fun _ => ?_
  refine run_seq (swait0_step (P := P) (κ := κ) (hD.mono (Nat.zero_le 2)) 3 rfl) fun _ => ?_
  refine run_seq (swait0_step (P := P) (κ := κ) (hD.mono (Nat.zero_le 2)) 4 rfl) fun _ => ?_
  refine run_seq (swait0_step (P := P) (κ := κ) (hD.mono (Nat.zero_le 2)) 5 rfl) fun _ => ?_
  refine run_seq (swait0_step (P := P) (κ := κ) (hD.mono (Nat.zero_le 2)) 6 rfl) fun _ => ?_
  refine run_seq (swait0_step (P := P) (κ := κ) (hD.mono (Nat.zero_le 2)) 7 rfl) fun _ => ?_
  exact run_pure .rfl

theorem part24_run {c : Dev nD} {D : CellTallies nD τ sig Unit} {R : sProp 𝕄} (hD : Above 2 D) :
    iprop(ctx P κ ∗ waits P c CK.s0 D 8 ∗ R) ⊢ run c (k0_part24 (Memref.whole cc0_stg0_0) (Memref.isWhole_whole _) (Memref.whole cc0_stg1_0) (Memref.isWhole_whole _) cc0_scratch0 cc0_scratch1 c) (fun _ => iprop(ctx P κ ∗ waits P c CK.s0 D 17 ∗ R)) := by
  rw [k0_part24_eq_skeleton]; unfold k0_part24_skel
  refine run_seq (swait0_step (P := P) (κ := κ) (hD.mono (Nat.zero_le 2)) 8 rfl) fun _ => ?_
  refine run_seq (swait0_step (P := P) (κ := κ) (hD.mono (Nat.zero_le 2)) 9 rfl) fun _ => ?_
  refine run_seq (swait0_step (P := P) (κ := κ) (hD.mono (Nat.zero_le 2)) 10 rfl) fun _ => ?_
  refine run_seq (swait0_step (P := P) (κ := κ) (hD.mono (Nat.zero_le 2)) 11 rfl) fun _ => ?_
  refine run_seq (swait0_step (P := P) (κ := κ) (hD.mono (Nat.zero_le 2)) 12 rfl) fun _ => ?_
  refine run_seq (swait0_step (P := P) (κ := κ) (hD.mono (Nat.zero_le 2)) 13 rfl) fun _ => ?_
  refine run_seq (swait0_step (P := P) (κ := κ) (hD.mono (Nat.zero_le 2)) 14 rfl) fun _ => ?_
  refine run_seq (swait0_step (P := P) (κ := κ) (hD.mono (Nat.zero_le 2)) 15 rfl) fun _ => ?_
  refine run_seq (swait0_step (P := P) (κ := κ) (hD.mono (Nat.zero_le 2)) 16 rfl) fun _ => ?_
  exact run_pure .rfl

theorem part25_run {c : Dev nD} {D : CellTallies nD τ sig Unit} {R : sProp 𝕄} (hD : Above 2 D) :
    iprop(ctx P κ ∗ waits P c CK.s0 D 17 ∗ R) ⊢ run c (k0_part25 (Memref.whole cc0_stg0_0) (Memref.isWhole_whole _) (Memref.whole cc0_stg1_0) (Memref.isWhole_whole _) cc0_scratch0 cc0_scratch1 c) (fun _ => iprop(ctx P κ ∗ waits P c CK.s0 D 25 ∗ R)) := by
  rw [k0_part25_eq_skeleton]; unfold k0_part25_skel
  refine run_seq (swait0_step (P := P) (κ := κ) (hD.mono (Nat.zero_le 2)) 17 rfl) fun _ => ?_
  refine run_seq (swait0_step (P := P) (κ := κ) (hD.mono (Nat.zero_le 2)) 18 rfl) fun _ => ?_
  refine run_seq (swait0_step (P := P) (κ := κ) (hD.mono (Nat.zero_le 2)) 19 rfl) fun _ => ?_
  refine run_seq (swait0_step (P := P) (κ := κ) (hD.mono (Nat.zero_le 2)) 20 rfl) fun _ => ?_
  refine run_seq (swait0_step (P := P) (κ := κ) (hD.mono (Nat.zero_le 2)) 21 rfl) fun _ => ?_
  refine run_seq (swait0_step (P := P) (κ := κ) (hD.mono (Nat.zero_le 2)) 22 rfl) fun _ => ?_
  refine run_seq (swait0_step (P := P) (κ := κ) (hD.mono (Nat.zero_le 2)) 23 rfl) fun _ => ?_
  refine run_seq (swait0_step (P := P) (κ := κ) (hD.mono (Nat.zero_le 2)) 24 rfl) fun _ => ?_
  exact run_pure .rfl

end Cert.MoE

end
-- ==== Proof.GatherD.lean ====
/-
  Call 0: the windows of its body where one stage of the protocol passes to the next.
-/
module

public import proofs.«01_k».proof.Proof.GatherC
public import Idealize.ShloMosaic.Lib.Pipeline.Value

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable {P : Plan F} {κ : GSem nD τ sig → ℕ}

theorem pure_left {φ : Prop} {A Q : sProp 𝕄} (h : φ → A ⊢ Q) : iprop(⌜φ⌝ ∗ A) ⊢ Q := by
  iintro ⟨%hp, H⟩; iapply (h hp); iexact H
theorem ex_left {α : Type} {A : α → sProp 𝕄} {Q : sProp 𝕄} (h : ∀ x, A x ⊢ Q) : iprop(∃ x, A x) ⊢ Q := by
  iintro ⟨%x, H⟩; iapply (h x); iexact H
theorem sep_in {I : Type} (s : Finset I) (Φ Ψ : I → sProp 𝕄) :
    iprop(bigSep s Φ ∗ bigSep s Ψ) ⊢ bigSep s (fun i => iprop(Φ i ∗ Ψ i)) := Entails.of_eq (BI.bigSep_sep s Φ Ψ).symm
theorem sep_out {I : Type} (s : Finset I) (Φ Ψ : I → sProp 𝕄) :
    bigSep s (fun i => iprop(Φ i ∗ Ψ i)) ⊢ iprop(bigSep s Φ ∗ bigSep s Ψ) := Entails.of_eq (BI.bigSep_sep s Φ Ψ)
theorem sep_mono {I : Type} {s : Finset I} {Φ Ψ : I → sProp 𝕄} (h : ∀ i ∈ s, Φ i ⊢ Ψ i) : (bigSep s Φ : sProp 𝕄) ⊢ bigSep s Ψ :=
  BI.bigSep_mono h

theorem part1_run {c : Dev nD} {D : CellTallies nD τ sig Unit} {R : sProp 𝕄} :
    iprop(ctx P κ ∗ sigs P .b0 c D 0 ∗ R) ⊢ run c (k0_part1 (Memref.whole cc0_stg0_0) (Memref.isWhole_whole _) (Memref.whole cc0_stg1_0) (Memref.isWhole_whole _) cc0_scratch0 cc0_scratch1)
      (fun r => iprop(⌜r.1 = c ∧ SemLoc.reg r.2.2.1.sem = ssem .b0⌝ ∗ ctx P κ ∗ sigs P .b0 c D 5 ∗ R)) := by
  rw [k0_part1_eq_skeleton]; unfold k0_part1_skel
  have hdev : iprop(ctx P κ ∗ sigs P .b0 c D 0 ∗ R) ⊢ run c (Prog.lift .deviceId : Prog (TpuEff nD τ sig (Elt F) Λ₀ .tc) (Dev nD))
      (fun d => iprop(⌜d = c⌝ ∗ ctx P κ ∗ sigs P .b0 c D 0 ∗ R)) := by
    unfold run Prog.lift; rw [wp_deviceId, wp_ret]
    iintro H; imodintro; isplitr; · ipureintro; rfl
    iexact H
  refine run_seqE hdev fun d0 => ?_
  refine pure_left fun hd => ?_
  obtain rfl : c = d0 := hd.symm
  have h3 : SemLoc.reg (SemArray.scalar (sig.barrier 0 rfl) : Sems sig S_).sem = ssem .b0 := rfl
  refine run_seq (sig0_step (P := P) (κ := κ) 0 (k0_dev1_eq c) h3) fun _ => ?_
  refine run_seq (sig0_step (P := P) (κ := κ) 1 (k0_dev2_eq c) h3) fun _ => ?_
  refine run_seq (sig0_step (P := P) (κ := κ) 2 (k0_dev3_eq c) h3) fun _ => ?_
  refine run_seq (sig0_step (P := P) (κ := κ) 3 (k0_dev4_eq c) h3) fun _ => ?_
  refine run_seq (sig0_step (P := P) (κ := κ) 4 (k0_dev5_eq c) h3) fun _ => ?_
  refine run_pure ?_
  iintro H
  isplitr; · ipureintro; exact ⟨rfl, rfl⟩
  iexact H

/-- A load and a store through a rectangle, beside what they do not touch. -/
theorem load_step {c : Dev nD} {cs : CoreSpace} {s : Shape} {e : EltTy} {m : Memref sig .tc cs s e} {r : Rect s} {hl : m.view.LoadsAt r}
    {S : Finset (Idx ((m.access r).loc (c : Thread nD τ)))} {q : PosShare TreeShare} {f : Buf (Elt F) ((m.access r).loc (c : Thread nD τ))} {R : sProp 𝕄}
    (hS : (m.access r).set ⊆ S) :
    iprop(((m.access r).loc (c : Thread nD τ) ↦[S]{q} f) ∗ R)
      ⊢ run c (Prog.lift (.load m r.toLoadRect hl)) (fun v => iprop(⌜v = (m.access r).read (Elt F) f⌝ ∗ ((m.access r).loc (c : Thread nD τ) ↦[S]{q} f) ∗ R)) := by
  unfold run Prog.lift
  iintro ⟨H, HR⟩
  iapply (wp_load_rect 𝒱₀ (c : Thread nD τ) none Set.univ (m := m) (r := r) (S := S) (q := q) (f := f) hS) $$ H
  iintro H
  rw [wp_ret]; imodintro
  isplitr; · ipureintro; rfl
  isplitl [H]; · iexact H
  iexact HR

theorem store_step {c : Dev nD} {cs : CoreSpace} {s : Shape} {e : EltTy} {m : Memref sig .tc cs s e} {r : Rect s} {w : r.shape.Idx → Elt F e} {Mk : Finset r.shape.Idx}
    {hx : (m.access r).Stores Mk} {hm : Mk = Finset.univ ∨ ∀ a, r.stride a = 1}
    {S : Finset (Idx ((m.access r).loc (c : Thread nD τ)))} {f : Buf (Elt F) ((m.access r).loc (c : Thread nD τ))} {R : sProp 𝕄}
    (hS : (m.access r).setOn Mk ⊆ S) :
    iprop(((m.access r).loc (c : Thread nD τ) ↦[S]{fullShare} f) ∗ R)
      ⊢ run c (Prog.lift (.store m r w Mk hx hm)) (fun _ => iprop(((m.access r).loc (c : Thread nD τ) ↦[S]{fullShare} ((m.access r).write (Elt F) f w Mk)) ∗ R)) := by
  unfold run Prog.lift
  iintro ⟨H, HR⟩
  iapply (wp_store 𝒱₀ (c : Thread nD τ) none Set.univ (m := m) (r := r) (S := S) (f := f) hS) $$ H
  iintro H
  rw [wp_ret]; imodintro
  isplitl [H]; · iexact H
  iexact HR

/-- What a device holds for its `k`-th transfer before its peer's row comes. -/
def sendTok (c : Dev nD) (k : Fin 31) : sProp 𝕄 :=
  iprop(dutyTok ER (cell c (.s0 k)) 0 0 ∗ reached ER (cell c (.s0 k)) 0 ∗ dutyTok ER (cell (fwd c k) (.r0 c)) 0 0)

theorem sends_start {c : Dev nD} {D : CellTallies nD τ sig Unit} :
    iprop(bigSep Finset.univ (fun k : Fin 31 => pay P c .b0 k) ∗ bigSep Finset.univ (sendTok (F := F) c)
        ∗ bigSep Finset.univ (fun k : Fin 31 => ((c : Thread nD τ).loc cc0_stg0_0) ↦[Finset.univ]{shareTok fullShare 31 k} P.E c)
        ∗ ∃ W, owes (c : Thread nD τ) (D + ∑ k : Fin 31, tallyAt (cell (fwd c k) (.r0 c)) () N0) W)
      ⊢ sends P c D 0 := by
  unfold sends
  rw [finFrom_zero, bigSep_finUpTo_zero]
  iintro ⟨Hp, Ht, Hs, HO⟩
  isplitr [HO]
  · ihave H := (sep_in Finset.univ (sendTok (F := F) c)
      (fun k : Fin 31 => ((c : Thread nD τ).loc cc0_stg0_0) ↦[Finset.univ]{shareTok fullShare 31 k} P.E c)) $$ [Ht Hs]
    · isplitl [Ht]; · iexact Ht
      iexact Hs
    ihave H := (sep_in Finset.univ (fun k : Fin 31 => pay P c .b0 k) (fun k : Fin 31 => iprop(sendTok (F := F) c k
      ∗ (((c : Thread nD τ).loc cc0_stg0_0) ↦[Finset.univ]{shareTok fullShare 31 k} P.E c)))) $$ [Hp H]
    · isplitl [Hp]; · iexact Hp
      iexact H
    iapply (sep_mono fun k _ => ?_) $$ H
    unfold sendTok pay pay0
    iintro ⟨⟨Hf, Hr⟩, ⟨Ht1, Hr1, Ht2⟩, Hs⟩
    isplitl [Hf]; · iexact Hf
    isplitl [Hr]; · iexact Hr
    isplitl [Ht1]; · iexact Ht1
    isplitl [Hr1]; · iexact Hr1
    isplitl [Ht2]; · iexact Ht2
    iexact Hs
  · isplitr; · iempintro
    iexact HO

/-- The rectangle of a device's own row. -/
theorem own_set (c : Dev nD) (inb) :
    ((Memref.whole cc0_stg1_0).access (Rect.unit (s := S32x256) (k0_off1 c) S1x256.size inb) : View sig .tc _ _ _).set = rowOf c.val := by
  show ((View.whole cc0_stg1_0).slice (Rect.unit (s := S32x256) (k0_off1 c) S1x256.size inb)).set = _
  rw [View.set_slice_whole]
  ext j
  rw [Rect.mem_set_unit, mem_rowOf, k0_off1_eq]
  constructor
  · intro h; have h0 := h 0
    have h1 : c.val ≤ (j 0).val := h0.1
    have h2 : (j 0).val < c.val + 1 := h0.2
    omega
  · intro h a
    match a with
    | ⟨0, _⟩ => exact ⟨h.ge, by show (j 0).val < c.val + 1; omega⟩
    | ⟨1, _⟩ => exact ⟨Nat.zero_le _, by have h2 : (j 1).val < 256 := (j 1).isLt; show (j 1).val < 0 + 256; omega⟩

theorem own_emb (c : Dev nD) (inb) (j : (cc0_stg1_0 : Ref sig .tc).ty.Idx) (h : j ∈ rowOf (sh := ![32, 256]) c.val) :
    ((Memref.whole cc0_stg1_0).access (Rect.unit (s := S32x256) (k0_off1 c) S1x256.size inb) : View sig .tc _ _ _).emb (ix2 0 (j 1)) = j := by
  have h0 : (j 0).val = c.val := mem_rowOf.mp h
  funext a; apply Fin.ext
  match a with
  | ⟨0, _⟩ =>
    show k0_off1 c 0 + 1 * 0 = (j 0).val
    rw [k0_off1_eq]; show c.val + 1 * 0 = _; omega
  | ⟨1, _⟩ =>
    show k0_off1 c 1 + 1 * (j 1).val = (j 1).val
    rw [k0_off1_eq]; show 0 + 1 * (j 1).val = _; omega

theorem whole_read (c : Dev nD) (inb) (v : S1x256.Idx) :
    ((Memref.whole cc0_stg0_0).access (Rect.unit (s := S1x256) ![0, 0] S1x256.size inb) : View sig .tc _ _ _).read (Elt F) (P.E c) v = P.E c v := by
  rw [View.read_apply]
  have : ((Memref.whole cc0_stg0_0).access (Rect.unit (s := S1x256) ![0, 0] S1x256.size inb) : View sig .tc _ _ _).emb v = v := by
    funext a; apply Fin.ext
    match a with
    | ⟨0, _⟩ => show 0 + 1 * (v 0).val = (v 0).val; omega
    | ⟨1, _⟩ => show 0 + 1 * (v 1).val = (v 1).val; omega
  rw [this]; rfl

theorem pay1_at (v : Vec F S1x256 .i32) (i : S1x256.Idx) : k0_pay1 v i = v i := by
  unfold k0_pay1; exact congrFun (shapeCast_self v _) i

/-- The middle of the body: the barrier's wait, and the device's own row written. -/
theorem part6_run {c : Dev nD} {D : CellTallies nD τ sig Unit} {R : sProp 𝕄} (hD : Above 2 D) (v2 : BitVec 32) (v3 : Sems sig S_)
    (v120 c32 : BitVec 32) (h3 : SemLoc.reg v3.sem = ssem .b0) :
    iprop(ctx P κ ∗ sigs P .b0 c (D + ∑ k : Fin 31, tallyAt (cell (fwd c k) (.r0 c)) () N0) 29
        ∗ (atPos ER (cell c .b0) 0 ∅ 0 ∗ cred (tallyAt (cell c .b0) () 31)
            ∗ (((c : Thread nD τ).loc cc0_stg0_0) ↦[Finset.univ]{fullShare} P.E c) ∗ (∃ f, gRow c c f)
            ∗ bigSep Finset.univ (sendTok (F := F) c) ∗ R))
      ⊢ run c (k0_part6 (Memref.whole cc0_stg0_0) (Memref.isWhole_whole _) (Memref.whole cc0_stg1_0) (Memref.isWhole_whole _) cc0_scratch0 cc0_scratch1 c v2 v3 v120 c32)
        (fun _ => iprop(ctx P κ ∗ sends P c D 2
          ∗ (atPos ER (cell c .b0) (0 + 1) ∅ 0 ∗ (((c : Thread nD τ).loc cc0_stg0_0) ↦[Finset.univ]{shareDrop fullShare 31} P.E c)
            ∗ gRow c c P.gat ∗ R))) := by
  rw [k0_part6_eq_skeleton]; unfold k0_part6_skel
  refine run_seq (sig0_step (P := P) (κ := κ) 29 (k0_dev30_eq c) h3) fun _ => ?_
  refine run_seq (sig0_step (P := P) (κ := κ) 30 (k0_dev31_eq c) h3) fun _ => ?_
  have hD' : Above (lvK .b0) (D + ∑ k : Fin 31, tallyAt (cell (fwd c k) (.r0 c)) () N0) :=
    (hD.mono (show 1 ≤ 2 by omega)).add (Above.sum fun k _ => Above.tally (show 1 < 2 by omega))
  have hw := bwait_step (P := P) (κ := κ) .b0 (.inl rfl) (c := c) hD' h3
  have hmid : iprop(ctx P κ ∗ sigs P .b0 c (D + ∑ k : Fin 31, tallyAt (cell (fwd c k) (.r0 c)) () N0) 31
        ∗ (atPos ER (cell c .b0) 0 ∅ 0 ∗ cred (tallyAt (cell c .b0) () 31)
            ∗ (((c : Thread nD τ).loc cc0_stg0_0) ↦[Finset.univ]{fullShare} P.E c) ∗ (∃ f, gRow c c f)
            ∗ bigSep Finset.univ (sendTok (F := F) c) ∗ R))
      ⊢ run c (semWaitWord v3.sem 31#32) (fun _ => iprop(ctx P κ ∗ (atPos ER (cell c .b0) (0 + 1) ∅ 0
          ∗ bigSep Finset.univ (fun k : Fin 31 => pay P c .b0 k) ∗ ∃ W, owes (c : Thread nD τ) (D + ∑ k : Fin 31, tallyAt (cell (fwd c k) (.r0 c)) () N0) W)
          ∗ ((((c : Thread nD τ).loc cc0_stg0_0) ↦[Finset.univ]{fullShare} P.E c) ∗ (∃ f, gRow c c f)
            ∗ bigSep Finset.univ (sendTok (F := F) c) ∗ R))) := by
    refine BIBase.Entails.trans ?_ (run_frame hw)
    unfold sigs
    rw [finFrom_self, bigSep_empty, Finset.sum_empty, add_zero]
    iintro ⟨Hc, ⟨-, HO⟩, Hat, Hcr, Hrest⟩
    isplitl [Hc]; · iexact Hc
    isplitr [Hrest]
    · isplitl [Hat]; · iexact Hat
      isplitl [Hcr]; · iexact Hcr
      iexact HO
    iexact Hrest
  refine run_seq hmid fun _ => ?_
  refine BIBase.Entails.trans (Q := iprop((((c : Thread nD τ).loc cc0_stg0_0) ↦[Finset.univ]{fullShare} P.E c)
      ∗ ((∃ f, gRow c c f) ∗ ctx P κ ∗ (atPos ER (cell c .b0) (0 + 1) ∅ 0
          ∗ bigSep Finset.univ (fun k : Fin 31 => pay P c .b0 k) ∗ ∃ W, owes (c : Thread nD τ) (D + ∑ k : Fin 31, tallyAt (cell (fwd c k) (.r0 c)) () N0) W)
          ∗ bigSep Finset.univ (sendTok (F := F) c) ∗ R))) ?_ ?_
  · iintro ⟨Hc, Hx, Hs, Hg, Ht, HR⟩
    isplitl [Hs]; · iexact Hs
    isplitl [Hg]; · iexact Hg
    isplitl [Hc]; · iexact Hc
    isplitl [Hx]; · iexact Hx
    isplitl [Ht]; · iexact Ht
    iexact HR
  refine run_seqE (load_step (m := Memref.whole cc0_stg0_0) (r := Rect.unit (s := S1x256) ![0, 0] S1x256.size inb_S1x256_S1x256_0_0)
    (S := Finset.univ) (Finset.subset_univ _)) fun v => ?_
  refine pure_left fun hv => ?_
  subst hv
  refine BIBase.Entails.trans (Q := iprop(∃ f, gRow c c f ∗ ((((c : Thread nD τ).loc cc0_stg0_0) ↦[Finset.univ]{fullShare} P.E c)
      ∗ ctx P κ ∗ (atPos ER (cell c .b0) (0 + 1) ∅ 0
          ∗ bigSep Finset.univ (fun k : Fin 31 => pay P c .b0 k) ∗ ∃ W, owes (c : Thread nD τ) (D + ∑ k : Fin 31, tallyAt (cell (fwd c k) (.r0 c)) () N0) W)
          ∗ bigSep Finset.univ (sendTok (F := F) c) ∗ R))) ?_ ?_
  · iintro ⟨Hs, ⟨%f, Hg⟩, H⟩
    iexists f
    isplitl [Hg]; · iexact Hg
    isplitl [Hs]; · iexact Hs
    iexact H
  refine ex_left fun f => ?_
  refine run_seqE (load_step (m := Memref.whole cc0_stg1_0) (r := Rect.unit (s := S32x256) (k0_off1 c) S1x256.size (k0_off1_inb c))
    (S := rowOf c.val) (own_set c _).subset) fun _ => ?_
  refine pure_left fun _ => ?_
  refine run_seq (store_step (m := Memref.whole cc0_stg1_0) (r := Rect.unit (s := S32x256) (k0_off1 c) S1x256.size (k0_off1_inb c))
    (S := rowOf c.val) (own_set c _).subset) fun _ => ?_
  have hrow : (((Memref.whole cc0_stg1_0).access (Rect.unit (s := S32x256) (k0_off1 c) S1x256.size (k0_off1_inb c)) : View sig .tc _ _ _).loc (c : Thread nD τ)
      ↦[rowOf c.val]{fullShare} (((Memref.whole cc0_stg1_0).access (Rect.unit (s := S32x256) (k0_off1 c) S1x256.size (k0_off1_inb c)) : View sig .tc _ _ _).write (Elt F) f
        (k0_pay1 (((Memref.whole cc0_stg0_0).access (Rect.unit (s := S1x256) ![0, 0] S1x256.size inb_S1x256_S1x256_0_0) : View sig .tc _ _ _).read (Elt F) (P.E c))) Finset.univ) : sProp 𝕄)
      ⊢ gRow c c P.gat := by
    refine Entails.of_eq (pointsTo_congr fun j hj => ?_)
    rw [gat_row c j hj]
    conv_lhs => rw [← own_emb c (k0_off1_inb c) j hj]
    rw [View.write_emb_of_mem _ _ (Finset.mem_univ _), pay1_at, whole_read]
    rfl
  refine BIBase.Entails.trans (Q := iprop(ctx P κ ∗ sends P c D 0 ∗ (atPos ER (cell c .b0) (0 + 1) ∅ 0 ∗ (((c : Thread nD τ).loc cc0_stg0_0) ↦[Finset.univ]{shareDrop fullShare 31} P.E c)
            ∗ gRow c c P.gat ∗ R))) ?_ ?_
  · iintro ⟨Hg, Hs, Hc, ⟨Hat, Hp, HO⟩, Ht, HR⟩
    ihave Hg := hrow $$ Hg
    ihave Hs := (Transfers.pointsTo_toks_split fullShare 31) $$ Hs
    icases Hs with ⟨Hd, Hs⟩
    isplitl [Hc]; · iexact Hc
    isplitl [Hp Ht Hs HO]
    · iapply (sends_start (P := P))
      isplitl [Hp]; · iexact Hp
      isplitl [Ht]; · iexact Ht
      isplitl [Hs]; · iexact Hs
      iexact HO
    isplitl [Hat]; · iexact Hat
    isplitl [Hd]; · iexact Hd
    isplitl [Hg]; · iexact Hg
    iexact HR
  refine run_seq (send0_step (P := P) (κ := κ) 0 (k0_dev32_eq c) rfl) fun _ => ?_
  refine run_seq (send0_step (P := P) (κ := κ) 1 (k0_dev33_eq c) rfl) fun _ => ?_

  exact run_pure .rfl

/-- What a device holds for its receive waits. -/
def recvTok (c : Dev nD) (r : Fin 31) : sProp 𝕄 := iprop(atPos ER (cell c (rcv c r)) 0 ∅ 0 ∗ cred (tallyAt (cell c (rcv c r)) () (amt (rcv c r))))

theorem part14_run {c : Dev nD} {D : CellTallies nD τ sig Unit} {R : sProp 𝕄} (hD : Above 2 D) (v2 v385 : BitVec 32) :
    iprop(ctx P κ ∗ sends P c D 28 ∗ (bigSep Finset.univ (recvTok (F := F) c) ∗ R))
      ⊢ run c (k0_part14 (Memref.whole cc0_stg0_0) (Memref.isWhole_whole _) (Memref.whole cc0_stg1_0) (Memref.isWhole_whole _) cc0_scratch0 cc0_scratch1 c v2 v385) (fun _ => iprop(ctx P κ ∗ waits P c (rcv c) D 1
          ∗ (bigSep Finset.univ (fun k : Fin 31 => cred (tallyAt (cell c (.s0 k)) () N0)) ∗ R))) := by
  rw [k0_part14_eq_skeleton]; unfold k0_part14_skel
  refine run_seq (send0_step (P := P) (κ := κ) 28 (k0_dev60_eq c) rfl) fun _ => ?_
  refine run_seq (send0_step (P := P) (κ := κ) 29 (k0_dev61_eq c) rfl) fun _ => ?_
  refine run_seq (send0_step (P := P) (κ := κ) 30 (k0_dev62_eq c) rfl) fun _ => ?_
  refine BIBase.Entails.trans (show iprop(ctx P κ ∗ sends P c D 31 ∗ (bigSep Finset.univ (recvTok (F := F) c) ∗ R)) ⊢ iprop(ctx P κ ∗ waits P c (rcv c) D 0
          ∗ (bigSep Finset.univ (fun k : Fin 31 => cred (tallyAt (cell c (.s0 k)) () N0)) ∗ R)) from ?_) ?_
  · unfold sends waits
    rw [finFrom_self, bigSep_empty, Finset.sum_empty, add_zero, bigSep_finUpTo_self, finFrom_zero, bigSep_finUpTo_zero]
    iintro ⟨Hc, ⟨-, Hcr, HO⟩, Hrt, HR⟩
    isplitl [Hc]; · iexact Hc
    isplitl [Hrt HO]
    · isplitl [Hrt]; · iexact Hrt
      isplitr; · iempintro
      iexact HO
    isplitl [Hcr]; · iexact Hcr
    iexact HR
  refine run_seq (recv0_step (P := P) (κ := κ) hD 0 rfl) fun _ => ?_
  exact run_pure .rfl

end Cert.MoE

end
-- ==== Proof.GatherE.lean ====
/-
  Call 0: its body as a whole, and its end.
-/
module

public import proofs.«01_k».proof.Proof.GatherD

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable {P : Plan F} {κ : GSem nD τ sig → ℕ}

abbrev s0Toks (c : Dev nD) : sProp 𝕄 := bigSep Finset.univ (fun k : Fin 31 => atPos ER (cell c (.s0 k)) 0 ∅ 0)
abbrev arg0Own (P : Plan F) (c : Dev nD) (q : PosShare TreeShare) : sProp 𝕄 := ((c : Thread nD τ).loc cc0_stg0_0) ↦[Finset.univ]{q} P.E c

/-- What a device enters call 0's body with, beside its signals. -/
def gStart (P : Plan F) (c : Dev nD) : sProp 𝕄 :=
  iprop(atPos ER (cell c .b0) 0 ∅ 0 ∗ cred (tallyAt (cell c .b0) () 31) ∗ arg0Own P c fullShare ∗ (∃ f, gRow c c f)
    ∗ bigSep Finset.univ (sendTok (F := F) c) ∗ (bigSep Finset.univ (recvTok (F := F) c) ∗ s0Toks c))

/-- What stays aside while the transfers run. -/
def gSide (P : Plan F) (c : Dev nD) : sProp 𝕄 :=
  iprop(atPos ER (cell c .b0) (0 + 1) ∅ 0 ∗ arg0Own P c (shareDrop fullShare 31) ∗ gRow c c P.gat)

/-- What has come. -/
abbrev gCome (P : Plan F) (c : Dev nD) : sProp 𝕄 :=
  bigSep Finset.univ (fun r : Fin 31 => iprop(atPos ER (cell c (rcv c r)) (0 + 1) ∅ 0 ∗ pay P c (rcv c r) 0))

theorem part26_run {c : Dev nD} {D : CellTallies nD τ sig Unit} (hD : Above 2 D) :
    iprop(ctx P κ ∗ sigs P .b0 c (D + ∑ k : Fin 31, tallyAt (cell (fwd c k) (.r0 c)) () N0) 0 ∗ gStart P c)
      ⊢ run c (k0_part26 (Memref.whole cc0_stg0_0) (Memref.isWhole_whole _) (Memref.whole cc0_stg1_0) (Memref.isWhole_whole _) cc0_scratch0 cc0_scratch1) (fun d => iprop(⌜d = c⌝ ∗ ctx P κ ∗ waits P c CK.s0 D 30 ∗ gSide P c ∗ gCome P c)) := by
  rw [k0_part26_eq_skeleton]; unfold k0_part26_skel
  refine run_seqE part1_run fun x => ?_
  obtain ⟨d0, v2, v3, v24, w⟩ := x
  refine pure_left fun hx => ?_
  obtain ⟨hd, h3⟩ := hx
  have hd : d0 = c := hd
  subst hd
  refine run_seq (part2_run v2 v3 v24 w h3) fun x => ?_
  obtain ⟨v48, w⟩ := x
  refine run_seq (part3_run v2 v3 v48 w h3) fun x => ?_
  obtain ⟨v72, w⟩ := x
  refine run_seq (part4_run v2 v3 v72 w h3) fun x => ?_
  obtain ⟨v96, w⟩ := x
  refine run_seq (part5_run v2 v3 v96 w h3) fun x => ?_
  obtain ⟨v120, w⟩ := x
  unfold gStart
  refine run_seq (part6_run hD v2 v3 v120 w h3) fun _ => ?_
  refine BIBase.Entails.trans (Q := iprop(ctx P κ ∗ sends P d0 D 2 ∗ (bigSep Finset.univ (recvTok (F := F) d0) ∗ (s0Toks d0 ∗ gSide P d0)))) ?_ ?_
  · unfold gSide
    iintro ⟨Hc, Hs, Hat, Ha, Hg, Hr, Ht⟩
    isplitl [Hc]; · iexact Hc
    isplitl [Hs]; · iexact Hs
    isplitl [Hr]; · iexact Hr
    isplitl [Ht]; · iexact Ht
    isplitl [Hat]; · iexact Hat
    isplitl [Ha]; · iexact Ha
    iexact Hg
  refine run_seq (part7_run v2) fun _ => ?_
  refine run_seq (part8_run v2) fun x => ?_
  obtain ⟨v215, w⟩ := x
  refine run_seq (part9_run v2 v215 w) fun x => ?_
  refine run_seq (part10_run v2 x) fun _ => ?_
  refine run_seq (part11_run v2) fun _ => ?_
  refine run_seq (part12_run v2) fun x => ?_
  obtain ⟨v350, w⟩ := x
  refine run_seq (part13_run v2 v350 w) fun x => ?_
  refine run_seq (part14_run hD v2 x) fun _ => ?_
  refine run_seq (part15_run hD v2) fun _ => ?_
  refine run_seq (part16_run hD v2) fun x => ?_
  obtain ⟨v477, w⟩ := x
  refine run_seq (part17_run hD v2 v477 w) fun x => ?_
  refine run_seq (part18_run hD v2 x) fun _ => ?_
  refine run_seq (part19_run hD v2) fun _ => ?_
  refine run_seq (part20_run hD v2) fun x => ?_
  obtain ⟨v597, w⟩ := x
  refine run_seq (part21_run hD v2 v597 w) fun x => ?_
  refine run_seq (part22_run hD v2 x) fun _ => ?_
  refine BIBase.Entails.trans (Q := iprop(ctx P κ ∗ waits P d0 CK.s0 D 0 ∗ (gSide P d0 ∗ gCome P d0))) ?_ ?_
  · unfold waits
    rw [finFrom_self, bigSep_empty, bigSep_finUpTo_self, finFrom_zero, bigSep_finUpTo_zero]
    iintro ⟨Hc, ⟨-, Hcome, HO⟩, Hcr, Ht, Hside⟩
    isplitl [Hc]; · iexact Hc
    isplitl [HO Hcr Ht]
    · isplitl [Hcr Ht]
      · iapply (sep_in Finset.univ (fun k : Fin 31 => atPos ER (cell d0 (.s0 k)) 0 ∅ 0) (fun k : Fin 31 => cred (tallyAt (cell d0 (.s0 k)) () N0)))
        isplitl [Ht]; · iexact Ht
        iexact Hcr
      isplitr; · iempintro
      iexact HO
    isplitl [Hside]; · iexact Hside
    iexact Hcome
  refine run_seq (part23_run hD) fun _ => ?_
  refine run_seq (part24_run hD) fun _ => ?_
  refine run_seq (part25_run hD) fun _ => ?_
  refine run_seq (swait0_step (P := P) (κ := κ) (hD.mono (Nat.zero_le 2)) 25 rfl) fun _ => ?_
  refine run_seq (swait0_step (P := P) (κ := κ) (hD.mono (Nat.zero_le 2)) 26 rfl) fun _ => ?_
  refine run_seq (swait0_step (P := P) (κ := κ) (hD.mono (Nat.zero_le 2)) 27 rfl) fun _ => ?_
  refine run_seq (swait0_step (P := P) (κ := κ) (hD.mono (Nat.zero_le 2)) 28 rfl) fun _ => ?_
  refine run_seq (swait0_step (P := P) (κ := κ) (hD.mono (Nat.zero_le 2)) 29 rfl) fun _ => ?_
  refine run_pure ?_
  iintro H
  isplitr; · ipureintro; rfl
  iexact H

theorem body0_run {c : Dev nD} {D : CellTallies nD τ sig Unit} (hD : Above 2 D) :
    iprop(ctx P κ ∗ sigs P .b0 c (D + ∑ k : Fin 31, tallyAt (cell (fwd c k) (.r0 c)) () N0) 0 ∗ gStart P c)
      ⊢ run c (cc0_body (Memref.whole cc0_stg0_0) (Memref.isWhole_whole _) (Memref.whole cc0_stg1_0) (Memref.isWhole_whole _) cc0_scratch0 cc0_scratch1) (fun _ => iprop(ctx P κ ∗ waits P c CK.s0 D 31 ∗ gSide P c ∗ gCome P c)) := by
  rw [cc0_body_eq_skeleton]; unfold cc0_body_skel
  refine run_seqE (part26_run hD) fun d0 => ?_
  refine pure_left fun hd => ?_
  subst hd
  refine run_seq (swait0_step (P := P) (κ := κ) (hD.mono (Nat.zero_le 2)) 30 rfl) fun _ => ?_
  exact run_pure .rfl

/-! ## Closing -/

theorem peers (c : Dev nD) : (Finset.univ.image fun r : Fin 31 => fwd c r.rev) = Finset.univ.erase c := by
  ext d
  rw [Finset.mem_image, Finset.mem_erase]
  constructor
  · rintro ⟨r, -, rfl⟩; exact ⟨fwd_ne c _, Finset.mem_univ _⟩
  · rintro ⟨h, -⟩
    obtain ⟨k, hk⟩ := fwd_surj c d h
    exact ⟨k.rev, Finset.mem_univ _, by rw [Fin.rev_rev]; exact hk⟩

/-- Along the peers and oneself: along all devices. -/
theorem peers_all (c : Dev nD) (Φ : Dev nD → sProp 𝕄) :
    iprop(Φ c ∗ bigSep Finset.univ (fun r : Fin 31 => Φ (fwd c r.rev))) = bigSep Finset.univ Φ := by
  rw [bigSep_univ_at Φ c, ← peers c, bigSep_image_of_injOn]
  exact fun a _ b _ h => Fin.rev_injective (fwd_inj c h)

theorem rows_all (c : Dev nD) (f : Gat (F := F)) :
    bigSep Finset.univ (fun d : Dev nD => gRow c d f) = ((((c : Thread nD τ).loc cc0_stg1_0) ↦[Finset.univ]{fullShare} f) : sProp 𝕄) := by
  have h := pointsTo_biUnion (Ix := Unit) (Name := ℕ) (U := UU) (Lvl := ℕ) (ℓ := (c : Thread nD τ).loc cc0_stg1_0) (q := fullShare) (f := f)
    (Finset.univ : Finset (Fin 32)) (fun k => rowOf (n := 1) (sh := ![32, 256]) k.val) (fun a _ b _ h => rowOf_disjoint fun e => h (Fin.ext e))
  refine h.symm.trans ?_
  rw [← rowOf_biUnion (n := 1) (sh := ![32, 256]) (N := 32) rfl]

/-- Several closings at once. -/
theorem close_all {I : Type} (s : Finset I) {A B : I → sProp 𝕄} (h : ∀ i ∈ s, iprop(ctx P κ ∗ A i) ⊢ iprop(|={Set.univ}=> B i)) :
    iprop(ctx P κ ∗ bigSep s A) ⊢ iprop(|={Set.univ}=> bigSep s B) := by
  classical
  refine BIBase.Entails.trans ?_ (bigSep_fupd s B)
  induction s using Finset.induction_on with
  | empty => rw [bigSep_empty, bigSep_empty]; iintro -; iempintro
  | insert a s ha ih =>
    have e1 : (bigSep (insert a s) A : sProp 𝕄) = iprop(A a ∗ bigSep s A) := BI.bigSep_insert ha
    have e2 : (bigSep (insert a s) (fun i => iprop(|={Set.univ}=> B i)) : sProp 𝕄) = iprop((|={Set.univ}=> B a) ∗ bigSep s (fun i => iprop(|={Set.univ}=> B i))) := BI.bigSep_insert ha
    rw [e1, e2]
    have h1 := h a (Finset.mem_insert_self a s)
    have h2 := ih fun i hi => h i (Finset.mem_insert_of_mem hi)
    iintro ⟨#Hc, Ha, Hs⟩
    isplitl [Ha]
    · iapply h1; isplitr; · iexact Hc
      iexact Ha
    · iapply h2; isplitr; · iexact Hc
      iexact Hs

theorem close_ctx (c : Dev nD) (k : CK) : iprop(ctx P κ ∗ atPos ER (cell c k) (0 + 1) ∅ 0) ⊢ (|={Set.univ}=> semVal (cell c k) 0 : sProp 𝕄) := by
  iintro ⟨#Hc, Ha⟩
  iapply (close_past (P := P) (κ (cell c k)) (cell c k))
  isplitr; · iapply (ctx_inv c k); iexact Hc
  iexact Ha
theorem close_ctx_idle (c : Dev nD) (k : CK) (h : duts P.R c k = ∅) : iprop(ctx P κ ∗ atPos ER (cell c k) 0 ∅ 0) ⊢ (|={Set.univ}=> semVal (cell c k) 0 : sProp 𝕄) := by
  iintro ⟨#Hc, Ha⟩
  iapply (close_idle (P := P) c k (κ (cell c k)) h)
  isplitr; · iapply (ctx_inv c k); iexact Hc
  iexact Ha

/-- What call 0 leaves: its semaphores at zero, the operand, and the gathered array. -/
def gEnd (P : Plan F) (c : Dev nD) (D : CellTallies nD τ sig Unit) : sProp 𝕄 :=
  iprop(semVal (cell c .b0) 0 ∗ bigSep Finset.univ (fun k : Fin 31 => semVal (cell c (.s0 k)) 0)
    ∗ bigSep Finset.univ (fun k : Fin 32 => semVal (cell c (.r0 k)) 0)
    ∗ arg0Own P c fullShare ∗ (((c : Thread nD τ).loc cc0_stg1_0) ↦[Finset.univ]{fullShare} P.gat)
    ∗ ∃ W, owes (c : Thread nD τ) D W)

theorem gather_close {c : Dev nD} {D : CellTallies nD τ sig Unit} :
    iprop((ctx P κ ∗ waits P c CK.s0 D 31 ∗ gSide P c ∗ gCome P c) ∗ atPos ER (cell c (.r0 c)) 0 ∅ 0)
      ⊢ iprop(|={Set.univ}=> (ctx P κ ∗ gEnd P c D)) := by
  unfold waits gSide gEnd
  rw [finFrom_self, bigSep_empty, bigSep_finUpTo_self]
  have hs := close_all (P := P) (κ := κ) (Finset.univ : Finset (Fin 31)) (A := fun k => atPos ER (cell c (.s0 k)) (0 + 1) ∅ 0) (B := fun k => semVal (cell c (.s0 k)) 0)
    fun k _ => close_ctx c _
  have hr := close_all (P := P) (κ := κ) (Finset.univ : Finset (Fin 31)) (A := fun r => atPos ER (cell c (rcv c r)) (0 + 1) ∅ 0) (B := fun r => semVal (cell c (rcv c r)) 0)
    fun k _ => close_ctx c _
  iintro ⟨⟨#Hc, ⟨-, Hs, HO⟩, ⟨Hb, Ha, Hg⟩, Hcome⟩, Hi⟩
  ihave Hs := (sep_out Finset.univ (fun k : Fin 31 => atPos ER (cell c (.s0 k)) (0 + 1) ∅ 0) (fun k : Fin 31 => pay P c (.s0 k) 0)) $$ Hs
  icases Hs with ⟨Hs, Hsp⟩
  ihave Hcome := (sep_out Finset.univ (fun r : Fin 31 => atPos ER (cell c (rcv c r)) (0 + 1) ∅ 0) (fun r : Fin 31 => pay P c (rcv c r) 0)) $$ Hcome
  icases Hcome with ⟨Hr, Hrp⟩
  imod hs $$ [Hs] with Hs
  · isplitr; · iexact Hc
    iexact Hs
  imod hr $$ [Hr] with Hr
  · isplitr; · iexact Hc
    iexact Hr
  imod (close_ctx_idle (P := P) (κ := κ) c (.r0 c) (duts_r0_self _ c)) $$ [Hi] with Hi
  · isplitr; · iexact Hc
    iexact Hi
  imod (close_ctx (P := P) (κ := κ) c .b0) $$ [Hb] with Hb
  · isplitr; · iexact Hc
    iexact Hb
  imodintro
  isplitr; · iexact Hc
  isplitl [Hb]; · iexact Hb
  isplitl [Hs]; · iexact Hs
  isplitl [Hi Hr]
  · iapply (Entails.of_eq (peers_all c (fun d => semVal (cell c (.r0 d)) 0)))
    isplitl [Hi]; · iexact Hi
    iexact Hr
  isplitl [Ha Hsp]
  · iapply (Transfers.pointsTo_toks_join fullShare 31)
    isplitl [Ha]; · iexact Ha
    iexact Hsp
  isplitl [Hg Hrp]
  · iapply (Entails.of_eq (rows_all c P.gat))
    iapply (Entails.of_eq (peers_all c (fun d => gRow c d P.gat)))
    isplitl [Hg]; · iexact Hg
    iexact Hrp
  iexact HO

end Cert.MoE

end
-- ==== Proof.DispatchA.lean ====
/-
  Call 1: words, loops, and the rows of its buffers.
-/
module

public import proofs.«01_k».proof.Proof.GatherE

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable {P : Plan F} {κ : GSem nD τ sig → ℕ}

/-! ## Words -/

theorem me_word (c : Dev nD) : Scalar.remsi (Scalar.divsi (Dev.word c) 1#32) 32#32 = BitVec.ofNat 32 c.val := by
  revert c; decide +kernel
theorem iv_word (k : ℕ) : Scf.iv 0#32 1#32 k = BitVec.ofNat 32 k := by
  unfold Scf.iv; rw [BitVec.mul_one, BitVec.zero_add]
theorem nat_word {k : ℕ} (hk : k < 1000) : (BitVec.ofNat 32 k).toNat = k := by
  rw [BitVec.toNat_ofNat]; exact Nat.mod_eq_of_lt (by omega)
theorem iv_nat {k : ℕ} (hk : k < 1000) : (Scf.iv 0#32 1#32 k).toNat = k := by rw [iv_word, nat_word hk]
theorem add_word (a b : ℕ) : Scalar.addi (BitVec.ofNat 32 a) (BitVec.ofNat 32 b) = BitVec.ofNat 32 (a + b) := by
  show BitVec.ofNat 32 a + BitVec.ofNat 32 b = _; rw [BitVec.ofNat_add]
theorem iv_add_nat {a k : ℕ} (hk : a + k < 1000) : (Scalar.addi (BitVec.ofNat 32 a) (Scf.iv 0#32 1#32 k)).toNat = a + k := by
  rw [iv_word, add_word, nat_word hk]
theorem word_inj {a b : ℕ} (ha : a < 1000) (hb : b < 1000) : BitVec.ofNat 32 a = BitVec.ofNat 32 b ↔ a = b := by
  constructor
  · intro h; have := congrArg BitVec.toNat h; rwa [nat_word ha, nat_word hb] at this
  · intro h; rw [h]
theorem dev_word_inj {c d : Dev nD} : BitVec.ofNat 32 c.val = BitVec.ofNat 32 d.val ↔ c = d := by
  have hc : c.val < 32 := c.isLt
  have hd : d.val < 32 := d.isLt
  rw [word_inj (by omega) (by omega)]; exact ⟨fun h => Fin.ext h, fun h => by rw [h]⟩

theorem bit_ne (b : Bool) : Scalar.cmpi .ne (Scalar.extui (BitVec.ofBool b)) 0#32 = 1#1 ↔ b = true := by
  cases b <;> decide
theorem ne_bit (a b : BitVec 32) : Scalar.cmpi .ne (Scalar.extui (Scalar.cmpi .ne a b)) 0#32 = 1#1 ↔ a ≠ b := by
  rw [show Scalar.cmpi .ne a b = BitVec.ofBool (a != b) from rfl, bit_ne]; simp
theorem eq_bit (a b : BitVec 32) : Scalar.cmpi .ne (Scalar.extui (Scalar.cmpi .eq a b)) 0#32 = 1#1 ↔ a = b := by
  rw [show Scalar.cmpi .eq a b = BitVec.ofBool (a == b) from rfl, bit_ne]; simp
theorem and_ne_bit (a p q : BitVec 32) :
    Scalar.cmpi .ne (Scalar.extui (Scalar.andi (Scalar.cmpi .ne a 0#32) (Scalar.cmpi .ne p q))) 0#32 = 1#1 ↔ a ≠ 0#32 ∧ p ≠ q := by
  rw [show Scalar.cmpi .ne a 0#32 = BitVec.ofBool (a != 0#32) from rfl, show Scalar.cmpi .ne p q = BitVec.ofBool (p != q) from rfl,
    show Scalar.andi (BitVec.ofBool (a != 0#32)) (BitVec.ofBool (p != q)) = BitVec.ofBool ((a != 0#32) && (p != q)) by
      cases (a != 0#32) <;> cases (p != q) <;> rfl, bit_ne]; simp
theorem and_eq_bit (a p q : BitVec 32) :
    Scalar.cmpi .ne (Scalar.extui (Scalar.andi (Scalar.cmpi .ne a 0#32) (Scalar.cmpi .eq p q))) 0#32 = 1#1 ↔ a ≠ 0#32 ∧ p = q := by
  rw [show Scalar.cmpi .ne a 0#32 = BitVec.ofBool (a != 0#32) from rfl, show Scalar.cmpi .eq p q = BitVec.ofBool (p == q) from rfl,
    show Scalar.andi (BitVec.ofBool (a != 0#32)) (BitVec.ofBool (p == q)) = BitVec.ofBool ((a != 0#32) && (p == q)) by
      cases (a != 0#32) <;> cases (p == q) <;> rfl, bit_ne]; simp

theorem dyn_trips : ∀ n : Fin 103, Scf.trips 0#32 (Scalar.addi 0#32 (Scalar.muli (Scalar.divsi (Scalar.subi (BitVec.ofNat 32 n.val) 0#32) 1#32) 1#32)) 1#32 = n.val := by
  decide +kernel
theorem rem_trips : ∀ n : Fin 103, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by
  decide +kernel

/-! ## Steps -/

theorem assume_step {c : Dev nD} {Q : Prop} {d : Decidable Q} {A : sProp 𝕄} (h : Q) :
    A ⊢ run c (Prog.lift (TpuEff.assume Q d) : Prog (TpuEff nD τ sig (Elt F) Λ₀ .tc) (PLift Q)) (fun _ => A) := by
  unfold run Prog.lift
  rw [wp_assume_of 𝒱₀ (c : Thread nD τ) none Set.univ h, wp_ret]
  iintro H; imodintro; iexact H

theorem smem_step {c : Dev nD} {s : Shape} {e : EltTy} {m : Memref sig .tc .smem s e} {r : Rect s}
    {hl : (m.access r).Loads} {x : r.shape.Idx}
    {S : Finset (Idx ((m.access r).loc (c : Thread nD τ)))} {q : PosShare TreeShare} {f : Buf (Elt F) ((m.access r).loc (c : Thread nD τ))} {R : sProp 𝕄}
    (hS : (m.access r).set ⊆ S) :
    iprop(((m.access r).loc (c : Thread nD τ) ↦[S]{q} f) ∗ R)
      ⊢ run c (smemLoadElt m r hl x .ret) (fun v => iprop(⌜v = (m.access r).read (Elt F) f x⌝ ∗ ((m.access r).loc (c : Thread nD τ) ↦[S]{q} f) ∗ R)) := by
  unfold run
  iintro ⟨H, HR⟩
  iapply (wp_smemLoadElt 𝒱₀ (c : Thread nD τ) none Set.univ (m := m) (r := r) (S := S) (q := q) (f := f) hS) $$ H
  iintro H
  rw [wp_ret]; imodintro
  isplitr; · ipureintro; rfl
  isplitl [H]; · iexact H
  iexact HR

/-! ## Counted loops over families of resources -/

theorem loop_run {N : ℕ} {c : Dev nD} (l : Scf.Loop 32) (hok : l.OK) (n : ℕ) (hn : l.trips = n) (hN : n ≤ N)
    (body : Fin l.trips → Unit → Prog (TpuEff nD τ sig (Elt F) Λ₀ .tc) Unit) (Wb Wa : Fin N → sProp 𝕄) (C : ℕ → sProp 𝕄)
    (hstep : ∀ (t : Fin l.trips) (x : Fin N), x.val = t.val → iprop(C t.val ∗ Wb x) ⊢ run c (body t ()) (fun _ => iprop(C (t.val + 1) ∗ Wa x)))
    (hskip : ∀ x : Fin N, n ≤ x.val → Wb x ⊢ Wa x) :
    iprop(C 0 ∗ bigSep Finset.univ Wb) ⊢ run c (Scf.Loop.for l hok () body) (fun _ => iprop(C n ∗ bigSep Finset.univ Wa)) := by
  subst hn
  have hw := Scf.wp_for frame (wpE (defs₀ (F := F)) 𝒱₀ (c : Thread nD τ) none) Set.univ l.lb l.ub l.st hok ()
    body (fun k _ => iprop(C k ∗ bigSep (finFrom N k) Wb ∗ bigSep (finUpTo N k) Wa)) (Q := fun _ => iprop(C l.trips ∗ bigSep Finset.univ Wa)) ?_
  · refine BIBase.Entails.trans ?_ hw
    rw [finFrom_zero, bigSep_finUpTo_zero]
    iintro ⟨HC, HW⟩
    isplitl [HC HW]
    · isplitl [HC]; · iexact HC
      isplitl [HW]; · iexact HW
      iempintro
    · iintro %_ ⟨HC, HW, HA⟩
      isplitl [HC]; · iexact HC
      have hu : (Finset.univ : Finset (Fin N)) = finFrom N l.trips ∪ finUpTo N l.trips := by
        ext x; simp only [Finset.mem_univ, Finset.mem_union, finFrom, finUpTo, Finset.mem_filter, true_and, true_iff]; omega
      have hd : Disjoint (finFrom N l.trips) (finUpTo N l.trips) := by
        rw [Finset.disjoint_left]; intro x hx hy
        simp only [finFrom, finUpTo, Finset.mem_filter, Finset.mem_univ, true_and] at hx hy; omega
      have e : (bigSep Finset.univ Wa : sProp 𝕄) = iprop(bigSep (finFrom N l.trips) Wa ∗ bigSep (finUpTo N l.trips) Wa) := by
        rw [hu]; exact BI.bigSep_union hd
      rw [e]
      isplitl [HW]
      · iapply (sep_mono fun x hx => hskip x (by simpa [finFrom] using hx)) $$ HW
      · iexact HA
  · intro t acc
    have htN : t.val < N := lt_of_lt_of_le t.isLt hN
    rw [bigSep_finFrom_succ htN, bigSep_finUpTo_succ htN]
    have h := hstep t ⟨t.val, htN⟩ rfl
    iintro ⟨HC, ⟨Hb, HW⟩, HA⟩
    ihave Hw := h $$ [HC Hb]
    · isplitl [HC]; · iexact HC
      iexact Hb
    unfold run
    iapply (wp_wand _ _ _) $$ Hw
    iintro %_ ⟨HC, Ha⟩
    isplitl [HC]; · iexact HC
    isplitl [HW]; · iexact HW
    isplitl [Ha]; · iexact Ha
    iexact HA

theorem loop0_run {c : Dev nD} (l : Scf.Loop 32) (hok : l.OK) (hn : l.trips = 0)
    (body : Fin l.trips → Unit → Prog (TpuEff nD τ sig (Elt F) Λ₀ .tc) Unit) {A : sProp 𝕄} :
    A ⊢ run c (Scf.Loop.for l hok () body) (fun _ => A) := by
  have h := loop_run (F := F) (N := 0) (c := c) l hok 0 hn (Nat.le_refl 0) body (fun _ => iprop(emp)) (fun _ => iprop(emp)) (fun _ => A)
    (fun t => absurd (hn ▸ t.isLt : t.val < 0) (Nat.not_lt_zero _)) (fun x => x.elim0)
  unfold run at h ⊢
  iintro H
  ihave Hw := h $$ [H]
  · isplitl [H]; · iexact H
    rw [Finset.univ_eq_empty, bigSep_empty]; iempintro
  iapply (wp_wand _ _ _) $$ Hw
  iintro %_ ⟨H, -⟩
  iexact H

/-! ## A row of a three-dimensional array -/

theorem row_rect {N M : ℕ} (off : Fin 3 → ℕ) (w : ℕ) (ho : off = ![w, 0, 0]) (inb : ∀ a, off a + (![1, 1, M] : Fin 3 → ℕ) a ≤ (⟨3, ![N, 1, M]⟩ : Shape).size a)
    (j : (⟨3, ![N, 1, M]⟩ : Shape).Idx) : j ∈ (Rect.unit (s := ⟨3, ![N, 1, M]⟩) off ![1, 1, M] inb).set ↔ j ∈ rowOf (sh := ![N, 1, M]) w := by
  subst ho
  rw [Rect.mem_set_unit, mem_rowOf]
  constructor
  · intro h; have h0 := h 0
    have h1 : w ≤ (j 0).val := h0.1
    have h2 : (j 0).val < w + 1 := h0.2
    omega
  · intro h a
    match a with
    | ⟨0, _⟩ => exact ⟨h.ge, by show (j 0).val < w + 1; omega⟩
    | ⟨1, _⟩ => exact ⟨Nat.zero_le _, by have h2 : (j 1).val < 1 := (j 1).isLt; show (j 1).val < 0 + 1; omega⟩
    | ⟨2, _⟩ => exact ⟨Nat.zero_le _, by have h2 : (j 2).val < M := (j 2).isLt; show (j 2).val < 0 + M; omega⟩

/-- An index of a one-row block, read as a row of two dimensions. -/
theorem row_reshape {M : ℕ} (h : (⟨2, ![1, M]⟩ : Shape).numel = (⟨3, ![1, 1, M]⟩ : Shape).numel) (m : Fin M) :
    Shape.reshapeEquiv h (ix2 0 m) = (ix3 0 0 m : (⟨3, ![1, 1, M]⟩ : Shape).Idx) := by
  apply Shape.reshapeEquiv_eq_of_rowMajor
  rw [Shape.rowMajor_val_two, Shape.rowMajor_val_three]
  simp

/-- Two indices with the same first and last coordinate are one. -/
theorem row_idx {N M : ℕ} {j : (⟨3, ![N, 1, M]⟩ : Shape).Idx} {i : Fin N} {m : Fin M} (h0 : (j 0).val = i.val) (h2 : (j 2).val = m.val) :
    j = ix3 i 0 m := by
  funext a; apply Fin.ext
  match a with
  | ⟨0, _⟩ => exact h0
  | ⟨1, _⟩ => have h2 : (j 1).val < 1 := (j 1).isLt; show (j 1).val = 0; omega
  | ⟨2, _⟩ => exact h2

/-- A row's window of `cc1_stg6_0`, as loads and stores name it and as transfers do. -/
theorem x_set (off : Fin 3 → ℕ) (w : ℕ) (ho : off = ![w, 0, 0]) (inb) :
    ((Memref.whole cc1_stg6_0).access (Rect.unit (s := S256x1x128) off S1x1x128.size inb) : View sig .tc _ _ _).set = rowOf w := by
  show ((View.whole cc1_stg6_0).slice (Rect.unit (s := S256x1x128) off S1x1x128.size inb)).set = _
  rw [View.set_slice_whole]
  ext j; exact row_rect off w ho inb j
abbrev xSq (off : Fin 3 → ℕ) (inb : ∀ a, off a + S1x1x128.size a ≤ S256x1x128.size a)
    (hst : ∀ a, (Rect.unit (s := S256x1x128) off S1x1x128.size inb).stride a = 1) : Memref sig .tc .vmem S1x128 .bf16 :=
  ((Memref.whole cc1_stg6_0).slice (Rect.unit (s := S256x1x128) off S1x1x128.size inb) hst).squeeze S1x128 squeezes_S1x1x128_S1x128
theorem xSq_set (off : Fin 3 → ℕ) (w : ℕ) (ho : off = ![w, 0, 0]) (inb) (hst) :
    (xSq off inb hst).view.set = rowOf w := by
  show (((View.whole cc1_stg6_0).slice (Rect.unit (s := S256x1x128) off S1x1x128.size inb)).reshape _ _).set = _
  rw [View.set_reshape]
  exact x_set off w ho inb
theorem x_emb (off : Fin 3 → ℕ) (w : ℕ) (ho : off = ![w, 0, 0]) (inb) (j : (cc1_stg6_0 : Ref sig .tc).ty.Idx) (h : j ∈ rowOf (sh := ![256, 1, 128]) w) :
    ((Memref.whole cc1_stg6_0).access (Rect.unit (s := S256x1x128) off S1x1x128.size inb) : View sig .tc _ _ _).emb (ix3 0 0 (j 2)) = j := by
  have h0 : (j 0).val = w := mem_rowOf.mp h
  subst ho
  funext a; apply Fin.ext
  match a with
  | ⟨0, _⟩ => show w + 1 * 0 = (j 0).val; omega
  | ⟨1, _⟩ => have h2 : (j 1).val < 1 := (j 1).isLt; show 0 + 1 * 0 = (j 1).val; omega
  | ⟨2, _⟩ => show 0 + 1 * (j 2).val = (j 2).val; omega
theorem xSq_emb (off : Fin 3 → ℕ) (w : ℕ) (ho : off = ![w, 0, 0]) (inb) (hst) (j : (cc1_stg6_0 : Ref sig .tc).ty.Idx) (h : j ∈ rowOf (sh := ![256, 1, 128]) w) :
    (xSq off inb hst).view.emb (ix2 0 (j 2)) = j := by
  refine Eq.trans ?_ (x_emb off w ho inb j h)
  exact congrArg ((Memref.whole cc1_stg6_0).access (Rect.unit (s := S256x1x128) off S1x1x128.size inb) : View sig .tc _ _ _).emb (row_reshape (M := 128) _ (j 2))

/-- A row's window of `cc1_scratch0`, as loads and stores name it and as transfers do. -/
theorem s_set (off : Fin 3 → ℕ) (w : ℕ) (ho : off = ![w, 0, 0]) (inb) :
    ((Memref.whole cc1_scratch0).access (Rect.unit (s := S204x1x128) off S1x1x128.size inb) : View sig .tc _ _ _).set = rowOf w := by
  show ((View.whole cc1_scratch0).slice (Rect.unit (s := S204x1x128) off S1x1x128.size inb)).set = _
  rw [View.set_slice_whole]
  ext j; exact row_rect off w ho inb j
abbrev sSq (off : Fin 3 → ℕ) (inb : ∀ a, off a + S1x1x128.size a ≤ S204x1x128.size a)
    (hst : ∀ a, (Rect.unit (s := S204x1x128) off S1x1x128.size inb).stride a = 1) : Memref sig .tc .vmem S1x128 .bf16 :=
  ((Memref.whole cc1_scratch0).slice (Rect.unit (s := S204x1x128) off S1x1x128.size inb) hst).squeeze S1x128 squeezes_S1x1x128_S1x128
theorem sSq_set (off : Fin 3 → ℕ) (w : ℕ) (ho : off = ![w, 0, 0]) (inb) (hst) :
    (sSq off inb hst).view.set = rowOf w := by
  show (((View.whole cc1_scratch0).slice (Rect.unit (s := S204x1x128) off S1x1x128.size inb)).reshape _ _).set = _
  rw [View.set_reshape]
  exact s_set off w ho inb
theorem s_emb (off : Fin 3 → ℕ) (w : ℕ) (ho : off = ![w, 0, 0]) (inb) (j : (cc1_scratch0 : Ref sig .tc).ty.Idx) (h : j ∈ rowOf (sh := ![204, 1, 128]) w) :
    ((Memref.whole cc1_scratch0).access (Rect.unit (s := S204x1x128) off S1x1x128.size inb) : View sig .tc _ _ _).emb (ix3 0 0 (j 2)) = j := by
  have h0 : (j 0).val = w := mem_rowOf.mp h
  subst ho
  funext a; apply Fin.ext
  match a with
  | ⟨0, _⟩ => show w + 1 * 0 = (j 0).val; omega
  | ⟨1, _⟩ => have h2 : (j 1).val < 1 := (j 1).isLt; show 0 + 1 * 0 = (j 1).val; omega
  | ⟨2, _⟩ => show 0 + 1 * (j 2).val = (j 2).val; omega
theorem sSq_emb (off : Fin 3 → ℕ) (w : ℕ) (ho : off = ![w, 0, 0]) (inb) (hst) (j : (cc1_scratch0 : Ref sig .tc).ty.Idx) (h : j ∈ rowOf (sh := ![204, 1, 128]) w) :
    (sSq off inb hst).view.emb (ix2 0 (j 2)) = j := by
  refine Eq.trans ?_ (s_emb off w ho inb j h)
  exact congrArg ((Memref.whole cc1_scratch0).access (Rect.unit (s := S204x1x128) off S1x1x128.size inb) : View sig .tc _ _ _).emb (row_reshape (M := 128) _ (j 2))

/-- A row's window of `cc1_scratch1`, as loads and stores name it and as transfers do. -/
theorem r_set (off : Fin 3 → ℕ) (w : ℕ) (ho : off = ![w, 0, 0]) (inb) :
    ((Memref.whole cc1_scratch1).access (Rect.unit (s := S204x1x256) off S1x1x256.size inb) : View sig .tc _ _ _).set = rowOf w := by
  show ((View.whole cc1_scratch1).slice (Rect.unit (s := S204x1x256) off S1x1x256.size inb)).set = _
  rw [View.set_slice_whole]
  ext j; exact row_rect off w ho inb j
abbrev rSq (off : Fin 3 → ℕ) (inb : ∀ a, off a + S1x1x256.size a ≤ S204x1x256.size a)
    (hst : ∀ a, (Rect.unit (s := S204x1x256) off S1x1x256.size inb).stride a = 1) : Memref sig .tc .vmem S1x256 .f32 :=
  ((Memref.whole cc1_scratch1).slice (Rect.unit (s := S204x1x256) off S1x1x256.size inb) hst).squeeze S1x256 squeezes_S1x1x256_S1x256
theorem rSq_set (off : Fin 3 → ℕ) (w : ℕ) (ho : off = ![w, 0, 0]) (inb) (hst) :
    (rSq off inb hst).view.set = rowOf w := by
  show (((View.whole cc1_scratch1).slice (Rect.unit (s := S204x1x256) off S1x1x256.size inb)).reshape _ _).set = _
  rw [View.set_reshape]
  exact r_set off w ho inb
theorem r_emb (off : Fin 3 → ℕ) (w : ℕ) (ho : off = ![w, 0, 0]) (inb) (j : (cc1_scratch1 : Ref sig .tc).ty.Idx) (h : j ∈ rowOf (sh := ![204, 1, 256]) w) :
    ((Memref.whole cc1_scratch1).access (Rect.unit (s := S204x1x256) off S1x1x256.size inb) : View sig .tc _ _ _).emb (ix3 0 0 (j 2)) = j := by
  have h0 : (j 0).val = w := mem_rowOf.mp h
  subst ho
  funext a; apply Fin.ext
  match a with
  | ⟨0, _⟩ => show w + 1 * 0 = (j 0).val; omega
  | ⟨1, _⟩ => have h2 : (j 1).val < 1 := (j 1).isLt; show 0 + 1 * 0 = (j 1).val; omega
  | ⟨2, _⟩ => show 0 + 1 * (j 2).val = (j 2).val; omega
theorem rSq_emb (off : Fin 3 → ℕ) (w : ℕ) (ho : off = ![w, 0, 0]) (inb) (hst) (j : (cc1_scratch1 : Ref sig .tc).ty.Idx) (h : j ∈ rowOf (sh := ![204, 1, 256]) w) :
    (rSq off inb hst).view.emb (ix2 0 (j 2)) = j := by
  refine Eq.trans ?_ (r_emb off w ho inb j h)
  exact congrArg ((Memref.whole cc1_scratch1).access (Rect.unit (s := S204x1x256) off S1x1x256.size inb) : View sig .tc _ _ _).emb (row_reshape (M := 256) _ (j 2))

/-- A row's window of `cc1_stg8_0`, as loads and stores name it and as transfers do. -/
theorem o_set (off : Fin 3 → ℕ) (w : ℕ) (ho : off = ![w, 0, 0]) (inb) :
    ((Memref.whole cc1_stg8_0).access (Rect.unit (s := S256x1x256) off S1x1x256.size inb) : View sig .tc _ _ _).set = rowOf w := by
  show ((View.whole cc1_stg8_0).slice (Rect.unit (s := S256x1x256) off S1x1x256.size inb)).set = _
  rw [View.set_slice_whole]
  ext j; exact row_rect off w ho inb j
abbrev oSq (off : Fin 3 → ℕ) (inb : ∀ a, off a + S1x1x256.size a ≤ S256x1x256.size a)
    (hst : ∀ a, (Rect.unit (s := S256x1x256) off S1x1x256.size inb).stride a = 1) : Memref sig .tc .vmem S1x256 .f32 :=
  ((Memref.whole cc1_stg8_0).slice (Rect.unit (s := S256x1x256) off S1x1x256.size inb) hst).squeeze S1x256 squeezes_S1x1x256_S1x256
theorem oSq_set (off : Fin 3 → ℕ) (w : ℕ) (ho : off = ![w, 0, 0]) (inb) (hst) :
    (oSq off inb hst).view.set = rowOf w := by
  show (((View.whole cc1_stg8_0).slice (Rect.unit (s := S256x1x256) off S1x1x256.size inb)).reshape _ _).set = _
  rw [View.set_reshape]
  exact o_set off w ho inb
theorem o_emb (off : Fin 3 → ℕ) (w : ℕ) (ho : off = ![w, 0, 0]) (inb) (j : (cc1_stg8_0 : Ref sig .tc).ty.Idx) (h : j ∈ rowOf (sh := ![256, 1, 256]) w) :
    ((Memref.whole cc1_stg8_0).access (Rect.unit (s := S256x1x256) off S1x1x256.size inb) : View sig .tc _ _ _).emb (ix3 0 0 (j 2)) = j := by
  have h0 : (j 0).val = w := mem_rowOf.mp h
  subst ho
  funext a; apply Fin.ext
  match a with
  | ⟨0, _⟩ => show w + 1 * 0 = (j 0).val; omega
  | ⟨1, _⟩ => have h2 : (j 1).val < 1 := (j 1).isLt; show 0 + 1 * 0 = (j 1).val; omega
  | ⟨2, _⟩ => show 0 + 1 * (j 2).val = (j 2).val; omega
theorem oSq_emb (off : Fin 3 → ℕ) (w : ℕ) (ho : off = ![w, 0, 0]) (inb) (hst) (j : (cc1_stg8_0 : Ref sig .tc).ty.Idx) (h : j ∈ rowOf (sh := ![256, 1, 256]) w) :
    (oSq off inb hst).view.emb (ix2 0 (j 2)) = j := by
  refine Eq.trans ?_ (o_emb off w ho inb j h)
  exact congrArg ((Memref.whole cc1_stg8_0).access (Rect.unit (s := S256x1x256) off S1x1x256.size inb) : View sig .tc _ _ _).emb (row_reshape (M := 256) _ (j 2))

end Cert.MoE

end
-- ==== Proof.DispatchB.lean ====
/-
  Call 1: its tables, conditions, bounds and waits.
-/
module

public import proofs.«01_k».proof.Proof.DispatchA

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable {P : Plan F} {κ : GSem nD τ sig → ℕ}

/-- A piece before the rest of a program. -/
theorem bind_step {α β : Type} {c : Dev nD} {p : Prog (TpuEff nD τ sig (Elt F) Λ₀ .tc) α}
    {k : α → Prog (TpuEff nD τ sig (Elt F) Λ₀ .tc) β} {A : sProp 𝕄} {B : α → sProp 𝕄} {Q : β → sProp 𝕄}
    (h : A ⊢ run c p B) : A ⊢ iprop((∀ v, B v -∗ run c (k v) Q) -∗ run c (p >>= k) Q) := by
  unfold run at h ⊢; rw [wp_bind]
  iintro HA HK
  ihave Hw := h $$ HA
  iapply (wp_wand _ _ _) $$ Hw
  iexact HK

theorem assume_bind {β : Type} {c : Dev nD} {φ : Prop} {d : Decidable φ} {k : PLift φ → Prog (TpuEff nD τ sig (Elt F) Λ₀ .tc) β} {Q : β → sProp 𝕄}
    (h : φ) : run c (k ⟨h⟩) Q ⊢ run c (Prog.lift (TpuEff.assume φ d) >>= k) Q := by
  unfold run Prog.lift; rw [wp_bind, wp_assume_of 𝒱₀ (c : Thread nD τ) none Set.univ h, wp_ret]
  iintro H; imodintro; iexact H

theorem one_fin (x : Fin 1) (k : ℕ) : k + 1 * x.val = k := by have := x.isLt; omega

/-! ## The tables call 1 reads -/

/-- Slot `j` of the device's `k`-th expert. -/
abbrev e (k : Fin 2) (j : Fin 102) : Fin 204 := ⟨102 * k.val + j.val, by have := k.isLt; have := j.isLt; omega⟩

/-- What device `c`'s tables of words hold, for a routing. -/
structure Tabs (R : Routing) (c : Dev nD) where
  keep : (cc1_stg0_0 : Ref sig .tc).ty.Contents (Elt F)
  dst : (cc1_stg1_0 : Ref sig .tc).ty.Contents (Elt F)
  slot : (cc1_stg2_0 : Ref sig .tc).ty.Contents (Elt F)
  n : (cc1_stg3_0 : Ref sig .tc).ty.Contents (Elt F)
  td : (cc1_stg4_0 : Ref sig .tc).ty.Contents (Elt F)
  tr : (cc1_stg5_0 : Ref sig .tc).ty.Contents (Elt F)
  cnt : Fin 2 → ℕ
  hcnt : ∀ k, cnt k ≤ 102
  hkeep : ∀ i : Fin 256, ((keep (ix1 i) : BitVec 32) ≠ 0#32) = (R.kept c i = true)
  hdst : ∀ i : Fin 256, R.kept c i = true → (dst (ix1 i) : BitVec 32) = BitVec.ofNat 32 (R.dst c i).val
  hslot : ∀ i : Fin 256, R.kept c i = true → (slot (ix1 i) : BitVec 32) = BitVec.ofNat 32 (R.slot c i).val
  hn : ∀ k : Fin 2, (n (ix1 k) : BitVec 32) = BitVec.ofNat 32 (cnt k)
  hfill : ∀ (k : Fin 2) (j : Fin 102), (R.fill c (e k j) = true) = (j.val < cnt k)
  htd : ∀ (k : Fin 2) (j : Fin 102), j.val < cnt k → (td (ix2 k j) : BitVec 32) = BitVec.ofNat 32 (R.sd c (e k j)).val
  htr : ∀ (k : Fin 2) (j : Fin 102), j.val < cnt k → (tr (ix2 k j) : BitVec 32) = BitVec.ofNat 32 (R.sr c (e k j)).val

/-- The tables, in their buffers. -/
def tabs {R : Routing} {c : Dev nD} (T : Tabs (F := F) R c) : sProp 𝕄 :=
  iprop((((c : Thread nD τ).loc cc1_stg0_0) ↦[Finset.univ]{fullShare} T.keep) ∗ (((c : Thread nD τ).loc cc1_stg1_0) ↦[Finset.univ]{fullShare} T.dst)
    ∗ (((c : Thread nD τ).loc cc1_stg2_0) ↦[Finset.univ]{fullShare} T.slot) ∗ (((c : Thread nD τ).loc cc1_stg3_0) ↦[Finset.univ]{fullShare} T.n)
    ∗ (((c : Thread nD τ).loc cc1_stg4_0) ↦[Finset.univ]{fullShare} T.td) ∗ (((c : Thread nD τ).loc cc1_stg5_0) ↦[Finset.univ]{fullShare} T.tr))

theorem keep_step {R : Routing} {c : Dev nD} (T : Tabs (F := F) R c) {off : Fin 1 → ℕ} (k : Fin 256) (ho : off = ![k.val]) {inb} {hp} :
    tabs T ⊢ run c (smemLoad (Memref.whole cc1_stg0_0) (Rect.unit (s := S256) off S1.size inb) numel1_S1 hp)
      (fun v => iprop(⌜v = T.keep (ix1 k)⌝ ∗ tabs T)) := by
  subst ho
  have h := smem_step (F := F) (c := c) (m := Memref.whole cc1_stg0_0) (r := Rect.unit (s := S256) ![k.val] S1.size inb)
    (hl := View.loads_smem_one hp numel1_S1) (x := Shape.Idx.first (numel1_S1.symm ▸ Nat.one_pos)) (S := Finset.univ) (q := fullShare) (f := T.keep) (R := iprop(emp)) (Finset.subset_univ _)
  have hv : (((Memref.whole cc1_stg0_0).access (Rect.unit (s := S256) ![k.val] S1.size inb)).read (Elt F) T.keep (Shape.Idx.first (numel1_S1.symm ▸ Nat.one_pos))) = T.keep (ix1 k) := by
    rw [View.read_apply]
    refine congrArg T.keep ?_
    funext a; apply Fin.ext
    match a with
    | ⟨0, _⟩ => exact one_fin _ k.val
  rw [hv] at h
  unfold tabs
  iintro ⟨H0, H1, H2, H3, H4, H5⟩
  ihave Hw := h $$ [H0]
  · isplitl [H0]; · iexact H0
    iempintro
  unfold run
  iapply (wp_wand _ _ _) $$ Hw
  iintro %v ⟨%hv, H0, -⟩
  isplitr; · ipureintro; exact hv
  isplitl [H0]; · iexact H0
  isplitl [H1]; · iexact H1
  isplitl [H2]; · iexact H2
  isplitl [H3]; · iexact H3
  isplitl [H4]; · iexact H4
  iexact H5

theorem dst_step {R : Routing} {c : Dev nD} (T : Tabs (F := F) R c) {off : Fin 1 → ℕ} (k : Fin 256) (ho : off = ![k.val]) {inb} {hp} :
    tabs T ⊢ run c (smemLoad (Memref.whole cc1_stg1_0) (Rect.unit (s := S256) off S1.size inb) numel1_S1 hp)
      (fun v => iprop(⌜v = T.dst (ix1 k)⌝ ∗ tabs T)) := by
  subst ho
  have h := smem_step (F := F) (c := c) (m := Memref.whole cc1_stg1_0) (r := Rect.unit (s := S256) ![k.val] S1.size inb)
    (hl := View.loads_smem_one hp numel1_S1) (x := Shape.Idx.first (numel1_S1.symm ▸ Nat.one_pos)) (S := Finset.univ) (q := fullShare) (f := T.dst) (R := iprop(emp)) (Finset.subset_univ _)
  have hv : (((Memref.whole cc1_stg1_0).access (Rect.unit (s := S256) ![k.val] S1.size inb)).read (Elt F) T.dst (Shape.Idx.first (numel1_S1.symm ▸ Nat.one_pos))) = T.dst (ix1 k) := by
    rw [View.read_apply]
    refine congrArg T.dst ?_
    funext a; apply Fin.ext
    match a with
    | ⟨0, _⟩ => exact one_fin _ k.val
  rw [hv] at h
  unfold tabs
  iintro ⟨H0, H1, H2, H3, H4, H5⟩
  ihave Hw := h $$ [H1]
  · isplitl [H1]; · iexact H1
    iempintro
  unfold run
  iapply (wp_wand _ _ _) $$ Hw
  iintro %v ⟨%hv, H1, -⟩
  isplitr; · ipureintro; exact hv
  isplitl [H0]; · iexact H0
  isplitl [H1]; · iexact H1
  isplitl [H2]; · iexact H2
  isplitl [H3]; · iexact H3
  isplitl [H4]; · iexact H4
  iexact H5

theorem slot_step {R : Routing} {c : Dev nD} (T : Tabs (F := F) R c) {off : Fin 1 → ℕ} (k : Fin 256) (ho : off = ![k.val]) {inb} {hp} :
    tabs T ⊢ run c (smemLoad (Memref.whole cc1_stg2_0) (Rect.unit (s := S256) off S1.size inb) numel1_S1 hp)
      (fun v => iprop(⌜v = T.slot (ix1 k)⌝ ∗ tabs T)) := by
  subst ho
  have h := smem_step (F := F) (c := c) (m := Memref.whole cc1_stg2_0) (r := Rect.unit (s := S256) ![k.val] S1.size inb)
    (hl := View.loads_smem_one hp numel1_S1) (x := Shape.Idx.first (numel1_S1.symm ▸ Nat.one_pos)) (S := Finset.univ) (q := fullShare) (f := T.slot) (R := iprop(emp)) (Finset.subset_univ _)
  have hv : (((Memref.whole cc1_stg2_0).access (Rect.unit (s := S256) ![k.val] S1.size inb)).read (Elt F) T.slot (Shape.Idx.first (numel1_S1.symm ▸ Nat.one_pos))) = T.slot (ix1 k) := by
    rw [View.read_apply]
    refine congrArg T.slot ?_
    funext a; apply Fin.ext
    match a with
    | ⟨0, _⟩ => exact one_fin _ k.val
  rw [hv] at h
  unfold tabs
  iintro ⟨H0, H1, H2, H3, H4, H5⟩
  ihave Hw := h $$ [H2]
  · isplitl [H2]; · iexact H2
    iempintro
  unfold run
  iapply (wp_wand _ _ _) $$ Hw
  iintro %v ⟨%hv, H2, -⟩
  isplitr; · ipureintro; exact hv
  isplitl [H0]; · iexact H0
  isplitl [H1]; · iexact H1
  isplitl [H2]; · iexact H2
  isplitl [H3]; · iexact H3
  isplitl [H4]; · iexact H4
  iexact H5

theorem n_step {R : Routing} {c : Dev nD} (T : Tabs (F := F) R c) {off : Fin 1 → ℕ} (k : Fin 2) (ho : off = ![k.val]) {inb} {hp} :
    tabs T ⊢ run c (smemLoad (Memref.whole cc1_stg3_0) (Rect.unit (s := S2) off S1.size inb) numel1_S1 hp)
      (fun v => iprop(⌜v = T.n (ix1 k)⌝ ∗ tabs T)) := by
  subst ho
  have h := smem_step (F := F) (c := c) (m := Memref.whole cc1_stg3_0) (r := Rect.unit (s := S2) ![k.val] S1.size inb)
    (hl := View.loads_smem_one hp numel1_S1) (x := Shape.Idx.first (numel1_S1.symm ▸ Nat.one_pos)) (S := Finset.univ) (q := fullShare) (f := T.n) (R := iprop(emp)) (Finset.subset_univ _)
  have hv : (((Memref.whole cc1_stg3_0).access (Rect.unit (s := S2) ![k.val] S1.size inb)).read (Elt F) T.n (Shape.Idx.first (numel1_S1.symm ▸ Nat.one_pos))) = T.n (ix1 k) := by
    rw [View.read_apply]
    refine congrArg T.n ?_
    funext a; apply Fin.ext
    match a with
    | ⟨0, _⟩ => exact one_fin _ k.val
  rw [hv] at h
  unfold tabs
  iintro ⟨H0, H1, H2, H3, H4, H5⟩
  ihave Hw := h $$ [H3]
  · isplitl [H3]; · iexact H3
    iempintro
  unfold run
  iapply (wp_wand _ _ _) $$ Hw
  iintro %v ⟨%hv, H3, -⟩
  isplitr; · ipureintro; exact hv
  isplitl [H0]; · iexact H0
  isplitl [H1]; · iexact H1
  isplitl [H2]; · iexact H2
  isplitl [H3]; · iexact H3
  isplitl [H4]; · iexact H4
  iexact H5

theorem td_step {R : Routing} {c : Dev nD} (T : Tabs (F := F) R c) {off : Fin 2 → ℕ} (k : Fin 2) (j : Fin 102) (ho : off = ![k.val, j.val]) {inb} {hp} :
    tabs T ⊢ run c (smemLoad (Memref.whole cc1_stg4_0) (Rect.unit (s := S2x102) off S1x1.size inb) numel1_S1x1 hp)
      (fun v => iprop(⌜v = T.td (ix2 k j)⌝ ∗ tabs T)) := by
  subst ho
  have h := smem_step (F := F) (c := c) (m := Memref.whole cc1_stg4_0) (r := Rect.unit (s := S2x102) ![k.val, j.val] S1x1.size inb)
    (hl := View.loads_smem_one hp numel1_S1x1) (x := Shape.Idx.first (numel1_S1x1.symm ▸ Nat.one_pos)) (S := Finset.univ) (q := fullShare) (f := T.td) (R := iprop(emp)) (Finset.subset_univ _)
  have hv : (((Memref.whole cc1_stg4_0).access (Rect.unit (s := S2x102) ![k.val, j.val] S1x1.size inb)).read (Elt F) T.td (Shape.Idx.first (numel1_S1x1.symm ▸ Nat.one_pos))) = T.td (ix2 k j) := by
    rw [View.read_apply]
    refine congrArg T.td ?_
    funext a; apply Fin.ext
    match a with
    | ⟨0, _⟩ => exact one_fin _ k.val
    | ⟨1, _⟩ => exact one_fin _ j.val
  rw [hv] at h
  unfold tabs
  iintro ⟨H0, H1, H2, H3, H4, H5⟩
  ihave Hw := h $$ [H4]
  · isplitl [H4]; · iexact H4
    iempintro
  unfold run
  iapply (wp_wand _ _ _) $$ Hw
  iintro %v ⟨%hv, H4, -⟩
  isplitr; · ipureintro; exact hv
  isplitl [H0]; · iexact H0
  isplitl [H1]; · iexact H1
  isplitl [H2]; · iexact H2
  isplitl [H3]; · iexact H3
  isplitl [H4]; · iexact H4
  iexact H5

theorem tr_step {R : Routing} {c : Dev nD} (T : Tabs (F := F) R c) {off : Fin 2 → ℕ} (k : Fin 2) (j : Fin 102) (ho : off = ![k.val, j.val]) {inb} {hp} :
    tabs T ⊢ run c (smemLoad (Memref.whole cc1_stg5_0) (Rect.unit (s := S2x102) off S1x1.size inb) numel1_S1x1 hp)
      (fun v => iprop(⌜v = T.tr (ix2 k j)⌝ ∗ tabs T)) := by
  subst ho
  have h := smem_step (F := F) (c := c) (m := Memref.whole cc1_stg5_0) (r := Rect.unit (s := S2x102) ![k.val, j.val] S1x1.size inb)
    (hl := View.loads_smem_one hp numel1_S1x1) (x := Shape.Idx.first (numel1_S1x1.symm ▸ Nat.one_pos)) (S := Finset.univ) (q := fullShare) (f := T.tr) (R := iprop(emp)) (Finset.subset_univ _)
  have hv : (((Memref.whole cc1_stg5_0).access (Rect.unit (s := S2x102) ![k.val, j.val] S1x1.size inb)).read (Elt F) T.tr (Shape.Idx.first (numel1_S1x1.symm ▸ Nat.one_pos))) = T.tr (ix2 k j) := by
    rw [View.read_apply]
    refine congrArg T.tr ?_
    funext a; apply Fin.ext
    match a with
    | ⟨0, _⟩ => exact one_fin _ k.val
    | ⟨1, _⟩ => exact one_fin _ j.val
  rw [hv] at h
  unfold tabs
  iintro ⟨H0, H1, H2, H3, H4, H5⟩
  ihave Hw := h $$ [H5]
  · isplitl [H5]; · iexact H5
    iempintro
  unfold run
  iapply (wp_wand _ _ _) $$ Hw
  iintro %v ⟨%hv, H5, -⟩
  isplitr; · ipureintro; exact hv
  isplitl [H0]; · iexact H0
  isplitl [H1]; · iexact H1
  isplitl [H2]; · iexact H2
  isplitl [H3]; · iexact H3
  isplitl [H4]; · iexact H4
  iexact H5

/-! ## Bounds -/

theorem row_inb {N M w : ℕ} {off : Fin 3 → ℕ} (ho : off = ![w, 0, 0]) (hw : w < N) :
    ∀ a, off a + (![1, 1, M] : Fin 3 → ℕ) a ≤ (![N, 1, M] : Fin 3 → ℕ) a := by
  subst ho; intro a
  match a with
  | ⟨0, _⟩ => show w + 1 ≤ N; omega
  | ⟨1, _⟩ => exact Nat.le_refl 1
  | ⟨2, _⟩ => show 0 + M ≤ M; omega
theorem one_inb {N w : ℕ} {off : Fin 1 → ℕ} (ho : off = ![w]) (hw : w < N) :
    ∀ a, off a + (![1] : Fin 1 → ℕ) a ≤ (![N] : Fin 1 → ℕ) a := by
  subst ho; intro a
  match a with
  | ⟨0, _⟩ => show w + 1 ≤ N; omega
theorem two_inb {k j : ℕ} {off : Fin 2 → ℕ} (ho : off = ![k, j]) (hk : k < 2) (hj : j < 102) :
    ∀ a, off a + (![1, 1] : Fin 2 → ℕ) a ≤ (![2, 102] : Fin 2 → ℕ) a := by
  subst ho; intro a
  match a with
  | ⟨0, _⟩ => show k + 1 ≤ 2; omega
  | ⟨1, _⟩ => show j + 1 ≤ 102; omega
theorem row_words {w : ℕ} {off : Fin 3 → ℕ} (ho : off = ![w, 0, 0]) (inb) :
    (Rect.unit (s := S204x1x128) off S1x1x128.size inb).WholeWords (EltTy.packing .bf16) := by
  subst ho; exact Affine.words_rows (by decide) rfl rfl
theorem row_packed {w : ℕ} {off : Fin 3 → ℕ} (ho : off = ![w, 0, 0]) (inb) :
    (Rect.unit (s := S204x1x128) off S1x1x128.size inb).PackedRows (EltTy.packing .bf16) := by
  subst ho; exact Affine.packed_rows (by decide) rfl rfl rfl rfl

/-! ## Semaphores -/

theorem sx_sem (k : Fin 256) {off : Fin 1 → ℕ} (h : off = ![k.val]) (inb) :
    SemLoc.dma ((cc1_scratch2.slice (Rect.unit (s := S256) off S1.size inb)).squeeze S_ squeezes_S1_S_).sem = ssem (.sx k) :=
  congrArg SemLoc.dma (sem_slice (n := 256) (base := 74) hcc1_scratch2 off k.val h inb (by have := k.isLt; omega))
theorem rx_sem (k : Fin 204) {off : Fin 1 → ℕ} (h : off = ![k.val]) (inb) :
    SemLoc.dma ((cc1_scratch3.slice (Rect.unit (s := S204) off S1.size inb)).squeeze S_ squeezes_S1_S_).sem = ssem (.rx k) :=
  congrArg SemLoc.dma (sem_slice (n := 204) (base := 330) hcc1_scratch3 off k.val h inb (by have := k.isLt; omega))
theorem sr_sem (k : Fin 204) {off : Fin 1 → ℕ} (h : off = ![k.val]) (inb) :
    SemLoc.dma ((cc1_scratch4.slice (Rect.unit (s := S204) off S1.size inb)).squeeze S_ squeezes_S1_S_).sem = ssem (.sr k) :=
  congrArg SemLoc.dma (sem_slice (n := 204) (base := 534) hcc1_scratch4 off k.val h inb (by have := k.isLt; omega))
theorem rr_sem (k : Fin 256) {off : Fin 1 → ℕ} (h : off = ![k.val]) (inb) :
    SemLoc.dma ((cc1_scratch5.slice (Rect.unit (s := S256) off S1.size inb)).squeeze S_ squeezes_S1_S_).sem = ssem (.rr k) :=
  congrArg SemLoc.dma (sem_slice (n := 256) (base := 738) hcc1_scratch5 off k.val h inb (by have := k.isLt; omega))

/-! ## Waits that are made only where a transfer is -/

/-- A transfer's cell before its wait, and after. -/
def pend (P : Plan F) (c : Dev nD) (k : CK) : sProp 𝕄 :=
  iprop(atPos ER (cell c k) 0 ∅ 0 ∗ if duts P.R c k = ∅ then iprop(emp) else cred (tallyAt (cell c k) () (amt k)))
def done (P : Plan F) (c : Dev nD) (k : CK) : sProp 𝕄 :=
  if duts P.R c k = ∅ then atPos ER (cell c k) 0 ∅ 0 else iprop(atPos ER (cell c k) (0 + 1) ∅ 0 ∗ pay P c k 0)

theorem pend_skip {c : Dev nD} {k : CK} (h : duts P.R c k = ∅) : pend P c k ⊢ done P c k := by
  unfold pend done; rw [if_pos h, if_pos h]; iintro ⟨H, -⟩; iexact H

/-- What a device owes, with what it has waited for. -/
abbrev owing (c : Dev nD) (D : CellTallies nD τ sig Unit) : sProp 𝕄 := iprop(∃ W, owes (c : Thread nD τ) D W)

theorem pend_wait {c : Dev nD} {D : CellTallies nD τ sig Unit} (k : CK) (hk : duts P.R c k = {0}) (hD : Above (lvK k) D)
    {sem : DmaSem sig} (hs : SemLoc.dma sem = ssem k) {sp sp' : Space} {s s' : Shape} {e e' : EltTy}
    {src : Memref sig .tc sp' s' e'} {dst : Memref sig .tc sp s e} {hsrc : src.view.WordExact} {hdst : dst.view.WordExact}
    (ha : dst.view.dmaCredit = amt k) :
    iprop(ctx P κ ∗ pend P c k ∗ owing c D)
      ⊢ run c (Prog.lift (.waitDma2 sem src dst hsrc hdst)) (fun _ => iprop(done P c k ∗ owing c D)) := by
  have h := dwait (P := P) (κ := κ) (c := c) k hk hD hs (src := src) (dst := dst) (hsrc := hsrc) (hdst := hdst) ha
  have hne : duts P.R c k ≠ ∅ := by rw [hk]; exact Finset.singleton_ne_empty 0
  unfold pend done
  rw [if_neg hne, if_neg hne]
  iintro ⟨#Hc, ⟨Ha, Hcr⟩, HO⟩
  ihave Hw := h $$ [Ha Hcr HO]
  · isplitr; · iexact Hc
    isplitl [Ha]; · iexact Ha
    isplitl [Hcr]; · iexact Hcr
    iexact HO
  unfold run
  iapply (wp_wand _ _ _) $$ Hw
  iintro %_ ⟨-, Ha, Hp, HO⟩
  isplitl [Ha Hp]
  · isplitl [Ha]; · iexact Ha
    iexact Hp
  iexact HO

theorem duts_rx (R : Routing) (c : Dev nD) (s : Fin 204) (h : R.came c s) : duts R c (.rx s) = {0} := if_pos h
theorem duts_rx' (R : Routing) (c : Dev nD) (s : Fin 204) (h : ¬ R.came c s) : duts R c (.rx s) = ∅ := if_neg h
theorem duts_sr (R : Routing) (c : Dev nD) (s : Fin 204) (h : R.came c s) : duts R c (.sr s) = {0} := if_pos h
theorem duts_sr' (R : Routing) (c : Dev nD) (s : Fin 204) (h : ¬ R.came c s) : duts R c (.sr s) = ∅ := if_neg h
theorem duts_sx (R : Routing) (c : Dev nD) (i : Fin 256) (h : R.away c i) : duts R c (.sx i) = {0} := if_pos h
theorem duts_sx' (R : Routing) (c : Dev nD) (i : Fin 256) (h : ¬ R.away c i) : duts R c (.sx i) = ∅ := if_neg h
theorem duts_rr (R : Routing) (c : Dev nD) (i : Fin 256) (h : R.away c i) : duts R c (.rr i) = {0} := if_pos h
theorem duts_rr' (R : Routing) (c : Dev nD) (i : Fin 256) (h : ¬ R.away c i) : duts R c (.rr i) = ∅ := if_neg h

/-- Conditions on the device's own number. -/
theorem ne_me (c : Dev nD) (w : BitVec 32) :
    Scalar.cmpi .ne (Scalar.extui (Scalar.cmpi .ne w (Scalar.remsi (Scalar.divsi (Dev.word c) 1#32) 32#32))) 0#32 = 1#1 ↔ w ≠ BitVec.ofNat 32 c.val := by
  rw [ne_bit, me_word]
theorem eq_me (c : Dev nD) (w : BitVec 32) :
    Scalar.cmpi .ne (Scalar.extui (Scalar.cmpi .eq w (Scalar.remsi (Scalar.divsi (Dev.word c) 1#32) 32#32))) 0#32 = 1#1 ↔ w = BitVec.ofNat 32 c.val := by
  rw [eq_bit, me_word]
theorem and_ne_me (c : Dev nD) (a w : BitVec 32) :
    Scalar.cmpi .ne (Scalar.extui (Scalar.andi (Scalar.cmpi .ne a 0#32) (Scalar.cmpi .ne w (Scalar.remsi (Scalar.divsi (Dev.word c) 1#32) 32#32)))) 0#32 = 1#1
      ↔ a ≠ 0#32 ∧ w ≠ BitVec.ofNat 32 c.val := by
  rw [and_ne_bit, me_word]
theorem and_eq_me (c : Dev nD) (a w : BitVec 32) :
    Scalar.cmpi .ne (Scalar.extui (Scalar.andi (Scalar.cmpi .ne a 0#32) (Scalar.cmpi .eq w (Scalar.remsi (Scalar.divsi (Dev.word c) 1#32) 32#32)))) 0#32 = 1#1
      ↔ a ≠ 0#32 ∧ w = BitVec.ofNat 32 c.val := by
  rw [and_eq_bit, me_word]

variable {c : Dev nD} (T : Tabs (F := F) P.R c)

theorem away_iff (i : Fin 256) :
    Scalar.cmpi .ne (Scalar.extui (Scalar.andi (Scalar.cmpi .ne (T.keep (ix1 i)) 0#32) (Scalar.cmpi .ne (T.dst (ix1 i)) (Scalar.remsi (Scalar.divsi (Dev.word c) 1#32) 32#32)))) 0#32 = 1#1
      ↔ P.R.away c i := by
  rw [and_ne_me, T.hkeep i]
  constructor
  · rintro ⟨h1, h2⟩; rw [T.hdst i h1] at h2; exact ⟨h1, fun e => h2 (by rw [e])⟩
  · rintro ⟨h1, h2⟩; refine ⟨h1, ?_⟩; rw [T.hdst i h1]; exact fun e => h2 (dev_word_inj.mp e)
theorem here_iff (i : Fin 256) :
    Scalar.cmpi .ne (Scalar.extui (Scalar.andi (Scalar.cmpi .ne (T.keep (ix1 i)) 0#32) (Scalar.cmpi .eq (T.dst (ix1 i)) (Scalar.remsi (Scalar.divsi (Dev.word c) 1#32) 32#32)))) 0#32 = 1#1
      ↔ P.R.kept c i = true ∧ P.R.dst c i = c := by
  rw [and_eq_me, T.hkeep i]
  constructor
  · rintro ⟨h1, h2⟩; rw [T.hdst i h1] at h2; exact ⟨h1, dev_word_inj.mp h2⟩
  · rintro ⟨h1, h2⟩; refine ⟨h1, ?_⟩; rw [T.hdst i h1, h2]
theorem came_iff (k : Fin 2) (j : Fin 102) (hj : j.val < T.cnt k) :
    Scalar.cmpi .ne (Scalar.extui (Scalar.cmpi .ne (T.td (ix2 k j)) (Scalar.remsi (Scalar.divsi (Dev.word c) 1#32) 32#32))) 0#32 = 1#1
      ↔ P.R.came c (e k j) := by
  rw [ne_me, T.htd k j hj]
  exact ⟨fun h => ⟨(T.hfill k j).mpr hj, fun e => h (by rw [e])⟩, fun h e => h.2 (dev_word_inj.mp e)⟩
theorem own_iff (k : Fin 2) (j : Fin 102) (hj : j.val < T.cnt k) :
    Scalar.cmpi .ne (Scalar.extui (Scalar.cmpi .eq (T.td (ix2 k j)) (Scalar.remsi (Scalar.divsi (Dev.word c) 1#32) 32#32))) 0#32 = 1#1
      ↔ P.R.sd c (e k j) = c := by
  rw [eq_me, T.htd k j hj]; exact dev_word_inj
theorem not_came (k : Fin 2) (j : Fin 102) (hj : T.cnt k ≤ j.val) : ¬ P.R.came c (e k j) := fun h => by
  have := h.1; rw [T.hfill k j] at this; omega

end Cert.MoE

end
-- ==== Proof.DispatchC.lean ====
/-
  Call 1: its trips that wait.
-/
module

public import proofs.«01_k».proof.Proof.DispatchB

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable {P : Plan F} {κ : GSem nD τ sig → ℕ} {c : Dev nD} (T : Tabs (F := F) P.R c)

/-- The word a counter of filled slots is. -/
abbrev cw {R : Routing} (T : Tabs (F := F) R c) (k : Fin 2) : BitVec 32 := BitVec.ofNat 32 (T.cnt k)

theorem cnt_trips (k : Fin 2) : Scf.trips 0#32 (Scalar.addi 0#32 (Scalar.muli (Scalar.divsi (Scalar.subi (cw T k) 0#32) 1#32) 1#32)) 1#32 = T.cnt k :=
  dyn_trips ⟨T.cnt k, Nat.lt_succ_of_le (T.hcnt k)⟩
theorem cnt_rem (k : Fin 2) : Scf.trips (Scalar.addi 0#32 (Scalar.muli (Scalar.divsi (Scalar.subi (cw T k) 0#32) 1#32) 1#32)) (Scalar.addi 0#32 (Scalar.subi (cw T k) 0#32)) 1#32 = 0 :=
  rem_trips ⟨T.cnt k, Nat.lt_succ_of_le (T.hcnt k)⟩
theorem dyn_ok : ∀ n : Fin 103, Scf.OK 0#32 (Scalar.addi 0#32 (Scalar.muli (Scalar.divsi (Scalar.subi (BitVec.ofNat 32 n.val) 0#32) 1#32) 1#32)) 1#32 := by
  decide +kernel
theorem rem_ok : ∀ n : Fin 103, Scf.OK (Scalar.addi 0#32 (Scalar.muli (Scalar.divsi (Scalar.subi (BitVec.ofNat 32 n.val) 0#32) 1#32) 1#32)) (Scalar.addi 0#32 (Scalar.subi (BitVec.ofNat 32 n.val) 0#32)) 1#32 := by
  decide +kernel

theorem iv_off1 {t x : ℕ} (h : x = t) (hx : x < 204) : (![(Scf.iv 0#32 1#32 t).toNat] : Fin 1 → ℕ) = ![x] := by subst h; rw [iv_nat (by omega)]
theorem iv_off1' {t x : ℕ} (h : x = t) (hx : x < 256) : (![(Scf.iv 0#32 1#32 t).toNat] : Fin 1 → ℕ) = ![x] := by subst h; rw [iv_nat (by omega)]
theorem iv_off3 {t x : ℕ} (h : x = t) (hx : x < 256) : (![(Scf.iv 0#32 1#32 t).toNat, 0, 0] : Fin 3 → ℕ) = ![x, 0, 0] := by subst h; rw [iv_nat (by omega)]
theorem iv_off2 {k t x : ℕ} (h : x = t) (hx : x < 204) : (![k, (Scf.iv 0#32 1#32 t).toNat] : Fin 2 → ℕ) = ![k, x] := by subst h; rw [iv_nat (by omega)]
theorem iva_off1 {k : Fin 2} {t : ℕ} {x : Fin 102} {b : BitVec 32} (hb : b = BitVec.ofNat 32 (102 * k.val)) (h : x.val = t) :
    (![(Scalar.addi b (Scf.iv 0#32 1#32 t)).toNat] : Fin 1 → ℕ) = ![(e k x).val] := by
  subst h hb; have := x.isLt; have := k.isLt; rw [iv_add_nat (by omega)]
theorem iva_off3 {k : Fin 2} {t : ℕ} {x : Fin 102} {b : BitVec 32} (hb : b = BitVec.ofNat 32 (102 * k.val)) (h : x.val = t) :
    (![(Scalar.addi b (Scf.iv 0#32 1#32 t)).toNat, 0, 0] : Fin 3 → ℕ) = ![(e k x).val, 0, 0] := by
  subst h hb; have := x.isLt; have := k.isLt; rw [iv_add_nat (by omega)]

theorem chk5 : k1_chk5 (cw T 0) :=
  ⟨dyn_ok ⟨T.cnt 0, Nat.lt_succ_of_le (T.hcnt 0)⟩,
    fun t => two_inb (iv_off2 (k := 0) (t := t.val) rfl (by have := lt_of_lt_of_eq t.isLt (cnt_trips T 0); have := T.hcnt 0; omega)) (by decide) (by have := lt_of_lt_of_eq t.isLt (cnt_trips T 0); have := T.hcnt 0; omega),
    rem_ok ⟨T.cnt 0, Nat.lt_succ_of_le (T.hcnt 0)⟩,
    fun t => absurd (lt_of_lt_of_eq t.isLt (cnt_rem T 0)) (Nat.not_lt_zero _)⟩
theorem chk8 : k1_chk8 (cw T 1) :=
  ⟨dyn_ok ⟨T.cnt 1, Nat.lt_succ_of_le (T.hcnt 1)⟩,
    fun t => two_inb (iv_off2 (k := 1) (t := t.val) rfl (by have := lt_of_lt_of_eq t.isLt (cnt_trips T 1); have := T.hcnt 1; omega)) (by decide) (by have := lt_of_lt_of_eq t.isLt (cnt_trips T 1); have := T.hcnt 1; omega),
    rem_ok ⟨T.cnt 1, Nat.lt_succ_of_le (T.hcnt 1)⟩,
    fun t => absurd (lt_of_lt_of_eq t.isLt (cnt_rem T 1)) (Nat.not_lt_zero _)⟩
theorem chk11 : k1_chk11 (cw T 0) :=
  ⟨dyn_ok ⟨T.cnt 0, Nat.lt_succ_of_le (T.hcnt 0)⟩,
    fun t => two_inb (iv_off2 (k := 0) (t := t.val) rfl (by have := lt_of_lt_of_eq t.isLt (cnt_trips T 0); have := T.hcnt 0; omega)) (by decide) (by have := lt_of_lt_of_eq t.isLt (cnt_trips T 0); have := T.hcnt 0; omega),
    fun t => two_inb (iv_off2 (k := 0) (t := t.val) rfl (by have := lt_of_lt_of_eq t.isLt (cnt_trips T 0); have := T.hcnt 0; omega)) (by decide) (by have := lt_of_lt_of_eq t.isLt (cnt_trips T 0); have := T.hcnt 0; omega),
    rem_ok ⟨T.cnt 0, Nat.lt_succ_of_le (T.hcnt 0)⟩,
    fun t => absurd (lt_of_lt_of_eq t.isLt (cnt_rem T 0)) (Nat.not_lt_zero _),
    fun t => absurd (lt_of_lt_of_eq t.isLt (cnt_rem T 0)) (Nat.not_lt_zero _)⟩
theorem chk24 : k1_chk24 (cw T 1) :=
  ⟨dyn_ok ⟨T.cnt 1, Nat.lt_succ_of_le (T.hcnt 1)⟩,
    fun t => two_inb (iv_off2 (k := 1) (t := t.val) rfl (by have := lt_of_lt_of_eq t.isLt (cnt_trips T 1); have := T.hcnt 1; omega)) (by decide) (by have := lt_of_lt_of_eq t.isLt (cnt_trips T 1); have := T.hcnt 1; omega),
    fun t => two_inb (iv_off2 (k := 1) (t := t.val) rfl (by have := lt_of_lt_of_eq t.isLt (cnt_trips T 1); have := T.hcnt 1; omega)) (by decide) (by have := lt_of_lt_of_eq t.isLt (cnt_trips T 1); have := T.hcnt 1; omega),
    rem_ok ⟨T.cnt 1, Nat.lt_succ_of_le (T.hcnt 1)⟩,
    fun t => absurd (lt_of_lt_of_eq t.isLt (cnt_rem T 1)) (Nat.not_lt_zero _),
    fun t => absurd (lt_of_lt_of_eq t.isLt (cnt_rem T 1)) (Nat.not_lt_zero _)⟩
theorem chk37 : k1_chk37 (cw T 0) :=
  ⟨dyn_ok ⟨T.cnt 0, Nat.lt_succ_of_le (T.hcnt 0)⟩,
    fun t => two_inb (iv_off2 (k := 0) (t := t.val) rfl (by have := lt_of_lt_of_eq t.isLt (cnt_trips T 0); have := T.hcnt 0; omega)) (by decide) (by have := lt_of_lt_of_eq t.isLt (cnt_trips T 0); have := T.hcnt 0; omega),
    rem_ok ⟨T.cnt 0, Nat.lt_succ_of_le (T.hcnt 0)⟩,
    fun t => absurd (lt_of_lt_of_eq t.isLt (cnt_rem T 0)) (Nat.not_lt_zero _)⟩
theorem chk40 : k1_chk40 (cw T 1) :=
  ⟨dyn_ok ⟨T.cnt 1, Nat.lt_succ_of_le (T.hcnt 1)⟩,
    fun t => two_inb (iv_off2 (k := 1) (t := t.val) rfl (by have := lt_of_lt_of_eq t.isLt (cnt_trips T 1); have := T.hcnt 1; omega)) (by decide) (by have := lt_of_lt_of_eq t.isLt (cnt_trips T 1); have := T.hcnt 1; omega),
    rem_ok ⟨T.cnt 1, Nat.lt_succ_of_le (T.hcnt 1)⟩,
    fun t => absurd (lt_of_lt_of_eq t.isLt (cnt_rem T 1)) (Nat.not_lt_zero _)⟩

theorem run_pos {β : Type} {c : Dev nD} {φ : Prop} {d : Decidable φ} {t : φ → Prog (TpuEff nD τ sig (Elt F) Λ₀ .tc) β} {e : ¬ φ → Prog (TpuEff nD τ sig (Elt F) Λ₀ .tc) β}
    {Q : β → sProp 𝕄} (h : φ) : run c (t h) Q ⊢ run c (dite φ t e) Q := by rw [dif_pos h]
theorem run_neg {β : Type} {c : Dev nD} {φ : Prop} {d : Decidable φ} {t : φ → Prog (TpuEff nD τ sig (Elt F) Λ₀ .tc) β} {e : ¬ φ → Prog (TpuEff nD τ sig (Elt F) Λ₀ .tc) β}
    {Q : β → sProp 𝕄} (h : ¬ φ) : run c (e h) Q ⊢ run c (dite φ t e) Q := by rw [dif_neg h]
theorem run_ipos {β : Type} {c : Dev nD} {φ : Prop} {d : Decidable φ} {t e : Prog (TpuEff nD τ sig (Elt F) Λ₀ .tc) β}
    {Q : β → sProp 𝕄} (h : φ) : run c t Q ⊢ run c (ite φ t e) Q := by rw [if_pos h]
theorem run_ineg {β : Type} {c : Dev nD} {φ : Prop} {d : Decidable φ} {t e : Prog (TpuEff nD τ sig (Elt F) Λ₀ .tc) β}
    {Q : β → sProp 𝕄} (h : ¬ φ) : run c e Q ⊢ run c (ite φ t e) Q := by rw [if_neg h]

theorem t2_trip {D : CellTallies nD τ sig Unit} (hD : Above 4 D) (v2 : BitVec 32) (v3 : Sems sig S_) (v120 w : BitVec 32) (hw : k1_chk5 (cw T 0)) (t : Fin (k1_t2_loop (cw T 0)).trips) (x : Fin 102) (hx : x.val = t.val) :
    iprop((ctx P κ ∗ tabs T ∗ owing c D) ∗ pend P c (.rx (e 0 x)))
      ⊢ run c (k1_t2_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c v2 v3 v120 w (cw T 0) hw t ()) (fun _ => iprop((ctx P κ ∗ tabs T ∗ owing c D) ∗ done P c (.rx (e 0 x)))) := by
  have hlt : x.val < T.cnt 0 := by
    rw [hx]; exact lt_of_lt_of_eq t.isLt (cnt_trips T 0)
  have od : k1_off11 (cw T 0) t = ![((0 : Fin 2)).val, x.val] := iv_off2 hx (by have := x.isLt; omega)
  have os : k1_off12 (cw T 0) t = ![(e 0 x).val] := iva_off1 (k := 0) rfl hx
  have orow : k1_off13 (cw T 0) t = ![(e 0 x).val, 0, 0] := iva_off3 (k := 0) rfl hx
  unfold k1_t2_body
  iintro ⟨⟨#Hc, Ht, HO⟩, Hp⟩
  iapply (bind_step (td_step T 0 x od)) $$ Ht
  iintro %v ⟨%hv, Ht⟩
  subst hv
  have hchk : k1_chk6 c (cw T 0) t (T.td (ix2 0 x)) :=
    ⟨fun _ => one_inb os (e 0 x).isLt, fun _ => row_inb orow (e 0 x).isLt, fun _ inb => row_words orow inb⟩
  iapply (assume_bind hchk)
  by_cases hcm : P.R.came c (e 0 x)
  · iapply (run_pos (φ := k1_cond3 c (T.td (ix2 0 x)) = 1#1) ((came_iff T 0 x hlt).mpr hcm))
    iapply (bind_step (pend_wait (P := P) (κ := κ) (c := c) (.rx (e 0 x)) (duts_rx _ _ _ hcm) hD (rx_sem (e 0 x) os _) rfl)) $$ [Hp HO]
    · isplitr; · iexact Hc
      isplitl [Hp]; · iexact Hp
      iexact HO
    iintro %_ ⟨Hp, HO⟩
    iapply (run_pure .rfl)
    isplitr [Hp]
    · isplitr; · iexact Hc
      isplitl [Ht]; · iexact Ht
      iexact HO
    iexact Hp
  · iapply (run_neg (φ := k1_cond3 c (T.td (ix2 0 x)) = 1#1) (fun h => hcm ((came_iff T 0 x hlt).mp h)))
    iapply (run_pure .rfl)
    isplitr [Hp]
    · isplitr; · iexact Hc
      isplitl [Ht]; · iexact Ht
      iexact HO
    iapply (pend_skip (duts_rx' _ _ _ hcm)); iexact Hp

theorem t2_run {D : CellTallies nD τ sig Unit} (hD : Above 4 D) (v2 : BitVec 32) (v3 : Sems sig S_) (v120 w : BitVec 32) (hw : k1_chk5 (cw T 0)) :
    iprop((ctx P κ ∗ tabs T ∗ owing c D) ∗ bigSep Finset.univ (fun x : Fin 102 => pend P c (.rx (e 0 x))))
      ⊢ run c (Scf.Loop.for (k1_t2_loop (cw T 0)) (k1_t2_ok (cw T 0) hw) () (k1_t2_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c v2 v3 v120 w (cw T 0) hw))
        (fun _ => iprop((ctx P κ ∗ tabs T ∗ owing c D) ∗ bigSep Finset.univ (fun x : Fin 102 => done P c (.rx (e 0 x))))) :=
  loop_run (k1_t2_loop (cw T 0)) (k1_t2_ok (cw T 0) hw) (T.cnt 0) (cnt_trips T 0) (T.hcnt 0) _ _ _ (fun _ => iprop(ctx P κ ∗ tabs T ∗ owing c D))
    (fun t x hx => t2_trip T hD v2 v3 v120 w hw t x hx)
    (fun x hx => pend_skip (duts_rx' _ _ _ (not_came T 0 x hx)))

theorem t4_trip {D : CellTallies nD τ sig Unit} (hD : Above 4 D) (v2 a1 a2 a3 : BitVec 32) (hw : k1_chk8 (cw T 1)) (t : Fin (k1_t4_loop (cw T 1)).trips) (x : Fin 102) (hx : x.val = t.val) :
    iprop((ctx P κ ∗ tabs T ∗ owing c D) ∗ pend P c (.rx (e 1 x)))
      ⊢ run c (k1_t4_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c v2 (cw T 1) hw a1 a2 a3 t ()) (fun _ => iprop((ctx P κ ∗ tabs T ∗ owing c D) ∗ done P c (.rx (e 1 x)))) := by
  have hlt : x.val < T.cnt 1 := by
    rw [hx]; exact lt_of_lt_of_eq t.isLt (cnt_trips T 1)
  have od : k1_off17 (cw T 1) t = ![((1 : Fin 2)).val, x.val] := iv_off2 hx (by have := x.isLt; omega)
  have os : k1_off18 (cw T 1) t = ![(e 1 x).val] := iva_off1 (k := 1) rfl hx
  have orow : k1_off19 (cw T 1) t = ![(e 1 x).val, 0, 0] := iva_off3 (k := 1) rfl hx
  unfold k1_t4_body
  iintro ⟨⟨#Hc, Ht, HO⟩, Hp⟩
  iapply (bind_step (td_step T 1 x od)) $$ Ht
  iintro %v ⟨%hv, Ht⟩
  subst hv
  have hchk : k1_chk9 c (cw T 1) t (T.td (ix2 1 x)) :=
    ⟨fun _ => one_inb os (e 1 x).isLt, fun _ => row_inb orow (e 1 x).isLt, fun _ inb => row_words orow inb⟩
  iapply (assume_bind hchk)
  by_cases hcm : P.R.came c (e 1 x)
  · iapply (run_pos (φ := k1_cond5 c (T.td (ix2 1 x)) = 1#1) ((came_iff T 1 x hlt).mpr hcm))
    iapply (bind_step (pend_wait (P := P) (κ := κ) (c := c) (.rx (e 1 x)) (duts_rx _ _ _ hcm) hD (rx_sem (e 1 x) os _) rfl)) $$ [Hp HO]
    · isplitr; · iexact Hc
      isplitl [Hp]; · iexact Hp
      iexact HO
    iintro %_ ⟨Hp, HO⟩
    iapply (run_pure .rfl)
    isplitr [Hp]
    · isplitr; · iexact Hc
      isplitl [Ht]; · iexact Ht
      iexact HO
    iexact Hp
  · iapply (run_neg (φ := k1_cond5 c (T.td (ix2 1 x)) = 1#1) (fun h => hcm ((came_iff T 1 x hlt).mp h)))
    iapply (run_pure .rfl)
    isplitr [Hp]
    · isplitr; · iexact Hc
      isplitl [Ht]; · iexact Ht
      iexact HO
    iapply (pend_skip (duts_rx' _ _ _ hcm)); iexact Hp

theorem t4_run {D : CellTallies nD τ sig Unit} (hD : Above 4 D) (v2 a1 a2 a3 : BitVec 32) (hw : k1_chk8 (cw T 1)) :
    iprop((ctx P κ ∗ tabs T ∗ owing c D) ∗ bigSep Finset.univ (fun x : Fin 102 => pend P c (.rx (e 1 x))))
      ⊢ run c (Scf.Loop.for (k1_t4_loop (cw T 1)) (k1_t4_ok (cw T 1) hw) () (k1_t4_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c v2 (cw T 1) hw a1 a2 a3))
        (fun _ => iprop((ctx P κ ∗ tabs T ∗ owing c D) ∗ bigSep Finset.univ (fun x : Fin 102 => done P c (.rx (e 1 x))))) :=
  loop_run (k1_t4_loop (cw T 1)) (k1_t4_ok (cw T 1) hw) (T.cnt 1) (cnt_trips T 1) (T.hcnt 1) _ _ _ (fun _ => iprop(ctx P κ ∗ tabs T ∗ owing c D))
    (fun t x hx => t4_trip T hD v2 a1 a2 a3 hw t x hx)
    (fun x hx => pend_skip (duts_rx' _ _ _ (not_came T 1 x hx)))

theorem t12_trip {D : CellTallies nD τ sig Unit} (hD : Above 0 D) (v2 : BitVec 32) (v174 : FVec F S102x1x256 .f32) (hw : k1_chk37 (cw T 0)) (t : Fin (k1_t12_loop (cw T 0)).trips) (x : Fin 102) (hx : x.val = t.val) :
    iprop((ctx P κ ∗ tabs T ∗ owing c D) ∗ pend P c (.sr (e 0 x)))
      ⊢ run c (k1_t12_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c v2 v174 (cw T 0) hw t ()) (fun _ => iprop((ctx P κ ∗ tabs T ∗ owing c D) ∗ done P c (.sr (e 0 x)))) := by
  have hlt : x.val < T.cnt 0 := by
    rw [hx]; exact lt_of_lt_of_eq t.isLt (cnt_trips T 0)
  have od : k1_off69 (cw T 0) t = ![((0 : Fin 2)).val, x.val] := iv_off2 hx (by have := x.isLt; omega)
  have os : k1_off70 (cw T 0) t = ![(e 0 x).val] := iva_off1 (k := 0) rfl hx
  have orow : k1_off71 (cw T 0) t = ![(e 0 x).val, 0, 0] := iva_off3 (k := 0) rfl hx
  unfold k1_t12_body
  iintro ⟨⟨#Hc, Ht, HO⟩, Hp⟩
  iapply (bind_step (td_step T 0 x od)) $$ Ht
  iintro %v ⟨%hv, Ht⟩
  subst hv
  have hchk : k1_chk38 c (cw T 0) t (T.td (ix2 0 x)) :=
    ⟨fun _ => one_inb os (e 0 x).isLt, fun _ => row_inb orow (e 0 x).isLt⟩
  iapply (assume_bind hchk)
  by_cases hcm : P.R.came c (e 0 x)
  · iapply (run_pos (φ := k1_cond17 c (T.td (ix2 0 x)) = 1#1) ((came_iff T 0 x hlt).mpr hcm))
    iapply (bind_step (pend_wait (P := P) (κ := κ) (c := c) (.sr (e 0 x)) (duts_sr _ _ _ hcm) hD (sr_sem (e 0 x) os _) rfl)) $$ [Hp HO]
    · isplitr; · iexact Hc
      isplitl [Hp]; · iexact Hp
      iexact HO
    iintro %_ ⟨Hp, HO⟩
    iapply (run_pure .rfl)
    isplitr [Hp]
    · isplitr; · iexact Hc
      isplitl [Ht]; · iexact Ht
      iexact HO
    iexact Hp
  · iapply (run_neg (φ := k1_cond17 c (T.td (ix2 0 x)) = 1#1) (fun h => hcm ((came_iff T 0 x hlt).mp h)))
    iapply (run_pure .rfl)
    isplitr [Hp]
    · isplitr; · iexact Hc
      isplitl [Ht]; · iexact Ht
      iexact HO
    iapply (pend_skip (duts_sr' _ _ _ hcm)); iexact Hp

theorem t12_run {D : CellTallies nD τ sig Unit} (hD : Above 0 D) (v2 : BitVec 32) (v174 : FVec F S102x1x256 .f32) (hw : k1_chk37 (cw T 0)) :
    iprop((ctx P κ ∗ tabs T ∗ owing c D) ∗ bigSep Finset.univ (fun x : Fin 102 => pend P c (.sr (e 0 x))))
      ⊢ run c (Scf.Loop.for (k1_t12_loop (cw T 0)) (k1_t12_ok (cw T 0) hw) () (k1_t12_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c v2 v174 (cw T 0) hw))
        (fun _ => iprop((ctx P κ ∗ tabs T ∗ owing c D) ∗ bigSep Finset.univ (fun x : Fin 102 => done P c (.sr (e 0 x))))) :=
  loop_run (k1_t12_loop (cw T 0)) (k1_t12_ok (cw T 0) hw) (T.cnt 0) (cnt_trips T 0) (T.hcnt 0) _ _ _ (fun _ => iprop(ctx P κ ∗ tabs T ∗ owing c D))
    (fun t x hx => t12_trip T hD v2 v174 hw t x hx)
    (fun x hx => pend_skip (duts_sr' _ _ _ (not_came T 0 x hx)))

theorem t14_trip {D : CellTallies nD τ sig Unit} (hD : Above 0 D)  (hw : k1_chk40 (cw T 1)) (t : Fin (k1_t14_loop (cw T 1)).trips) (x : Fin 102) (hx : x.val = t.val) :
    iprop((ctx P κ ∗ tabs T ∗ owing c D) ∗ pend P c (.sr (e 1 x)))
      ⊢ run c (k1_t14_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (cw T 1) hw t ()) (fun _ => iprop((ctx P κ ∗ tabs T ∗ owing c D) ∗ done P c (.sr (e 1 x)))) := by
  have hlt : x.val < T.cnt 1 := by
    rw [hx]; exact lt_of_lt_of_eq t.isLt (cnt_trips T 1)
  have od : k1_off75 (cw T 1) t = ![((1 : Fin 2)).val, x.val] := iv_off2 hx (by have := x.isLt; omega)
  have os : k1_off76 (cw T 1) t = ![(e 1 x).val] := iva_off1 (k := 1) rfl hx
  have orow : k1_off77 (cw T 1) t = ![(e 1 x).val, 0, 0] := iva_off3 (k := 1) rfl hx
  unfold k1_t14_body
  iintro ⟨⟨#Hc, Ht, HO⟩, Hp⟩
  iapply (bind_step (td_step T 1 x od)) $$ Ht
  iintro %v ⟨%hv, Ht⟩
  subst hv
  have hchk : k1_chk41 c (cw T 1) t (T.td (ix2 1 x)) :=
    ⟨fun _ => one_inb os (e 1 x).isLt, fun _ => row_inb orow (e 1 x).isLt⟩
  iapply (assume_bind hchk)
  by_cases hcm : P.R.came c (e 1 x)
  · iapply (run_pos (φ := k1_cond19 c (T.td (ix2 1 x)) = 1#1) ((came_iff T 1 x hlt).mpr hcm))
    iapply (bind_step (pend_wait (P := P) (κ := κ) (c := c) (.sr (e 1 x)) (duts_sr _ _ _ hcm) hD (sr_sem (e 1 x) os _) rfl)) $$ [Hp HO]
    · isplitr; · iexact Hc
      isplitl [Hp]; · iexact Hp
      iexact HO
    iintro %_ ⟨Hp, HO⟩
    iapply (run_pure .rfl)
    isplitr [Hp]
    · isplitr; · iexact Hc
      isplitl [Ht]; · iexact Ht
      iexact HO
    iexact Hp
  · iapply (run_neg (φ := k1_cond19 c (T.td (ix2 1 x)) = 1#1) (fun h => hcm ((came_iff T 1 x hlt).mp h)))
    iapply (run_pure .rfl)
    isplitr [Hp]
    · isplitr; · iexact Hc
      isplitl [Ht]; · iexact Ht
      iexact HO
    iapply (pend_skip (duts_sr' _ _ _ hcm)); iexact Hp

theorem t14_run {D : CellTallies nD τ sig Unit} (hD : Above 0 D)  (hw : k1_chk40 (cw T 1)) :
    iprop((ctx P κ ∗ tabs T ∗ owing c D) ∗ bigSep Finset.univ (fun x : Fin 102 => pend P c (.sr (e 1 x))))
      ⊢ run c (Scf.Loop.for (k1_t14_loop (cw T 1)) (k1_t14_ok (cw T 1) hw) () (k1_t14_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (cw T 1) hw))
        (fun _ => iprop((ctx P κ ∗ tabs T ∗ owing c D) ∗ bigSep Finset.univ (fun x : Fin 102 => done P c (.sr (e 1 x))))) :=
  loop_run (k1_t14_loop (cw T 1)) (k1_t14_ok (cw T 1) hw) (T.cnt 1) (cnt_trips T 1) (T.hcnt 1) _ _ _ (fun _ => iprop(ctx P κ ∗ tabs T ∗ owing c D))
    (fun t x hx => t14_trip T hD  hw t x hx)
    (fun x hx => pend_skip (duts_sr' _ _ _ (not_came T 1 x hx)))

theorem t10_trips : k1_t10_loop.trips = 256 := by decide +kernel
theorem t10_trip {D : CellTallies nD τ sig Unit} (hD : Above 5 D) (v174 : FVec F S102x1x256 .f32) (t : Fin k1_t10_loop.trips) (x : Fin 256) (hx : x.val = t.val) :
    iprop((ctx P κ ∗ tabs T ∗ owing c D) ∗ pend P c (.rr x))
      ⊢ run c (k1_t10_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (Scalar.remsi (Scalar.divsi (Dev.word c) 1#32) 32#32) v174 t ()) (fun _ => iprop((ctx P κ ∗ tabs T ∗ owing c D) ∗ done P c (.rr x))) := by
  have ok : k1_off63 t = ![x.val] := iv_off1' hx x.isLt
  have os : k1_off64 t = ![x.val] := iv_off1' hx x.isLt
  unfold k1_t10_body
  iintro ⟨⟨#Hc, Ht, HO⟩, Hp⟩
  iapply (bind_step (keep_step T x ok)) $$ Ht
  iintro %v ⟨%hv, Ht⟩
  subst hv
  iapply (bind_step (dst_step T x ok)) $$ Ht
  iintro %v ⟨%hv, Ht⟩
  subst hv
  by_cases hcm : P.R.away c x
  · iapply (run_ipos ((away_iff T x).mpr hcm))
    iapply (bind_step (pend_wait (P := P) (κ := κ) (c := c) (.rr x) (duts_rr _ _ _ hcm) hD (rr_sem x os _) rfl)) $$ [Hp HO]
    · isplitr; · iexact Hc
      isplitl [Hp]; · iexact Hp
      iexact HO
    iintro %_ ⟨Hp, HO⟩
    iapply (run_pure .rfl)
    isplitr [Hp]
    · isplitr; · iexact Hc
      isplitl [Ht]; · iexact Ht
      iexact HO
    iexact Hp
  · iapply (run_ineg (fun h => hcm ((away_iff T x).mp h)))
    iapply (run_pure .rfl)
    isplitr [Hp]
    · isplitr; · iexact Hc
      isplitl [Ht]; · iexact Ht
      iexact HO
    iapply (pend_skip (duts_rr' _ _ _ hcm)); iexact Hp
theorem t10_run {D : CellTallies nD τ sig Unit} (hD : Above 5 D) (v174 : FVec F S102x1x256 .f32) :
    iprop((ctx P κ ∗ tabs T ∗ owing c D) ∗ bigSep Finset.univ (fun x : Fin 256 => pend P c (.rr x)))
      ⊢ run c (Scf.Loop.for k1_t10_loop k1_t10_ok () (k1_t10_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (Scalar.remsi (Scalar.divsi (Dev.word c) 1#32) 32#32) v174))
        (fun _ => iprop((ctx P κ ∗ tabs T ∗ owing c D) ∗ bigSep Finset.univ (fun x : Fin 256 => done P c (.rr x)))) :=
  loop_run k1_t10_loop k1_t10_ok 256 t10_trips (Nat.le_refl _) _ _ _ (fun _ => iprop(ctx P κ ∗ tabs T ∗ owing c D))
    (fun t x hx => t10_trip T hD v174 t x hx)
    (fun x hx => absurd x.isLt (by omega))

theorem t11_trips : k1_t11_loop.trips = 256 := by decide +kernel
theorem t11_trip {D : CellTallies nD τ sig Unit} (hD : Above 0 D) (v174 : FVec F S102x1x256 .f32) (t : Fin k1_t11_loop.trips) (x : Fin 256) (hx : x.val = t.val) :
    iprop((ctx P κ ∗ tabs T ∗ owing c D) ∗ pend P c (.sx x))
      ⊢ run c (k1_t11_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (Scalar.remsi (Scalar.divsi (Dev.word c) 1#32) 32#32) v174 t ()) (fun _ => iprop((ctx P κ ∗ tabs T ∗ owing c D) ∗ done P c (.sx x))) := by
  have ok : k1_off66 t = ![x.val] := iv_off1' hx x.isLt
  have os : k1_off67 t = ![x.val] := iv_off1' hx x.isLt
  unfold k1_t11_body
  iintro ⟨⟨#Hc, Ht, HO⟩, Hp⟩
  iapply (bind_step (keep_step T x ok)) $$ Ht
  iintro %v ⟨%hv, Ht⟩
  subst hv
  iapply (bind_step (dst_step T x ok)) $$ Ht
  iintro %v ⟨%hv, Ht⟩
  subst hv
  by_cases hcm : P.R.away c x
  · iapply (run_ipos ((away_iff T x).mpr hcm))
    iapply (bind_step (pend_wait (P := P) (κ := κ) (c := c) (.sx x) (duts_sx _ _ _ hcm) hD (sx_sem x os _) rfl)) $$ [Hp HO]
    · isplitr; · iexact Hc
      isplitl [Hp]; · iexact Hp
      iexact HO
    iintro %_ ⟨Hp, HO⟩
    iapply (run_pure .rfl)
    isplitr [Hp]
    · isplitr; · iexact Hc
      isplitl [Ht]; · iexact Ht
      iexact HO
    iexact Hp
  · iapply (run_ineg (fun h => hcm ((away_iff T x).mp h)))
    iapply (run_pure .rfl)
    isplitr [Hp]
    · isplitr; · iexact Hc
      isplitl [Ht]; · iexact Ht
      iexact HO
    iapply (pend_skip (duts_sx' _ _ _ hcm)); iexact Hp
theorem t11_run {D : CellTallies nD τ sig Unit} (hD : Above 0 D) (v174 : FVec F S102x1x256 .f32) :
    iprop((ctx P κ ∗ tabs T ∗ owing c D) ∗ bigSep Finset.univ (fun x : Fin 256 => pend P c (.sx x)))
      ⊢ run c (Scf.Loop.for k1_t11_loop k1_t11_ok () (k1_t11_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (Scalar.remsi (Scalar.divsi (Dev.word c) 1#32) 32#32) v174))
        (fun _ => iprop((ctx P κ ∗ tabs T ∗ owing c D) ∗ bigSep Finset.univ (fun x : Fin 256 => done P c (.sx x)))) :=
  loop_run k1_t11_loop k1_t11_ok 256 t11_trips (Nat.le_refl _) _ _ _ (fun _ => iprop(ctx P κ ∗ tabs T ∗ owing c D))
    (fun t x hx => t11_trip T hD v174 t x hx)
    (fun x hx => absurd x.isLt (by omega))

end Cert.MoE

end
-- ==== Proof.DispatchD.lean ====
/-
  Call 1: the rows sent and copied, one at a time.
-/
module

public import proofs.«01_k».proof.Proof.DispatchC

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable {P : Plan F} {κ : GSem nD τ sig → ℕ} {c : Dev nD}

/-- The cells this device completes or hands to its transfers are open. -/
def opn (c : Dev nD) : sProp 𝕄 :=
  iprop(bigSep Finset.univ (fun i : Fin 256 => reached ER (cell c (.sx i)) 0) ∗ bigSep Finset.univ (fun s : Fin 204 => reached ER (cell c (.sr s)) 0)
    ∗ bigSep Finset.univ (fun d : Dev nD => bigSep Finset.univ (fun s : Fin 204 => reached ER (cell d (.rx s)) 0))
    ∗ bigSep Finset.univ (fun d : Dev nD => bigSep Finset.univ (fun i : Fin 256 => reached ER (cell d (.rr i)) 0)))
instance opn_persistent (c : Dev nD) : BI.Persistent (opn c : sProp 𝕄) := by unfold opn; infer_instance

theorem pick_all {I : Type} [Fintype I] [DecidableEq I] (Φ : I → sProp 𝕄) (i : I) : bigSep Finset.univ Φ ⊢ Φ i :=
  BI.bigSep_elim (Finset.mem_univ i)
theorem opn_sx (i : Fin 256) : (opn c : sProp 𝕄) ⊢ reached ER (cell c (.sx i)) 0 := by
  unfold opn; iintro ⟨H, -⟩; iapply (pick_all (fun i : Fin 256 => (reached ER (cell c (.sx i)) 0 : sProp 𝕄)) i); iexact H
theorem opn_sr (s : Fin 204) : (opn c : sProp 𝕄) ⊢ reached ER (cell c (.sr s)) 0 := by
  unfold opn; iintro ⟨-, H, -⟩; iapply (pick_all (fun s : Fin 204 => (reached ER (cell c (.sr s)) 0 : sProp 𝕄)) s); iexact H
theorem opn_rx (d : Dev nD) (s : Fin 204) : (opn c : sProp 𝕄) ⊢ reached ER (cell d (.rx s)) 0 := by
  unfold opn; iintro ⟨-, -, H, -⟩
  ihave H := (pick_all (fun d : Dev nD => bigSep Finset.univ (fun s : Fin 204 => (reached ER (cell d (.rx s)) 0 : sProp 𝕄))) d) $$ H
  iapply (pick_all (fun s : Fin 204 => (reached ER (cell d (.rx s)) 0 : sProp 𝕄)) s); iexact H
theorem opn_rr (d : Dev nD) (i : Fin 256) : (opn c : sProp 𝕄) ⊢ reached ER (cell d (.rr i)) 0 := by
  unfold opn; iintro ⟨-, -, -, H⟩
  ihave H := (pick_all (fun d : Dev nD => bigSep Finset.univ (fun i : Fin 256 => (reached ER (cell d (.rr i)) 0 : sProp 𝕄))) d) $$ H
  iapply (pick_all (fun i : Fin 256 => (reached ER (cell d (.rr i)) 0 : sProp 𝕄)) i); iexact H

/-! ## A token's row sent -/

/-- The output before any result has come. -/
def zout : Out (F := F) := fun _ => FloatOps.ofBits .f32 0

theorem land_s (d : Dev nD) (i : Fin 256) (s : Fin 204) {offx offs : Fin 3 → ℕ} (hx : offx = ![i.val, 0, 0]) (hs : offs = ![s.val, 0, 0])
    {inbx hstx inbs hsts} (f : Stg (F := F)) (hsd : P.R.sd d s = c) (hsr : P.R.sr d s = i) :
    (((sSq offs inbs hsts).view.loc (d : Thread nD τ) ↦[(sSq offs inbs hsts).view.set]{fullShare}
        ((sSq offs inbs hsts).view.write (Elt F) f ((xSq offx inbx hstx).view.read (Elt F) (P.X c)) Finset.univ)) : sProp 𝕄)
      ⊢ sRow d s (P.stg d) := by
  unfold sRow
  rw [sSq_set offs s.val hs]
  refine Entails.of_eq (pointsTo_congr fun j hj => ?_)
  have h0 : (j 0) = s := Fin.ext (mem_rowOf.mp hj)
  have e : (xSq offx inbx hstx).view.emb (ix2 0 (j 2)) = ix3 i 0 (j 2) :=
    xSq_emb offx i.val hx inbx hstx (ix3 i 0 (j 2)) (mem_rowOf.mpr rfl)
  conv_lhs => rw [← sSq_emb offs s.val hs inbs hsts j hj]
  rw [View.write_emb_of_mem _ _ (Finset.mem_univ _)]
  show P.X c ((xSq offx inbx hstx).view.emb (ix2 0 (j 2))) = P.X (P.R.sd d (j 0)) (ix3 (P.R.sr d (j 0)) 0 (j 2))
  rw [e, h0, hsd, hsr]; rfl

/-- A token before its trip, -/
def Tb (P : Plan F) (c : Dev nD) (i : Fin 256) : sProp 𝕄 :=
  iprop(xRow c i (P.X c) ∗ oRow c i zout ∗ (if P.R.away c i then iprop((∃ f, sRow (P.R.dst c i) (P.R.slot c i) f)
      ∗ dutyTok ER (cell c (.sx i)) 0 0 ∗ dutyTok ER (cell (P.R.dst c i) (.rx (P.R.slot c i))) 0 0)
    else if P.R.kept c i = true then iprop(∃ f, sRow c (P.R.slot c i) f) else iprop(emp)))
/-- and after it. -/
def Ta (P : Plan F) (c : Dev nD) (i : Fin 256) : sProp 𝕄 :=
  if P.R.away c i then cred (tallyAt (cell c (.sx i)) () N1)
    else iprop(xRow c i (P.X c) ∗ oRow c i zout ∗ (if P.R.kept c i = true then sRow c (P.R.slot c i) (P.stg c) else iprop(emp)))
/-- What a token's transfer owes its destination. -/
def rxT (R : Routing) (c : Dev nD) (i : Fin 256) : CellTallies nD τ sig Unit :=
  if R.away c i then tallyAt (cell (R.dst c i) (.rx (R.slot c i))) () N1 else 0

theorem x_send {D : CellTallies nD τ sig Unit} (i : Fin 256) (ha : P.R.away c i) {offx offs : Fin 3 → ℕ} (hx : offx = ![i.val, 0, 0])
    (hs : offs = ![(P.R.slot c i).val, 0, 0]) {inbx hstx inbs hsts} {n : Dev nD} (hn : n = P.R.dst c i) {sS sR : SemLoc sig} (hS : sS = ssem (.sx i))
    (hR : sR = ssem (.rx (P.R.slot c i))) {hsc : (sSq offs inbs hsts).view.ref.isScScratch = false}
    {hsrc : (xSq offx inbx hstx).view.WordExact} {hdst : (sSq offs inbs hsts).view.WordExact}
    {hsem : DmaTarget.Typed .vmem sR (.remote (Dev.tc n : Thread nD τ) (sSq offs inbs hsts) sS hsc)} :
    iprop(ctx P κ ∗ opn c ∗ Tb P c i ∗ owing c (D + rxT P.R c i))
      ⊢ run c (Prog.lift (.enqueueDma (xSq offx inbx hstx) (.remote (Dev.tc n : Thread nD τ) (sSq offs inbs hsts) sS hsc) sR hsrc hdst hsem))
          (fun _ => iprop(Ta P c i ∗ owing c D)) := by
  subst hn hS hR
  obtain ⟨ht1, ht2, ht3⟩ := P.R.there c i ha.1
  have hO : D + rxT P.R c i = D + tallyAt (cell (P.R.dst c i) (.rx (P.R.slot c i))) () N1 := by unfold rxT; rw [if_pos ha]
  have hd₁ : (0 : Duty) ∈ (Rd P).duties (cell c (.sx i)) 0 := by rw [duties_cell, duts_sx _ _ _ ha]; exact Finset.mem_singleton_self _
  have hd₂ : (0 : Duty) ∈ (Rd P).duties (cell (P.R.dst c i) (.rx (P.R.slot c i))) 0 := by
    rw [duties_cell, duts_rx _ _ _ (P.R.away_came ha)]; exact Finset.mem_singleton_self _
  unfold Tb Ta owing run Prog.lift
  rw [if_pos ha, if_pos ha, hO]
  iintro ⟨#Hc, #Hop, ⟨Hx, Ho, ⟨%f, Hs⟩, Ht1, Ht2⟩, ⟨%W, HO⟩⟩
  iapply (Rounds.wp_send_pointsTo_with 𝒱₀ ER (Rd P) (c : Thread nD τ) none (c' := (P.R.dst c i : Thread nD τ))
      (src := xSq offx inbx hstx) (dst := sSq offs inbs hsts) (sS := ssem (.sx i)) (sem := ssem (.rx (P.R.slot c i))) (q := fullShare)
      (fs := P.X c) (fd := f) (F := iprop(oRow c i zout)) (κ₁ := κ (cell c (.sx i))) (κ₂ := κ (cell (P.R.dst c i) (.rx (P.R.slot c i)))) (r₁ := 0) (r₂ := 0) (d₁ := 0) (d₂ := 0)
      hd₁ hd₂ () () N1 rfl (amount_cell c (.sx i) 0 0) (amount_cell (P.R.dst c i) (.rx (P.R.slot c i)) 0 0)
      D rfl (W := W)
      (by rw [payload_cell]; exact Entails.of_eq (by rw [xSq_set offx i.val hx]; rfl))
      (by
        rw [payload_cell]
        show _ ⊢ iprop(sRow (P.R.dst c i) (P.R.slot c i) (P.stg (P.R.dst c i)) ∗ ∃ f, oRow (P.R.sd (P.R.dst c i) (P.R.slot c i)) (P.R.sr (P.R.dst c i) (P.R.slot c i)) f)
        rw [ht2, ht3]
        iintro ⟨H, Ho⟩
        isplitl [H]; · iapply (land_s (P.R.dst c i) i (P.R.slot c i) hx hs f ht2 ht3); iexact H
        iexists zout; iexact Ho)) $$ [Hx Ho Hs Ht1 Ht2 HO]
  · isplitr; · iapply (ctx_inv c (.sx i)); iexact Hc
    isplitr; · iapply (ctx_inv (P.R.dst c i) (.rx (P.R.slot c i))); iexact Hc
    isplitl [Hx]; · rw [xSq_set offx i.val hx]; iexact Hx
    isplitl [Hs Ho]
    · isplitl [Hs]; · rw [sSq_set offs (P.R.slot c i).val hs]; iexact Hs
      iexact Ho
    isplitl [HO]; · iexact HO
    isplitl [Ht1]; · iexact Ht1
    isplitr; · iapply (opn_sx (c := c) i); iexact Hop
    isplitl [Ht2]; · iexact Ht2
    iapply (opn_rx (c := c) (P.R.dst c i) (P.R.slot c i)); iexact Hop
  iintro ⟨Hc1, HO⟩
  rw [wp_ret]; imodintro
  isplitl [Hc1]; · iexact Hc1
  iexists W; iexact HO

/-! ## A result's row sent back -/

theorem land_o (d : Dev nD) (s : Fin 204) (i : Fin 256) {offr offo : Fin 3 → ℕ} (hr : offr = ![s.val, 0, 0]) (ho : offo = ![i.val, 0, 0])
    {inbr hstr inbo hsto} (f : Out (F := F)) (Y : Res (F := F)) (hY : P.ok d i (rrow Y s)) :
    (((oSq offo inbo hsto).view.loc (d : Thread nD τ) ↦[(oSq offo inbo hsto).view.set]{fullShare}
        ((oSq offo inbo hsto).view.write (Elt F) f ((rSq offr inbr hstr).view.read (Elt F) Y) Finset.univ)) : sProp 𝕄)
      ⊢ iprop(∃ f, ⌜P.ok d i (orow f i)⌝ ∗ oRow d i f) := by
  have e : orow ((oSq offo inbo hsto).view.write (Elt F) f ((rSq offr inbr hstr).view.read (Elt F) Y) Finset.univ) i = rrow Y s := by
    funext m
    have e1 : (rSq offr inbr hstr).view.emb (ix2 0 m) = ix3 s 0 m := rSq_emb offr s.val hr inbr hstr (ix3 s 0 m) (mem_rowOf.mpr rfl)
    have e2 : (oSq offo inbo hsto).view.emb (ix2 0 m) = ix3 i 0 m := oSq_emb offo i.val ho inbo hsto (ix3 i 0 m) (mem_rowOf.mpr rfl)
    show ((oSq offo inbo hsto).view.write (Elt F) f ((rSq offr inbr hstr).view.read (Elt F) Y) Finset.univ) (ix3 i 0 m) = Y (ix3 s 0 m)
    rw [← e2, View.write_emb_of_mem _ _ (Finset.mem_univ _)]
    exact congrArg Y e1
  rw [oSq_set offo i.val ho]
  iintro H
  iexists ((oSq offo inbo hsto).view.write (Elt F) f ((rSq offr inbr hstr).view.read (Elt F) Y) Finset.univ)
  isplitr; · ipureintro; rw [e]; exact hY
  iexact H

/-- A slot before its result goes back, -/
def Rb (P : Plan F) (c : Dev nD) (Y : Res (F := F)) (s : Fin 204) : sProp 𝕄 :=
  iprop(rRow c s Y ∗ (if P.R.came c s then iprop((∃ f, oRow (P.R.sd c s) (P.R.sr c s) f)
      ∗ dutyTok ER (cell c (.sr s)) 0 0 ∗ dutyTok ER (cell (P.R.sd c s) (.rr (P.R.sr c s))) 0 0)
    else if P.R.fill c s = true then iprop(∃ f, oRow c (P.R.sr c s) f) else iprop(emp)))
/-- and after. -/
def Ra (P : Plan F) (c : Dev nD) (Y : Res (F := F)) (s : Fin 204) : sProp 𝕄 :=
  if P.R.came c s then cred (tallyAt (cell c (.sr s)) () N2)
    else iprop(rRow c s Y ∗ (if P.R.fill c s = true then iprop(∃ f, ⌜P.ok c (P.R.sr c s) (orow f (P.R.sr c s))⌝ ∗ oRow c (P.R.sr c s) f) else iprop(emp)))
def rrT (R : Routing) (c : Dev nD) (s : Fin 204) : CellTallies nD τ sig Unit :=
  if R.came c s then tallyAt (cell (R.sd c s) (.rr (R.sr c s))) () N2 else 0

theorem o_send {D : CellTallies nD τ sig Unit} {Y : Res (F := F)} (s : Fin 204) (ha : P.R.came c s) (hY : P.ok (P.R.sd c s) (P.R.sr c s) (rrow Y s))
    {offr offo : Fin 3 → ℕ} (hr : offr = ![s.val, 0, 0])
    (ho : offo = ![(P.R.sr c s).val, 0, 0]) {inbr hstr inbo hsto} {n : Dev nD} (hn : n = P.R.sd c s) {sS sR : SemLoc sig} (hS : sS = ssem (.sr s))
    (hR : sR = ssem (.rr (P.R.sr c s))) {hsc : (oSq offo inbo hsto).view.ref.isScScratch = false}
    {hsrc : (rSq offr inbr hstr).view.WordExact} {hdst : (oSq offo inbo hsto).view.WordExact}
    {hsem : DmaTarget.Typed .vmem sR (.remote (Dev.tc n : Thread nD τ) (oSq offo inbo hsto) sS hsc)} :
    iprop(ctx P κ ∗ opn c ∗ Rb P c Y s ∗ owing c (D + rrT P.R c s))
      ⊢ run c (Prog.lift (.enqueueDma (rSq offr inbr hstr) (.remote (Dev.tc n : Thread nD τ) (oSq offo inbo hsto) sS hsc) sR hsrc hdst hsem))
          (fun _ => iprop(Ra P c Y s ∗ owing c D)) := by
  subst hn hS hR
  have hO : D + rrT P.R c s = D + tallyAt (cell (P.R.sd c s) (.rr (P.R.sr c s))) () N2 := by unfold rrT; rw [if_pos ha]
  have hd₁ : (0 : Duty) ∈ (Rd P).duties (cell c (.sr s)) 0 := by rw [duties_cell, duts_sr _ _ _ ha]; exact Finset.mem_singleton_self _
  have hd₂ : (0 : Duty) ∈ (Rd P).duties (cell (P.R.sd c s) (.rr (P.R.sr c s))) 0 := by
    rw [duties_cell, duts_rr _ _ _ (P.R.came_away ha)]; exact Finset.mem_singleton_self _
  unfold Rb Ra owing run Prog.lift
  rw [if_pos ha, if_pos ha, hO]
  iintro ⟨#Hc, #Hop, ⟨Hx, ⟨%f, Hs⟩, Ht1, Ht2⟩, ⟨%W, HO⟩⟩
  iapply (Rounds.wp_send_pointsTo 𝒱₀ ER (Rd P) (c : Thread nD τ) none (c' := (P.R.sd c s : Thread nD τ))
      (src := rSq offr inbr hstr) (dst := oSq offo inbo hsto) (sS := ssem (.sr s)) (sem := ssem (.rr (P.R.sr c s))) (q := fullShare)
      (fs := Y) (fd := f) (κ₁ := κ (cell c (.sr s))) (κ₂ := κ (cell (P.R.sd c s) (.rr (P.R.sr c s)))) (r₁ := 0) (r₂ := 0) (d₁ := 0) (d₂ := 0)
      hd₁ hd₂ () () N2 rfl (amount_cell c (.sr s) 0 0) (amount_cell (P.R.sd c s) (.rr (P.R.sr c s)) 0 0)
      D rfl (W := W)
      (by
        rw [payload_cell]
        show _ ⊢ iprop(∃ f, rRow c s f)
        rw [rSq_set offr s.val hr]
        iintro H
        iexists Y; iexact H)
      (by rw [payload_cell]; exact land_o (P.R.sd c s) s (P.R.sr c s) hr ho f Y hY)) $$ [Hx Hs Ht1 Ht2 HO]
  · isplitr; · iapply (ctx_inv c (.sr s)); iexact Hc
    isplitr; · iapply (ctx_inv (P.R.sd c s) (.rr (P.R.sr c s))); iexact Hc
    isplitl [Hx]; · rw [rSq_set offr s.val hr]; iexact Hx
    isplitl [Hs]; · rw [oSq_set offo (P.R.sr c s).val ho]; iexact Hs
    isplitl [HO]; · iexact HO
    isplitl [Ht1]; · iexact Ht1
    isplitr; · iapply (opn_sr (c := c) s); iexact Hop
    isplitl [Ht2]; · iexact Ht2
    iapply (opn_rr (c := c) (P.R.sd c s) (P.R.sr c s)); iexact Hop
  iintro ⟨Hc1, HO⟩
  rw [wp_ret]; imodintro
  isplitl [Hc1]; · iexact Hc1
  iexists W; iexact HO

/-! ## Rows copied on the device itself -/

/-- A row read through both reshapes of the printed copy is the row. -/
theorem round_trip {e : EltTy} {M : ℕ} (v : Vec F ⟨3, ![1, 1, M]⟩ e) (h1 h2) :
    shapeCast ⟨3, ![1, 1, M]⟩ (shapeCast ⟨2, ![1, M]⟩ v h1) h2 = v := by
  funext i
  obtain ⟨m, rfl⟩ : ∃ m : Fin M, i = ix3 0 0 m :=
    ⟨i 2, row_idx (N := 1) (by have a0 : (i 0).val < 1 := (i 0).isLt; show (i 0).val = 0; omega) rfl⟩
  rw [shapeCast_apply _ h2 (ix3 0 0 m) (ix2 0 m) (by rw [Shape.rowMajor_val_two, Shape.rowMajor_val_three]; simp),
    shapeCast_apply _ h1 _ (ix3 0 0 m) (by rw [Shape.rowMajor_val_two, Shape.rowMajor_val_three]; simp)]

end Cert.MoE

end
-- ==== Proof.DispatchE.lean ====
/-
  Call 1: the loops that send the tokens and send their results back.
-/
module

public import proofs.«01_k».proof.Proof.DispatchD

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable {P : Plan F} {κ : GSem nD τ sig → ℕ} {c : Dev nD} (T : Tabs (F := F) P.R c)

theorem pay2_eq (v : Vec F S1x1x128 .bf16) : k1_pay2 v = v := round_trip (M := 128) v _ _
theorem pay6_eq (v : Vec F S1x1x256 .f32) : k1_pay6 v = v := round_trip (M := 256) v _ _
theorem pay8_eq (v : Vec F S1x1x256 .f32) : k1_pay8 v = v := round_trip (M := 256) v _ _

theorem word1 {w : BitVec 32} {k : ℕ} (h : w = BitVec.ofNat 32 k) (hk : k < 1000) : (![w.toNat] : Fin 1 → ℕ) = ![k] := by subst h; rw [nat_word hk]
theorem word3 {w : BitVec 32} {k : ℕ} (h : w = BitVec.ofNat 32 k) (hk : k < 1000) : (![w.toNat, 0, 0] : Fin 3 → ℕ) = ![k, 0, 0] := by subst h; rw [nat_word hk]
theorem word3' {w : BitVec 32} {k : ℕ} (h : w = BitVec.ofNat 32 k) (hk : k < 1000) : (![(Scalar.indexCast w).toNat, 0, 0] : Fin 3 → ℕ) = ![k, 0, 0] := word3 h hk
theorem dev_of_word {w : BitVec 32} {d : Dev nD} (h : w = BitVec.ofNat 32 d.val) : k1_dev32 w = d.val := by
  subst h
  show (Scalar.addi 0#32 (Scalar.muli (BitVec.ofNat 32 d.val) 1#32)).toNat = d.val
  have e : Scalar.addi 0#32 (Scalar.muli (BitVec.ofNat 32 d.val) 1#32) = BitVec.ofNat 32 d.val := by
    show 0#32 + BitVec.ofNat 32 d.val * 1#32 = _
    rw [BitVec.mul_one, BitVec.zero_add]
  rw [e, nat_word (by have h : d.val < 32 := d.isLt; omega)]

/-- A token's own row put in its slot. -/
theorem put_s (i : Fin 256) (s : Fin 204) {offx offs : Fin 3 → ℕ} (hx : offx = ![i.val, 0, 0]) (hs : offs = ![s.val, 0, 0])
    {inbx inbs} (f : Stg (F := F)) (hsd : P.R.sd c s = c) (hsr : P.R.sr c s = i) :
    ((((Memref.whole cc1_scratch0).access (Rect.unit (s := S204x1x128) offs S1x1x128.size inbs) : View sig .tc _ _ _).loc (c : Thread nD τ)
        ↦[rowOf s.val]{fullShare} (((Memref.whole cc1_scratch0).access (Rect.unit (s := S204x1x128) offs S1x1x128.size inbs) : View sig .tc _ _ _).write (Elt F) f
          (k1_pay2 (((Memref.whole cc1_stg6_0).access (Rect.unit (s := S256x1x128) offx S1x1x128.size inbx) : View sig .tc _ _ _).read (Elt F) (P.X c))) Finset.univ)) : sProp 𝕄)
      ⊢ sRow c s (P.stg c) := by
  rw [pay2_eq]
  unfold sRow
  refine Entails.of_eq (pointsTo_congr fun j hj => ?_)
  have h0 : (j 0) = s := Fin.ext (mem_rowOf.mp hj)
  have e := x_emb offx i.val hx inbx (ix3 i 0 (j 2)) (mem_rowOf.mpr rfl)
  conv_lhs => rw [← s_emb offs s.val hs inbs j hj]
  rw [View.write_emb_of_mem _ _ (Finset.mem_univ _)]
  show P.X c (((Memref.whole cc1_stg6_0).access (Rect.unit (s := S256x1x128) offx S1x1x128.size inbx) : View sig .tc _ _ _).emb (ix3 0 0 (j 2))) = P.X (P.R.sd c (j 0)) (ix3 (P.R.sr c (j 0)) 0 (j 2))
  rw [h0, hsd, hsr]
  exact congrArg (P.X c) e

/-- A result's own row put in its token's place. -/
theorem put_o (s : Fin 204) (i : Fin 256) {offr offo : Fin 3 → ℕ} (hr : offr = ![s.val, 0, 0]) (ho : offo = ![i.val, 0, 0])
    {inbr inbo} (f : Out (F := F)) (Y : Res (F := F)) (hY : P.ok c i (rrow Y s)) :
    ((((Memref.whole cc1_stg8_0).access (Rect.unit (s := S256x1x256) offo S1x1x256.size inbo) : View sig .tc _ _ _).loc (c : Thread nD τ)
        ↦[rowOf i.val]{fullShare} (((Memref.whole cc1_stg8_0).access (Rect.unit (s := S256x1x256) offo S1x1x256.size inbo) : View sig .tc _ _ _).write (Elt F) f
          (((Memref.whole cc1_scratch1).access (Rect.unit (s := S204x1x256) offr S1x1x256.size inbr) : View sig .tc _ _ _).read (Elt F) Y) Finset.univ)) : sProp 𝕄)
      ⊢ iprop(∃ f, ⌜P.ok c i (orow f i)⌝ ∗ oRow c i f) := by
  have e : orow (((Memref.whole cc1_stg8_0).access (Rect.unit (s := S256x1x256) offo S1x1x256.size inbo) : View sig .tc _ _ _).write (Elt F) f
          (((Memref.whole cc1_scratch1).access (Rect.unit (s := S204x1x256) offr S1x1x256.size inbr) : View sig .tc _ _ _).read (Elt F) Y) Finset.univ) i = rrow Y s := by
    funext m
    have e1 := r_emb offr s.val hr inbr (ix3 s 0 m) (mem_rowOf.mpr rfl)
    have e2 := o_emb offo i.val ho inbo (ix3 i 0 m) (mem_rowOf.mpr rfl)
    show (((Memref.whole cc1_stg8_0).access (Rect.unit (s := S256x1x256) offo S1x1x256.size inbo) : View sig .tc _ _ _).write (Elt F) f
          (((Memref.whole cc1_scratch1).access (Rect.unit (s := S204x1x256) offr S1x1x256.size inbr) : View sig .tc _ _ _).read (Elt F) Y) Finset.univ) (ix3 i 0 m) = Y (ix3 s 0 m)
    rw [← e2, View.write_emb_of_mem _ _ (Finset.mem_univ _)]
    exact congrArg Y e1
  iintro H
  iexists (((Memref.whole cc1_stg8_0).access (Rect.unit (s := S256x1x256) offo S1x1x256.size inbo) : View sig .tc _ _ _).write (Elt F) f
          (((Memref.whole cc1_scratch1).access (Rect.unit (s := S204x1x256) offr S1x1x256.size inbr) : View sig .tc _ _ _).read (Elt F) Y) Finset.univ)
  isplitr; · ipureintro; rw [e]; exact hY
  iexact H

abbrev me (c : Dev nD) : BitVec 32 := Scalar.remsi (Scalar.divsi (Dev.word c) 1#32) 32#32

theorem t1_trip {D : CellTallies nD τ sig Unit} (v3 : Sems sig S_) (v120 w : BitVec 32) (t : Fin k1_t1_loop.trips) (x : Fin 256) (hx : x.val = t.val) :
    iprop((ctx P κ ∗ opn c ∗ tabs T ∗ owing c (D + ∑ i ∈ finFrom 256 t.val, rxT P.R c i)) ∗ Tb P c x)
      ⊢ run c (k1_t1_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (me c) v3 v120 w t ())
          (fun _ => iprop((ctx P κ ∗ opn c ∗ tabs T ∗ owing c (D + ∑ i ∈ finFrom 256 (t.val + 1), rxT P.R c i)) ∗ Ta P c x)) := by
  have hD : D + ∑ i ∈ finFrom 256 t.val, rxT P.R c i = (D + ∑ i ∈ finFrom 256 (t.val + 1), rxT P.R c i) + rxT P.R c x := by
    rw [← hx]; exact add_sum_finFrom_succ D x.isLt _
  rw [hD]
  generalize D + ∑ i ∈ finFrom 256 (t.val + 1), rxT P.R c i = D'
  have o1 : k1_off1 t = ![x.val] := iv_off1' hx x.isLt
  have o2 : k1_off2 t = ![x.val] := iv_off1' hx x.isLt
  have o3 : k1_off3 t = ![x.val] := iv_off1' hx x.isLt
  have o6 : k1_off6 t = ![x.val, 0, 0] := iv_off3 hx x.isLt
  have o7 : k1_off7 t = ![x.val] := iv_off1' hx x.isLt
  have o8 : k1_off8 t = ![x.val, 0, 0] := iv_off3 hx x.isLt
  have o9 : k1_off9 t = ![x.val] := iv_off1' hx x.isLt
  unfold k1_t1_body
  iintro ⟨⟨#Hc, #Hop, Ht, HO⟩, Hb⟩
  iapply (bind_step (keep_step T x o1)) $$ Ht
  iintro %v ⟨%hv, Ht⟩
  subst hv
  iapply (bind_step (dst_step T x o1)) $$ Ht
  iintro %v ⟨%hv, Ht⟩
  subst hv
  by_cases haw : P.R.away c x
  · have hsl : (T.slot (ix1 x) : BitVec 32) = BitVec.ofNat 32 (P.R.slot c x).val := T.hslot x haw.1
    have hds : (T.dst (ix1 x) : BitVec 32) = BitVec.ofNat 32 (P.R.dst c x).val := T.hdst x haw.1
    have hlt : (P.R.slot c x).val < 1000 := by have := (P.R.slot c x).isLt; omega
    have o5 : k1_off5 (T.slot (ix1 x)) = ![(P.R.slot c x).val, 0, 0] := word3 hsl hlt
    have o4 : k1_off4 (T.slot (ix1 x)) = ![(P.R.slot c x).val] := word1 hsl hlt
    have hc2 : k1_chk2 c (T.keep (ix1 x)) (T.dst (ix1 x)) (T.slot (ix1 x)) :=
      ⟨fun _ => row_inb o5 (P.R.slot c x).isLt, fun _ inb => row_words o5 inb⟩
    have hc1 : k1_chk1 c (T.keep (ix1 x)) (T.dst (ix1 x)) (T.slot (ix1 x)) := fun _ => one_inb o4 (P.R.slot c x).isLt
    have hc3 : k1_chk3 c (T.keep (ix1 x)) (T.dst (ix1 x)) (T.dst (ix1 x)) := fun _ => (dev_of_word hds).trans_lt (P.R.dst c x).isLt
    iapply (run_pos (φ := k1_cond1 c (T.keep (ix1 x)) (T.dst (ix1 x)) = 1#1) ((away_iff T x).mpr haw))
    iapply (bind_step (slot_step T x o2)) $$ Ht
    iintro %v ⟨%hv, Ht⟩
    subst hv
    iapply (assume_bind hc2)
    iapply (bind_step (slot_step T x o2)) $$ Ht
    iintro %v ⟨%hv, Ht⟩
    subst hv
    iapply (assume_bind hc1)
    iapply (bind_step (dst_step T x o2)) $$ Ht
    iintro %v ⟨%hv, Ht⟩
    subst hv
    iapply (assume_bind hc3)
    iapply (bind_step (x_send (P := P) (κ := κ) (c := c) (D := D') x haw o6 o5 (Fin.ext (dev_of_word hds)) (sx_sem x o3 _) (rx_sem (P.R.slot c x) o4 _))) $$ [Hb HO]
    · isplitr; · iexact Hc
      isplitr; · iexact Hop
      isplitl [Hb]; · iexact Hb
      iexact HO
    iintro %_ ⟨Ha, HO⟩
    iapply (bind_step (keep_step T x o7)) $$ Ht
    iintro %v ⟨%hv, Ht⟩
    subst hv
    iapply (bind_step (dst_step T x o7)) $$ Ht
    iintro %v ⟨%hv, Ht⟩
    subst hv
    iapply (run_neg (φ := k1_cond2 c (T.keep (ix1 x)) (T.dst (ix1 x)) = 1#1) (fun h => haw.2 ((here_iff T x).mp h).2))
    iapply (run_pure .rfl)
    isplitr [Ha]
    · isplitr; · iexact Hc
      isplitr; · iexact Hop
      isplitl [Ht]; · iexact Ht
      iexact HO
    iexact Ha
  · iapply (run_neg (φ := k1_cond1 c (T.keep (ix1 x)) (T.dst (ix1 x)) = 1#1) (fun h => haw ((away_iff T x).mp h)))
    iapply (bind_step (keep_step T x o7)) $$ Ht
    iintro %v ⟨%hv, Ht⟩
    subst hv
    iapply (bind_step (dst_step T x o7)) $$ Ht
    iintro %v ⟨%hv, Ht⟩
    subst hv
    have hz : D' + rxT P.R c x = D' := by unfold rxT; rw [if_neg haw, add_zero]
    rw [hz]
    by_cases hk : P.R.kept c x = true
    · have hd : P.R.dst c x = c := by by_contra h; exact haw ⟨hk, h⟩
      have hsl : (T.slot (ix1 x) : BitVec 32) = BitVec.ofNat 32 (P.R.slot c x).val := T.hslot x hk
      have hlt : (P.R.slot c x).val < 1000 := by have := (P.R.slot c x).isLt; omega
      have o10 : k1_off10 (T.slot (ix1 x)) = ![(P.R.slot c x).val, 0, 0] := word3' hsl hlt
      have hc4 : k1_chk4 c (T.keep (ix1 x)) (T.dst (ix1 x)) (T.slot (ix1 x)) :=
        ⟨fun _ => row_inb o10 (P.R.slot c x).isLt, fun _ inb => row_packed o10 inb⟩
      obtain ⟨-, hsd, hsr⟩ := P.R.there c x hk
      rw [hd] at hsd hsr
      iapply (run_pos (φ := k1_cond2 c (T.keep (ix1 x)) (T.dst (ix1 x)) = 1#1) ((here_iff T x).mpr ⟨hk, hd⟩))
      unfold Tb Ta
      rw [if_neg haw, if_neg haw, if_pos hk, if_pos hk]
      icases Hb with ⟨Hx, Ho, ⟨%f, Hs⟩⟩
      iapply (bind_step (load_step (m := Memref.whole cc1_stg6_0) (r := Rect.unit (s := S256x1x128) (k1_off8 t) S1x1x128.size (k1_off8_inb t))
        (S := rowOf x.val) (q := fullShare) (f := P.X c) (R := iprop(emp)) (x_set _ _ o8 _).subset)) $$ [Hx]
      · isplitl [Hx]; · iexact Hx
        iempintro
      iintro %v ⟨%hv, Hx, -⟩
      subst hv
      iapply (bind_step (slot_step T x o9)) $$ Ht
      iintro %v ⟨%hv, Ht⟩
      subst hv
      iapply (assume_bind hc4)
      iapply (bind_step (load_step (m := Memref.whole cc1_scratch0) (r := Rect.unit (s := S204x1x128) (k1_off10 (T.slot (ix1 x))) S1x1x128.size (k1_off10_inb c _ _ _ hc4 ((here_iff T x).mpr ⟨hk, hd⟩)))
        (S := rowOf (P.R.slot c x).val) (q := fullShare) (f := f) (R := iprop(emp)) (s_set _ _ o10 _).subset)) $$ [Hs]
      · isplitl [Hs]; · iexact Hs
        iempintro
      iintro %_ ⟨-, Hs, -⟩
      iapply (bind_step (store_step (m := Memref.whole cc1_scratch0) (r := Rect.unit (s := S204x1x128) (k1_off10 (T.slot (ix1 x))) S1x1x128.size (k1_off10_inb c _ _ _ hc4 ((here_iff T x).mpr ⟨hk, hd⟩)))
        (S := rowOf (P.R.slot c x).val) (f := f) (R := iprop(emp)) (s_set _ _ o10 _).subset)) $$ [Hs]
      · isplitl [Hs]; · iexact Hs
        iempintro
      iintro %_ ⟨Hs, -⟩
      iapply (run_pure .rfl)
      isplitr [Hx Ho Hs]
      · isplitr; · iexact Hc
        isplitr; · iexact Hop
        isplitl [Ht]; · iexact Ht
        iexact HO
      isplitl [Hx]; · iexact Hx
      isplitl [Ho]; · iexact Ho
      iapply (put_s (P := P) (c := c) x (P.R.slot c x) o8 o10 f hsd hsr); iexact Hs
    · iapply (run_neg (φ := k1_cond2 c (T.keep (ix1 x)) (T.dst (ix1 x)) = 1#1) (fun h => hk ((here_iff T x).mp h).1))
      iapply (run_pure .rfl)
      unfold Tb Ta
      rw [if_neg haw, if_neg haw, if_neg hk, if_neg hk]
      isplitr [Hb]
      · isplitr; · iexact Hc
        isplitr; · iexact Hop
        isplitl [Ht]; · iexact Ht
        iexact HO
      iexact Hb

theorem t1_run {D : CellTallies nD τ sig Unit} (v3 : Sems sig S_) (v120 w : BitVec 32) :
    iprop((ctx P κ ∗ opn c ∗ tabs T ∗ owing c (D + ∑ i : Fin 256, rxT P.R c i)) ∗ bigSep Finset.univ (Tb P c))
      ⊢ run c (Scf.Loop.for k1_t1_loop k1_t1_ok () (k1_t1_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (me c) v3 v120 w))
          (fun _ => iprop((ctx P κ ∗ opn c ∗ tabs T ∗ owing c D) ∗ bigSep Finset.univ (Ta P c))) := by
  have h := loop_run k1_t1_loop k1_t1_ok 256 (by decide +kernel) (Nat.le_refl 256) (k1_t1_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (me c) v3 v120 w) (Tb P c) (Ta P c)
    (fun j => iprop(ctx P κ ∗ opn c ∗ tabs T ∗ owing c (D + ∑ i ∈ finFrom 256 j, rxT P.R c i)))
    (fun t x hx => t1_trip T v3 v120 w t x hx) (fun x hx => absurd x.isLt (by omega))
  rw [finFrom_zero, finFrom_self, Finset.sum_empty, add_zero] at h
  exact h

theorem t6_trip {D : CellTallies nD τ sig Unit} {Y : Res (F := F)} (hY : ∀ s, P.R.fill c s = true → P.ok (P.R.sd c s) (P.R.sr c s) (rrow Y s))
    (v174 : FVec F S102x1x256 .f32) (hw : k1_chk11 (cw T 0)) (t : Fin (k1_t6_loop (cw T 0)).trips) (x : Fin 102) (hx : x.val = t.val) :
    iprop((ctx P κ ∗ opn c ∗ tabs T ∗ owing c (D + ∑ j ∈ finFrom 102 t.val, rrT P.R c (e 0 j))) ∗ Rb P c Y (e 0 x))
      ⊢ run c (k1_t6_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (me c) v174 (cw T 0) hw t ())
          (fun _ => iprop((ctx P κ ∗ opn c ∗ tabs T ∗ owing c (D + ∑ j ∈ finFrom 102 (t.val + 1), rrT P.R c (e 0 j))) ∗ Ra P c Y (e 0 x))) := by
  have hlt : x.val < T.cnt 0 := by
    rw [hx]; exact lt_of_lt_of_eq t.isLt (cnt_trips T 0)
  have hf : P.R.fill c (e 0 x) = true := (T.hfill 0 x).mpr hlt
  have hD : D + ∑ j ∈ finFrom 102 t.val, rrT P.R c (e 0 j) = (D + ∑ j ∈ finFrom 102 (t.val + 1), rrT P.R c (e 0 j)) + rrT P.R c (e 0 x) := by
    rw [← hx]; exact add_sum_finFrom_succ D x.isLt _
  rw [hD]
  generalize D + ∑ j ∈ finFrom 102 (t.val + 1), rrT P.R c (e 0 j) = D'
  have hxl : x.val < 204 := by have := x.isLt; omega
  have htd : (T.td (ix2 0 x) : BitVec 32) = BitVec.ofNat 32 (P.R.sd c (e 0 x)).val := T.htd 0 x hlt
  have htr : (T.tr (ix2 0 x) : BitVec 32) = BitVec.ofNat 32 (P.R.sr c (e 0 x)).val := T.htr 0 x hlt
  have hsl : (P.R.sr c (e 0 x)).val < 1000 := by have := (P.R.sr c (e 0 x)).isLt; omega
  have otd : k1_off23 (cw T 0) t = ![(0 : Fin 2).val, x.val] := iv_off2 hx hxl
  have otr : k1_off24 (cw T 0) t = ![(0 : Fin 2).val, x.val] := iv_off2 hx hxl
  have os : k1_off25 (cw T 0) t = ![(e 0 x).val] := iva_off1 (k := 0) rfl hx
  have or : k1_off28 (cw T 0) t = ![(e 0 x).val, 0, 0] := iva_off3 (k := 0) rfl hx
  have orr : k1_off26 (T.tr (ix2 0 x)) = ![(P.R.sr c (e 0 x)).val] := word1 htr hsl
  have oo : k1_off27 (T.tr (ix2 0 x)) = ![(P.R.sr c (e 0 x)).val, 0, 0] := word3 htr hsl
  have otd2 : k1_off29 (cw T 0) t = ![(0 : Fin 2).val, x.val] := iv_off2 hx hxl
  have or2 : k1_off30 (cw T 0) t = ![(e 0 x).val, 0, 0] := iva_off3 (k := 0) rfl hx
  have otr2 : k1_off31 (cw T 0) t = ![(0 : Fin 2).val, x.val] := iv_off2 hx hxl
  have oo2 : k1_off32 (T.tr (ix2 0 x)) = ![(P.R.sr c (e 0 x)).val, 0, 0] := word3' htr hsl
  have hcA : k1_chk12 c (cw T 0) t (T.td (ix2 0 x)) :=
    ⟨fun _ => two_inb otr (by decide) x.isLt, fun _ => one_inb os (e 0 x).isLt, fun _ => row_inb or (e 0 x).isLt⟩
  have hcB : k1_chk14 c (T.td (ix2 0 x)) (T.tr (ix2 0 x)) := fun _ => row_inb oo (P.R.sr c (e 0 x)).isLt
  have hcC : k1_chk13 c (T.td (ix2 0 x)) (T.tr (ix2 0 x)) := fun _ => one_inb orr (P.R.sr c (e 0 x)).isLt
  have hcD : k1_chk15 c (T.td (ix2 0 x)) (T.td (ix2 0 x)) := fun _ => (dev_of_word htd).trans_lt (P.R.sd c (e 0 x)).isLt
  have hcE : k1_chk16 c (cw T 0) t (T.td (ix2 0 x)) :=
    ⟨fun _ => row_inb or2 (e 0 x).isLt, fun _ => two_inb otr2 (by decide) x.isLt⟩
  have hcF : k1_chk17 c (T.td (ix2 0 x)) (T.tr (ix2 0 x)) := fun _ => row_inb oo2 (P.R.sr c (e 0 x)).isLt
  unfold k1_t6_body
  iintro ⟨⟨#Hc, #Hop, Ht, HO⟩, Hb⟩
  iapply (bind_step (td_step T 0 x otd)) $$ Ht
  iintro %v ⟨%hv, Ht⟩
  subst hv
  iapply (assume_bind hcA)
  by_cases hcm : P.R.came c (e 0 x)
  · iapply (run_pos (φ := k1_cond7 c (T.td (ix2 0 x)) = 1#1) ((came_iff T 0 x hlt).mpr hcm))
    iapply (bind_step (tr_step T 0 x otr)) $$ Ht
    iintro %v ⟨%hv, Ht⟩
    subst hv
    iapply (assume_bind hcB)
    iapply (bind_step (tr_step T 0 x otr)) $$ Ht
    iintro %v ⟨%hv, Ht⟩
    subst hv
    iapply (assume_bind hcC)
    iapply (bind_step (td_step T 0 x otr)) $$ Ht
    iintro %v ⟨%hv, Ht⟩
    subst hv
    iapply (assume_bind hcD)
    iapply (bind_step (o_send (P := P) (κ := κ) (c := c) (D := D') (Y := Y) (e 0 x) hcm (hY _ hf) or oo (Fin.ext (dev_of_word htd)) (sr_sem (e 0 x) os _) (rr_sem (P.R.sr c (e 0 x)) orr _))) $$ [Hb HO]
    · isplitr; · iexact Hc
      isplitr; · iexact Hop
      isplitl [Hb]; · iexact Hb
      iexact HO
    iintro %_ ⟨Ha, HO⟩
    iapply (bind_step (td_step T 0 x otd2)) $$ Ht
    iintro %v ⟨%hv, Ht⟩
    subst hv
    iapply (assume_bind hcE)
    iapply (run_neg (φ := k1_cond8 c (T.td (ix2 0 x)) = 1#1) (fun h => hcm.2 ((own_iff T 0 x hlt).mp h)))
    iapply (run_pure .rfl)
    isplitr [Ha]
    · isplitr; · iexact Hc
      isplitr; · iexact Hop
      isplitl [Ht]; · iexact Ht
      iexact HO
    iexact Ha
  · have hd : P.R.sd c (e 0 x) = c := by by_contra h; exact hcm ⟨hf, h⟩
    have hz : D' + rrT P.R c (e 0 x) = D' := by unfold rrT; rw [if_neg hcm, add_zero]
    rw [hz]
    iapply (run_neg (φ := k1_cond7 c (T.td (ix2 0 x)) = 1#1) (fun h => hcm ((came_iff T 0 x hlt).mp h)))
    iapply (bind_step (td_step T 0 x otd2)) $$ Ht
    iintro %v ⟨%hv, Ht⟩
    subst hv
    iapply (assume_bind hcE)
    iapply (run_pos (φ := k1_cond8 c (T.td (ix2 0 x)) = 1#1) ((own_iff T 0 x hlt).mpr hd))
    unfold Rb Ra
    rw [if_neg hcm, if_neg hcm, if_pos hf, if_pos hf]
    icases Hb with ⟨Hr, ⟨%f, Ho⟩⟩
    iapply (bind_step (load_step (m := Memref.whole cc1_scratch1) (r := Rect.unit (s := S204x1x256) (k1_off30 (cw T 0) t) S1x1x256.size (k1_off30_inb c _ t _ hcE ((own_iff T 0 x hlt).mpr hd)))
      (S := rowOf (e 0 x).val) (q := fullShare) (f := Y) (R := iprop(emp)) (r_set _ _ or2 _).subset)) $$ [Hr]
    · isplitl [Hr]; · iexact Hr
      iempintro
    iintro %v ⟨%hv, Hr, -⟩
    subst hv
    iapply (bind_step (tr_step T 0 x otr2)) $$ Ht
    iintro %v ⟨%hv, Ht⟩
    subst hv
    iapply (assume_bind hcF)
    iapply (bind_step (load_step (m := Memref.whole cc1_stg8_0) (r := Rect.unit (s := S256x1x256) (k1_off32 (T.tr (ix2 0 x))) S1x1x256.size (k1_off32_inb c _ _ hcF ((own_iff T 0 x hlt).mpr hd)))
      (S := rowOf (P.R.sr c (e 0 x)).val) (q := fullShare) (f := f) (R := iprop(emp)) (o_set _ _ oo2 _).subset)) $$ [Ho]
    · isplitl [Ho]; · iexact Ho
      iempintro
    iintro %_ ⟨-, Ho, -⟩
    rw [pay6_eq]
    iapply (bind_step (store_step (m := Memref.whole cc1_stg8_0) (r := Rect.unit (s := S256x1x256) (k1_off32 (T.tr (ix2 0 x))) S1x1x256.size (k1_off32_inb c _ _ hcF ((own_iff T 0 x hlt).mpr hd)))
      (S := rowOf (P.R.sr c (e 0 x)).val) (f := f) (R := iprop(emp)) (o_set _ _ oo2 _).subset)) $$ [Ho]
    · isplitl [Ho]; · iexact Ho
      iempintro
    iintro %_ ⟨Ho, -⟩
    iapply (run_pure .rfl)
    isplitr [Hr Ho]
    · isplitr; · iexact Hc
      isplitr; · iexact Hop
      isplitl [Ht]; · iexact Ht
      iexact HO
    isplitl [Hr]; · iexact Hr
    iapply (put_o (P := P) (c := c) (e 0 x) (P.R.sr c (e 0 x)) or2 oo2 f Y (by have h := hY _ hf; rw [hd] at h; exact h)); iexact Ho

theorem t6_run {D : CellTallies nD τ sig Unit} {Y : Res (F := F)} (hY : ∀ s, P.R.fill c s = true → P.ok (P.R.sd c s) (P.R.sr c s) (rrow Y s))
    (v174 : FVec F S102x1x256 .f32) (hw : k1_chk11 (cw T 0)) :
    iprop((ctx P κ ∗ opn c ∗ tabs T ∗ owing c (D + ∑ j : Fin 102, rrT P.R c (e 0 j))) ∗ bigSep Finset.univ (fun x : Fin 102 => Rb P c Y (e 0 x)))
      ⊢ run c (Scf.Loop.for (k1_t6_loop (cw T 0)) (k1_t6_ok (cw T 0) hw) () (k1_t6_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (me c) v174 (cw T 0) hw))
          (fun _ => iprop((ctx P κ ∗ opn c ∗ tabs T ∗ owing c D) ∗ bigSep Finset.univ (fun x : Fin 102 => Ra P c Y (e 0 x)))) := by
  have h := loop_run (k1_t6_loop (cw T 0)) (k1_t6_ok (cw T 0) hw) (T.cnt 0) (cnt_trips T 0) (T.hcnt 0) (k1_t6_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (me c) v174 (cw T 0) hw)
    (fun x : Fin 102 => Rb P c Y (e 0 x)) (fun x : Fin 102 => Ra P c Y (e 0 x))
    (fun j => iprop(ctx P κ ∗ opn c ∗ tabs T ∗ owing c (D + ∑ j ∈ finFrom 102 j, rrT P.R c (e 0 j))))
    (fun t x hx => t6_trip T hY v174 hw t x hx) (fun x hx => by
      have hf : ¬ P.R.fill c (e 0 x) = true := fun h => by
        rw [T.hfill 0 x] at h; omega
      have hcm : ¬ P.R.came c (e 0 x) := fun h => hf h.1
      unfold Rb Ra
      rw [if_neg hcm, if_neg hcm, if_neg hf, if_neg hf])
  have hz : ∑ j ∈ finFrom 102 (T.cnt 0), rrT P.R c (e 0 j) = 0 := by
    refine Finset.sum_eq_zero fun j hj => ?_
    unfold rrT; rw [if_neg]
    intro hcm
    have h1 := hcm.1
    rw [T.hfill 0 j] at h1
    have h2 : T.cnt 0 ≤ j.val := mem_finFrom.mp hj
    omega
  rw [finFrom_zero, hz, add_zero] at h
  exact h

theorem t8_trip {D : CellTallies nD τ sig Unit} {Y : Res (F := F)} (hY : ∀ s, P.R.fill c s = true → P.ok (P.R.sd c s) (P.R.sr c s) (rrow Y s))
    (v174 : FVec F S102x1x256 .f32) (hw : k1_chk24 (cw T 1)) (t : Fin (k1_t8_loop (cw T 1)).trips) (x : Fin 102) (hx : x.val = t.val) :
    iprop((ctx P κ ∗ opn c ∗ tabs T ∗ owing c (D + ∑ j ∈ finFrom 102 t.val, rrT P.R c (e 1 j))) ∗ Rb P c Y (e 1 x))
      ⊢ run c (k1_t8_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (me c) v174 (cw T 1) hw t ())
          (fun _ => iprop((ctx P κ ∗ opn c ∗ tabs T ∗ owing c (D + ∑ j ∈ finFrom 102 (t.val + 1), rrT P.R c (e 1 j))) ∗ Ra P c Y (e 1 x))) := by
  have hlt : x.val < T.cnt 1 := by
    rw [hx]; exact lt_of_lt_of_eq t.isLt (cnt_trips T 1)
  have hf : P.R.fill c (e 1 x) = true := (T.hfill 1 x).mpr hlt
  have hD : D + ∑ j ∈ finFrom 102 t.val, rrT P.R c (e 1 j) = (D + ∑ j ∈ finFrom 102 (t.val + 1), rrT P.R c (e 1 j)) + rrT P.R c (e 1 x) := by
    rw [← hx]; exact add_sum_finFrom_succ D x.isLt _
  rw [hD]
  generalize D + ∑ j ∈ finFrom 102 (t.val + 1), rrT P.R c (e 1 j) = D'
  have hxl : x.val < 204 := by have := x.isLt; omega
  have htd : (T.td (ix2 1 x) : BitVec 32) = BitVec.ofNat 32 (P.R.sd c (e 1 x)).val := T.htd 1 x hlt
  have htr : (T.tr (ix2 1 x) : BitVec 32) = BitVec.ofNat 32 (P.R.sr c (e 1 x)).val := T.htr 1 x hlt
  have hsl : (P.R.sr c (e 1 x)).val < 1000 := by have := (P.R.sr c (e 1 x)).isLt; omega
  have otd : k1_off43 (cw T 1) t = ![(1 : Fin 2).val, x.val] := iv_off2 hx hxl
  have otr : k1_off44 (cw T 1) t = ![(1 : Fin 2).val, x.val] := iv_off2 hx hxl
  have os : k1_off45 (cw T 1) t = ![(e 1 x).val] := iva_off1 (k := 1) rfl hx
  have or : k1_off48 (cw T 1) t = ![(e 1 x).val, 0, 0] := iva_off3 (k := 1) rfl hx
  have orr : k1_off46 (T.tr (ix2 1 x)) = ![(P.R.sr c (e 1 x)).val] := word1 htr hsl
  have oo : k1_off47 (T.tr (ix2 1 x)) = ![(P.R.sr c (e 1 x)).val, 0, 0] := word3 htr hsl
  have otd2 : k1_off49 (cw T 1) t = ![(1 : Fin 2).val, x.val] := iv_off2 hx hxl
  have or2 : k1_off50 (cw T 1) t = ![(e 1 x).val, 0, 0] := iva_off3 (k := 1) rfl hx
  have otr2 : k1_off51 (cw T 1) t = ![(1 : Fin 2).val, x.val] := iv_off2 hx hxl
  have oo2 : k1_off52 (T.tr (ix2 1 x)) = ![(P.R.sr c (e 1 x)).val, 0, 0] := word3' htr hsl
  have hcA : k1_chk25 c (cw T 1) t (T.td (ix2 1 x)) :=
    ⟨fun _ => two_inb otr (by decide) x.isLt, fun _ => one_inb os (e 1 x).isLt, fun _ => row_inb or (e 1 x).isLt⟩
  have hcB : k1_chk27 c (T.td (ix2 1 x)) (T.tr (ix2 1 x)) := fun _ => row_inb oo (P.R.sr c (e 1 x)).isLt
  have hcC : k1_chk26 c (T.td (ix2 1 x)) (T.tr (ix2 1 x)) := fun _ => one_inb orr (P.R.sr c (e 1 x)).isLt
  have hcD : k1_chk28 c (T.td (ix2 1 x)) (T.td (ix2 1 x)) := fun _ => (dev_of_word htd).trans_lt (P.R.sd c (e 1 x)).isLt
  have hcE : k1_chk29 c (cw T 1) t (T.td (ix2 1 x)) :=
    ⟨fun _ => row_inb or2 (e 1 x).isLt, fun _ => two_inb otr2 (by decide) x.isLt⟩
  have hcF : k1_chk30 c (T.td (ix2 1 x)) (T.tr (ix2 1 x)) := fun _ => row_inb oo2 (P.R.sr c (e 1 x)).isLt
  unfold k1_t8_body
  iintro ⟨⟨#Hc, #Hop, Ht, HO⟩, Hb⟩
  iapply (bind_step (td_step T 1 x otd)) $$ Ht
  iintro %v ⟨%hv, Ht⟩
  subst hv
  iapply (assume_bind hcA)
  by_cases hcm : P.R.came c (e 1 x)
  · iapply (run_pos (φ := k1_cond11 c (T.td (ix2 1 x)) = 1#1) ((came_iff T 1 x hlt).mpr hcm))
    iapply (bind_step (tr_step T 1 x otr)) $$ Ht
    iintro %v ⟨%hv, Ht⟩
    subst hv
    iapply (assume_bind hcB)
    iapply (bind_step (tr_step T 1 x otr)) $$ Ht
    iintro %v ⟨%hv, Ht⟩
    subst hv
    iapply (assume_bind hcC)
    iapply (bind_step (td_step T 1 x otr)) $$ Ht
    iintro %v ⟨%hv, Ht⟩
    subst hv
    iapply (assume_bind hcD)
    iapply (bind_step (o_send (P := P) (κ := κ) (c := c) (D := D') (Y := Y) (e 1 x) hcm (hY _ hf) or oo (Fin.ext (dev_of_word htd)) (sr_sem (e 1 x) os _) (rr_sem (P.R.sr c (e 1 x)) orr _))) $$ [Hb HO]
    · isplitr; · iexact Hc
      isplitr; · iexact Hop
      isplitl [Hb]; · iexact Hb
      iexact HO
    iintro %_ ⟨Ha, HO⟩
    iapply (bind_step (td_step T 1 x otd2)) $$ Ht
    iintro %v ⟨%hv, Ht⟩
    subst hv
    iapply (assume_bind hcE)
    iapply (run_neg (φ := k1_cond12 c (T.td (ix2 1 x)) = 1#1) (fun h => hcm.2 ((own_iff T 1 x hlt).mp h)))
    iapply (run_pure .rfl)
    isplitr [Ha]
    · isplitr; · iexact Hc
      isplitr; · iexact Hop
      isplitl [Ht]; · iexact Ht
      iexact HO
    iexact Ha
  · have hd : P.R.sd c (e 1 x) = c := by by_contra h; exact hcm ⟨hf, h⟩
    have hz : D' + rrT P.R c (e 1 x) = D' := by unfold rrT; rw [if_neg hcm, add_zero]
    rw [hz]
    iapply (run_neg (φ := k1_cond11 c (T.td (ix2 1 x)) = 1#1) (fun h => hcm ((came_iff T 1 x hlt).mp h)))
    iapply (bind_step (td_step T 1 x otd2)) $$ Ht
    iintro %v ⟨%hv, Ht⟩
    subst hv
    iapply (assume_bind hcE)
    iapply (run_pos (φ := k1_cond12 c (T.td (ix2 1 x)) = 1#1) ((own_iff T 1 x hlt).mpr hd))
    unfold Rb Ra
    rw [if_neg hcm, if_neg hcm, if_pos hf, if_pos hf]
    icases Hb with ⟨Hr, ⟨%f, Ho⟩⟩
    iapply (bind_step (load_step (m := Memref.whole cc1_scratch1) (r := Rect.unit (s := S204x1x256) (k1_off50 (cw T 1) t) S1x1x256.size (k1_off50_inb c _ t _ hcE ((own_iff T 1 x hlt).mpr hd)))
      (S := rowOf (e 1 x).val) (q := fullShare) (f := Y) (R := iprop(emp)) (r_set _ _ or2 _).subset)) $$ [Hr]
    · isplitl [Hr]; · iexact Hr
      iempintro
    iintro %v ⟨%hv, Hr, -⟩
    subst hv
    iapply (bind_step (tr_step T 1 x otr2)) $$ Ht
    iintro %v ⟨%hv, Ht⟩
    subst hv
    iapply (assume_bind hcF)
    iapply (bind_step (load_step (m := Memref.whole cc1_stg8_0) (r := Rect.unit (s := S256x1x256) (k1_off52 (T.tr (ix2 1 x))) S1x1x256.size (k1_off52_inb c _ _ hcF ((own_iff T 1 x hlt).mpr hd)))
      (S := rowOf (P.R.sr c (e 1 x)).val) (q := fullShare) (f := f) (R := iprop(emp)) (o_set _ _ oo2 _).subset)) $$ [Ho]
    · isplitl [Ho]; · iexact Ho
      iempintro
    iintro %_ ⟨-, Ho, -⟩
    rw [pay8_eq]
    iapply (bind_step (store_step (m := Memref.whole cc1_stg8_0) (r := Rect.unit (s := S256x1x256) (k1_off52 (T.tr (ix2 1 x))) S1x1x256.size (k1_off52_inb c _ _ hcF ((own_iff T 1 x hlt).mpr hd)))
      (S := rowOf (P.R.sr c (e 1 x)).val) (f := f) (R := iprop(emp)) (o_set _ _ oo2 _).subset)) $$ [Ho]
    · isplitl [Ho]; · iexact Ho
      iempintro
    iintro %_ ⟨Ho, -⟩
    iapply (run_pure .rfl)
    isplitr [Hr Ho]
    · isplitr; · iexact Hc
      isplitr; · iexact Hop
      isplitl [Ht]; · iexact Ht
      iexact HO
    isplitl [Hr]; · iexact Hr
    iapply (put_o (P := P) (c := c) (e 1 x) (P.R.sr c (e 1 x)) or2 oo2 f Y (by have h := hY _ hf; rw [hd] at h; exact h)); iexact Ho

theorem t8_run {D : CellTallies nD τ sig Unit} {Y : Res (F := F)} (hY : ∀ s, P.R.fill c s = true → P.ok (P.R.sd c s) (P.R.sr c s) (rrow Y s))
    (v174 : FVec F S102x1x256 .f32) (hw : k1_chk24 (cw T 1)) :
    iprop((ctx P κ ∗ opn c ∗ tabs T ∗ owing c (D + ∑ j : Fin 102, rrT P.R c (e 1 j))) ∗ bigSep Finset.univ (fun x : Fin 102 => Rb P c Y (e 1 x)))
      ⊢ run c (Scf.Loop.for (k1_t8_loop (cw T 1)) (k1_t8_ok (cw T 1) hw) () (k1_t8_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (me c) v174 (cw T 1) hw))
          (fun _ => iprop((ctx P κ ∗ opn c ∗ tabs T ∗ owing c D) ∗ bigSep Finset.univ (fun x : Fin 102 => Ra P c Y (e 1 x)))) := by
  have h := loop_run (k1_t8_loop (cw T 1)) (k1_t8_ok (cw T 1) hw) (T.cnt 1) (cnt_trips T 1) (T.hcnt 1) (k1_t8_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (me c) v174 (cw T 1) hw)
    (fun x : Fin 102 => Rb P c Y (e 1 x)) (fun x : Fin 102 => Ra P c Y (e 1 x))
    (fun j => iprop(ctx P κ ∗ opn c ∗ tabs T ∗ owing c (D + ∑ j ∈ finFrom 102 j, rrT P.R c (e 1 j))))
    (fun t x hx => t8_trip T hY v174 hw t x hx) (fun x hx => by
      have hf : ¬ P.R.fill c (e 1 x) = true := fun h => by
        rw [T.hfill 1 x] at h; omega
      have hcm : ¬ P.R.came c (e 1 x) := fun h => hf h.1
      unfold Rb Ra
      rw [if_neg hcm, if_neg hcm, if_neg hf, if_neg hf])
  have hz : ∑ j ∈ finFrom 102 (T.cnt 1), rrT P.R c (e 1 j) = 0 := by
    refine Finset.sum_eq_zero fun j hj => ?_
    unfold rrT; rw [if_neg]
    intro hcm
    have h1 := hcm.1
    rw [T.hfill 1 j] at h1
    have h2 : T.cnt 1 ≤ j.val := mem_finFrom.mp hj
    omega
  rw [finFrom_zero, hz, add_zero] at h
  exact h

end Cert.MoE

end
-- ==== Proof.DispatchF.lean ====
/-
  Call 1: its signals, and how tokens and slots match.
-/
module

public import proofs.«01_k».proof.Proof.DispatchE

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable {P : Plan F} {κ : GSem nD τ sig → ℕ} {c : Dev nD}

/-! ## Tokens and slots match -/

theorem match_sep {A B : Type} [Fintype A] [Fintype B] [DecidableEq A] [DecidableEq B] (p : A → Prop) (q : B → Prop) [DecidablePred p] [DecidablePred q]
    (f : A → B) (g : B → A) (hf : ∀ a, p a → q (f a) ∧ g (f a) = a) (hg : ∀ b, q b → p (g b) ∧ f (g b) = b) (Ψ : A → sProp 𝕄) :
    bigSep Finset.univ (fun a => if p a then Ψ a else iprop(emp)) = bigSep Finset.univ (fun b => if q b then Ψ (g b) else iprop(emp)) := by
  have e1 : bigSep (Finset.univ.filter p) Ψ = bigSep Finset.univ (fun a => if p a then Ψ a else iprop(emp)) := BI.bigSep_filter _ _ _
  have e2 : bigSep (Finset.univ.filter q) (fun b => Ψ (g b)) = bigSep Finset.univ (fun b => if q b then Ψ (g b) else iprop(emp)) := BI.bigSep_filter _ _ _
  rw [← e1, ← e2]
  have hi : (Finset.univ.filter p) = (Finset.univ.filter q).image g := by
    ext a
    rw [Finset.mem_filter, Finset.mem_image]
    constructor
    · rintro ⟨-, h⟩; exact ⟨f a, Finset.mem_filter.mpr ⟨Finset.mem_univ _, (hf a h).1⟩, (hf a h).2⟩
    · rintro ⟨b, hb, rfl⟩; exact ⟨Finset.mem_univ _, (hg b (Finset.mem_filter.mp hb).2).1⟩
  rw [hi, bigSep_image_of_injOn]
  intro a ha b hb h
  have h1 := (hg a (Finset.mem_filter.mp (Finset.mem_coe.mp ha)).2).2
  have h2 := (hg b (Finset.mem_filter.mp (Finset.mem_coe.mp hb)).2).2
  rw [← h1, ← h2]; exact congrArg f h

theorem own_match (R : Routing) (c : Dev nD) (Ψ : Fin 204 → sProp 𝕄) :
    bigSep Finset.univ (fun s => if R.fill c s = true ∧ R.sd c s = c then Ψ s else iprop(emp))
      = bigSep Finset.univ (fun i => if R.kept c i = true ∧ R.dst c i = c then Ψ (R.slot c i) else iprop(emp)) := by
  refine match_sep (fun s => R.fill c s = true ∧ R.sd c s = c) (fun i => R.kept c i = true ∧ R.dst c i = c) (R.sr c) (R.slot c) (fun s h => ?_) (fun i h => ?_) Ψ
  · obtain ⟨h1, h2, h3⟩ := R.back c s h.1
    rw [h.2] at h1 h2 h3
    exact ⟨⟨h1, h2⟩, h3⟩
  · obtain ⟨h1, h2, h3⟩ := R.there c i h.1
    rw [h.2] at h1 h2 h3
    exact ⟨⟨h1, h2⟩, h3⟩
theorem own_match' (R : Routing) (c : Dev nD) (Ψ : Fin 256 → sProp 𝕄) :
    bigSep Finset.univ (fun i => if R.kept c i = true ∧ R.dst c i = c then Ψ i else iprop(emp))
      = bigSep Finset.univ (fun s => if R.fill c s = true ∧ R.sd c s = c then Ψ (R.sr c s) else iprop(emp)) := by
  refine match_sep (fun i => R.kept c i = true ∧ R.dst c i = c) (fun s => R.fill c s = true ∧ R.sd c s = c) (R.slot c) (R.sr c) (fun i h => ?_) (fun s h => ?_) Ψ
  · obtain ⟨h1, h2, h3⟩ := R.there c i h.1
    rw [h.2] at h1 h2 h3
    exact ⟨⟨h1, h2⟩, h3⟩
  · obtain ⟨h1, h2, h3⟩ := R.back c s h.1
    rw [h.2] at h1 h2 h3
    exact ⟨⟨h1, h2⟩, h3⟩
theorem came_match (R : Routing) (c : Dev nD) (Ψ : Fin 204 → sProp 𝕄) :
    bigSep Finset.univ (fun s => if R.came c s then Ψ s else iprop(emp))
      = bigSep Finset.univ (fun d : Dev nD => bigSep (Finset.univ.filter fun i : Fin 256 => R.away d i ∧ R.dst d i = c) (fun i => Ψ (R.slot d i))) := by
  have h := match_sep (fun s => R.came c s) (fun p : Dev nD × Fin 256 => R.away p.1 p.2 ∧ R.dst p.1 p.2 = c)
    (fun s => (R.sd c s, R.sr c s)) (fun p => R.slot p.1 p.2) (fun s h => ?_) (fun p h => ?_) Ψ
  · rw [h, BI.bigSep_univ_prod]
    exact bigSep_congr fun d _ => (BI.bigSep_filter _ _ _).symm
  · obtain ⟨h1, h2, h3⟩ := R.back c s h.1
    exact ⟨⟨R.came_away h, h2⟩, h3⟩
  · obtain ⟨h1, h2, h3⟩ := R.there p.1 p.2 h.1.1
    have h4 := R.away_came h.1
    obtain ⟨d, i⟩ := p
    obtain ⟨ha, rfl⟩ := h
    exact ⟨h4, Prod.ext h2 h3⟩

/-- Along the peers in the order of the signals. -/
theorem peers' (c : Dev nD) : (Finset.univ.image fun k : Fin 31 => fwd c k) = Finset.univ.erase c := by
  ext d
  rw [Finset.mem_image, Finset.mem_erase]
  constructor
  · rintro ⟨r, -, rfl⟩; exact ⟨fwd_ne c _, Finset.mem_univ _⟩
  · rintro ⟨h, -⟩
    obtain ⟨k, hk⟩ := fwd_surj c d h
    exact ⟨k, Finset.mem_univ _, hk⟩
theorem peers_all' (c : Dev nD) (Φ : Dev nD → sProp 𝕄) :
    iprop(Φ c ∗ bigSep Finset.univ (fun k : Fin 31 => Φ (fwd c k))) = bigSep Finset.univ Φ := by
  rw [bigSep_univ_at Φ c, ← peers' c, bigSep_image_of_injOn]
  exact fun a _ b _ h => fwd_inj c h

/-! ## What the signals of call 1 hand over -/

theorem pays_out (P : Plan F) (c : Dev nD) :
    iprop(bigSep Finset.univ (fun s : Fin 204 => if P.R.came c s then iprop(∃ f, sRow c s f) else iprop(emp))
        ∗ bigSep Finset.univ (fun s : Fin 204 => reached ER (cell c (.rx s)) 0)
        ∗ bigSep Finset.univ (fun i : Fin 256 => reached ER (cell c (.rr i)) 0))
      ⊢ (bigSep Finset.univ (fun k : Fin 31 => bpay P .b1 c k) : sProp 𝕄) := by
  rw [came_match P.R c (fun s => iprop(∃ f, sRow (F := F) c s f)),
    ← peers_all' c (fun d => bigSep (Finset.univ.filter fun i : Fin 256 => P.R.away d i ∧ P.R.dst d i = c) (fun i => iprop(∃ f, sRow (F := F) c (P.R.slot d i) f)))]
  have hper : ∀ k ∈ (Finset.univ : Finset (Fin 31)), iprop((bigSep Finset.univ (fun s : Fin 204 => reached ER (cell c (.rx s)) 0) ∗ bigSep Finset.univ (fun i : Fin 256 => reached ER (cell c (.rr i)) 0))
      ∗ bigSep (Finset.univ.filter fun i : Fin 256 => P.R.away (fwd c k) i ∧ P.R.dst (fwd c k) i = c) (fun i => iprop(∃ f, sRow (F := F) c (P.R.slot (fwd c k) i) f)))
      ⊢ (bpay P .b1 c k : sProp 𝕄) := fun k _ => by
    unfold bpay
    have e := fwd_rev c k
    show _ ⊢ iprop(bigSep (Finset.univ.filter fun i : Fin 256 => P.R.away (fwd c k) i ∧ P.R.dst (fwd c k) i = fwd (fwd c k) k.rev) (fun i => iprop(∃ f, sRow (F := F) (fwd (fwd c k) k.rev) (P.R.slot (fwd c k) i) f))
      ∗ bigSep Finset.univ (fun s : Fin 204 => reached ER (cell (fwd (fwd c k) k.rev) (.rx s)) 0) ∗ bigSep Finset.univ (fun i : Fin 256 => reached ER (cell (fwd (fwd c k) k.rev) (.rr i)) 0))
    rw [e]
    iintro ⟨⟨H1, H2⟩, H3⟩
    isplitl [H3]; · iexact H3
    isplitl [H1]; · iexact H1
    iexact H2
  refine BIBase.Entails.trans ?_ (bigSep_with_persistent hper)
  iintro ⟨⟨-, H⟩, Hx, Hr⟩
  isplitl [Hx Hr]
  · isplitl [Hx]; · iexact Hx
    iexact Hr
  iexact H

theorem pays_in (P : Plan F) (c : Dev nD) :
    bigSep Finset.univ (fun k : Fin 31 => pay P c .b1 k)
      ⊢ (iprop(bigSep Finset.univ (fun i : Fin 256 => if P.R.away c i then iprop(∃ f, sRow (F := F) (P.R.dst c i) (P.R.slot c i) f) else iprop(emp))
        ∗ bigSep Finset.univ (fun k : Fin 31 => bigSep Finset.univ (fun s : Fin 204 => reached ER (cell (fwd c k) (.rx s)) 0))
        ∗ bigSep Finset.univ (fun k : Fin 31 => bigSep Finset.univ (fun i : Fin 256 => reached ER (cell (fwd c k) (.rr i)) 0))) : sProp 𝕄) := by
  have e : bigSep Finset.univ (fun i : Fin 256 => if P.R.away c i then iprop(∃ f, sRow (F := F) (P.R.dst c i) (P.R.slot c i) f) else iprop(emp))
      = bigSep Finset.univ (fun d : Dev nD => bigSep (Finset.univ.filter fun i : Fin 256 => P.R.away c i ∧ P.R.dst c i = d) (fun i => iprop(∃ f, sRow (F := F) d (P.R.slot c i) f))) := by
    have e1 : ∀ d : Dev nD, bigSep (Finset.univ.filter fun i : Fin 256 => P.R.away c i ∧ P.R.dst c i = d) (fun i => iprop(∃ f, sRow (F := F) d (P.R.slot c i) f))
        = bigSep Finset.univ (fun i : Fin 256 => if P.R.away c i ∧ P.R.dst c i = d then iprop(∃ f, sRow (F := F) d (P.R.slot c i) f) else iprop(emp)) := fun d => BI.bigSep_filter _ _ _
    rw [bigSep_congr (fun d _ => e1 d), Pipeline.bigSep_univ_comm]
    refine bigSep_congr fun i _ => ?_
    by_cases h : P.R.away c i
    · rw [if_pos h]
      have e2 := BI.bigSep_filter Finset.univ (fun d => P.R.dst c i = d) (fun d => iprop(∃ f, sRow (F := F) d (P.R.slot c i) f))
      rw [Finset.filter_eq, if_pos (Finset.mem_univ _), bigSep_singleton] at e2
      refine e2.trans (bigSep_congr fun d _ => ?_)
      by_cases h2 : P.R.dst c i = d
      · rw [if_pos h2, if_pos ⟨h, h2⟩]
      · rw [if_neg h2, if_neg fun h3 => h2 h3.2]; rfl
    · rw [if_neg h, bigSep_congr (Ψ := fun _ => iprop(emp)) (fun d _ => if_neg fun h3 => h h3.1)]
      exact (bigSep_emp_const _).symm
  rw [e, ← peers_all' c]
  have e0 : (Finset.univ.filter fun i : Fin 256 => P.R.away c i ∧ P.R.dst c i = c) = ∅ :=
    Finset.filter_eq_empty_iff.mpr fun i _ h => h.1.2 h.2
  rw [e0, bigSep_empty]
  refine BIBase.Entails.trans (show _ ⊢ bigSep Finset.univ (fun k : Fin 31 => pay1 P (fwd c k) c) from .rfl) ?_
  unfold pay1
  iintro H
  ihave H := (sep_out Finset.univ (fun k : Fin 31 => bigSep (Finset.univ.filter fun i : Fin 256 => P.R.away c i ∧ P.R.dst c i = fwd c k) (fun i => iprop(∃ f, sRow (F := F) (fwd c k) (P.R.slot c i) f)))
    (fun k : Fin 31 => iprop(bigSep Finset.univ (fun s : Fin 204 => reached ER (cell (fwd c k) (.rx s)) 0) ∗ bigSep Finset.univ (fun i : Fin 256 => reached ER (cell (fwd c k) (.rr i)) 0)))) $$ H
  icases H with ⟨H, H2⟩
  ihave H2 := (sep_out Finset.univ (fun k : Fin 31 => bigSep Finset.univ (fun s : Fin 204 => reached ER (cell (fwd c k) (.rx s)) 0))
    (fun k : Fin 31 => bigSep Finset.univ (fun i : Fin 256 => reached ER (cell (fwd c k) (.rr i)) 0))) $$ H2
  isplitl [H]
  · isplitr; · iempintro
    iexact H
  iexact H2

/-- All that is open, own and peers'. -/
theorem opn_all (c : Dev nD) :
    iprop(bigSep Finset.univ (fun i : Fin 256 => reached ER (cell c (.sx i)) 0) ∗ bigSep Finset.univ (fun s : Fin 204 => reached ER (cell c (.sr s)) 0)
      ∗ bigSep Finset.univ (fun s : Fin 204 => reached ER (cell c (.rx s)) 0) ∗ bigSep Finset.univ (fun i : Fin 256 => reached ER (cell c (.rr i)) 0)
      ∗ bigSep Finset.univ (fun k : Fin 31 => bigSep Finset.univ (fun s : Fin 204 => reached ER (cell (fwd c k) (.rx s)) 0))
      ∗ bigSep Finset.univ (fun k : Fin 31 => bigSep Finset.univ (fun i : Fin 256 => reached ER (cell (fwd c k) (.rr i)) 0)))
      ⊢ (opn c : sProp 𝕄) := by
  unfold opn
  rw [← peers_all' c (fun d => bigSep Finset.univ (fun s : Fin 204 => reached ER (cell d (.rx s)) 0)),
    ← peers_all' c (fun d => bigSep Finset.univ (fun i : Fin 256 => reached ER (cell d (.rr i)) 0))]
  iintro ⟨H1, H2, H3, H4, H5, H6⟩
  isplitl [H1]; · iexact H1
  isplitl [H2]; · iexact H2
  isplitl [H3 H5]
  · isplitl [H3]; · iexact H3
    iexact H5
  isplitl [H4]; · iexact H4
  iexact H6

/-! ## The signals -/

theorem sig1_step {D : CellTallies nD τ sig Unit} {R : sProp 𝕄} (k : Fin 31)
    {n : ℕ} {hn' : n < nD} (hn : n = (c.val + (k.val + 1)) % 32) {sem : Sem sig} (hs : SemLoc.reg sem = ssem .b1) :
    iprop(ctx P κ ∗ sigs P .b1 c D k.val ∗ R)
      ⊢ run c (semSignalWord (⟨n, hn'⟩ : Dev nD) sem 1#32) (fun _ => iprop(ctx P κ ∗ sigs P .b1 c D (k.val + 1) ∗ R)) :=
  run_frame (sig_step .b1 (.inr rfl) k (dev_eq k hn) hs)

theorem k1part1_run {D : CellTallies nD τ sig Unit} {R : sProp 𝕄} :
    iprop(ctx P κ ∗ sigs P .b1 c D 0 ∗ R) ⊢ run c (k1_part1 (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5)
      (fun r => iprop(⌜r.1 = c ∧ r.2.1 = me c ∧ SemLoc.reg r.2.2.1.sem = ssem .b1⌝ ∗ ctx P κ ∗ sigs P .b1 c D 5 ∗ R)) := by
  rw [k1_part1_eq_skeleton]; unfold k1_part1_skel
  have hdev : iprop(ctx P κ ∗ sigs P .b1 c D 0 ∗ R) ⊢ run c (Prog.lift .deviceId : Prog (TpuEff nD τ sig (Elt F) Λ₀ .tc) (Dev nD))
      (fun d => iprop(⌜d = c⌝ ∗ ctx P κ ∗ sigs P .b1 c D 0 ∗ R)) := by
    unfold run Prog.lift; rw [wp_deviceId, wp_ret]
    iintro H; imodintro; isplitr; · ipureintro; rfl
    iexact H
  refine run_seqE hdev fun d0 => ?_
  refine pure_left fun hd => ?_
  obtain rfl : c = d0 := hd.symm
  have h3 : SemLoc.reg (SemArray.scalar (sig.barrier 1 rfl) : Sems sig S_).sem = ssem .b1 := rfl
  refine run_seq (sig1_step (P := P) (κ := κ) 0 (k1_dev1_eq c) h3) fun _ => ?_
  refine run_seq (sig1_step (P := P) (κ := κ) 1 (k1_dev2_eq c) h3) fun _ => ?_
  refine run_seq (sig1_step (P := P) (κ := κ) 2 (k1_dev3_eq c) h3) fun _ => ?_
  refine run_seq (sig1_step (P := P) (κ := κ) 3 (k1_dev4_eq c) h3) fun _ => ?_
  refine run_seq (sig1_step (P := P) (κ := κ) 4 (k1_dev5_eq c) h3) fun _ => ?_
  refine run_pure ?_
  iintro H
  isplitr; · ipureintro; exact ⟨rfl, rfl, rfl⟩
  iexact H

theorem k1part2_run {D : CellTallies nD τ sig Unit} {R : sProp 𝕄} (v2 : BitVec 32) (v3 : Sems sig S_) (v w : BitVec 32) (h3 : SemLoc.reg v3.sem = ssem .b1) :
    iprop(ctx P κ ∗ sigs P .b1 c D 5 ∗ R) ⊢ run c (k1_part2 (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c v2 v3 v w) (fun _ => iprop(ctx P κ ∗ sigs P .b1 c D 11 ∗ R)) := by
  rw [k1_part2_eq_skeleton]; unfold k1_part2_skel
  refine run_seq (sig1_step (P := P) (κ := κ) 5 (k1_dev6_eq c) h3) fun _ => ?_
  refine run_seq (sig1_step (P := P) (κ := κ) 6 (k1_dev7_eq c) h3) fun _ => ?_
  refine run_seq (sig1_step (P := P) (κ := κ) 7 (k1_dev8_eq c) h3) fun _ => ?_
  refine run_seq (sig1_step (P := P) (κ := κ) 8 (k1_dev9_eq c) h3) fun _ => ?_
  refine run_seq (sig1_step (P := P) (κ := κ) 9 (k1_dev10_eq c) h3) fun _ => ?_
  refine run_seq (sig1_step (P := P) (κ := κ) 10 (k1_dev11_eq c) h3) fun _ => ?_
  exact run_pure .rfl

theorem k1part3_run {D : CellTallies nD τ sig Unit} {R : sProp 𝕄} (v2 : BitVec 32) (v3 : Sems sig S_) (v w : BitVec 32) (h3 : SemLoc.reg v3.sem = ssem .b1) :
    iprop(ctx P κ ∗ sigs P .b1 c D 11 ∗ R) ⊢ run c (k1_part3 (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c v2 v3 v w) (fun _ => iprop(ctx P κ ∗ sigs P .b1 c D 17 ∗ R)) := by
  rw [k1_part3_eq_skeleton]; unfold k1_part3_skel
  refine run_seq (sig1_step (P := P) (κ := κ) 11 (k1_dev12_eq c) h3) fun _ => ?_
  refine run_seq (sig1_step (P := P) (κ := κ) 12 (k1_dev13_eq c) h3) fun _ => ?_
  refine run_seq (sig1_step (P := P) (κ := κ) 13 (k1_dev14_eq c) h3) fun _ => ?_
  refine run_seq (sig1_step (P := P) (κ := κ) 14 (k1_dev15_eq c) h3) fun _ => ?_
  refine run_seq (sig1_step (P := P) (κ := κ) 15 (k1_dev16_eq c) h3) fun _ => ?_
  refine run_seq (sig1_step (P := P) (κ := κ) 16 (k1_dev17_eq c) h3) fun _ => ?_
  exact run_pure .rfl

theorem k1part4_run {D : CellTallies nD τ sig Unit} {R : sProp 𝕄} (v2 : BitVec 32) (v3 : Sems sig S_) (v w : BitVec 32) (h3 : SemLoc.reg v3.sem = ssem .b1) :
    iprop(ctx P κ ∗ sigs P .b1 c D 17 ∗ R) ⊢ run c (k1_part4 (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c v2 v3 v w) (fun _ => iprop(ctx P κ ∗ sigs P .b1 c D 23 ∗ R)) := by
  rw [k1_part4_eq_skeleton]; unfold k1_part4_skel
  refine run_seq (sig1_step (P := P) (κ := κ) 17 (k1_dev18_eq c) h3) fun _ => ?_
  refine run_seq (sig1_step (P := P) (κ := κ) 18 (k1_dev19_eq c) h3) fun _ => ?_
  refine run_seq (sig1_step (P := P) (κ := κ) 19 (k1_dev20_eq c) h3) fun _ => ?_
  refine run_seq (sig1_step (P := P) (κ := κ) 20 (k1_dev21_eq c) h3) fun _ => ?_
  refine run_seq (sig1_step (P := P) (κ := κ) 21 (k1_dev22_eq c) h3) fun _ => ?_
  refine run_seq (sig1_step (P := P) (κ := κ) 22 (k1_dev23_eq c) h3) fun _ => ?_
  exact run_pure .rfl

theorem k1part5_run {D : CellTallies nD τ sig Unit} {R : sProp 𝕄} (v2 : BitVec 32) (v3 : Sems sig S_) (v w : BitVec 32) (h3 : SemLoc.reg v3.sem = ssem .b1) :
    iprop(ctx P κ ∗ sigs P .b1 c D 23 ∗ R) ⊢ run c (k1_part5 (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c v2 v3 v w) (fun _ => iprop(ctx P κ ∗ sigs P .b1 c D 29 ∗ R)) := by
  rw [k1_part5_eq_skeleton]; unfold k1_part5_skel
  refine run_seq (sig1_step (P := P) (κ := κ) 23 (k1_dev24_eq c) h3) fun _ => ?_
  refine run_seq (sig1_step (P := P) (κ := κ) 24 (k1_dev25_eq c) h3) fun _ => ?_
  refine run_seq (sig1_step (P := P) (κ := κ) 25 (k1_dev26_eq c) h3) fun _ => ?_
  refine run_seq (sig1_step (P := P) (κ := κ) 26 (k1_dev27_eq c) h3) fun _ => ?_
  refine run_seq (sig1_step (P := P) (κ := κ) 27 (k1_dev28_eq c) h3) fun _ => ?_
  refine run_seq (sig1_step (P := P) (κ := κ) 28 (k1_dev29_eq c) h3) fun _ => ?_
  exact run_pure .rfl

end Cert.MoE

end
-- ==== Proof.DispatchG.lean ====
/-
  Call 1: rows and whole buffers, and what each token and each slot holds between the loops.
-/
module

public import proofs.«01_k».proof.Proof.DispatchF

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable {P : Plan F} {κ : GSem nD τ sig → ℕ} {c : Dev nD}

/-! ## Rows and whole buffers -/

theorem x_rows (c : Dev nD) (f : Xin (F := F)) :
    bigSep Finset.univ (fun i : Fin 256 => xRow c i f) = ((((c : Thread nD τ).loc cc1_stg6_0) ↦[Finset.univ]{fullShare} f) : sProp 𝕄) := by
  have h := pointsTo_biUnion (Ix := Unit) (Name := ℕ) (U := UU) (Lvl := ℕ) (ℓ := (c : Thread nD τ).loc cc1_stg6_0) (q := fullShare) (f := f)
    (Finset.univ : Finset (Fin 256)) (fun k => rowOf (n := 2) (sh := ![256, 1, 128]) k.val) (fun a _ b _ h => rowOf_disjoint fun e => h (Fin.ext e))
  refine h.symm.trans ?_
  rw [← rowOf_biUnion (n := 2) (sh := ![256, 1, 128]) (N := 256) rfl]
theorem x_join (c : Dev nD) (A : Fin 256 → Xin (F := F) → Prop)
    (hA : ∀ i f g, (∀ j ∈ rowOf (n := 2) (sh := ![256, 1, 128]) i.val, g j = f j) → A i f → A i g) :
    bigSep Finset.univ (fun i : Fin 256 => iprop(∃ f, ⌜A i f⌝ ∗ xRow c i f))
      ⊢ (iprop(∃ g : Xin (F := F), ⌜∀ i, A i g⌝ ∗ (((c : Thread nD τ).loc cc1_stg6_0) ↦[Finset.univ]{fullShare} g)) : sProp 𝕄) := by
  haveI : Nonempty (Xin (F := F)) := ⟨fun _ => FloatOps.ofBits .bf16 0⟩
  refine BIBase.Entails.trans (bigSep_exists_pi Finset.univ (fun (i : Fin 256) (f : Xin (F := F)) => (iprop(⌜A i f⌝ ∗ xRow c i f) : sProp 𝕄))) ?_
  refine ex_left fun y => ?_
  by_cases hy : ∀ i, A i (y i)
  · refine BIBase.Entails.trans (Q := bigSep Finset.univ (fun i : Fin 256 => xRow c i (y i))) (sep_mono fun i _ => pure_left fun _ => .rfl) ?_
    have h := pointsTo_biUnion_join (Ix := Unit) (Name := ℕ) (U := UU) (Lvl := ℕ) (ℓ := (c : Thread nD τ).loc cc1_stg6_0) (q := fullShare)
      (Finset.univ : Finset (Fin 256)) (fun k => rowOf (n := 2) (sh := ![256, 1, 128]) k.val) y (y 0) (fun a _ b _ h => rowOf_disjoint fun e => h (Fin.ext e))
    refine h.trans ?_
    refine ex_left fun g => pure_left fun hg => ?_
    rw [← rowOf_biUnion (n := 2) (sh := ![256, 1, 128]) (N := 256) rfl]
    iintro H
    iexists g
    isplitr
    · ipureintro; exact fun i => hA i (y i) g (hg i (Finset.mem_univ _)) (hy i)
    iexact H
  · obtain ⟨i, hi⟩ := not_forall.mp hy
    refine (pick_all _ i).trans ?_
    exact pure_left fun h => absurd h hi

theorem s_rows (c : Dev nD) (f : Stg (F := F)) :
    bigSep Finset.univ (fun i : Fin 204 => sRow c i f) = ((((c : Thread nD τ).loc cc1_scratch0) ↦[Finset.univ]{fullShare} f) : sProp 𝕄) := by
  have h := pointsTo_biUnion (Ix := Unit) (Name := ℕ) (U := UU) (Lvl := ℕ) (ℓ := (c : Thread nD τ).loc cc1_scratch0) (q := fullShare) (f := f)
    (Finset.univ : Finset (Fin 204)) (fun k => rowOf (n := 2) (sh := ![204, 1, 128]) k.val) (fun a _ b _ h => rowOf_disjoint fun e => h (Fin.ext e))
  refine h.symm.trans ?_
  rw [← rowOf_biUnion (n := 2) (sh := ![204, 1, 128]) (N := 204) rfl]
theorem s_join (c : Dev nD) (A : Fin 204 → Stg (F := F) → Prop)
    (hA : ∀ i f g, (∀ j ∈ rowOf (n := 2) (sh := ![204, 1, 128]) i.val, g j = f j) → A i f → A i g) :
    bigSep Finset.univ (fun i : Fin 204 => iprop(∃ f, ⌜A i f⌝ ∗ sRow c i f))
      ⊢ (iprop(∃ g : Stg (F := F), ⌜∀ i, A i g⌝ ∗ (((c : Thread nD τ).loc cc1_scratch0) ↦[Finset.univ]{fullShare} g)) : sProp 𝕄) := by
  haveI : Nonempty (Stg (F := F)) := ⟨fun _ => FloatOps.ofBits .bf16 0⟩
  refine BIBase.Entails.trans (bigSep_exists_pi Finset.univ (fun (i : Fin 204) (f : Stg (F := F)) => (iprop(⌜A i f⌝ ∗ sRow c i f) : sProp 𝕄))) ?_
  refine ex_left fun y => ?_
  by_cases hy : ∀ i, A i (y i)
  · refine BIBase.Entails.trans (Q := bigSep Finset.univ (fun i : Fin 204 => sRow c i (y i))) (sep_mono fun i _ => pure_left fun _ => .rfl) ?_
    have h := pointsTo_biUnion_join (Ix := Unit) (Name := ℕ) (U := UU) (Lvl := ℕ) (ℓ := (c : Thread nD τ).loc cc1_scratch0) (q := fullShare)
      (Finset.univ : Finset (Fin 204)) (fun k => rowOf (n := 2) (sh := ![204, 1, 128]) k.val) y (y 0) (fun a _ b _ h => rowOf_disjoint fun e => h (Fin.ext e))
    refine h.trans ?_
    refine ex_left fun g => pure_left fun hg => ?_
    rw [← rowOf_biUnion (n := 2) (sh := ![204, 1, 128]) (N := 204) rfl]
    iintro H
    iexists g
    isplitr
    · ipureintro; exact fun i => hA i (y i) g (hg i (Finset.mem_univ _)) (hy i)
    iexact H
  · obtain ⟨i, hi⟩ := not_forall.mp hy
    refine (pick_all _ i).trans ?_
    exact pure_left fun h => absurd h hi

theorem r_rows (c : Dev nD) (f : Res (F := F)) :
    bigSep Finset.univ (fun i : Fin 204 => rRow c i f) = ((((c : Thread nD τ).loc cc1_scratch1) ↦[Finset.univ]{fullShare} f) : sProp 𝕄) := by
  have h := pointsTo_biUnion (Ix := Unit) (Name := ℕ) (U := UU) (Lvl := ℕ) (ℓ := (c : Thread nD τ).loc cc1_scratch1) (q := fullShare) (f := f)
    (Finset.univ : Finset (Fin 204)) (fun k => rowOf (n := 2) (sh := ![204, 1, 256]) k.val) (fun a _ b _ h => rowOf_disjoint fun e => h (Fin.ext e))
  refine h.symm.trans ?_
  rw [← rowOf_biUnion (n := 2) (sh := ![204, 1, 256]) (N := 204) rfl]
theorem r_join (c : Dev nD) (A : Fin 204 → Res (F := F) → Prop)
    (hA : ∀ i f g, (∀ j ∈ rowOf (n := 2) (sh := ![204, 1, 256]) i.val, g j = f j) → A i f → A i g) :
    bigSep Finset.univ (fun i : Fin 204 => iprop(∃ f, ⌜A i f⌝ ∗ rRow c i f))
      ⊢ (iprop(∃ g : Res (F := F), ⌜∀ i, A i g⌝ ∗ (((c : Thread nD τ).loc cc1_scratch1) ↦[Finset.univ]{fullShare} g)) : sProp 𝕄) := by
  haveI : Nonempty (Res (F := F)) := ⟨fun _ => FloatOps.ofBits .f32 0⟩
  refine BIBase.Entails.trans (bigSep_exists_pi Finset.univ (fun (i : Fin 204) (f : Res (F := F)) => (iprop(⌜A i f⌝ ∗ rRow c i f) : sProp 𝕄))) ?_
  refine ex_left fun y => ?_
  by_cases hy : ∀ i, A i (y i)
  · refine BIBase.Entails.trans (Q := bigSep Finset.univ (fun i : Fin 204 => rRow c i (y i))) (sep_mono fun i _ => pure_left fun _ => .rfl) ?_
    have h := pointsTo_biUnion_join (Ix := Unit) (Name := ℕ) (U := UU) (Lvl := ℕ) (ℓ := (c : Thread nD τ).loc cc1_scratch1) (q := fullShare)
      (Finset.univ : Finset (Fin 204)) (fun k => rowOf (n := 2) (sh := ![204, 1, 256]) k.val) y (y 0) (fun a _ b _ h => rowOf_disjoint fun e => h (Fin.ext e))
    refine h.trans ?_
    refine ex_left fun g => pure_left fun hg => ?_
    rw [← rowOf_biUnion (n := 2) (sh := ![204, 1, 256]) (N := 204) rfl]
    iintro H
    iexists g
    isplitr
    · ipureintro; exact fun i => hA i (y i) g (hg i (Finset.mem_univ _)) (hy i)
    iexact H
  · obtain ⟨i, hi⟩ := not_forall.mp hy
    refine (pick_all _ i).trans ?_
    exact pure_left fun h => absurd h hi

theorem o_rows (c : Dev nD) (f : Out (F := F)) :
    bigSep Finset.univ (fun i : Fin 256 => oRow c i f) = ((((c : Thread nD τ).loc cc1_stg8_0) ↦[Finset.univ]{fullShare} f) : sProp 𝕄) := by
  have h := pointsTo_biUnion (Ix := Unit) (Name := ℕ) (U := UU) (Lvl := ℕ) (ℓ := (c : Thread nD τ).loc cc1_stg8_0) (q := fullShare) (f := f)
    (Finset.univ : Finset (Fin 256)) (fun k => rowOf (n := 2) (sh := ![256, 1, 256]) k.val) (fun a _ b _ h => rowOf_disjoint fun e => h (Fin.ext e))
  refine h.symm.trans ?_
  rw [← rowOf_biUnion (n := 2) (sh := ![256, 1, 256]) (N := 256) rfl]
theorem o_join (c : Dev nD) (A : Fin 256 → Out (F := F) → Prop)
    (hA : ∀ i f g, (∀ j ∈ rowOf (n := 2) (sh := ![256, 1, 256]) i.val, g j = f j) → A i f → A i g) :
    bigSep Finset.univ (fun i : Fin 256 => iprop(∃ f, ⌜A i f⌝ ∗ oRow c i f))
      ⊢ (iprop(∃ g : Out (F := F), ⌜∀ i, A i g⌝ ∗ (((c : Thread nD τ).loc cc1_stg8_0) ↦[Finset.univ]{fullShare} g)) : sProp 𝕄) := by
  haveI : Nonempty (Out (F := F)) := ⟨fun _ => FloatOps.ofBits .f32 0⟩
  refine BIBase.Entails.trans (bigSep_exists_pi Finset.univ (fun (i : Fin 256) (f : Out (F := F)) => (iprop(⌜A i f⌝ ∗ oRow c i f) : sProp 𝕄))) ?_
  refine ex_left fun y => ?_
  by_cases hy : ∀ i, A i (y i)
  · refine BIBase.Entails.trans (Q := bigSep Finset.univ (fun i : Fin 256 => oRow c i (y i))) (sep_mono fun i _ => pure_left fun _ => .rfl) ?_
    have h := pointsTo_biUnion_join (Ix := Unit) (Name := ℕ) (U := UU) (Lvl := ℕ) (ℓ := (c : Thread nD τ).loc cc1_stg8_0) (q := fullShare)
      (Finset.univ : Finset (Fin 256)) (fun k => rowOf (n := 2) (sh := ![256, 1, 256]) k.val) y (y 0) (fun a _ b _ h => rowOf_disjoint fun e => h (Fin.ext e))
    refine h.trans ?_
    refine ex_left fun g => pure_left fun hg => ?_
    rw [← rowOf_biUnion (n := 2) (sh := ![256, 1, 256]) (N := 256) rfl]
    iintro H
    iexists g
    isplitr
    · ipureintro; exact fun i => hA i (y i) g (hg i (Finset.mem_univ _)) (hy i)
    iexact H
  · obtain ⟨i, hi⟩ := not_forall.mp hy
    refine (pick_all _ i).trans ?_
    exact pure_left fun h => absurd h hi

/-! ## The two experts' halves -/

theorem halves (Φ : Fin 204 → sProp 𝕄) :
    bigSep Finset.univ Φ = iprop(bigSep Finset.univ (fun x : Fin 102 => Φ (e 0 x)) ∗ bigSep Finset.univ (fun x : Fin 102 => Φ (e 1 x))) := by
  have he : ∀ p : Fin 2 × Fin 102, (finProdFinEquiv p : Fin 204) = e p.1 p.2 := fun p => Fin.ext (by
    show p.2.val + 102 * p.1.val = 102 * p.1.val + p.2.val; omega)
  have h1 := BI.bigSep_univ_equiv (finProdFinEquiv : Fin 2 × Fin 102 ≃ Fin 204) Φ
  have h2 : bigSep Finset.univ (fun p : Fin 2 × Fin 102 => Φ (finProdFinEquiv p)) = bigSep Finset.univ (fun p : Fin 2 × Fin 102 => Φ (e p.1 p.2)) :=
    bigSep_congr fun p _ => by rw [he]
  have h3 := BI.bigSep_univ_prod (fun p : Fin 2 × Fin 102 => Φ (e p.1 p.2))
  have h4 := bigSep_univ_at (fun k : Fin 2 => bigSep Finset.univ (fun x : Fin 102 => Φ (e k x))) 0
  have h5 : (Finset.univ : Finset (Fin 2)).erase 0 = {1} := by decide
  rw [h5, bigSep_singleton] at h4
  exact h1.trans (h2.trans (h3.trans h4))
theorem halves_sum {A : Type} [AddCommMonoid A] (Φ : Fin 204 → A) :
    ∑ s, Φ s = ∑ x : Fin 102, Φ (e 0 x) + ∑ x : Fin 102, Φ (e 1 x) := by
  have he : ∀ p : Fin 2 × Fin 102, (finProdFinEquiv p : Fin 204) = e p.1 p.2 := fun p => Fin.ext (by
    show p.2.val + 102 * p.1.val = 102 * p.1.val + p.2.val; omega)
  rw [← Equiv.sum_comp (finProdFinEquiv : Fin 2 × Fin 102 ≃ Fin 204) Φ, Fintype.sum_prod_type, Fin.sum_univ_two]
  rfl

/-! ## Regrouping, token by token and slot by slot -/

/-- A cell that is done with: past its round where it had one, unspent where it had none. -/
def shut (P : Plan F) (c : Dev nD) (k : CK) : sProp 𝕄 := if duts P.R c k = ∅ then atPos ER (cell c k) 0 ∅ 0 else atPos ER (cell c k) (0 + 1) ∅ 0

theorem shut_close (k : CK) : iprop(ctx P κ ∗ shut P c k) ⊢ (|={Set.univ}=> semVal (cell c k) 0 : sProp 𝕄) := by
  unfold shut
  by_cases h : duts P.R c k = ∅
  · rw [if_pos h]; exact close_ctx_idle c k h
  · rw [if_neg h]; exact close_ctx c k
theorem done_split (k : CK) {φ : Prop} [Decidable φ] (h : duts P.R c k = if φ then {0} else ∅) :
    done P c k ⊢ iprop(shut P c k ∗ if φ then pay P c k 0 else iprop(emp)) := by
  unfold done shut
  by_cases hφ : φ
  · rw [if_pos hφ] at h
    have hn : duts P.R c k ≠ ∅ := by rw [h]; exact Finset.singleton_ne_empty _
    rw [if_neg hn, if_neg hn, if_pos hφ]
  · rw [if_neg hφ] at h
    rw [if_pos h, if_pos h, if_neg hφ]
    iintro H; isplitl [H]; · iexact H
    iempintro
theorem pend_in (k : CK) {φ : Prop} [Decidable φ] (h : duts P.R c k = if φ then {0} else ∅) :
    iprop(atPos ER (cell c k) 0 ∅ 0 ∗ if φ then cred (tallyAt (cell c k) () (amt k)) else iprop(emp)) ⊢ pend P c k := by
  unfold pend
  by_cases hφ : φ
  · rw [if_pos hφ] at h
    have hn : duts P.R c k ≠ ∅ := by rw [h]; exact Finset.singleton_ne_empty _
    rw [if_neg hn, if_pos hφ]
  · rw [if_neg hφ] at h
    rw [if_pos h, if_neg hφ]

/-- Kept tokens that stay on their own device, and the slots such tokens fill. -/
abbrev stays (R : Routing) (c : Dev nD) (i : Fin 256) : Prop := R.kept c i = true ∧ R.dst c i = c
abbrev local' (R : Routing) (c : Dev nD) (s : Fin 204) : Prop := R.fill c s = true ∧ R.sd c s = c

/-- The tokens' transfers hold what they write and complete. -/
abbrev xTok (P : Plan F) (c : Dev nD) (i : Fin 256) : sProp 𝕄 :=
  if P.R.away c i then iprop(dutyTok ER (cell c (.sx i)) 0 0 ∗ dutyTok ER (cell (P.R.dst c i) (.rx (P.R.slot c i))) 0 0) else iprop(emp)
abbrev oTok (P : Plan F) (c : Dev nD) (s : Fin 204) : sProp 𝕄 :=
  if P.R.came c s then iprop(dutyTok ER (cell c (.sr s)) 0 0 ∗ dutyTok ER (cell (P.R.sd c s) (.rr (P.R.sr c s))) 0 0) else iprop(emp)

theorem tb_one (i : Fin 256) :
    iprop(xRow c i (P.X c) ∗ oRow c i zout ∗ (if P.R.away c i then iprop(∃ f, sRow (P.R.dst c i) (P.R.slot c i) f) else iprop(emp)) ∗ xTok P c i
        ∗ (if stays P.R c i then iprop(∃ f, sRow c (P.R.slot c i) f) else iprop(emp)))
      ⊢ Tb P c i := by
  unfold Tb xTok
  by_cases ha : P.R.away c i
  · have hs : ¬ stays P.R c i := fun h => ha.2 h.2
    rw [if_pos ha, if_pos ha, if_neg hs, if_pos ha]
    iintro ⟨Hx, Ho, Hs, ⟨H1, H2⟩, -⟩
    isplitl [Hx]; · iexact Hx
    isplitl [Ho]; · iexact Ho
    isplitl [Hs]; · iexact Hs
    isplitl [H1]; · iexact H1
    iexact H2
  · rw [if_neg ha, if_neg ha, if_neg ha]
    by_cases hk : P.R.kept c i = true
    · have hs : stays P.R c i := ⟨hk, by by_contra h; exact ha ⟨hk, h⟩⟩
      rw [if_pos hk, if_pos hs]
      iintro ⟨Hx, Ho, -, -, Hs⟩
      isplitl [Hx]; · iexact Hx
      isplitl [Ho]; · iexact Ho
      iexact Hs
    · have hs : ¬ stays P.R c i := fun h => hk h.1
      rw [if_neg hk, if_neg hs]
      iintro ⟨Hx, Ho, -, -, -⟩
      isplitl [Hx]; · iexact Hx
      isplitl [Ho]; · iexact Ho
      iempintro

theorem ta_one (i : Fin 256) :
    iprop(Ta P c i ∗ atPos ER (cell c (.sx i)) 0 ∅ 0)
      ⊢ iprop(pend P c (.sx i) ∗ (if P.R.away c i then iprop(emp) else xRow c i (P.X c))
        ∗ (if P.R.kept c i = true then iprop(emp) else oRow c i zout)
        ∗ (if stays P.R c i then sRow c (P.R.slot c i) (P.stg c) else iprop(emp))
        ∗ (if stays P.R c i then iprop(∃ f, oRow c i f) else iprop(emp))) := by
  refine BIBase.Entails.trans (Q := iprop(Ta P c i ∗ atPos ER (cell c (.sx i)) 0 ∅ 0)) .rfl ?_
  have hp := pend_in (P := P) (c := c) (.sx i) (φ := P.R.away c i) rfl
  unfold Ta
  by_cases ha : P.R.away c i
  · have hs : ¬ stays P.R c i := fun h => ha.2 h.2
    rw [if_pos ha] at hp
    rw [if_pos ha, if_pos ha, if_pos ha.1, if_neg hs, if_neg hs]
    iintro ⟨H1, H2⟩
    isplitl [H1 H2]
    · iapply hp
      isplitl [H2]; · iexact H2
      iexact H1
    isplitr; · iempintro
    isplitr; · iempintro
    isplitr; · iempintro
    iempintro
  · rw [if_neg ha] at hp
    rw [if_neg ha, if_neg ha]
    by_cases hk : P.R.kept c i = true
    · have hs : stays P.R c i := ⟨hk, by by_contra h; exact ha ⟨hk, h⟩⟩
      rw [if_pos hk, if_pos hk, if_pos hs, if_pos hs]
      iintro ⟨⟨Hx, Ho, Hs⟩, H2⟩
      isplitl [H2]
      · iapply hp
        isplitl [H2]; · iexact H2
        iempintro
      isplitl [Hx]; · iexact Hx
      isplitr; · iempintro
      isplitl [Hs]; · iexact Hs
      iexists zout; iexact Ho
    · have hs : ¬ stays P.R c i := fun h => hk h.1
      rw [if_neg hk, if_neg hk, if_neg hs, if_neg hs]
      iintro ⟨⟨Hx, Ho, -⟩, H2⟩
      isplitl [H2]
      · iapply hp
        isplitl [H2]; · iexact H2
        iempintro
      isplitl [Hx]; · iexact Hx
      isplitl [Ho]; · iexact Ho
      isplitr; · iempintro
      iempintro

/-- Slots that no peer's token fills are the device's own: its own tokens' and the empty ones. -/
theorem slot_one (s : Fin 204) :
    (if P.R.came c s then iprop(emp) else iprop(∃ f, sRow (F := F) c s f))
      ⊢ (iprop((if local' P.R c s then iprop(∃ f, sRow (F := F) c s f) else iprop(emp)) ∗ (if P.R.fill c s = true then iprop(emp) else iprop(∃ f, sRow (F := F) c s f))) : sProp 𝕄) := by
  by_cases hc : P.R.came c s
  · have hl : ¬ local' P.R c s := fun h => hc.2 h.2
    rw [if_pos hc, if_neg hl, if_pos hc.1]
    iintro -; isplitr; · iempintro
    iempintro
  · rw [if_neg hc]
    by_cases hf : P.R.fill c s = true
    · have hl : local' P.R c s := ⟨hf, by by_contra h; exact hc ⟨hf, h⟩⟩
      rw [if_pos hl, if_pos hf]
      iintro H; isplitl [H]; · iexact H
      iempintro
    · have hl : ¬ local' P.R c s := fun h => hf h.1
      rw [if_neg hl, if_neg hf]
      iintro H; isplitr; · iempintro
      iexact H

/-- Slot `s` holds the token that fills it, if one does. -/
def Holds (P : Plan F) (c : Dev nD) (s : Fin 204) (f : Stg (F := F)) : Prop :=
  P.R.fill c s = true → ∀ j ∈ rowOf (n := 2) (sh := ![204, 1, 128]) s.val, f j = P.stg c j
theorem Holds.congr (P : Plan F) (c : Dev nD) (s : Fin 204) (f g : Stg (F := F))
    (h : ∀ j ∈ rowOf (n := 2) (sh := ![204, 1, 128]) s.val, g j = f j) (hf : Holds P c s f) : Holds P c s g :=
  fun h1 j hj => (h j hj).trans (hf h1 j hj)

theorem rx_one (s : Fin 204) :
    iprop(done P c (.rx s) ∗ (if local' P.R c s then sRow c s (P.stg c) else iprop(emp)) ∗ (if P.R.fill c s = true then iprop(emp) else iprop(∃ f, sRow c s f)))
      ⊢ iprop(shut P c (.rx s) ∗ (∃ f, ⌜Holds P c s f⌝ ∗ sRow c s f)
        ∗ (if P.R.came c s then iprop(∃ f, oRow (P.R.sd c s) (P.R.sr c s) f) else iprop(emp))) := by
  have hd := done_split (P := P) (c := c) (.rx s) (φ := P.R.came c s) rfl
  by_cases hc : P.R.came c s
  · have hl : ¬ local' P.R c s := fun h => hc.2 h.2
    rw [if_pos hc] at hd
    have hd : done P c (.rx s) ⊢ iprop(shut P c (.rx s) ∗ sRow c s (P.stg c) ∗ ∃ f, oRow (P.R.sd c s) (P.R.sr c s) f) := hd
    rw [if_pos hc, if_neg hl, if_pos hc.1]
    iintro ⟨H, -, -⟩
    ihave H := hd $$ H
    icases H with ⟨H1, H2, H3⟩
    isplitl [H1]; · iexact H1
    isplitl [H2]
    · iexists (P.stg c); isplitr; · ipureintro; exact fun _ _ _ => rfl
      iexact H2
    iexact H3
  · rw [if_neg hc] at hd
    rw [if_neg hc]
    by_cases hf : P.R.fill c s = true
    · have hl : local' P.R c s := ⟨hf, by by_contra h; exact hc ⟨hf, h⟩⟩
      rw [if_pos hl, if_pos hf]
      iintro ⟨H, H2, -⟩
      ihave H := hd $$ H
      icases H with ⟨H1, -⟩
      isplitl [H1]; · iexact H1
      isplitl [H2]
      · iexists (P.stg c); isplitr; · ipureintro; exact fun _ _ _ => rfl
        iexact H2
      iempintro
    · have hl : ¬ local' P.R c s := fun h => hf h.1
      rw [if_neg hl, if_neg hf]
      iintro ⟨H, -, ⟨%f, H2⟩⟩
      ihave H := hd $$ H
      icases H with ⟨H1, -⟩
      isplitl [H1]; · iexact H1
      isplitl [H2]
      · iexists f; isplitr; · ipureintro; exact fun h => absurd h hf
        iexact H2
      iempintro

theorem rb_one (Y : Res (F := F)) (s : Fin 204) :
    iprop(rRow c s Y ∗ (if P.R.came c s then iprop(∃ f, oRow (P.R.sd c s) (P.R.sr c s) f) else iprop(emp)) ∗ oTok P c s
        ∗ (if local' P.R c s then iprop(∃ f, oRow c (P.R.sr c s) f) else iprop(emp)))
      ⊢ Rb P c Y s := by
  unfold Rb oTok
  by_cases hc : P.R.came c s
  · have hl : ¬ local' P.R c s := fun h => hc.2 h.2
    rw [if_pos hc, if_pos hc, if_neg hl, if_pos hc]
    iintro ⟨Hr, Ho, ⟨H1, H2⟩, -⟩
    isplitl [Hr]; · iexact Hr
    isplitl [Ho]; · iexact Ho
    isplitl [H1]; · iexact H1
    iexact H2
  · rw [if_neg hc, if_neg hc, if_neg hc]
    by_cases hf : P.R.fill c s = true
    · have hl : local' P.R c s := ⟨hf, by by_contra h; exact hc ⟨hf, h⟩⟩
      rw [if_pos hf, if_pos hl]
      iintro ⟨Hr, -, -, Ho⟩
      isplitl [Hr]; · iexact Hr
      iexact Ho
    · have hl : ¬ local' P.R c s := fun h => hf h.1
      rw [if_neg hf, if_neg hl]
      iintro ⟨Hr, -, -, -⟩
      isplitl [Hr]; · iexact Hr
      iempintro

theorem ra_one (Y : Res (F := F)) (s : Fin 204) :
    iprop(Ra P c Y s ∗ atPos ER (cell c (.sr s)) 0 ∅ 0)
      ⊢ iprop(pend P c (.sr s) ∗ (if P.R.came c s then iprop(emp) else rRow c s Y)
        ∗ (if local' P.R c s then iprop(∃ f, ⌜P.ok c (P.R.sr c s) (orow f (P.R.sr c s))⌝ ∗ oRow c (P.R.sr c s) f) else iprop(emp))) := by
  have hp := pend_in (P := P) (c := c) (.sr s) (φ := P.R.came c s) rfl
  unfold Ra
  by_cases hc : P.R.came c s
  · have hl : ¬ local' P.R c s := fun h => hc.2 h.2
    rw [if_pos hc] at hp
    rw [if_pos hc, if_pos hc, if_neg hl]
    iintro ⟨H1, H2⟩
    isplitl [H1 H2]
    · iapply hp
      isplitl [H2]; · iexact H2
      iexact H1
    isplitr; · iempintro
    iempintro
  · rw [if_neg hc] at hp
    rw [if_neg hc, if_neg hc]
    by_cases hf : P.R.fill c s = true
    · have hl : local' P.R c s := ⟨hf, by by_contra h; exact hc ⟨hf, h⟩⟩
      rw [if_pos hf, if_pos hl]
      iintro ⟨⟨Hr, Ho⟩, H2⟩
      isplitl [H2]
      · iapply hp
        isplitl [H2]; · iexact H2
        iempintro
      isplitl [Hr]; · iexact Hr
      iexact Ho
    · have hl : ¬ local' P.R c s := fun h => hf h.1
      rw [if_neg hf, if_neg hl]
      iintro ⟨⟨Hr, -⟩, H2⟩
      isplitl [H2]
      · iapply hp
        isplitl [H2]; · iexact H2
        iempintro
      isplitl [Hr]; · iexact Hr
      iempintro

/-- A result row is a kept token's result, or zero. -/
def Final (P : Plan F) (c : Dev nD) (i : Fin 256) (f : Out (F := F)) : Prop :=
  (P.R.kept c i = true → P.ok c i (orow f i)) ∧ (P.R.kept c i ≠ true → ∀ j ∈ rowOf (n := 2) (sh := ![256, 1, 256]) i.val, f j = zout j)
theorem Final.congr (P : Plan F) (c : Dev nD) (i : Fin 256) (f g : Out (F := F))
    (h : ∀ j ∈ rowOf (n := 2) (sh := ![256, 1, 256]) i.val, g j = f j) (hf : Final P c i f) : Final P c i g := by
  refine ⟨fun h1 => ?_, fun h1 j hj => (h j hj).trans (hf.2 h1 j hj)⟩
  have e : orow g i = orow f i := funext fun j => h (ix3 i 0 j) (mem_rowOf.mpr rfl)
  rw [e]; exact hf.1 h1

theorem rr_one (i : Fin 256) :
    iprop(done P c (.rr i) ∗ (if P.R.kept c i = true then iprop(emp) else oRow c i zout)
        ∗ (if stays P.R c i then iprop(∃ f, ⌜P.ok c i (orow f i)⌝ ∗ oRow c i f) else iprop(emp)))
      ⊢ iprop(shut P c (.rr i) ∗ ∃ f, ⌜Final P c i f⌝ ∗ oRow c i f) := by
  have hd := done_split (P := P) (c := c) (.rr i) (φ := P.R.away c i) rfl
  by_cases ha : P.R.away c i
  · have hs : ¬ stays P.R c i := fun h => ha.2 h.2
    rw [if_pos ha] at hd
    have hd : done P c (.rr i) ⊢ iprop(shut P c (.rr i) ∗ ∃ f, ⌜P.ok c i (orow f i)⌝ ∗ oRow c i f) := hd
    rw [if_pos ha.1, if_neg hs]
    iintro ⟨H, -, -⟩
    ihave H := hd $$ H
    icases H with ⟨H1, ⟨%f, %hf, H2⟩⟩
    isplitl [H1]; · iexact H1
    iexists f; isplitr; · ipureintro; exact ⟨fun _ => hf, fun h => absurd ha.1 h⟩
    iexact H2
  · rw [if_neg ha] at hd
    by_cases hk : P.R.kept c i = true
    · have hs : stays P.R c i := ⟨hk, by by_contra h; exact ha ⟨hk, h⟩⟩
      rw [if_pos hk, if_pos hs]
      iintro ⟨H, -, ⟨%f, %hf, H2⟩⟩
      ihave H := hd $$ H
      icases H with ⟨H1, -⟩
      isplitl [H1]; · iexact H1
      iexists f; isplitr; · ipureintro; exact ⟨fun _ => hf, fun h => absurd hk h⟩
      iexact H2
    · have hs : ¬ stays P.R c i := fun h => hk h.1
      rw [if_neg hk, if_neg hs]
      iintro ⟨H, H2, -⟩
      ihave H := hd $$ H
      icases H with ⟨H1, -⟩
      isplitl [H1]; · iexact H1
      iexists zout; isplitr; · ipureintro; exact ⟨fun h => absurd h hk, fun _ _ _ => rfl⟩
      iexact H2

theorem sx_one (i : Fin 256) :
    iprop(done P c (.sx i) ∗ (if P.R.away c i then iprop(emp) else xRow c i (P.X c))) ⊢ iprop(shut P c (.sx i) ∗ xRow c i (P.X c)) := by
  have hd := done_split (P := P) (c := c) (.sx i) (φ := P.R.away c i) rfl
  by_cases ha : P.R.away c i
  · rw [if_pos ha] at hd
    have hd : done P c (.sx i) ⊢ iprop(shut P c (.sx i) ∗ xRow c i (P.X c)) := hd
    rw [if_pos ha]
    iintro ⟨H, -⟩; iapply hd; iexact H
  · rw [if_neg ha] at hd
    rw [if_neg ha]
    iintro ⟨H, H2⟩
    ihave H := hd $$ H
    icases H with ⟨H1, -⟩
    isplitl [H1]; · iexact H1
    iexact H2
theorem sr_one (Y : Res (F := F)) (s : Fin 204) :
    iprop(done P c (.sr s) ∗ (if P.R.came c s then iprop(emp) else rRow c s Y)) ⊢ iprop(shut P c (.sr s) ∗ ∃ f, ⌜True⌝ ∗ rRow c s f) := by
  have hd := done_split (P := P) (c := c) (.sr s) (φ := P.R.came c s) rfl
  by_cases ha : P.R.came c s
  · rw [if_pos ha] at hd
    have hd : done P c (.sr s) ⊢ iprop(shut P c (.sr s) ∗ ∃ f, rRow c s f) := hd
    rw [if_pos ha]
    iintro ⟨H, -⟩
    ihave H := hd $$ H
    icases H with ⟨H1, ⟨%f, H2⟩⟩
    isplitl [H1]; · iexact H1
    iexists f; isplitr; · ipureintro; trivial
    iexact H2
  · rw [if_neg ha] at hd
    rw [if_neg ha]
    iintro ⟨H, H2⟩
    ihave H := hd $$ H
    icases H with ⟨H1, -⟩
    isplitl [H1]; · iexact H1
    iexists Y; isplitr; · ipureintro; trivial
    iexact H2

end Cert.MoE

end
-- ==== Proof.DispatchH.lean ====
/-
  Call 1: what its products read and write, and what is owed between the loops.
-/
module

public import proofs.«01_k».proof.Proof.DispatchG

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable {P : Plan F} {κ : GSem nD τ sig → ℕ} {c : Dev nD}

/-! ## Families, member by member -/

theorem frameL {A B C : sProp 𝕄} (h : B ⊢ C) : iprop(A ∗ B) ⊢ iprop(A ∗ C) := by
  iintro ⟨H1, H2⟩
  isplitl [H1]; · iexact H1
  iapply h; iexact H2
theorem in2 {I : Type} {A B G : I → sProp 𝕄} {s : Finset I} (h : ∀ i, iprop(A i ∗ B i) ⊢ G i) : iprop(bigSep s A ∗ bigSep s B) ⊢ bigSep s G :=
  (sep_in s A B).trans (sep_mono fun i _ => h i)
theorem in3 {I : Type} {A B C G : I → sProp 𝕄} {s : Finset I} (h : ∀ i, iprop(A i ∗ B i ∗ C i) ⊢ G i) : iprop(bigSep s A ∗ bigSep s B ∗ bigSep s C) ⊢ bigSep s G :=
  (frameL (sep_in s B C)).trans (in2 h)
theorem in4 {I : Type} {A B C D G : I → sProp 𝕄} {s : Finset I} (h : ∀ i, iprop(A i ∗ B i ∗ C i ∗ D i) ⊢ G i) :
    iprop(bigSep s A ∗ bigSep s B ∗ bigSep s C ∗ bigSep s D) ⊢ bigSep s G :=
  (frameL (frameL (sep_in s C D))).trans (in3 h)
theorem in5 {I : Type} {A B C D E G : I → sProp 𝕄} {s : Finset I} (h : ∀ i, iprop(A i ∗ B i ∗ C i ∗ D i ∗ E i) ⊢ G i) :
    iprop(bigSep s A ∗ bigSep s B ∗ bigSep s C ∗ bigSep s D ∗ bigSep s E) ⊢ bigSep s G :=
  (frameL (frameL (frameL (sep_in s D E)))).trans (in4 h)
theorem out2 {I : Type} {A B G : I → sProp 𝕄} {s : Finset I} (h : ∀ i, G i ⊢ iprop(A i ∗ B i)) : bigSep s G ⊢ iprop(bigSep s A ∗ bigSep s B) :=
  (sep_mono fun i _ => h i).trans (sep_out s A B)
theorem out3 {I : Type} {A B C G : I → sProp 𝕄} {s : Finset I} (h : ∀ i, G i ⊢ iprop(A i ∗ B i ∗ C i)) : bigSep s G ⊢ iprop(bigSep s A ∗ bigSep s B ∗ bigSep s C) :=
  (out2 h).trans (frameL (sep_out s B C))
theorem out4 {I : Type} {A B C D G : I → sProp 𝕄} {s : Finset I} (h : ∀ i, G i ⊢ iprop(A i ∗ B i ∗ C i ∗ D i)) :
    bigSep s G ⊢ iprop(bigSep s A ∗ bigSep s B ∗ bigSep s C ∗ bigSep s D) :=
  (out3 h).trans (frameL (frameL (sep_out s C D)))
theorem out5 {I : Type} {A B C D E G : I → sProp 𝕄} {s : Finset I} (h : ∀ i, G i ⊢ iprop(A i ∗ B i ∗ C i ∗ D i ∗ E i)) :
    bigSep s G ⊢ iprop(bigSep s A ∗ bigSep s B ∗ bigSep s C ∗ bigSep s D ∗ bigSep s E) :=
  (out4 h).trans (frameL (frameL (frameL (sep_out s D E))))

/-! ## What is read and written whole -/

abbrev Ew := (cc1_stg7_0 : Ref sig .tc).ty.Contents (Elt F)
/-- The rows of the `k`-th expert's slots, and its weights. -/
def half (k : Fin 2) (g : Stg (F := F)) : Vec F S102x1x128 .bf16 := fun i => g (ix3 (e k (i 0)) 0 (i 2))
def ewk (k : Fin 2) (ew : Ew (F := F)) : Vec F S1x128x256 .bf16 := fun i => ew (ix3 k (i 1) (i 2))

theorem zero_write (f : Out (F := F)) {inb} :
    ((Memref.whole cc1_stg8_0).access (Rect.unit (s := S256x1x256) ![0, 0, 0] S256x1x256.size inb) : View sig .tc _ _ _).write (Elt F) f (k1_pay1 (F := F)) Finset.univ = zout := by
  funext j
  have e : ((Memref.whole cc1_stg8_0).access (Rect.unit (s := S256x1x256) ![0, 0, 0] S256x1x256.size inb) : View sig .tc _ _ _).emb j = j := by
    funext a; apply Fin.ext
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega
  conv_lhs => rw [← e]
  rw [View.write_emb_of_mem _ _ (Finset.mem_univ _)]
  rfl

theorem half0_read (g : Stg (F := F)) {inb} :
    ((Memref.whole cc1_scratch0).access (Rect.unit (s := S204x1x128) ![0, 0, 0] S102x1x128.size inb) : View sig .tc _ _ _).read (Elt F) g = half 0 g := by
  funext i
  show g _ = g _
  congr 1
  funext a; apply Fin.ext
  match a with
  | ⟨0, _⟩ => show 0 + 1 * (i 0).val = 102 * 0 + (i 0).val; omega
  | ⟨1, _⟩ => have : (i 1).val < 1 := (i 1).isLt; show 0 + 1 * (i 1).val = 0; omega
  | ⟨2, _⟩ => show 0 + 1 * (i 2).val = (i 2).val; omega
theorem half1_read (g : Stg (F := F)) {inb} :
    ((Memref.whole cc1_scratch0).access (Rect.unit (s := S204x1x128) ![102, 0, 0] S102x1x128.size inb) : View sig .tc _ _ _).read (Elt F) g = half 1 g := by
  funext i
  show g _ = g _
  congr 1
  funext a; apply Fin.ext
  match a with
  | ⟨0, _⟩ => show 102 + 1 * (i 0).val = 102 * 1 + (i 0).val; omega
  | ⟨1, _⟩ => have : (i 1).val < 1 := (i 1).isLt; show 0 + 1 * (i 1).val = 0; omega
  | ⟨2, _⟩ => show 0 + 1 * (i 2).val = (i 2).val; omega
theorem ew0_read (g : Ew (F := F)) {inb} :
    ((Memref.whole cc1_stg7_0).access (Rect.unit (s := S2x128x256) ![0, 0, 0] S1x128x256.size inb) : View sig .tc _ _ _).read (Elt F) g = ewk 0 g := by
  funext i
  show g _ = g _
  congr 1
  funext a; apply Fin.ext
  match a with
  | ⟨0, _⟩ => have : (i 0).val < 1 := (i 0).isLt; show 0 + 1 * (i 0).val = 0; omega
  | ⟨1, _⟩ => show 0 + 1 * (i 1).val = (i 1).val; omega
  | ⟨2, _⟩ => show 0 + 1 * (i 2).val = (i 2).val; omega
theorem ew1_read (g : Ew (F := F)) {inb} :
    ((Memref.whole cc1_stg7_0).access (Rect.unit (s := S2x128x256) ![1, 0, 0] S1x128x256.size inb) : View sig .tc _ _ _).read (Elt F) g = ewk 1 g := by
  funext i
  show g _ = g _
  congr 1
  funext a; apply Fin.ext
  match a with
  | ⟨0, _⟩ => have : (i 0).val < 1 := (i 0).isLt; show 1 + 1 * (i 0).val = 1; omega
  | ⟨1, _⟩ => show 0 + 1 * (i 1).val = (i 1).val; omega
  | ⟨2, _⟩ => show 0 + 1 * (i 2).val = (i 2).val; omega

/-- The results' buffer once both halves are written. -/
abbrev put0 (f : Res (F := F)) (p : FVec F S102x1x256 .f32) : Res (F := F) :=
  ((Memref.whole cc1_scratch1).access (Rect.unit (s := S204x1x256) ![0, 0, 0] S102x1x256.size inb_S204x1x256_S102x1x256_0_0_0) : View sig .tc _ _ _).write (Elt F) f p Finset.univ
abbrev put1 (f : Res (F := F)) (p : FVec F S102x1x256 .f32) : Res (F := F) :=
  ((Memref.whole cc1_scratch1).access (Rect.unit (s := S204x1x256) ![102, 0, 0] S102x1x256.size inb_S204x1x256_S102x1x256_102_0_0) : View sig .tc _ _ _).write (Elt F) f p Finset.univ

theorem put1_row (f : Res (F := F)) (p) (j : Fin 102) : rrow (put1 f p) (e 1 j) = fun m => p (ix3 j 0 m) := by
  funext m
  have h : ((Memref.whole cc1_scratch1).access (Rect.unit (s := S204x1x256) ![102, 0, 0] S102x1x256.size inb_S204x1x256_S102x1x256_102_0_0) : View sig .tc _ _ _).emb (ix3 j 0 m) = ix3 (e 1 j) 0 m := by
    funext a; apply Fin.ext
    match a with
    | ⟨0, _⟩ => show 102 + 1 * j.val = 102 * 1 + j.val; omega
    | ⟨1, _⟩ => rfl
    | ⟨2, _⟩ => show 0 + 1 * m.val = m.val; omega
  show put1 f p (ix3 (e 1 j) 0 m) = _
  rw [← h]
  exact View.write_emb_of_mem _ _ (Finset.mem_univ _)
theorem put0_row (f : Res (F := F)) (p q) (j : Fin 102) : rrow (put1 (put0 f p) q) (e 0 j) = fun m => p (ix3 j 0 m) := by
  funext m
  have h : ((Memref.whole cc1_scratch1).access (Rect.unit (s := S204x1x256) ![0, 0, 0] S102x1x256.size inb_S204x1x256_S102x1x256_0_0_0) : View sig .tc _ _ _).emb (ix3 j 0 m) = ix3 (e 0 j) 0 m := by
    funext a; apply Fin.ext
    match a with
    | ⟨0, _⟩ => show 0 + 1 * j.val = 102 * 0 + j.val; omega
    | ⟨1, _⟩ => rfl
    | ⟨2, _⟩ => show 0 + 1 * m.val = m.val; omega
  have hn : (ix3 (e 0 j) 0 m : (cc1_scratch1 : Ref sig .tc).ty.Idx) ∉ ((Memref.whole cc1_scratch1).access (Rect.unit (s := S204x1x256) ![102, 0, 0] S102x1x256.size inb_S204x1x256_S102x1x256_102_0_0) : View sig .tc _ _ _).setOn Finset.univ := by
    intro hm
    rw [View.setOn_univ] at hm
    have hm : (ix3 (e 0 j) 0 m : (cc1_scratch1 : Ref sig .tc).ty.Idx) ∈ ((View.whole cc1_scratch1).slice (Rect.unit (s := S204x1x256) ![102, 0, 0] S102x1x256.size inb_S204x1x256_S102x1x256_102_0_0)).set := hm
    rw [View.set_slice_whole] at hm
    have h1 : 102 ≤ (e 0 j).val := (Rect.mem_set_unit.mp hm 0).1
    have h2 : (e 0 j).val = 102 * 0 + j.val := rfl
    have := j.isLt; omega
  refine (View.write_of_not_mem _ _ _ hn).trans ?_
  show put0 f p (ix3 (e 0 j) 0 m) = _
  rw [← h]
  exact View.write_emb_of_mem _ _ (Finset.mem_univ _)

theorem pay3_eq (n : Elt F .i32) (v : Vec F S102x1x128 .bf16) (w : Vec F S1x128x256 .bf16) : k1_pay3 n v w = k1_pay4 n v w := by
  unfold k1_pay3 k1_pay4
  exact shapeCast_self _ _
theorem pay5_eq (v : FVec F S102x1x256 .f32) : k1_pay5 v = v := by
  unfold k1_pay5
  exact shapeCast_self _ _

/-- What the products have to give: at a filled slot, the result row of the token that fills it. -/
def Good (P : Plan F) {c : Dev nD} (T : Tabs (F := F) P.R c) (ew : Ew (F := F)) : Prop :=
  ∀ g : Stg (F := F), (∀ s, Holds P c s g) → ∀ (k : Fin 2) (j : Fin 102), P.R.fill c (e k j) = true →
    P.ok (P.R.sd c (e k j)) (P.R.sr c (e k j)) (fun m => k1_pay4 (cw T k) (half k g) (ewk k ew) (ix3 j 0 m))

theorem good_rows {T : Tabs (F := F) P.R c} {ew : Ew (F := F)} (hG : Good P T ew) {g : Stg (F := F)} (hg : ∀ s, Holds P c s g) (f : Res (F := F)) :
    ∀ s, P.R.fill c s = true → P.ok (P.R.sd c s) (P.R.sr c s)
      (rrow (put1 (put0 f (k1_pay3 (cw T 0) (half 0 g) (ewk 0 ew))) (k1_pay5 (k1_pay4 (cw T 1) (half 1 g) (ewk 1 ew)))) s) := by
  intro s hs
  rw [pay3_eq, pay5_eq]
  by_cases h : s.val < 102
  · obtain ⟨j, rfl⟩ : ∃ j : Fin 102, s = e 0 j := ⟨⟨s.val, h⟩, Fin.ext (by show s.val = 102 * 0 + s.val; omega)⟩
    rw [put0_row]; exact hG g hg 0 j hs
  · obtain ⟨j, rfl⟩ : ∃ j : Fin 102, s = e 1 j := ⟨⟨s.val - 102, by have := s.isLt; omega⟩, Fin.ext (by show s.val = 102 * 1 + (s.val - 102); omega)⟩
    rw [put1_row]; exact hG g hg 1 j hs

/-! ## What is owed -/

theorem rxT_above {n : ℕ} (hn : n < 4) (R : Routing) (c : Dev nD) (i : Fin 256) : Above n (rxT R c i) := by
  unfold rxT; split
  · exact Above.tally hn
  · exact Above.zero
theorem rrT_above {n : ℕ} (hn : n < 5) (R : Routing) (c : Dev nD) (s : Fin 204) : Above n (rrT R c s) := by
  unfold rrT; split
  · exact Above.tally hn
  · exact Above.zero
/-- The results of both experts' slots. -/
abbrev rrD (R : Routing) (c : Dev nD) (D : CellTallies nD τ sig Unit) : CellTallies nD τ sig Unit :=
  D + ∑ j : Fin 102, rrT R c (e 1 j) + ∑ j : Fin 102, rrT R c (e 0 j)
theorem rrD_above {n : ℕ} (hn : n < 5) (R : Routing) (c : Dev nD) {D : CellTallies nD τ sig Unit} (hD : Above 5 D) : Above n (rrD R c D) :=
  ((hD.mono (by omega)).add (Above.sum fun j _ => rrT_above hn R c _)).add (Above.sum fun j _ => rrT_above hn R c _)

/-- A loop that leaves the open cells alone. -/
theorem loop_frame {α : Type} {p : Prog (TpuEff nD τ sig (Elt F) Λ₀ .tc) α} {A B R : sProp 𝕄}
    (h : A ⊢ run c p (fun _ => B)) : iprop(A ∗ R) ⊢ run c p (fun _ => iprop(B ∗ R)) := by
  unfold run at h ⊢
  iintro ⟨HA, HR⟩
  ihave Hw := h $$ HA
  iapply (wp_wand _ _ _) $$ Hw
  iintro %_ HB
  isplitl [HB]; · iexact HB
  iexact HR

end Cert.MoE

end
-- ==== Proof.DispatchI.lean ====
/-
  Call 1: from its signals to the first received tokens.
-/
module

public import proofs.«01_k».proof.Proof.DispatchH

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable {P : Plan F} {κ : GSem nD τ sig → ℕ} {c : Dev nD} (T : Tabs (F := F) P.R c)

/-! ## What call 1 holds, stage by stage -/

abbrev ewOwn (c : Dev nD) (ew : Ew (F := F)) : sProp 𝕄 := ((c : Thread nD τ).loc cc1_stg7_0) ↦[Finset.univ]{fullShare} ew
abbrev xOwn (P : Plan F) (c : Dev nD) : sProp 𝕄 := ((c : Thread nD τ).loc cc1_stg6_0) ↦[Finset.univ]{fullShare} P.X c
abbrev oOwn (c : Dev nD) (f : Out (F := F)) : sProp 𝕄 := ((c : Thread nD τ).loc cc1_stg8_0) ↦[Finset.univ]{fullShare} f
abbrev rOwn (c : Dev nD) (f : Res (F := F)) : sProp 𝕄 := ((c : Thread nD τ).loc cc1_scratch1) ↦[Finset.univ]{fullShare} f
abbrev sOwn (c : Dev nD) (f : Stg (F := F)) : sProp 𝕄 := ((c : Thread nD τ).loc cc1_scratch0) ↦[Finset.univ]{fullShare} f

/-- Held aside until the results are sent. -/
def late (P : Plan F) (c : Dev nD) : sProp 𝕄 :=
  iprop(bigSep Finset.univ (oTok P c) ∗ bigSep Finset.univ (fun i : Fin 256 => pend P c (.rr i)) ∗ bigSep Finset.univ (fun s : Fin 204 => atPos ER (cell c (.sr s)) 0 ∅ 0))

/-- Before the signals, beside them. -/
def dKeep (P : Plan F) (c : Dev nD) (ew : Ew (F := F)) : sProp 𝕄 :=
  iprop(xOwn P c ∗ ewOwn c ew ∗ (∃ f, oOwn c f) ∗ (∃ f, rOwn c f)
    ∗ (bigSep Finset.univ (fun i : Fin 256 => reached ER (cell c (.sx i)) 0) ∗ bigSep Finset.univ (fun s : Fin 204 => reached ER (cell c (.sr s)) 0)
      ∗ bigSep Finset.univ (fun s : Fin 204 => reached ER (cell c (.rx s)) 0) ∗ bigSep Finset.univ (fun i : Fin 256 => reached ER (cell c (.rr i)) 0))
    ∗ bigSep Finset.univ (fun s : Fin 204 => if P.R.came c s then iprop(emp) else iprop(∃ f, sRow (F := F) c s f))
    ∗ bigSep Finset.univ (xTok P c) ∗ bigSep Finset.univ (fun s : Fin 204 => pend P c (.rx s))
    ∗ bigSep Finset.univ (fun i : Fin 256 => atPos ER (cell c (.sx i)) 0 ∅ 0) ∗ late P c)

/-- Once the tokens are sent. -/
def mid (P : Plan F) (c : Dev nD) (ew : Ew (F := F)) : sProp 𝕄 :=
  iprop(atPos ER (cell c .b1) (0 + 1) ∅ 0 ∗ ewOwn c ew ∗ (∃ f, rOwn c f)
    ∗ bigSep Finset.univ (fun s : Fin 204 => if local' P.R c s then sRow c s (P.stg c) else iprop(emp))
    ∗ bigSep Finset.univ (fun s : Fin 204 => if P.R.fill c s = true then iprop(emp) else iprop(∃ f, sRow (F := F) c s f)))
def rest (P : Plan F) (c : Dev nD) : sProp 𝕄 :=
  iprop(bigSep Finset.univ (fun i : Fin 256 => pend P c (.sx i)) ∗ bigSep Finset.univ (fun i : Fin 256 => if P.R.away c i then iprop(emp) else xRow c i (P.X c))
    ∗ bigSep Finset.univ (fun i : Fin 256 => if P.R.kept c i = true then iprop(emp) else oRow (F := F) c i zout)
    ∗ bigSep Finset.univ (fun s : Fin 204 => if local' P.R c s then iprop(∃ f, oRow (F := F) c (P.R.sr c s) f) else iprop(emp))
    ∗ late P c)

/-- From the signals' payloads to the loop that sends the tokens. -/
theorem open_all (ew : Ew (F := F)) :
    iprop(bigSep Finset.univ (fun k : Fin 31 => pay P c .b1 k) ∗ xOwn P c ∗ oOwn c zout
      ∗ (bigSep Finset.univ (fun i : Fin 256 => reached ER (cell c (.sx i)) 0) ∗ bigSep Finset.univ (fun s : Fin 204 => reached ER (cell c (.sr s)) 0)
        ∗ bigSep Finset.univ (fun s : Fin 204 => reached ER (cell c (.rx s)) 0) ∗ bigSep Finset.univ (fun i : Fin 256 => reached ER (cell c (.rr i)) 0))
      ∗ bigSep Finset.univ (fun s : Fin 204 => if P.R.came c s then iprop(emp) else iprop(∃ f, sRow (F := F) c s f))
      ∗ bigSep Finset.univ (xTok P c))
      ⊢ iprop(opn c ∗ bigSep Finset.univ (Tb P c)
        ∗ bigSep Finset.univ (fun s : Fin 204 => if P.R.fill c s = true then iprop(emp) else iprop(∃ f, sRow (F := F) c s f))) := by
  iintro ⟨Hp, Hx, Ho, ⟨R1, R2, R3, R4⟩, Hs, Ht⟩
  ihave Hp := pays_in P c $$ Hp
  icases Hp with ⟨Ha, R5, R6⟩
  ihave Hs := (out2 (s := Finset.univ) (slot_one (P := P) (c := c))) $$ Hs
  icases Hs with ⟨Hl, Hn⟩
  isplitl [R1 R2 R3 R4 R5 R6]
  · iapply (opn_all c)
    isplitl [R1]; · iexact R1
    isplitl [R2]; · iexact R2
    isplitl [R3]; · iexact R3
    isplitl [R4]; · iexact R4
    isplitl [R5]; · iexact R5
    iexact R6
  isplitr [Hn]
  · iapply (in5 (s := Finset.univ) (tb_one (P := P) (c := c)))
    isplitl [Hx]
    · iapply (Entails.of_eq (x_rows c (P.X c)).symm); iexact Hx
    isplitl [Ho]
    · iapply (Entails.of_eq (o_rows c zout).symm); iexact Ho
    isplitl [Ha]; · iexact Ha
    isplitl [Ht]; · iexact Ht
    iapply (Entails.of_eq (own_match P.R c (fun s => iprop(∃ f, sRow (F := F) c s f)))); iexact Hl
  iexact Hn

/-- After the loop that sends the tokens. -/
theorem sent_all :
    iprop(bigSep Finset.univ (Ta P c) ∗ bigSep Finset.univ (fun i : Fin 256 => atPos ER (cell c (.sx i)) 0 ∅ 0))
      ⊢ iprop(bigSep Finset.univ (fun i : Fin 256 => pend P c (.sx i)) ∗ bigSep Finset.univ (fun i : Fin 256 => if P.R.away c i then iprop(emp) else xRow c i (P.X c))
        ∗ bigSep Finset.univ (fun i : Fin 256 => if P.R.kept c i = true then iprop(emp) else oRow (F := F) c i zout)
        ∗ bigSep Finset.univ (fun s : Fin 204 => if local' P.R c s then sRow c s (P.stg c) else iprop(emp))
        ∗ bigSep Finset.univ (fun s : Fin 204 => if local' P.R c s then iprop(∃ f, oRow (F := F) c (P.R.sr c s) f) else iprop(emp))) := by
  rw [own_match P.R c (fun s => sRow c s (P.stg c)), ← own_match' P.R c (fun i => iprop(∃ f, oRow (F := F) c i f))]
  exact (sep_in _ _ _).trans (out5 (ta_one (P := P) (c := c)))

theorem k1part6_run {D : CellTallies nD τ sig Unit} (hD : Above 5 D) (ew : Ew (F := F)) (v3 : Sems sig S_) (v120 w : BitVec 32) (h3 : SemLoc.reg v3.sem = ssem .b1) :
    iprop(ctx P κ ∗ sigs P .b1 c (rrD P.R c D + ∑ i : Fin 256, rxT P.R c i) 29
        ∗ (tabs T ∗ atPos ER (cell c .b1) 0 ∅ 0 ∗ cred (tallyAt (cell c .b1) () 31) ∗ dKeep P c ew))
      ⊢ run c (k1_part6 (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (me c) v3 v120 w)
        (fun r => iprop(⌜r.1 = cw T 1⌝ ∗ (ctx P κ ∗ tabs T ∗ owing c (rrD P.R c D)) ∗ opn c ∗ mid P c ew
          ∗ bigSep Finset.univ (fun x : Fin 102 => done P c (.rx (e 0 x))) ∗ bigSep Finset.univ (fun x : Fin 102 => pend P c (.rx (e 1 x))) ∗ rest P c)) := by
  rw [k1_part6_eq_skeleton]; unfold k1_part6_skel
  refine run_seq (sig1_step (P := P) (κ := κ) 29 (k1_dev30_eq c) h3) fun _ => ?_
  refine run_seq (sig1_step (P := P) (κ := κ) 30 (k1_dev31_eq c) h3) fun _ => ?_
  have hD' : Above (lvK .b1) (rrD P.R c D + ∑ i : Fin 256, rxT P.R c i) :=
    (rrD_above (show 3 < 5 by omega) P.R c hD).add (Above.sum fun i _ => rxT_above (show 3 < 4 by omega) P.R c i)
  have hw := bwait_step (P := P) (κ := κ) .b1 (.inr rfl) (c := c) hD' h3
  unfold sigs dKeep
  have e31 : (30 : Fin 31).val + 1 = 31 := rfl
  rw [e31, finFrom_self, bigSep_empty, Finset.sum_empty, add_zero]
  iintro ⟨#Hc, ⟨-, HO⟩, Ht, Hb, Hcr, Hx, He, ⟨%f, Ho⟩, Hr, HR, Hs, Hxt, Hrx, Hsx, Hl⟩
  iapply (bind_step hw) $$ [HO Hb Hcr]
  · isplitr; · iexact Hc
    isplitl [Hb]; · iexact Hb
    isplitl [Hcr]; · iexact Hcr
    iexact HO
  iintro %_ ⟨-, Hb, Hp, HO⟩
  iapply (bind_step (load_step (m := Memref.whole cc1_stg8_0) (r := Rect.unit (s := S256x1x256) ![0, 0, 0] S256x1x256.size inb_S256x1x256_S256x1x256_0_0_0)
    (S := Finset.univ) (q := fullShare) (f := f) (R := iprop(emp)) (Finset.subset_univ _))) $$ [Ho]
  · isplitl [Ho]; · iexact Ho
    iempintro
  iintro %_ ⟨-, Ho, -⟩
  iapply (bind_step (store_step (m := Memref.whole cc1_stg8_0) (r := Rect.unit (s := S256x1x256) ![0, 0, 0] S256x1x256.size inb_S256x1x256_S256x1x256_0_0_0)
    (S := Finset.univ) (f := f) (R := iprop(emp)) (Finset.subset_univ _))) $$ [Ho]
  · isplitl [Ho]; · iexact Ho
    iempintro
  iintro %_ ⟨Ho, -⟩
  ihave Ho := (Entails.of_eq (congrArg (oOwn c) (zero_write f)) : _ ⊢ oOwn c zout) $$ Ho
  ihave H := (open_all (P := P) (c := c) ew) $$ [Hp Hx Ho HR Hs Hxt]
  · isplitl [Hp]; · iexact Hp
    isplitl [Hx]; · iexact Hx
    isplitl [Ho]; · iexact Ho
    isplitl [HR]; · iexact HR
    isplitl [Hs]; · iexact Hs
    iexact Hxt
  icases H with ⟨#Hop, Htb, Hn⟩
  iapply (bind_step (t1_run T v3 v120 w)) $$ [Ht HO Htb]
  · isplitr [Htb]
    · isplitr; · iexact Hc
      isplitr; · iexact Hop
      isplitl [Ht]; · iexact Ht
      iexact HO
    iexact Htb
  iintro %_ ⟨⟨-, -, Ht, HO⟩, Hta⟩
  ihave H := (sent_all (P := P) (c := c)) $$ [Hta Hsx]
  · isplitl [Hta]; · iexact Hta
    iexact Hsx
  icases H with ⟨Hpx, Hxr, Hoz, Hls, Hlo⟩
  iapply (bind_step (n_step T 0 rfl)) $$ Ht
  iintro %v ⟨%hv, Ht⟩
  have hv : v = cw T 0 := hv.trans (T.hn 0)
  subst hv
  iapply (assume_bind (chk5 T))
  ihave Hrx := (Entails.of_eq (halves (fun s => pend P c (.rx s)))) $$ Hrx
  icases Hrx with ⟨Hrx0, Hrx1⟩
  iapply (bind_step (t2_run T (rrD_above (show 4 < 5 by omega) P.R c hD) (me c) v3 v120 w (chk5 T))) $$ [Ht HO Hrx0]
  · isplitr [Hrx0]
    · isplitr; · iexact Hc
      isplitl [Ht]; · iexact Ht
      iexact HO
    iexact Hrx0
  iintro %_ ⟨⟨-, Ht, HO⟩, Hrx0⟩
  iapply (bind_step (loop0_run (A := tabs T) (k1_t3_loop (cw T 0)) (k1_t3_ok (cw T 0) (chk5 T)) (cnt_rem T 0) _)) $$ Ht
  iintro %_ Ht
  iapply (bind_step (n_step T 1 rfl)) $$ Ht
  iintro %v ⟨%hv, Ht⟩
  have hv : v = cw T 1 := hv.trans (T.hn 1)
  subst hv
  iapply (assume_bind (chk8 T))
  iapply (run_pure .rfl)
  isplitr; · ipureintro; rfl
  isplitl [Ht HO]
  · isplitr; · iexact Hc
    isplitl [Ht]; · iexact Ht
    iexact HO
  isplitr; · iexact Hop
  unfold mid rest
  isplitl [Hb He Hr Hls Hn]
  · isplitl [Hb]; · iexact Hb
    isplitl [He]; · iexact He
    isplitl [Hr]; · iexact Hr
    isplitl [Hls]; · iexact Hls
    iexact Hn
  isplitl [Hrx0]; · iexact Hrx0
  isplitl [Hrx1]; · iexact Hrx1
  isplitl [Hpx]; · iexact Hpx
  isplitl [Hxr]; · iexact Hxr
  isplitl [Hoz]; · iexact Hoz
  isplitl [Hlo]; · iexact Hlo
  iexact Hl

end Cert.MoE

end
-- ==== Proof.DispatchJ.lean ====
/-
  Call 1: its products, the results' way back, and its end.
-/
module

public import proofs.«01_k».proof.Proof.DispatchI

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable {P : Plan F} {κ : GSem nD τ sig → ℕ} {c : Dev nD} (T : Tabs (F := F) P.R c)

/-- Once all tokens have come. -/
theorem come_all :
    iprop(bigSep Finset.univ (fun s : Fin 204 => done P c (.rx s))
      ∗ bigSep Finset.univ (fun s : Fin 204 => if local' P.R c s then sRow c s (P.stg c) else iprop(emp))
      ∗ bigSep Finset.univ (fun s : Fin 204 => if P.R.fill c s = true then iprop(emp) else iprop(∃ f, sRow (F := F) c s f)))
      ⊢ iprop(bigSep Finset.univ (fun s : Fin 204 => shut P c (.rx s)) ∗ (∃ g : Stg (F := F), ⌜∀ s, Holds P c s g⌝ ∗ sOwn c g)
        ∗ bigSep Finset.univ (fun s : Fin 204 => if P.R.came c s then iprop(∃ f, oRow (F := F) (P.R.sd c s) (P.R.sr c s) f) else iprop(emp))) := by
  refine BIBase.Entails.trans ((in3 (s := Finset.univ) (G := fun s => iprop(done P c (.rx s) ∗ (if local' P.R c s then sRow c s (P.stg c) else iprop(emp)) ∗ (if P.R.fill c s = true then iprop(emp) else iprop(∃ f, sRow (F := F) c s f)))) (fun s => .rfl)).trans (out3 (rx_one (P := P) (c := c)))) ?_
  iintro ⟨H1, H2, H3⟩
  isplitl [H1]; · iexact H1
  isplitl [H2]
  · iapply (s_join c (Holds P c) (Holds.congr P c)); iexact H2
  iexact H3

/-- With the products under way: the stage, and the results' buffer with the first expert's in it. -/
def work (P : Plan F) (c : Dev nD) (ew : Ew (F := F)) (g : Stg (F := F)) (Y : Res (F := F)) : sProp 𝕄 :=
  iprop(atPos ER (cell c .b1) (0 + 1) ∅ 0 ∗ ewOwn c ew ∗ sOwn c g ∗ rOwn c Y ∗ bigSep Finset.univ (fun s : Fin 204 => shut P c (.rx s))
    ∗ bigSep Finset.univ (fun s : Fin 204 => if P.R.came c s then iprop(∃ f, oRow (F := F) (P.R.sd c s) (P.R.sr c s) f) else iprop(emp)))

theorem k1part7_run {D : CellTallies nD τ sig Unit} (hD : Above 5 D) (ew : Ew (F := F)) (hw8 : k1_chk8 (cw T 1)) (a1 a2 a3 : BitVec 32) :
    iprop((ctx P κ ∗ tabs T ∗ owing c (rrD P.R c D)) ∗ opn c ∗ mid P c ew
          ∗ bigSep Finset.univ (fun x : Fin 102 => done P c (.rx (e 0 x))) ∗ bigSep Finset.univ (fun x : Fin 102 => pend P c (.rx (e 1 x))) ∗ rest P c)
      ⊢ run c (k1_part7 (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (me c) (cw T 1) hw8 a1 a2 a3)
        (fun v => iprop(∃ (g : Stg (F := F)) (f : Res (F := F)), ⌜(∀ s, Holds P c s g) ∧ v = k1_pay4 (cw T 1) (half 1 g) (ewk 1 ew)⌝
          ∗ (ctx P κ ∗ tabs T ∗ owing c (rrD P.R c D)) ∗ opn c ∗ work P c ew g (put0 f (k1_pay3 (cw T 0) (half 0 g) (ewk 0 ew))) ∗ rest P c)) := by
  rw [k1_part7_eq_skeleton]; unfold k1_part7_skel
  unfold mid
  iintro ⟨⟨#Hc, Ht, HO⟩, #Hop, ⟨Hb, He, ⟨%f, Hr⟩, Hls, Hn⟩, Hrx0, Hrx1, Hrest⟩
  iapply (bind_step (t4_run T (rrD_above (show 4 < 5 by omega) P.R c hD) (me c) a1 a2 a3 hw8)) $$ [Ht HO Hrx1]
  · isplitr [Hrx1]
    · isplitr; · iexact Hc
      isplitl [Ht]; · iexact Ht
      iexact HO
    iexact Hrx1
  iintro %_ ⟨⟨-, Ht, HO⟩, Hrx1⟩
  iapply (bind_step (loop0_run (A := tabs T) (k1_t5_loop (cw T 1)) (k1_t5_ok (cw T 1) hw8) (cnt_rem T 1) _)) $$ Ht
  iintro %_ Ht
  ihave Hd := (Entails.of_eq (halves (fun s => done P c (.rx s))).symm) $$ [Hrx0 Hrx1]
  · isplitl [Hrx0]; · iexact Hrx0
    iexact Hrx1
  ihave H := (come_all (P := P) (c := c)) $$ [Hd Hls Hn]
  · isplitl [Hd]; · iexact Hd
    isplitl [Hls]; · iexact Hls
    iexact Hn
  icases H with ⟨Hsh, ⟨%g, %hg, Hs⟩, Hor⟩
  iapply (bind_step (n_step T 0 rfl)) $$ Ht
  iintro %v ⟨%hv, Ht⟩
  have hv : v = cw T 0 := hv.trans (T.hn 0)
  subst hv
  iapply (bind_step (load_step (m := Memref.whole cc1_scratch0) (r := Rect.unit (s := S204x1x128) ![0, 0, 0] S102x1x128.size inb_S204x1x128_S102x1x128_0_0_0)
    (S := Finset.univ) (q := fullShare) (f := g) (R := iprop(emp)) (Finset.subset_univ _))) $$ [Hs]
  · isplitl [Hs]; · iexact Hs
    iempintro
  iintro %v ⟨%hv, Hs, -⟩
  have hv : v = half 0 g := hv.trans (half0_read g)
  subst hv
  iapply (bind_step (load_step (m := Memref.whole cc1_stg7_0) (r := Rect.unit (s := S2x128x256) ![0, 0, 0] S1x128x256.size inb_S2x128x256_S1x128x256_0_0_0)
    (S := Finset.univ) (q := fullShare) (f := ew) (R := iprop(emp)) (Finset.subset_univ _))) $$ [He]
  · isplitl [He]; · iexact He
    iempintro
  iintro %v ⟨%hv, He, -⟩
  have hv : v = ewk 0 ew := hv.trans (ew0_read ew)
  subst hv
  iapply (bind_step (load_step (m := Memref.whole cc1_scratch1) (r := Rect.unit (s := S204x1x256) ![0, 0, 0] S102x1x256.size inb_S204x1x256_S102x1x256_0_0_0)
    (S := Finset.univ) (q := fullShare) (f := f) (R := iprop(emp)) (Finset.subset_univ _))) $$ [Hr]
  · isplitl [Hr]; · iexact Hr
    iempintro
  iintro %_ ⟨-, Hr, -⟩
  iapply (bind_step (store_step (m := Memref.whole cc1_scratch1) (r := Rect.unit (s := S204x1x256) ![0, 0, 0] S102x1x256.size inb_S204x1x256_S102x1x256_0_0_0)
    (S := Finset.univ) (f := f) (R := iprop(emp)) (Finset.subset_univ _))) $$ [Hr]
  · isplitl [Hr]; · iexact Hr
    iempintro
  iintro %_ ⟨Hr, -⟩
  iapply (bind_step (n_step T 1 rfl)) $$ Ht
  iintro %v ⟨%hv, Ht⟩
  have hv : v = cw T 1 := hv.trans (T.hn 1)
  subst hv
  iapply (bind_step (load_step (m := Memref.whole cc1_scratch0) (r := Rect.unit (s := S204x1x128) ![102, 0, 0] S102x1x128.size inb_S204x1x128_S102x1x128_102_0_0)
    (S := Finset.univ) (q := fullShare) (f := g) (R := iprop(emp)) (Finset.subset_univ _))) $$ [Hs]
  · isplitl [Hs]; · iexact Hs
    iempintro
  iintro %v ⟨%hv, Hs, -⟩
  have hv : v = half 1 g := hv.trans (half1_read g)
  subst hv
  iapply (bind_step (load_step (m := Memref.whole cc1_stg7_0) (r := Rect.unit (s := S2x128x256) ![1, 0, 0] S1x128x256.size inb_S2x128x256_S1x128x256_1_0_0)
    (S := Finset.univ) (q := fullShare) (f := ew) (R := iprop(emp)) (Finset.subset_univ _))) $$ [He]
  · isplitl [He]; · iexact He
    iempintro
  iintro %v ⟨%hv, He, -⟩
  have hv : v = ewk 1 ew := hv.trans (ew1_read ew)
  subst hv
  iapply (bind_step (load_step (m := Memref.whole cc1_scratch1) (r := Rect.unit (s := S204x1x256) ![102, 0, 0] S102x1x256.size inb_S204x1x256_S102x1x256_102_0_0)
    (S := Finset.univ) (q := fullShare) (f := put0 f (k1_pay3 (cw T 0) (half 0 g) (ewk 0 ew))) (R := iprop(emp)) (Finset.subset_univ _))) $$ [Hr]
  · isplitl [Hr]; · iexact Hr
    iempintro
  iintro %_ ⟨-, Hr, -⟩
  iapply (run_pure .rfl)
  iexists g; iexists f
  isplitr; · ipureintro; exact ⟨hg, rfl⟩
  isplitl [Ht HO]
  · isplitr; · iexact Hc
    isplitl [Ht]; · iexact Ht
    iexact HO
  isplitr; · iexact Hop
  isplitr [Hrest]
  · unfold work
    isplitl [Hb]; · iexact Hb
    isplitl [He]; · iexact He
    isplitl [Hs]; · iexact Hs
    isplitl [Hr]; · iexact Hr
    isplitl [Hsh]; · iexact Hsh
    iexact Hor
  iexact Hrest

/-- Before the results are sent. -/
theorem res_in (Y : Res (F := F)) :
    iprop(rOwn c Y ∗ bigSep Finset.univ (fun s : Fin 204 => if P.R.came c s then iprop(∃ f, oRow (F := F) (P.R.sd c s) (P.R.sr c s) f) else iprop(emp))
      ∗ bigSep Finset.univ (oTok P c) ∗ bigSep Finset.univ (fun s : Fin 204 => if local' P.R c s then iprop(∃ f, oRow (F := F) c (P.R.sr c s) f) else iprop(emp)))
      ⊢ bigSep Finset.univ (Rb P c Y) := by
  have hr : rOwn c Y = bigSep Finset.univ (fun s : Fin 204 => rRow c s Y) := (r_rows c Y).symm
  rw [hr]
  exact in4 (rb_one (P := P) (c := c) Y)
theorem res_out (Y : Res (F := F)) :
    iprop(bigSep Finset.univ (Ra P c Y) ∗ bigSep Finset.univ (fun s : Fin 204 => atPos ER (cell c (.sr s)) 0 ∅ 0))
      ⊢ iprop(bigSep Finset.univ (fun s : Fin 204 => pend P c (.sr s)) ∗ bigSep Finset.univ (fun s : Fin 204 => if P.R.came c s then iprop(emp) else rRow c s Y)
        ∗ bigSep Finset.univ (fun i : Fin 256 => if stays P.R c i then iprop(∃ f, ⌜P.ok c i (orow f i)⌝ ∗ oRow c i f) else iprop(emp))) := by
  rw [own_match' P.R c (fun i => iprop(∃ f, ⌜P.ok c i (orow f i)⌝ ∗ oRow c i f))]
  exact (sep_in _ _ _).trans (out3 (ra_one (P := P) (c := c) Y))
theorem out_in :
    iprop(bigSep Finset.univ (fun i : Fin 256 => done P c (.rr i)) ∗ bigSep Finset.univ (fun i : Fin 256 => if P.R.kept c i = true then iprop(emp) else oRow (F := F) c i zout)
      ∗ bigSep Finset.univ (fun i : Fin 256 => if stays P.R c i then iprop(∃ f, ⌜P.ok c i (orow f i)⌝ ∗ oRow c i f) else iprop(emp)))
      ⊢ iprop(bigSep Finset.univ (fun i : Fin 256 => shut P c (.rr i)) ∗ ∃ f : Out (F := F), ⌜∀ i, Final P c i f⌝ ∗ oOwn c f) := by
  refine BIBase.Entails.trans ((in3 (s := Finset.univ) (G := fun i => iprop(shut P c (.rr i) ∗ ∃ f, ⌜Final P c i f⌝ ∗ oRow c i f)) (rr_one (P := P) (c := c))).trans (sep_out _ _ _)) ?_
  exact frameL (o_join c (Final P c) (Final.congr P c))
theorem x_in :
    iprop(bigSep Finset.univ (fun i : Fin 256 => done P c (.sx i)) ∗ bigSep Finset.univ (fun i : Fin 256 => if P.R.away c i then iprop(emp) else xRow c i (P.X c)))
      ⊢ iprop(bigSep Finset.univ (fun i : Fin 256 => shut P c (.sx i)) ∗ xOwn P c) := by
  refine BIBase.Entails.trans ((in2 (s := Finset.univ) (G := fun i => iprop(shut P c (.sx i) ∗ xRow c i (P.X c))) (sx_one (P := P) (c := c))).trans (sep_out _ _ _)) ?_
  exact frameL (Entails.of_eq (x_rows c (P.X c)))
theorem r_in (Y : Res (F := F)) :
    iprop(bigSep Finset.univ (fun s : Fin 204 => done P c (.sr s)) ∗ bigSep Finset.univ (fun s : Fin 204 => if P.R.came c s then iprop(emp) else rRow c s Y))
      ⊢ iprop(bigSep Finset.univ (fun s : Fin 204 => shut P c (.sr s)) ∗ ∃ f : Res (F := F), ⌜∀ _ : Fin 204, True⌝ ∗ rOwn c f) := by
  refine BIBase.Entails.trans ((in2 (s := Finset.univ) (G := fun s => iprop(shut P c (.sr s) ∗ ∃ f, ⌜True⌝ ∗ rRow c s f)) (sr_one (P := P) (c := c) Y)).trans (sep_out _ _ _)) ?_
  exact frameL (r_join c (fun _ _ => True) (fun _ _ _ _ h => h))

/-- All but the last loop is over. -/
def almost (P : Plan F) (c : Dev nD) (ew : Ew (F := F)) (g : Stg (F := F)) (Y : Res (F := F)) : sProp 𝕄 :=
  iprop(atPos ER (cell c .b1) (0 + 1) ∅ 0 ∗ ewOwn c ew ∗ sOwn c g ∗ bigSep Finset.univ (fun s : Fin 204 => shut P c (.rx s))
    ∗ (bigSep Finset.univ (fun i : Fin 256 => shut P c (.rr i)) ∗ ∃ f : Out (F := F), ⌜∀ i, Final P c i f⌝ ∗ oOwn c f)
    ∗ (bigSep Finset.univ (fun i : Fin 256 => shut P c (.sx i)) ∗ xOwn P c)
    ∗ bigSep Finset.univ (fun s : Fin 204 => if P.R.came c s then iprop(emp) else rRow c s Y))

theorem k1part8_run {D : CellTallies nD τ sig Unit} (hD : Above 5 D) {ew : Ew (F := F)} (hG : Good P T ew) {g : Stg (F := F)} (hg : ∀ s, Holds P c s g) (f : Res (F := F)) :
    iprop((ctx P κ ∗ tabs T ∗ owing c (rrD P.R c D)) ∗ opn c ∗ work P c ew g (put0 f (k1_pay3 (cw T 0) (half 0 g) (ewk 0 ew))) ∗ rest P c)
      ⊢ run c (k1_part8 (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5 c (me c) (k1_pay4 (cw T 1) (half 1 g) (ewk 1 ew)))
        (fun _ => iprop((ctx P κ ∗ tabs T ∗ owing c D)
          ∗ almost P c ew g (put1 (put0 f (k1_pay3 (cw T 0) (half 0 g) (ewk 0 ew))) (k1_pay5 (k1_pay4 (cw T 1) (half 1 g) (ewk 1 ew))))
          ∗ bigSep Finset.univ (fun x : Fin 102 => done P c (.sr (e 0 x))) ∗ bigSep Finset.univ (fun x : Fin 102 => pend P c (.sr (e 1 x))))) := by
  rw [k1_part8_eq_skeleton]; unfold k1_part8_skel
  have hY := good_rows hG hg f
  generalize put0 f (k1_pay3 (cw T 0) (half 0 g) (ewk 0 ew)) = Y0 at hY ⊢
  generalize k1_pay4 (cw T 1) (half 1 g) (ewk 1 ew) = v174 at hY ⊢
  unfold work rest late
  iintro ⟨⟨#Hc, Ht, HO⟩, #Hop, ⟨Hb, He, Hs, Hr, Hsh, Hor⟩, Hpx, Hxr, Hoz, Hlo, Hot, Hrr, Hsr⟩
  iapply (bind_step (store_step (m := Memref.whole cc1_scratch1) (r := Rect.unit (s := S204x1x256) ![102, 0, 0] S102x1x256.size inb_S204x1x256_S102x1x256_102_0_0)
    (S := Finset.univ) (f := Y0) (R := iprop(emp)) (Finset.subset_univ _))) $$ [Hr]
  · isplitl [Hr]; · iexact Hr
    iempintro
  iintro %_ ⟨Hr, -⟩
  ihave Hr := (show _ ⊢ rOwn c (put1 Y0 (k1_pay5 v174)) from .rfl) $$ Hr
  generalize put1 Y0 (k1_pay5 v174) = Y at hY ⊢
  ihave Hrb := (res_in (P := P) (c := c) Y) $$ [Hr Hor Hot Hlo]
  · isplitl [Hr]; · iexact Hr
    isplitl [Hor]; · iexact Hor
    isplitl [Hot]; · iexact Hot
    iexact Hlo
  ihave Hrb := (Entails.of_eq (halves (Rb P c Y))) $$ Hrb
  icases Hrb with ⟨Hrb0, Hrb1⟩
  iapply (bind_step (n_step T 0 rfl)) $$ Ht
  iintro %v ⟨%hv, Ht⟩
  have hv : v = cw T 0 := hv.trans (T.hn 0)
  subst hv
  iapply (assume_bind (chk11 T))
  iapply (bind_step (t6_run T (D := D + ∑ j : Fin 102, rrT P.R c (e 1 j)) hY v174 (chk11 T))) $$ [Ht HO Hrb0]
  · isplitr [Hrb0]
    · isplitr; · iexact Hc
      isplitr; · iexact Hop
      isplitl [Ht]; · iexact Ht
      iexact HO
    iexact Hrb0
  iintro %_ ⟨⟨-, -, Ht, HO⟩, Hra0⟩
  iapply (bind_step (loop0_run (A := tabs T) (k1_t7_loop (cw T 0)) (k1_t7_ok (cw T 0) (chk11 T)) (cnt_rem T 0) _)) $$ Ht
  iintro %_ Ht
  iapply (bind_step (n_step T 1 rfl)) $$ Ht
  iintro %v ⟨%hv, Ht⟩
  have hv : v = cw T 1 := hv.trans (T.hn 1)
  subst hv
  iapply (assume_bind (chk24 T))
  iapply (bind_step (t8_run T (D := D) hY v174 (chk24 T))) $$ [Ht HO Hrb1]
  · isplitr [Hrb1]
    · isplitr; · iexact Hc
      isplitr; · iexact Hop
      isplitl [Ht]; · iexact Ht
      iexact HO
    iexact Hrb1
  iintro %_ ⟨⟨-, -, Ht, HO⟩, Hra1⟩
  iapply (bind_step (loop0_run (A := tabs T) (k1_t9_loop (cw T 1)) (k1_t9_ok (cw T 1) (chk24 T)) (cnt_rem T 1) _)) $$ Ht
  iintro %_ Ht
  ihave Hra := (Entails.of_eq (halves (Ra P c Y)).symm) $$ [Hra0 Hra1]
  · isplitl [Hra0]; · iexact Hra0
    iexact Hra1
  ihave H := (res_out (P := P) (c := c) Y) $$ [Hra Hsr]
  · isplitl [Hra]; · iexact Hra
    iexact Hsr
  icases H with ⟨Hps, Hrr', Hst⟩
  iapply (bind_step (t10_run T hD v174)) $$ [Ht HO Hrr]
  · isplitr [Hrr]
    · isplitr; · iexact Hc
      isplitl [Ht]; · iexact Ht
      iexact HO
    iexact Hrr
  iintro %_ ⟨⟨-, Ht, HO⟩, Hdr⟩
  ihave Hout := (out_in (P := P) (c := c)) $$ [Hdr Hoz Hst]
  · isplitl [Hdr]; · iexact Hdr
    isplitl [Hoz]; · iexact Hoz
    iexact Hst
  iapply (bind_step (t11_run T (hD.mono (by omega)) v174)) $$ [Ht HO Hpx]
  · isplitr [Hpx]
    · isplitr; · iexact Hc
      isplitl [Ht]; · iexact Ht
      iexact HO
    iexact Hpx
  iintro %_ ⟨⟨-, Ht, HO⟩, Hdx⟩
  ihave Hx := (x_in (P := P) (c := c)) $$ [Hdx Hxr]
  · isplitl [Hdx]; · iexact Hdx
    iexact Hxr
  iapply (bind_step (n_step T 0 rfl)) $$ Ht
  iintro %v ⟨%hv, Ht⟩
  have hv : v = cw T 0 := hv.trans (T.hn 0)
  subst hv
  iapply (assume_bind (chk37 T))
  ihave Hps := (Entails.of_eq (halves (fun s => pend P c (.sr s)))) $$ Hps
  icases Hps with ⟨Hps0, Hps1⟩
  iapply (bind_step (t12_run T (hD.mono (by omega)) (me c) v174 (chk37 T))) $$ [Ht HO Hps0]
  · isplitr [Hps0]
    · isplitr; · iexact Hc
      isplitl [Ht]; · iexact Ht
      iexact HO
    iexact Hps0
  iintro %_ ⟨⟨-, Ht, HO⟩, Hds0⟩
  iapply (bind_step (loop0_run (A := tabs T) (k1_t13_loop (cw T 0)) (k1_t13_ok (cw T 0) (chk37 T)) (cnt_rem T 0) _)) $$ Ht
  iintro %_ Ht
  iapply (run_pure .rfl)
  isplitl [Ht HO]
  · isplitr; · iexact Hc
    isplitl [Ht]; · iexact Ht
    iexact HO
  isplitr [Hds0 Hps1]
  · unfold almost
    isplitl [Hb]; · iexact Hb
    isplitl [He]; · iexact He
    isplitl [Hs]; · iexact Hs
    isplitl [Hsh]; · iexact Hsh
    isplitl [Hout]; · iexact Hout
    isplitl [Hx]; · iexact Hx
    iexact Hrr'
  isplitl [Hds0]; · iexact Hds0
  iexact Hps1

/-- What call 1 starts from. -/
def dStart (P : Plan F) (c : Dev nD) (T : Tabs (F := F) P.R c) (ew : Ew (F := F)) (D : CellTallies nD τ sig Unit) : sProp 𝕄 :=
  iprop(sigs P .b1 c (rrD P.R c D + ∑ i : Fin 256, rxT P.R c i) 0
    ∗ (tabs T ∗ atPos ER (cell c .b1) 0 ∅ 0 ∗ cred (tallyAt (cell c .b1) () 31) ∗ dKeep P c ew))

/-- What it ends with, its cells still open. -/
def dDone (P : Plan F) (c : Dev nD) (T : Tabs (F := F) P.R c) (ew : Ew (F := F)) (D : CellTallies nD τ sig Unit) : sProp 𝕄 :=
  iprop(tabs T ∗ owing c D ∗ ∃ g Y, almost P c ew g Y ∗ bigSep Finset.univ (fun s : Fin 204 => done P c (.sr s)))

theorem body1_run {D : CellTallies nD τ sig Unit} (hD : Above 5 D) {ew : Ew (F := F)} (hG : Good P T ew) :
    iprop(ctx P κ ∗ dStart P c T ew D) ⊢ run c (cc1_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5) (fun _ => iprop(ctx P κ ∗ dDone P c T ew D)) := by
  rw [cc1_body_eq_skeleton]; unfold cc1_body_skel dStart
  refine run_seqE k1part1_run fun x => ?_
  obtain ⟨d0, v2, v3, v24, w⟩ := x
  refine pure_left fun hx => ?_
  obtain ⟨hd, h2, h3⟩ := hx
  have hd : d0 = c := hd
  have h2 : v2 = me c := h2
  obtain rfl : c = d0 := hd.symm
  subst h2
  refine run_seq (k1part2_run (me c) v3 v24 w h3) fun x => ?_
  obtain ⟨v48, w⟩ := x
  refine run_seq (k1part3_run (me c) v3 v48 w h3) fun x => ?_
  obtain ⟨v72, w⟩ := x
  refine run_seq (k1part4_run (me c) v3 v72 w h3) fun x => ?_
  obtain ⟨v96, w⟩ := x
  refine run_seq (k1part5_run (me c) v3 v96 w h3) fun x => ?_
  obtain ⟨v120, w⟩ := x
  refine run_seqE (k1part6_run T hD ew v3 v120 w h3) fun x => ?_
  obtain ⟨v137, hw8, c0, v142, c1⟩ := x
  refine pure_left fun hv => ?_
  have hv : v137 = cw T 1 := hv
  subst hv
  refine run_seqE (k1part7_run T hD ew hw8 c0 v142 c1) fun v174 => ?_
  refine ex_left fun g => ex_left fun f => pure_left fun hv => ?_
  obtain ⟨hg, rfl⟩ := hv
  refine run_seq (k1part8_run T hD hG hg f) fun _ => ?_
  iintro ⟨⟨#Hc, Ht, HO⟩, Hal, Hd0, Hp1⟩
  iapply (bind_step (n_step T 1 rfl)) $$ Ht
  iintro %v ⟨%hv, Ht⟩
  have hv : v = cw T 1 := hv.trans (T.hn 1)
  subst hv
  iapply (assume_bind (chk40 T))
  iapply (bind_step (t14_run T (hD.mono (by omega)) (chk40 T))) $$ [Ht HO Hp1]
  · isplitr [Hp1]
    · isplitr; · iexact Hc
      isplitl [Ht]; · iexact Ht
      iexact HO
    iexact Hp1
  iintro %_ ⟨⟨-, Ht, HO⟩, Hd1⟩
  iapply (bind_step (loop0_run (A := tabs T) (k1_t15_loop (cw T 1)) (k1_t15_ok (cw T 1) (chk40 T)) (cnt_rem T 1) _)) $$ Ht
  iintro %_ Ht
  iapply (run_pure .rfl)
  isplitr; · iexact Hc
  unfold dDone
  isplitl [Ht]; · iexact Ht
  isplitl [HO]; · iexact HO
  iexists g; iexists _
  isplitl [Hal]; · iexact Hal
  iapply (Entails.of_eq (halves (fun s => done P c (.sr s))).symm)
  isplitl [Hd0]; · iexact Hd0
  iexact Hd1

/-! ## Closing -/

/-- What call 1 leaves: its semaphores at zero, its operands, and the result rows. -/
def dEnd (P : Plan F) (c : Dev nD) (T : Tabs (F := F) P.R c) (ew : Ew (F := F)) (D : CellTallies nD τ sig Unit) : sProp 𝕄 :=
  iprop((semVal (cell c .b1) 0 ∗ bigSep Finset.univ (fun i : Fin 256 => semVal (cell c (.sx i)) 0) ∗ bigSep Finset.univ (fun s : Fin 204 => semVal (cell c (.rx s)) 0)
      ∗ bigSep Finset.univ (fun s : Fin 204 => semVal (cell c (.sr s)) 0) ∗ bigSep Finset.univ (fun i : Fin 256 => semVal (cell c (.rr i)) 0))
    ∗ tabs T ∗ owing c D ∗ xOwn P c ∗ ewOwn c ew ∗ (∃ g, sOwn (F := F) c g) ∗ (∃ g, rOwn (F := F) c g) ∗ ∃ f : Out (F := F), ⌜∀ i, Final P c i f⌝ ∗ oOwn c f)

theorem dispatch_close {D : CellTallies nD τ sig Unit} {ew : Ew (F := F)} :
    iprop(ctx P κ ∗ dDone P c T ew D) ⊢ iprop(|={Set.univ}=> (ctx P κ ∗ dEnd P c T ew D)) := by
  unfold dDone almost dEnd
  have h1 := close_all (P := P) (κ := κ) (Finset.univ : Finset (Fin 256)) (A := fun i => shut P c (.sx i)) (B := fun i => semVal (cell c (.sx i)) 0) fun i _ => shut_close _
  have h2 := close_all (P := P) (κ := κ) (Finset.univ : Finset (Fin 204)) (A := fun i => shut P c (.rx i)) (B := fun i => semVal (cell c (.rx i)) 0) fun i _ => shut_close _
  have h3 := close_all (P := P) (κ := κ) (Finset.univ : Finset (Fin 204)) (A := fun i => shut P c (.sr i)) (B := fun i => semVal (cell c (.sr i)) 0) fun i _ => shut_close _
  have h4 := close_all (P := P) (κ := κ) (Finset.univ : Finset (Fin 256)) (A := fun i => shut P c (.rr i)) (B := fun i => semVal (cell c (.rr i)) 0) fun i _ => shut_close _
  iintro ⟨#Hc, Ht, HO, ⟨%g, %Y, ⟨Hb, He, Hs, Hrx, ⟨Hrr, Ho⟩, ⟨Hsx, Hx⟩, Hr⟩, Hd⟩⟩
  ihave H := (r_in (P := P) (c := c) Y) $$ [Hd Hr]
  · isplitl [Hd]; · iexact Hd
    iexact Hr
  icases H with ⟨Hsr, ⟨%Y', -, Hr⟩⟩
  imod h1 $$ [Hsx] with Hsx
  · isplitr; · iexact Hc
    iexact Hsx
  imod h2 $$ [Hrx] with Hrx
  · isplitr; · iexact Hc
    iexact Hrx
  imod h3 $$ [Hsr] with Hsr
  · isplitr; · iexact Hc
    iexact Hsr
  imod h4 $$ [Hrr] with Hrr
  · isplitr; · iexact Hc
    iexact Hrr
  imod (close_ctx (P := P) (κ := κ) c .b1) $$ [Hb] with Hb
  · isplitr; · iexact Hc
    iexact Hb
  imodintro
  isplitr; · iexact Hc
  isplitl [Hb Hsx Hrx Hsr Hrr]
  · isplitl [Hb]; · iexact Hb
    isplitl [Hsx]; · iexact Hsx
    isplitl [Hrx]; · iexact Hrx
    isplitl [Hsr]; · iexact Hsr
    iexact Hrr
  isplitl [Ht]; · iexact Ht
  isplitl [HO]; · iexact HO
  isplitl [Hx]; · iexact Hx
  isplitl [He]; · iexact He
  isplitl [Hs]; · iexists g; iexact Hs
  isplitl [Hr]; · iexists Y'; iexact Hr
  iexact Ho

end Cert.MoE

end
-- ==== Proof.LaunchA.lean ====
/-
  Entering and leaving each call: what a device is dealt, the cells opened on entry, and the two bodies from what is held to what is left.
-/
module

public import proofs.«01_k».proof.Proof.DispatchJ

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

/-! ## The calls' own semaphores -/

abbrev I0 : Type := Fin 31 ⊕ Fin 32
abbrev I1 : Type := Fin 256 ⊕ Fin 204 ⊕ Fin 204 ⊕ Fin 256

/-- The kinds of cell that are call 0's scratch semaphores, and call 1's. -/
def ck0 : I0 → CK
  | .inl k => .s0 k
  | .inr k => .r0 k
def ck1 : I1 → CK
  | .inl i => .sx i
  | .inr (.inl s) => .rx s
  | .inr (.inr (.inl s)) => .sr s
  | .inr (.inr (.inr i)) => .rr i

theorem ck0_inj : Function.Injective ck0 := by
  rintro (a | a) (b | b) h <;> simp only [ck0, CK.s0.injEq, CK.r0.injEq, reduceCtorEq] at h <;> rw [h]
theorem ck1_inj : Function.Injective ck1 := by
  rintro (a | a | a | a) (b | b | b | b) h <;> simp only [ck1, CK.sx.injEq, CK.rx.injEq, CK.sr.injEq, CK.rr.injEq, reduceCtorEq] at h <;> rw [h]

abbrev osem0 (k : I0) : SemLoc sig := ssem (ck0 k)
abbrev osem1 (k : I1) : SemLoc sig := ssem (ck1 k)

theorem stage_kind0 : ∀ w s, kind (.dma ((spec0 w).sem s) : SemLoc sig) = none := by decide
theorem stage_kind1 : ∀ w s, kind (.dma ((spec1 w).sem s) : SemLoc sig) = none := by decide

theorem dma_scoped (n : Fin 994) : (SemLoc.dma n : SemLoc sig).isScoped .tc = true := by revert n; decide +kernel

theorem own0 : Pipeline.OwnSemFacts spec0 osem0 where
  isScoped k := by rcases k with k | k <;> exact dma_scoped _
  inj := ssem_inj.comp ck0_inj
  disj k w s h := by have := stage_kind0 w s; rw [← h, kind_ssem] at this; cases this
theorem own1 : Pipeline.OwnSemFacts spec1 osem1 where
  isScoped k := by rcases k with k | k | k | k <;> exact dma_scoped _
  inj := ssem_inj.comp ck1_inj
  disj k w s h := by have := stage_kind1 w s; rw [← h, kind_ssem] at this; cases this

variable {P : Plan F} {κ : GSem nD τ sig → ℕ}

/-! ## Opening the cells -/

theorem open_one (c : Dev nD) (k : CK) :
    iprop(ctx P κ ∗ (openTok ER (cell c k) ∗ semVal (cell c k) 0)) ⊢ (|={Set.univ}=> (atPos ER (cell c k) 0 ∅ 0 ∗ reached ER (cell c k) 0) : sProp 𝕄) := by
  iintro ⟨#Hc, Ho, Hv⟩
  imod (Rounds.cell_open ER (Rd P) (g := cell c k) (Set.mem_univ (κ (cell c k)))) $$ [Ho Hv] with ⟨Ha, #Hr⟩
  · isplitr
    · iapply (ctx_inv c k); iexact Hc
    isplitl [Ho]; · iexact Ho
    iexact Hv
  imodintro
  isplitl [Ha]; · iexact Ha
  iexact Hr

theorem cells_open {I : Type} (s : Finset I) (c : Dev nD) (f : I → CK) :
    iprop(ctx P κ ∗ bigSep s (fun i => openTok ER (cell c (f i))) ∗ bigSep s (fun i => semVal (cell c (f i)) 0))
      ⊢ (|={Set.univ}=> (bigSep s (fun i => atPos ER (cell c (f i)) 0 ∅ 0) ∗ bigSep s (fun i => reached ER (cell c (f i)) 0)) : sProp 𝕄) := by
  have h := close_all (P := P) (κ := κ) s (A := fun i => iprop(openTok ER (cell c (f i)) ∗ semVal (cell c (f i)) 0))
    (B := fun i => iprop(atPos ER (cell c (f i)) 0 ∅ 0 ∗ reached ER (cell c (f i)) 0)) fun i _ => open_one c (f i)
  iintro ⟨#Hc, Ho, Hv⟩
  imod h $$ [Ho Hv] with H
  · isplitr; · iexact Hc
    iapply (sep_in s (fun i => openTok ER (cell c (f i))) (fun i => semVal (cell c (f i)) 0))
    isplitl [Ho]; · iexact Ho
    iexact Hv
  imodintro
  iapply (sep_out s (fun i => atPos ER (cell c (f i)) 0 ∅ 0) (fun i => reached ER (cell c (f i)) 0)) $$ H

/-! ## What a device is dealt for each call -/

/-- For call 0, its scratch cells apart. -/
def gRest (c : Dev nD) : sProp 𝕄 :=
  iprop(atPos ER (cell c .b0) 0 ∅ 0 ∗ cred (tallyAt (cell c .b0) () 31)
    ∗ bigSep Finset.univ (fun k : Fin 31 => dutyTok ER (cell (fwd c k) .b0) 0 k.rev)
    ∗ bigSep Finset.univ (fun k : Fin 31 => dutyTok ER (cell c (.s0 k)) 0 0)
    ∗ bigSep Finset.univ (fun k : Fin 31 => dutyTok ER (cell (fwd c k) (.r0 c)) 0 0)
    ∗ bigSep Finset.univ (fun r : Fin 31 => cred (tallyAt (cell c (rcv c r)) () N0)))
def gTok (c : Dev nD) : sProp 𝕄 := iprop(bigSep Finset.univ (fun k : I0 => openTok ER (cell c (ck0 k))) ∗ gRest c)
def gHave (c : Dev nD) : sProp 𝕄 :=
  iprop((bigSep Finset.univ (fun k : I0 => atPos ER (cell c (ck0 k)) 0 ∅ 0) ∗ bigSep Finset.univ (fun k : I0 => reached ER (cell c (ck0 k)) 0)) ∗ gRest c)

/-- For call 1, its scratch cells apart. -/
def dRest (P : Plan F) (c : Dev nD) : sProp 𝕄 :=
  iprop(atPos ER (cell c .b1) 0 ∅ 0 ∗ cred (tallyAt (cell c .b1) () 31)
    ∗ bigSep Finset.univ (fun k : Fin 31 => dutyTok ER (cell (fwd c k) .b1) 0 k.rev)
    ∗ bigSep Finset.univ (xTok P c) ∗ bigSep Finset.univ (oTok P c)
    ∗ bigSep Finset.univ (fun s : Fin 204 => if P.R.came c s then cred (tallyAt (cell c (.rx s)) () N1) else iprop(emp))
    ∗ bigSep Finset.univ (fun i : Fin 256 => if P.R.away c i then cred (tallyAt (cell c (.rr i)) () N2) else iprop(emp)))
def dTok (P : Plan F) (c : Dev nD) : sProp 𝕄 := iprop(bigSep Finset.univ (fun k : I1 => openTok ER (cell c (ck1 k))) ∗ dRest P c)
def dHave (P : Plan F) (c : Dev nD) : sProp 𝕄 :=
  iprop((bigSep Finset.univ (fun k : I1 => atPos ER (cell c (ck1 k)) 0 ∅ 0) ∗ bigSep Finset.univ (fun k : I1 => reached ER (cell c (ck1 k)) 0)) ∗ dRest P c)

theorem split0 (c : Dev nD) (Φ : CK → sProp 𝕄) :
    bigSep Finset.univ (fun k : I0 => Φ (ck0 k)) = iprop(bigSep Finset.univ (fun k : Fin 31 => Φ (.s0 k)) ∗ bigSep Finset.univ (fun k : Fin 32 => Φ (.r0 k))) :=
  BI.bigSep_univ_sum _
theorem split1 (c : Dev nD) (Φ : CK → sProp 𝕄) :
    bigSep Finset.univ (fun k : I1 => Φ (ck1 k)) = iprop(bigSep Finset.univ (fun i : Fin 256 => Φ (.sx i)) ∗ bigSep Finset.univ (fun s : Fin 204 => Φ (.rx s))
      ∗ bigSep Finset.univ (fun s : Fin 204 => Φ (.sr s)) ∗ bigSep Finset.univ (fun i : Fin 256 => Φ (.rr i))) := by
  rw [BI.bigSep_univ_sum, BI.bigSep_univ_sum, BI.bigSep_univ_sum]; rfl

theorem open0 (c : Dev nD) :
    iprop(ctx P κ ∗ gTok (F := F) c ∗ Pipeline.ownSems0 osem0 c) ⊢ (|={Set.univ}=> gHave c : sProp 𝕄) := by
  unfold gTok gHave Pipeline.ownSems0
  iintro ⟨#Hc, ⟨Ho, Hr⟩, Hv⟩
  imod (cells_open (P := P) (κ := κ) (Finset.univ : Finset I0) c ck0) $$ [Ho Hv] with H
  · isplitr; · iexact Hc
    isplitl [Ho]; · iexact Ho
    iexact Hv
  imodintro
  isplitl [H]; · iexact H
  iexact Hr
theorem open1 (c : Dev nD) :
    iprop(ctx P κ ∗ dTok P c ∗ Pipeline.ownSems0 osem1 c) ⊢ (|={Set.univ}=> dHave P c : sProp 𝕄) := by
  unfold dTok dHave Pipeline.ownSems0
  iintro ⟨#Hc, ⟨Ho, Hr⟩, Hv⟩
  imod (cells_open (P := P) (κ := κ) (Finset.univ : Finset I1) c ck1) $$ [Ho Hv] with H
  · isplitr; · iexact Hc
    isplitl [Ho]; · iexact Ho
    iexact Hv
  imodintro
  isplitl [H]; · iexact H
  iexact Hr

/-! ## Entering call 0 -/

theorem bpay0_eq (c : Dev nD) (k : Fin 31) :
    bpay P .b0 c k = iprop((∃ f, gRow c (fwd c k) f) ∗ reached ER (cell c (.r0 (fwd c k))) 0) := by
  show pay0 (fwd (fwd c k) k.rev) (fwd c k) = _
  rw [fwd_rev]; rfl

theorem gather_start (c : Dev nD) (D : CellTallies nD τ sig Unit) :
    iprop(gHave c ∗ arg0Own P c fullShare ∗ (∃ f : Gat (F := F), ((c : Thread nD τ).loc cc0_stg1_0) ↦[Finset.univ]{fullShare} f)
        ∗ owing c (D + ∑ k : Fin 31, tallyAt (cell (fwd c k) (.r0 c)) () N0 + ∑ k : Fin 31, tallyAt (cell (fwd c k) .b0) () 1))
      ⊢ (iprop((sigs P .b0 c (D + ∑ k : Fin 31, tallyAt (cell (fwd c k) (.r0 c)) () N0) 0 ∗ gStart P c) ∗ atPos ER (cell c (.r0 c)) 0 ∅ 0) : sProp 𝕄) := by
  unfold gHave gRest sigs gStart
  rw [finFrom_zero, split0 c (fun k => atPos ER (cell c k) 0 ∅ 0), split0 c (fun k => reached ER (cell c k) 0),
    ← peers_all c (fun d => atPos ER (cell c (.r0 d)) 0 ∅ 0), ← peers_all' c (fun d => reached ER (cell c (.r0 d)) 0)]
  iintro ⟨⟨⟨⟨Hs0, Hr0c, Hr0⟩, Hs0r, -, Hr0r⟩, Hb0, Hcb0, Htb, Hts, Htr, Hcr⟩, Harg, ⟨%f, Hg⟩, HO⟩
  ihave Hg := (Entails.of_eq (rows_all c f).symm) $$ Hg
  ihave Hg := (Entails.of_eq (peers_all' c (fun d => gRow c d f)).symm) $$ Hg
  icases Hg with ⟨Hgc, Hg⟩
  isplitr [Hr0c]
  · isplitl [Hr0r Htb HO Hg]
    · isplitl [Hr0r Htb Hg]
      · iapply (sep_in Finset.univ (fun k : Fin 31 => dutyTok ER (cell (fwd c k) .b0) 0 k.rev) (fun k => bpay P .b0 c k))
        isplitl [Htb]; · iexact Htb
        have e : bigSep Finset.univ (fun k : Fin 31 => bpay P .b0 c k)
            = bigSep Finset.univ (fun k : Fin 31 => iprop((∃ f, gRow (F := F) c (fwd c k) f) ∗ reached ER (cell c (.r0 (fwd c k))) 0)) :=
          bigSep_congr fun k _ => bpay0_eq c k
        iapply (Entails.of_eq e.symm)
        iapply (sep_in Finset.univ (fun k : Fin 31 => iprop(∃ f, gRow (F := F) c (fwd c k) f)) (fun k : Fin 31 => reached ER (cell c (.r0 (fwd c k))) 0))
        isplitl [Hg]
        · iapply (sep_mono (s := Finset.univ) (Φ := fun k : Fin 31 => gRow c (fwd c k) f) (Ψ := fun k : Fin 31 => iprop(∃ f, gRow (F := F) c (fwd c k) f)) fun k _ => by
            iintro H; iexists f; iexact H) $$ Hg
        iexact Hr0r
      iexact HO
    isplitl [Hb0]; · iexact Hb0
    isplitl [Hcb0]; · iexact Hcb0
    isplitl [Harg]; · iexact Harg
    isplitl [Hgc]; · iexists f; iexact Hgc
    isplitl [Hts Hs0r Htr]
    · unfold sendTok
      iapply (sep_in Finset.univ (fun k : Fin 31 => dutyTok ER (cell c (.s0 k)) 0 0) (fun k : Fin 31 => iprop(reached ER (cell c (.s0 k)) 0 ∗ dutyTok ER (cell (fwd c k) (.r0 c)) 0 0)))
      isplitl [Hts]; · iexact Hts
      iapply (sep_in Finset.univ (fun k : Fin 31 => reached ER (cell c (.s0 k)) 0) (fun k : Fin 31 => dutyTok ER (cell (fwd c k) (.r0 c)) 0 0))
      isplitl [Hs0r]; · iexact Hs0r
      iexact Htr
    isplitl [Hr0 Hcr]
    · unfold recvTok
      iapply (sep_in Finset.univ (fun r : Fin 31 => atPos ER (cell c (rcv c r)) 0 ∅ 0) (fun r : Fin 31 => cred (tallyAt (cell c (rcv c r)) () (amt (rcv c r)))))
      isplitl [Hr0]; · iexact Hr0
      iexact Hcr
    iexact Hs0
  iexact Hr0c

/-- Call 0, from what a device holds to what it leaves. -/
theorem body0_all (c : Dev nD) {D : CellTallies nD τ sig Unit} (hD : Above 2 D) :
    iprop(ctx P κ ∗ gHave c ∗ arg0Own P c fullShare ∗ (∃ f : Gat (F := F), ((c : Thread nD τ).loc cc0_stg1_0) ↦[Finset.univ]{fullShare} f)
        ∗ owing c (D + ∑ k : Fin 31, tallyAt (cell (fwd c k) (.r0 c)) () N0 + ∑ k : Fin 31, tallyAt (cell (fwd c k) .b0) () 1))
      ⊢ run c (cc0_body (Memref.whole cc0_stg0_0) (Memref.isWhole_whole _) (Memref.whole cc0_stg1_0) (Memref.isWhole_whole _) cc0_scratch0 cc0_scratch1)
        (fun _ => iprop(ctx P κ ∗ gEnd P c D)) := by
  refine BIBase.Entails.trans (frameL (gather_start c D)) ?_
  have h := run_frame (R := atPos ER (cell c (.r0 c)) 0 ∅ 0) (body0_run (P := P) (κ := κ) (c := c) hD)
  refine BIBase.Entails.trans ?_ (BIBase.Entails.trans h ?_)
  · iintro ⟨Hc, ⟨Hs, Hg⟩, Ha⟩
    isplitl [Hc]; · iexact Hc
    isplitl [Hs Hg]
    · isplitl [Hs]; · iexact Hs
      iexact Hg
    iexact Ha
  · unfold run
    refine BIBase.Entails.trans (wp_mono _ _ _ fun _ => ?_) (wp_fupd _ _ _ _ _)
    refine BIBase.Entails.trans ?_ (gather_close (P := P) (κ := κ) (c := c) (D := D))
    iintro ⟨Hc, Hr, Ha⟩
    isplitr [Ha]
    · isplitl [Hc]; · iexact Hc
      iexact Hr
    iexact Ha

/-! ## Entering call 1 -/

theorem pend_rx (c : Dev nD) (s : Fin 204) :
    pend P c (.rx s) = iprop(atPos ER (cell c (.rx s)) 0 ∅ 0 ∗ if P.R.came c s then cred (tallyAt (cell c (.rx s)) () N1) else iprop(emp)) := by
  unfold pend
  by_cases h : P.R.came c s
  · rw [if_pos h, if_neg (by rw [duts_rx P.R c s h]; exact Finset.singleton_ne_empty _)]; rfl
  · rw [if_neg h, if_pos (duts_rx' P.R c s h)]
theorem pend_rr (c : Dev nD) (i : Fin 256) :
    pend P c (.rr i) = iprop(atPos ER (cell c (.rr i)) 0 ∅ 0 ∗ if P.R.away c i then cred (tallyAt (cell c (.rr i)) () N2) else iprop(emp)) := by
  unfold pend
  by_cases h : P.R.away c i
  · rw [if_pos h, if_neg (by rw [duts_rr P.R c i h]; exact Finset.singleton_ne_empty _)]; rfl
  · rw [if_neg h, if_pos (duts_rr' P.R c i h)]

theorem slots_two (c : Dev nD) (f : Stg (F := F)) :
    bigSep Finset.univ (fun s : Fin 204 => sRow c s f)
      ⊢ (iprop(bigSep Finset.univ (fun s : Fin 204 => if P.R.came c s then iprop(∃ f, sRow (F := F) c s f) else iprop(emp))
        ∗ bigSep Finset.univ (fun s : Fin 204 => if P.R.came c s then iprop(emp) else iprop(∃ f, sRow (F := F) c s f))) : sProp 𝕄) := by
  refine BIBase.Entails.trans ?_ (sep_out Finset.univ _ _)
  refine sep_mono fun s _ => ?_
  by_cases h : P.R.came c s
  · rw [if_pos h, if_pos h]
    iintro H; isplitl [H]
    · iexists f; iexact H
    iempintro
  · rw [if_neg h, if_neg h]
    iintro H; isplitr
    · iempintro
    iexists f; iexact H

variable {c : Dev nD} {T : Tabs (F := F) P.R c} {ew : Ew (F := F)}

theorem dispatch_start (D : CellTallies nD τ sig Unit) :
    iprop(dHave P c ∗ tabs T ∗ xOwn P c ∗ ewOwn c ew ∗ (∃ f, oOwn (F := F) c f) ∗ (∃ f, rOwn (F := F) c f) ∗ (∃ f, sOwn (F := F) c f)
        ∗ owing c (rrD P.R c D + ∑ i : Fin 256, rxT P.R c i + ∑ k : Fin 31, tallyAt (cell (fwd c k) .b1) () 1))
      ⊢ (dStart P c T ew D : sProp 𝕄) := by
  unfold dHave dRest dStart sigs dKeep late
  have epr : bigSep Finset.univ (fun s : Fin 204 => pend P c (.rx s)) = _ := bigSep_congr fun s _ => pend_rx c s
  have eqr : bigSep Finset.univ (fun i : Fin 256 => pend P c (.rr i)) = _ := bigSep_congr fun i _ => pend_rr c i
  rw [finFrom_zero, split1 c (fun k => atPos ER (cell c k) 0 ∅ 0), split1 c (fun k => reached ER (cell c k) 0), epr, eqr]
  iintro ⟨⟨⟨⟨Hsx, Hrx, Hsr, Hrr⟩, #Rsx, #Rrx, #Rsr, #Rrr⟩, Hb, Hcb, Htb, Hxt, Hot, Hcx, Hcr⟩, HT, HX, HE, HOo, HRo, ⟨%f, HS⟩, HO⟩
  ihave HS := (Entails.of_eq (s_rows c f).symm) $$ HS
  ihave HS := (slots_two (P := P) c f) $$ HS
  icases HS with ⟨HS1, HS2⟩
  isplitl [Htb HS1 HO]
  · isplitl [Htb HS1]
    · iapply (sep_in Finset.univ (fun k : Fin 31 => dutyTok ER (cell (fwd c k) .b1) 0 k.rev) (fun k => bpay P .b1 c k))
      isplitl [Htb]; · iexact Htb
      iapply (pays_out P c)
      isplitl [HS1]; · iexact HS1
      isplitr; · iexact Rrx
      iexact Rrr
    iexact HO
  isplitl [HT]; · iexact HT
  isplitl [Hb]; · iexact Hb
  isplitl [Hcb]; · iexact Hcb
  isplitl [HX]; · iexact HX
  isplitl [HE]; · iexact HE
  isplitl [HOo]; · iexact HOo
  isplitl [HRo]; · iexact HRo
  isplitr
  · isplitr; · iexact Rsx
    isplitr; · iexact Rsr
    isplitr; · iexact Rrx
    iexact Rrr
  isplitl [HS2]; · iexact HS2
  isplitl [Hxt]; · iexact Hxt
  isplitl [Hrx Hcx]
  · iapply (sep_in Finset.univ (fun s : Fin 204 => atPos ER (cell c (.rx s)) 0 ∅ 0) (fun s : Fin 204 => if P.R.came c s then cred (tallyAt (cell c (.rx s)) () N1) else iprop(emp)))
    isplitl [Hrx]; · iexact Hrx
    iexact Hcx
  isplitl [Hsx]; · iexact Hsx
  isplitl [Hot]; · iexact Hot
  isplitl [Hrr Hcr]
  · iapply (sep_in Finset.univ (fun i : Fin 256 => atPos ER (cell c (.rr i)) 0 ∅ 0) (fun i : Fin 256 => if P.R.away c i then cred (tallyAt (cell c (.rr i)) () N2) else iprop(emp)))
    isplitl [Hrr]; · iexact Hrr
    iexact Hcr
  iexact Hsr

/-- Call 1, from what a device holds to what it leaves. -/
theorem body1_all {D : CellTallies nD τ sig Unit} (hD : Above 5 D) (hG : Good P T ew) :
    iprop(ctx P κ ∗ dHave P c ∗ tabs T ∗ xOwn P c ∗ ewOwn c ew ∗ (∃ f, oOwn (F := F) c f) ∗ (∃ f, rOwn (F := F) c f) ∗ (∃ f, sOwn (F := F) c f)
        ∗ owing c (rrD P.R c D + ∑ i : Fin 256, rxT P.R c i + ∑ k : Fin 31, tallyAt (cell (fwd c k) .b1) () 1))
      ⊢ run c (cc1_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5) (fun _ => iprop(ctx P κ ∗ dEnd P c T ew D)) := by
  refine BIBase.Entails.trans (frameL (dispatch_start D)) ?_
  refine BIBase.Entails.trans (body1_run (P := P) (κ := κ) (T := T) hD hG) ?_
  unfold run
  refine BIBase.Entails.trans (wp_mono _ _ _ fun _ => ?_) (wp_fupd _ _ _ _ _)
  exact dispatch_close (P := P) (κ := κ) (T := T) (D := D) (ew := ew)

end Cert.MoE

end
-- ==== Proof.LaunchB.lean ====
/-
  The two calls as regions of a launch: what each is entered with and leaves, and its body between the two.
-/
module

public import proofs.«01_k».proof.Proof.LaunchA
public import proofs.«01_k».proof.Proof.Gen.KernelIdeal.Points

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

/-! ## What a run is about -/

/-- What the launch is told: the values of the host's arrays at the two calls, the plan and the tables they hold, and — where
    `exact` — that the plan determines each device's result. -/
structure Setup (F : FTy → Type) [FloatOps F] where
  Va : Dev nD → Valuation τ sig (Elt F)
  Vb : Dev nD → Valuation τ sig (Elt F)
  P : Plan F
  T : (c : Dev nD) → Tabs (F := F) P.R c
  ew : Dev nD → Ew (F := F)
  fin : Dev nD → Out (F := F)
  loose : Bool
  hE : ∀ c, Va c (Proc.devRef .tc main_v2) = P.E c
  hkeep : ∀ c, Vb c (Proc.devRef .tc main_v37) = (T c).keep
  hdst : ∀ c, Vb c (Proc.devRef .tc main_v38) = (T c).dst
  hslot : ∀ c, Vb c (Proc.devRef .tc main_v44) = (T c).slot
  hn : ∀ c, Vb c (Proc.devRef .tc main_v52) = (T c).n
  htd : ∀ c, Vb c (Proc.devRef .tc main_v106) = (T c).td
  htr : ∀ c, Vb c (Proc.devRef .tc main_v107) = (T c).tr
  hX : ∀ c, Vb c (Proc.devRef .tc main_v1) = P.X c
  hew : ∀ c, Vb c (Proc.devRef .tc main_arg3) = ew c
  good : ∀ c, Good P (T c) (ew c)
  only : loose = false → ∀ c f, (∀ i, Final P c i f) → f = fin c

variable (Z : Setup F)

/-! ## What a device owes -/

/-- Into call 1: its transfers' units and its signals; -/
def owe1 (R : Routing) (c : Dev nD) : CellTallies nD τ sig Unit :=
  rrD R c 0 + ∑ i : Fin 256, rxT R c i + ∑ k : Fin 31, tallyAt (cell (fwd c k) .b1) () 1
/-- more, into call 0. -/
def owe0 (c : Dev nD) : CellTallies nD τ sig Unit :=
  ∑ k : Fin 31, tallyAt (cell (fwd c k) (.r0 c)) () N0 + ∑ k : Fin 31, tallyAt (cell (fwd c k) .b0) () 1

theorem owe1_above (R : Routing) (c : Dev nD) : Above 2 (owe1 R c) :=
  ((rrD_above (by decide) R c Above.zero).add (Above.sum fun i _ => rxT_above (by decide) R c i)).add (Above.sum fun k _ => Above.tally (by decide))
theorem owe0_above (c : Dev nD) : Above 0 (owe0 c) :=
  (Above.sum fun k _ => Above.tally (by show 0 < 2; decide)).add (Above.sum fun k _ => Above.tally (by show 0 < 1; decide))

theorem Above.cut {D : CellTallies nD τ sig Unit} (h : Above 0 D) {g : GSem nD τ sig} {u : Unit} (hg : 0 < D g u) : u ∈ L g ∧ 0 < lv g u := by
  obtain ⟨h1, h2⟩ := h g u hg
  refine ⟨?_, h2⟩
  unfold L; rw [if_pos h1]; exact Finset.mem_singleton_self _

/-! ## The two calls' records -/

/-- What bypasses the calls. -/
abbrev inv (P : Plan F) : sProp 𝕄 := iprop(∃ κ, ctx P κ)
abbrev rest0 (c : Dev nD) : sProp 𝕄 := Pipeline.scopedRest spec0 c
abbrev rest1 (c : Dev nD) : sProp 𝕄 := Pipeline.scopedRest spec1 c
abbrev rng (c : Dev nD) : sProp 𝕄 := iprop(∃ r, prngReg c r)

def Tk0 (P : Plan F) (c : Dev nD) : sProp 𝕄 := iprop(inv P ∗ gTok c ∗ dTok P c)
def Xk0 (P : Plan F) (c : Dev nD) : sProp 𝕄 := iprop((∃ κ, ctx P κ ∗ gHave c) ∗ dTok P c)
def Tk1 (P : Plan F) (c : Dev nD) : sProp 𝕄 := iprop(inv P ∗ dTok P c ∗ semVal (cell c .b0) 0)
def Xk1 (P : Plan F) (c : Dev nD) : sProp 𝕄 := iprop((∃ κ, ctx P κ ∗ dHave P c) ∗ semVal (cell c .b0) 0)
def Tk2 (c : Dev nD) : sProp 𝕄 := iprop(semVal (cell c .b1) 0 ∗ semVal (cell c .b0) 0)

def in0 (P : Plan F) (c : Dev nD) : sProp 𝕄 := iprop(Xk0 P c ∗ rest0 c ∗ rng c)
def out0 (P : Plan F) (c : Dev nD) : sProp 𝕄 := iprop(Tk1 P c ∗ Pipeline.ownSems0 osem0 c ∗ rest0 c ∗ rng c)
def in1 (P : Plan F) (c : Dev nD) : sProp 𝕄 := iprop(Xk1 P c ∗ rest1 c ∗ rng c)
def out1 (c : Dev nD) : sProp 𝕄 := iprop(Tk2 c ∗ Pipeline.ownSems0 osem1 c ∗ rest1 c ∗ rng c)

/-- Call 0: the row of indices in, the gathered array out. -/
def dat0 (c : Dev nD) : Pipeline.Dat τ (Elt F) Unit ℕ UU ℕ cfg0 c where
  A w := Z.Va c (Proc.devRef .tc (Pipeline.arrRef spec0 w))
  after w _ := match w with
    | 0 => Z.P.E c
    | 1 => Z.P.gat
    | ⟨_ + 2, h⟩ => absurd h (Nat.not_lt.2 (Nat.le_add_left _ _))
  Φ t := if t.val = 0 then in0 Z.P c else out0 Z.P c
  q _ := fullShare
  owed t := if t.val = 0 then owe1 Z.P.R c + owe0 c else owe1 Z.P.R c

/-- Call 1: the tables, the tokens and the weights in, the result out. -/
def dat1 (c : Dev nD) : Pipeline.Dat τ (Elt F) Unit ℕ UU ℕ cfg1 c where
  A w := Z.Vb c (Proc.devRef .tc (Pipeline.arrRef spec1 w))
  after w _ := match w with
    | 0 => (Z.T c).keep
    | 1 => (Z.T c).dst
    | 2 => (Z.T c).slot
    | 3 => (Z.T c).n
    | 4 => (Z.T c).td
    | 5 => (Z.T c).tr
    | 6 => Z.P.X c
    | 7 => Z.ew c
    | 8 => Z.fin c
    | ⟨_ + 9, h⟩ => absurd h (Nat.not_lt.2 (Nat.le_add_left _ _))
  Φ t := if t.val = 0 then in1 Z.P c else out1 c
  q _ := fullShare
  owed t := if t.val = 0 then owe1 Z.P.R c else 0

def pdats : (p : Fin 2) → (c : Dev nD) → Pipeline.Dat τ (Elt F) Unit ℕ UU ℕ (Pipeline.pin (pcfgs (F := F)) adm p) c
  | 0 => dat0 Z
  | 1 => dat1 Z
  | ⟨_ + 2, h⟩ => absurd h (Nat.not_lt.2 (Nat.le_add_left _ _))

/-- The window of call 1's result keeps no exact contents where the plan does not determine them. -/
def fgt : (p : Fin 2) → Fin (Pipeline.pin (pcfgs (F := F)) adm p).W → Bool
  | 0 => fun _ => false
  | 1 => fun w => if w = (8 : Fin 9) then Z.loose else false
  | ⟨_ + 2, h⟩ => absurd h (Nat.not_lt.2 (Nat.le_add_left _ _))

/-! ## Point by point -/

theorem N0_eq : cfg0.N = 1 := N_0
theorem N1_eq : cfg1.N = 1 := N_1

theorem phi0_first (c : Dev nD) : (dat0 Z c).Φ 0 = in0 Z.P c := by
  show (if (0 : Fin (cfg0.N + 1)).val = 0 then in0 Z.P c else out0 Z.P c) = _
  exact if_pos rfl
theorem phi0_last (c : Dev nD) : (dat0 Z c).Φ (Fin.last cfg0.N) = out0 Z.P c := by
  show (if (Fin.last cfg0.N).val = 0 then in0 Z.P c else out0 Z.P c) = _
  rw [Fin.val_last, if_neg (by rw [show cfg0.N = 1 from N_0]; decide)]
theorem phi1_first (c : Dev nD) : (dat1 Z c).Φ 0 = in1 Z.P c := by
  show (if (0 : Fin (cfg1.N + 1)).val = 0 then in1 Z.P c else out1 c) = _
  exact if_pos rfl
theorem phi1_last (c : Dev nD) : (dat1 Z c).Φ (Fin.last cfg1.N) = out1 c := by
  show (if (Fin.last cfg1.N).val = 0 then in1 Z.P c else out1 c) = _
  rw [Fin.val_last, if_neg (by rw [show cfg1.N = 1 from N_1]; decide)]
theorem owed0_first (c : Dev nD) : (dat0 Z c).owed 0 = owe1 Z.P.R c + owe0 c := by
  show (if (0 : Fin (cfg0.N + 1)).val = 0 then owe1 Z.P.R c + owe0 c else owe1 Z.P.R c) = _
  exact if_pos rfl
theorem owed0_last (c : Dev nD) : (dat0 Z c).owed (Fin.last cfg0.N) = owe1 Z.P.R c := by
  show (if (Fin.last cfg0.N).val = 0 then owe1 Z.P.R c + owe0 c else owe1 Z.P.R c) = _
  rw [Fin.val_last, if_neg (by rw [show cfg0.N = 1 from N_0]; decide)]
theorem owed1_first (c : Dev nD) : (dat1 Z c).owed 0 = owe1 Z.P.R c := by
  show (if (0 : Fin (cfg1.N + 1)).val = 0 then owe1 Z.P.R c else 0) = _
  exact if_pos rfl
theorem owed1_last (c : Dev nD) : (dat1 Z c).owed (Fin.last cfg1.N) = 0 := by
  show (if (Fin.last cfg1.N).val = 0 then owe1 Z.P.R c else 0) = _
  rw [Fin.val_last, if_neg (by rw [show cfg1.N = 1 from N_1]; decide)]

theorem before0_0 (c : Dev nD) (d) : (dat0 Z c).before 0 t0_0 d = Z.P.E c := by
  rw [← Z.hE c]; unfold Pipeline.Dat.before; rw [if_pos (fetch0_0 _)]; exact funext fun j => congrArg (Z.Va c (Proc.devRef .tc main_v2)) (funext fun a => Fin.ext (Pipeline.Window.rect_emb_val_of_index_zero win0_0 t0_0 a rfl _))
theorem before1_0 (c : Dev nD) (d) : (dat1 Z c).before 0 t1_0 d = (Z.T c).keep := by
  rw [← Z.hkeep c]; unfold Pipeline.Dat.before; rw [if_pos (fetch1_0 _)]; exact funext fun j => congrArg (Z.Vb c (Proc.devRef .tc main_v37)) (funext fun a => Fin.ext (Pipeline.Window.rect_emb_val_of_index_zero win1_0 t1_0 a rfl _))
theorem before1_1 (c : Dev nD) (d) : (dat1 Z c).before 1 t1_0 d = (Z.T c).dst := by
  rw [← Z.hdst c]; unfold Pipeline.Dat.before; rw [if_pos (fetch1_1 _)]; exact funext fun j => congrArg (Z.Vb c (Proc.devRef .tc main_v38)) (funext fun a => Fin.ext (Pipeline.Window.rect_emb_val_of_index_zero win1_1 t1_0 a rfl _))
theorem before1_2 (c : Dev nD) (d) : (dat1 Z c).before 2 t1_0 d = (Z.T c).slot := by
  rw [← Z.hslot c]; unfold Pipeline.Dat.before; rw [if_pos (fetch1_2 _)]; exact funext fun j => congrArg (Z.Vb c (Proc.devRef .tc main_v44)) (funext fun a => Fin.ext (Pipeline.Window.rect_emb_val_of_index_zero win1_2 t1_0 a rfl _))
theorem before1_3 (c : Dev nD) (d) : (dat1 Z c).before 3 t1_0 d = (Z.T c).n := by
  rw [← Z.hn c]; unfold Pipeline.Dat.before; rw [if_pos (fetch1_3 _)]; exact funext fun j => congrArg (Z.Vb c (Proc.devRef .tc main_v52)) (funext fun a => Fin.ext (Pipeline.Window.rect_emb_val_of_index_zero win1_3 t1_0 a rfl _))
theorem before1_4 (c : Dev nD) (d) : (dat1 Z c).before 4 t1_0 d = (Z.T c).td := by
  rw [← Z.htd c]; unfold Pipeline.Dat.before; rw [if_pos (fetch1_4 _)]; exact funext fun j => congrArg (Z.Vb c (Proc.devRef .tc main_v106)) (funext fun a => Fin.ext (Pipeline.Window.rect_emb_val_of_index_zero win1_4 t1_0 a rfl _))
theorem before1_5 (c : Dev nD) (d) : (dat1 Z c).before 5 t1_0 d = (Z.T c).tr := by
  rw [← Z.htr c]; unfold Pipeline.Dat.before; rw [if_pos (fetch1_5 _)]; exact funext fun j => congrArg (Z.Vb c (Proc.devRef .tc main_v107)) (funext fun a => Fin.ext (Pipeline.Window.rect_emb_val_of_index_zero win1_5 t1_0 a rfl _))
theorem before1_6 (c : Dev nD) (d) : (dat1 Z c).before 6 t1_0 d = Z.P.X c := by
  rw [← Z.hX c]; unfold Pipeline.Dat.before; rw [if_pos (fetch1_6 _)]; exact funext fun j => congrArg (Z.Vb c (Proc.devRef .tc main_v1)) (funext fun a => Fin.ext (Pipeline.Window.rect_emb_val_of_index_zero win1_6 t1_0 a rfl _))
theorem before1_7 (c : Dev nD) (d) : (dat1 Z c).before 7 t1_0 d = Z.ew c := by
  rw [← Z.hew c]; unfold Pipeline.Dat.before; rw [if_pos (fetch1_7 _)]; exact funext fun j => congrArg (Z.Vb c (Proc.devRef .tc main_arg3)) (funext fun a => Fin.ext (Pipeline.Window.rect_emb_val_of_index_zero win1_7 t1_0 a rfl _))

theorem owesAt_intro {cfg : Pipeline.Cfg sig Λ₀} {c : Dev nD} (dat : Pipeline.Dat τ (Elt F) Unit ℕ UU ℕ cfg c) (t : Fin (cfg.N + 1))
    {O : CellTallies nD τ sig Unit} (h0 : dat.owed t = O) (hr : dat.recorded t = Set.univ) : owing c O ⊢ (dat.owesAt () t : sProp 𝕄) := by
  unfold Pipeline.Dat.owesAt Pipeline.owesWithin Pipeline.Dat.bound
  rw [h0, hr]
  iintro ⟨%W, HO⟩
  iexists W
  isplitr
  · ipureintro; exact fun _ _ => Or.inl trivial
  iexact HO

theorem owesAt_elim {cfg : Pipeline.Cfg sig Λ₀} {c : Dev nD} (dat : Pipeline.Dat τ (Elt F) Unit ℕ UU ℕ cfg c) (t : Fin (cfg.N + 1))
    {O : CellTallies nD τ sig Unit} (h0 : dat.owed t = O) : (dat.owesAt () t : sProp 𝕄) ⊢ owing c O := by
  unfold Pipeline.Dat.owesAt Pipeline.owesWithin
  rw [h0]
  iintro ⟨%W, -, HO⟩
  iexists W
  iexact HO

/-! ## The bodies, with what stands by -/

theorem sems0 (c : Dev nD) : iprop(bigSep Finset.univ (fun k : Fin 31 => semVal (cell c (.s0 k)) 0) ∗ bigSep Finset.univ (fun k : Fin 32 => semVal (cell c (.r0 k)) 0))
    = (Pipeline.ownSems0 osem0 c : sProp 𝕄) := (split0 c (fun k => semVal (cell c k) 0)).symm
theorem sems1 (c : Dev nD) : iprop(bigSep Finset.univ (fun i : Fin 256 => semVal (cell c (.sx i)) 0) ∗ bigSep Finset.univ (fun s : Fin 204 => semVal (cell c (.rx s)) 0)
      ∗ bigSep Finset.univ (fun s : Fin 204 => semVal (cell c (.sr s)) 0) ∗ bigSep Finset.univ (fun i : Fin 256 => semVal (cell c (.rr i)) 0))
    = (Pipeline.ownSems0 osem1 c : sProp 𝕄) := (split1 c (fun k => semVal (cell c k) 0)).symm

abbrev body0 : Prog (TpuEff nD τ sig (Elt F) Λ₀ .tc) Unit :=
  cc0_body (Memref.whole cc0_stg0_0) (Memref.isWhole_whole _) (Memref.whole cc0_stg1_0) (Memref.isWhole_whole _) cc0_scratch0 cc0_scratch1
abbrev body1 : Prog (TpuEff nD τ sig (Elt F) Λ₀ .tc) Unit := cc1_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole main_v7) (Memref.isWhole_whole _) (Memref.whole cc1_stg8_0) (Memref.isWhole_whole _) (Memref.whole cc1_scratch0) (Memref.isWhole_whole _) (Memref.whole cc1_scratch1) (Memref.isWhole_whole _) cc1_scratch2 cc1_scratch3 cc1_scratch4 cc1_scratch5

theorem run_mono {α : Type} {c : Dev nD} {p : Prog (TpuEff nD τ sig (Elt F) Λ₀ .tc) α} {A : sProp 𝕄} {B B' : α → sProp 𝕄}
    (h : A ⊢ run c p B) (h' : ∀ x, B x ⊢ B' x) : A ⊢ run c p B' := by
  unfold run at h ⊢
  exact BIBase.Entails.trans h (wp_mono _ _ _ h')

set_option maxRecDepth 20000 in
theorem body0_dat (P : Plan F) (c : Dev nD) :
    iprop(in0 P c ∗ owing c (owe1 P.R c + owe0 c) ∗ arg0Own P c fullShare ∗ (∃ f : Gat (F := F), ((c : Thread nD τ).loc cc0_stg1_0) ↦[Finset.univ]{fullShare} f))
      ⊢ run c body0 (fun _ => iprop(out0 P c ∗ owing c (owe1 P.R c) ∗ arg0Own P c fullShare ∗ (((c : Thread nD τ).loc cc0_stg1_0) ↦[Finset.univ]{fullShare} P.gat))) := by
  unfold in0 Xk0
  iintro ⟨⟨⟨⟨%κ, Hc, Hg⟩, Hd⟩, Hr, Hp⟩, HO, Ha, Hf⟩
  have h := run_mono (B' := fun _ => iprop(out0 P c ∗ owing c (owe1 P.R c) ∗ arg0Own P c fullShare ∗ (((c : Thread nD τ).loc cc0_stg1_0) ↦[Finset.univ]{fullShare} P.gat)))
    (run_frame (R := iprop(dTok P c ∗ rest0 c ∗ rng c)) (body0_all (P := P) (κ := κ) c (owe1_above P.R c))) fun _ => by
      unfold gEnd out0 Tk1
      rw [← sems0]
      iintro ⟨Hc, ⟨Hb, Hs, Hr, Ha, Hg, HO⟩, Hd, Hre, Hp⟩
      isplitl [Hc Hb Hs Hr Hd Hre Hp]
      · isplitl [Hc Hd Hb]
        · isplitl [Hc]; · iexists κ; iexact Hc
          isplitl [Hd] <;> iassumption
        isplitl [Hs Hr]; · isplitl [Hs] <;> iassumption
        isplitl [Hre] <;> iassumption
      isplitl [HO]; · iexact HO
      isplitl [Ha] <;> iassumption
  iapply h
  isplitl [Hc]; · iexact Hc
  isplitr [Hd Hr Hp]
  · isplitl [Hg]; · iexact Hg
    isplitl [Ha]; · iexact Ha
    isplitl [Hf]; · iexact Hf
    unfold owe0; rw [← add_assoc]; iexact HO
  isplitl [Hd]; · iexact Hd
  isplitl [Hr] <;> iassumption

end Cert.MoE

end
-- ==== Proof.LaunchC.lean ====
/-
  The two bodies meet the calls' records: each call's staging buffers, before and after.
-/
module

public import proofs.«01_k».proof.Proof.LaunchB

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

variable (Z : Setup F) (c : Dev nD)

theorem rest1_eq : (rest1 c : sProp 𝕄) = iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f)) := scopedRest1_eq c

set_option maxRecDepth 20000 in
theorem body1_dat :
    iprop(in1 Z.P c ∗ owing c (owe1 Z.P.R c) ∗ tabs (Z.T c) ∗ xOwn Z.P c ∗ ewOwn c (Z.ew c) ∗ (∃ f, oOwn (F := F) c f))
      ⊢ run c body1 (fun _ => iprop(out1 c ∗ owing c 0 ∗ tabs (Z.T c) ∗ xOwn Z.P c ∗ ewOwn c (Z.ew c) ∗ ∃ f : Out (F := F), ⌜∀ i, Final Z.P c i f⌝ ∗ oOwn c f)) := by
  unfold in1 Xk1
  iintro ⟨⟨⟨⟨%κ, Hc, Hg⟩, Hb⟩, Hr, Hp⟩, HO, HT, HX, HE, Hf⟩
  have h := run_mono (B' := fun _ => iprop(out1 c ∗ owing c 0 ∗ tabs (Z.T c) ∗ xOwn Z.P c ∗ ewOwn c (Z.ew c) ∗ ∃ f : Out (F := F), ⌜∀ i, Final Z.P c i f⌝ ∗ oOwn c f))
    (run_frame (R := iprop(semVal (cell c .b0) 0 ∗ ((∃ f : Buf (Elt F) ((c : Thread nD τ).loc cc0_stg0_0), ((c : Thread nD τ).loc cc0_stg0_0) ↦{fullShare} f)
        ∗ (∃ f : Buf (Elt F) ((c : Thread nD τ).loc cc0_stg1_0), ((c : Thread nD τ).loc cc0_stg1_0) ↦{fullShare} f)) ∗ rng c))
      (body1_all (P := Z.P) (κ := κ) (c := c) (T := Z.T c) (ew := Z.ew c) (Above.zero) (Z.good c))) fun _ => by
      unfold dEnd out1 Tk2
      rw [← sems1, rest1_eq]
      iintro ⟨-, ⟨⟨Hb1, Hs⟩, HT, HO, HX, HE, ⟨%g1, Hs1⟩, ⟨%g2, Hs2⟩, Ho⟩, Hb, ⟨Hp0, Hp1⟩, Hp⟩
      isplitl [Hb1 Hb Hs Hp0 Hp1 Hs1 Hs2 Hp]
      · isplitl [Hb1 Hb]; · isplitl [Hb1] <;> iassumption
        isplitl [Hs]; · iexact Hs
        isplitl [Hp0 Hp1 Hs1 Hs2]
        · isplitl [Hp0]; · iexact Hp0
          isplitl [Hp1]; · iexact Hp1
          isplitl [Hs1]; · iexists g1; iexact Hs1
          iexists g2; iexact Hs2
        iexact Hp
      isplitl [HO]; · iexact HO
      isplitl [HT]; · iexact HT
      isplitl [HX]; · iexact HX
      isplitl [HE] <;> iassumption
  ihave Hr := (Entails.of_eq (rest1_eq (F := F) c)) $$ Hr
  icases Hr with ⟨Hp0, Hp1, Hs1, Hs2⟩
  iapply h
  isplitl [Hc]; · iexact Hc
  isplitr [Hb Hp0 Hp1 Hp]
  · isplitl [Hg]; · iexact Hg
    isplitl [HT]; · iexact HT
    isplitl [HX]; · iexact HX
    isplitl [HE]; · iexact HE
    isplitl [Hf]; · iexact Hf
    isplitl [Hs2]; · iexact Hs2
    isplitl [Hs1]; · iexact Hs1
    unfold owe1; iexact HO
  isplitl [Hb]; · iexact Hb
  isplitr [Hp]
  · isplitl [Hp0] <;> iassumption
  iexact Hp

theorem owns_one (b : Ref sig .tc) (X : b.ty.Contents (Elt F)) :
    (owns (c : Thread nD τ) (Memref.whole b) fullShare X : sProp 𝕄) = (((c : Thread nD τ).loc b) ↦[Finset.univ]{fullShare} X) := by
  rw [owns_whole]

/-! ## Call 0's obligation -/

theorem stage0 :
    iprop((dat0 Z c).Φ t0_0.castSucc ∗ (dat0 Z c).owesAt () t0_0.castSucc
        ∗ (∃ d, owns (c : Thread nD τ) (Memref.whole cc0_stg0_0) fullShare ((dat0 Z c).before 0 t0_0 d))
        ∗ (∃ d, owns (c : Thread nD τ) (Memref.whole cc0_stg1_0) fullShare ((dat0 Z c).before 1 t0_0 d)))
      ⊢ run c body0 (fun _ => iprop((dat0 Z c).Φ t0_0.succ ∗ (dat0 Z c).owesAt () t0_0.succ
        ∗ owns (c : Thread nD τ) (Memref.whole cc0_stg0_0) fullShare (Z.P.E c) ∗ owns (c : Thread nD τ) (Memref.whole cc0_stg1_0) fullShare Z.P.gat)) := by
  refine run_mono (BIBase.Entails.trans ?_ (body0_dat Z.P c)) fun _ => ?_
  · rw [show (dat0 Z c).Φ t0_0.castSucc = in0 Z.P c from phi0_first Z c]
    iintro ⟨HΦ, HO, ⟨%d0, H0⟩, ⟨%d1, H1⟩⟩
    rw [before0_0]
    simp only [owns_one]
    isplitl [HΦ]; · iexact HΦ
    isplitl [HO]; · iapply (owesAt_elim (dat0 Z c) t0_0.castSucc (owed0_first Z c)); iexact HO
    isplitl [H0]; · iexact H0
    iexists _; iexact H1
  · rw [show (dat0 Z c).Φ t0_0.succ = out0 Z.P c from phi0_last Z c, owns_one, owns_one]
    iintro ⟨HΦ, HO, H0, H1⟩
    isplitl [HΦ]; · iexact HΦ
    isplitl [HO]; · iapply (owesAt_intro (dat0 Z c) t0_0.succ (owed0_last Z c) rfl); iexact HO
    isplitl [H0] <;> iassumption

set_option maxRecDepth 20000 in
theorem ob0 : Pipeline.BodyObligationLoose (dat0 Z c) (defs₀ (F := F)) 𝒱₀ () Set.univ (fgt Z 0) := fun t => by
  obtain rfl := fin_N0 t
  rw [bigSep_W0, bigSep_W0]
  exact stage0 Z c

/-! ## Call 1's obligation -/

theorem stage1 :
    iprop((dat1 Z c).Φ t1_0.castSucc ∗ (dat1 Z c).owesAt () t1_0.castSucc
        ∗ (∃ d, owns (c : Thread nD τ) (Memref.whole cc1_stg0_0) fullShare ((dat1 Z c).before 0 t1_0 d))
        ∗ (∃ d, owns (c : Thread nD τ) (Memref.whole cc1_stg1_0) fullShare ((dat1 Z c).before 1 t1_0 d))
        ∗ (∃ d, owns (c : Thread nD τ) (Memref.whole cc1_stg2_0) fullShare ((dat1 Z c).before 2 t1_0 d))
        ∗ (∃ d, owns (c : Thread nD τ) (Memref.whole cc1_stg3_0) fullShare ((dat1 Z c).before 3 t1_0 d))
        ∗ (∃ d, owns (c : Thread nD τ) (Memref.whole cc1_stg4_0) fullShare ((dat1 Z c).before 4 t1_0 d))
        ∗ (∃ d, owns (c : Thread nD τ) (Memref.whole cc1_stg5_0) fullShare ((dat1 Z c).before 5 t1_0 d))
        ∗ (∃ d, owns (c : Thread nD τ) (Memref.whole cc1_stg6_0) fullShare ((dat1 Z c).before 6 t1_0 d))
        ∗ (∃ d, owns (c : Thread nD τ) (Memref.whole cc1_stg7_0) fullShare ((dat1 Z c).before 7 t1_0 d))
        ∗ (∃ X, owns (c : Thread nD τ) (Memref.whole cc1_stg8_0) fullShare X))
      ⊢ run c body1 (fun _ => iprop((dat1 Z c).Φ t1_0.succ ∗ (dat1 Z c).owesAt () t1_0.succ
        ∗ owns (c : Thread nD τ) (Memref.whole cc1_stg0_0) fullShare ((Z.T c).keep) ∗ owns (c : Thread nD τ) (Memref.whole cc1_stg1_0) fullShare ((Z.T c).dst) ∗ owns (c : Thread nD τ) (Memref.whole cc1_stg2_0) fullShare ((Z.T c).slot) ∗ owns (c : Thread nD τ) (Memref.whole cc1_stg3_0) fullShare ((Z.T c).n) ∗ owns (c : Thread nD τ) (Memref.whole cc1_stg4_0) fullShare ((Z.T c).td) ∗ owns (c : Thread nD τ) (Memref.whole cc1_stg5_0) fullShare ((Z.T c).tr) ∗ owns (c : Thread nD τ) (Memref.whole cc1_stg6_0) fullShare (Z.P.X c) ∗ owns (c : Thread nD τ) (Memref.whole cc1_stg7_0) fullShare (Z.ew c)
        ∗ ∃ f : Out (F := F), ⌜∀ i, Final Z.P c i f⌝ ∗ owns (c : Thread nD τ) (Memref.whole cc1_stg8_0) fullShare f)) := by
  refine run_mono (BIBase.Entails.trans ?_ (body1_dat Z c)) fun _ => ?_
  · rw [show (dat1 Z c).Φ t1_0.castSucc = in1 Z.P c from phi1_first Z c]
    iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [before1_0, before1_1, before1_2, before1_3, before1_4, before1_5, before1_6, before1_7]
    simp only [owns_one]
    unfold tabs
    isplitl [HΦ]; · iexact HΦ
    isplitl [HO]; · iapply (owesAt_elim (dat1 Z c) t1_0.castSucc (owed1_first Z c)); iexact HO
    isplitl [H0 H1 H2 H3 H4 H5]
    · isplitl [H0]; · iexact H0
      isplitl [H1]; · iexact H1
      isplitl [H2]; · iexact H2
      isplitl [H3]; · iexact H3
      isplitl [H4] <;> iassumption
    isplitl [H6]; · iexact H6
    isplitl [H7]; · iexact H7
    iexists _; iexact H8
  · rw [show (dat1 Z c).Φ t1_0.succ = out1 c from phi1_last Z c]
    simp only [owns_one]
    unfold tabs
    iintro ⟨HΦ, HO, ⟨H0, H1, H2, H3, H4, H5⟩, H6, H7, H8⟩
    isplitl [HΦ]; · iexact HΦ
    isplitl [HO]; · iapply (owesAt_intro (dat1 Z c) t1_0.succ (owed1_last Z c) rfl); iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- Where the plan determines the result, the window keeps it; -/
theorem stage1_exact (hl : Z.loose = false) :
    iprop((dat1 Z c).Φ t1_0.castSucc ∗ (dat1 Z c).owesAt () t1_0.castSucc
        ∗ (∃ d, owns (c : Thread nD τ) (Memref.whole cc1_stg0_0) fullShare ((dat1 Z c).before 0 t1_0 d))
        ∗ (∃ d, owns (c : Thread nD τ) (Memref.whole cc1_stg1_0) fullShare ((dat1 Z c).before 1 t1_0 d))
        ∗ (∃ d, owns (c : Thread nD τ) (Memref.whole cc1_stg2_0) fullShare ((dat1 Z c).before 2 t1_0 d))
        ∗ (∃ d, owns (c : Thread nD τ) (Memref.whole cc1_stg3_0) fullShare ((dat1 Z c).before 3 t1_0 d))
        ∗ (∃ d, owns (c : Thread nD τ) (Memref.whole cc1_stg4_0) fullShare ((dat1 Z c).before 4 t1_0 d))
        ∗ (∃ d, owns (c : Thread nD τ) (Memref.whole cc1_stg5_0) fullShare ((dat1 Z c).before 5 t1_0 d))
        ∗ (∃ d, owns (c : Thread nD τ) (Memref.whole cc1_stg6_0) fullShare ((dat1 Z c).before 6 t1_0 d))
        ∗ (∃ d, owns (c : Thread nD τ) (Memref.whole cc1_stg7_0) fullShare ((dat1 Z c).before 7 t1_0 d))
        ∗ (∃ d, owns (c : Thread nD τ) (Memref.whole cc1_stg8_0) fullShare ((dat1 Z c).before 8 t1_0 d)))
      ⊢ run c body1 (fun _ => iprop((dat1 Z c).Φ t1_0.succ ∗ (dat1 Z c).owesAt () t1_0.succ
        ∗ owns (c : Thread nD τ) (Memref.whole cc1_stg0_0) fullShare ((Z.T c).keep) ∗ owns (c : Thread nD τ) (Memref.whole cc1_stg1_0) fullShare ((Z.T c).dst) ∗ owns (c : Thread nD τ) (Memref.whole cc1_stg2_0) fullShare ((Z.T c).slot) ∗ owns (c : Thread nD τ) (Memref.whole cc1_stg3_0) fullShare ((Z.T c).n) ∗ owns (c : Thread nD τ) (Memref.whole cc1_stg4_0) fullShare ((Z.T c).td) ∗ owns (c : Thread nD τ) (Memref.whole cc1_stg5_0) fullShare ((Z.T c).tr) ∗ owns (c : Thread nD τ) (Memref.whole cc1_stg6_0) fullShare (Z.P.X c) ∗ owns (c : Thread nD τ) (Memref.whole cc1_stg7_0) fullShare (Z.ew c)
        ∗ owns (c : Thread nD τ) (Memref.whole cc1_stg8_0) fullShare (Z.fin c))) := by
  refine run_mono (BIBase.Entails.trans ?_ (stage1 Z c)) fun _ => ?_
  · iintro ⟨HΦ, HO, H0, H1, H2, H3, H4, H5, H6, H7, ⟨%d, H8⟩⟩
    iframe
    iexists _; iexact H8
  · iintro ⟨HΦ, HO, H0, H1, H2, H3, H4, H5, H6, H7, ⟨%f, %hf, H8⟩⟩
    obtain rfl := Z.only hl c f hf
    iframe
/-- elsewhere it keeps none. -/
theorem stage1_loose :
    iprop((dat1 Z c).Φ t1_0.castSucc ∗ (dat1 Z c).owesAt () t1_0.castSucc
        ∗ (∃ d, owns (c : Thread nD τ) (Memref.whole cc1_stg0_0) fullShare ((dat1 Z c).before 0 t1_0 d))
        ∗ (∃ d, owns (c : Thread nD τ) (Memref.whole cc1_stg1_0) fullShare ((dat1 Z c).before 1 t1_0 d))
        ∗ (∃ d, owns (c : Thread nD τ) (Memref.whole cc1_stg2_0) fullShare ((dat1 Z c).before 2 t1_0 d))
        ∗ (∃ d, owns (c : Thread nD τ) (Memref.whole cc1_stg3_0) fullShare ((dat1 Z c).before 3 t1_0 d))
        ∗ (∃ d, owns (c : Thread nD τ) (Memref.whole cc1_stg4_0) fullShare ((dat1 Z c).before 4 t1_0 d))
        ∗ (∃ d, owns (c : Thread nD τ) (Memref.whole cc1_stg5_0) fullShare ((dat1 Z c).before 5 t1_0 d))
        ∗ (∃ d, owns (c : Thread nD τ) (Memref.whole cc1_stg6_0) fullShare ((dat1 Z c).before 6 t1_0 d))
        ∗ (∃ d, owns (c : Thread nD τ) (Memref.whole cc1_stg7_0) fullShare ((dat1 Z c).before 7 t1_0 d))
        ∗ (∃ X, owns (c : Thread nD τ) (Memref.whole cc1_stg8_0) fullShare X))
      ⊢ run c body1 (fun _ => iprop((dat1 Z c).Φ t1_0.succ ∗ (dat1 Z c).owesAt () t1_0.succ
        ∗ owns (c : Thread nD τ) (Memref.whole cc1_stg0_0) fullShare ((Z.T c).keep) ∗ owns (c : Thread nD τ) (Memref.whole cc1_stg1_0) fullShare ((Z.T c).dst) ∗ owns (c : Thread nD τ) (Memref.whole cc1_stg2_0) fullShare ((Z.T c).slot) ∗ owns (c : Thread nD τ) (Memref.whole cc1_stg3_0) fullShare ((Z.T c).n) ∗ owns (c : Thread nD τ) (Memref.whole cc1_stg4_0) fullShare ((Z.T c).td) ∗ owns (c : Thread nD τ) (Memref.whole cc1_stg5_0) fullShare ((Z.T c).tr) ∗ owns (c : Thread nD τ) (Memref.whole cc1_stg6_0) fullShare (Z.P.X c) ∗ owns (c : Thread nD τ) (Memref.whole cc1_stg7_0) fullShare (Z.ew c)
        ∗ ∃ X, owns (c : Thread nD τ) (Memref.whole cc1_stg8_0) fullShare X)) := by
  refine run_mono (stage1 Z c) fun _ => ?_
  iintro ⟨HΦ, HO, H0, H1, H2, H3, H4, H5, H6, H7, ⟨%f, -, H8⟩⟩
  iframe
  iexists _; iexact H8

theorem fgt_one : fgt Z 1 = fun w : Fin 9 => if w = 8 then Z.loose else false := rfl

set_option maxRecDepth 20000 in
theorem ob1 : Pipeline.BodyObligationLoose (dat1 Z c) (defs₀ (F := F)) 𝒱₀ () Set.univ (fgt Z 1) := fun t => by
  obtain rfl := fin_N1 t
  rw [fgt_one]
  rcases hl : Z.loose
  · rw [bigSep_W1, bigSep_W1]
    exact stage1_exact Z c hl
  · rw [bigSep_W1, bigSep_W1]
    exact stage1_loose Z c

end Cert.MoE

end
-- ==== Proof.LaunchD.lean ====
/-
  The two calls as region records.
-/
module

public import proofs.«01_k».proof.Proof.LaunchC

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

set_option maxRecDepth 20000

variable [∀ e, Nonempty (Elt F e)] (Z : Setup F)

omit [∀ e, Nonempty (Elt F e)] in
theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
omit [∀ e, Nonempty (Elt F e)] in
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

/-- The unscoped buffers that are no call's operand or result. -/
abbrev others0 : Finset (DevRef τ sig) := Pipeline.ucRefs τ sig \ Pipeline.arrRefs (τ := τ) spec0
abbrev others1 : Finset (DevRef τ sig) := Pipeline.ucRefs τ sig \ Pipeline.arrRefs (τ := τ) spec1

theorem levs (P : Plan F) (κ : GSem nD τ sig → ℕ) : ctx P κ ⊢ (levAts L lv : sProp 𝕄) := ctx_lev

omit [∀ e, Nonempty (Elt F e)] in
theorem cut0 (c : Dev nD) (t : Fin (cfg0.N + 1)) (g : GSem nD τ sig) (i : Unit) (h : 0 < (dat0 Z c).owed t g i) : i ∈ L g ∧ (0 : ℕ) < lv g i := by
  have e : (dat0 Z c).owed t = if t.val = 0 then owe1 Z.P.R c + owe0 c else owe1 Z.P.R c := rfl
  have h1 := (owe1_above Z.P.R c).mono (Nat.zero_le 2)
  rw [e] at h
  split at h
  · exact Above.cut (h1.add (owe0_above c)) h
  · exact Above.cut h1 h
omit [∀ e, Nonempty (Elt F e)] in
theorem cut1 (c : Dev nD) (t : Fin (cfg1.N + 1)) (g : GSem nD τ sig) (i : Unit) (h : 0 < (dat1 Z c).owed t g i) : i ∈ L g ∧ (0 : ℕ) < lv g i := by
  have e : (dat1 Z c).owed t = if t.val = 0 then owe1 Z.P.R c else 0 := rfl
  have h1 := (owe1_above Z.P.R c).mono (Nat.zero_le 2)
  rw [e] at h
  split at h
  · exact Above.cut h1 h
  · exact absurd h (Nat.lt_irrefl 0)

omit [∀ e, Nonempty (Elt F e)] in
theorem lev_stage (g : GSem nD τ sig) (h1 : g.1.2 = .tc) (h2 : kind g.2 = none) (i : Unit) : i ∈ L g ∧ lv g i ≤ 0 := by
  constructor
  · unfold L; rw [if_pos h1]; exact Finset.mem_singleton_self _
  · unfold lv; rw [h2]

omit [∀ e, Nonempty (Elt F e)] in
theorem hopen0 (c : Dev nD) : iprop(Tk0 Z.P c ∗ Pipeline.ownSems0 osem0 c ∗ levAts L lv) ⊢ (|={Set.univ}=> Xk0 Z.P c : sProp 𝕄) := by
  unfold Tk0 Xk0
  iintro ⟨⟨⟨%κ, #Hc⟩, Hg, Hd⟩, Hs, -⟩
  imod (open0 (P := Z.P) (κ := κ) c) $$ [Hg Hs] with H
  · isplitr; · iexact Hc
    isplitl [Hg] <;> iassumption
  imodintro
  isplitr [Hd]
  · iexists κ
    isplitr; · iexact Hc
    iexact H
  iexact Hd

omit [∀ e, Nonempty (Elt F e)] in
theorem hopen1 (c : Dev nD) : iprop(Tk1 Z.P c ∗ Pipeline.ownSems0 osem1 c ∗ levAts L lv) ⊢ (|={Set.univ}=> Xk1 Z.P c : sProp 𝕄) := by
  unfold Tk1 Xk1
  iintro ⟨⟨⟨%κ, #Hc⟩, Hd, Hb⟩, Hs, -⟩
  imod (open1 (P := Z.P) (κ := κ) c) $$ [Hd Hs] with H
  · isplitr; · iexact Hc
    isplitl [Hd] <;> iassumption
  imodintro
  isplitr [Hb]
  · iexists κ
    isplitr; · iexact Hc
    iexact H
  iexact Hb

omit [∀ e, Nonempty (Elt F e)] in
theorem hin0 (c : Dev nD) (V : Valuation τ sig (Elt F)) :
    iprop(rest0 c ∗ rng c ∗ StableHlo.held (c.tc : Thread nD τ) ∅ V ∗ Xk0 Z.P c) ⊢ ((dat0 Z c).Φ 0 : sProp 𝕄) := by
  rw [phi0_first]; unfold in0
  iintro ⟨Hr, Hp, -, HX⟩
  isplitl [HX]; · iexact HX
  isplitl [Hr] <;> iassumption
omit [∀ e, Nonempty (Elt F e)] in
theorem hin1 (c : Dev nD) (V : Valuation τ sig (Elt F)) :
    iprop(rest1 c ∗ rng c ∗ StableHlo.held (c.tc : Thread nD τ) ∅ V ∗ Xk1 Z.P c) ⊢ ((dat1 Z c).Φ 0 : sProp 𝕄) := by
  rw [phi1_first]; unfold in1
  iintro ⟨Hr, Hp, -, HX⟩
  isplitl [HX]; · iexact HX
  isplitl [Hr] <;> iassumption

omit [∀ e, Nonempty (Elt F e)] in
theorem held_none (c : Dev nD) (V : Valuation τ sig (Elt F)) : (StableHlo.held (c.tc : Thread nD τ) ∅ V : sProp 𝕄) = BI.emp := by
  unfold StableHlo.held; exact BI.bigSep_empty

omit [∀ e, Nonempty (Elt F e)] in
theorem hout0 (c : Dev nD) (V : Valuation τ sig (Elt F)) : ((dat0 Z c).Φ (Fin.last cfg0.N) : sProp 𝕄)
    ⊢ iprop(rest0 c ∗ rng c ∗ (∃ W' : Valuation τ sig (Elt F), ⌜True⌝ ∗ StableHlo.held (c.tc : Thread nD τ) ∅ W') ∗ Pipeline.ownSems0 osem0 c ∗ Tk1 Z.P c) := by
  rw [phi0_last]; unfold out0
  iintro ⟨HT, Hs, Hr, Hp⟩
  isplitl [Hr]; · iexact Hr
  isplitl [Hp]; · iexact Hp
  isplitr
  · iexists V
    isplitr; · ipureintro; trivial
    rw [held_none]; iempintro
  isplitl [Hs] <;> iassumption
omit [∀ e, Nonempty (Elt F e)] in
theorem hout1 (c : Dev nD) (V : Valuation τ sig (Elt F)) : ((dat1 Z c).Φ (Fin.last cfg1.N) : sProp 𝕄)
    ⊢ iprop(rest1 c ∗ rng c ∗ (∃ W' : Valuation τ sig (Elt F), ⌜True⌝ ∗ StableHlo.held (c.tc : Thread nD τ) ∅ W') ∗ Pipeline.ownSems0 osem1 c ∗ Tk2 c) := by
  rw [phi1_last]; unfold out1
  iintro ⟨HT, Hs, Hr, Hp⟩
  isplitl [Hr]; · iexact Hr
  isplitl [Hp]; · iexact Hp
  isplitr
  · iexists V
    isplitr; · ipureintro; trivial
    rw [held_none]; iempintro
  isplitl [Hs] <;> iassumption

set_option backward.isDefEq.respectTransparency.types false in
/-- Call 0. -/
def reg0 : Pipeline.RDat.RegionSeg (pcfgs (F := F)) adm (Pipeline.toRsF (pcfgs (F := F)) adm (pdats Z) (fgt Z)) () defs₀ 𝒱₀ L lv 0 :=
  Pipeline.RDat.RegionSeg.ofTalkF (pcfgs (F := F)) adm (pdats Z) () defs₀ 𝒱₀ L lv 0 (fgt Z) osem0 own0
    ∅ others0 (Finset.empty_subset _) kit0 rfl (ob0 Z)
    (fun c => owe1 Z.P.R c) (fun c => owe0 c) (owed0_first Z) (owed0_last Z) (fun _ => rfl)
    (fun c => (dat0 Z c).share_full fun _ => rfl)
    Z.Va (fun _ _ => True) (Tk0 Z.P) (Tk1 Z.P) (Xk0 Z.P) (Tk1 Z.P) (hopen0 Z) (fun c => hin0 Z c (Z.Va c)) (fun c => hout0 Z c (Z.Va c))
    (fun c => by iintro H; imodintro; iexact H)
    (fun _ => 0)
    ⟨fun c w s => (lev_stage _ rfl (stage_kind0 w s) ()).1, fun c w s => (lev_stage _ rfl (stage_kind0 w s) ()).2, fun c t g i h => cut0 Z c t g i h⟩
    (fun _ => iprop(emp)) (fun c w => rfl)

set_option backward.isDefEq.respectTransparency.types false in
/-- Call 1. -/
def reg1 : Pipeline.RDat.RegionSeg (pcfgs (F := F)) adm (Pipeline.toRsF (pcfgs (F := F)) adm (pdats Z) (fgt Z)) () defs₀ 𝒱₀ L lv 1 :=
  Pipeline.RDat.RegionSeg.ofTalkF (pcfgs (F := F)) adm (pdats Z) () defs₀ 𝒱₀ L lv 1 (fgt Z) osem1 own1
    ∅ others1 (Finset.empty_subset _) kit1 rfl (ob1 Z)
    (fun _ => 0) (fun c => owe1 Z.P.R c) (fun c => (owed1_first Z c).trans (zero_add _).symm) (owed1_last Z) (fun _ => rfl)
    (fun c => (dat1 Z c).share_full fun _ => rfl)
    Z.Vb (fun _ _ => True) (Tk1 Z.P) Tk2 (Xk1 Z.P) Tk2 (hopen1 Z) (fun c => hin1 Z c (Z.Vb c)) (fun c => hout1 Z c (Z.Vb c))
    (fun c => by iintro H; imodintro; iexact H)
    (fun _ => 0)
    ⟨fun c w s => (lev_stage _ rfl (stage_kind1 w s) ()).1, fun c w s => (lev_stage _ rfl (stage_kind1 w s) ()).2, fun c t g i h => cut1 Z c t g i h⟩
    (fun _ => iprop(emp)) (fun c w => rfl)

end Cert.MoE

end
-- ==== Proof.LaunchE.lean ====
/-
  Entering and leaving the two calls' regions, from and to all of the host's buffers.
-/
module

public import proofs.«01_k».proof.Proof.LaunchD
public import Idealize.ShloMosaic.Lib.Pipeline.ValueKit.Geometry

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

set_option maxRecDepth 20000

variable [∀ e, Nonempty (Elt F e)] (Z : Setup F) (c : Dev nD)

/-- What rides beside the unscoped buffers before, between and after the calls. -/
def ride (P : Plan F) : Fin 3 → Dev nD → sProp 𝕄
  | 0, c => iprop(rng c ∗ Tk0 P c ∗ owing c (owe1 P.R c + owe0 c))
  | 1, c => iprop(rng c ∗ Tk1 P c ∗ owing c (owe1 P.R c))
  | 2, c => iprop(rng c ∗ Tk2 c ∗ owing c 0)
  | ⟨_ + 3, h⟩, _ => absurd h (Nat.not_lt.2 (Nat.le_add_left _ _))

/-- The values after call 0, -/
def Vaf : Valuation τ sig (Elt F) := Function.update (Z.Va c) (Proc.devRef .tc main_v7) Z.P.gat
/-- and after call 1, its result `f`. -/
def Vbf (f : Out (F := F)) : Valuation τ sig (Elt F) := Function.update (Z.Vb c) (Proc.devRef .tc main_v108) f

omit [∀ e, Nonempty (Elt F e)] in
theorem arrs0_sub : Pipeline.arrRefs (τ := τ) spec0 ⊆ Pipeline.ucRefs τ sig := Pipeline.arrRefs_sub_ucRefs _ (by decide)
omit [∀ e, Nonempty (Elt F e)] in
theorem arrs1_sub : Pipeline.arrRefs (τ := τ) spec1 ⊆ Pipeline.ucRefs τ sig := Pipeline.arrRefs_sub_ucRefs _ (by decide)
omit [∀ e, Nonempty (Elt F e)] in
theorem mem0 (w : Fin 2) : Proc.devRef .tc (Pipeline.arrRef spec0 w) ∈ Pipeline.arrRefs (τ := τ) spec0 :=
  Finset.mem_map_of_mem _ (Finset.mem_image_of_mem _ (Finset.mem_univ w))
omit [∀ e, Nonempty (Elt F e)] in
theorem mem1 (w : Fin 9) : Proc.devRef .tc (Pipeline.arrRef spec1 w) ∈ Pipeline.arrRefs (τ := τ) spec1 :=
  Finset.mem_map_of_mem _ (Finset.mem_image_of_mem _ (Finset.mem_univ w))

theorem reg0_pre : iprop(StableHlo.held (c : Thread nD τ) (Pipeline.ucRefs τ sig) (Z.Va c) ∗ ride Z.P 0 c) ⊢ (reg0 Z).pre c := by
  show _ ⊢ iprop(StableHlo.held (c.tc : Thread nD τ) (Pipeline.arrRefs (τ := τ) spec0) (Z.Va c) ∗ (∃ r, prngReg c r)
    ∗ (StableHlo.held (c.tc : Thread nD τ) others0 (Z.Va c) ∗ emp) ∗ Tk0 Z.P c ∗ ∃ Wd, owes (c : Thread nD τ) (owe1 Z.P.R c + owe0 c) Wd)
  rw [StableHlo.held_sub_split (c : Thread nD τ) arrs0_sub (Z.Va c)]
  show iprop((_ ∗ _) ∗ rng c ∗ Tk0 Z.P c ∗ owing c (owe1 Z.P.R c + owe0 c)) ⊢ _
  iintro ⟨⟨Ha, Ho⟩, Hp, HT, HO⟩
  isplitl [Ha]; · iexact Ha
  isplitl [Hp]; · iexact Hp
  isplitl [Ho]
  · isplitl [Ho]; · iexact Ho
    iempintro
  isplitl [HT] <;> iassumption

theorem reg1_pre : iprop(StableHlo.held (c : Thread nD τ) (Pipeline.ucRefs τ sig) (Z.Vb c) ∗ ride Z.P 1 c) ⊢ (reg1 Z).pre c := by
  show _ ⊢ iprop(StableHlo.held (c.tc : Thread nD τ) (Pipeline.arrRefs (τ := τ) spec1) (Z.Vb c) ∗ (∃ r, prngReg c r)
    ∗ (StableHlo.held (c.tc : Thread nD τ) others1 (Z.Vb c) ∗ emp) ∗ Tk1 Z.P c ∗ ∃ Wd, owes (c : Thread nD τ) (0 + owe1 Z.P.R c) Wd)
  rw [StableHlo.held_sub_split (c : Thread nD τ) arrs1_sub (Z.Vb c), zero_add]
  show iprop((_ ∗ _) ∗ rng c ∗ Tk1 Z.P c ∗ owing c (owe1 Z.P.R c)) ⊢ _
  iintro ⟨⟨Ha, Ho⟩, Hp, HT, HO⟩
  isplitl [Ha]; · iexact Ha
  isplitl [Hp]; · iexact Hp
  isplitl [Ho]
  · isplitl [Ho]; · iexact Ho
    iempintro
  isplitl [HT] <;> iassumption

omit [∀ e, Nonempty (Elt F e)] in
theorem arr0_out : (dat0 Z c).arrAt 1 cfg0.N = Z.P.gat :=
  (dat0 Z c).arrAt_eq_of_after_last 1 t0_0 (by decide +kernel) Z.P.gat fun j => rfl
omit [∀ e, Nonempty (Elt F e)] in
theorem arr1_out : (dat1 Z c).arrAt 8 cfg1.N = Z.fin c :=
  (dat1 Z c).arrAt_eq_of_after_last 8 t1_0 (by decide +kernel) (Z.fin c) fun j => rfl

omit [∀ e, Nonempty (Elt F e)] in
theorem Vaf_self : Vaf Z c (Proc.devRef .tc main_v7) = Z.P.gat := by unfold Vaf; exact Function.update_self _ _ _
omit [∀ e, Nonempty (Elt F e)] in
theorem Vaf_ne {b : DevRef τ sig} (h : b ≠ Proc.devRef .tc main_v7) : Vaf Z c b = Z.Va c b := by unfold Vaf; exact Function.update_of_ne h _ _
omit [∀ e, Nonempty (Elt F e)] in
theorem Vbf_self (f : Out (F := F)) : Vbf Z c f (Proc.devRef .tc main_v108) = f := by unfold Vbf; exact Function.update_self _ _ _
omit [∀ e, Nonempty (Elt F e)] in
theorem Vbf_ne (f : Out (F := F)) {b : DevRef τ sig} (h : b ≠ Proc.devRef .tc main_v108) : Vbf Z c f b = Z.Vb c b := by
  unfold Vbf; exact Function.update_of_ne h _ _

omit [∀ e, Nonempty (Elt F e)] in
theorem arrs0_last (w : Fin 2) : (dat0 Z c).arrAt w cfg0.N = Vaf Z c (Proc.devRef .tc (Pipeline.arrRef spec0 w)) := by
  by_cases h : w = 1
  · subst h; exact (arr0_out Z c).trans (Vaf_self Z c).symm
  · obtain rfl : w = 0 := by revert h; revert w; decide
    exact ((dat0 Z c).arrAt_in 0 rfl _).trans (Vaf_ne Z c (StableHlo.devRef_ne_of_ne (by decide))).symm

omit [∀ e, Nonempty (Elt F e)] in
theorem arrs1_last (G : (w : Fin cfg1.W) → Buf (Elt F) ((cfg1.win w).arr.view.loc (c.tc : Thread nD τ)))
    (hG : ∀ w, fgt Z 1 w = false → G w = (dat1 Z c).arrAt w cfg1.N) (w : Fin 9) :
    G w = Vbf Z c (G (8 : Fin 9)) (Proc.devRef .tc (Pipeline.arrRef spec1 w)) := by
  by_cases h : w = 8
  · subst h; exact (Vbf_self Z c _).symm
  · have h1 : (cfg1.win w).isOut = false := by revert h; clear hG; revert w; decide
    have h2 : Pipeline.arrRef spec1 w ≠ main_v108 := by revert h; clear h1 hG; revert w; decide
    exact (hG w (if_neg h)).trans (((dat1 Z c).arrAt_in w h1 _).trans (Vbf_ne Z c _ (StableHlo.devRef_ne_of_ne h2)).symm)

omit [∀ e, Nonempty (Elt F e)] in
theorem others0_same : (StableHlo.held (c : Thread nD τ) others0 (Z.Va c) : sProp 𝕄) = StableHlo.held (c : Thread nD τ) others0 (Vaf Z c) :=
  StableHlo.held_congr _ fun b hb => (Vaf_ne Z c (fun e => (Finset.mem_sdiff.mp hb).2 (by rw [e]; exact mem0 1))).symm
omit [∀ e, Nonempty (Elt F e)] in
theorem others1_same (f : Out (F := F)) : (StableHlo.held (c : Thread nD τ) others1 (Z.Vb c) : sProp 𝕄) = StableHlo.held (c : Thread nD τ) others1 (Vbf Z c f) :=
  StableHlo.held_congr _ fun b hb => (Vbf_ne Z c f (fun e => (Finset.mem_sdiff.mp hb).2 (by rw [e]; exact mem1 8))).symm

set_option backward.isDefEq.respectTransparency.types false in
theorem reg0_post : (reg0 Z).post c ⊢ iprop(StableHlo.held (c : Thread nD τ) (Pipeline.ucRefs τ sig) (Vaf Z c) ∗ ride Z.P 1 c) := by
  show iprop((∃ G : (w : Fin cfg0.W) → Buf (Elt F) ((cfg0.win w).arr.view.loc (c.tc : Thread nD τ)),
      ⌜∀ w, fgt Z 0 w = false → G w = (dat0 Z c).arrAt w cfg0.N⌝ ∗ (dat0 Z c).arrays G) ∗ (∃ r, prngReg c r)
    ∗ ((∃ W' : Valuation τ sig (Elt F), ⌜True⌝ ∗ StableHlo.held (c.tc : Thread nD τ) ∅ W') ∗ StableHlo.held (c.tc : Thread nD τ) (others0 \ ∅) (Z.Va c) ∗ emp)
    ∗ Tk1 Z.P c ∗ ∃ Wd, owes (c : Thread nD τ) (owe1 Z.P.R c) Wd)
    ⊢ iprop(_ ∗ rng c ∗ Tk1 Z.P c ∗ owing c (owe1 Z.P.R c))
  rw [Finset.sdiff_empty, others0_same, StableHlo.held_sub_split (c : Thread nD τ) arrs0_sub (Vaf Z c)]
  iintro ⟨⟨%G, %hG, HG⟩, Hp, ⟨-, Ho, -⟩, HT, HO⟩
  have e : ((dat0 Z c).arrays G : sProp 𝕄) = StableHlo.held (c.tc : Thread nD τ) (Pipeline.arrRefs (τ := τ) spec0) (Vaf Z c) :=
    Pipeline.arrays_held (pcfgs (F := F)) adm (pdats Z) 0 kit0 c ((dat0 Z c).share_full fun _ => rfl) G (Vaf Z c)
      fun w => (hG w rfl).trans (arrs0_last Z c w)
  ihave HG := (Entails.of_eq e) $$ HG
  isplitl [HG Ho]
  · isplitl [HG] <;> iassumption
  isplitl [Hp]; · iexact Hp
  isplitl [HT] <;> iassumption

set_option backward.isDefEq.respectTransparency.types false in
theorem reg1_post : (reg1 Z).post c ⊢ iprop(∃ f : Out (F := F), ⌜Z.loose = false → f = Z.fin c⌝
    ∗ StableHlo.held (c : Thread nD τ) (Pipeline.ucRefs τ sig) (Vbf Z c f) ∗ ride Z.P 2 c) := by
  show iprop((∃ G : (w : Fin cfg1.W) → Buf (Elt F) ((cfg1.win w).arr.view.loc (c.tc : Thread nD τ)),
      ⌜∀ w, fgt Z 1 w = false → G w = (dat1 Z c).arrAt w cfg1.N⌝ ∗ (dat1 Z c).arrays G) ∗ (∃ r, prngReg c r)
    ∗ ((∃ W' : Valuation τ sig (Elt F), ⌜True⌝ ∗ StableHlo.held (c.tc : Thread nD τ) ∅ W') ∗ StableHlo.held (c.tc : Thread nD τ) (others1 \ ∅) (Z.Vb c) ∗ emp)
    ∗ Tk2 c ∗ ∃ Wd, owes (c : Thread nD τ) (0 : CellTallies nD τ sig Unit) Wd)
    ⊢ iprop(∃ f : Out (F := F), ⌜Z.loose = false → f = Z.fin c⌝
    ∗ StableHlo.held (c : Thread nD τ) (Pipeline.ucRefs τ sig) (Vbf Z c f) ∗ rng c ∗ Tk2 c ∗ owing c 0)
  rw [Finset.sdiff_empty]
  iintro ⟨⟨%G, %hG, HG⟩, Hp, ⟨-, Ho, -⟩, HT, HO⟩
  iexists G (8 : Fin 9)
  have e : ((dat1 Z c).arrays G : sProp 𝕄) = StableHlo.held (c.tc : Thread nD τ) (Pipeline.arrRefs (τ := τ) spec1) (Vbf Z c (G (8 : Fin 9))) :=
    Pipeline.arrays_held (pcfgs (F := F)) adm (pdats Z) 1 kit1 c ((dat1 Z c).share_full fun _ => rfl) G (Vbf Z c (G (8 : Fin 9)))
      (arrs1_last Z c G hG)
  ihave HG := (Entails.of_eq e) $$ HG
  ihave Ho := (Entails.of_eq (others1_same Z c (G (8 : Fin 9)))) $$ Ho
  isplitr
  · ipureintro; intro hl
    exact (hG 8 hl).trans (arr1_out Z c)
  isplitl [HG Ho]
  · rw [StableHlo.held_sub_split (c : Thread nD τ) arrs1_sub (Vbf Z c (G (8 : Fin 9)))]
    isplitl [HG] <;> iassumption
  isplitl [Hp]; · iexact Hp
  isplitl [HT] <;> iassumption

end Cert.MoE

end
-- ==== Proof.LaunchF.lean ====
/-
  What is dealt at launch: the cells, their duty tokens by the device that pays with them, and the funding of the protocols.
-/
module

public import proofs.«01_k».proof.Proof.LaunchE
public import Idealize.ShloMosaic.Harness.Basic

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

set_option maxRecDepth 20000

/-! ## The cells dealt at launch -/

theorem ssem_kind {s : SemLoc sig} {k : CK} (h : kind s = some k) : ssem k = s := by
  cases s with
  | reg n =>
    simp only [kind] at h
    have hn : n.val < 2 := n.isLt
    by_cases h0 : n.val = 0
    · rw [if_pos h0] at h; obtain rfl := Option.some.inj h
      exact congrArg SemLoc.reg (Fin.ext h0.symm)
    · rw [if_neg h0] at h; obtain rfl := Option.some.inj h
      exact congrArg SemLoc.reg (Fin.ext (show 1 = n.val by omega))
  | dma n =>
    simp only [kind] at h
    split_ifs at h
    all_goals (obtain rfl := Option.some.inj h; refine congrArg SemLoc.dma (Fin.ext ?_))
    · show 2 + (n.val - 2) = n.val; omega
    · show 33 + (n.val - 33) = n.val; omega
    · show 74 + (n.val - 74) = n.val; omega
    · show 330 + (n.val - 330) = n.val; omega
    · show 534 + (n.val - 534) = n.val; omega
    · show 738 + (n.val - 738) = n.val; omega

def ckb : Bool → CK
  | false => .b0
  | true => .b1
def cks : I0 ⊕ I1 → CK
  | .inl k => ck0 k
  | .inr k => ck1 k

theorem ckb_inj : Function.Injective ckb := by
  rintro (_ | _) (_ | _) h <;> simp only [ckb, reduceCtorEq] at h <;> rfl
theorem ck0_ck1 (a : I0) (b : I1) : ck0 a ≠ ck1 b := by
  rcases a with a | a <;> rcases b with b | b | b | b <;> simp only [ck0, ck1, ne_eq, reduceCtorEq, not_false_eq_true]
theorem cks_inj : Function.Injective cks := by
  rintro (a | a) (b | b) h
  · rw [ck0_inj h]
  · exact absurd h (ck0_ck1 a b)
  · exact absurd h.symm (ck0_ck1 b a)
  · rw [ck1_inj h]
theorem ckb_cks (a : Bool) (b : I0 ⊕ I1) : ckb a ≠ cks b := by
  rcases a with _ | _ <;> rcases b with (b | b) | (b | b | b | b) <;> simp only [ckb, cks, ck0, ck1, ne_eq, reduceCtorEq, not_false_eq_true]

def barCell (p : Dev nD × Bool) : GSem nD τ sig := cell p.1 (ckb p.2)
def scrCell (p : Dev nD × (I0 ⊕ I1)) : GSem nD τ sig := cell p.1 (cks p.2)
theorem barCell_inj : Function.Injective barCell := fun a b h => by
  obtain ⟨h1, h2⟩ := cell_inj h; exact Prod.ext h1 (ckb_inj h2)
theorem scrCell_inj : Function.Injective scrCell := fun a b h => by
  obtain ⟨h1, h2⟩ := cell_inj h; exact Prod.ext h1 (cks_inj h2)
/-- The barriers' cells, and the scratch semaphores'. -/
def bars : Finset (GSem nD τ sig) := Finset.univ.image barCell
def dorm : Finset (GSem nD τ sig) := Finset.univ.image scrCell

theorem bars_dorm : Disjoint bars dorm := by
  rw [Finset.disjoint_left]
  intro g h1 h2
  obtain ⟨p, -, rfl⟩ := Finset.mem_image.mp h1
  obtain ⟨q, -, e⟩ := Finset.mem_image.mp h2
  exact ckb_cks p.2 q.2 (cell_inj e).2.symm

theorem cell_dealt (c : Dev nD) (k : CK) : cell c k ∈ bars ∪ dorm := by
  rw [Finset.mem_union]
  have hb : ∀ a, ckb a = k → cell c k ∈ bars := fun a h => Finset.mem_image.mpr ⟨(c, a), Finset.mem_univ _, by unfold barCell; rw [h]⟩
  have hs : ∀ a, cks a = k → cell c k ∈ dorm := fun a h => Finset.mem_image.mpr ⟨(c, a), Finset.mem_univ _, by unfold scrCell; rw [h]⟩
  cases k with
  | b0 => exact .inl (hb false rfl)
  | b1 => exact .inl (hb true rfl)
  | s0 k => exact .inr (hs (.inl (.inl k)) rfl)
  | r0 k => exact .inr (hs (.inl (.inr k)) rfl)
  | sx k => exact .inr (hs (.inr (.inl k)) rfl)
  | rx k => exact .inr (hs (.inr (.inr (.inl k))) rfl)
  | sr k => exact .inr (hs (.inr (.inr (.inr (.inl k)))) rfl)
  | rr k => exact .inr (hs (.inr (.inr (.inr (.inr k)))) rfl)

theorem allCells_dealt : allCells ⊆ bars ∪ dorm := fun g h => by
  have h := mem_allCells.mp h
  unfold isCell at h
  rw [Bool.and_eq_true, decide_eq_true_eq, Option.isSome_iff_exists] at h
  obtain ⟨h1, k, hk⟩ := h
  have e : g = cell g.1.1 k := by
    obtain ⟨⟨d, p⟩, s⟩ := g
    dsimp only at h1 hk
    subst h1; rw [← ssem_kind hk]
  rw [e]; exact cell_dealt _ _

/-! ## The duty tokens dealt at launch, by the device that pays with them -/

abbrev TI : Type := (Fin 31 ⊕ Fin 31) ⊕ ((Fin 31 ⊕ Fin 31) ⊕ ((Fin 256 ⊕ Fin 256) ⊕ (Fin 204 ⊕ Fin 204)))

/-- Whose cell, which kind, which duty. -/
def tk (R : Routing) (c : Dev nD) : TI → Dev nD × CK × Duty
  | .inl (.inl k) => (fwd c k, .b0, k.rev)
  | .inl (.inr k) => (fwd c k, .b1, k.rev)
  | .inr (.inl (.inl k)) => (c, .s0 k, 0)
  | .inr (.inl (.inr k)) => (fwd c k, .r0 c, 0)
  | .inr (.inr (.inl (.inl i))) => (c, .sx i, 0)
  | .inr (.inr (.inl (.inr i))) => (R.dst c i, .rx (R.slot c i), 0)
  | .inr (.inr (.inr (.inl s))) => (c, .sr s, 0)
  | .inr (.inr (.inr (.inr s))) => (R.sd c s, .rr (R.sr c s), 0)
def tkOk (R : Routing) (c : Dev nD) : TI → Bool
  | .inl _ => true
  | .inr (.inl _) => true
  | .inr (.inr (.inl (.inl i))) => decide (R.away c i)
  | .inr (.inr (.inl (.inr i))) => decide (R.away c i)
  | .inr (.inr (.inr (.inl s))) => decide (R.came c s)
  | .inr (.inr (.inr (.inr s))) => decide (R.came c s)

theorem fwd_back {c d : Dev nD} {k : Fin 31} (h : fwd c k = fwd d k) : c = d := by
  have := congrArg (fun x => fwd x k.rev) h
  simpa only [fwd_rev] using this

theorem tk_inj (R : Routing) {c d : Dev nD} {a b : TI} (ha : tkOk R c a = true) (hb : tkOk R d b = true) (h : tk R c a = tk R d b) :
    c = d ∧ a = b := by
  rcases a with (k | k) | ((k | k) | ((k | k) | (k | k))) <;> rcases b with (l | l) | ((l | l) | ((l | l) | (l | l))) <;>
    simp only [tk, Prod.mk.injEq, reduceCtorEq, false_and, and_false, true_and, and_true, CK.s0.injEq, CK.r0.injEq, CK.sx.injEq, CK.rx.injEq,
      CK.sr.injEq, CK.rr.injEq] at h
  · obtain ⟨h1, h2⟩ := h
    obtain rfl := Fin.rev_injective h2
    exact ⟨fwd_back h1, rfl⟩
  · obtain ⟨h1, h2⟩ := h
    obtain rfl := Fin.rev_injective h2
    exact ⟨fwd_back h1, rfl⟩
  · obtain ⟨rfl, rfl⟩ := h; exact ⟨rfl, rfl⟩
  · obtain ⟨h1, h2⟩ := h
    subst h2
    rw [fwd_inj _ h1]; exact ⟨rfl, rfl⟩
  · obtain ⟨rfl, rfl⟩ := h; exact ⟨rfl, rfl⟩
  · obtain ⟨h1, h2⟩ := h
    have ea := R.there c k (of_decide_eq_true ha).1
    have eb := R.there d l (of_decide_eq_true hb).1
    rw [h1, h2] at ea
    have e1 : c = d := ea.2.1.symm.trans eb.2.1
    have e2 : k = l := ea.2.2.symm.trans eb.2.2
    rw [e1, e2]; exact ⟨rfl, rfl⟩
  · obtain ⟨rfl, rfl⟩ := h; exact ⟨rfl, rfl⟩
  · obtain ⟨h1, h2⟩ := h
    have ea := R.back c k (of_decide_eq_true ha).1
    have eb := R.back d l (of_decide_eq_true hb).1
    rw [h1, h2] at ea
    have e1 : c = d := ea.2.1.symm.trans eb.2.1
    have e2 : k = l := ea.2.2.symm.trans eb.2.2
    rw [e1, e2]; exact ⟨rfl, rfl⟩

def tok (R : Routing) (p : Dev nD × TI) : GSem nD τ sig × ℕ × Duty := (cell (tk R p.1 p.2).1 (tk R p.1 p.2).2.1, 0, (tk R p.1 p.2).2.2)
def tokSet (R : Routing) : Finset (Dev nD × TI) := Finset.univ.filter fun p => tkOk R p.1 p.2 = true
def toks (R : Routing) : Finset (GSem nD τ sig × ℕ × Duty) := (tokSet R).image (tok R)

theorem tok_injOn (R : Routing) : Set.InjOn (tok R) (tokSet R) := by
  intro p hp q hq h
  have hp := (Finset.mem_filter.mp (Finset.mem_coe.mp hp)).2
  have hq := (Finset.mem_filter.mp (Finset.mem_coe.mp hq)).2
  obtain ⟨h1, h2⟩ := cell_inj (congrArg Prod.fst h)
  have h3 : (tk R p.1 p.2).2.2 = (tk R q.1 q.2).2.2 := congrArg (fun x => x.2.2) h
  obtain ⟨e1, e2⟩ := tk_inj R hp hq (Prod.ext h1 (Prod.ext h2 h3))
  exact Prod.ext e1 e2

/-- A device's duty tokens. -/
def devToks (P : Plan F) (c : Dev nD) : sProp 𝕄 :=
  iprop((bigSep Finset.univ (fun k : Fin 31 => dutyTok ER (cell (fwd c k) .b0) 0 k.rev) ∗ bigSep Finset.univ (fun k : Fin 31 => dutyTok ER (cell (fwd c k) .b1) 0 k.rev))
    ∗ (bigSep Finset.univ (fun k : Fin 31 => dutyTok ER (cell c (.s0 k)) 0 0) ∗ bigSep Finset.univ (fun k : Fin 31 => dutyTok ER (cell (fwd c k) (.r0 c)) 0 0))
    ∗ bigSep Finset.univ (xTok P c) ∗ bigSep Finset.univ (oTok P c))

variable {P : Plan F}

theorem pair_if {I : Type} [Fintype I] (p : I → Prop) [DecidablePred p] (Φ Ψ : I → sProp 𝕄) :
    iprop(bigSep Finset.univ (fun i => if decide (p i) = true then Φ i else iprop(emp)) ∗ bigSep Finset.univ (fun i => if decide (p i) = true then Ψ i else iprop(emp)))
      ⊢ (bigSep Finset.univ (fun i => if p i then iprop(Φ i ∗ Ψ i) else iprop(emp)) : sProp 𝕄) := by
  refine BIBase.Entails.trans (sep_in Finset.univ _ _) (sep_mono fun i _ => ?_)
  by_cases h : p i
  · rw [if_pos (decide_eq_true h), if_pos (decide_eq_true h), if_pos h]
  · rw [if_neg (by rw [decide_eq_true_eq]; exact h), if_neg (by rw [decide_eq_true_eq]; exact h), if_neg h]
    iintro ⟨H, -⟩; iexact H

theorem toks_dev : bigSep (toks P.R) (fun x => dutyTok ER x.1 x.2.1 x.2.2) ⊢ (bigSep Finset.univ (devToks P) : sProp 𝕄) := by
  unfold toks
  classical
  rw [bigSep_image_of_injOn (tok_injOn P.R)]
  unfold tokSet
  rw [BI.bigSep_filter, BI.bigSep_univ_prod]
  refine sep_mono fun c _ => ?_
  rw [BI.bigSep_univ_sum, BI.bigSep_univ_sum, BI.bigSep_univ_sum, BI.bigSep_univ_sum, BI.bigSep_univ_sum, BI.bigSep_univ_sum, BI.bigSep_univ_sum]
  unfold devToks
  have hx := pair_if (F := F) (fun i => P.R.away c i) (fun i => dutyTok ER (cell c (.sx i)) 0 0) (fun i => dutyTok ER (cell (P.R.dst c i) (.rx (P.R.slot c i))) 0 0)
  have ho := pair_if (F := F) (fun s => P.R.came c s) (fun s => dutyTok ER (cell c (.sr s)) 0 0) (fun s => dutyTok ER (cell (P.R.sd c s) (.rr (P.R.sr c s))) 0 0)
  exact Laws.sep_mono (Laws.sep_mono .rfl .rfl) (Laws.sep_mono (Laws.sep_mono .rfl .rfl) (Laws.sep_mono hx ho))

/-! ## The funding -/

/-- What a device is dealt beside the credit. -/
def dealt (P : Plan F) (c : Dev nD) : sProp 𝕄 :=
  iprop((atPos ER (cell c .b0) 0 ∅ 0 ∗ atPos ER (cell c .b1) 0 ∅ 0)
    ∗ (bigSep Finset.univ (fun k : I0 => openTok ER (cell c (ck0 k))) ∗ bigSep Finset.univ (fun k : I1 => openTok ER (cell c (ck1 k))))
    ∗ devToks P c)

theorem bars_all (Φ : GSem nD τ sig → sProp 𝕄) : bigSep bars Φ = bigSep Finset.univ (fun c : Dev nD => iprop(Φ (cell c .b0) ∗ Φ (cell c .b1))) := by
  unfold bars
  rw [bigSep_image_of_injOn barCell_inj.injOn, BI.bigSep_univ_prod]
  refine bigSep_congr fun c _ => ?_
  rw [show (Finset.univ : Finset Bool) = {false, true} by decide, BI.bigSep_insert (by decide), BI.bigSep_singleton]; rfl
theorem dorm_all (Φ : GSem nD τ sig → sProp 𝕄) :
    bigSep dorm Φ = bigSep Finset.univ (fun c : Dev nD => iprop(bigSep Finset.univ (fun k : I0 => Φ (cell c (ck0 k))) ∗ bigSep Finset.univ (fun k : I1 => Φ (cell c (ck1 k))))) := by
  unfold dorm
  rw [bigSep_image_of_injOn scrCell_inj.injOn, BI.bigSep_univ_prod]
  exact bigSep_congr fun c _ => BI.bigSep_univ_sum _

theorem cells_all (Φ : GSem nD τ sig → sProp 𝕄) : (bigSep (bars ∪ dorm) Φ : sProp 𝕄) ⊢ bigSep allCells Φ := BI.bigSep_subset allCells_dealt

attribute [local irreducible] bars dorm allCells toks

theorem fund_x (P : Plan F) :  iprop(bigSep bars (fun g => semVal g 0) ∗ BI.own (ER (launchOf bars dorm (toks P.R))))
      ⊢ (|={Set.univ}=> (∃ κ : GSem nD τ sig → ℕ, bigSep (bars ∪ dorm) (fun g => cellInv ER (Rd P) (κ g) g)
          ∗ bigSep bars (fun g => reached ER g 0) ∗ bigSep bars (fun g => atPos ER g 0 ∅ 0)
          ∗ bigSep dorm (fun g => openTok ER g) ∗ bigSep (toks P.R) (fun x => dutyTok ER x.1 x.2.1 x.2.2)) : sProp 𝕄) := by
  iintro H
  imod (Rounds.fund_launch ER (Rd P) bars_dorm (fun g _ h => h) (toks P.R) (Es := Set.univ)) $$ H with ⟨%κ, -, H⟩
  imodintro
  iexists κ
  iexact H

theorem vals_in : bigSep Finset.univ (fun c : Dev nD => iprop(semVal (cell c .b0) 0 ∗ semVal (cell c .b1) 0)) ⊢ (bigSep bars (fun g => semVal g 0) : sProp 𝕄) :=
  Entails.of_eq (bars_all (F := F) (fun g => semVal g 0)).symm
theorem reached_out : (bigSep bars (fun g => reached ER g 0) : sProp 𝕄)
    ⊢ iprop(bigSep Finset.univ (fun c : Dev nD => reached ER (cell c .b0) 0) ∗ bigSep Finset.univ (fun c : Dev nD => reached ER (cell c .b1) 0)) :=
  (Entails.of_eq (bars_all (F := F) (fun g => reached ER g 0))).trans (sep_out Finset.univ _ _)
theorem pos_out : (bigSep bars (fun g => atPos ER g 0 ∅ 0) : sProp 𝕄)
    ⊢ bigSep Finset.univ (fun c : Dev nD => iprop(atPos ER (cell c .b0) 0 ∅ 0 ∗ atPos ER (cell c .b1) 0 ∅ 0)) :=
  Entails.of_eq (bars_all (F := F) (fun g => atPos ER g 0 ∅ 0))
theorem open_out : (bigSep dorm (fun g => openTok ER g) : sProp 𝕄)
    ⊢ bigSep Finset.univ (fun c : Dev nD => iprop(bigSep Finset.univ (fun k : I0 => openTok ER (cell c (ck0 k))) ∗ bigSep Finset.univ (fun k : I1 => openTok ER (cell c (ck1 k))))) :=
  Entails.of_eq (dorm_all (F := F) (fun g => openTok ER g))

theorem dealt_in (P : Plan F) :
    iprop(bigSep bars (fun g => atPos ER g 0 ∅ 0) ∗ bigSep dorm (fun g => openTok ER g) ∗ bigSep (toks P.R) (fun x => dutyTok ER x.1 x.2.1 x.2.2))
      ⊢ (bigSep Finset.univ (dealt P) : sProp 𝕄) :=
  (Laws.sep_mono pos_out ((Laws.sep_mono open_out (toks_dev (P := P))).trans (sep_in Finset.univ _ _))).trans (sep_in Finset.univ _ _)

theorem inv_in (P : Plan F) (κ : GSem nD τ sig → ℕ) :
    iprop(bigSep (bars ∪ dorm) (fun g => cellInv ER (Rd P) (κ g) g) ∗ bigSep bars (fun g => reached ER g 0) ∗ levAts L lv) ⊢ (ctx P κ : sProp 𝕄) := by
  unfold ctx
  refine (Laws.sep_mono (cells_all _) (Laws.sep_mono reached_out .rfl)).trans ?_
  iintro ⟨H, ⟨Ha, Hb⟩, Hl⟩
  isplitl [H]; · iexact H
  isplitl [Ha]; · iexact Ha
  isplitl [Hb]; · iexact Hb
  iexact Hl

theorem fund_all (P : Plan F) :
    iprop(bigSep Finset.univ (fun c : Dev nD => iprop(semVal (cell c .b0) 0 ∗ semVal (cell c .b1) 0)) ∗ BI.own (ER (launchOf bars dorm (toks P.R))) ∗ levAts L lv)
      ⊢ (|={Set.univ}=> (inv P ∗ bigSep Finset.univ (dealt P)) : sProp 𝕄) := by
  have h : iprop((bigSep Finset.univ (fun c : Dev nD => iprop(semVal (cell c .b0) 0 ∗ semVal (cell c .b1) 0)) ∗ BI.own (ER (launchOf bars dorm (toks P.R)))))
      ⊢ _ := (Laws.sep_mono vals_in .rfl).trans (fund_x P)
  iintro ⟨Hv, Hu, Hl⟩
  imod h $$ [Hv Hu] with ⟨%κ, Hinv, Hr, Ht⟩
  · isplitl [Hv]; · iexact Hv
    iexact Hu
  imodintro
  isplitr [Ht]
  · iexists κ
    iapply (inv_in P κ)
    isplitl [Hinv]; · iexact Hinv
    isplitl [Hr]; · iexact Hr
    iexact Hl
  iapply (dealt_in P) $$ Ht

end Cert.MoE

end
-- ==== Proof.LaunchG.lean ====
/-
  The launch credit: what the devices owe one another is what they wait for.
-/
module

public import proofs.«01_k».proof.Proof.LaunchF

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

set_option maxRecDepth 20000

/-! ## Sums of what is owed -/

section Sums

variable {M : Type} [AddCommMonoid M]

theorem sum_around (f : Dev nD → Dev nD → Fin 31 → M) :
    (∑ c : Dev nD, ∑ k : Fin 31, f (fwd c k) c k) = ∑ d : Dev nD, ∑ k : Fin 31, f d (fwd d k.rev) k := by
  rw [Finset.sum_comm, Finset.sum_comm (f := fun d k => f d (fwd d k.rev) k)]
  refine Finset.sum_congr rfl fun k _ => ?_
  have hb (d : Dev nD) : fwd (fwd d k.rev) k = d := by have := fwd_rev d k.rev; rwa [Fin.rev_rev] at this
  refine Finset.sum_nbij' (fun c => fwd c k) (fun d => fwd d k.rev) (fun _ _ => Finset.mem_univ _) (fun _ _ => Finset.mem_univ _)
    (fun c _ => fwd_rev c k) (fun d _ => hb d) (fun c _ => ?_)
  show f (fwd c k) c k = f (fwd c k) (fwd (fwd c k) k.rev) k
  rw [fwd_rev]

theorem sum_halves (f : Fin 204 → M) : (∑ j : Fin 102, f (e 1 j)) + (∑ j : Fin 102, f (e 0 j)) = ∑ s : Fin 204, f s := by
  rw [add_comm]
  have h := Fin.sum_univ_add (a := 102) (b := 102) f
  refine Eq.trans ?_ h.symm
  refine congrArg₂ (· + ·) (Finset.sum_congr rfl fun j _ => congrArg f (Fin.ext ?_)) (Finset.sum_congr rfl fun j _ => congrArg f (Fin.ext ?_))
  · show 102 * 0 + j.val = j.val; omega
  · show 102 * 1 + j.val = 102 + j.val; omega

theorem sum_pairs {I : Type} [Fintype I] (p : Dev nD → I → Prop) [∀ c i, Decidable (p c i)] (f : Dev nD → I → M) :
    (∑ c : Dev nD, ∑ i : I, if p c i then f c i else 0) = ∑ q ∈ (Finset.univ : Finset (Dev nD × I)).filter (fun q => p q.1 q.2), f q.1 q.2 := by
  rw [Finset.sum_filter, Fintype.sum_prod_type]

/-- What goes out by token is what comes in by slot, -/
theorem sum_there (R : Routing) (f : Dev nD → Fin 204 → M) :
    (∑ c : Dev nD, ∑ i : Fin 256, if R.away c i then f (R.dst c i) (R.slot c i) else 0) = ∑ d : Dev nD, ∑ s : Fin 204, if R.came d s then f d s else 0 := by
  rw [sum_pairs (fun c i => R.away c i) (fun c i => f (R.dst c i) (R.slot c i)), sum_pairs (fun d s => R.came d s) f]
  refine Finset.sum_nbij' (fun p => (R.dst p.1 p.2, R.slot p.1 p.2)) (fun q => (R.sd q.1 q.2, R.sr q.1 q.2)) ?_ ?_ ?_ ?_ fun _ _ => rfl
  · intro p hp; exact Finset.mem_filter.mpr ⟨Finset.mem_univ _, R.away_came (Finset.mem_filter.mp hp).2⟩
  · intro p hp; exact Finset.mem_filter.mpr ⟨Finset.mem_univ _, R.came_away (Finset.mem_filter.mp hp).2⟩
  · intro p hp
    have h := R.there p.1 p.2 (Finset.mem_filter.mp hp).2.1
    exact Prod.ext h.2.1 h.2.2
  · intro p hp
    have h := R.back p.1 p.2 (Finset.mem_filter.mp hp).2.1
    exact Prod.ext h.2.1 h.2.2
/-- and back by slot what comes back by token. -/
theorem sum_back (R : Routing) (f : Dev nD → Fin 256 → M) :
    (∑ c : Dev nD, ∑ s : Fin 204, if R.came c s then f (R.sd c s) (R.sr c s) else 0) = ∑ d : Dev nD, ∑ i : Fin 256, if R.away d i then f d i else 0 := by
  rw [sum_pairs (fun c i => R.came c i) (fun c i => f (R.sd c i) (R.sr c i)), sum_pairs (fun d s => R.away d s) f]
  refine Finset.sum_nbij' (fun p => (R.sd p.1 p.2, R.sr p.1 p.2)) (fun q => (R.dst q.1 q.2, R.slot q.1 q.2)) ?_ ?_ ?_ ?_ fun _ _ => rfl
  · intro p hp; exact Finset.mem_filter.mpr ⟨Finset.mem_univ _, R.came_away (Finset.mem_filter.mp hp).2⟩
  · intro p hp; exact Finset.mem_filter.mpr ⟨Finset.mem_univ _, R.away_came (Finset.mem_filter.mp hp).2⟩
  · intro p hp
    have h := R.back p.1 p.2 (Finset.mem_filter.mp hp).2.1
    exact Prod.ext h.2.1 h.2.2
  · intro p hp
    have h := R.there p.1 p.2 (Finset.mem_filter.mp hp).2.1
    exact Prod.ext h.2.1 h.2.2

end Sums

theorem nsmul_tally (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

/-! ## The launch credit -/

/-- What a device waits for. -/
def due (R : Routing) (c : Dev nD) : CellTallies nD τ sig Unit :=
  (tallyAt (cell c .b0) () 31 + ∑ r : Fin 31, tallyAt (cell c (rcv c r)) () N0) + (tallyAt (cell c .b1) () 31
    + (∑ s : Fin 204, if R.came c s then tallyAt (cell c (.rx s)) () N1 else 0) + ∑ i : Fin 256, if R.away c i then tallyAt (cell c (.rr i)) () N2 else 0)

theorem bar_sum (f : Dev nD → GSem nD τ sig) :
    (∑ c : Dev nD, ∑ k : Fin 31, (tallyAt (f (fwd c k)) () 1 : CellTallies nD τ sig Unit)) = ∑ d : Dev nD, tallyAt (f d) () 31 := by
  rw [sum_around (fun d _ _ => (tallyAt (f d) () 1 : CellTallies nD τ sig Unit))]
  refine Finset.sum_congr rfl fun d _ => ?_
  rw [Finset.sum_const, Finset.card_univ, Fintype.card_fin, nsmul_tally]

/-- All that is owed is all that is waited for. -/
theorem owed_due (R : Routing) : (∑ c : Dev nD, (owe1 R c + owe0 c)) = ∑ c : Dev nD, due R c := by
  unfold owe1 owe0 due
  simp only [Finset.sum_add_distrib]
  rw [bar_sum (fun d => cell d .b0), bar_sum (fun d => cell d .b1), sum_around (fun d c _ => (tallyAt (cell d (.r0 c)) () N0 : CellTallies nD τ sig Unit))]
  have h1 : (∑ c : Dev nD, ∑ i : Fin 256, rxT R c i) = ∑ d : Dev nD, ∑ s : Fin 204, if R.came d s then tallyAt (cell d (.rx s)) () N1 else 0 :=
    sum_there R (fun d s => (tallyAt (cell d (.rx s)) () N1 : CellTallies nD τ sig Unit))
  have h2 : (∑ c : Dev nD, ∑ j : Fin 102, rrT R c (e 1 j)) + (∑ c : Dev nD, ∑ j : Fin 102, rrT R c (e 0 j))
      = ∑ d : Dev nD, ∑ i : Fin 256, if R.away d i then tallyAt (cell d (.rr i)) () N2 else 0 := by
    rw [← Finset.sum_add_distrib, ← sum_back R (fun d i => (tallyAt (cell d (.rr i)) () N2 : CellTallies nD τ sig Unit))]
    exact Finset.sum_congr rfl fun c _ => sum_halves (rrT R c)
  rw [h1, Finset.sum_const_zero, zero_add, h2]
  show _ = (∑ d : Dev nD, tallyAt (cell d .b0) () 31) + (∑ d : Dev nD, ∑ k : Fin 31, tallyAt (cell d (.r0 (fwd d k.rev))) () N0) + _
  ac_rfl

theorem due_own (R : Routing) (d : Dev nD) (g : GSem nD τ sig) (h : due R d g ≠ 0) : g.1 = (d : Thread nD τ) := by
  by_contra hg
  refine h ?_
  have ht (k : CK) (n : ℕ) : (tallyAt (cell d k) () n : CellTallies nD τ sig Unit) g = 0 := tallyAt_ne_cell (fun e => hg (congrArg Prod.fst e)) () n
  have h0 : (0 : CellTallies nD τ sig Unit) g = 0 := rfl
  unfold due
  simp only [Pi.add_apply, Finset.sum_apply, ht, add_zero, zero_add, Finset.sum_const_zero]
  rw [Finset.sum_eq_zero fun s _ => ?_, Finset.sum_eq_zero fun i _ => ?_]
  · exact add_zero 0
  · split
    · exact ht _ _
    · exact h0
  · split
    · exact ht _ _
    · exact h0

theorem cred_sum {I : Type} (s : Finset I) (f : I → CellTallies nD τ sig Unit) : (cred (∑ i ∈ s, f i) : sProp 𝕄) ⊢ bigSep s (fun i => cred (f i)) := by
  classical
  induction s using Finset.induction_on with
  | empty => rw [Finset.sum_empty, cred_zero, BI.bigSep_empty]; exact .rfl
  | insert a s ha ih =>
    rw [Finset.sum_insert ha, BI.bigSep_insert ha]
    exact (cred_add _ _).1.trans (Laws.sep_mono .rfl ih)

theorem cred_if (p : Prop) [Decidable p] (T : CellTallies nD τ sig Unit) : (cred (if p then T else 0) : sProp 𝕄) = if p then cred T else iprop(emp) := by
  by_cases h : p
  · rw [if_pos h, if_pos h]
  · rw [if_neg h, if_neg h]; exact cred_zero

/-- A device's credit at launch, by call. -/
def creds0 (c : Dev nD) : sProp 𝕄 :=
  iprop(cred (tallyAt (cell c .b0) () 31) ∗ bigSep Finset.univ (fun r : Fin 31 => cred (tallyAt (cell c (rcv c r)) () N0)))
def creds1 (R : Routing) (c : Dev nD) : sProp 𝕄 :=
  iprop(cred (tallyAt (cell c .b1) () 31)
    ∗ bigSep Finset.univ (fun s : Fin 204 => if R.came c s then cred (tallyAt (cell c (.rx s)) () N1) else iprop(emp))
    ∗ bigSep Finset.univ (fun i : Fin 256 => if R.away c i then cred (tallyAt (cell c (.rr i)) () N2) else iprop(emp)))

theorem launch_creds (R : Routing) (c : Dev nD) :
    (Pipeline.launchCred (fun d => owe1 R d + owe0 d) c : sProp 𝕄) ⊢ iprop(creds0 c ∗ creds1 R c) := by
  rw [Pipeline.launchCred_of_sum (fun d => owe1 R d + owe0 d) (due R) (owed_due R) (due_own R) c]
  unfold due creds0 creds1
  refine (cred_add _ _).1.trans (Laws.sep_mono ((cred_add _ _).1.trans (Laws.sep_mono .rfl (cred_sum _ _))) ?_)
  refine (cred_add _ _).1.trans ?_
  refine (Laws.sep_mono ((cred_add _ _).1.trans (Laws.sep_mono .rfl (cred_sum _ _))) (cred_sum _ _)).trans ?_
  simp only [cred_if]
  iintro ⟨⟨Ha, Hb⟩, Hc⟩
  isplitl [Ha]; · iexact Ha
  isplitl [Hb] <;> iassumption

/-- What a device is dealt is what it takes into the calls. -/
theorem dealt_toks (P : Plan F) (c : Dev nD) : iprop(dealt P c ∗ creds0 c ∗ creds1 P.R c) ⊢ (iprop(gTok c ∗ dTok P c) : sProp 𝕄) := by
  unfold dealt devToks creds0 creds1 gTok dTok gRest dRest
  iintro ⟨⟨⟨Pa, Pb⟩, ⟨Oa, Ob⟩, ⟨Ta, Tb⟩, ⟨Ts, Tr⟩, Tx, To⟩, ⟨Ca, Cr⟩, Cb, Cx, Cy⟩
  isplitl [Oa Pa Ca Ta Ts Tr Cr]
  · isplitl [Oa]; · iexact Oa
    isplitl [Pa]; · iexact Pa
    isplitl [Ca]; · iexact Ca
    isplitl [Ta]; · iexact Ta
    isplitl [Ts]; · iexact Ts
    isplitl [Tr] <;> iassumption
  isplitl [Ob]; · iexact Ob
  isplitl [Pb]; · iexact Pb
  isplitl [Cb]; · iexact Cb
  isplitl [Tb]; · iexact Tb
  isplitl [Tx]; · iexact Tx
  isplitl [To]; · iexact To
  isplitl [Cx] <;> iassumption

end Cert.MoE

end
-- ==== Proof.LaunchH.lean ====
/-
  The launch dealt out over the devices, and the run of the whole program over given tables.
-/
module

public import proofs.«01_k».proof.Proof.LaunchG

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

local notation "𝕄" => MT nD τ sig Unit (Elt F) ℕ UU ℕ

set_option maxRecDepth 20000

variable [∀ e, Nonempty (Elt F e)] (Z : Setup F) (m : (ℓ : Loc nD τ sig) → Buf (Elt F) ℓ) (outs : Outs (F := F))

/-! ## The last stretch of host operations -/

/-- The buffers held at some result of call 1's. -/
def lastPre (c : Dev nD) : sProp 𝕄 :=
  iprop(∃ f : Out (F := F), ⌜Z.loose = false → f = Z.fin c⌝ ∗ StableHlo.held (c : Thread nD τ) (Pipeline.ucRefs τ sig) (Vbf Z c f) ∗ ride Z.P 2 c)
def lastPost (c : Dev nD) : sProp 𝕄 :=
  iprop(∃ f : Out (F := F), ⌜Z.loose = false → f = Z.fin c⌝ ∗ StableHlo.held (c : Thread nD τ) (Pipeline.ucRefs τ sig) (StableHlo.after hostOps2 (Vbf Z c f)) ∗ ride Z.P 2 c)

set_option backward.isDefEq.respectTransparency.types false in
def lastSeg : Pipeline.HostSeg (Name := ℕ) (U := UU) (pcfgs (F := F)) defs₀ 𝒱₀ L lv where
  prog := StableHlo.seq hostOps2
  pre := lastPre Z
  post := lastPost Z
  run c {β} k K := by
    have hseq (f : Out (F := F)) := StableHlo.wp_seq (defs := Pipeline.defs (pcfgs (F := F)) defs₀) (Variants.lift 𝒱₀) none Set.univ c (Pipeline.ucRefs τ sig) k (K := K) hostOps2
      (fun op h => Pipeline.sub_ucRefs op ((List.forall_iff_forall_mem.mp hostOps2_sub) op h)) (fun op h => (List.forall_iff_forall_mem.mp hostOps2_fresh) op h) (Vbf Z c f)
    unfold lastPre lastPost
    iintro ⟨Hk, Hbd, ⟨%f, %hf, Hh, HR⟩, -⟩
    iapply (hseq f) $$ [Hbd Hh]
    · isplitl [Hbd] <;> iassumption
    iintro ⟨Hbd, Hh⟩
    iapply Hk
    isplitl [Hbd]; · iexact Hbd
    iexists f
    isplitr; · ipureintro; exact hf
    isplitl [Hh] <;> iassumption

/-! ## The launch -/

theorem unscoped_two : ∀ sm : SemLoc sig, sm.isScoped .tc = false → sm = ssem .b0 ∨ sm = ssem .b1 := by
  rintro (n | n) h
  · have hn : n.val < 2 := n.isLt
    by_cases h0 : n.val = 0
    · exact .inl (congrArg SemLoc.reg (Fin.ext h0))
    · exact .inr (congrArg SemLoc.reg (Fin.ext (show n.val = 1 by omega)))
  · rw [show (SemLoc.dma n : SemLoc sig).isScoped .tc = true from dma_scoped n] at h; cases h

theorem unscoped_vals (c : Dev nD) : (unscopedSems0 c : sProp 𝕄) = iprop(semVal (cell c .b0) 0 ∗ semVal (cell c .b1) 0) := by
  unfold unscopedSems0
  have e : (Finset.univ.filter fun sm : SemLoc sig => ¬ sm.isScoped .tc) = {ssem .b0, ssem .b1} := by
    ext sm
    rw [Finset.mem_filter, Finset.mem_insert, Finset.mem_singleton]
    constructor
    · rintro ⟨-, h⟩; exact unscoped_two sm (by simpa using h)
    · rintro (rfl | rfl)
      · exact ⟨Finset.mem_univ _, by decide⟩
      · exact ⟨Finset.mem_univ _, by decide⟩
  rw [e, BI.bigSep_insert (by rw [Finset.mem_singleton]; exact fun h => by have := ssem_inj h; cases this), BI.bigSep_singleton]; rfl

def onDev (c₀ : Dev nD) (X : sProp 𝕄) (c : Dev nD) : sProp 𝕄 := if c = c₀ then X else iprop(emp)
theorem onDev_all (c₀ : Dev nD) (X : sProp 𝕄) : bigSep Finset.univ (onDev c₀ X) = X := by
  rw [bigSep_univ_at _ c₀, bigSep_congr (s := Finset.univ.erase c₀) (Ψ := fun _ => BI.emp) fun c hc => by
    unfold onDev; rw [if_neg (Finset.ne_of_mem_erase hc)]; rfl, BI.bigSep_emp_const]
  unfold onDev
  rw [if_pos rfl]
  exact BI.equiv_iff.mp sep_emp

def ghost (R : Routing) : Dev nD → sProp 𝕄 := onDev (0 : Fin 32) (BI.own (ER (launchOf bars dorm (toks R))))
def u₀ (R : Routing) : UU :=
  (initOf (Pipeline.cells (Pipeline.pin (pcfgs (F := F)) adm) cellOf_inj) (Pipeline.launchToks (Pipeline.pin (pcfgs (F := F)) adm) cellOf_inj), launchOf bars dorm (toks R))

/-- What a device starts from. -/
def start (c : Dev nD) : sProp 𝕄 := iprop(StableHlo.held (c : Thread nD τ) (Pipeline.ucRefs τ sig) (V0 m c) ∗ ride Z.P 0 c)

/-- A device's launch holdings but for what the protocols share. -/
def bundle (ρ : Dev nD → PrngReg) (c : Dev nD) : sProp 𝕄 :=
  iprop(StableHlo.held (c : Thread nD τ) (Pipeline.ucRefs τ sig) (V0 m c) ∗ owes (c : Thread nD τ) (owe1 Z.P.R c + owe0 c) ∅ ∗ (creds0 c ∗ creds1 Z.P.R c) ∗ prngReg c (ρ c))

theorem launch_one (ρ : Dev nD → PrngReg) (c : Dev nD) :
    iprop(unscopedBufs c (fun b => m ((c : Thread nD τ).loc b)) ∗ unscopedSems0 c ∗ owes (c : Thread nD τ) (owe1 Z.P.R c + owe0 c) ∅
        ∗ Pipeline.launchCred (fun d => owe1 Z.P.R d + owe0 d) c ∗ prngReg c (ρ c) ∗ ghost Z.P.R c)
      ⊢ (iprop((semVal (cell c .b0) 0 ∗ semVal (cell c .b1) 0) ∗ (ghost Z.P.R c ∗ bundle Z m ρ c)) : sProp 𝕄) := by
  have eb : unscopedBufs c (fun b => m ((c : Thread nD τ).loc b)) = (StableHlo.held (c : Thread nD τ) (Pipeline.ucRefs τ sig) (V0 m c) : sProp 𝕄) :=
    Pipeline.unscopedBufs_held c (V0 m c)
  rw [unscoped_vals, eb]
  unfold bundle
  iintro ⟨Hh, Hv, HO, Hc, Hp, HG⟩
  ihave Hc := (launch_creds (F := F) Z.P.R c) $$ Hc
  isplitl [Hv]; · iexact Hv
  isplitl [HG]; · iexact HG
  isplitl [Hh]; · iexact Hh
  isplitl [HO]; · iexact HO
  isplitl [Hc] <;> iassumption

theorem start_one (ρ : Dev nD → PrngReg) (c : Dev nD) :
    iprop(inv Z.P ∗ (dealt Z.P c ∗ bundle Z m ρ c)) ⊢ (start Z m c : sProp 𝕄) := by
  unfold bundle start
  show _ ⊢ iprop(_ ∗ (rng c ∗ (inv Z.P ∗ gTok c ∗ dTok Z.P c) ∗ owing c (owe1 Z.P.R c + owe0 c)))
  iintro ⟨HI, HD, Hh, HO, Hc, Hp⟩
  ihave HT := (dealt_toks Z.P c) $$ [HD Hc]
  · isplitl [HD] <;> iassumption
  isplitl [Hh]; · iexact Hh
  isplitl [Hp]; · iexists (ρ c); iexact Hp
  isplitl [HI HT]
  · isplitl [HI] <;> iassumption
  iexists ∅; iexact HO

theorem launch_all (ρ : Dev nD → PrngReg) :
    iprop((bigSep Finset.univ fun c : Dev nD => iprop(unscopedBufs c (fun b => m ((c : Thread nD τ).loc b)) ∗ unscopedSems0 c
          ∗ owes (c : Thread nD τ) (owe1 Z.P.R c + owe0 c) ∅ ∗ Pipeline.launchCred (fun d => owe1 Z.P.R d + owe0 d) c ∗ prngReg c (ρ c) ∗ ghost Z.P.R c)) ∗ levAts L lv)
      ⊢ (|={Set.univ}=> bigSep Finset.univ (start Z m) : sProp 𝕄) := by
  have h1 := (sep_mono (F := F) (s := (Finset.univ : Finset (Dev nD))) fun c _ => launch_one Z m ρ c).trans
    ((sep_out Finset.univ _ _).trans (Laws.sep_mono .rfl (sep_out Finset.univ (ghost Z.P.R) (bundle Z m ρ))))
  have h2 : (bigSep Finset.univ (ghost Z.P.R) : sProp 𝕄) ⊢ BI.own (ER (launchOf bars dorm (toks Z.P.R))) := Entails.of_eq (onDev_all _ _)
  have h3 : iprop(inv Z.P ∗ bigSep Finset.univ (fun c => iprop(dealt Z.P c ∗ bundle Z m ρ c))) ⊢ (bigSep Finset.univ (start Z m) : sProp 𝕄) :=
    bigSep_with_persistent fun c _ => start_one Z m ρ c
  iintro ⟨H, Hl⟩
  ihave H := h1 $$ H
  icases H with ⟨Hv, HG, HB⟩
  imod (fund_all Z.P) $$ [Hv HG Hl] with ⟨HI, HD⟩
  · isplitl [Hv]; · iexact Hv
    isplitl [HG]; · iapply h2 $$ HG
    iexact Hl
  imodintro
  iapply h3
  isplitl [HI]; · iexact HI
  iapply (sep_in Finset.univ (dealt Z.P) (bundle Z m ρ))
  isplitl [HD] <;> iassumption

/-! ## The run -/

/-- The program's items on device `c`. -/
abbrev items (c : Dev nD) : List (Pipeline.RDat.Seg (pcfgs (F := F)) adm (Pipeline.toRsF (pcfgs (F := F)) adm (pdats Z) (fgt Z)) () defs₀ 𝒱₀ L lv) :=
  [.host (seg0 m 𝒱₀ L lv (ride Z.P) c), .region (reg0 Z), .host (seg2 m outs 𝒱₀ L lv (ride Z.P)), .host (seg3 m outs 𝒱₀ L lv (ride Z.P)), .host (seg4 m outs 𝒱₀ L lv (ride Z.P)), .host (seg5 m outs 𝒱₀ L lv (ride Z.P)), .host (seg6 m outs 𝒱₀ L lv (ride Z.P)), .host (seg7 m outs 𝒱₀ L lv (ride Z.P)), .host (seg8 m outs 𝒱₀ L lv (ride Z.P)), .host (seg9 m outs 𝒱₀ L lv (ride Z.P)), .host (seg10 m outs 𝒱₀ L lv (ride Z.P)), .host (seg11 m outs 𝒱₀ L lv (ride Z.P)), .host (seg12 m outs 𝒱₀ L lv (ride Z.P)), .host (seg13 m outs 𝒱₀ L lv (ride Z.P)), .host (seg14 m outs 𝒱₀ L lv (ride Z.P)), .host (seg15 m outs 𝒱₀ L lv (ride Z.P)), .host (seg16 m outs 𝒱₀ L lv (ride Z.P)), .host (seg17 m outs 𝒱₀ L lv (ride Z.P)), .host (seg18 m outs 𝒱₀ L lv (ride Z.P)), .host (seg19 m outs 𝒱₀ L lv (ride Z.P)), .host (seg20 m outs 𝒱₀ L lv (ride Z.P)), .host (seg21 m outs 𝒱₀ L lv (ride Z.P)), .host (seg22 m outs 𝒱₀ L lv (ride Z.P)), .host (seg23 m outs 𝒱₀ L lv (ride Z.P)), .host (seg24 m outs 𝒱₀ L lv (ride Z.P)), .host (seg25 m outs 𝒱₀ L lv (ride Z.P)), .host (seg26 m outs 𝒱₀ L lv (ride Z.P)), .host (seg27 m outs 𝒱₀ L lv (ride Z.P)), .host (seg28 m outs 𝒱₀ L lv (ride Z.P)), .host (seg29 m outs 𝒱₀ L lv (ride Z.P)), .host (seg30 m outs 𝒱₀ L lv (ride Z.P)), .host (seg31 m outs 𝒱₀ L lv (ride Z.P)), .region (reg1 Z), .host (lastSeg Z)]

/-- What a device ends with. -/
def finish (c : Dev nD) : sProp 𝕄 :=
  iprop(∃ f : Out (F := F), ⌜Z.loose = false → f = Z.fin c⌝ ∗ StableHlo.held (c : Thread nD τ) (Pipeline.ucRefs τ sig) (StableHlo.after hostOps2 (Vbf Z c f)) ∗ Tk2 c)

variable {Z m outs} (hVa : ∀ c, Z.Va c = V1 m c) (hVb : ∀ c, Z.Vb c = V32 m outs c) (hout : ∀ c, outs 2 main_v7 c = Z.P.gat)

omit [∀ e, Nonempty (Elt F e)] in
include hVa hout in
theorem after_call0 (c : Dev nD) : Vaf Z c = V2 m outs c := by
  unfold Vaf V2; rw [hVa c, hout c]

theorem last_out (c : Dev nD) : lastPost Z c ⊢ (iprop(finish Z c ∗ ∃ W, owes (c : Thread nD τ) (0 : CellTallies nD τ sig Unit) W) : sProp 𝕄) := by
  unfold lastPost finish
  show iprop(∃ f : Out (F := F), _ ∗ _ ∗ (rng c ∗ Tk2 c ∗ owing c 0)) ⊢ _
  iintro ⟨%f, %hf, Hh, -, HT, HO⟩
  isplitr [HO]
  · iexists f
    isplitr; · ipureintro; exact hf
    isplitl [Hh] <;> iassumption
  iexact HO

section
omit [∀ e, Nonempty (Elt F e)]
variable (c : Dev nD) (f : Out (F := F))
include hVb
theorem end_arg0 : StableHlo.after hostOps2 (Vbf Z c f) (Proc.devRef .tc main_arg0) = m ((c : Thread nD τ).loc main_arg0) := by
  rw [StableHlo.after_of_writes_sub hostOps2 _ hostOps2_writes (by decide), Vbf_ne Z c f (by decide), hVb c]
  exact (Function.update_of_ne (by decide) _ _).symm.trans ((Function.update_of_ne (by decide) _ _).symm.trans ((V34_of m outs c main_arg0 (by decide)).symm.trans (V34_main_arg0 m outs c)))
theorem end_arg1 : StableHlo.after hostOps2 (Vbf Z c f) (Proc.devRef .tc main_arg1) = m ((c : Thread nD τ).loc main_arg1) := by
  rw [StableHlo.after_of_writes_sub hostOps2 _ hostOps2_writes (by decide), Vbf_ne Z c f (by decide), hVb c]
  exact (Function.update_of_ne (by decide) _ _).symm.trans ((Function.update_of_ne (by decide) _ _).symm.trans ((V34_of m outs c main_arg1 (by decide)).symm.trans (V34_main_arg1 m outs c)))
theorem end_arg2 : StableHlo.after hostOps2 (Vbf Z c f) (Proc.devRef .tc main_arg2) = m ((c : Thread nD τ).loc main_arg2) := by
  rw [StableHlo.after_of_writes_sub hostOps2 _ hostOps2_writes (by decide), Vbf_ne Z c f (by decide), hVb c]
  exact (Function.update_of_ne (by decide) _ _).symm.trans ((Function.update_of_ne (by decide) _ _).symm.trans ((V34_of m outs c main_arg2 (by decide)).symm.trans (V34_main_arg2 m outs c)))
theorem end_arg3 : StableHlo.after hostOps2 (Vbf Z c f) (Proc.devRef .tc main_arg3) = m ((c : Thread nD τ).loc main_arg3) := by
  rw [StableHlo.after_of_writes_sub hostOps2 _ hostOps2_writes (by decide), Vbf_ne Z c f (by decide), hVb c]
  exact (Function.update_of_ne (by decide) _ _).symm.trans ((Function.update_of_ne (by decide) _ _).symm.trans ((V34_of m outs c main_arg3 (by decide)).symm.trans (V34_main_arg3 m outs c)))
end

/-- What of the final memory is known of a device. -/
def Ended (Z : Setup F) (m : (ℓ : Loc nD τ sig) → Buf (Elt F) ℓ) (c : Dev nD) (s : MemSt nD τ sig (Elt F)) : Prop :=
  (∃ f : Out (F := F), (Z.loose = false → f = Z.fin c)
      ∧ s.mem ((c : Thread nD τ).loc main_v109) = StableHlo.after hostOps2 (Vbf Z c f) (Proc.devRef .tc main_v109))
    ∧ (s.mem ((c : Thread nD τ).loc main_arg0) = m ((c : Thread nD τ).loc main_arg0) ∧ s.mem ((c : Thread nD τ).loc main_arg1) = m ((c : Thread nD τ).loc main_arg1)
      ∧ s.mem ((c : Thread nD τ).loc main_arg2) = m ((c : Thread nD τ).loc main_arg2) ∧ s.mem ((c : Thread nD τ).loc main_arg3) = m ((c : Thread nD τ).loc main_arg3))

include hVb in
theorem read_end (c : Dev nD) (s' : Phys nD τ sig (Elt F)) :
    iprop(finish Z c ∗ SI s') ⊢ (|={Set.univ}=> (⌜Ended Z m c s'.mem ∧ s'.mem.sem (cell c .b0) = 0 ∧ s'.mem.sem (cell c .b1) = 0⌝ ∗ SI s') : sProp 𝕄) := by
  unfold finish Tk2
  iintro ⟨⟨%f, %hf, Hh, Hb1, Hb0⟩, HSI⟩
  icombine HSI Hb0 gives %hb0
  icombine HSI Hb1 gives %hb1
  unfold StableHlo.held
  ihave Hr := (pointsTo_read_all (Pipeline.ucRefs τ sig) (fun b => ((c : Thread nD τ).1, b)) (StableHlo.after hostOps2 (Vbf Z c f)) s') $$ [Hh HSI]
  · isplitl [Hh] <;> iassumption
  icases Hr with ⟨%h, HSI⟩
  imodintro
  isplitr
  · ipureintro
    have hr (r : Ref sig .tc) (hm : Proc.devRef .tc r ∈ Pipeline.ucRefs τ sig) := h (Proc.devRef .tc r) hm
    refine ⟨⟨⟨f, hf, hr main_v109 (Finset.mem_filter.mpr ⟨StableHlo.devRef_mem_tcRefs main_v109, by decide⟩)⟩,
      (hr main_arg0 (Finset.mem_filter.mpr ⟨StableHlo.devRef_mem_tcRefs main_arg0, by decide⟩)).trans (end_arg0 hVb c f),
      (hr main_arg1 (Finset.mem_filter.mpr ⟨StableHlo.devRef_mem_tcRefs main_arg1, by decide⟩)).trans (end_arg1 hVb c f),
      (hr main_arg2 (Finset.mem_filter.mpr ⟨StableHlo.devRef_mem_tcRefs main_arg2, by decide⟩)).trans (end_arg2 hVb c f),
      (hr main_arg3 (Finset.mem_filter.mpr ⟨StableHlo.devRef_mem_tcRefs main_arg3, by decide⟩)).trans (end_arg3 hVb c f)⟩,
      by simpa using hb0, by simpa using hb1⟩
  iexact HSI

include hVa hVb hout in
set_option backward.isDefEq.respectTransparency.types false in
/-- Every run of the program terminates; the arguments stay, the counters come back to zero, and the result is what the last
    host stretch makes of call 1's. -/
theorem run_main (ρ : Dev nD → PrngReg) :
    θ_run defs (onTc (τ := τ) (main (F := F))) ⟨m, fun _ => 0, ρ⟩ (fun r => (∀ c : Dev nD, Ended Z m c r.2) ∧ r.2.sem = fun _ => 0) := by
  refine Pipeline.RDat.θ_run_regions_kit_dev_sems (pcfgs (F := F)) adm (Pipeline.toRsF (pcfgs (F := F)) adm (pdats Z) (fgt Z)) () cellOf_inj EP defs₀ 𝒱₀ L lv m ρ main
    (items Z m outs) (fun c Q => by
      rewrite [main_chain c, Pipeline.RDat.Seg.run_eq_chain, show (items Z m outs c).map Pipeline.RDat.Seg.prog = [
      StableHlo.seq (hostOps0 c),
      Prog.lift (.customCall (Pipeline.entry 0) ()),
      StableHlo.seq hostOps1,
      StableHlo.seq hostOps1_1,
      StableHlo.seq hostOps1_2,
      StableHlo.seq hostOps1_3,
      StableHlo.seq hostOps1_4,
      StableHlo.seq hostOps1_5,
      StableHlo.seq hostOps1_6,
      StableHlo.seq hostOps1_7,
      StableHlo.seq hostOps1_8,
      StableHlo.seq hostOps1_9,
      StableHlo.seq hostOps1_10,
      StableHlo.seq hostOps1_11,
      StableHlo.seq hostOps1_12,
      StableHlo.seq hostOps1_13,
      StableHlo.seq hostOps1_14,
      StableHlo.seq hostOps1_15,
      StableHlo.seq hostOps1_16,
      StableHlo.seq hostOps1_17,
      StableHlo.seq hostOps1_18,
      StableHlo.seq hostOps1_19,
      StableHlo.seq hostOps1_20,
      StableHlo.seq hostOps1_21,
      StableHlo.seq hostOps1_22,
      StableHlo.seq hostOps1_23,
      StableHlo.seq hostOps1_24,
      StableHlo.seq hostOps1_25,
      StableHlo.seq hostOps1_26,
      StableHlo.seq hostOps1_27,
      StableHlo.seq hostOps1_28,
      StableHlo.seq hostOps1_29,
      Prog.lift (.customCall (Pipeline.entry 1) ()),
      StableHlo.seq hostOps2] from rfl]
      dsimp (config := { failIfUnchanged := false }) only
      exact .rfl)
    (fun c => by simp only [items, Pipeline.RDat.Seg.pipes_host, Pipeline.RDat.Seg.pipes_region, Pipeline.RDat.Seg.pipes_nil]; decide)
    (O₀ := fun d => owe1 Z.P.R d + owe0 d) (hL := L_of_ne) (G := ghost Z.P.R) (u₀ := u₀ (F := F) Z.P.R)
    (hu₀ := ?_) (T₀ := start Z m) (Tₙ := finish Z)
    (hch := fun c => ⟨.rfl, ?_, ?_, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, ?_, reg1_post Z c, last_out c⟩)
    (hinit := launch_all Z m ρ)
    (QY := fun c s => Ended Z m c s ∧ s.sem (cell c .b0) = 0 ∧ s.sem (cell c .b1) = 0)
    (hfin := fun c s' => read_end hVb c s')
    (hQ := fun s h hs => ⟨fun c => (h c).1, sem_eq_zero hs fun c sm hsm => ?_⟩)
  · unfold u₀ ghost
    iintro Hu
    ihave H := (ownU_pair _ _) $$ Hu
    icases H with ⟨HP, HX⟩
    imodintro
    isplitl [HP]; · iexact HP
    rw [onDev_all]; iexact HX
  · have h := reg0_pre Z c
    rw [hVa c] at h
    exact h
  · have h := reg0_post Z c
    rw [after_call0 hVa hout c] at h
    exact h
  · have h := reg1_pre Z c
    rw [hVb c] at h
    exact h
  · rcases unscoped_two sm hsm with rfl | rfl
    · exact (h c).2.1
    · exact (h c).2.2

end Cert.MoE

end
-- ==== Proof.HostA.lean ====
/-
  The host program between the two calls, stretch by stretch: what each stretch leaves in the buffers that are read later, as a term of what it finds.
-/
module

public import Idealize.ShloMosaic.Lib.StableHlo.RunClose
public import proofs.«01_k».proof.Proof.Gen.KernelIdeal.Regions

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxRecDepth 20000

attribute [local irreducible] Host.reduceWindow Host.scatter Host.reduce Host.dynamicSlice broadcastInDim

/-! ## Terms that the host program builds more than once -/

/-- The quotient rounded down, as the host program writes it: the truncated quotient, less one where the signs differ and a rest is left. -/
def fdivT {s : Shape} (hb : S_.BroadcastsInDim s (![] : Fin 0 → Fin s.rank)) (x : IVec s 32) (d : IVec S_ 32) : IVec s 32 :=
  select (andi (cmpi .ne (signi x) (broadcastInDim s ![] hb (signi (id d))))
      (cmpi .ne (Host.remsi x (broadcastInDim s ![] hb (id d))) (broadcastInDim s ![] hb (constantI S_ 32 0#32))))
    (subi (Host.divsi x (broadcastInDim s ![] hb (id d))) (broadcastInDim s ![] hb (constantI S_ 32 1#32)))
    (Host.divsi x (broadcastInDim s ![] hb (id d)))

/-- The divisor that the remainder uses: one in place of zero. -/
def nzT (d : IVec S_ 32) : IVec S_ 32 := select (cmpi .eq (id d) (constantI S_ 32 0#32)) (constantI S_ 32 1#32) (id d)

/-- The rest of the quotient rounded down. -/
def remT {s : Shape} (hb : S_.BroadcastsInDim s (![] : Fin 0 → Fin s.rank)) (x : IVec s 32) (d : IVec S_ 32) : IVec s 32 :=
  select (andi (cmpi .ne (cmpi .slt (Host.remsi x (broadcastInDim s ![] hb (nzT d))) (broadcastInDim s ![] hb (constantI S_ 32 0#32)))
        (broadcastInDim s ![] hb (cmpi .slt (nzT d) (constantI S_ 32 0#32))))
      (cmpi .ne (Host.remsi x (broadcastInDim s ![] hb (nzT d))) (broadcastInDim s ![] hb (constantI S_ 32 0#32))))
    (addi (Host.remsi x (broadcastInDim s ![] hb (nzT d))) (broadcastInDim s ![] hb (nzT d)))
    (Host.remsi x (broadcastInDim s ![] hb (nzT d)))

/-- A start index that counts from the end where it is negative. -/
def wrapT (i : IVec S_ 32) (n : BitVec 32) : IVec S_ 32 :=
  select (cmpi .slt i (constantI S_ 32 0#32)) (addi i (constantI S_ 32 n)) i

/-- The 256 entries of a vector of 8192 that start at `i`. -/
def sliceT (x : IVec S8192 32) (i : IVec S_ 32) : IVec S256 32 :=
  Host.dynamicSlice S256 x (fun k => ((![i] : Fin 1 → IVec S_ 32) k (Shape.Idx.first h_S_)).toInt) sliceFits_S8192_S256

/-- The number of positions at which the running count `t` is each of `0 … 101`. -/
def histT (t : IVec S8192 32) : IVec S102 32 :=
  Host.scatter scatter_S102_S8192x1_S8192_n_0_0_1 IntOp.addi (broadcastInDim S102 ![] bcast_S_S102 (constantI S_ 32 0#32))
    (broadcastInDim S8192x1 ![0] bcast_S8192_S8192x1_0
      (select (cmpi .slt t (broadcastInDim S8192 ![] bcast_S_S8192 (constantI S_ 32 0#32)))
        (addi t (broadcastInDim S8192 ![] bcast_S_S8192 (constantI S_ 32 102#32))) t))
    (broadcastInDim S8192 ![] bcast_S_S8192 (constantI S_ 32 1#32))

/-- The running count of a mask. -/
def cumT (k : IVec S8192 1) : IVec S8192 32 :=
  Host.reduceWindow IntOp.addi ![8192] ![1] ![8191] ![0] (extui 32 k natLt_1_32) (broadcastInDim S_ ![] bcast_S_S_ (constantI S_ 32 0#32))
    reduceWindows_S8192_S8192_w8192s1p8191_0 h_S_

/-- The mask of the positions from the number of set bits of `k` on. -/
def pastT (k : IVec S8192 1) : IVec S102 1 :=
  cmpi .sge (iotaInDim S102 32 0) (broadcastInDim S102 ![0] bcast_S1_S102_0
    (broadcastInDim S1 ![] bcast_S_S1 (Host.reduce IntOp.addi (extui 32 k natLt_1_32) (constantI S_ 32 0#32) reducesTo_S8192_S_d0 h_S_)))

/-! ## What each stretch of host operations leaves in the buffers that are read later -/

variable (V : Valuation τ sig (Elt F))

theorem o0_v1 (c : Dev nD) : StableHlo.after (hostOps0 c) V (Proc.devRef .tc main_v1) = (shapeCast S256x1x128 (show S256x128.Idx → Elt F .bf16 from V (Proc.devRef .tc main_arg0)) shapeCasts_S256x128_S256x1x128) := by
  after_results_simp
  rfl

theorem o0_v2 (c : Dev nD) : StableHlo.after (hostOps0 c) V (Proc.devRef .tc main_v2) = (shapeCast S1x256 (show IVec S256x1 32 from V (Proc.devRef .tc main_arg2)) shapeCasts_S256x1_S1x256) := by
  after_results_simp
  rfl

theorem o0_v6 (c : Dev nD) : StableHlo.after (hostOps0 c) V (Proc.devRef .tc main_v6) = (Host.remui (Host.divui (constantI S_ 32 (Dev.word c)) (constantI S_ 32 1#32)) (constantI S_ 32 32#32)) := by
  after_results_simp
  rfl

theorem o1_v8 : StableHlo.after hostOps1 V (Proc.devRef .tc main_v8) = (shapeCast S8192 (show IVec S32x256 32 from V (Proc.devRef .tc main_v7)) shapeCasts_S32x256_S8192) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

/-- The one-hot mask of the expert numbers. -/
def hotT (x : IVec S8192 32) : IVec S8192x64 1 :=
  cmpi .eq (broadcastInDim S8192x64 ![0, 1] bcast_S8192x1_S8192x64_0_1 (broadcastInDim S8192x1 ![0] bcast_S8192_S8192x1_0 x))
    (broadcastInDim S8192x64 ![0, 1] bcast_S1x64_S8192x64_0_1 (broadcastInDim S1x64 ![1] bcast_S64_S1x64_1 (iotaInDim S64 32 0)))

/-- Each token's rank among the tokens of its expert. -/
def rankT (hot : IVec S8192x64 32) (cum : IVec S8192x64 32) : IVec S8192 32 :=
  Host.reduce IntOp.addi (muli (subi cum hot) hot) (constantI S_ 32 0#32) reducesTo_S8192x64_S8192_d1 h_S_

def hotCumT (hot : IVec S8192x64 32) : IVec S8192x64 32 :=
  Host.reduceWindow IntOp.addi ![8192, 1] ![1, 1] ![8191, 0] ![0, 0] hot (broadcastInDim S_ ![] bcast_S_S_ (constantI S_ 32 0#32))
    reduceWindows_S8192x64_S8192x64_w8192s1p8191_0_w1s1p0_0 h_S_

def firstT (me : IVec S_ 32) : IVec S_ 32 := wrapT (muli me (constantI S_ 32 256#32)) 8192#32

theorem o1_v15 : StableHlo.after hostOps1 V (Proc.devRef .tc main_v15) = (extui 32 (hotT (shapeCast S8192 (show IVec S32x256 32 from V (Proc.devRef .tc main_v7)) shapeCasts_S32x256_S8192)) natLt_1_32) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_1_v16 : StableHlo.after hostOps1_1 V (Proc.devRef .tc main_v16) = (hotCumT (V (Proc.devRef .tc main_v15))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_2_v27 : StableHlo.after hostOps1_2 V (Proc.devRef .tc main_v27) = (sliceT (V (Proc.devRef .tc main_v8)) (firstT (V (Proc.devRef .tc main_v6)))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_2_v32 : StableHlo.after hostOps1_2 V (Proc.devRef .tc main_v32) = (sliceT (rankT (V (Proc.devRef .tc main_v15)) (V (Proc.devRef .tc main_v16))) (firstT (V (Proc.devRef .tc main_v6)))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_2_v37 : StableHlo.after hostOps1_2 V (Proc.devRef .tc main_v37) = (sliceT (extui 32 (cmpi .slt (rankT (V (Proc.devRef .tc main_v15)) (V (Proc.devRef .tc main_v16))) (broadcastInDim S8192 ![] bcast_S_S8192 (constantI S_ 32 102#32))) natLt_1_32) (firstT (V (Proc.devRef .tc main_v6)))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_2_c : StableHlo.after hostOps1_2 V (Proc.devRef .tc main_c_12) = (constantI S_ 32 2#32) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_3_v38 : StableHlo.after hostOps1_3 V (Proc.devRef .tc main_v38) = (fdivT bcast_S_S256 (V (Proc.devRef .tc main_v27)) (V (Proc.devRef .tc main_c_12))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_4_c : StableHlo.after hostOps1_4 V (Proc.devRef .tc main_c_13) = (constantI S_ 32 2#32) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_5_v39 : StableHlo.after hostOps1_5 V (Proc.devRef .tc main_v39) = (remT bcast_S_S256 (V (Proc.devRef .tc main_v27)) (V (Proc.devRef .tc main_c_13))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_6_v44 : StableHlo.after hostOps1_6 V (Proc.devRef .tc main_v44) = (addi (muli (V (Proc.devRef .tc main_v39)) (broadcastInDim S256 ![] bcast_S_S256 (constantI S_ 32 102#32))) (minsi (V (Proc.devRef .tc main_v32)) (broadcastInDim S256 ![] bcast_S_S256 (constantI S_ 32 101#32)))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_6_v52 : StableHlo.after hostOps1_6 V (Proc.devRef .tc main_v52) = (minsi (Host.dynamicSlice S2 (Host.reduce IntOp.addi (show IVec S8192x64 32 from V (Proc.devRef .tc main_v15)) (constantI S_ 32 0#32) reducesTo_S8192x64_S64_d0 h_S_)
      (fun k => ((![wrapT (muli (V (Proc.devRef .tc main_v6)) (constantI S_ 32 2#32)) 64#32] : Fin 1 → IVec S_ 32) k (Shape.Idx.first h_S_)).toInt) sliceFits_S64_S2) (broadcastInDim S2 ![] bcast_S_S2 (constantI S_ 32 102#32))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_6_v56 : StableHlo.after hostOps1_6 V (Proc.devRef .tc main_v56) = (cmpi .eq (V (Proc.devRef .tc main_v8)) (broadcastInDim S8192 ![] bcast_S_S8192 (addi (muli (V (Proc.devRef .tc main_v6)) (constantI S_ 32 2#32)) (constantI S_ 32 0#32)))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_7_v57 : StableHlo.after hostOps1_7 V (Proc.devRef .tc main_v57) = (cumT (V (Proc.devRef .tc main_v56))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_8_v66 : StableHlo.after hostOps1_8 V (Proc.devRef .tc main_v66) = (histT (V (Proc.devRef .tc main_v57))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_9_v67 : StableHlo.after hostOps1_9 V (Proc.devRef .tc main_v67) = (Host.reduceWindow IntOp.addi ![102] ![1] ![101] ![0] (V (Proc.devRef .tc main_v66)) (broadcastInDim S_ ![] bcast_S_S_ (constantI S_ 32 0#32)) reduceWindows_S102_S102_w102s1p101_0 h_S_) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_10_c : StableHlo.after hostOps1_10 V (Proc.devRef .tc main_c_27) = (constantI S_ 32 1#32) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_11_v68 : StableHlo.after hostOps1_11 V (Proc.devRef .tc main_v68) = (fdivT bcast_S_S102 (V (Proc.devRef .tc main_v67)) (V (Proc.devRef .tc main_c_27))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_12_c : StableHlo.after hostOps1_12 V (Proc.devRef .tc main_c_28) = (constantI S_ 32 8192#32) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_13_v69 : StableHlo.after hostOps1_13 V (Proc.devRef .tc main_v69) = (remT bcast_S_S102 (V (Proc.devRef .tc main_v68)) (V (Proc.devRef .tc main_c_28))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_14_v75 : StableHlo.after hostOps1_14 V (Proc.devRef .tc main_v75) = (pastT (V (Proc.devRef .tc main_v56))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_14_v76 : StableHlo.after hostOps1_14 V (Proc.devRef .tc main_v76) = (broadcastInDim S1 ![] bcast_S_S1 (constantI S_ 32 0#32)) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_15_v77 : StableHlo.after hostOps1_15 V (Proc.devRef .tc main_v77) = (select (V (Proc.devRef .tc main_v75)) (broadcastInDim S102 ![0] bcast_S1_S102_0 (V (Proc.devRef .tc main_v76))) (V (Proc.devRef .tc main_v69))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_16_v81 : StableHlo.after hostOps1_16 V (Proc.devRef .tc main_v81) = (cmpi .eq (V (Proc.devRef .tc main_v8)) (broadcastInDim S8192 ![] bcast_S_S8192 (addi (muli (V (Proc.devRef .tc main_v6)) (constantI S_ 32 2#32)) (constantI S_ 32 1#32)))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_17_v82 : StableHlo.after hostOps1_17 V (Proc.devRef .tc main_v82) = (cumT (V (Proc.devRef .tc main_v81))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_18_v91 : StableHlo.after hostOps1_18 V (Proc.devRef .tc main_v91) = (histT (V (Proc.devRef .tc main_v82))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_19_v92 : StableHlo.after hostOps1_19 V (Proc.devRef .tc main_v92) = (Host.reduceWindow IntOp.addi ![102] ![1] ![101] ![0] (V (Proc.devRef .tc main_v91)) (broadcastInDim S_ ![] bcast_S_S_ (constantI S_ 32 0#32)) reduceWindows_S102_S102_w102s1p101_0 h_S_) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_20_c : StableHlo.after hostOps1_20 V (Proc.devRef .tc main_c_37) = (constantI S_ 32 1#32) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_21_v93 : StableHlo.after hostOps1_21 V (Proc.devRef .tc main_v93) = (fdivT bcast_S_S102 (V (Proc.devRef .tc main_v92)) (V (Proc.devRef .tc main_c_37))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_22_c : StableHlo.after hostOps1_22 V (Proc.devRef .tc main_c_38) = (constantI S_ 32 8192#32) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_23_v94 : StableHlo.after hostOps1_23 V (Proc.devRef .tc main_v94) = (remT bcast_S_S102 (V (Proc.devRef .tc main_v93)) (V (Proc.devRef .tc main_c_38))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_24_v100 : StableHlo.after hostOps1_24 V (Proc.devRef .tc main_v100) = (pastT (V (Proc.devRef .tc main_v81))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_24_v101 : StableHlo.after hostOps1_24 V (Proc.devRef .tc main_v101) = (broadcastInDim S1 ![] bcast_S_S1 (constantI S_ 32 0#32)) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_25_v102 : StableHlo.after hostOps1_25 V (Proc.devRef .tc main_v102) = (select (V (Proc.devRef .tc main_v100)) (broadcastInDim S102 ![0] bcast_S1_S102_0 (V (Proc.devRef .tc main_v101))) (V (Proc.devRef .tc main_v94))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_26_v105 : StableHlo.after hostOps1_26 V (Proc.devRef .tc main_v105) = (concatenate S2x102 0 [⟨S1x102, broadcastInDim S1x102 ![1] bcast_S102_S1x102_1 (show IVec S102 32 from V (Proc.devRef .tc main_v77))⟩, ⟨S1x102, broadcastInDim S1x102 ![1] bcast_S102_S1x102_1 (show IVec S102 32 from V (Proc.devRef .tc main_v102))⟩] concatenates_S1x102_S1x102_S2x102_d0) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_26_c : StableHlo.after hostOps1_26 V (Proc.devRef .tc main_c_41) = (constantI S_ 32 256#32) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_27_v106 : StableHlo.after hostOps1_27 V (Proc.devRef .tc main_v106) = (fdivT bcast_S_S2x102 (V (Proc.devRef .tc main_v105)) (V (Proc.devRef .tc main_c_41))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_28_c : StableHlo.after hostOps1_28 V (Proc.devRef .tc main_c_42) = (constantI S_ 32 256#32) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

theorem o1_29_v107 : StableHlo.after hostOps1_29 V (Proc.devRef .tc main_v107) = (remT bcast_S_S2x102 (V (Proc.devRef .tc main_v105)) (V (Proc.devRef .tc main_c_42))) := by
  after_results_simp_entrywise
  all_goals (try simp only [StableHlo.TRef.ofBuf_toBuf])
  all_goals (try unfold fdivT)
  all_goals (try unfold hotCumT)
  all_goals (try unfold cumT)
  all_goals (try unfold histT)
  all_goals (try unfold pastT)
  all_goals (try unfold sliceT)
  all_goals (try unfold firstT)
  all_goals (try unfold wrapT)
  all_goals (try unfold rankT)
  all_goals (try unfold remT nzT)
  all_goals rfl

end Cert.MoE

end
-- ==== Proof.HostMath.lean ====
/-
  Counting: the rank of a token among the tokens of its expert, and the token of a given rank of a given expert.
-/
module

public import Idealize.ShloMosaic.Lib.Routing.Ops

@[expose] public section

set_option maxRecDepth 20000

namespace Cert.MoE

open Idealize.ShloMosaic

/-- The number of tokens before `n` that go to expert `e`, `x n` being the expert of token `n`. -/
def before (x : ℕ → ℕ) (e n : ℕ) : ℕ := Nat.count (fun i => x i = e) n

/-- The rank of token `n` among the tokens of its own expert. -/
def rankOf (x : ℕ → ℕ) (n : ℕ) : ℕ := before x (x n) n

/-- The token of rank `j` of expert `e`, as the host program finds it: the number of tokens up to and including which at most `j` go to `e`. -/
def tokenOf (x : ℕ → ℕ) (e j : ℕ) : ℕ := Nat.count (fun i => before x e (i + 1) ≤ j) 8192

theorem before_succ (x : ℕ → ℕ) (e n : ℕ) : before x e (n + 1) = before x e n + if x n = e then 1 else 0 := Nat.count_succ _ _

theorem before_mono (x : ℕ → ℕ) (e : ℕ) {a b : ℕ} (h : a ≤ b) : before x e a ≤ before x e b := Nat.count_monotone _ h

theorem before_le (x : ℕ → ℕ) (e n : ℕ) : before x e n ≤ n := Nat.count_le _

/-- Two tokens of one expert with one rank are one token. -/
theorem before_inj (x : ℕ → ℕ) (e : ℕ) {a b : ℕ} (ha : x a = e) (hb : x b = e) (h : before x e a = before x e b) : a = b :=
  Nat.count_injective (p := fun i => x i = e) ha hb h

/-- The token of a rank that the expert reaches goes to that expert and has that rank. -/
theorem tokenOf_spec (x : ℕ → ℕ) (e j : ℕ) (h : j < before x e 8192) :
    tokenOf x e j < 8192 ∧ x (tokenOf x e j) = e ∧ before x e (tokenOf x e j) = j := by
  have hlt : tokenOf x e j < 8192 := Routing.count_nonzero_lt (fun i => x i = e) 8192 j h
  have hg : ((List.range 8192).filter fun c => decide (x c = e)).getD j 0 = tokenOf x e j := Routing.getD_filter_range (fun i => x i = e) 8192 j h
  have hlen : j < ((List.range 8192).filter fun c => decide (x c = e)).length := by
    rw [Routing.length_filter_range (fun i => x i = e)]; exact h
  have hx : x (tokenOf x e j) = e := by
    have := List.getElem_mem hlen
    rw [List.getD_eq_getElem?_getD, List.getElem?_eq_getElem hlen, Option.getD_some] at hg
    rw [hg] at this
    exact of_decide_eq_true (List.mem_filter.1 this).2
  -- the set of tokens up to and including which at most `j` go to `e` is an initial stretch
  have hdown : ∀ a b, a ≤ b → b < 8192 → before x e (b + 1) ≤ j → before x e (a + 1) ≤ j :=
    fun a b hab _ hb => (before_mono x e (by omega)).trans hb
  have hat : ¬ before x e (tokenOf x e j + 1) ≤ j := fun hq =>
    absurd (show tokenOf x e j < tokenOf x e j from (Routing.lt_count_iff (N := 8192) (Q := fun i => before x e (i + 1) ≤ j) hdown hlt).1 hq) (Nat.lt_irrefl _)
  have hbefore : before x e (tokenOf x e j) ≤ j := by
    rcases Nat.eq_zero_or_pos (tokenOf x e j) with h0 | h0
    · rw [h0]; exact Nat.zero_le _
    · have := (Routing.lt_count_iff (Q := fun i => before x e (i + 1) ≤ j) hdown (N := 8192) (r := tokenOf x e j - 1) (by omega)).2
        (show tokenOf x e j - 1 < tokenOf x e j by omega)
      have e1 : tokenOf x e j - 1 + 1 = tokenOf x e j := by omega
      rwa [e1] at this
  refine ⟨hlt, hx, ?_⟩
  rw [before_succ, if_pos hx] at hat
  omega

theorem rankOf_lt (x : ℕ → ℕ) {n : ℕ} (hn : n < 8192) : rankOf x n < before x (x n) 8192 := by
  have h1 : before x (x n) (n + 1) = before x (x n) n + 1 := by rw [before_succ, if_pos rfl]
  have h2 := before_mono x (x n) (show n + 1 ≤ 8192 by omega)
  show before x (x n) n < _
  omega

/-- The token of its own rank of its own expert is the token itself. -/
theorem tokenOf_rankOf (x : ℕ → ℕ) {n : ℕ} (hn : n < 8192) : tokenOf x (x n) (rankOf x n) = n := by
  obtain ⟨_, hx, hb⟩ := tokenOf_spec x (x n) (rankOf x n) (rankOf_lt x hn)
  exact before_inj x (x n) hx rfl hb

theorem rankOf_tokenOf (x : ℕ → ℕ) (e j : ℕ) (h : j < before x e 8192) : rankOf x (tokenOf x e j) = j := by
  obtain ⟨_, hx, hb⟩ := tokenOf_spec x e j h
  show before x (x (tokenOf x e j)) (tokenOf x e j) = j
  rw [hx]; exact hb

end Cert.MoE
-- ==== Proof.HostB.lean ====
/-
  The host program's terms, entry by entry: quotients, slices, running counts and histograms of expert numbers.
-/
module

public import proofs.«01_k».proof.Proof.HostA
public import proofs.«01_k».proof.Proof.HostMath
public import Idealize.ShloMosaic.Lib.Routing.OpsOne
public import Idealize.ShloMosaic.Lib.Routing.Words
public import Idealize.ShloMosaic.Lib.DynamicIndex

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.ValueIdx (ix1 ix2 ix3)

variable {F : FTy → Type} [FloatOps F]

set_option maxRecDepth 20000

open Idealize.ShloMosaic.ValueIdx (ix0 eq_ix0)

attribute [local irreducible] Host.reduceWindow Host.scatter Host.reduce Host.dynamicSlice broadcastInDim

/-- A number as a word. -/
local notation "wd" => BitVec.ofNat 32

/-! ## Words -/

theorem ne_self (a : BitVec 32) : IntOp.cmpi .ne a a = 0#1 := by
  show BitVec.ofBool (a != a) = 0#1
  rw [bne_self_eq_false]; rfl

theorem ne_self1 (a : BitVec 1) : IntOp.cmpi .ne a a = 0#1 := by
  show BitVec.ofBool (a != a) = 0#1
  rw [bne_self_eq_false]; rfl

theorem and_zero1 (a : BitVec 1) : IntOp.andi a 0#1 = 0#1 := BitVec.and_zero
theorem zero_and1 (a : BitVec 1) : IntOp.andi 0#1 a = 0#1 := BitVec.zero_and

theorem slt_zero (a : ℕ) (ha : a < 2 ^ 31) : IntOp.cmpi .slt (wd a) 0#32 = 0#1 := by
  show BitVec.ofBool ((wd a).slt 0#32) = 0#1
  have h : (wd a).slt 0#32 = false := by
    rw [BitVec.slt, StableHlo.Predicate.toInt_ofNat_small a ha, BitVec.toInt_zero]
    exact decide_eq_false (by omega)
  rw [h]; rfl

theorem slt_word (a b : ℕ) (ha : a < 2 ^ 31) (hb : b < 2 ^ 31) : IntOp.cmpi .slt (wd a) (wd b) = BitVec.ofBool (decide (a < b)) := by
  show BitVec.ofBool ((wd a).slt (wd b)) = _
  rw [BitVec.slt, StableHlo.Predicate.toInt_ofNat_small a ha, StableHlo.Predicate.toInt_ofNat_small b hb]
  exact congrArg BitVec.ofBool (decide_eq_decide.2 (by omega))

theorem sge_word (a b : ℕ) (ha : a < 2 ^ 31) (hb : b < 2 ^ 31) : IntOp.cmpi .sge (wd a) (wd b) = BitVec.ofBool (decide (b ≤ a)) := by
  show BitVec.ofBool ((wd b).sle (wd a)) = _
  rw [BitVec.sle, StableHlo.Predicate.toInt_ofNat_small a ha, StableHlo.Predicate.toInt_ofNat_small b hb]
  exact congrArg BitVec.ofBool (decide_eq_decide.2 (by omega))

theorem wd_inj {a b : ℕ} (ha : a < 2 ^ 32) (hb : b < 2 ^ 32) (h : wd a = wd b) : a = b := by
  have := congrArg BitVec.toNat h
  rwa [BitVec.toNat_ofNat, BitVec.toNat_ofNat, Nat.mod_eq_of_lt ha, Nat.mod_eq_of_lt hb] at this

theorem eq_word (a b : ℕ) (ha : a < 2 ^ 32) (hb : b < 2 ^ 32) : IntOp.cmpi .eq (wd a) (wd b) = BitVec.ofBool (decide (a = b)) := by
  show BitVec.ofBool (wd a == wd b) = _
  refine congrArg BitVec.ofBool ?_
  rw [Bool.eq_iff_iff, beq_iff_eq, decide_eq_true_iff]
  exact ⟨wd_inj ha hb, fun h => by rw [h]⟩

theorem min_word (a b : ℕ) (ha : a < 2 ^ 31) (hb : b < 2 ^ 31) : IntOp.minsi (wd a) (wd b) = wd (min a b) := by
  show (if (wd a).slt (wd b) = true then wd a else wd b) = _
  rw [BitVec.slt, StableHlo.Predicate.toInt_ofNat_small a ha, StableHlo.Predicate.toInt_ofNat_small b hb]
  by_cases h : a < b
  · rw [if_pos (decide_eq_true (by omega)), Nat.min_eq_left h.le]
  · rw [if_neg (by rw [decide_eq_true_iff]; omega), Nat.min_eq_right (by omega)]

theorem msb_word (a : ℕ) (ha : a < 2 ^ 31) : (wd a).msb = false := by
  rw [BitVec.msb_eq_decide, BitVec.toNat_ofNat]
  exact decide_eq_false (by omega)

theorem wd_ne_zero {a : ℕ} (h0 : 0 < a) (ha : a < 2 ^ 32) : wd a ≠ 0 := fun h => by
  have := wd_inj ha (by decide) (h.trans (show (0 : BitVec 32) = wd 0 from rfl)); omega

/-- The sign word of a positive number is one. -/
theorem sign_pos {s : Shape} (x : IVec s 32) (i : s.Idx) {a : ℕ} (hx : x i = wd a) (h0 : 0 < a) (ha : a < 2 ^ 31) : signi x i = 1 := by
  show (if x i = 0 then (0 : BitVec 32) else if (x i).msb then -1 else 1) = 1
  rw [hx, if_neg (wd_ne_zero h0 (by omega)), msb_word a ha]; rfl

theorem ext1 (k : BitVec 1) (p : Prop) [Decidable p] (h : k = BitVec.ofBool (decide p)) : k.setWidth 32 = wd (if p then 1 else 0) := by
  subst h
  by_cases hp : p
  · rw [decide_eq_true hp, if_pos hp]; rfl
  · rw [decide_eq_false hp, if_neg hp]; rfl

/-! ## Quotients and rests -/

theorem bc {α : Type} {s : Shape} (hb : S_.BroadcastsInDim s (![] : Fin 0 → Fin s.rank)) (v : S_.Idx → α) (j : s.Idx) :
    broadcastInDim s ![] hb v j = v ix0 := Routing.bc0 hb v j

theorem fdivT_at {s : Shape} (hb : S_.BroadcastsInDim s (![] : Fin 0 → Fin s.rank)) (x : IVec s 32) (d : IVec S_ 32) (i : s.Idx) {a D : ℕ}
    (hx : x i = wd a) (ha : a < 2 ^ 31) (hd : d ix0 = wd D) (h0 : 0 < D) (hD : D < 2 ^ 31) : fdivT hb x d i = wd (a / D) := by
  have hq : IntOp.divsi .host (x i) (broadcastInDim s ![] hb (id d) i) = wd (a / D) := by
    rw [bc, hx]; show IntOp.divsi .host (wd a) (d ix0) = _; rw [hd]; exact Routing.divsi_word .host ha h0 hD
  have hr : IntOp.remsi .host (x i) (broadcastInDim s ![] hb (id d) i) = wd (a % D) := by
    rw [bc, hx]; show IntOp.remsi .host (wd a) (d ix0) = _; rw [hd]; exact Routing.remsi_word .host ha h0 hD
  have hz : broadcastInDim s ![] hb (constantI S_ 32 0#32) i = 0#32 := bc _ _ _
  have hc : IntOp.andi (IntOp.cmpi .ne (signi x i) (broadcastInDim s ![] hb (signi (id d)) i))
      (IntOp.cmpi .ne (IntOp.remsi .host (x i) (broadcastInDim s ![] hb (id d) i)) (broadcastInDim s ![] hb (constantI S_ 32 0#32) i)) = 0#1 := by
    rw [hr, hz]
    rcases Nat.eq_zero_or_pos a with rfl | hp
    · rw [Nat.zero_mod, show wd 0 = 0#32 from rfl, ne_self, and_zero1]
    · rw [bc, sign_pos x i hx hp ha, sign_pos (id d) ix0 hd h0 hD, ne_self, zero_and1]
  show (if IntOp.andi (IntOp.cmpi .ne (signi x i) (broadcastInDim s ![] hb (signi (id d)) i))
      (IntOp.cmpi .ne (IntOp.remsi .host (x i) (broadcastInDim s ![] hb (id d) i)) (broadcastInDim s ![] hb (constantI S_ 32 0#32) i)) = 1 then _
    else IntOp.divsi .host (x i) (broadcastInDim s ![] hb (id d) i)) = _
  rw [hc, if_neg (by decide), hq]

theorem nzT_at (d : IVec S_ 32) {D : ℕ} (hd : d ix0 = wd D) (h0 : 0 < D) (hD : D < 2 ^ 31) : nzT d ix0 = wd D := by
  show (if IntOp.cmpi .eq (d ix0) 0#32 = 1 then _ else d ix0) = _
  rw [hd, show (0#32 : BitVec 32) = wd 0 from rfl, eq_word D 0 (by omega) (by decide), decide_eq_false (by omega), if_neg (by decide)]

theorem remT_at {s : Shape} (hb : S_.BroadcastsInDim s (![] : Fin 0 → Fin s.rank)) (x : IVec s 32) (d : IVec S_ 32) (i : s.Idx) {a D : ℕ}
    (hx : x i = wd a) (ha : a < 2 ^ 31) (hd : d ix0 = wd D) (h0 : 0 < D) (hD : D < 2 ^ 31) : remT hb x d i = wd (a % D) := by
  have hr : IntOp.remsi .host (x i) (broadcastInDim s ![] hb (nzT d) i) = wd (a % D) := by
    rw [bc, hx, nzT_at d hd h0 hD]; exact Routing.remsi_word .host ha h0 hD
  have hlt : a % D < 2 ^ 31 := lt_of_le_of_lt (Nat.mod_le _ _) ha
  have hz : broadcastInDim s ![] hb (constantI S_ 32 0#32) i = 0#32 := bc _ _ _
  have hs : broadcastInDim s ![] hb (cmpi .slt (nzT d) (constantI S_ 32 0#32)) i = 0#1 := by
    rw [bc]; show IntOp.cmpi .slt (nzT d ix0) 0#32 = 0#1; rw [nzT_at d hd h0 hD]; exact slt_zero D hD
  show (if IntOp.andi (IntOp.cmpi .ne (IntOp.cmpi .slt (IntOp.remsi .host (x i) (broadcastInDim s ![] hb (nzT d) i)) (broadcastInDim s ![] hb (constantI S_ 32 0#32) i))
        (broadcastInDim s ![] hb (cmpi .slt (nzT d) (constantI S_ 32 0#32)) i)) _ = 1 then _ else IntOp.remsi .host (x i) (broadcastInDim s ![] hb (nzT d) i)) = _
  rw [hr, hz, hs, slt_zero _ hlt, ne_self1, zero_and1, if_neg (by decide)]

/-! ## Slices -/

theorem wrapT_at (i : IVec S_ 32) (n : BitVec 32) {a : ℕ} (hi : i ix0 = wd a) (ha : a < 2 ^ 31) : wrapT i n ix0 = wd a := by
  show (if IntOp.cmpi .slt (i ix0) 0#32 = 1 then _ else i ix0) = _
  rw [hi, slt_zero a ha, if_neg (by decide)]

theorem sliceT_at (x : IVec S8192 32) (i : IVec S_ 32) {a : ℕ} (hi : i ix0 = wd a) (ha : a + 256 ≤ 8192) (j : Fin 256) :
    sliceT x i (ix1 j) = x (ix1 ⟨a + j.val, by have := j.isLt; omega⟩) := by
  have hs : S8192.Slices ![a] S256 := ⟨rfl, fun b => by
    match b with
    | ⟨0, _⟩ => exact ha⟩
  have h := Host.dynamicSlice_eq_extractStridedSlice S256 x (fun k => ((![i] : Fin 1 → IVec S_ 32) k (Shape.Idx.first h_S_)).toInt) ![a]
    sliceFits_S8192_S256 hs (fun b => by
      match b with
      | ⟨0, _⟩ =>
        show (i (Shape.Idx.first h_S_)).toInt = (a : ℤ)
        rw [eq_ix0 (Shape.Idx.first h_S_), hi, StableHlo.Predicate.toInt_ofNat_small a (by omega)])
  exact (congrFun h (ix1 j)).trans (Routing.slice1 a x hs j _)

/-! ## Counts -/

theorem histT_at (t : IVec S8192 32) (g : ℕ → ℕ) (hg : ∀ n : Fin 8192, t (ix1 n) = wd (g n.val)) (hlt : ∀ n : Fin 8192, g n.val < 2 ^ 31) (j : Fin 102) :
    histT t (ix1 j) = wd (Nat.count (fun n => g n = j.val) 8192) := by
  have hidx (n : Fin 8192) : (broadcastInDim S8192x1 ![0] bcast_S8192_S8192x1_0
      (select (cmpi .slt t (broadcastInDim S8192 ![] bcast_S_S8192 (constantI S_ 32 0#32)))
        (addi t (broadcastInDim S8192 ![] bcast_S_S8192 (constantI S_ 32 102#32))) t)) (ix2 n (0 : Fin 1)) = wd (g n.val) := by
    rw [Routing.bcCol bcast_S8192_S8192x1_0 _ n]
    show (if IntOp.cmpi .slt (t (ix1 n)) (broadcastInDim S8192 ![] bcast_S_S8192 (constantI S_ 32 0#32) (ix1 n)) = 1 then _ else t (ix1 n)) = _
    rw [bc, hg n]
    show (if IntOp.cmpi .slt (wd (g n.val)) 0#32 = 1 then _ else wd (g n.val)) = _
    rw [slt_zero _ (hlt n), if_neg (by decide)]
  have hland (n : Fin 8192) (idx : IVec S8192x1 32) (hi : idx (ix2 n (0 : Fin 1)) = wd (g n.val)) :
      scatter_S102_S8192x1_S8192_n_0_0_1.resultIdx? (ix1 n) idx = some (ix1 j) ↔ g n.val = j.val := by
    have hst : scatter_S102_S8192x1_S8192_n_0_0_1.start (ix1 n) idx 0 + (scatter_S102_S8192x1_S8192_n_0_0_1.window (ix1 n) 0 : ℤ) = (g n.val : ℤ) := by
      have h1 : scatter_S102_S8192x1_S8192_n_0_0_1.start (ix1 n) idx 0 = (idx (ix2 n (0 : Fin 1))).toInt := by
        unfold ScatterDims.start
        refine (dif_pos (show (0 : Fin 1) ∈ ([0] : List (Fin 1)) from List.mem_singleton.2 rfl)).trans ?_
        refine congrArg (fun k => (idx k).toInt) (funext fun b => Fin.ext ?_)
        match b with
        | ⟨0, _⟩ => rfl
        | ⟨1, _⟩ => rfl
      have h2 : scatter_S102_S8192x1_S8192_n_0_0_1.window (ix1 n) 0 = 0 := rfl
      rw [h1, h2, hi, StableHlo.Predicate.toInt_ofNat_small _ (hlt n)]; omega
    have hj := j.isLt
    unfold ScatterDims.resultIdx?
    split
    · next h =>
      constructor
      · intro q
        have q0 := congrArg Fin.val (congrFun (Option.some.inj q) 0)
        change (scatter_S102_S8192x1_S8192_n_0_0_1.start (ix1 n) idx 0 + (scatter_S102_S8192x1_S8192_n_0_0_1.window (ix1 n) 0 : ℤ)).toNat = j.val at q0
        rw [hst] at q0; omega
      · intro q
        refine congrArg some (funext fun a => Fin.ext ?_)
        match a with
        | ⟨0, _⟩ =>
          show (scatter_S102_S8192x1_S8192_n_0_0_1.start (ix1 n) idx 0 + (scatter_S102_S8192x1_S8192_n_0_0_1.window (ix1 n) 0 : ℤ)).toNat = j.val
          rw [hst]; omega
    · next h =>
      refine ⟨fun q => absurd q (by simp), fun q => (h fun a => ?_).elim⟩
      match a with
      | ⟨0, _⟩ =>
        show 0 ≤ scatter_S102_S8192x1_S8192_n_0_0_1.start (ix1 n) idx 0 + (scatter_S102_S8192x1_S8192_n_0_0_1.window (ix1 n) 0 : ℤ)
          ∧ scatter_S102_S8192x1_S8192_n_0_0_1.start (ix1 n) idx 0 + (scatter_S102_S8192x1_S8192_n_0_0_1.window (ix1 n) 0 : ℤ) < (102 : ℤ)
        rw [hst]; omega
  unfold histT
  generalize (broadcastInDim S8192x1 ![0] bcast_S8192_S8192x1_0
      (select (cmpi .slt t (broadcastInDim S8192 ![] bcast_S_S8192 (constantI S_ 32 0#32)))
        (addi t (broadcastInDim S8192 ![] bcast_S_S8192 (constantI S_ 32 102#32))) t)) = idx at hidx ⊢
  unfold Host.scatter
  refine (Routing.foldl_count _ (ix1 j) (fun n => decide (g n.val = j.val)) (fun r n => ?_) _ _ 0 (bc _ _ _)).trans ?_
  · rw [Routing.symm1]
    have hi := hland (n.cast (Routing.numel1 8192)) idx (hidx _)
    generalize scatter_S102_S8192x1_S8192_n_0_0_1.resultIdx? (ix1 (n.cast (Routing.numel1 8192))) idx = o at hi ⊢
    cases o with
    | none =>
      dsimp only
      rw [if_neg fun h => by have := hi.2 (of_decide_eq_true h); cases this]
    | some k =>
      dsimp only
      by_cases q : g n.val = j.val
      · rw [show k = ix1 j from Option.some.inj (hi.2 q), if_pos rfl, bc, if_pos (decide_eq_true q)]; rfl
      · rw [if_neg fun h : ix1 j = k => q (hi.1 (congrArg some h.symm)), if_neg fun h => q (of_decide_eq_true h)]
  · rw [Nat.zero_add]
    exact congrArg (BitVec.ofNat 32) (Routing.countP_finRange 8192 (fun n => g n = j.val))

theorem zeroInit : broadcastInDim S_ ![] bcast_S_S_ (constantI S_ 32 0#32) ix0 = 0#32 := bc _ _ _

theorem cumT_at (k : IVec S8192 1) (Q : ℕ → Prop) [DecidablePred Q] (hQ : ∀ n : Fin 8192, k (ix1 n) = BitVec.ofBool (decide (Q n.val))) (j : Fin 8192) :
    cumT k (ix1 j) = wd (Nat.count Q (j.val + 1)) := by
  refine (Routing.cumsum1 (N := 8192) (Nm1 := 8191) rfl _ (fun n => if Q n then 1 else 0) (fun n => ext1 _ _ (hQ n)) _ zeroInit _ _ j).trans ?_
  rw [Routing.sum_map_ite]

theorem tokT_at (h : IVec S102 32) (g : ℕ → ℕ) (hh : ∀ j : Fin 102, h (ix1 j) = wd (Nat.count (fun n => g n = j.val) 8192)) (j : Fin 102) :
    Host.reduceWindow IntOp.addi ![102] ![1] ![101] ![0] h (broadcastInDim S_ ![] bcast_S_S_ (constantI S_ 32 0#32)) reduceWindows_S102_S102_w102s1p101_0 h_S_ (ix1 j)
      = wd (Nat.count (fun n => g n ≤ j.val) 8192) := by
  refine (Routing.cumsum1 (N := 102) (Nm1 := 101) rfl _ (fun y => Nat.count (fun n => g n = y) 8192) hh _ zeroInit _ _ j).trans ?_
  rw [Routing.sum_count_eq]

theorem hotT_at (x : IVec S8192 32) (f : ℕ → ℕ) (hf : ∀ n : Fin 8192, x (ix1 n) = wd (f n.val)) (hlt : ∀ n : Fin 8192, f n.val < 64) (n : Fin 8192) (q : Fin 64) :
    hotT x (ix2 n q) = BitVec.ofBool (decide (f n.val = q.val)) := by
  show IntOp.cmpi .eq (broadcastInDim S8192x64 ![0, 1] bcast_S8192x1_S8192x64_0_1 (broadcastInDim S8192x1 ![0] bcast_S8192_S8192x1_0 x) (ix2 n q))
    (broadcastInDim S8192x64 ![0, 1] bcast_S1x64_S8192x64_0_1 (broadcastInDim S1x64 ![1] bcast_S64_S1x64_1 (iotaInDim S64 32 0)) (ix2 n q)) = _
  rw [Routing.bcRows bcast_S8192_S8192x1_0 bcast_S8192x1_S8192x64_0_1 x n q, Routing.bcCols bcast_S64_S1x64_1 bcast_S1x64_S8192x64_0_1 _ n q, hf n]
  have h1 := hlt n
  have h2 := q.isLt
  exact eq_word (f n.val) q.val (by omega) (by omega)

theorem hotCumT_at (x : IVec S8192 32) (f : ℕ → ℕ) (hf : ∀ n : Fin 8192, x (ix1 n) = wd (f n.val)) (hlt : ∀ n : Fin 8192, f n.val < 64) (n : Fin 8192) (q : Fin 64) :
    hotCumT (extui 32 (hotT x) natLt_1_32) (ix2 n q) = wd (before f q.val (n.val + 1)) := by
  refine (Routing.cumsum_rows (R := 8192) (Rm1 := 8191) (C := 64) rfl _ (fun i c => if f i = c then 1 else 0) (fun i c => ext1 _ _ (hotT_at x f hf hlt i c)) _ zeroInit _ _ n q).trans ?_
  rw [Routing.sum_map_ite]; rfl

/-- A sum along a row that has one entry which may differ from zero is that entry. -/
theorem reduce_row {n m : ℕ} (y : IVec (Routing.shape2 n m) 32) (h : (Routing.shape2 n m).ReducesTo [1] (Routing.shape1 n)) (hu : 0 < S_.numel) (i : Fin n) (q : Fin m)
    (hz : ∀ p, p ≠ q → y (ix2 i p) = 0) : Host.reduce IntOp.addi y (constantI S_ 32 0#32) h hu (ix1 i) = y (ix2 i q) := by
  rw [Host.reduce_eq_fold]
  have hsum : ∀ S : Finset (Routing.shape2 n m).Idx, S.fold IntOp.addi (0#32 : BitVec 32) y = ∑ a ∈ S, y a := by
    classical
    intro S
    induction S using Finset.induction_on with
    | empty => rfl
    | insert a S ha ih => rw [Finset.fold_insert ha, Finset.sum_insert ha, ih]; rfl
  refine (hsum _).trans ?_
  have hv (a : (Routing.shape2 n m).Idx) : (h.drop a 0 : ℕ) = a 0 := Shape.ReducesTo.drop_apply_val h a 0
  refine Finset.sum_eq_single (ix2 i q) (fun a ha hne => ?_) (fun hn => absurd (Finset.mem_filter.2 ⟨Finset.mem_univ _, ?_⟩) hn)
  · have hd := (Finset.mem_filter.1 ha).2
    have h0 : a 0 = i := Fin.ext ((hv a).symm.trans (congrArg (fun z : (Routing.shape1 n).Idx => (z 0).val) hd))
    have ha' : a = ix2 i (a 1) := by
      funext b
      match b with
      | ⟨0, _⟩ => exact h0
      | ⟨1, _⟩ => rfl
    rw [ha']
    exact hz _ fun hq => hne (ha'.trans (congrArg (ix2 i) hq))
  · funext b
    match b with
    | ⟨0, _⟩ => exact Fin.ext (hv (ix2 i q))

theorem rankT_at (x : IVec S8192 32) (f : ℕ → ℕ) (hf : ∀ n : Fin 8192, x (ix1 n) = wd (f n.val)) (hlt : ∀ n : Fin 8192, f n.val < 64) (n : Fin 8192) :
    rankT (extui 32 (hotT x) natLt_1_32) (hotCumT (extui 32 (hotT x) natLt_1_32)) (ix1 n) = wd (rankOf f n.val) := by
  have hat (q : Fin 64) : muli (subi (hotCumT (extui 32 (hotT x) natLt_1_32)) (extui 32 (hotT x) natLt_1_32)) (extui 32 (hotT x) natLt_1_32) (ix2 n q)
      = (wd (before f q.val (n.val + 1)) - wd (if f n.val = q.val then 1 else 0)) * wd (if f n.val = q.val then 1 else 0) := by
    show (hotCumT (extui 32 (hotT x) natLt_1_32) (ix2 n q) - (hotT x (ix2 n q)).setWidth 32) * (hotT x (ix2 n q)).setWidth 32 = _
    rw [hotCumT_at x f hf hlt n q, ext1 _ _ (hotT_at x f hf hlt n q)]
  refine (reduce_row _ reducesTo_S8192x64_S8192_d1 h_S_ n ⟨f n.val, hlt n⟩ fun p hp => ?_).trans ?_
  · rw [hat p, if_neg (fun h => hp (Fin.ext h.symm))]
    exact BitVec.mul_zero
  · rw [hat, if_pos rfl, before_succ, if_pos rfl, BitVec.ofNat_add, show wd 1 = 1#32 from rfl, BitVec.add_sub_cancel]
    exact BitVec.mul_one _

theorem countT_at (x : IVec S8192 32) (f : ℕ → ℕ) (hf : ∀ n : Fin 8192, x (ix1 n) = wd (f n.val)) (hlt : ∀ n : Fin 8192, f n.val < 64) (q : Fin 64) :
    Host.reduce IntOp.addi (extui 32 (hotT x) natLt_1_32) (constantI S_ 32 0#32) reducesTo_S8192x64_S64_d0 h_S_ (ix1 q) = wd (before f q.val 8192) := by
  apply BitVec.eq_of_toNat_eq
  have hle := before_le f q.val 8192
  rw [StableHlo.Predicate.toNat_reduce_count_rows (by decide) (hotT x) natLt_1_32 reducesTo_S8192x64_S64_d0 h_S_ (ix1 q), BitVec.toNat_ofNat,
    Nat.mod_eq_of_lt (by omega)]
  show _ = Nat.count (fun i => f i = q.val) 8192
  rw [← Routing.card_filter_fin 8192 (fun i => f i = q.val)]
  refine congrArg Finset.card (Finset.filter_congr fun n _ => ?_)
  rw [Routing.ij_eq_ix2]
  refine (show hotT x (ix2 n q) = 1#1 ↔ _ from ?_)
  rw [hotT_at x f hf hlt n q, StableHlo.Predicate.ofBool_eq_one_iff, decide_eq_true_iff]

theorem pastT_at (k : IVec S8192 1) (Q : ℕ → Prop) [DecidablePred Q] (hQ : ∀ n : Fin 8192, k (ix1 n) = BitVec.ofBool (decide (Q n.val))) (j : Fin 102) :
    pastT k (ix1 j) = BitVec.ofBool (decide (Nat.count Q 8192 ≤ j.val)) := by
  have hs : Host.reduce IntOp.addi (extui 32 k natLt_1_32) (constantI S_ 32 0#32) reducesTo_S8192_S_d0 h_S_ ix0 = wd (Nat.count Q 8192) := by
    refine (Routing.reduce_sum (N := 8192) _ (fun n => if Q n then 1 else 0) (fun n => ext1 _ _ (hQ n)) _ _).trans ?_
    rw [Routing.sum_map_ite]
  have hle := Nat.count_le (p := Q) (n := 8192)
  have hj := j.isLt
  show IntOp.cmpi .sge (wd j.val) (broadcastInDim S102 ![0] bcast_S1_S102_0 (broadcastInDim S1 (![] : Fin 0 → Fin 1) bcast_S_S1 (Host.reduce IntOp.addi (extui 32 k natLt_1_32) (constantI S_ 32 0#32) reducesTo_S8192_S_d0 h_S_)) (ix1 j)) = _
  rw [broadcastInDim_apply ![0] bcast_S1_S102_0 _ (ix1 j) (ix1 (0 : Fin 1)) (fun a => by
    match a with
    | ⟨0, _⟩ => rfl), bc, hs, sge_word _ _ (by omega) (by omega)]

theorem rows_at (a b : IVec S102 32) (k : Fin 2) (j : Fin 102) :
    concatenate S2x102 0 [⟨S1x102, broadcastInDim S1x102 ![1] bcast_S102_S1x102_1 a⟩, ⟨S1x102, broadcastInDim S1x102 ![1] bcast_S102_S1x102_1 b⟩] concatenates_S1x102_S1x102_S2x102_d0 (ix2 k j)
      = if k = 0 then a (ix1 j) else b (ix1 j) := by
  have hrow (v : IVec S102 32) : broadcastInDim S1x102 ![1] bcast_S102_S1x102_1 v (ix2 (0 : Fin 1) j) = v (ix1 j) :=
    broadcastInDim_apply ![1] bcast_S102_S1x102_1 v _ _ fun d => by
      match d with
      | ⟨0, _⟩ => rfl
  match k with
  | ⟨0, _⟩ =>
    refine Eq.trans ?_ (hrow a)
    exact concatenate_pair_apply_left (t := S2x102) (s₁ := S1x102) (s₂ := S1x102) (0 : Fin 2) _ _ _ (ix2 (0 : Fin 2) j) rfl (ix2 (0 : Fin 1) j) fun d => by
      match d with
      | ⟨0, _⟩ => rfl
      | ⟨1, _⟩ => rfl
  | ⟨1, _⟩ =>
    refine Eq.trans ?_ (hrow b)
    exact concatenate_pair_apply_right (t := S2x102) (s₁ := S1x102) (s₂ := S1x102) (0 : Fin 2) _ _ _ (ix2 (1 : Fin 2) j) rfl rfl (ix2 (0 : Fin 1) j) (fun d hd => by
      match d with
      | ⟨0, _⟩ => exact absurd rfl hd
      | ⟨1, _⟩ => rfl) rfl

end Cert.MoE

end
-- ==== Proof.HostC.lean ====
/-
  The tables the host lays out for call 1, entry by entry, as counts over the experts of the tokens.
-/
module

public import proofs.«01_k».proof.Proof.HostB

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.ValueIdx (ix1 ix2 ix3)

variable {F : FTy → Type} [FloatOps F]

set_option maxRecDepth 20000

open Idealize.ShloMosaic.ValueIdx (ix0 eq_ix0)

attribute [local irreducible] Host.reduceWindow Host.scatter Host.reduce Host.dynamicSlice broadcastInDim

/-- A number as a word. -/
local notation "wd" => BitVec.ofNat 32

/-! ## The expert of a token, and the gathered array -/

/-- The devices' route indices. -/
abbrev Route := Dev nD → (cc0_stg0_0 : Ref sig .tc).ty.Contents (Elt F)

/-- The expert of token `n`, read from its device's row. -/
def expertNo (E : Route (F := F)) (n : ℕ) : ℕ :=
  ((show IVec S1x256 32 from E (⟨n / 256 % 32, Nat.mod_lt _ (by decide)⟩ : Fin 32)) (ix2 (0 : Fin 1) (⟨n % 256, Nat.mod_lt _ (by decide)⟩ : Fin 256))).toNat

/-- The gathered array: row `k` is device `k`'s. -/
def gatOf (E : Route (F := F)) : IVec S32x256 32 := fun j => (show IVec S1x256 32 from E (j 0)) (ix2 (0 : Fin 1) (j 1))

theorem gatOf_at (E : Route (F := F)) (n : Fin 8192) :
    shapeCast S8192 (gatOf E) shapeCasts_S32x256_S8192 (ix1 n) = wd (expertNo E n.val) := by
  have hn := n.isLt
  rw [Routing.cast21 (a := 32) (b := 256) (gatOf E) shapeCasts_S32x256_S8192 ⟨n.val / 256 % 32, Nat.mod_lt _ (by decide)⟩ ⟨n.val % 256, Nat.mod_lt _ (by decide)⟩ n
    (by show n.val = n.val / 256 % 32 * 256 + n.val % 256; omega)]
  unfold expertNo gatOf
  exact BitVec.eq_of_toNat_eq (by rw [BitVec.toNat_ofNat, Nat.mod_eq_of_lt (BitVec.isLt _)])

/-- Two neighbouring entries of a vector of 64, capped at 102. -/
theorem capT_at (z : IVec S64 32) (i : IVec S_ 32) {a : ℕ} (hi : i ix0 = wd a) (ha : a + 2 ≤ 64) (g : ℕ → ℕ) (hz : ∀ q : Fin 64, z (ix1 q) = wd (g q.val)) (hg : ∀ q, g q < 2 ^ 31)
    (k : Fin 2) :
    minsi (Host.dynamicSlice S2 z (fun k => ((![i] : Fin 1 → IVec S_ 32) k (Shape.Idx.first h_S_)).toInt) sliceFits_S64_S2) (broadcastInDim S2 ![] bcast_S_S2 (constantI S_ 32 102#32)) (ix1 k)
      = wd (min (g (a + k.val)) 102) := by
  have hk := k.isLt
  have hs : S64.Slices ![a] S2 := ⟨rfl, fun b => by
    match b with
    | ⟨0, _⟩ => exact ha⟩
  have hd := Host.dynamicSlice_eq_extractStridedSlice S2 z (fun k => ((![i] : Fin 1 → IVec S_ 32) k (Shape.Idx.first h_S_)).toInt) ![a] sliceFits_S64_S2 hs (fun b => by
    match b with
    | ⟨0, _⟩ =>
      show (i (Shape.Idx.first h_S_)).toInt = (a : ℤ)
      rw [eq_ix0 (Shape.Idx.first h_S_), hi, StableHlo.Predicate.toInt_ofNat_small a (by omega)])
  have hv := (congrFun hd (ix1 k)).trans ((Routing.slice1 a z hs k (show a + k.val < 64 by omega)).trans (hz _))
  show IntOp.minsi (Host.dynamicSlice S2 z _ sliceFits_S64_S2 (ix1 k)) (broadcastInDim S2 ![] bcast_S_S2 (constantI S_ 32 102#32) (ix1 k)) = _
  rw [hv, bc]
  exact min_word _ 102 (hg _) (by decide)

/-! ## The host's arrays before call 1, for one device -/

section
variable (m : (ℓ : Loc nD τ sig) → Buf (Elt F) ℓ) (outs : Outs (F := F)) (c : Dev nD)

theorem lift_v6_4 : V4 m outs c (Proc.devRef .tc main_v6) = V1 m c (Proc.devRef .tc main_v6) := (((V4_of m outs c main_v6 (by decide)).trans (V3_of m outs c main_v6 (by decide))).trans (V2_of m outs c main_v6 (by decide)))

theorem lift_v6_8 : V8 m outs c (Proc.devRef .tc main_v6) = V1 m c (Proc.devRef .tc main_v6) := (((((((V8_of m outs c main_v6 (by decide)).trans (V7_of m outs c main_v6 (by decide))).trans (V6_of m outs c main_v6 (by decide))).trans (V5_of m outs c main_v6 (by decide))).trans (V4_of m outs c main_v6 (by decide))).trans (V3_of m outs c main_v6 (by decide))).trans (V2_of m outs c main_v6 (by decide)))

theorem lift_v6_18 : V18 m outs c (Proc.devRef .tc main_v6) = V1 m c (Proc.devRef .tc main_v6) := (((((((((((((((((V18_of m outs c main_v6 (by decide)).trans (V17_of m outs c main_v6 (by decide))).trans (V16_of m outs c main_v6 (by decide))).trans (V15_of m outs c main_v6 (by decide))).trans (V14_of m outs c main_v6 (by decide))).trans (V13_of m outs c main_v6 (by decide))).trans (V12_of m outs c main_v6 (by decide))).trans (V11_of m outs c main_v6 (by decide))).trans (V10_of m outs c main_v6 (by decide))).trans (V9_of m outs c main_v6 (by decide))).trans (V8_of m outs c main_v6 (by decide))).trans (V7_of m outs c main_v6 (by decide))).trans (V6_of m outs c main_v6 (by decide))).trans (V5_of m outs c main_v6 (by decide))).trans (V4_of m outs c main_v6 (by decide))).trans (V3_of m outs c main_v6 (by decide))).trans (V2_of m outs c main_v6 (by decide)))

theorem lift_v8_4 : V4 m outs c (Proc.devRef .tc main_v8) = V3 m outs c (Proc.devRef .tc main_v8) := (V4_of m outs c main_v8 (by decide))

theorem lift_v8_8 : V8 m outs c (Proc.devRef .tc main_v8) = V3 m outs c (Proc.devRef .tc main_v8) := (((((V8_of m outs c main_v8 (by decide)).trans (V7_of m outs c main_v8 (by decide))).trans (V6_of m outs c main_v8 (by decide))).trans (V5_of m outs c main_v8 (by decide))).trans (V4_of m outs c main_v8 (by decide)))

theorem lift_v8_18 : V18 m outs c (Proc.devRef .tc main_v8) = V3 m outs c (Proc.devRef .tc main_v8) := (((((((((((((((V18_of m outs c main_v8 (by decide)).trans (V17_of m outs c main_v8 (by decide))).trans (V16_of m outs c main_v8 (by decide))).trans (V15_of m outs c main_v8 (by decide))).trans (V14_of m outs c main_v8 (by decide))).trans (V13_of m outs c main_v8 (by decide))).trans (V12_of m outs c main_v8 (by decide))).trans (V11_of m outs c main_v8 (by decide))).trans (V10_of m outs c main_v8 (by decide))).trans (V9_of m outs c main_v8 (by decide))).trans (V8_of m outs c main_v8 (by decide))).trans (V7_of m outs c main_v8 (by decide))).trans (V6_of m outs c main_v8 (by decide))).trans (V5_of m outs c main_v8 (by decide))).trans (V4_of m outs c main_v8 (by decide)))

theorem lift_v15_4 : V4 m outs c (Proc.devRef .tc main_v15) = V3 m outs c (Proc.devRef .tc main_v15) := (V4_of m outs c main_v15 (by decide))

theorem lift_v15_8 : V8 m outs c (Proc.devRef .tc main_v15) = V3 m outs c (Proc.devRef .tc main_v15) := (((((V8_of m outs c main_v15 (by decide)).trans (V7_of m outs c main_v15 (by decide))).trans (V6_of m outs c main_v15 (by decide))).trans (V5_of m outs c main_v15 (by decide))).trans (V4_of m outs c main_v15 (by decide)))

theorem lift_v27_7 : V7 m outs c (Proc.devRef .tc main_v27) = V5 m outs c (Proc.devRef .tc main_v27) := ((V7_of m outs c main_v27 (by decide)).trans (V6_of m outs c main_v27 (by decide)))

theorem lift_v32_8 : V8 m outs c (Proc.devRef .tc main_v32) = V5 m outs c (Proc.devRef .tc main_v32) := (((V8_of m outs c main_v32 (by decide)).trans (V7_of m outs c main_v32 (by decide))).trans (V6_of m outs c main_v32 (by decide)))

theorem lift_v67_13 : V13 m outs c (Proc.devRef .tc main_v67) = V12 m outs c (Proc.devRef .tc main_v67) := (V13_of m outs c main_v67 (by decide))

theorem lift_v68_15 : V15 m outs c (Proc.devRef .tc main_v68) = V14 m outs c (Proc.devRef .tc main_v68) := (V15_of m outs c main_v68 (by decide))

theorem lift_v56_16 : V16 m outs c (Proc.devRef .tc main_v56) = V9 m outs c (Proc.devRef .tc main_v56) := (((((((V16_of m outs c main_v56 (by decide)).trans (V15_of m outs c main_v56 (by decide))).trans (V14_of m outs c main_v56 (by decide))).trans (V13_of m outs c main_v56 (by decide))).trans (V12_of m outs c main_v56 (by decide))).trans (V11_of m outs c main_v56 (by decide))).trans (V10_of m outs c main_v56 (by decide)))

theorem lift_v69_17 : V17 m outs c (Proc.devRef .tc main_v69) = V16 m outs c (Proc.devRef .tc main_v69) := (V17_of m outs c main_v69 (by decide))

theorem lift_v92_23 : V23 m outs c (Proc.devRef .tc main_v92) = V22 m outs c (Proc.devRef .tc main_v92) := (V23_of m outs c main_v92 (by decide))

theorem lift_v93_25 : V25 m outs c (Proc.devRef .tc main_v93) = V24 m outs c (Proc.devRef .tc main_v93) := (V25_of m outs c main_v93 (by decide))

theorem lift_v81_26 : V26 m outs c (Proc.devRef .tc main_v81) = V19 m outs c (Proc.devRef .tc main_v81) := (((((((V26_of m outs c main_v81 (by decide)).trans (V25_of m outs c main_v81 (by decide))).trans (V24_of m outs c main_v81 (by decide))).trans (V23_of m outs c main_v81 (by decide))).trans (V22_of m outs c main_v81 (by decide))).trans (V21_of m outs c main_v81 (by decide))).trans (V20_of m outs c main_v81 (by decide)))

theorem lift_v94_27 : V27 m outs c (Proc.devRef .tc main_v94) = V26 m outs c (Proc.devRef .tc main_v94) := (V27_of m outs c main_v94 (by decide))

theorem lift_v77_28 : V28 m outs c (Proc.devRef .tc main_v77) = V18 m outs c (Proc.devRef .tc main_v77) := ((((((((((V28_of m outs c main_v77 (by decide)).trans (V27_of m outs c main_v77 (by decide))).trans (V26_of m outs c main_v77 (by decide))).trans (V25_of m outs c main_v77 (by decide))).trans (V24_of m outs c main_v77 (by decide))).trans (V23_of m outs c main_v77 (by decide))).trans (V22_of m outs c main_v77 (by decide))).trans (V21_of m outs c main_v77 (by decide))).trans (V20_of m outs c main_v77 (by decide))).trans (V19_of m outs c main_v77 (by decide)))

theorem lift_v105_31 : V31 m outs c (Proc.devRef .tc main_v105) = V29 m outs c (Proc.devRef .tc main_v105) := ((V31_of m outs c main_v105 (by decide)).trans (V30_of m outs c main_v105 (by decide)))

theorem lift_v37_32 : V32 m outs c (Proc.devRef .tc main_v37) = V5 m outs c (Proc.devRef .tc main_v37) := (((((((((((((((((((((((((((V32_of m outs c main_v37 (by decide)).trans (V31_of m outs c main_v37 (by decide))).trans (V30_of m outs c main_v37 (by decide))).trans (V29_of m outs c main_v37 (by decide))).trans (V28_of m outs c main_v37 (by decide))).trans (V27_of m outs c main_v37 (by decide))).trans (V26_of m outs c main_v37 (by decide))).trans (V25_of m outs c main_v37 (by decide))).trans (V24_of m outs c main_v37 (by decide))).trans (V23_of m outs c main_v37 (by decide))).trans (V22_of m outs c main_v37 (by decide))).trans (V21_of m outs c main_v37 (by decide))).trans (V20_of m outs c main_v37 (by decide))).trans (V19_of m outs c main_v37 (by decide))).trans (V18_of m outs c main_v37 (by decide))).trans (V17_of m outs c main_v37 (by decide))).trans (V16_of m outs c main_v37 (by decide))).trans (V15_of m outs c main_v37 (by decide))).trans (V14_of m outs c main_v37 (by decide))).trans (V13_of m outs c main_v37 (by decide))).trans (V12_of m outs c main_v37 (by decide))).trans (V11_of m outs c main_v37 (by decide))).trans (V10_of m outs c main_v37 (by decide))).trans (V9_of m outs c main_v37 (by decide))).trans (V8_of m outs c main_v37 (by decide))).trans (V7_of m outs c main_v37 (by decide))).trans (V6_of m outs c main_v37 (by decide)))

theorem lift_v38_32 : V32 m outs c (Proc.devRef .tc main_v38) = V6 m outs c (Proc.devRef .tc main_v38) := ((((((((((((((((((((((((((V32_of m outs c main_v38 (by decide)).trans (V31_of m outs c main_v38 (by decide))).trans (V30_of m outs c main_v38 (by decide))).trans (V29_of m outs c main_v38 (by decide))).trans (V28_of m outs c main_v38 (by decide))).trans (V27_of m outs c main_v38 (by decide))).trans (V26_of m outs c main_v38 (by decide))).trans (V25_of m outs c main_v38 (by decide))).trans (V24_of m outs c main_v38 (by decide))).trans (V23_of m outs c main_v38 (by decide))).trans (V22_of m outs c main_v38 (by decide))).trans (V21_of m outs c main_v38 (by decide))).trans (V20_of m outs c main_v38 (by decide))).trans (V19_of m outs c main_v38 (by decide))).trans (V18_of m outs c main_v38 (by decide))).trans (V17_of m outs c main_v38 (by decide))).trans (V16_of m outs c main_v38 (by decide))).trans (V15_of m outs c main_v38 (by decide))).trans (V14_of m outs c main_v38 (by decide))).trans (V13_of m outs c main_v38 (by decide))).trans (V12_of m outs c main_v38 (by decide))).trans (V11_of m outs c main_v38 (by decide))).trans (V10_of m outs c main_v38 (by decide))).trans (V9_of m outs c main_v38 (by decide))).trans (V8_of m outs c main_v38 (by decide))).trans (V7_of m outs c main_v38 (by decide)))

theorem lift_v44_32 : V32 m outs c (Proc.devRef .tc main_v44) = V9 m outs c (Proc.devRef .tc main_v44) := (((((((((((((((((((((((V32_of m outs c main_v44 (by decide)).trans (V31_of m outs c main_v44 (by decide))).trans (V30_of m outs c main_v44 (by decide))).trans (V29_of m outs c main_v44 (by decide))).trans (V28_of m outs c main_v44 (by decide))).trans (V27_of m outs c main_v44 (by decide))).trans (V26_of m outs c main_v44 (by decide))).trans (V25_of m outs c main_v44 (by decide))).trans (V24_of m outs c main_v44 (by decide))).trans (V23_of m outs c main_v44 (by decide))).trans (V22_of m outs c main_v44 (by decide))).trans (V21_of m outs c main_v44 (by decide))).trans (V20_of m outs c main_v44 (by decide))).trans (V19_of m outs c main_v44 (by decide))).trans (V18_of m outs c main_v44 (by decide))).trans (V17_of m outs c main_v44 (by decide))).trans (V16_of m outs c main_v44 (by decide))).trans (V15_of m outs c main_v44 (by decide))).trans (V14_of m outs c main_v44 (by decide))).trans (V13_of m outs c main_v44 (by decide))).trans (V12_of m outs c main_v44 (by decide))).trans (V11_of m outs c main_v44 (by decide))).trans (V10_of m outs c main_v44 (by decide)))

theorem lift_v52_32 : V32 m outs c (Proc.devRef .tc main_v52) = V9 m outs c (Proc.devRef .tc main_v52) := (((((((((((((((((((((((V32_of m outs c main_v52 (by decide)).trans (V31_of m outs c main_v52 (by decide))).trans (V30_of m outs c main_v52 (by decide))).trans (V29_of m outs c main_v52 (by decide))).trans (V28_of m outs c main_v52 (by decide))).trans (V27_of m outs c main_v52 (by decide))).trans (V26_of m outs c main_v52 (by decide))).trans (V25_of m outs c main_v52 (by decide))).trans (V24_of m outs c main_v52 (by decide))).trans (V23_of m outs c main_v52 (by decide))).trans (V22_of m outs c main_v52 (by decide))).trans (V21_of m outs c main_v52 (by decide))).trans (V20_of m outs c main_v52 (by decide))).trans (V19_of m outs c main_v52 (by decide))).trans (V18_of m outs c main_v52 (by decide))).trans (V17_of m outs c main_v52 (by decide))).trans (V16_of m outs c main_v52 (by decide))).trans (V15_of m outs c main_v52 (by decide))).trans (V14_of m outs c main_v52 (by decide))).trans (V13_of m outs c main_v52 (by decide))).trans (V12_of m outs c main_v52 (by decide))).trans (V11_of m outs c main_v52 (by decide))).trans (V10_of m outs c main_v52 (by decide)))

theorem lift_v106_32 : V32 m outs c (Proc.devRef .tc main_v106) = V30 m outs c (Proc.devRef .tc main_v106) := ((V32_of m outs c main_v106 (by decide)).trans (V31_of m outs c main_v106 (by decide)))

theorem lift_v1_32 : V32 m outs c (Proc.devRef .tc main_v1) = V1 m c (Proc.devRef .tc main_v1) := (((((((((((((((((((((((((((((((V32_of m outs c main_v1 (by decide)).trans (V31_of m outs c main_v1 (by decide))).trans (V30_of m outs c main_v1 (by decide))).trans (V29_of m outs c main_v1 (by decide))).trans (V28_of m outs c main_v1 (by decide))).trans (V27_of m outs c main_v1 (by decide))).trans (V26_of m outs c main_v1 (by decide))).trans (V25_of m outs c main_v1 (by decide))).trans (V24_of m outs c main_v1 (by decide))).trans (V23_of m outs c main_v1 (by decide))).trans (V22_of m outs c main_v1 (by decide))).trans (V21_of m outs c main_v1 (by decide))).trans (V20_of m outs c main_v1 (by decide))).trans (V19_of m outs c main_v1 (by decide))).trans (V18_of m outs c main_v1 (by decide))).trans (V17_of m outs c main_v1 (by decide))).trans (V16_of m outs c main_v1 (by decide))).trans (V15_of m outs c main_v1 (by decide))).trans (V14_of m outs c main_v1 (by decide))).trans (V13_of m outs c main_v1 (by decide))).trans (V12_of m outs c main_v1 (by decide))).trans (V11_of m outs c main_v1 (by decide))).trans (V10_of m outs c main_v1 (by decide))).trans (V9_of m outs c main_v1 (by decide))).trans (V8_of m outs c main_v1 (by decide))).trans (V7_of m outs c main_v1 (by decide))).trans (V6_of m outs c main_v1 (by decide))).trans (V5_of m outs c main_v1 (by decide))).trans (V4_of m outs c main_v1 (by decide))).trans (V3_of m outs c main_v1 (by decide))).trans (V2_of m outs c main_v1 (by decide)))

theorem lift_arg3_32 : V32 m outs c (Proc.devRef .tc main_arg3) = V0 m c (Proc.devRef .tc main_arg3) := ((((((((((((((((((((((((((((((((V32_of m outs c main_arg3 (by decide)).trans (V31_of m outs c main_arg3 (by decide))).trans (V30_of m outs c main_arg3 (by decide))).trans (V29_of m outs c main_arg3 (by decide))).trans (V28_of m outs c main_arg3 (by decide))).trans (V27_of m outs c main_arg3 (by decide))).trans (V26_of m outs c main_arg3 (by decide))).trans (V25_of m outs c main_arg3 (by decide))).trans (V24_of m outs c main_arg3 (by decide))).trans (V23_of m outs c main_arg3 (by decide))).trans (V22_of m outs c main_arg3 (by decide))).trans (V21_of m outs c main_arg3 (by decide))).trans (V20_of m outs c main_arg3 (by decide))).trans (V19_of m outs c main_arg3 (by decide))).trans (V18_of m outs c main_arg3 (by decide))).trans (V17_of m outs c main_arg3 (by decide))).trans (V16_of m outs c main_arg3 (by decide))).trans (V15_of m outs c main_arg3 (by decide))).trans (V14_of m outs c main_arg3 (by decide))).trans (V13_of m outs c main_arg3 (by decide))).trans (V12_of m outs c main_arg3 (by decide))).trans (V11_of m outs c main_arg3 (by decide))).trans (V10_of m outs c main_arg3 (by decide))).trans (V9_of m outs c main_arg3 (by decide))).trans (V8_of m outs c main_arg3 (by decide))).trans (V7_of m outs c main_arg3 (by decide))).trans (V6_of m outs c main_arg3 (by decide))).trans (V5_of m outs c main_arg3 (by decide))).trans (V4_of m outs c main_arg3 (by decide))).trans (V3_of m outs c main_arg3 (by decide))).trans (V2_of m outs c main_arg3 (by decide))).trans (V1_of m c main_arg3 (by decide)))

theorem at_v6 : (show IVec S_ 32 from V1 m c (Proc.devRef .tc main_v6)) ix0 = wd c.val := by
  refine (congrFun (o0_v6 (V0 m c) c) ix0).trans ?_
  generalize V0 m c = V
  clear V
  revert c
  show ∀ c : Fin 32, IntOp.remui .host (IntOp.divui .host (Dev.word c) 1#32) 32#32 = wd c.val
  decide

variable {E : Route (F := F)} (hv7 : outs 2 main_v7 c = gatOf E) (hlt : ∀ n, expertNo E n < 64)
include hv7

theorem at_v8 (n : Fin 8192) : (show IVec S8192 32 from V3 m outs c (Proc.devRef .tc main_v8)) (ix1 n) = wd (expertNo E n.val) := by
  refine (congrFun (o1_v8 (V2 m outs c)) (ix1 n)).trans ?_
  have h : V2 m outs c (Proc.devRef .tc main_v7) = gatOf E := (Function.update_self _ _ _).trans hv7
  rw [show (show IVec S32x256 32 from V2 m outs c (Proc.devRef .tc main_v7)) = gatOf E from h]
  exact gatOf_at E n

theorem at_v15 : (show IVec S8192x64 32 from V3 m outs c (Proc.devRef .tc main_v15)) = extui 32 (hotT (shapeCast S8192 (gatOf E) shapeCasts_S32x256_S8192)) natLt_1_32 := by
  refine (o1_v15 (V2 m outs c)).trans ?_
  have h : V2 m outs c (Proc.devRef .tc main_v7) = gatOf E := (Function.update_self _ _ _).trans hv7
  rw [show (show IVec S32x256 32 from V2 m outs c (Proc.devRef .tc main_v7)) = gatOf E from h]

theorem at_v16 : (show IVec S8192x64 32 from V4 m outs c (Proc.devRef .tc main_v16)) = hotCumT (extui 32 (hotT (shapeCast S8192 (gatOf E) shapeCasts_S32x256_S8192)) natLt_1_32) :=
  (o1_1_v16 (V3 m outs c)).trans (congrArg hotCumT (at_v15 m outs c hv7))

omit hv7 in
theorem at_first : firstT (V4 m outs c (Proc.devRef .tc main_v6)) ix0 = wd (256 * c.val) := by
  have hc : c.val < 32 := c.isLt
  have h6 : (show IVec S_ 32 from V4 m outs c (Proc.devRef .tc main_v6)) ix0 = wd c.val := (congrFun (lift_v6_4 m outs c) ix0).trans (at_v6 m c)
  refine wrapT_at _ _ ?_ (by omega)
  show (show IVec S_ 32 from V4 m outs c (Proc.devRef .tc main_v6)) ix0 * 256#32 = _
  rw [h6, show (256#32 : BitVec 32) = wd 256 from rfl, ← BitVec.ofNat_mul, Nat.mul_comm]

theorem at_v27 (i : Fin 256) : (show IVec S256 32 from V5 m outs c (Proc.devRef .tc main_v27)) (ix1 i) = wd (expertNo E (256 * c.val + i.val)) := by
  have hc : c.val < 32 := c.isLt
  refine (congrFun (o1_2_v27 (V4 m outs c)) (ix1 i)).trans ?_
  refine (sliceT_at _ _ (at_first m outs c) (by omega) i).trans ?_
  exact (congrFun (lift_v8_4 m outs c) _).trans (at_v8 m outs c hv7 _)

include hlt

theorem at_rank (n : Fin 8192) : rankT (V4 m outs c (Proc.devRef .tc main_v15)) (V4 m outs c (Proc.devRef .tc main_v16)) (ix1 n) = wd (rankOf (expertNo E) n.val) := by
  refine (congrFun (congrArg₂ rankT ((lift_v15_4 m outs c).trans (at_v15 m outs c hv7)) (at_v16 m outs c hv7)) (ix1 n)).trans ?_
  exact rankT_at _ (expertNo E) (gatOf_at E) (fun n => hlt _) n

theorem at_v32 (i : Fin 256) : (show IVec S256 32 from V5 m outs c (Proc.devRef .tc main_v32)) (ix1 i) = wd (rankOf (expertNo E) (256 * c.val + i.val)) := by
  have hc : c.val < 32 := c.isLt
  refine (congrFun (o1_2_v32 (V4 m outs c)) (ix1 i)).trans ?_
  exact (sliceT_at _ _ (at_first m outs c) (by omega) i).trans (at_rank m outs c hv7 hlt _)

omit hv7 hlt in
theorem rank_le (x : ℕ → ℕ) (n : ℕ) : rankOf x n ≤ n := before_le _ _ _

theorem at_v37 (i : Fin 256) : (show IVec S256 32 from V5 m outs c (Proc.devRef .tc main_v37)) (ix1 i) = wd (if rankOf (expertNo E) (256 * c.val + i.val) < 102 then 1 else 0) := by
  have hc : c.val < 32 := c.isLt
  have hi := i.isLt
  refine (congrFun (o1_2_v37 (V4 m outs c)) (ix1 i)).trans ?_
  refine (sliceT_at _ _ (at_first m outs c) (by omega) i).trans ?_
  refine ext1 _ (rankOf (expertNo E) (256 * c.val + i.val) < 102) ?_
  show IntOp.cmpi .slt (rankT (V4 m outs c (Proc.devRef .tc main_v15)) (V4 m outs c (Proc.devRef .tc main_v16)) (ix1 _)) (broadcastInDim S8192 ![] bcast_S_S8192 (constantI S_ 32 102#32) (ix1 _)) = _
  have hr := rank_le (expertNo E) (256 * c.val + i.val)
  rw [at_rank m outs c hv7 hlt, bc]
  exact slt_word _ 102 (by show rankOf (expertNo E) (256 * c.val + i.val) < _; omega) (by decide)

theorem at_v38 (i : Fin 256) : (show IVec S256 32 from V6 m outs c (Proc.devRef .tc main_v38)) (ix1 i) = wd (expertNo E (256 * c.val + i.val) / 2) := by
  have h := hlt (256 * c.val + i.val)
  refine (congrFun (o1_3_v38 (V5 m outs c)) (ix1 i)).trans ?_
  exact fdivT_at _ _ _ _ (at_v27 m outs c hv7 i) (by omega) (congrFun (o1_2_c (V4 m outs c)) ix0) (by decide) (by decide)

theorem at_v39 (i : Fin 256) : (show IVec S256 32 from V8 m outs c (Proc.devRef .tc main_v39)) (ix1 i) = wd (expertNo E (256 * c.val + i.val) % 2) := by
  have h := hlt (256 * c.val + i.val)
  refine (congrFun (o1_5_v39 (V7 m outs c)) (ix1 i)).trans ?_
  exact remT_at _ _ _ _ ((congrFun (lift_v27_7 m outs c) (ix1 i)).trans (at_v27 m outs c hv7 i)) (by omega) (congrFun (o1_4_c (V6 m outs c)) ix0) (by decide) (by decide)

theorem at_v44 (i : Fin 256) : (show IVec S256 32 from V9 m outs c (Proc.devRef .tc main_v44)) (ix1 i)
    = wd (expertNo E (256 * c.val + i.val) % 2 * 102 + min (rankOf (expertNo E) (256 * c.val + i.val)) 101) := by
  have hc : c.val < 32 := c.isLt
  have hi := i.isLt
  have hr := rank_le (expertNo E) (256 * c.val + i.val)
  refine (congrFun (o1_6_v44 (V8 m outs c)) (ix1 i)).trans ?_
  show (show IVec S256 32 from V8 m outs c (Proc.devRef .tc main_v39)) (ix1 i) * broadcastInDim S256 ![] bcast_S_S256 (constantI S_ 32 102#32) (ix1 i)
    + IntOp.minsi ((show IVec S256 32 from V8 m outs c (Proc.devRef .tc main_v32)) (ix1 i)) (broadcastInDim S256 ![] bcast_S_S256 (constantI S_ 32 101#32) (ix1 i)) = _
  rw [at_v39 m outs c hv7 hlt, bc, bc, show (show IVec S256 32 from V8 m outs c (Proc.devRef .tc main_v32)) (ix1 i) = wd (rankOf (expertNo E) (256 * c.val + i.val)) from (congrFun (lift_v32_8 m outs c) (ix1 i)).trans (at_v32 m outs c hv7 hlt i)]
  show wd _ * wd 102 + IntOp.minsi (wd _) (wd 101) = _
  rw [min_word _ _ (by omega) (by decide), ← BitVec.ofNat_mul, ← BitVec.ofNat_add]

theorem at_v52 (k : Fin 2) : (show IVec S2 32 from V9 m outs c (Proc.devRef .tc main_v52)) (ix1 k) = wd (min (before (expertNo E) (2 * c.val + k.val) 8192) 102) := by
  have hc : c.val < 32 := c.isLt
  have hk := k.isLt
  refine (congrFun (o1_6_v52 (V8 m outs c)) (ix1 k)).trans ?_
  have h6 : (show IVec S_ 32 from V8 m outs c (Proc.devRef .tc main_v6)) ix0 = wd c.val := (congrFun (lift_v6_8 m outs c) ix0).trans (at_v6 m c)
  have hw : wrapT (muli (V8 m outs c (Proc.devRef .tc main_v6)) (constantI S_ 32 2#32)) 64#32 ix0 = wd (2 * c.val) := by
    refine wrapT_at _ _ ?_ (by omega)
    show (show IVec S_ 32 from V8 m outs c (Proc.devRef .tc main_v6)) ix0 * 2#32 = _
    rw [h6, show (2#32 : BitVec 32) = wd 2 from rfl, ← BitVec.ofNat_mul, Nat.mul_comm]
  refine capT_at _ _ hw (by omega) (fun q => before (expertNo E) q 8192) (fun q => ?_) (fun q => lt_of_le_of_lt (before_le _ _ _) (by decide)) k
  refine (congrFun (congrArg (fun y : IVec S8192x64 32 => Host.reduce IntOp.addi y (constantI S_ 32 0#32) reducesTo_S8192x64_S64_d0 h_S_) ((lift_v15_8 m outs c).trans (at_v15 m outs c hv7))) (ix1 q)).trans ?_
  exact countT_at _ (expertNo E) (gatOf_at E) (fun n => hlt _) q

theorem at_v56 (n : Fin 8192) : (show IVec S8192 1 from V9 m outs c (Proc.devRef .tc main_v56)) (ix1 n) = BitVec.ofBool (decide (expertNo E n.val = 2 * c.val + 0)) := by
  have hc : c.val < 32 := c.isLt
  have h := hlt n.val
  refine (congrFun (o1_6_v56 (V8 m outs c)) (ix1 n)).trans ?_
  show IntOp.cmpi .eq ((show IVec S8192 32 from V8 m outs c (Proc.devRef .tc main_v8)) (ix1 n))
    (broadcastInDim S8192 ![] bcast_S_S8192 (addi (muli (V8 m outs c (Proc.devRef .tc main_v6)) (constantI S_ 32 2#32)) (constantI S_ 32 0#32)) (ix1 n)) = _
  rw [bc, show (show IVec S8192 32 from V8 m outs c (Proc.devRef .tc main_v8)) (ix1 n) = wd (expertNo E n.val) from (congrFun (lift_v8_8 m outs c) (ix1 n)).trans (at_v8 m outs c hv7 n)]
  show IntOp.cmpi .eq (wd (expertNo E n.val)) ((show IVec S_ 32 from V8 m outs c (Proc.devRef .tc main_v6)) ix0 * wd 2 + wd 0) = _
  rw [show (show IVec S_ 32 from V8 m outs c (Proc.devRef .tc main_v6)) ix0 = wd c.val from (congrFun (lift_v6_8 m outs c) ix0).trans (at_v6 m c), ← BitVec.ofNat_mul, ← BitVec.ofNat_add, Nat.mul_comm]
  exact eq_word _ _ (by omega) (by omega)

theorem at_v57 (n : Fin 8192) : (show IVec S8192 32 from V10 m outs c (Proc.devRef .tc main_v57)) (ix1 n) = wd (before (expertNo E) (2 * c.val + 0) (n.val + 1)) :=
  (congrFun (o1_7_v57 (V9 m outs c)) (ix1 n)).trans (cumT_at _ (fun i => expertNo E i = 2 * c.val + 0) (at_v56 m outs c hv7 hlt) n)

theorem at_v66 (j : Fin 102) : (show IVec S102 32 from V11 m outs c (Proc.devRef .tc main_v66)) (ix1 j)
    = wd (Nat.count (fun n => before (expertNo E) (2 * c.val + 0) (n + 1) = j.val) 8192) :=
  (congrFun (o1_8_v66 (V10 m outs c)) (ix1 j)).trans (histT_at _ (fun n => before (expertNo E) (2 * c.val + 0) (n + 1)) (at_v57 m outs c hv7 hlt)
    (fun n => by have := before_le (expertNo E) (2 * c.val + 0) (n.val + 1); have := n.isLt; show before _ _ (n.val + 1) < _; omega) j)

theorem at_v67 (j : Fin 102) : (show IVec S102 32 from V12 m outs c (Proc.devRef .tc main_v67)) (ix1 j) = wd (tokenOf (expertNo E) (2 * c.val + 0) j.val) :=
  (congrFun (o1_9_v67 (V11 m outs c)) (ix1 j)).trans (tokT_at _ (fun n => before (expertNo E) (2 * c.val + 0) (n + 1)) (at_v66 m outs c hv7 hlt) j)

omit hv7 hlt in
theorem tok_le_0 (j : ℕ) : tokenOf (expertNo E) (2 * c.val + 0) j ≤ 8192 := Nat.count_le _

theorem at_v68 (j : Fin 102) : (show IVec S102 32 from V14 m outs c (Proc.devRef .tc main_v68)) (ix1 j) = wd (tokenOf (expertNo E) (2 * c.val + 0) j.val) := by
  have ht := tok_le_0 (E := E) c j.val
  refine (congrFun (o1_11_v68 (V13 m outs c)) (ix1 j)).trans ?_
  refine (fdivT_at _ _ _ _ ((congrFun (lift_v67_13 m outs c) (ix1 j)).trans (at_v67 m outs c hv7 hlt j)) (by omega) (congrFun (o1_10_c (V12 m outs c)) ix0) (by decide) (by decide)).trans ?_
  rw [Nat.div_one]

theorem at_v69 (j : Fin 102) : (show IVec S102 32 from V16 m outs c (Proc.devRef .tc main_v69)) (ix1 j) = wd (tokenOf (expertNo E) (2 * c.val + 0) j.val % 8192) := by
  have ht := tok_le_0 (E := E) c j.val
  refine (congrFun (o1_13_v69 (V15 m outs c)) (ix1 j)).trans ?_
  exact remT_at _ _ _ _ ((congrFun (lift_v68_15 m outs c) (ix1 j)).trans (at_v68 m outs c hv7 hlt j)) (by omega) (congrFun (o1_12_c (V14 m outs c)) ix0) (by decide) (by decide)

theorem at_v75 (j : Fin 102) : (show IVec S102 1 from V17 m outs c (Proc.devRef .tc main_v75)) (ix1 j) = BitVec.ofBool (decide (before (expertNo E) (2 * c.val + 0) 8192 ≤ j.val)) :=
  (congrFun (o1_14_v75 (V16 m outs c)) (ix1 j)).trans (pastT_at _ (fun i => expertNo E i = 2 * c.val + 0)
    (fun n => (congrFun (lift_v56_16 m outs c) (ix1 n)).trans (at_v56 m outs c hv7 hlt n)) j)

theorem at_v77 (j : Fin 102) (hj : j.val < before (expertNo E) (2 * c.val + 0) 8192) :
    (show IVec S102 32 from V18 m outs c (Proc.devRef .tc main_v77)) (ix1 j) = wd (tokenOf (expertNo E) (2 * c.val + 0) j.val) := by
  have ht := (tokenOf_spec _ _ _ hj).1
  refine (congrFun (o1_15_v77 (V17 m outs c)) (ix1 j)).trans ?_
  show (if (show IVec S102 1 from V17 m outs c (Proc.devRef .tc main_v75)) (ix1 j) = 1 then _ else (show IVec S102 32 from V17 m outs c (Proc.devRef .tc main_v69)) (ix1 j)) = _
  rw [at_v75 m outs c hv7 hlt, decide_eq_false (by omega), if_neg (by decide), show (show IVec S102 32 from V17 m outs c (Proc.devRef .tc main_v69)) (ix1 j) = wd (tokenOf (expertNo E) (2 * c.val + 0) j.val % 8192) from (congrFun (lift_v69_17 m outs c) (ix1 j)).trans (at_v69 m outs c hv7 hlt j), Nat.mod_eq_of_lt ht]

theorem at_v81 (n : Fin 8192) : (show IVec S8192 1 from V19 m outs c (Proc.devRef .tc main_v81)) (ix1 n) = BitVec.ofBool (decide (expertNo E n.val = 2 * c.val + 1)) := by
  have hc : c.val < 32 := c.isLt
  have h := hlt n.val
  refine (congrFun (o1_16_v81 (V18 m outs c)) (ix1 n)).trans ?_
  show IntOp.cmpi .eq ((show IVec S8192 32 from V18 m outs c (Proc.devRef .tc main_v8)) (ix1 n))
    (broadcastInDim S8192 ![] bcast_S_S8192 (addi (muli (V18 m outs c (Proc.devRef .tc main_v6)) (constantI S_ 32 2#32)) (constantI S_ 32 1#32)) (ix1 n)) = _
  rw [bc, show (show IVec S8192 32 from V18 m outs c (Proc.devRef .tc main_v8)) (ix1 n) = wd (expertNo E n.val) from (congrFun (lift_v8_18 m outs c) (ix1 n)).trans (at_v8 m outs c hv7 n)]
  show IntOp.cmpi .eq (wd (expertNo E n.val)) ((show IVec S_ 32 from V18 m outs c (Proc.devRef .tc main_v6)) ix0 * wd 2 + wd 1) = _
  rw [show (show IVec S_ 32 from V18 m outs c (Proc.devRef .tc main_v6)) ix0 = wd c.val from (congrFun (lift_v6_18 m outs c) ix0).trans (at_v6 m c), ← BitVec.ofNat_mul, ← BitVec.ofNat_add, Nat.mul_comm]
  exact eq_word _ _ (by omega) (by omega)

theorem at_v82 (n : Fin 8192) : (show IVec S8192 32 from V20 m outs c (Proc.devRef .tc main_v82)) (ix1 n) = wd (before (expertNo E) (2 * c.val + 1) (n.val + 1)) :=
  (congrFun (o1_17_v82 (V19 m outs c)) (ix1 n)).trans (cumT_at _ (fun i => expertNo E i = 2 * c.val + 1) (at_v81 m outs c hv7 hlt) n)

theorem at_v91 (j : Fin 102) : (show IVec S102 32 from V21 m outs c (Proc.devRef .tc main_v91)) (ix1 j)
    = wd (Nat.count (fun n => before (expertNo E) (2 * c.val + 1) (n + 1) = j.val) 8192) :=
  (congrFun (o1_18_v91 (V20 m outs c)) (ix1 j)).trans (histT_at _ (fun n => before (expertNo E) (2 * c.val + 1) (n + 1)) (at_v82 m outs c hv7 hlt)
    (fun n => by have := before_le (expertNo E) (2 * c.val + 1) (n.val + 1); have := n.isLt; show before _ _ (n.val + 1) < _; omega) j)

theorem at_v92 (j : Fin 102) : (show IVec S102 32 from V22 m outs c (Proc.devRef .tc main_v92)) (ix1 j) = wd (tokenOf (expertNo E) (2 * c.val + 1) j.val) :=
  (congrFun (o1_19_v92 (V21 m outs c)) (ix1 j)).trans (tokT_at _ (fun n => before (expertNo E) (2 * c.val + 1) (n + 1)) (at_v91 m outs c hv7 hlt) j)

omit hv7 hlt in
theorem tok_le_1 (j : ℕ) : tokenOf (expertNo E) (2 * c.val + 1) j ≤ 8192 := Nat.count_le _

theorem at_v93 (j : Fin 102) : (show IVec S102 32 from V24 m outs c (Proc.devRef .tc main_v93)) (ix1 j) = wd (tokenOf (expertNo E) (2 * c.val + 1) j.val) := by
  have ht := tok_le_1 (E := E) c j.val
  refine (congrFun (o1_21_v93 (V23 m outs c)) (ix1 j)).trans ?_
  refine (fdivT_at _ _ _ _ ((congrFun (lift_v92_23 m outs c) (ix1 j)).trans (at_v92 m outs c hv7 hlt j)) (by omega) (congrFun (o1_20_c (V22 m outs c)) ix0) (by decide) (by decide)).trans ?_
  rw [Nat.div_one]

theorem at_v94 (j : Fin 102) : (show IVec S102 32 from V26 m outs c (Proc.devRef .tc main_v94)) (ix1 j) = wd (tokenOf (expertNo E) (2 * c.val + 1) j.val % 8192) := by
  have ht := tok_le_1 (E := E) c j.val
  refine (congrFun (o1_23_v94 (V25 m outs c)) (ix1 j)).trans ?_
  exact remT_at _ _ _ _ ((congrFun (lift_v93_25 m outs c) (ix1 j)).trans (at_v93 m outs c hv7 hlt j)) (by omega) (congrFun (o1_22_c (V24 m outs c)) ix0) (by decide) (by decide)

theorem at_v100 (j : Fin 102) : (show IVec S102 1 from V27 m outs c (Proc.devRef .tc main_v100)) (ix1 j) = BitVec.ofBool (decide (before (expertNo E) (2 * c.val + 1) 8192 ≤ j.val)) :=
  (congrFun (o1_24_v100 (V26 m outs c)) (ix1 j)).trans (pastT_at _ (fun i => expertNo E i = 2 * c.val + 1)
    (fun n => (congrFun (lift_v81_26 m outs c) (ix1 n)).trans (at_v81 m outs c hv7 hlt n)) j)

theorem at_v102 (j : Fin 102) (hj : j.val < before (expertNo E) (2 * c.val + 1) 8192) :
    (show IVec S102 32 from V28 m outs c (Proc.devRef .tc main_v102)) (ix1 j) = wd (tokenOf (expertNo E) (2 * c.val + 1) j.val) := by
  have ht := (tokenOf_spec _ _ _ hj).1
  refine (congrFun (o1_25_v102 (V27 m outs c)) (ix1 j)).trans ?_
  show (if (show IVec S102 1 from V27 m outs c (Proc.devRef .tc main_v100)) (ix1 j) = 1 then _ else (show IVec S102 32 from V27 m outs c (Proc.devRef .tc main_v94)) (ix1 j)) = _
  rw [at_v100 m outs c hv7 hlt, decide_eq_false (by omega), if_neg (by decide), show (show IVec S102 32 from V27 m outs c (Proc.devRef .tc main_v94)) (ix1 j) = wd (tokenOf (expertNo E) (2 * c.val + 1) j.val % 8192) from (congrFun (lift_v94_27 m outs c) (ix1 j)).trans (at_v94 m outs c hv7 hlt j), Nat.mod_eq_of_lt ht]

theorem at_v105 (k : Fin 2) (j : Fin 102) (hj : j.val < before (expertNo E) (2 * c.val + k.val) 8192) :
    (show IVec S2x102 32 from V29 m outs c (Proc.devRef .tc main_v105)) (ix2 k j) = wd (tokenOf (expertNo E) (2 * c.val + k.val) j.val) := by
  refine (congrFun (o1_26_v105 (V28 m outs c)) (ix2 k j)).trans ((rows_at _ _ k j).trans ?_)
  match k with
  | ⟨0, _⟩ => exact (congrFun (lift_v77_28 m outs c) (ix1 j)).trans (at_v77 m outs c hv7 hlt j hj)
  | ⟨1, _⟩ => exact at_v102 m outs c hv7 hlt j hj

theorem at_v106 (k : Fin 2) (j : Fin 102) (hj : j.val < before (expertNo E) (2 * c.val + k.val) 8192) :
    (show IVec S2x102 32 from V30 m outs c (Proc.devRef .tc main_v106)) (ix2 k j) = wd (tokenOf (expertNo E) (2 * c.val + k.val) j.val / 256) := by
  have ht := (tokenOf_spec _ _ _ hj).1
  refine (congrFun (o1_27_v106 (V29 m outs c)) (ix2 k j)).trans ?_
  exact fdivT_at _ _ _ _ (at_v105 m outs c hv7 hlt k j hj) (by omega) (congrFun (o1_26_c (V28 m outs c)) ix0) (by decide) (by decide)

theorem at_v107 (k : Fin 2) (j : Fin 102) (hj : j.val < before (expertNo E) (2 * c.val + k.val) 8192) :
    (show IVec S2x102 32 from V32 m outs c (Proc.devRef .tc main_v107)) (ix2 k j) = wd (tokenOf (expertNo E) (2 * c.val + k.val) j.val % 256) := by
  have ht := (tokenOf_spec _ _ _ hj).1
  refine (congrFun (o1_29_v107 (V31 m outs c)) (ix2 k j)).trans ?_
  exact remT_at _ _ _ _ ((congrFun (lift_v105_31 m outs c) (ix2 k j)).trans (at_v105 m outs c hv7 hlt k j hj)) (by omega) (congrFun (o1_28_c (V30 m outs c)) ix0) (by decide) (by decide)
end

end Cert.MoE

end
-- ==== Proof.HostD.lean ====
/-
  The routing that the tokens' experts fix, the tables that hold it, and the run set up from a launch memory.
-/
module

public import proofs.«01_k».proof.Proof.LaunchH
public import proofs.«01_k».proof.Proof.HostC

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

set_option maxRecDepth 20000

open Idealize.ShloMosaic.ValueIdx (ix0 eq_ix0)

/-- A number as a word. -/
local notation "wd" => BitVec.ofNat 32

/-! ## The routing -/

section
variable (x : ℕ → ℕ) (hlt : ∀ n, x n < 64)

/-- The token of device `c`'s row `i`. -/
abbrev num (c : Dev nD) (i : Fin 256) : ℕ := 256 * c.val + i.val

/-- The expert of a device's slot. -/
abbrev expertOf (d : Dev nD) (s : Fin 204) : ℕ := 2 * d.val + s.val / 102

/-- The token in a device's slot. -/
abbrev inSlot (d : Dev nD) (s : Fin 204) : ℕ := tokenOf x (expertOf d s) (s.val % 102)

theorem num_lt (c : Dev nD) (i : Fin 256) : num c i < 8192 := by
  have hc : c.val < 32 := c.isLt
  have := i.isLt
  show 256 * c.val + i.val < 8192
  omega

theorem to_lt {n : ℕ} (h : n < 64) : n / 2 < 32 := by omega

def sdOf (d : Dev nD) (s : Fin 204) : Dev nD := (⟨inSlot x d s / 256 % 32, Nat.mod_lt _ (by decide)⟩ : Fin 32)
def srOf (d : Dev nD) (s : Fin 204) : Fin 256 := ⟨inSlot x d s % 256, Nat.mod_lt _ (by decide)⟩
def dstOf (c : Dev nD) (i : Fin 256) : Dev nD := (⟨x (num c i) / 2, to_lt (hlt _)⟩ : Fin 32)
def slotOf (c : Dev nD) (i : Fin 256) : Fin 204 := ⟨x (num c i) % 2 * 102 + min (rankOf x (num c i)) 101, by omega⟩

theorem num_in (d : Dev nD) (s : Fin 204) (h : s.val % 102 < before x (expertOf d s) 8192) : num (sdOf x d s) (srOf x d s) = inSlot x d s := by
  have ht := (tokenOf_spec x _ _ h).1
  show 256 * (inSlot x d s / 256 % 32) + inSlot x d s % 256 = inSlot x d s
  have ht' : inSlot x d s < 8192 := ht
  omega

/-- Which token goes where: to the expert its word names, into the slot of its rank, if that rank is below 102. -/
def routing : Routing where
  kept c i := decide (rankOf x (num c i) < 102)
  fill d s := decide (s.val % 102 < before x (expertOf d s) 8192)
  dst := dstOf x hlt
  slot := slotOf x
  sd := sdOf x
  sr := srOf x
  there c i h := by
    have hr : rankOf x (num c i) < 102 := of_decide_eq_true h
    have hn := num_lt c i
    have hq := rankOf_lt (x := x) hn
    have h1 : (slotOf x c i).val / 102 = x (num c i) % 2 := by
      show (x (num c i) % 2 * 102 + min (rankOf x (num c i)) 101) / 102 = _; omega
    have h2 : (slotOf x c i).val % 102 = rankOf x (num c i) := by
      show (x (num c i) % 2 * 102 + min (rankOf x (num c i)) 101) % 102 = _; omega
    have h3 : expertOf (dstOf x hlt c i) (slotOf x c i) = x (num c i) := by
      show 2 * (x (num c i) / 2) + (slotOf x c i).val / 102 = _; rw [h1]; omega
    have h4 : inSlot x (dstOf x hlt c i) (slotOf x c i) = num c i := by
      unfold inSlot; rw [h3, h2]; exact tokenOf_rankOf x hn
    have hc : c.val < 32 := c.isLt
    have hi := i.isLt
    refine ⟨decide_eq_true (by rw [h3, h2]; exact hq), Fin.ext ?_, Fin.ext ?_⟩
    · show inSlot x (dstOf x hlt c i) (slotOf x c i) / 256 % 32 = c.val
      rw [h4]; show (256 * c.val + i.val) / 256 % 32 = c.val; omega
    · show inSlot x (dstOf x hlt c i) (slotOf x c i) % 256 = i.val
      rw [h4]; show (256 * c.val + i.val) % 256 = i.val; omega
  back d s h := by
    have hf : s.val % 102 < before x (expertOf d s) 8192 := of_decide_eq_true h
    have hm := num_in x d s hf
    have hx : x (inSlot x d s) = expertOf d s := (tokenOf_spec x _ _ hf).2.1
    have hr : rankOf x (inSlot x d s) = s.val % 102 := rankOf_tokenOf x _ _ hf
    have hs := s.isLt
    refine ⟨decide_eq_true (by rw [hm, hr]; omega), Fin.ext ?_, Fin.ext ?_⟩
    · show x (num (sdOf x d s) (srOf x d s)) / 2 = d.val
      rw [hm, hx]; show (2 * d.val + s.val / 102) / 2 = d.val; omega
    · show x (num (sdOf x d s) (srOf x d s)) % 2 * 102 + min (rankOf x (num (sdOf x d s) (srOf x d s))) 101 = s.val
      rw [hm, hx, hr]; show (2 * d.val + s.val / 102) % 2 * 102 + min (s.val % 102) 101 = s.val; omega

theorem slot_e (k : Fin 2) (j : Fin 102) : (e k j).val / 102 = k.val ∧ (e k j).val % 102 = j.val := by
  have := k.isLt
  have := j.isLt
  constructor
  · show (102 * k.val + j.val) / 102 = k.val; omega
  · show (102 * k.val + j.val) % 102 = j.val; omega

theorem inSlot_e (d : Dev nD) (k : Fin 2) (j : Fin 102) : inSlot x d (e k j) = tokenOf x (2 * d.val + k.val) j.val := by
  unfold inSlot expertOf; rw [(slot_e k j).1, (slot_e k j).2]
end

/-! ## The tables -/

/-- What the host's arrays hold before call 1, at a valuation of each device. -/
structure Laid (E : Route (F := F)) (W : Dev nD → Valuation τ sig (Elt F)) : Prop where
  keep : ∀ (c : Dev nD) (i : Fin 256), (show IVec S256 32 from W c (Proc.devRef .tc main_v37)) (ix1 i) = wd (if rankOf (expertNo E) (num c i) < 102 then 1 else 0)
  dst : ∀ (c : Dev nD) (i : Fin 256), (show IVec S256 32 from W c (Proc.devRef .tc main_v38)) (ix1 i) = wd (expertNo E (num c i) / 2)
  slot : ∀ (c : Dev nD) (i : Fin 256), (show IVec S256 32 from W c (Proc.devRef .tc main_v44)) (ix1 i)
    = wd (expertNo E (num c i) % 2 * 102 + min (rankOf (expertNo E) (num c i)) 101)
  n : ∀ (c : Dev nD) (k : Fin 2), (show IVec S2 32 from W c (Proc.devRef .tc main_v52)) (ix1 k) = wd (min (before (expertNo E) (2 * c.val + k.val) 8192) 102)
  td : ∀ (c : Dev nD) (k : Fin 2) (j : Fin 102), j.val < before (expertNo E) (2 * c.val + k.val) 8192 →
    (show IVec S2x102 32 from W c (Proc.devRef .tc main_v106)) (ix2 k j) = wd (tokenOf (expertNo E) (2 * c.val + k.val) j.val / 256)
  tr : ∀ (c : Dev nD) (k : Fin 2) (j : Fin 102), j.val < before (expertNo E) (2 * c.val + k.val) 8192 →
    (show IVec S2x102 32 from W c (Proc.devRef .tc main_v107)) (ix2 k j) = wd (tokenOf (expertNo E) (2 * c.val + k.val) j.val % 256)

section
variable {E : Route (F := F)} (hlt : ∀ n, expertNo E n < 64) {W : Dev nD → Valuation τ sig (Elt F)} (H : Laid E W)

/-- The tables the host gives device `c`. -/
def tabsOf (c : Dev nD) : Tabs (F := F) (routing (expertNo E) hlt) c where
  keep := W c (Proc.devRef .tc main_v37)
  dst := W c (Proc.devRef .tc main_v38)
  slot := W c (Proc.devRef .tc main_v44)
  n := W c (Proc.devRef .tc main_v52)
  td := W c (Proc.devRef .tc main_v106)
  tr := W c (Proc.devRef .tc main_v107)
  cnt k := min (before (expertNo E) (2 * c.val + k.val) 8192) 102
  hcnt k := Nat.min_le_right _ _
  hkeep i := by
    show ((show IVec S256 32 from W c (Proc.devRef .tc main_v37)) (ix1 i) ≠ 0#32) = (decide (rankOf (expertNo E) (num c i) < 102) = true)
    rw [H.keep c i]
    by_cases hr : rankOf (expertNo E) (num c i) < 102
    · rw [if_pos hr, decide_eq_true hr]; exact propext ⟨fun _ => rfl, fun _ => by decide⟩
    · rw [if_neg hr, decide_eq_false hr]; exact propext ⟨fun h => absurd rfl h, fun h => by cases h⟩
  hdst i _ := H.dst c i
  hslot i _ := H.slot c i
  hn k := H.n c k
  hfill k j := by
    have hj := j.isLt
    show (decide ((e k j).val % 102 < before (expertNo E) (2 * c.val + (e k j).val / 102) 8192) = true) = _
    rw [(slot_e k j).1, (slot_e k j).2, decide_eq_true_iff]
    exact propext ⟨fun h => by omega, fun h => by omega⟩
  htd k j hj := by
    have hb : j.val < before (expertNo E) (2 * c.val + k.val) 8192 := by omega
    have ht := (tokenOf_spec _ _ _ hb).1
    refine (H.td c k j hb).trans (congrArg (BitVec.ofNat 32) ?_)
    show _ = inSlot (expertNo E) c (e k j) / 256 % 32
    rw [inSlot_e]; omega
  htr k j hj := by
    have hb : j.val < before (expertNo E) (2 * c.val + k.val) 8192 := by omega
    refine (H.tr c k j hb).trans (congrArg (BitVec.ofNat 32) ?_)
    show _ = inSlot (expertNo E) c (e k j) % 256
    rw [inSlot_e]

/-! ## The set-up of a run -/

variable {X : Dev nD → (cc1_stg6_0 : Ref sig .tc).ty.Contents (Elt F)} {Q : Dev nD → Ew (F := F)}

/-- The plan of a run: what `ok` asks of the row a kept token gets back is left open. -/
def planOf (X : Dev nD → (cc1_stg6_0 : Ref sig .tc).ty.Contents (Elt F)) (ok : Dev nD → Fin 256 → (Fin 256 → Elt F .f32) → Prop) : Plan F :=
  ⟨E, X, routing (expertNo E) hlt, ok⟩

/-- The set-up of a run. -/
def setupOf (ok : Dev nD → Fin 256 → (Fin 256 → Elt F .f32) → Prop) (fin : Dev nD → Out (F := F)) (loose : Bool)
    (Va : Dev nD → Valuation τ sig (Elt F)) (hE : ∀ c, Va c (Proc.devRef .tc main_v2) = E c) (hX : ∀ c, W c (Proc.devRef .tc main_v1) = X c)
    (hQ : ∀ c, W c (Proc.devRef .tc main_arg3) = Q c) (good : ∀ c, Good (planOf hlt X ok) (tabsOf hlt H c) (Q c))
    (only : loose = false → ∀ c f, (∀ i, Final (planOf hlt X ok) c i f) → f = fin c) : Setup F where
  Va := Va
  Vb := W
  P := planOf hlt X ok
  T := tabsOf hlt H
  ew := Q
  fin := fin
  loose := loose
  hE := hE
  hkeep _ := rfl
  hdst _ := rfl
  hslot _ := rfl
  hn _ := rfl
  htd _ := rfl
  htr _ := rfl
  hX := hX
  hew := hQ
  good := good
  only := only

end

variable (m : (ℓ : Loc nD τ sig) → Buf (Elt F) ℓ)

/-- The devices' route indices, as call 0 reads them. -/
def routeOf : Route (F := F) := fun c => V1 m c (Proc.devRef .tc main_v2)

/-- The tokens, as call 1 reads them. -/
def tokensOf : Dev nD → (cc1_stg6_0 : Ref sig .tc).ty.Contents (Elt F) := fun c => V1 m c (Proc.devRef .tc main_v1)

/-- The weights, as call 1 reads them. -/
def weightsOf : Dev nD → Ew (F := F) := fun c => V0 m c (Proc.devRef .tc main_arg3)

/-- Each buffer as launched, but for the gathered array. -/
def outsOf : Outs (F := F) := fun _ r c => Function.update (fun b => m (c, b)) (Proc.devRef .tc main_v7) (gatOf (routeOf m)) (Proc.devRef .tc r)

theorem outsOf_v7 (c : Dev nD) : outsOf m 2 main_v7 c = gatOf (routeOf m) := Function.update_self _ _ _

theorem laid (hlt : ∀ n, expertNo (routeOf m) n < 64) : Laid (routeOf m) (V32 m (outsOf m)) where
  keep c i := (congrFun (lift_v37_32 m (outsOf m) c) (ix1 i)).trans (at_v37 m (outsOf m) c (outsOf_v7 m c) hlt i)
  dst c i := (congrFun (lift_v38_32 m (outsOf m) c) (ix1 i)).trans (at_v38 m (outsOf m) c (outsOf_v7 m c) hlt i)
  slot c i := (congrFun (lift_v44_32 m (outsOf m) c) (ix1 i)).trans (at_v44 m (outsOf m) c (outsOf_v7 m c) hlt i)
  n c k := (congrFun (lift_v52_32 m (outsOf m) c) (ix1 k)).trans (at_v52 m (outsOf m) c (outsOf_v7 m c) hlt k)
  td c k j hj := (congrFun (lift_v106_32 m (outsOf m) c) (ix2 k j)).trans (at_v106 m (outsOf m) c (outsOf_v7 m c) hlt k j hj)
  tr c k j hj := at_v107 m (outsOf m) c (outsOf_v7 m c) hlt k j hj

variable [∀ e, Nonempty (Elt F e)]

/-- A run that ends with each device's result free. -/
theorem run_loose (hlt : ∀ n, expertNo (routeOf m) n < 64) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => (h.1 c).2, h.2⟩)
    (run_main (Z := setupOf hlt (laid m hlt) (X := tokensOf m) (Q := weightsOf m) (fun _ _ _ => True) (fun _ => Classical.choice inferInstance) true
        (V1 m) (fun _ => by unfold routeOf; rfl) (lift_v1_32 m (outsOf m)) (lift_arg3_32 m (outsOf m)) (fun _ _ _ _ _ _ => trivial) (fun h => by cases h))
      (m := m) (outs := outsOf m) (fun _ => rfl) (fun _ => rfl) (outsOf_v7 m) ρ)

end Cert.MoE

end
-- ==== Proof.HostE.lean ====
/-
  What the precondition says of the tokens' experts.
-/
module

public import proofs.«01_k».proof.Proof.HostD
public import proofs.«01_k».proof.Proof.Gen.Pre_in_range_Kernel

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2 ix3)
open Idealize.ShloMosaic.Transfers (shareTok shareDrop)

variable {F : FTy → Type} [FloatOps F]

set_option maxRecDepth 20000

/-- A word that is signed at least zero and below 64 is below 64. -/
theorem word_range (w : BitVec 32) (h : IntOp.andi (IntOp.cmpi .sge w 0#32) (IntOp.cmpi .slt w 64#32) = 1#1) : w.toNat < 64 := by
  have h' : BitVec.ofBool ((0#32).sle w) &&& BitVec.ofBool (w.slt 64#32) = 1#1 := h
  have h1 : (0#32).sle w = true := by
    cases hb : (0#32).sle w
    · rw [hb] at h'; exact absurd h' (by cases w.slt 64#32 <;> decide)
    · rfl
  have h2 : w.slt 64#32 = true := by
    cases hb : w.slt 64#32
    · rw [hb] at h'; exact absurd h' (by cases (0#32).sle w <;> decide)
    · rfl
  rw [BitVec.sle, decide_eq_true_iff] at h1
  rw [BitVec.slt, decide_eq_true_iff] at h2
  rw [show (0#32 : BitVec 32).toInt = 0 from rfl] at h1
  rw [show (64#32 : BitVec 32).toInt = 64 from rfl] at h2
  rw [BitVec.toInt_eq_toNat_cond] at h1 h2
  split at h1 <;> omega

variable (m : (ℓ : Loc nD τ sig) → Buf (Elt F) ℓ)

/-- The word of row `i` of device `c`, as call 0 reads it. -/
theorem route_at (c : Dev nD) (i : Fin 256) :
    (show IVec S1x256 32 from routeOf m c) (ix2 (0 : Fin 1) i) = (show IVec S256x1 32 from m ((c : Thread nD τ).loc main_arg2)) (ix2 i (0 : Fin 1)) := by
  unfold routeOf
  refine (congrFun (o0_v2 (V0 m c) c) (ix2 (0 : Fin 1) i)).trans ?_
  refine shapeCast_apply _ _ _ (ix2 i (0 : Fin 1)) ?_
  rw [Shape.rowMajor_val_two, Shape.rowMajor_val_two]
  show i.val * 1 + 0 = 0 * 256 + i.val
  omega

/-- Where every device's route indices pass the check, every token's expert is one of the 64. -/
theorem range_of (h : ∀ c : Dev nD, Cert.Pre_in_range_Kernel.fn (F := F) (m ((c : Thread nD τ).loc main_arg0)) (m ((c : Thread nD τ).loc main_arg1))
    (m ((c : Thread nD τ).loc main_arg2)) (m ((c : Thread nD τ).loc main_arg3)) = fun _ => 1#1) (n : ℕ) : expertNo (routeOf m) n < 64 := by
  unfold expertNo
  rw [route_at]
  exact word_range _ (congrFun (h _) (ix2 _ (0 : Fin 1)))

end Cert.MoE

end
-- ==== Proof.SameA.lean ====
/-
  The two printings of the kernel have the same pipelines, over any floats.
-/
module

public import proofs.«01_k».proof.Defs
public import proofs.«01_k».proof.Proof.Gen.Kernel
public import proofs.«01_k».proof.Proof.Gen.KernelIdeal

@[expose] public section

noncomputable section

namespace Cert.MoE

open Idealize.ShloMosaic Idealize.SL.Sem

variable {F : FTy → Type} [FloatOps F]

set_option maxHeartbeats 4000000 in
theorem same_pcfgs : Cert.Kernel.pcfgs (F := F) = Cert.KernelIdeal.pcfgs (F := F) := rfl

end Cert.MoE

end
-- ==== Proof.SameB.lean ====
/-
  The two printings of the kernel have the same bodies, over any floats.
-/
module

public import proofs.«01_k».proof.Defs
public import proofs.«01_k».proof.Proof.Gen.Kernel
public import proofs.«01_k».proof.Proof.Gen.KernelIdeal

@[expose] public section

noncomputable section

namespace Cert.MoE

open Idealize.ShloMosaic Idealize.SL.Sem

variable {F : FTy → Type} [FloatOps F]

set_option maxHeartbeats 4000000 in
/-- The gather of the route indices, -/
theorem same_zero (a) : (Cert.Kernel.defs₀ (F := F)) .tc (0 : Fin 2) a = (Cert.KernelIdeal.defs₀ (F := F)) .tc (0 : Fin 2) a := by
  obtain ⟨t, s⟩ := a
  exact rfl

set_option maxHeartbeats 4000000 in
/-- the dispatch, -/
theorem same_one (a) : (Cert.Kernel.defs₀ (F := F)) .tc (1 : Fin 2) a = (Cert.KernelIdeal.defs₀ (F := F)) .tc (1 : Fin 2) a := by
  obtain ⟨t, s⟩ := a
  exact rfl

/-- and no others. -/
theorem same_bodies : Cert.Kernel.defs₀ (F := F) = Cert.KernelIdeal.defs₀ (F := F) := by
  funext p ℓ a
  match p with
  | .tc =>
    match ℓ, a with
    | (0 : Fin 2), a => exact same_zero a
    | (1 : Fin 2), a => exact same_one a
  | .scScalar _ => rfl
  | .scVector _ _ => rfl

end Cert.MoE

end
-- ==== Proof.SameC.lean ====
/-
  The two printings of the kernel have the same host operations, over any floats.
-/
module

public import proofs.«01_k».proof.Defs
public import proofs.«01_k».proof.Proof.Gen.Kernel.Launch
public import proofs.«01_k».proof.Proof.Gen.KernelIdeal.Launch

@[expose] public section

noncomputable section

namespace Cert.MoE

open Idealize.ShloMosaic Idealize.SL.Sem

variable {F : FTy → Type} [FloatOps F]

set_option maxHeartbeats 1000000

theorem same_hostOps0 : (Cert.Kernel.Gen.hostOps0 (F := F)) = Cert.KernelIdeal.Gen.hostOps0 (F := F) := rfl

theorem same_hostOps1 : (Cert.Kernel.Gen.hostOps1 (F := F)) = Cert.KernelIdeal.Gen.hostOps1 (F := F) := rfl

theorem same_hostOps1_1 : (Cert.Kernel.Gen.hostOps1_1 (F := F)) = Cert.KernelIdeal.Gen.hostOps1_1 (F := F) := rfl

theorem same_hostOps1_2 : (Cert.Kernel.Gen.hostOps1_2 (F := F)) = Cert.KernelIdeal.Gen.hostOps1_2 (F := F) := rfl

theorem same_hostOps1_3 : (Cert.Kernel.Gen.hostOps1_3 (F := F)) = Cert.KernelIdeal.Gen.hostOps1_3 (F := F) := rfl

theorem same_hostOps1_4 : (Cert.Kernel.Gen.hostOps1_4 (F := F)) = Cert.KernelIdeal.Gen.hostOps1_4 (F := F) := rfl

theorem same_hostOps1_5 : (Cert.Kernel.Gen.hostOps1_5 (F := F)) = Cert.KernelIdeal.Gen.hostOps1_5 (F := F) := rfl

theorem same_hostOps1_6 : (Cert.Kernel.Gen.hostOps1_6 (F := F)) = Cert.KernelIdeal.Gen.hostOps1_6 (F := F) := rfl

theorem same_hostOps1_7 : (Cert.Kernel.Gen.hostOps1_7 (F := F)) = Cert.KernelIdeal.Gen.hostOps1_7 (F := F) := rfl

theorem same_hostOps1_8 : (Cert.Kernel.Gen.hostOps1_8 (F := F)) = Cert.KernelIdeal.Gen.hostOps1_8 (F := F) := rfl

theorem same_hostOps1_9 : (Cert.Kernel.Gen.hostOps1_9 (F := F)) = Cert.KernelIdeal.Gen.hostOps1_9 (F := F) := rfl

theorem same_hostOps1_10 : (Cert.Kernel.Gen.hostOps1_10 (F := F)) = Cert.KernelIdeal.Gen.hostOps1_10 (F := F) := rfl

theorem same_hostOps1_11 : (Cert.Kernel.Gen.hostOps1_11 (F := F)) = Cert.KernelIdeal.Gen.hostOps1_11 (F := F) := rfl

theorem same_hostOps1_12 : (Cert.Kernel.Gen.hostOps1_12 (F := F)) = Cert.KernelIdeal.Gen.hostOps1_12 (F := F) := rfl

theorem same_hostOps1_13 : (Cert.Kernel.Gen.hostOps1_13 (F := F)) = Cert.KernelIdeal.Gen.hostOps1_13 (F := F) := rfl

theorem same_hostOps1_14 : (Cert.Kernel.Gen.hostOps1_14 (F := F)) = Cert.KernelIdeal.Gen.hostOps1_14 (F := F) := rfl

theorem same_hostOps1_15 : (Cert.Kernel.Gen.hostOps1_15 (F := F)) = Cert.KernelIdeal.Gen.hostOps1_15 (F := F) := rfl

theorem same_hostOps1_16 : (Cert.Kernel.Gen.hostOps1_16 (F := F)) = Cert.KernelIdeal.Gen.hostOps1_16 (F := F) := rfl

theorem same_hostOps1_17 : (Cert.Kernel.Gen.hostOps1_17 (F := F)) = Cert.KernelIdeal.Gen.hostOps1_17 (F := F) := rfl

theorem same_hostOps1_18 : (Cert.Kernel.Gen.hostOps1_18 (F := F)) = Cert.KernelIdeal.Gen.hostOps1_18 (F := F) := rfl

theorem same_hostOps1_19 : (Cert.Kernel.Gen.hostOps1_19 (F := F)) = Cert.KernelIdeal.Gen.hostOps1_19 (F := F) := rfl

theorem same_hostOps1_20 : (Cert.Kernel.Gen.hostOps1_20 (F := F)) = Cert.KernelIdeal.Gen.hostOps1_20 (F := F) := rfl

theorem same_hostOps1_21 : (Cert.Kernel.Gen.hostOps1_21 (F := F)) = Cert.KernelIdeal.Gen.hostOps1_21 (F := F) := rfl

theorem same_hostOps1_22 : (Cert.Kernel.Gen.hostOps1_22 (F := F)) = Cert.KernelIdeal.Gen.hostOps1_22 (F := F) := rfl

theorem same_hostOps1_23 : (Cert.Kernel.Gen.hostOps1_23 (F := F)) = Cert.KernelIdeal.Gen.hostOps1_23 (F := F) := rfl

theorem same_hostOps1_24 : (Cert.Kernel.Gen.hostOps1_24 (F := F)) = Cert.KernelIdeal.Gen.hostOps1_24 (F := F) := rfl

theorem same_hostOps1_25 : (Cert.Kernel.Gen.hostOps1_25 (F := F)) = Cert.KernelIdeal.Gen.hostOps1_25 (F := F) := rfl

theorem same_hostOps1_26 : (Cert.Kernel.Gen.hostOps1_26 (F := F)) = Cert.KernelIdeal.Gen.hostOps1_26 (F := F) := rfl

theorem same_hostOps1_27 : (Cert.Kernel.Gen.hostOps1_27 (F := F)) = Cert.KernelIdeal.Gen.hostOps1_27 (F := F) := rfl

theorem same_hostOps1_28 : (Cert.Kernel.Gen.hostOps1_28 (F := F)) = Cert.KernelIdeal.Gen.hostOps1_28 (F := F) := rfl

theorem same_hostOps1_29 : (Cert.Kernel.Gen.hostOps1_29 (F := F)) = Cert.KernelIdeal.Gen.hostOps1_29 (F := F) := rfl

theorem same_hostOps2 : (Cert.Kernel.Gen.hostOps2 (F := F)) = Cert.KernelIdeal.Gen.hostOps2 (F := F) := rfl

end Cert.MoE

end
-- ==== Proof.SameD.lean ====
/-
  A run of one printing of the kernel is a run of the other.
-/
module

public import proofs.«01_k».proof.Proof.SameA
public import proofs.«01_k».proof.Proof.SameB
public import proofs.«01_k».proof.Proof.SameC

@[expose] public section

noncomputable section

namespace Cert.MoE

open Idealize.ShloMosaic Idealize.SL.Sem

section
variable {nD : ℕ} {τ : Topo} {sig : RefSig} {Val : EltTy → Type} {Λ₀ : Labels}

/-- Host operations, call 0, host operations, call 1, host operations. -/
def twoCalls (pc : Fin 2 → Pipeline.PCfg sig Λ₀ Val) (o₀ : Dev nD → List (HloOp τ sig Val)) (os : List (List (HloOp τ sig Val))) (o₂ : List (HloOp τ sig Val)) :
    Dev nD → Prog (TpuEff nD τ sig Val (Pipeline.Sig Λ₀ (Fin 2) fun p => (pc p).Adm) .tc) PUnit := fun c =>
  Pipeline.chain (StableHlo.seq (o₀ c) :: Prog.lift (.customCall (Pipeline.entry 0) ()) :: (os.map StableHlo.seq ++ [Prog.lift (.customCall (Pipeline.entry 1) ()), StableHlo.seq o₂]))

/-- Equal parts make equal runs. -/
theorem carry {pc pc' : Fin 2 → Pipeline.PCfg sig Λ₀ Val} {b b' : Defs nD τ sig Val Λ₀} {o₀ o₀' : Dev nD → List (HloOp τ sig Val)} {os os' : List (List (HloOp τ sig Val))}
    {o₂ o₂' : List (HloOp τ sig Val)} (hpc : pc = pc') (hb : b = b') (h₀ : o₀ = o₀') (hs : os = os') (h₂ : o₂ = o₂') {σ Q}
    (h : θ_run (Pipeline.defs pc' b') (onTc (twoCalls pc' o₀' os' o₂')) σ Q) : θ_run (Pipeline.defs pc b) (onTc (twoCalls pc o₀ os o₂)) σ Q := by
  subst hpc hb h₀ hs h₂
  exact h
end

variable {F : FTy → Type} [FloatOps F]

/-- The stretches between the calls, as the one printing has them, -/
def betweenK : List (List (HloOp Cert.Kernel.τ Cert.Kernel.sig (Elt F))) :=
  [Cert.Kernel.Gen.hostOps1, Cert.Kernel.Gen.hostOps1_1, Cert.Kernel.Gen.hostOps1_2, Cert.Kernel.Gen.hostOps1_3, Cert.Kernel.Gen.hostOps1_4, Cert.Kernel.Gen.hostOps1_5, Cert.Kernel.Gen.hostOps1_6, Cert.Kernel.Gen.hostOps1_7, Cert.Kernel.Gen.hostOps1_8, Cert.Kernel.Gen.hostOps1_9, Cert.Kernel.Gen.hostOps1_10, Cert.Kernel.Gen.hostOps1_11, Cert.Kernel.Gen.hostOps1_12, Cert.Kernel.Gen.hostOps1_13, Cert.Kernel.Gen.hostOps1_14, Cert.Kernel.Gen.hostOps1_15, Cert.Kernel.Gen.hostOps1_16, Cert.Kernel.Gen.hostOps1_17, Cert.Kernel.Gen.hostOps1_18, Cert.Kernel.Gen.hostOps1_19, Cert.Kernel.Gen.hostOps1_20, Cert.Kernel.Gen.hostOps1_21, Cert.Kernel.Gen.hostOps1_22, Cert.Kernel.Gen.hostOps1_23, Cert.Kernel.Gen.hostOps1_24, Cert.Kernel.Gen.hostOps1_25, Cert.Kernel.Gen.hostOps1_26, Cert.Kernel.Gen.hostOps1_27, Cert.Kernel.Gen.hostOps1_28, Cert.Kernel.Gen.hostOps1_29]

/-- and as the other. -/
def betweenI : List (List (HloOp Cert.KernelIdeal.τ Cert.KernelIdeal.sig (Elt F))) :=
  [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29]

theorem kernel_two : Cert.Kernel.main (F := F) = twoCalls Cert.Kernel.pcfgs Cert.Kernel.Gen.hostOps0 betweenK Cert.Kernel.Gen.hostOps2 :=
  funext fun c => Cert.Kernel.Gen.main_chain c

theorem ideal_two : Cert.KernelIdeal.main (F := F) = twoCalls Cert.KernelIdeal.pcfgs Cert.KernelIdeal.Gen.hostOps0 betweenI Cert.KernelIdeal.Gen.hostOps2 :=
  funext fun c => Cert.KernelIdeal.Gen.main_chain c

theorem cons_same {α : Type*} {a b : α} {l k : List α} (h : a = b) (t : l = k) : a :: l = b :: k := by subst h t; rfl

set_option maxHeartbeats 4000000 in
/-- They agree. -/
theorem same_between : betweenK (F := F) = betweenI (F := F) := by
  unfold betweenK betweenI
  refine cons_same same_hostOps1 ?_
  refine cons_same same_hostOps1_1 ?_
  refine cons_same same_hostOps1_2 ?_
  refine cons_same same_hostOps1_3 ?_
  refine cons_same same_hostOps1_4 ?_
  refine cons_same same_hostOps1_5 ?_
  refine cons_same same_hostOps1_6 ?_
  refine cons_same same_hostOps1_7 ?_
  refine cons_same same_hostOps1_8 ?_
  refine cons_same same_hostOps1_9 ?_
  refine cons_same same_hostOps1_10 ?_
  refine cons_same same_hostOps1_11 ?_
  refine cons_same same_hostOps1_12 ?_
  refine cons_same same_hostOps1_13 ?_
  refine cons_same same_hostOps1_14 ?_
  refine cons_same same_hostOps1_15 ?_
  refine cons_same same_hostOps1_16 ?_
  refine cons_same same_hostOps1_17 ?_
  refine cons_same same_hostOps1_18 ?_
  refine cons_same same_hostOps1_19 ?_
  refine cons_same same_hostOps1_20 ?_
  refine cons_same same_hostOps1_21 ?_
  refine cons_same same_hostOps1_22 ?_
  refine cons_same same_hostOps1_23 ?_
  refine cons_same same_hostOps1_24 ?_
  refine cons_same same_hostOps1_25 ?_
  refine cons_same same_hostOps1_26 ?_
  refine cons_same same_hostOps1_27 ?_
  refine cons_same same_hostOps1_28 ?_
  refine cons_same same_hostOps1_29 ?_
  rfl

set_option maxHeartbeats 4000000 in
/-- A run of the one is a run of the other. -/
theorem run_same {σ Q} (h : θ_run (Cert.KernelIdeal.defs (F := F)) (onTc (τ := Cert.KernelIdeal.τ) Cert.KernelIdeal.main) σ Q) :
    θ_run (Cert.Kernel.defs (F := F)) (onTc (τ := Cert.Kernel.τ) Cert.Kernel.main) σ Q := by
  rw [ideal_two] at h
  rw [kernel_two]
  exact carry same_pcfgs same_bodies same_hostOps0 same_between same_hostOps2 h

end Cert.MoE

end
-- ==== Proof.ValueA.lean ====
/-
  What call 1 computes over the reals: a filled slot's result row is the slot's token times the expert's weights.
-/
module

public import proofs.«01_k».proof.Proof.HostD
public import Idealize.ShloMosaic.Lib.MatmulPlain

@[expose] public section

set_option maxRecDepth 20000

noncomputable section

namespace Cert.MoE

open Cert.KernelIdeal Cert.KernelIdeal.Gen

open Idealize.ShloMosaic

open Idealize.ShloMosaic.ValueIdx (ix1 ix2 ix3)

/-- The 0/1 mask of the first `n` rows is one at a row below `n`. -/
theorem mask_one {n : ℕ} (hn : n ≤ 102) (j : Fin 102) (hj : j.val < n) :
    (truncf .bf16 (sitofp (F := Ideal) .f32 (extui 32 (cmpi .slt (iota .tc S102x1 32 [0] iota_S102x1_d0_w32) (broadcast S102x1 (BitVec.ofNat 32 n))) natLt_1_32)) bitsLt_bf16_f32
      : FVec Ideal S102x1 .bf16) (ix2 j 0) = (1 : EReal) := by
  have hb : IntOp.cmpi .slt (BitVec.ofNat 32 j.val) (BitVec.ofNat 32 n) = 1#1 := by
    show BitVec.ofBool ((BitVec.ofNat 32 j.val).slt (BitVec.ofNat 32 n)) = 1#1
    have h : (BitVec.ofNat 32 j.val).slt (BitVec.ofNat 32 n) = true := by
      rw [BitVec.slt, StableHlo.Predicate.toInt_ofNat_small j.val (by omega), StableHlo.Predicate.toInt_ofNat_small n (by omega)]
      exact decide_eq_true (by omega)
    rw [h]; rfl
  have hi : iota .tc S102x1 32 [0] iota_S102x1_d0_w32 (ix2 j 0) = BitVec.ofNat 32 j.val := by
    show BitVec.ofNat 32 (0 * 102 + j.val) = _
    rw [Nat.zero_mul, Nat.zero_add]
  show ((((IntOp.cmpi .slt (iota .tc S102x1 32 [0] iota_S102x1_d0_w32 (ix2 j 0)) (BitVec.ofNat 32 n)).setWidth 32).toInt : ℝ) : EReal) = 1
  rw [hi, hb]
  have h1 : ((1#1).setWidth 32 : BitVec 32).toInt = 1 := by decide
  rw [h1]; norm_num

/-- A filled slot's result row: the token in it times the weights. -/
theorem pay4_row {n : ℕ} (hn : n ≤ 102) (g : Vec Ideal S102x1x128 .bf16) (w : Vec Ideal S1x128x256 .bf16) (j : Fin 102) (hj : j.val < n) (q : Fin 256) :
    k1_pay4 (F := Ideal) (BitVec.ofNat 32 n) g w (ix3 j 0 q) = ∑ d : Fin 128, (g (ix3 j 0 d) * w (ix3 0 d q) : EReal) := by
  unfold k1_pay4
  dsimp only
  refine (shapeCast_apply _ shapeCasts_S102x256_S102x1x256 (ix3 j 0 q) (ix2 j q) ?_).trans ?_
  · rw [Shape.rowMajor_val_two, Shape.rowMajor_val_three]
    show j.val * 256 + q.val = (j.val * 1 + 0) * 256 + q.val
    omega
  refine (Ideal.matmul_plain_apply (M := 102) (K := 128) (N := 256) none _ _ _ j q).trans ?_
  have h0 : (constant S102x256 .f32 0x00000000#32 : FVec Ideal S102x256 .f32) (ix2 j q) = (0 : EReal) := Ideal.ofBits_zero_f32
  rw [h0, zero_add]
  refine Finset.sum_congr rfl fun d _ => ?_
  have e1 : shapeCast S102x128 g shapeCasts_S102x1x128_S102x128 (ix2 j d) = g (ix3 j 0 d) := by
    refine shapeCast_apply _ _ _ _ ?_
    rw [Shape.rowMajor_val_two, Shape.rowMajor_val_three]
    show (j.val * 1 + 0) * 128 + d.val = j.val * 128 + d.val
    omega
  have e2 : shapeCast S128x256 w shapeCasts_S1x128x256_S128x256 (ix2 d q) = w (ix3 0 d q) := by
    refine shapeCast_apply _ _ _ _ ?_
    rw [Shape.rowMajor_val_two, Shape.rowMajor_val_three]
    show (0 * 128 + d.val) * 256 + q.val = d.val * 256 + q.val
    omega
  rw [e2]
  refine congrArg (· * w (ix3 0 d q)) ?_
  show (shapeCast S102x128 g shapeCasts_S102x1x128_S102x128 (ix2 j d) * broadcastTo S102x128 _ broadcasts_S102x1_S102x128 (ix2 j d) : EReal) = _
  rw [e1, broadcastTo_apply _ broadcasts_S102x1_S102x128 (ix2 j d) (ix2 j 0) (fun a => by
    match a with
    | ⟨0, _⟩ => rfl
    | ⟨1, _⟩ => rfl), mask_one hn j hj, mul_one]

end Cert.MoE

end
-- ==== Proof.ValueB.lean ====
/-
  The kernel's result over the reals, entry by entry.
-/
module

public import proofs.«01_k».proof.Proof.ValueA
public import proofs.«01_k».proof.Proof.HostE

@[expose] public section

set_option maxRecDepth 20000

noncomputable section

namespace Cert.MoE

open Cert.KernelIdeal Cert.KernelIdeal.Gen

open Idealize.ShloMosaic
open Idealize.ShloMosaic.TcCoe
open Idealize.SL.Sem

open Idealize.ShloMosaic.ValueIdx (ix1 ix2 ix3)

section
variable (E : Route (F := Ideal)) (hlt : ∀ n, expertNo E n < 64) (X : Dev nD → (cc1_stg6_0 : Ref sig .tc).ty.Contents (Elt Ideal)) (Q : Dev nD → Ew (F := Ideal))

/-- The row of a token that is kept: the token times its expert's weights, which the expert's device holds. -/
def rowVal (c : Dev nD) (i q : Fin 256) : EReal :=
  ∑ d : Fin 128, ((show EReal from X c (ix3 i 0 d)) * (show EReal from Q (dstOf (expertNo E) hlt c i) (ix3 (⟨expertNo E (num c i) % 2, Nat.mod_lt _ (by decide)⟩ : Fin 2) d q)) : EReal)

/-- A row is the one wanted. -/
def okVal (c : Dev nD) (i : Fin 256) (row : Fin 256 → Elt Ideal .f32) : Prop := ∀ q, row q = rowVal E hlt X Q c i q

/-- A device's result. -/
def finVal (c : Dev nD) : Out (F := Ideal) := fun j => if rankOf (expertNo E) (num c (j 0)) < 102 then rowVal E hlt X Q c (j 0) (j 2) else (0 : EReal)

variable {W : Dev nD → Valuation τ sig (Elt Ideal)} (H : Laid E W)

/-- The products give the wanted rows. -/
theorem good_val (c : Dev nD) : Good (planOf hlt X (okVal E hlt X Q)) (tabsOf hlt H c) (Q c) := by
  intro g hg k j hf q
  have hj : j.val < (tabsOf hlt H c).cnt k := ((tabsOf hlt H c).hfill k j).mp hf
  refine (pay4_row ((tabsOf hlt H c).hcnt k) (half k g) (ewk k (Q c)) j hj q).trans ?_
  have hb := (routing (expertNo E) hlt).back c (e k j) hf
  have hs : (e k j).val % 102 < before (expertNo E) (expertOf c (e k j)) 8192 := of_decide_eq_true hf
  have hm := num_in (expertNo E) c (e k j) hs
  have hx : expertNo E (inSlot (expertNo E) c (e k j)) = expertOf c (e k j) := (tokenOf_spec (expertNo E) _ _ hs).2.1
  have hk : (⟨expertNo E (num (sdOf (expertNo E) c (e k j)) (srOf (expertNo E) c (e k j))) % 2, Nat.mod_lt _ (by decide)⟩ : Fin 2) = k := by
    refine Fin.ext ?_
    show expertNo E (num (sdOf (expertNo E) c (e k j)) (srOf (expertNo E) c (e k j))) % 2 = k.val
    rw [hm, hx]
    show (2 * c.val + (e k j).val / 102) % 2 = k.val
    rw [(slot_e k j).1]
    have := k.isLt
    omega
  have hd : dstOf (expertNo E) hlt (sdOf (expertNo E) c (e k j)) (srOf (expertNo E) c (e k j)) = c := hb.2.1
  show _ = rowVal E hlt X Q (sdOf (expertNo E) c (e k j)) (srOf (expertNo E) c (e k j)) q
  unfold rowVal
  rw [hd, hk]
  refine Finset.sum_congr rfl fun d _ => ?_
  have hrow : g (ix3 (e k j) 0 d) = X (sdOf (expertNo E) c (e k j)) (ix3 (srOf (expertNo E) c (e k j)) 0 d) := hg (e k j) hf (ix3 (e k j) 0 d) (mem_rowOf.mpr rfl)
  show (show EReal from g (ix3 (e k j) 0 d)) * _ = _
  rw [hrow]
  rfl

/-- The rows wanted make one result. -/
theorem only_val (c : Dev nD) (f : Out (F := Ideal)) (h : ∀ i, Final (planOf hlt X (okVal E hlt X Q)) c i f) : f = finVal E hlt X Q c := by
  funext j
  have hj : j = ix3 (j 0) 0 (j 2) := by
    funext a
    match a with
    | ⟨0, _⟩ => rfl
    | ⟨1, _⟩ => exact Subsingleton.elim (α := Fin 1) _ _
    | ⟨2, _⟩ => rfl
  obtain ⟨h1, h2⟩ := h (j 0)
  unfold finVal
  by_cases hr : rankOf (expertNo E) (num c (j 0)) < 102
  · refine Eq.trans ?_ (if_pos hr).symm
    exact (congrArg f hj).trans (h1 (decide_eq_true hr) (j 2))
  · refine Eq.trans ?_ (if_neg hr).symm
    refine (h2 (fun e => hr (of_decide_eq_true e)) j (mem_rowOf.mpr rfl)).trans ?_
    exact Ideal.ofBits_zero_f32

end

variable (m : (ℓ : Loc nD τ sig) → Buf (Elt Ideal) ℓ)

/-- The last host operation drops the middle axis. -/
theorem end_v109 (V : Valuation τ sig (Elt Ideal)) : StableHlo.after hostOps2 V (Proc.devRef .tc main_v109)
    = shapeCast S256x256 (show S256x1x256.Idx → Elt Ideal .f32 from V (Proc.devRef .tc main_v108)) shapeCasts_S256x1x256_S256x256 := by
  after_results_simp
  rfl

/-- A run that ends with each device's result known. -/
theorem run_exact (hlt : ∀ n, expertNo (routeOf m) n < 64) (ρ : Dev nD → PrngReg) :
    θ_run defs (onTc (τ := τ) (main (F := Ideal))) ⟨m, fun _ => 0, ρ⟩ (fun r => ∀ c : Dev nD,
      (∀ i q : Fin 256, (show EReal from r.2.mem ((c : Thread nD τ).loc main_v109) (ix2 i q)) = finVal (routeOf m) hlt (tokensOf m) (weightsOf m) c (ix3 i 0 q))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) := by
  refine (θ_run defs _ _).mono (fun r h c => ⟨fun i q => ?_, (h.1 c).2⟩)
    (run_main (Z := setupOf hlt (laid m hlt) (X := tokensOf m) (Q := weightsOf m) (okVal (routeOf m) hlt (tokensOf m) (weightsOf m)) (finVal (routeOf m) hlt (tokensOf m) (weightsOf m)) false
        (V1 m) (fun _ => by unfold routeOf; rfl) (lift_v1_32 m (outsOf m)) (lift_arg3_32 m (outsOf m)) (good_val (routeOf m) hlt (tokensOf m) (weightsOf m) (laid m hlt))
        (fun _ => only_val (routeOf m) hlt (tokensOf m) (weightsOf m)))
      (m := m) (outs := outsOf m) (fun _ => rfl) (fun _ => rfl) (outsOf_v7 m) ρ)
  obtain ⟨f, hf, hm⟩ := (h.1 c).1
  have hf' := hf rfl
  refine (congrFun hm (ix2 i q)).trans ?_
  refine (congrFun (end_v109 _) (ix2 i q)).trans ?_
  rw [Vbf_self, hf']
  refine shapeCast_apply _ _ (ix2 i q) (ix3 i 0 q) ?_
  rw [Shape.rowMajor_val_two, Shape.rowMajor_val_three]
  show (i.val * 1 + 0) * 256 + q.val = i.val * 256 + q.val
  omega

end Cert.MoE

end
-- ==== Proof.ValueR.lean ====
/-
  What the reference computes over the reals, entry by entry.
-/
module

public import proofs.«01_k».proof.Proof.Gen.ReferenceIdeal
public import proofs.«01_k».proof.Proof.Gen.ReferenceIdeal.Run
public import proofs.«01_k».proof.Proof.HostMath
public import Idealize.ShloMosaic.Lib.Routing.OpsOne
public import Idealize.ShloMosaic.Lib.Routing.Words
public import Idealize.ShloMosaic.Lib.ValueIdx
public import Idealize.ShloMosaic.Lib.StableHlo.Predicate
public import Idealize.ShloMosaic.PureOps.Ideal.Laws

@[expose] public section

set_option maxRecDepth 20000

noncomputable section

namespace Cert.MoE.Ref

open Cert.ReferenceIdeal Cert.ReferenceIdeal.Gen

open Idealize.ShloMosaic

open Idealize.ShloMosaic.ValueIdx (ix0 ix1 ix2 ix3 contrEquiv1 contrEquiv1_symm_val)

attribute [local irreducible] Host.reduce broadcastInDim

/-- The expert of token `n`. -/
def expertAt (A2 : IVec S8192x1 32) (n : ℕ) : ℕ := (A2 (ix2 (⟨n % 8192, Nat.mod_lt _ (by decide)⟩ : Fin 8192) (0 : Fin 1))).toNat

theorem open_select {s : Shape} {α : Type} (c : IVec s 1) (a b : s.Idx → α) (i : s.Idx) : select c a b i = if c i = 1 then a i else b i := rfl

theorem count_below (p : ℕ → Prop) [DecidablePred p] (t N : ℕ) (h : t ≤ N) : Nat.count (fun i => p i ∧ i < t) N = Nat.count p t := by
  rw [Nat.count_eq_card_filter_range, Nat.count_eq_card_filter_range]
  congr 1
  ext i
  simp only [Finset.mem_filter, Finset.mem_range]
  constructor
  · rintro ⟨_, h2, h3⟩; exact ⟨h3, h2⟩
  · rintro ⟨h1, h2⟩; exact ⟨by omega, h2, h1⟩

section
variable (A2 : IVec S8192x1 32)

theorem flat_at (t : Fin 8192) : shapeCast S8192 A2 shapeCasts_S8192x1_S8192 (ix1 t) = BitVec.ofNat 32 (expertAt A2 t.val) := by
  rw [Routing.cast21 (a := 8192) (b := 1) A2 shapeCasts_S8192x1_S8192 t 0 t (by show t.val = t.val * 1 + 0; omega)]
  unfold expertAt
  refine BitVec.eq_of_toNat_eq ?_
  rw [BitVec.toNat_ofNat, Nat.mod_eq_of_lt (BitVec.isLt _)]
  exact congrArg (fun z => (A2 (ix2 z (0 : Fin 1))).toNat) (Fin.ext (Nat.mod_eq_of_lt t.isLt).symm)

/-- An earlier token of the same expert, as a bit. -/
theorem mask_at (X : IVec S8192 32) (x : ℕ → ℕ) (hx : ∀ t : Fin 8192, X (ix1 t) = BitVec.ofNat 32 (x t.val)) (hlt : ∀ n, x n < 64) (t q : Fin 8192) :
    (andi (cmpi .eq (broadcastInDim S8192x8192 ![0, 1] bcast_S8192x1_S8192x8192_0_1 (broadcastInDim S8192x1 ![0] bcast_S8192_S8192x1_0 X)) (broadcastInDim S8192x8192 ![0, 1] bcast_S1x8192_S8192x8192_0_1 (broadcastInDim S1x8192 ![1] bcast_S8192_S1x8192_1 X))) (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (ix2 t q) = 1#1 ↔ x q.val = x t.val ∧ q.val < t.val := by
  have a1 := Routing.bcRows bcast_S8192_S8192x1_0 bcast_S8192x1_S8192x8192_0_1 X t q
  have a2 := Routing.bcCols bcast_S8192_S1x8192_1 bcast_S1x8192_S8192x8192_0_1 X t q
  have a3 := Routing.bcRows bcast_S8192_S8192x1_0 bcast_S8192x1_S8192x8192_0_1 (iotaInDim S8192 32 0) t q
  have a4 := Routing.bcCols bcast_S8192_S1x8192_1 bcast_S1x8192_S8192x8192_0_1 (iotaInDim S8192 32 0) t q
  show IntOp.andi (IntOp.cmpi .eq (broadcastInDim S8192x8192 ![0, 1] bcast_S8192x1_S8192x8192_0_1 (broadcastInDim S8192x1 ![0] bcast_S8192_S8192x1_0 X) (ix2 t q)) (broadcastInDim S8192x8192 ![0, 1] bcast_S1x8192_S8192x8192_0_1 (broadcastInDim S1x8192 ![1] bcast_S8192_S1x8192_1 X) (ix2 t q)))
    (IntOp.cmpi .slt (broadcastInDim S8192x8192 ![0, 1] bcast_S1x8192_S8192x8192_0_1 (broadcastInDim S1x8192 ![1] bcast_S8192_S1x8192_1 (iotaInDim S8192 32 0)) (ix2 t q)) (broadcastInDim S8192x8192 ![0, 1] bcast_S8192x1_S8192x8192_0_1 (broadcastInDim S8192x1 ![0] bcast_S8192_S8192x1_0 (iotaInDim S8192 32 0)) (ix2 t q))) = 1#1 ↔ _
  rw [a1, a2, a3, a4, hx, hx]
  show BitVec.ofBool (BitVec.ofNat 32 (x t.val) == BitVec.ofNat 32 (x q.val)) &&& BitVec.ofBool ((BitVec.ofNat 32 q.val).slt (BitVec.ofNat 32 t.val)) = 1#1 ↔ _
  have ht := t.isLt
  have hq := q.isLt
  have h1 := hlt t.val
  have h2 := hlt q.val
  have e1 : (BitVec.ofNat 32 (x t.val) == BitVec.ofNat 32 (x q.val)) = decide (x q.val = x t.val) := by
    by_cases h : x q.val = x t.val
    · rw [h, decide_eq_true rfl, beq_self_eq_true]
    · rw [decide_eq_false h]
      refine beq_eq_false_iff_ne.2 fun e => h ?_
      have := congrArg BitVec.toNat e
      rw [BitVec.toNat_ofNat, BitVec.toNat_ofNat, Nat.mod_eq_of_lt (by omega), Nat.mod_eq_of_lt (by omega)] at this
      exact this.symm
  have e2 : (BitVec.ofNat 32 q.val).slt (BitVec.ofNat 32 t.val) = decide (q.val < t.val) := by
    rw [BitVec.slt, StableHlo.Predicate.toInt_ofNat_small q.val (by omega), StableHlo.Predicate.toInt_ofNat_small t.val (by omega)]
    exact decide_eq_decide.2 (by omega)
  rw [e1, e2]
  by_cases c1 : x q.val = x t.val
  · by_cases c2 : q.val < t.val
    · rw [decide_eq_true c1, decide_eq_true c2]; exact ⟨fun _ => ⟨c1, c2⟩, fun _ => by decide⟩
    · rw [decide_eq_true c1, decide_eq_false c2]; exact ⟨fun h => absurd h (by decide), fun h => absurd h.2 c2⟩
  · rw [decide_eq_false c1]
    refine ⟨fun h => ?_, fun h => absurd h.1 c1⟩
    rw [show BitVec.ofBool false = 0#1 from rfl, BitVec.zero_and] at h
    exact absurd h (by decide)

/-- Whether a token's rank is below 102, as a bit. -/
theorem keep_at (X : IVec S8192 32) (x : ℕ → ℕ) (hx : ∀ t : Fin 8192, X (ix1 t) = BitVec.ofNat 32 (x t.val)) (hlt : ∀ n, x n < 64) (t : Fin 8192) :
    cmpi .slt (Host.reduce IntOp.addi (extui 32 (andi (cmpi .eq (broadcastInDim S8192x8192 ![0, 1] bcast_S8192x1_S8192x8192_0_1 (broadcastInDim S8192x1 ![0] bcast_S8192_S8192x1_0 X)) (broadcastInDim S8192x8192 ![0, 1] bcast_S1x8192_S8192x8192_0_1 (broadcastInDim S1x8192 ![1] bcast_S8192_S1x8192_1 X))) (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) natLt_1_32) (constantI S_ 32 0#32) reducesTo_S8192x8192_S8192_d1 h_S_) (broadcastInDim S8192 ![] bcast_S_S8192 (constantI S_ 32 102#32)) (ix1 t)
      = if rankOf x t.val < 102 then 1#1 else 0#1 := by
  have ht := t.isLt
  have hc := StableHlo.Predicate.toNat_reduce_count_cols (n := 8192) (m := 8192) (by decide) (andi (cmpi .eq (broadcastInDim S8192x8192 ![0, 1] bcast_S8192x1_S8192x8192_0_1 (broadcastInDim S8192x1 ![0] bcast_S8192_S8192x1_0 X)) (broadcastInDim S8192x8192 ![0, 1] bcast_S1x8192_S8192x8192_0_1 (broadcastInDim S1x8192 ![1] bcast_S8192_S1x8192_1 X))) (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) natLt_1_32 reducesTo_S8192x8192_S8192_d1 h_S_ (ix1 t)
  have hr : (Finset.univ.filter (fun q : Fin 8192 => (andi (cmpi .eq (broadcastInDim S8192x8192 ![0, 1] bcast_S8192x1_S8192x8192_0_1 (broadcastInDim S8192x1 ![0] bcast_S8192_S8192x1_0 X)) (broadcastInDim S8192x8192 ![0, 1] bcast_S1x8192_S8192x8192_0_1 (broadcastInDim S1x8192 ![1] bcast_S8192_S1x8192_1 X))) (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (StableHlo.Predicate.ij ((ix1 t) 0) q) = 1#1)).card = rankOf x t.val := by
    refine (congrArg Finset.card (Finset.filter_congr (q := fun q : Fin 8192 => (fun i => x i = x t.val ∧ i < t.val) q.val) fun q _ => ?_)).trans ?_
    · rw [Routing.ij_eq_ix2]; exact mask_at X x hx hlt t q
    · rw [Routing.card_filter_fin 8192 (fun i => x i = x t.val ∧ i < t.val), count_below (fun i => x i = x t.val) t.val 8192 (by omega)]; rfl
  rw [hr] at hc
  show IntOp.cmpi .slt (Host.reduce IntOp.addi (extui 32 (andi (cmpi .eq (broadcastInDim S8192x8192 ![0, 1] bcast_S8192x1_S8192x8192_0_1 (broadcastInDim S8192x1 ![0] bcast_S8192_S8192x1_0 X)) (broadcastInDim S8192x8192 ![0, 1] bcast_S1x8192_S8192x8192_0_1 (broadcastInDim S1x8192 ![1] bcast_S8192_S1x8192_1 X))) (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) natLt_1_32) (constantI S_ 32 0#32) reducesTo_S8192x8192_S8192_d1 h_S_ (ix1 t)) (broadcastInDim S8192 ![] bcast_S_S8192 (constantI S_ 32 102#32) (ix1 t)) = _
  rw [Routing.bc0]
  have hle : rankOf x t.val ≤ t.val := before_le x _ _
  have hw : Host.reduce IntOp.addi (extui 32 (andi (cmpi .eq (broadcastInDim S8192x8192 ![0, 1] bcast_S8192x1_S8192x8192_0_1 (broadcastInDim S8192x1 ![0] bcast_S8192_S8192x1_0 X)) (broadcastInDim S8192x8192 ![0, 1] bcast_S1x8192_S8192x8192_0_1 (broadcastInDim S1x8192 ![1] bcast_S8192_S1x8192_1 X))) (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) natLt_1_32) (constantI S_ 32 0#32) reducesTo_S8192x8192_S8192_d1 h_S_ (ix1 t) = BitVec.ofNat 32 (rankOf x t.val) := by
    refine BitVec.eq_of_toNat_eq ?_
    rw [hc, BitVec.toNat_ofNat, Nat.mod_eq_of_lt (by omega)]
  rw [hw]
  show BitVec.ofBool ((BitVec.ofNat 32 (rankOf x t.val)).slt (BitVec.ofNat 32 102)) = _
  have e2 : (BitVec.ofNat 32 (rankOf x t.val)).slt (BitVec.ofNat 32 102) = decide (rankOf x t.val < 102) := by
    rw [BitVec.slt, StableHlo.Predicate.toInt_ofNat_small _ (by omega), StableHlo.Predicate.toInt_ofNat_small 102 (by omega)]
    exact decide_eq_decide.2 (by omega)
  rw [e2]
  by_cases c : rankOf x t.val < 102
  · rw [decide_eq_true c, if_pos c]; rfl
  · rw [decide_eq_false c, if_neg c]; rfl

/-- The index of the gathered matrix is the expert's number. -/
theorem start_at (X : IVec S8192 32) (x : ℕ → ℕ) (hx : ∀ t : Fin 8192, X (ix1 t) = BitVec.ofNat 32 (x t.val)) (hlt : ∀ n, x n < 64) (t : Fin 8192) :
    broadcastInDim S8192x1 ![0] bcast_S8192_S8192x1_0 (select (cmpi .slt X (broadcastInDim S8192 ![] bcast_S_S8192 (constantI S_ 32 0#32)))
      (addi X (broadcastInDim S8192 ![] bcast_S_S8192 (constantI S_ 32 64#32))) X) (ix2 t (0 : Fin 1)) = BitVec.ofNat 32 (x t.val) := by
  rw [Routing.bcCol bcast_S8192_S8192x1_0]
  show (if IntOp.cmpi .slt (X (ix1 t)) (broadcastInDim S8192 ![] bcast_S_S8192 (constantI S_ 32 0#32) (ix1 t)) = 1 then _ else X (ix1 t)) = _
  rw [Routing.bc0, hx]
  have h : (BitVec.ofNat 32 (x t.val)).slt (BitVec.ofNat 32 0) = false := by
    have := hlt t.val
    rw [BitVec.slt, StableHlo.Predicate.toInt_ofNat_small _ (by omega), StableHlo.Predicate.toInt_ofNat_small 0 (by omega)]
    exact decide_eq_false (by omega)
  refine if_neg ?_
  show ¬ BitVec.ofBool ((BitVec.ofNat 32 (x t.val)).slt (BitVec.ofNat 32 0)) = 1
  rw [h]; decide

/-- The gather of one matrix per token. -/
theorem gather_at (A : S64x128x256.Idx → EReal) (idx : IVec S8192x1 32) (t : Fin 8192) (b : Fin 64) (hb : idx (ix2 t (0 : Fin 1)) = BitVec.ofNat 32 b.val) (d : Fin 128) (q : Fin 256) :
    Host.gather gather_S64x128x256_S8192x1_S8192x128x256_12_0_n_n_0_1_1128256 A idx (ix3 t d q) = A (ix3 b d q) := by
  unfold Host.gather
  refine congrArg A (funext fun a => Fin.ext ?_)
  have hbl := b.isLt
  match a with
  | ⟨0, _⟩ =>
    show min (idx (GatherDims.siIdx gather_S64x128x256_S8192x1_S8192x128x256_12_0_n_n_0_1_1128256 (ix3 t d q) ⟨0, by decide⟩)).toInt.toNat 63 + 0 + 0 = b.val
    have hs : GatherDims.siIdx gather_S64x128x256_S8192x1_S8192x128x256_12_0_n_n_0_1_1128256 (ix3 t d q) ⟨0, by decide⟩ = ix2 t (0 : Fin 1) := by
      funext c
      refine Fin.ext ?_
      match c with
      | ⟨0, _⟩ => rfl
      | ⟨1, _⟩ => rfl
    rw [hs, hb, StableHlo.Predicate.toInt_ofNat_small _ (by omega)]
    show min b.val 63 + 0 + 0 = b.val
    omega
  | ⟨1, _⟩ => show 0 + 0 + d.val = d.val; omega
  | ⟨2, _⟩ => show 0 + 0 + q.val = q.val; omega

/-- The batched product: each token with its own matrix. -/
theorem dot_at (A : FVec Ideal S8192x128 .f32) (B : FVec Ideal S8192x128x256 .f32) (t : Fin 8192) (q : Fin 256) :
    Host.dotGeneral dot_S8192x128_S8192x128x256_S8192x256_1_1_n_2_0_0 none A B (ix2 t q) = ∑ d : Fin 128, (A (ix2 t d) * B (ix3 t d q) : EReal) := by
  refine (Ideal.dotGeneral_apply _ none _ A B (ix2 t q)).trans ?_
  rw [← Equiv.sum_comp (contrEquiv1 dot_S8192x128_S8192x128x256_S8192x256_1_1_n_2_0_0 128 rfl rfl).symm]
  refine Finset.sum_congr rfl fun d _ => ?_
  have hk := contrEquiv1_symm_val dot_S8192x128_S8192x128x256_S8192x256_1_1_n_2_0_0 128 rfl rfl d
  congr 2
  · funext a
    refine Fin.ext ?_
    match a with
    | ⟨0, _⟩ => rfl
    | ⟨1, _⟩ => exact hk
  · funext a
    refine Fin.ext ?_
    match a with
    | ⟨0, _⟩ => rfl
    | ⟨1, _⟩ => exact hk
    | ⟨2, _⟩ => rfl

/-- The reference's result, entry by entry. -/
theorem value_at (A0 : FVec Ideal S8192x128 .bf16) (A3 : FVec Ideal S64x128x256 .bf16) (hlt : ∀ n, expertAt A2 n < 64) (t : Fin 8192) (q : Fin 256) :
    (select (broadcastInDim S8192x256 ![0, 1] bcast_S8192x1_S8192x256_0_1 (broadcastInDim S8192x1 ![0] bcast_S8192_S8192x1_0 (cmpi .slt (Host.reduce IntOp.addi (extui 32 (andi (cmpi .eq (broadcastInDim S8192x8192 ![0, 1] bcast_S8192x1_S8192x8192_0_1 (broadcastInDim S8192x1 ![0] bcast_S8192_S8192x1_0 (shapeCast _ A2 shapeCasts_S8192x1_S8192))) (broadcastInDim S8192x8192 ![0, 1] bcast_S1x8192_S8192x8192_0_1 (broadcastInDim S1x8192 ![1] bcast_S8192_S1x8192_1 (shapeCast _ A2 shapeCasts_S8192x1_S8192)))) (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) natLt_1_32) (constantI S_ 32 0#32) reducesTo_S8192x8192_S8192_d1 h_S_) (broadcastInDim S8192 ![] bcast_S_S8192 (constantI S_ 32 102#32))))) (Host.dotGeneral dot_S8192x128_S8192x128x256_S8192x256_1_1_n_2_0_0 none (extf .f32 A0 bitsLt_bf16_f32) (Host.gather gather_S64x128x256_S8192x1_S8192x128x256_12_0_n_n_0_1_1128256 (extf .f32 A3 bitsLt_bf16_f32) (broadcastInDim S8192x1 ![0] bcast_S8192_S8192x1_0 (select (cmpi .slt (shapeCast _ A2 shapeCasts_S8192x1_S8192) (broadcastInDim S8192 ![] bcast_S_S8192 (constantI S_ 32 0#32))) (addi (shapeCast _ A2 shapeCasts_S8192x1_S8192) (broadcastInDim S8192 ![] bcast_S_S8192 (constantI S_ 32 64#32))) (shapeCast _ A2 shapeCasts_S8192x1_S8192))))) (broadcastInDim S8192x256 ![] bcast_S_S8192x256 (id (constant S_ .f32 0x00000000#32))) : FVec Ideal S8192x256 .f32) (ix2 t q)
      = if rankOf (expertAt A2) t.val < 102 then ∑ d : Fin 128, (A0 (ix2 t d) * A3 (ix3 (⟨expertAt A2 t.val, hlt _⟩ : Fin 64) d q) : EReal) else (0 : EReal) := by
  have hk := keep_at (shapeCast S8192 A2 shapeCasts_S8192x1_S8192) (expertAt A2) (flat_at A2) hlt t
  have hs := start_at (shapeCast S8192 A2 shapeCasts_S8192x1_S8192) (expertAt A2) (flat_at A2) hlt t
  have hd := dot_at (extf .f32 A0 bitsLt_bf16_f32) (Host.gather gather_S64x128x256_S8192x1_S8192x128x256_12_0_n_n_0_1_1128256 (extf .f32 A3 bitsLt_bf16_f32) (broadcastInDim S8192x1 ![0] bcast_S8192_S8192x1_0 (select (cmpi .slt (shapeCast S8192 A2 shapeCasts_S8192x1_S8192) (broadcastInDim S8192 ![] bcast_S_S8192 (constantI S_ 32 0#32)))
      (addi (shapeCast S8192 A2 shapeCasts_S8192x1_S8192) (broadcastInDim S8192 ![] bcast_S_S8192 (constantI S_ 32 64#32))) (shapeCast S8192 A2 shapeCasts_S8192x1_S8192)))) t q
  refine (open_select _ _ _ _).trans ?_
  rw [Routing.bcRows bcast_S8192_S8192x1_0 bcast_S8192x1_S8192x256_0_1, Routing.bc0, hk, hd]
  by_cases c : rankOf (expertAt A2) t.val < 102
  · rw [if_pos c, if_pos c]
    refine (if_pos (show (1#1 : BitVec 1) = 1 from rfl)).trans ?_
    refine Finset.sum_congr rfl fun d _ => ?_
    rw [gather_at _ _ t ⟨expertAt A2 t.val, hlt _⟩ hs d q]
    rfl
  · rw [if_neg c, if_neg c]
    refine (if_neg (show ¬ (0#1 : BitVec 1) = 1 by decide)).trans ?_
    exact Ideal.ofBits_zero_f32
end

end Cert.MoE.Ref

end
-- ==== Proof.ValueC.lean ====
/-
  The kernel's result over the reals is the reference's, block by block.
-/
module

public import proofs.«01_k».proof.Defs
public import proofs.«01_k».proof.Proof.ValueB
public import proofs.«01_k».proof.Proof.ValueR
public import proofs.«01_k».proof.Proof.Gen.Pre_in_range_Kernel
public import Idealize.ShloMosaic.Lib.Layout

@[expose] public section

set_option maxRecDepth 20000

noncomputable section

namespace Cert.MoE

open Cert.KernelIdeal Cert.KernelIdeal.Gen

open Idealize.ShloMosaic
open Idealize.ShloMosaic.TcCoe
open Idealize.SL.Sem

open Idealize.ShloMosaic.ValueIdx (ix1 ix2 ix3)

/-! ## Blocks, entry by entry -/

/-- The token of device `c`'s row `i`, among all. -/
abbrev tokAt (c : Dev nD) (i : Fin 256) : Fin 8192 := ⟨num c i, num_lt c i⟩

theorem block_rows {α : Type} {n : ℕ} (c : Dev nD) (v : (⟨2, ![8192, n]⟩ : Shape).Idx → α) (h : Layout.Tiles (⟨2, ![256, n]⟩ : Shape) ⟨2, ![8192, n]⟩ 0 32) (i : Fin 256) (d : Fin n) :
    Layout.block ⟨2, ![256, n]⟩ ⟨2, ![8192, n]⟩ 0 32 c v h (ix2 i d) = v (ix2 (tokAt c i) d) := by
  refine congrArg v (funext fun a => Fin.ext ?_)
  match a with
  | ⟨0, _⟩ => show c.val * 256 + i.val = 256 * c.val + i.val; omega
  | ⟨1, _⟩ => rfl

theorem block_pairs {α : Type} (c : Dev nD) (v : (⟨3, ![64, 128, 256]⟩ : Shape).Idx → α) (h : Layout.Tiles (⟨3, ![2, 128, 256]⟩ : Shape) ⟨3, ![64, 128, 256]⟩ 0 32)
    (k : Fin 2) (d : Fin 128) (q : Fin 256) (e : Fin 64) (he : e.val = 2 * c.val + k.val) :
    Layout.block ⟨3, ![2, 128, 256]⟩ ⟨3, ![64, 128, 256]⟩ 0 32 c v h (ix3 k d q) = v (ix3 e d q) := by
  refine congrArg v (funext fun a => Fin.ext ?_)
  match a with
  | ⟨0, _⟩ => show c.val * 2 + k.val = e.val; omega
  | ⟨1, _⟩ => rfl
  | ⟨2, _⟩ => rfl

variable (m : (ℓ : Loc nD τ sig) → Buf (Elt Ideal) ℓ)

theorem tokens_at (c : Dev nD) (i : Fin 256) (d : Fin 128) :
    (show EReal from tokensOf m c (ix3 i 0 d)) = (show EReal from m ((c : Thread nD τ).loc main_arg0) (ix2 i d)) := by
  unfold tokensOf
  refine (congrFun (o0_v1 (V0 m c) c) (ix3 i 0 d)).trans ?_
  refine shapeCast_apply _ _ _ (ix2 i d) ?_
  rw [Shape.rowMajor_val_two, Shape.rowMajor_val_three]
  show i.val * 128 + d.val = (i.val * 1 + 0) * 128 + d.val
  omega

section
variable (A0 : (⟨2, ![8192, 128]⟩ : Shape).Idx → EReal) (A2 : IVec ⟨2, ![8192, 1]⟩ 32) (A3 : (⟨3, ![64, 128, 256]⟩ : Shape).Idx → EReal)
  (h0 : ∀ c : Dev nD, m ((c : Thread nD τ).loc main_arg0) = Layout.block ⟨2, ![256, 128]⟩ ⟨2, ![8192, 128]⟩ 0 32 c A0)
  (h2 : ∀ c : Dev nD, m ((c : Thread nD τ).loc main_arg2) = Layout.block ⟨2, ![256, 1]⟩ ⟨2, ![8192, 1]⟩ 0 32 c A2)
  (h3 : ∀ c : Dev nD, m ((c : Thread nD τ).loc main_arg3) = Layout.block ⟨3, ![2, 128, 256]⟩ ⟨3, ![64, 128, 256]⟩ 0 32 c A3)

include h2 in
theorem same_experts : expertNo (routeOf m) = Ref.expertAt A2 := by
  funext n
  unfold expertNo Ref.expertAt
  rw [route_at]
  refine congrArg BitVec.toNat ((congrFun (h2 _) (ix2 _ (0 : Fin 1))).trans ((block_rows _ A2 _ _ _).trans (congrArg A2 ?_)))
  refine congrArg (fun z => ix2 z (0 : Fin 1)) (Fin.ext ?_)
  show 256 * (n / 256 % 32) + n % 256 = n % 8192
  omega

include h0 h2 h3 in
/-- What a device ends with is what the whole result has at its rows. -/
theorem result_at (hlt : ∀ n, expertNo (routeOf m) n < 64) (hlt' : ∀ n, Ref.expertAt A2 n < 64) (c : Dev nD) (i q : Fin 256) :
    (show EReal from finVal (routeOf m) hlt (tokensOf m) (weightsOf m) c (ix3 i 0 q))
      = if rankOf (Ref.expertAt A2) (tokAt c i).val < 102 then ∑ d : Fin 128, (A0 (ix2 (tokAt c i) d) * A3 (ix3 (⟨Ref.expertAt A2 (tokAt c i).val, hlt' _⟩ : Fin 64) d q) : EReal) else (0 : EReal) := by
  have hx := same_experts m A2 h2
  show (if rankOf (expertNo (routeOf m)) (num c i) < 102 then rowVal (routeOf m) hlt (tokensOf m) (weightsOf m) c i q else (0 : EReal)) = _
  rw [hx]
  refine congrArg (fun z => if rankOf (Ref.expertAt A2) (num c i) < 102 then z else (0 : EReal)) ?_
  unfold rowVal
  refine Finset.sum_congr rfl fun d _ => ?_
  refine congrArg₂ (fun a b : EReal => a * b) ?_ ?_
  · exact (tokens_at m c i d).trans ((congrFun (h0 c) (ix2 i d)).trans (block_rows c A0 _ i d))
  · refine (congrFun (h3 _) (ix3 _ d q)).trans (block_pairs _ A3 _ _ d q _ ?_)
    show Ref.expertAt A2 (num c i) = 2 * (expertNo (routeOf m) (num c i) / 2) + expertNo (routeOf m) (num c i) % 2
    rw [hx]
    omega

end

/-- The equation between the two. -/
theorem equation : Cert.algebraic_KernelIdeal_ReferenceIdeal := by
  intro m g m' g' hp hblk
  have hlt := range_of m hp
  have h0 := fun c => (hblk c).1
  have h2 := fun c => (hblk c).2.2.1
  have h3 := fun c => (hblk c).2.2.2
  have hx := same_experts m (m' (((0 : Dev Cert.ReferenceIdeal.nD).tc : Thread Cert.ReferenceIdeal.nD Cert.ReferenceIdeal.τ).loc Cert.ReferenceIdeal.main_arg2)) h2
  have hlt' : ∀ n, Ref.expertAt (m' (((0 : Dev Cert.ReferenceIdeal.nD).tc : Thread Cert.ReferenceIdeal.nD Cert.ReferenceIdeal.τ).loc Cert.ReferenceIdeal.main_arg2)) n < 64 := fun n => hx ▸ hlt n
  refine Exists.intro _ (And.intro ?_ ((θ_run _ _ _).mono (fun r h => h 0) (Cert.ReferenceIdeal.Value.run (F := Ideal) m' g')))
  refine (θ_run _ _ _).mono (fun r h c => ⟨?_, (h c).2⟩) (run_exact m hlt g)
  funext j
  have hj : j = ix2 (j 0) (j 1) := by
    funext a
    match a with
    | ⟨0, _⟩ => rfl
    | ⟨1, _⟩ => rfl
  rw [hj]
  refine ((h c).1 (j 0) (j 1)).trans ?_
  refine (result_at m _ _ _ h0 h2 h3 hlt hlt' c (j 0) (j 1)).trans ?_
  refine Eq.trans ?_ (block_rows c _ _ (j 0) (j 1)).symm
  exact (Ref.value_at _ _ _ hlt' (tokAt c (j 0)) (j 1)).symm

end Cert.MoE

end
-- ==== Proof.lean ====
/-
  The certificate: the frames of the kernel over the machine's floats and over the reals from one run over any floats, the
  reference's run, and the equation between the two.
-/
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range_Kernel
public import proofs.«01_k».proof.Proof.Gen.Pre_in_range_ReferenceIdeal
public import proofs.«01_k».proof.Proof.HostE
public import proofs.«01_k».proof.Proof.SameD
public import proofs.«01_k».proof.Proof.ValueC

@[expose] public section

noncomputable section

namespace Cert.Proof

open Idealize.ShloMosaic Idealize.SL.Sem

/-- The kernel over the machine's floats runs and leaves its arguments: it is the other printing's program, and that one's run asks
    nothing of the floats. -/
theorem frame_kernel : Cert.quiescent_Kernel := fun m ρ hp => Cert.MoE.run_same (Cert.MoE.run_loose (F := Bits) m (Cert.MoE.range_of m hp) ρ)

/-- The kernel over the reals does. -/
theorem frame_ideal : Cert.quiescent_KernelIdeal := fun m ρ hp => Cert.MoE.run_loose (F := Ideal) m (Cert.MoE.range_of m hp) ρ

/-- The reference runs and leaves its arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_in_range_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Pre_in_range_Kernel.Gen.facts, Cert.Pre_in_range_ReferenceIdeal.Gen.facts,
  frame_kernel, frame_ideal, frame_reference, frame_reference_pre, trivial, Cert.MoE.equation⟩

end Cert.Proof

end
